-- ==== Defs.lean ====
def Pre_PoolBwd (m : (ℓ : Loc Cert.PoolBwd.nD Cert.PoolBwd.τ Cert.PoolBwd.sig) → Buf (Elt Bits) ℓ) : Prop :=
  True

def Pre_PoolBwdIdeal (m : (ℓ : Loc Cert.PoolBwdIdeal.nD Cert.PoolBwdIdeal.τ Cert.PoolBwdIdeal.sig) → Buf (Elt Ideal) ℓ) : Prop :=
  True

def Pre_PoolBwdIdeal_pool_bwd_finite [hPre_pool_bwd_finite : Cert.Pre_pool_bwd_finite.Facts] (m : (ℓ : Loc Cert.PoolBwdIdeal.nD Cert.PoolBwdIdeal.τ Cert.PoolBwdIdeal.sig) → Buf (Elt Ideal) ℓ) : Prop :=
  ∀ c : Dev Cert.PoolBwdIdeal.nD,
    (Cert.Pre_pool_bwd_finite.fn (F := Ideal) (m ((c.tc : Thread Cert.PoolBwdIdeal.nD Cert.PoolBwdIdeal.τ).loc Cert.PoolBwdIdeal.main_arg0))) = (fun _ => 1#1)

def Pre_PoolBwdRefIdeal (m : (ℓ : Loc Cert.PoolBwdRefIdeal.nD Cert.PoolBwdRefIdeal.τ Cert.PoolBwdRefIdeal.sig) → Buf (Elt Ideal) ℓ) : Prop :=
  True

def Pre_PoolBwdRefIdeal_pool_bwd_finite [hPre_pool_bwd_finite : Cert.Pre_pool_bwd_finite.Facts] (m : (ℓ : Loc Cert.PoolBwdRefIdeal.nD Cert.PoolBwdRefIdeal.τ Cert.PoolBwdRefIdeal.sig) → Buf (Elt Ideal) ℓ) : Prop :=
  ∀ c : Dev Cert.PoolBwdRefIdeal.nD,
    (Cert.Pre_pool_bwd_finite.fn (F := Ideal) (m ((c.tc : Thread Cert.PoolBwdRefIdeal.nD Cert.PoolBwdRefIdeal.τ).loc Cert.PoolBwdRefIdeal.main_arg0))) = (fun _ => 1#1)

def Pre_StickBwd (m : (ℓ : Loc Cert.StickBwd.nD Cert.StickBwd.τ Cert.StickBwd.sig) → Buf (Elt Bits) ℓ) : Prop :=
  True

def Pre_StickBwdIdeal (m : (ℓ : Loc Cert.StickBwdIdeal.nD Cert.StickBwdIdeal.τ Cert.StickBwdIdeal.sig) → Buf (Elt Ideal) ℓ) : Prop :=
  True

def Pre_StickBwdIdeal_stick_bwd_finite [hPre_stick_bwd_finite : Cert.Pre_stick_bwd_finite.Facts] (m : (ℓ : Loc Cert.StickBwdIdeal.nD Cert.StickBwdIdeal.τ Cert.StickBwdIdeal.sig) → Buf (Elt Ideal) ℓ) : Prop :=
  ∀ c : Dev Cert.StickBwdIdeal.nD,
    (Cert.Pre_stick_bwd_finite.fn (F := Ideal) (m ((c.tc : Thread Cert.StickBwdIdeal.nD Cert.StickBwdIdeal.τ).loc Cert.StickBwdIdeal.main_arg0)) (m ((c.tc : Thread Cert.StickBwdIdeal.nD Cert.StickBwdIdeal.τ).loc Cert.StickBwdIdeal.main_arg1)) (m ((c.tc : Thread Cert.StickBwdIdeal.nD Cert.StickBwdIdeal.τ).loc Cert.StickBwdIdeal.main_arg2))).1 = (fun _ => 1#1)
    ∧ (Cert.Pre_stick_bwd_finite.fn (F := Ideal) (m ((c.tc : Thread Cert.StickBwdIdeal.nD Cert.StickBwdIdeal.τ).loc Cert.StickBwdIdeal.main_arg0)) (m ((c.tc : Thread Cert.StickBwdIdeal.nD Cert.StickBwdIdeal.τ).loc Cert.StickBwdIdeal.main_arg1)) (m ((c.tc : Thread Cert.StickBwdIdeal.nD Cert.StickBwdIdeal.τ).loc Cert.StickBwdIdeal.main_arg2))).2.1 = (fun _ => 1#1)
    ∧ (Cert.Pre_stick_bwd_finite.fn (F := Ideal) (m ((c.tc : Thread Cert.StickBwdIdeal.nD Cert.StickBwdIdeal.τ).loc Cert.StickBwdIdeal.main_arg0)) (m ((c.tc : Thread Cert.StickBwdIdeal.nD Cert.StickBwdIdeal.τ).loc Cert.StickBwdIdeal.main_arg1)) (m ((c.tc : Thread Cert.StickBwdIdeal.nD Cert.StickBwdIdeal.τ).loc Cert.StickBwdIdeal.main_arg2))).2.2 = (fun _ => 1#1)

def Pre_StickBwdRefIdeal (m : (ℓ : Loc Cert.StickBwdRefIdeal.nD Cert.StickBwdRefIdeal.τ Cert.StickBwdRefIdeal.sig) → Buf (Elt Ideal) ℓ) : Prop :=
  True

def Pre_StickBwdRefIdeal_stick_bwd_finite [hPre_stick_bwd_finite : Cert.Pre_stick_bwd_finite.Facts] (m : (ℓ : Loc Cert.StickBwdRefIdeal.nD Cert.StickBwdRefIdeal.τ Cert.StickBwdRefIdeal.sig) → Buf (Elt Ideal) ℓ) : Prop :=
  ∀ c : Dev Cert.StickBwdRefIdeal.nD,
    (Cert.Pre_stick_bwd_finite.fn (F := Ideal) (m ((c.tc : Thread Cert.StickBwdRefIdeal.nD Cert.StickBwdRefIdeal.τ).loc Cert.StickBwdRefIdeal.main_arg0)) (m ((c.tc : Thread Cert.StickBwdRefIdeal.nD Cert.StickBwdRefIdeal.τ).loc Cert.StickBwdRefIdeal.main_arg1)) (m ((c.tc : Thread Cert.StickBwdRefIdeal.nD Cert.StickBwdRefIdeal.τ).loc Cert.StickBwdRefIdeal.main_arg2))).1 = (fun _ => 1#1)
    ∧ (Cert.Pre_stick_bwd_finite.fn (F := Ideal) (m ((c.tc : Thread Cert.StickBwdRefIdeal.nD Cert.StickBwdRefIdeal.τ).loc Cert.StickBwdRefIdeal.main_arg0)) (m ((c.tc : Thread Cert.StickBwdRefIdeal.nD Cert.StickBwdRefIdeal.τ).loc Cert.StickBwdRefIdeal.main_arg1)) (m ((c.tc : Thread Cert.StickBwdRefIdeal.nD Cert.StickBwdRefIdeal.τ).loc Cert.StickBwdRefIdeal.main_arg2))).2.1 = (fun _ => 1#1)
    ∧ (Cert.Pre_stick_bwd_finite.fn (F := Ideal) (m ((c.tc : Thread Cert.StickBwdRefIdeal.nD Cert.StickBwdRefIdeal.τ).loc Cert.StickBwdRefIdeal.main_arg0)) (m ((c.tc : Thread Cert.StickBwdRefIdeal.nD Cert.StickBwdRefIdeal.τ).loc Cert.StickBwdRefIdeal.main_arg1)) (m ((c.tc : Thread Cert.StickBwdRefIdeal.nD Cert.StickBwdRefIdeal.τ).loc Cert.StickBwdRefIdeal.main_arg2))).2.2 = (fun _ => 1#1)

def Pre_ScaleBwd (m : (ℓ : Loc Cert.ScaleBwd.nD Cert.ScaleBwd.τ Cert.ScaleBwd.sig) → Buf (Elt Bits) ℓ) : Prop :=
  True

def Pre_ScaleBwdIdeal (m : (ℓ : Loc Cert.ScaleBwdIdeal.nD Cert.ScaleBwdIdeal.τ Cert.ScaleBwdIdeal.sig) → Buf (Elt Ideal) ℓ) : Prop :=
  True

def Pre_ScaleBwdRefIdeal (m : (ℓ : Loc Cert.ScaleBwdRefIdeal.nD Cert.ScaleBwdRefIdeal.τ Cert.ScaleBwdRefIdeal.sig) → Buf (Elt Ideal) ℓ) : Prop :=
  True

def Pre_SwigluBwd (m : (ℓ : Loc Cert.SwigluBwd.nD Cert.SwigluBwd.τ Cert.SwigluBwd.sig) → Buf (Elt Bits) ℓ) : Prop :=
  True

def Pre_SwigluBwdIdeal (m : (ℓ : Loc Cert.SwigluBwdIdeal.nD Cert.SwigluBwdIdeal.τ Cert.SwigluBwdIdeal.sig) → Buf (Elt Ideal) ℓ) : Prop :=
  True

def Pre_SwigluBwdIdeal_swiglu_bwd_finite [hPre_swiglu_bwd_finite : Cert.Pre_swiglu_bwd_finite.Facts] (m : (ℓ : Loc Cert.SwigluBwdIdeal.nD Cert.SwigluBwdIdeal.τ Cert.SwigluBwdIdeal.sig) → Buf (Elt Ideal) ℓ) : Prop :=
  ∀ c : Dev Cert.SwigluBwdIdeal.nD,
    (Cert.Pre_swiglu_bwd_finite.fn (F := Ideal) (m ((c.tc : Thread Cert.SwigluBwdIdeal.nD Cert.SwigluBwdIdeal.τ).loc Cert.SwigluBwdIdeal.main_arg0)) (m ((c.tc : Thread Cert.SwigluBwdIdeal.nD Cert.SwigluBwdIdeal.τ).loc Cert.SwigluBwdIdeal.main_arg1)) (m ((c.tc : Thread Cert.SwigluBwdIdeal.nD Cert.SwigluBwdIdeal.τ).loc Cert.SwigluBwdIdeal.main_arg2)) (m ((c.tc : Thread Cert.SwigluBwdIdeal.nD Cert.SwigluBwdIdeal.τ).loc Cert.SwigluBwdIdeal.main_arg3))).1 = (fun _ => 1#1)
    ∧ (Cert.Pre_swiglu_bwd_finite.fn (F := Ideal) (m ((c.tc : Thread Cert.SwigluBwdIdeal.nD Cert.SwigluBwdIdeal.τ).loc Cert.SwigluBwdIdeal.main_arg0)) (m ((c.tc : Thread Cert.SwigluBwdIdeal.nD Cert.SwigluBwdIdeal.τ).loc Cert.SwigluBwdIdeal.main_arg1)) (m ((c.tc : Thread Cert.SwigluBwdIdeal.nD Cert.SwigluBwdIdeal.τ).loc Cert.SwigluBwdIdeal.main_arg2)) (m ((c.tc : Thread Cert.SwigluBwdIdeal.nD Cert.SwigluBwdIdeal.τ).loc Cert.SwigluBwdIdeal.main_arg3))).2.1 = (fun _ => 1#1)
    ∧ (Cert.Pre_swiglu_bwd_finite.fn (F := Ideal) (m ((c.tc : Thread Cert.SwigluBwdIdeal.nD Cert.SwigluBwdIdeal.τ).loc Cert.SwigluBwdIdeal.main_arg0)) (m ((c.tc : Thread Cert.SwigluBwdIdeal.nD Cert.SwigluBwdIdeal.τ).loc Cert.SwigluBwdIdeal.main_arg1)) (m ((c.tc : Thread Cert.SwigluBwdIdeal.nD Cert.SwigluBwdIdeal.τ).loc Cert.SwigluBwdIdeal.main_arg2)) (m ((c.tc : Thread Cert.SwigluBwdIdeal.nD Cert.SwigluBwdIdeal.τ).loc Cert.SwigluBwdIdeal.main_arg3))).2.2.1 = (fun _ => 1#1)
    ∧ (Cert.Pre_swiglu_bwd_finite.fn (F := Ideal) (m ((c.tc : Thread Cert.SwigluBwdIdeal.nD Cert.SwigluBwdIdeal.τ).loc Cert.SwigluBwdIdeal.main_arg0)) (m ((c.tc : Thread Cert.SwigluBwdIdeal.nD Cert.SwigluBwdIdeal.τ).loc Cert.SwigluBwdIdeal.main_arg1)) (m ((c.tc : Thread Cert.SwigluBwdIdeal.nD Cert.SwigluBwdIdeal.τ).loc Cert.SwigluBwdIdeal.main_arg2)) (m ((c.tc : Thread Cert.SwigluBwdIdeal.nD Cert.SwigluBwdIdeal.τ).loc Cert.SwigluBwdIdeal.main_arg3))).2.2.2 = (fun _ => 1#1)

def Pre_SwigluBwdRefIdeal (m : (ℓ : Loc Cert.SwigluBwdRefIdeal.nD Cert.SwigluBwdRefIdeal.τ Cert.SwigluBwdRefIdeal.sig) → Buf (Elt Ideal) ℓ) : Prop :=
  True

def Pre_SwigluBwdRefIdeal_swiglu_bwd_finite [hPre_swiglu_bwd_finite : Cert.Pre_swiglu_bwd_finite.Facts] (m : (ℓ : Loc Cert.SwigluBwdRefIdeal.nD Cert.SwigluBwdRefIdeal.τ Cert.SwigluBwdRefIdeal.sig) → Buf (Elt Ideal) ℓ) : Prop :=
  ∀ c : Dev Cert.SwigluBwdRefIdeal.nD,
    (Cert.Pre_swiglu_bwd_finite.fn (F := Ideal) (m ((c.tc : Thread Cert.SwigluBwdRefIdeal.nD Cert.SwigluBwdRefIdeal.τ).loc Cert.SwigluBwdRefIdeal.main_arg0)) (m ((c.tc : Thread Cert.SwigluBwdRefIdeal.nD Cert.SwigluBwdRefIdeal.τ).loc Cert.SwigluBwdRefIdeal.main_arg1)) (m ((c.tc : Thread Cert.SwigluBwdRefIdeal.nD Cert.SwigluBwdRefIdeal.τ).loc Cert.SwigluBwdRefIdeal.main_arg2)) (m ((c.tc : Thread Cert.SwigluBwdRefIdeal.nD Cert.SwigluBwdRefIdeal.τ).loc Cert.SwigluBwdRefIdeal.main_arg3))).1 = (fun _ => 1#1)
    ∧ (Cert.Pre_swiglu_bwd_finite.fn (F := Ideal) (m ((c.tc : Thread Cert.SwigluBwdRefIdeal.nD Cert.SwigluBwdRefIdeal.τ).loc Cert.SwigluBwdRefIdeal.main_arg0)) (m ((c.tc : Thread Cert.SwigluBwdRefIdeal.nD Cert.SwigluBwdRefIdeal.τ).loc Cert.SwigluBwdRefIdeal.main_arg1)) (m ((c.tc : Thread Cert.SwigluBwdRefIdeal.nD Cert.SwigluBwdRefIdeal.τ).loc Cert.SwigluBwdRefIdeal.main_arg2)) (m ((c.tc : Thread Cert.SwigluBwdRefIdeal.nD Cert.SwigluBwdRefIdeal.τ).loc Cert.SwigluBwdRefIdeal.main_arg3))).2.1 = (fun _ => 1#1)
    ∧ (Cert.Pre_swiglu_bwd_finite.fn (F := Ideal) (m ((c.tc : Thread Cert.SwigluBwdRefIdeal.nD Cert.SwigluBwdRefIdeal.τ).loc Cert.SwigluBwdRefIdeal.main_arg0)) (m ((c.tc : Thread Cert.SwigluBwdRefIdeal.nD Cert.SwigluBwdRefIdeal.τ).loc Cert.SwigluBwdRefIdeal.main_arg1)) (m ((c.tc : Thread Cert.SwigluBwdRefIdeal.nD Cert.SwigluBwdRefIdeal.τ).loc Cert.SwigluBwdRefIdeal.main_arg2)) (m ((c.tc : Thread Cert.SwigluBwdRefIdeal.nD Cert.SwigluBwdRefIdeal.τ).loc Cert.SwigluBwdRefIdeal.main_arg3))).2.2.1 = (fun _ => 1#1)
    ∧ (Cert.Pre_swiglu_bwd_finite.fn (F := Ideal) (m ((c.tc : Thread Cert.SwigluBwdRefIdeal.nD Cert.SwigluBwdRefIdeal.τ).loc Cert.SwigluBwdRefIdeal.main_arg0)) (m ((c.tc : Thread Cert.SwigluBwdRefIdeal.nD Cert.SwigluBwdRefIdeal.τ).loc Cert.SwigluBwdRefIdeal.main_arg1)) (m ((c.tc : Thread Cert.SwigluBwdRefIdeal.nD Cert.SwigluBwdRefIdeal.τ).loc Cert.SwigluBwdRefIdeal.main_arg2)) (m ((c.tc : Thread Cert.SwigluBwdRefIdeal.nD Cert.SwigluBwdRefIdeal.τ).loc Cert.SwigluBwdRefIdeal.main_arg3))).2.2.2 = (fun _ => 1#1)

def Pre_MemNormBwd (m : (ℓ : Loc Cert.MemNormBwd.nD Cert.MemNormBwd.τ Cert.MemNormBwd.sig) → Buf (Elt Bits) ℓ) : Prop :=
  True

def Pre_MemNormBwdIdeal (m : (ℓ : Loc Cert.MemNormBwdIdeal.nD Cert.MemNormBwdIdeal.τ Cert.MemNormBwdIdeal.sig) → Buf (Elt Ideal) ℓ) : Prop :=
  True

def Pre_MemNormBwdIdeal_mem_norm_bwd_finite [hPre_mem_norm_bwd_finite : Cert.Pre_mem_norm_bwd_finite.Facts] (m : (ℓ : Loc Cert.MemNormBwdIdeal.nD Cert.MemNormBwdIdeal.τ Cert.MemNormBwdIdeal.sig) → Buf (Elt Ideal) ℓ) : Prop :=
  ∀ c : Dev Cert.MemNormBwdIdeal.nD,
    (Cert.Pre_mem_norm_bwd_finite.fn (F := Ideal) (m ((c.tc : Thread Cert.MemNormBwdIdeal.nD Cert.MemNormBwdIdeal.τ).loc Cert.MemNormBwdIdeal.main_arg0)) (m ((c.tc : Thread Cert.MemNormBwdIdeal.nD Cert.MemNormBwdIdeal.τ).loc Cert.MemNormBwdIdeal.main_arg1)) (m ((c.tc : Thread Cert.MemNormBwdIdeal.nD Cert.MemNormBwdIdeal.τ).loc Cert.MemNormBwdIdeal.main_arg2))).1 = (fun _ => 1#1)
    ∧ (Cert.Pre_mem_norm_bwd_finite.fn (F := Ideal) (m ((c.tc : Thread Cert.MemNormBwdIdeal.nD Cert.MemNormBwdIdeal.τ).loc Cert.MemNormBwdIdeal.main_arg0)) (m ((c.tc : Thread Cert.MemNormBwdIdeal.nD Cert.MemNormBwdIdeal.τ).loc Cert.MemNormBwdIdeal.main_arg1)) (m ((c.tc : Thread Cert.MemNormBwdIdeal.nD Cert.MemNormBwdIdeal.τ).loc Cert.MemNormBwdIdeal.main_arg2))).2 = (fun _ => 1#1)

def Pre_MemNormBwdRefIdeal (m : (ℓ : Loc Cert.MemNormBwdRefIdeal.nD Cert.MemNormBwdRefIdeal.τ Cert.MemNormBwdRefIdeal.sig) → Buf (Elt Ideal) ℓ) : Prop :=
  True

def Pre_MemNormBwdRefIdeal_mem_norm_bwd_finite [hPre_mem_norm_bwd_finite : Cert.Pre_mem_norm_bwd_finite.Facts] (m : (ℓ : Loc Cert.MemNormBwdRefIdeal.nD Cert.MemNormBwdRefIdeal.τ Cert.MemNormBwdRefIdeal.sig) → Buf (Elt Ideal) ℓ) : Prop :=
  ∀ c : Dev Cert.MemNormBwdRefIdeal.nD,
    (Cert.Pre_mem_norm_bwd_finite.fn (F := Ideal) (m ((c.tc : Thread Cert.MemNormBwdRefIdeal.nD Cert.MemNormBwdRefIdeal.τ).loc Cert.MemNormBwdRefIdeal.main_arg0)) (m ((c.tc : Thread Cert.MemNormBwdRefIdeal.nD Cert.MemNormBwdRefIdeal.τ).loc Cert.MemNormBwdRefIdeal.main_arg1)) (m ((c.tc : Thread Cert.MemNormBwdRefIdeal.nD Cert.MemNormBwdRefIdeal.τ).loc Cert.MemNormBwdRefIdeal.main_arg2))).1 = (fun _ => 1#1)
    ∧ (Cert.Pre_mem_norm_bwd_finite.fn (F := Ideal) (m ((c.tc : Thread Cert.MemNormBwdRefIdeal.nD Cert.MemNormBwdRefIdeal.τ).loc Cert.MemNormBwdRefIdeal.main_arg0)) (m ((c.tc : Thread Cert.MemNormBwdRefIdeal.nD Cert.MemNormBwdRefIdeal.τ).loc Cert.MemNormBwdRefIdeal.main_arg1)) (m ((c.tc : Thread Cert.MemNormBwdRefIdeal.nD Cert.MemNormBwdRefIdeal.τ).loc Cert.MemNormBwdRefIdeal.main_arg2))).2 = (fun _ => 1#1)

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadIdeal_loss_head_finite [hPre_loss_head_finite : Cert.Pre_loss_head_finite.Facts] (m : (ℓ : Loc Cert.LossHeadIdeal.nD Cert.LossHeadIdeal.τ Cert.LossHeadIdeal.sig) → Buf (Elt Ideal) ℓ) : Prop :=
  ∀ c : Dev Cert.LossHeadIdeal.nD,
    (Cert.Pre_loss_head_finite.fn (F := Ideal) (m ((c.tc : Thread Cert.LossHeadIdeal.nD Cert.LossHeadIdeal.τ).loc Cert.LossHeadIdeal.main_arg0)) (m ((c.tc : Thread Cert.LossHeadIdeal.nD Cert.LossHeadIdeal.τ).loc Cert.LossHeadIdeal.main_arg1)) (m ((c.tc : Thread Cert.LossHeadIdeal.nD Cert.LossHeadIdeal.τ).loc Cert.LossHeadIdeal.main_arg2))).1 = (fun _ => 1#1)
    ∧ (Cert.Pre_loss_head_finite.fn (F := Ideal) (m ((c.tc : Thread Cert.LossHeadIdeal.nD Cert.LossHeadIdeal.τ).loc Cert.LossHeadIdeal.main_arg0)) (m ((c.tc : Thread Cert.LossHeadIdeal.nD Cert.LossHeadIdeal.τ).loc Cert.LossHeadIdeal.main_arg1)) (m ((c.tc : Thread Cert.LossHeadIdeal.nD Cert.LossHeadIdeal.τ).loc Cert.LossHeadIdeal.main_arg2))).2.1 = (fun _ => 1#1)
    ∧ (Cert.Pre_loss_head_finite.fn (F := Ideal) (m ((c.tc : Thread Cert.LossHeadIdeal.nD Cert.LossHeadIdeal.τ).loc Cert.LossHeadIdeal.main_arg0)) (m ((c.tc : Thread Cert.LossHeadIdeal.nD Cert.LossHeadIdeal.τ).loc Cert.LossHeadIdeal.main_arg1)) (m ((c.tc : Thread Cert.LossHeadIdeal.nD Cert.LossHeadIdeal.τ).loc Cert.LossHeadIdeal.main_arg2))).2.2 = (fun _ => 1#1)

def Pre_LossHeadRefIdeal (m : (ℓ : Loc Cert.LossHeadRefIdeal.nD Cert.LossHeadRefIdeal.τ Cert.LossHeadRefIdeal.sig) → Buf (Elt Ideal) ℓ) : Prop :=
  True

def Pre_LossHeadRefIdeal_loss_head_finite [hPre_loss_head_finite : Cert.Pre_loss_head_finite.Facts] (m : (ℓ : Loc Cert.LossHeadRefIdeal.nD Cert.LossHeadRefIdeal.τ Cert.LossHeadRefIdeal.sig) → Buf (Elt Ideal) ℓ) : Prop :=
  ∀ c : Dev Cert.LossHeadRefIdeal.nD,
    (Cert.Pre_loss_head_finite.fn (F := Ideal) (m ((c.tc : Thread Cert.LossHeadRefIdeal.nD Cert.LossHeadRefIdeal.τ).loc Cert.LossHeadRefIdeal.main_arg0)) (m ((c.tc : Thread Cert.LossHeadRefIdeal.nD Cert.LossHeadRefIdeal.τ).loc Cert.LossHeadRefIdeal.main_arg1)) (m ((c.tc : Thread Cert.LossHeadRefIdeal.nD Cert.LossHeadRefIdeal.τ).loc Cert.LossHeadRefIdeal.main_arg2))).1 = (fun _ => 1#1)
    ∧ (Cert.Pre_loss_head_finite.fn (F := Ideal) (m ((c.tc : Thread Cert.LossHeadRefIdeal.nD Cert.LossHeadRefIdeal.τ).loc Cert.LossHeadRefIdeal.main_arg0)) (m ((c.tc : Thread Cert.LossHeadRefIdeal.nD Cert.LossHeadRefIdeal.τ).loc Cert.LossHeadRefIdeal.main_arg1)) (m ((c.tc : Thread Cert.LossHeadRefIdeal.nD Cert.LossHeadRefIdeal.τ).loc Cert.LossHeadRefIdeal.main_arg2))).2.1 = (fun _ => 1#1)
    ∧ (Cert.Pre_loss_head_finite.fn (F := Ideal) (m ((c.tc : Thread Cert.LossHeadRefIdeal.nD Cert.LossHeadRefIdeal.τ).loc Cert.LossHeadRefIdeal.main_arg0)) (m ((c.tc : Thread Cert.LossHeadRefIdeal.nD Cert.LossHeadRefIdeal.τ).loc Cert.LossHeadRefIdeal.main_arg1)) (m ((c.tc : Thread Cert.LossHeadRefIdeal.nD Cert.LossHeadRefIdeal.τ).loc Cert.LossHeadRefIdeal.main_arg2))).2.2 = (fun _ => 1#1)

def Pre_GuNormBwd (m : (ℓ : Loc Cert.GuNormBwd.nD Cert.GuNormBwd.τ Cert.GuNormBwd.sig) → Buf (Elt Bits) ℓ) : Prop :=
  True

def Pre_GuNormBwdIdeal (m : (ℓ : Loc Cert.GuNormBwdIdeal.nD Cert.GuNormBwdIdeal.τ Cert.GuNormBwdIdeal.sig) → Buf (Elt Ideal) ℓ) : Prop :=
  True

def Pre_GuNormBwdIdeal_gu_norm_bwd_finite [hPre_gu_norm_bwd_finite : Cert.Pre_gu_norm_bwd_finite.Facts] (m : (ℓ : Loc Cert.GuNormBwdIdeal.nD Cert.GuNormBwdIdeal.τ Cert.GuNormBwdIdeal.sig) → Buf (Elt Ideal) ℓ) : Prop :=
  ∀ c : Dev Cert.GuNormBwdIdeal.nD,
    (Cert.Pre_gu_norm_bwd_finite.fn (F := Ideal) (m ((c.tc : Thread Cert.GuNormBwdIdeal.nD Cert.GuNormBwdIdeal.τ).loc Cert.GuNormBwdIdeal.main_arg0)) (m ((c.tc : Thread Cert.GuNormBwdIdeal.nD Cert.GuNormBwdIdeal.τ).loc Cert.GuNormBwdIdeal.main_arg1)) (m ((c.tc : Thread Cert.GuNormBwdIdeal.nD Cert.GuNormBwdIdeal.τ).loc Cert.GuNormBwdIdeal.main_arg2)) (m ((c.tc : Thread Cert.GuNormBwdIdeal.nD Cert.GuNormBwdIdeal.τ).loc Cert.GuNormBwdIdeal.main_arg3)) (m ((c.tc : Thread Cert.GuNormBwdIdeal.nD Cert.GuNormBwdIdeal.τ).loc Cert.GuNormBwdIdeal.main_arg4))).1 = (fun _ => 1#1)
    ∧ (Cert.Pre_gu_norm_bwd_finite.fn (F := Ideal) (m ((c.tc : Thread Cert.GuNormBwdIdeal.nD Cert.GuNormBwdIdeal.τ).loc Cert.GuNormBwdIdeal.main_arg0)) (m ((c.tc : Thread Cert.GuNormBwdIdeal.nD Cert.GuNormBwdIdeal.τ).loc Cert.GuNormBwdIdeal.main_arg1)) (m ((c.tc : Thread Cert.GuNormBwdIdeal.nD Cert.GuNormBwdIdeal.τ).loc Cert.GuNormBwdIdeal.main_arg2)) (m ((c.tc : Thread Cert.GuNormBwdIdeal.nD Cert.GuNormBwdIdeal.τ).loc Cert.GuNormBwdIdeal.main_arg3)) (m ((c.tc : Thread Cert.GuNormBwdIdeal.nD Cert.GuNormBwdIdeal.τ).loc Cert.GuNormBwdIdeal.main_arg4))).2.1 = (fun _ => 1#1)
    ∧ (Cert.Pre_gu_norm_bwd_finite.fn (F := Ideal) (m ((c.tc : Thread Cert.GuNormBwdIdeal.nD Cert.GuNormBwdIdeal.τ).loc Cert.GuNormBwdIdeal.main_arg0)) (m ((c.tc : Thread Cert.GuNormBwdIdeal.nD Cert.GuNormBwdIdeal.τ).loc Cert.GuNormBwdIdeal.main_arg1)) (m ((c.tc : Thread Cert.GuNormBwdIdeal.nD Cert.GuNormBwdIdeal.τ).loc Cert.GuNormBwdIdeal.main_arg2)) (m ((c.tc : Thread Cert.GuNormBwdIdeal.nD Cert.GuNormBwdIdeal.τ).loc Cert.GuNormBwdIdeal.main_arg3)) (m ((c.tc : Thread Cert.GuNormBwdIdeal.nD Cert.GuNormBwdIdeal.τ).loc Cert.GuNormBwdIdeal.main_arg4))).2.2.1 = (fun _ => 1#1)
    ∧ (Cert.Pre_gu_norm_bwd_finite.fn (F := Ideal) (m ((c.tc : Thread Cert.GuNormBwdIdeal.nD Cert.GuNormBwdIdeal.τ).loc Cert.GuNormBwdIdeal.main_arg0)) (m ((c.tc : Thread Cert.GuNormBwdIdeal.nD Cert.GuNormBwdIdeal.τ).loc Cert.GuNormBwdIdeal.main_arg1)) (m ((c.tc : Thread Cert.GuNormBwdIdeal.nD Cert.GuNormBwdIdeal.τ).loc Cert.GuNormBwdIdeal.main_arg2)) (m ((c.tc : Thread Cert.GuNormBwdIdeal.nD Cert.GuNormBwdIdeal.τ).loc Cert.GuNormBwdIdeal.main_arg3)) (m ((c.tc : Thread Cert.GuNormBwdIdeal.nD Cert.GuNormBwdIdeal.τ).loc Cert.GuNormBwdIdeal.main_arg4))).2.2.2.1 = (fun _ => 1#1)
    ∧ (Cert.Pre_gu_norm_bwd_finite.fn (F := Ideal) (m ((c.tc : Thread Cert.GuNormBwdIdeal.nD Cert.GuNormBwdIdeal.τ).loc Cert.GuNormBwdIdeal.main_arg0)) (m ((c.tc : Thread Cert.GuNormBwdIdeal.nD Cert.GuNormBwdIdeal.τ).loc Cert.GuNormBwdIdeal.main_arg1)) (m ((c.tc : Thread Cert.GuNormBwdIdeal.nD Cert.GuNormBwdIdeal.τ).loc Cert.GuNormBwdIdeal.main_arg2)) (m ((c.tc : Thread Cert.GuNormBwdIdeal.nD Cert.GuNormBwdIdeal.τ).loc Cert.GuNormBwdIdeal.main_arg3)) (m ((c.tc : Thread Cert.GuNormBwdIdeal.nD Cert.GuNormBwdIdeal.τ).loc Cert.GuNormBwdIdeal.main_arg4))).2.2.2.2 = (fun _ => 1#1)

def Pre_GuNormBwdRefIdeal (m : (ℓ : Loc Cert.GuNormBwdRefIdeal.nD Cert.GuNormBwdRefIdeal.τ Cert.GuNormBwdRefIdeal.sig) → Buf (Elt Ideal) ℓ) : Prop :=
  True

def Pre_GuNormBwdRefIdeal_gu_norm_bwd_finite [hPre_gu_norm_bwd_finite : Cert.Pre_gu_norm_bwd_finite.Facts] (m : (ℓ : Loc Cert.GuNormBwdRefIdeal.nD Cert.GuNormBwdRefIdeal.τ Cert.GuNormBwdRefIdeal.sig) → Buf (Elt Ideal) ℓ) : Prop :=
  ∀ c : Dev Cert.GuNormBwdRefIdeal.nD,
    (Cert.Pre_gu_norm_bwd_finite.fn (F := Ideal) (m ((c.tc : Thread Cert.GuNormBwdRefIdeal.nD Cert.GuNormBwdRefIdeal.τ).loc Cert.GuNormBwdRefIdeal.main_arg0)) (m ((c.tc : Thread Cert.GuNormBwdRefIdeal.nD Cert.GuNormBwdRefIdeal.τ).loc Cert.GuNormBwdRefIdeal.main_arg1)) (m ((c.tc : Thread Cert.GuNormBwdRefIdeal.nD Cert.GuNormBwdRefIdeal.τ).loc Cert.GuNormBwdRefIdeal.main_arg2)) (m ((c.tc : Thread Cert.GuNormBwdRefIdeal.nD Cert.GuNormBwdRefIdeal.τ).loc Cert.GuNormBwdRefIdeal.main_arg3)) (m ((c.tc : Thread Cert.GuNormBwdRefIdeal.nD Cert.GuNormBwdRefIdeal.τ).loc Cert.GuNormBwdRefIdeal.main_arg4))).1 = (fun _ => 1#1)
    ∧ (Cert.Pre_gu_norm_bwd_finite.fn (F := Ideal) (m ((c.tc : Thread Cert.GuNormBwdRefIdeal.nD Cert.GuNormBwdRefIdeal.τ).loc Cert.GuNormBwdRefIdeal.main_arg0)) (m ((c.tc : Thread Cert.GuNormBwdRefIdeal.nD Cert.GuNormBwdRefIdeal.τ).loc Cert.GuNormBwdRefIdeal.main_arg1)) (m ((c.tc : Thread Cert.GuNormBwdRefIdeal.nD Cert.GuNormBwdRefIdeal.τ).loc Cert.GuNormBwdRefIdeal.main_arg2)) (m ((c.tc : Thread Cert.GuNormBwdRefIdeal.nD Cert.GuNormBwdRefIdeal.τ).loc Cert.GuNormBwdRefIdeal.main_arg3)) (m ((c.tc : Thread Cert.GuNormBwdRefIdeal.nD Cert.GuNormBwdRefIdeal.τ).loc Cert.GuNormBwdRefIdeal.main_arg4))).2.1 = (fun _ => 1#1)
    ∧ (Cert.Pre_gu_norm_bwd_finite.fn (F := Ideal) (m ((c.tc : Thread Cert.GuNormBwdRefIdeal.nD Cert.GuNormBwdRefIdeal.τ).loc Cert.GuNormBwdRefIdeal.main_arg0)) (m ((c.tc : Thread Cert.GuNormBwdRefIdeal.nD Cert.GuNormBwdRefIdeal.τ).loc Cert.GuNormBwdRefIdeal.main_arg1)) (m ((c.tc : Thread Cert.GuNormBwdRefIdeal.nD Cert.GuNormBwdRefIdeal.τ).loc Cert.GuNormBwdRefIdeal.main_arg2)) (m ((c.tc : Thread Cert.GuNormBwdRefIdeal.nD Cert.GuNormBwdRefIdeal.τ).loc Cert.GuNormBwdRefIdeal.main_arg3)) (m ((c.tc : Thread Cert.GuNormBwdRefIdeal.nD Cert.GuNormBwdRefIdeal.τ).loc Cert.GuNormBwdRefIdeal.main_arg4))).2.2.1 = (fun _ => 1#1)
    ∧ (Cert.Pre_gu_norm_bwd_finite.fn (F := Ideal) (m ((c.tc : Thread Cert.GuNormBwdRefIdeal.nD Cert.GuNormBwdRefIdeal.τ).loc Cert.GuNormBwdRefIdeal.main_arg0)) (m ((c.tc : Thread Cert.GuNormBwdRefIdeal.nD Cert.GuNormBwdRefIdeal.τ).loc Cert.GuNormBwdRefIdeal.main_arg1)) (m ((c.tc : Thread Cert.GuNormBwdRefIdeal.nD Cert.GuNormBwdRefIdeal.τ).loc Cert.GuNormBwdRefIdeal.main_arg2)) (m ((c.tc : Thread Cert.GuNormBwdRefIdeal.nD Cert.GuNormBwdRefIdeal.τ).loc Cert.GuNormBwdRefIdeal.main_arg3)) (m ((c.tc : Thread Cert.GuNormBwdRefIdeal.nD Cert.GuNormBwdRefIdeal.τ).loc Cert.GuNormBwdRefIdeal.main_arg4))).2.2.2.1 = (fun _ => 1#1)
    ∧ (Cert.Pre_gu_norm_bwd_finite.fn (F := Ideal) (m ((c.tc : Thread Cert.GuNormBwdRefIdeal.nD Cert.GuNormBwdRefIdeal.τ).loc Cert.GuNormBwdRefIdeal.main_arg0)) (m ((c.tc : Thread Cert.GuNormBwdRefIdeal.nD Cert.GuNormBwdRefIdeal.τ).loc Cert.GuNormBwdRefIdeal.main_arg1)) (m ((c.tc : Thread Cert.GuNormBwdRefIdeal.nD Cert.GuNormBwdRefIdeal.τ).loc Cert.GuNormBwdRefIdeal.main_arg2)) (m ((c.tc : Thread Cert.GuNormBwdRefIdeal.nD Cert.GuNormBwdRefIdeal.τ).loc Cert.GuNormBwdRefIdeal.main_arg3)) (m ((c.tc : Thread Cert.GuNormBwdRefIdeal.nD Cert.GuNormBwdRefIdeal.τ).loc Cert.GuNormBwdRefIdeal.main_arg4))).2.2.2.2 = (fun _ => 1#1)

def Pre_KvNormBwd (m : (ℓ : Loc Cert.KvNormBwd.nD Cert.KvNormBwd.τ Cert.KvNormBwd.sig) → Buf (Elt Bits) ℓ) : Prop :=
  True

def Pre_KvNormBwdIdeal (m : (ℓ : Loc Cert.KvNormBwdIdeal.nD Cert.KvNormBwdIdeal.τ Cert.KvNormBwdIdeal.sig) → Buf (Elt Ideal) ℓ) : Prop :=
  True

def Pre_KvNormBwdIdeal_kv_norm_bwd_finite [hPre_kv_norm_bwd_finite : Cert.Pre_kv_norm_bwd_finite.Facts] (m : (ℓ : Loc Cert.KvNormBwdIdeal.nD Cert.KvNormBwdIdeal.τ Cert.KvNormBwdIdeal.sig) → Buf (Elt Ideal) ℓ) : Prop :=
  ∀ c : Dev Cert.KvNormBwdIdeal.nD,
    (Cert.Pre_kv_norm_bwd_finite.fn (F := Ideal) (m ((c.tc : Thread Cert.KvNormBwdIdeal.nD Cert.KvNormBwdIdeal.τ).loc Cert.KvNormBwdIdeal.main_arg0)) (m ((c.tc : Thread Cert.KvNormBwdIdeal.nD Cert.KvNormBwdIdeal.τ).loc Cert.KvNormBwdIdeal.main_arg1)) (m ((c.tc : Thread Cert.KvNormBwdIdeal.nD Cert.KvNormBwdIdeal.τ).loc Cert.KvNormBwdIdeal.main_arg2)) (m ((c.tc : Thread Cert.KvNormBwdIdeal.nD Cert.KvNormBwdIdeal.τ).loc Cert.KvNormBwdIdeal.main_arg3)) (m ((c.tc : Thread Cert.KvNormBwdIdeal.nD Cert.KvNormBwdIdeal.τ).loc Cert.KvNormBwdIdeal.main_arg4)) (m ((c.tc : Thread Cert.KvNormBwdIdeal.nD Cert.KvNormBwdIdeal.τ).loc Cert.KvNormBwdIdeal.main_arg5)) (m ((c.tc : Thread Cert.KvNormBwdIdeal.nD Cert.KvNormBwdIdeal.τ).loc Cert.KvNormBwdIdeal.main_arg6))).1 = (fun _ => 1#1)
    ∧ (Cert.Pre_kv_norm_bwd_finite.fn (F := Ideal) (m ((c.tc : Thread Cert.KvNormBwdIdeal.nD Cert.KvNormBwdIdeal.τ).loc Cert.KvNormBwdIdeal.main_arg0)) (m ((c.tc : Thread Cert.KvNormBwdIdeal.nD Cert.KvNormBwdIdeal.τ).loc Cert.KvNormBwdIdeal.main_arg1)) (m ((c.tc : Thread Cert.KvNormBwdIdeal.nD Cert.KvNormBwdIdeal.τ).loc Cert.KvNormBwdIdeal.main_arg2)) (m ((c.tc : Thread Cert.KvNormBwdIdeal.nD Cert.KvNormBwdIdeal.τ).loc Cert.KvNormBwdIdeal.main_arg3)) (m ((c.tc : Thread Cert.KvNormBwdIdeal.nD Cert.KvNormBwdIdeal.τ).loc Cert.KvNormBwdIdeal.main_arg4)) (m ((c.tc : Thread Cert.KvNormBwdIdeal.nD Cert.KvNormBwdIdeal.τ).loc Cert.KvNormBwdIdeal.main_arg5)) (m ((c.tc : Thread Cert.KvNormBwdIdeal.nD Cert.KvNormBwdIdeal.τ).loc Cert.KvNormBwdIdeal.main_arg6))).2.1 = (fun _ => 1#1)
    ∧ (Cert.Pre_kv_norm_bwd_finite.fn (F := Ideal) (m ((c.tc : Thread Cert.KvNormBwdIdeal.nD Cert.KvNormBwdIdeal.τ).loc Cert.KvNormBwdIdeal.main_arg0)) (m ((c.tc : Thread Cert.KvNormBwdIdeal.nD Cert.KvNormBwdIdeal.τ).loc Cert.KvNormBwdIdeal.main_arg1)) (m ((c.tc : Thread Cert.KvNormBwdIdeal.nD Cert.KvNormBwdIdeal.τ).loc Cert.KvNormBwdIdeal.main_arg2)) (m ((c.tc : Thread Cert.KvNormBwdIdeal.nD Cert.KvNormBwdIdeal.τ).loc Cert.KvNormBwdIdeal.main_arg3)) (m ((c.tc : Thread Cert.KvNormBwdIdeal.nD Cert.KvNormBwdIdeal.τ).loc Cert.KvNormBwdIdeal.main_arg4)) (m ((c.tc : Thread Cert.KvNormBwdIdeal.nD Cert.KvNormBwdIdeal.τ).loc Cert.KvNormBwdIdeal.main_arg5)) (m ((c.tc : Thread Cert.KvNormBwdIdeal.nD Cert.KvNormBwdIdeal.τ).loc Cert.KvNormBwdIdeal.main_arg6))).2.2.1 = (fun _ => 1#1)
    ∧ (Cert.Pre_kv_norm_bwd_finite.fn (F := Ideal) (m ((c.tc : Thread Cert.KvNormBwdIdeal.nD Cert.KvNormBwdIdeal.τ).loc Cert.KvNormBwdIdeal.main_arg0)) (m ((c.tc : Thread Cert.KvNormBwdIdeal.nD Cert.KvNormBwdIdeal.τ).loc Cert.KvNormBwdIdeal.main_arg1)) (m ((c.tc : Thread Cert.KvNormBwdIdeal.nD Cert.KvNormBwdIdeal.τ).loc Cert.KvNormBwdIdeal.main_arg2)) (m ((c.tc : Thread Cert.KvNormBwdIdeal.nD Cert.KvNormBwdIdeal.τ).loc Cert.KvNormBwdIdeal.main_arg3)) (m ((c.tc : Thread Cert.KvNormBwdIdeal.nD Cert.KvNormBwdIdeal.τ).loc Cert.KvNormBwdIdeal.main_arg4)) (m ((c.tc : Thread Cert.KvNormBwdIdeal.nD Cert.KvNormBwdIdeal.τ).loc Cert.KvNormBwdIdeal.main_arg5)) (m ((c.tc : Thread Cert.KvNormBwdIdeal.nD Cert.KvNormBwdIdeal.τ).loc Cert.KvNormBwdIdeal.main_arg6))).2.2.2.1 = (fun _ => 1#1)
    ∧ (Cert.Pre_kv_norm_bwd_finite.fn (F := Ideal) (m ((c.tc : Thread Cert.KvNormBwdIdeal.nD Cert.KvNormBwdIdeal.τ).loc Cert.KvNormBwdIdeal.main_arg0)) (m ((c.tc : Thread Cert.KvNormBwdIdeal.nD Cert.KvNormBwdIdeal.τ).loc Cert.KvNormBwdIdeal.main_arg1)) (m ((c.tc : Thread Cert.KvNormBwdIdeal.nD Cert.KvNormBwdIdeal.τ).loc Cert.KvNormBwdIdeal.main_arg2)) (m ((c.tc : Thread Cert.KvNormBwdIdeal.nD Cert.KvNormBwdIdeal.τ).loc Cert.KvNormBwdIdeal.main_arg3)) (m ((c.tc : Thread Cert.KvNormBwdIdeal.nD Cert.KvNormBwdIdeal.τ).loc Cert.KvNormBwdIdeal.main_arg4)) (m ((c.tc : Thread Cert.KvNormBwdIdeal.nD Cert.KvNormBwdIdeal.τ).loc Cert.KvNormBwdIdeal.main_arg5)) (m ((c.tc : Thread Cert.KvNormBwdIdeal.nD Cert.KvNormBwdIdeal.τ).loc Cert.KvNormBwdIdeal.main_arg6))).2.2.2.2.1 = (fun _ => 1#1)
    ∧ (Cert.Pre_kv_norm_bwd_finite.fn (F := Ideal) (m ((c.tc : Thread Cert.KvNormBwdIdeal.nD Cert.KvNormBwdIdeal.τ).loc Cert.KvNormBwdIdeal.main_arg0)) (m ((c.tc : Thread Cert.KvNormBwdIdeal.nD Cert.KvNormBwdIdeal.τ).loc Cert.KvNormBwdIdeal.main_arg1)) (m ((c.tc : Thread Cert.KvNormBwdIdeal.nD Cert.KvNormBwdIdeal.τ).loc Cert.KvNormBwdIdeal.main_arg2)) (m ((c.tc : Thread Cert.KvNormBwdIdeal.nD Cert.KvNormBwdIdeal.τ).loc Cert.KvNormBwdIdeal.main_arg3)) (m ((c.tc : Thread Cert.KvNormBwdIdeal.nD Cert.KvNormBwdIdeal.τ).loc Cert.KvNormBwdIdeal.main_arg4)) (m ((c.tc : Thread Cert.KvNormBwdIdeal.nD Cert.KvNormBwdIdeal.τ).loc Cert.KvNormBwdIdeal.main_arg5)) (m ((c.tc : Thread Cert.KvNormBwdIdeal.nD Cert.KvNormBwdIdeal.τ).loc Cert.KvNormBwdIdeal.main_arg6))).2.2.2.2.2.1 = (fun _ => 1#1)
    ∧ (Cert.Pre_kv_norm_bwd_finite.fn (F := Ideal) (m ((c.tc : Thread Cert.KvNormBwdIdeal.nD Cert.KvNormBwdIdeal.τ).loc Cert.KvNormBwdIdeal.main_arg0)) (m ((c.tc : Thread Cert.KvNormBwdIdeal.nD Cert.KvNormBwdIdeal.τ).loc Cert.KvNormBwdIdeal.main_arg1)) (m ((c.tc : Thread Cert.KvNormBwdIdeal.nD Cert.KvNormBwdIdeal.τ).loc Cert.KvNormBwdIdeal.main_arg2)) (m ((c.tc : Thread Cert.KvNormBwdIdeal.nD Cert.KvNormBwdIdeal.τ).loc Cert.KvNormBwdIdeal.main_arg3)) (m ((c.tc : Thread Cert.KvNormBwdIdeal.nD Cert.KvNormBwdIdeal.τ).loc Cert.KvNormBwdIdeal.main_arg4)) (m ((c.tc : Thread Cert.KvNormBwdIdeal.nD Cert.KvNormBwdIdeal.τ).loc Cert.KvNormBwdIdeal.main_arg5)) (m ((c.tc : Thread Cert.KvNormBwdIdeal.nD Cert.KvNormBwdIdeal.τ).loc Cert.KvNormBwdIdeal.main_arg6))).2.2.2.2.2.2 = (fun _ => 1#1)

def Pre_KvNormBwdRefIdeal (m : (ℓ : Loc Cert.KvNormBwdRefIdeal.nD Cert.KvNormBwdRefIdeal.τ Cert.KvNormBwdRefIdeal.sig) → Buf (Elt Ideal) ℓ) : Prop :=
  True

def Pre_KvNormBwdRefIdeal_kv_norm_bwd_finite [hPre_kv_norm_bwd_finite : Cert.Pre_kv_norm_bwd_finite.Facts] (m : (ℓ : Loc Cert.KvNormBwdRefIdeal.nD Cert.KvNormBwdRefIdeal.τ Cert.KvNormBwdRefIdeal.sig) → Buf (Elt Ideal) ℓ) : Prop :=
  ∀ c : Dev Cert.KvNormBwdRefIdeal.nD,
    (Cert.Pre_kv_norm_bwd_finite.fn (F := Ideal) (m ((c.tc : Thread Cert.KvNormBwdRefIdeal.nD Cert.KvNormBwdRefIdeal.τ).loc Cert.KvNormBwdRefIdeal.main_arg0)) (m ((c.tc : Thread Cert.KvNormBwdRefIdeal.nD Cert.KvNormBwdRefIdeal.τ).loc Cert.KvNormBwdRefIdeal.main_arg1)) (m ((c.tc : Thread Cert.KvNormBwdRefIdeal.nD Cert.KvNormBwdRefIdeal.τ).loc Cert.KvNormBwdRefIdeal.main_arg2)) (m ((c.tc : Thread Cert.KvNormBwdRefIdeal.nD Cert.KvNormBwdRefIdeal.τ).loc Cert.KvNormBwdRefIdeal.main_arg3)) (m ((c.tc : Thread Cert.KvNormBwdRefIdeal.nD Cert.KvNormBwdRefIdeal.τ).loc Cert.KvNormBwdRefIdeal.main_arg4)) (m ((c.tc : Thread Cert.KvNormBwdRefIdeal.nD Cert.KvNormBwdRefIdeal.τ).loc Cert.KvNormBwdRefIdeal.main_arg5)) (m ((c.tc : Thread Cert.KvNormBwdRefIdeal.nD Cert.KvNormBwdRefIdeal.τ).loc Cert.KvNormBwdRefIdeal.main_arg6))).1 = (fun _ => 1#1)
    ∧ (Cert.Pre_kv_norm_bwd_finite.fn (F := Ideal) (m ((c.tc : Thread Cert.KvNormBwdRefIdeal.nD Cert.KvNormBwdRefIdeal.τ).loc Cert.KvNormBwdRefIdeal.main_arg0)) (m ((c.tc : Thread Cert.KvNormBwdRefIdeal.nD Cert.KvNormBwdRefIdeal.τ).loc Cert.KvNormBwdRefIdeal.main_arg1)) (m ((c.tc : Thread Cert.KvNormBwdRefIdeal.nD Cert.KvNormBwdRefIdeal.τ).loc Cert.KvNormBwdRefIdeal.main_arg2)) (m ((c.tc : Thread Cert.KvNormBwdRefIdeal.nD Cert.KvNormBwdRefIdeal.τ).loc Cert.KvNormBwdRefIdeal.main_arg3)) (m ((c.tc : Thread Cert.KvNormBwdRefIdeal.nD Cert.KvNormBwdRefIdeal.τ).loc Cert.KvNormBwdRefIdeal.main_arg4)) (m ((c.tc : Thread Cert.KvNormBwdRefIdeal.nD Cert.KvNormBwdRefIdeal.τ).loc Cert.KvNormBwdRefIdeal.main_arg5)) (m ((c.tc : Thread Cert.KvNormBwdRefIdeal.nD Cert.KvNormBwdRefIdeal.τ).loc Cert.KvNormBwdRefIdeal.main_arg6))).2.1 = (fun _ => 1#1)
    ∧ (Cert.Pre_kv_norm_bwd_finite.fn (F := Ideal) (m ((c.tc : Thread Cert.KvNormBwdRefIdeal.nD Cert.KvNormBwdRefIdeal.τ).loc Cert.KvNormBwdRefIdeal.main_arg0)) (m ((c.tc : Thread Cert.KvNormBwdRefIdeal.nD Cert.KvNormBwdRefIdeal.τ).loc Cert.KvNormBwdRefIdeal.main_arg1)) (m ((c.tc : Thread Cert.KvNormBwdRefIdeal.nD Cert.KvNormBwdRefIdeal.τ).loc Cert.KvNormBwdRefIdeal.main_arg2)) (m ((c.tc : Thread Cert.KvNormBwdRefIdeal.nD Cert.KvNormBwdRefIdeal.τ).loc Cert.KvNormBwdRefIdeal.main_arg3)) (m ((c.tc : Thread Cert.KvNormBwdRefIdeal.nD Cert.KvNormBwdRefIdeal.τ).loc Cert.KvNormBwdRefIdeal.main_arg4)) (m ((c.tc : Thread Cert.KvNormBwdRefIdeal.nD Cert.KvNormBwdRefIdeal.τ).loc Cert.KvNormBwdRefIdeal.main_arg5)) (m ((c.tc : Thread Cert.KvNormBwdRefIdeal.nD Cert.KvNormBwdRefIdeal.τ).loc Cert.KvNormBwdRefIdeal.main_arg6))).2.2.1 = (fun _ => 1#1)
    ∧ (Cert.Pre_kv_norm_bwd_finite.fn (F := Ideal) (m ((c.tc : Thread Cert.KvNormBwdRefIdeal.nD Cert.KvNormBwdRefIdeal.τ).loc Cert.KvNormBwdRefIdeal.main_arg0)) (m ((c.tc : Thread Cert.KvNormBwdRefIdeal.nD Cert.KvNormBwdRefIdeal.τ).loc Cert.KvNormBwdRefIdeal.main_arg1)) (m ((c.tc : Thread Cert.KvNormBwdRefIdeal.nD Cert.KvNormBwdRefIdeal.τ).loc Cert.KvNormBwdRefIdeal.main_arg2)) (m ((c.tc : Thread Cert.KvNormBwdRefIdeal.nD Cert.KvNormBwdRefIdeal.τ).loc Cert.KvNormBwdRefIdeal.main_arg3)) (m ((c.tc : Thread Cert.KvNormBwdRefIdeal.nD Cert.KvNormBwdRefIdeal.τ).loc Cert.KvNormBwdRefIdeal.main_arg4)) (m ((c.tc : Thread Cert.KvNormBwdRefIdeal.nD Cert.KvNormBwdRefIdeal.τ).loc Cert.KvNormBwdRefIdeal.main_arg5)) (m ((c.tc : Thread Cert.KvNormBwdRefIdeal.nD Cert.KvNormBwdRefIdeal.τ).loc Cert.KvNormBwdRefIdeal.main_arg6))).2.2.2.1 = (fun _ => 1#1)
    ∧ (Cert.Pre_kv_norm_bwd_finite.fn (F := Ideal) (m ((c.tc : Thread Cert.KvNormBwdRefIdeal.nD Cert.KvNormBwdRefIdeal.τ).loc Cert.KvNormBwdRefIdeal.main_arg0)) (m ((c.tc : Thread Cert.KvNormBwdRefIdeal.nD Cert.KvNormBwdRefIdeal.τ).loc Cert.KvNormBwdRefIdeal.main_arg1)) (m ((c.tc : Thread Cert.KvNormBwdRefIdeal.nD Cert.KvNormBwdRefIdeal.τ).loc Cert.KvNormBwdRefIdeal.main_arg2)) (m ((c.tc : Thread Cert.KvNormBwdRefIdeal.nD Cert.KvNormBwdRefIdeal.τ).loc Cert.KvNormBwdRefIdeal.main_arg3)) (m ((c.tc : Thread Cert.KvNormBwdRefIdeal.nD Cert.KvNormBwdRefIdeal.τ).loc Cert.KvNormBwdRefIdeal.main_arg4)) (m ((c.tc : Thread Cert.KvNormBwdRefIdeal.nD Cert.KvNormBwdRefIdeal.τ).loc Cert.KvNormBwdRefIdeal.main_arg5)) (m ((c.tc : Thread Cert.KvNormBwdRefIdeal.nD Cert.KvNormBwdRefIdeal.τ).loc Cert.KvNormBwdRefIdeal.main_arg6))).2.2.2.2.1 = (fun _ => 1#1)
    ∧ (Cert.Pre_kv_norm_bwd_finite.fn (F := Ideal) (m ((c.tc : Thread Cert.KvNormBwdRefIdeal.nD Cert.KvNormBwdRefIdeal.τ).loc Cert.KvNormBwdRefIdeal.main_arg0)) (m ((c.tc : Thread Cert.KvNormBwdRefIdeal.nD Cert.KvNormBwdRefIdeal.τ).loc Cert.KvNormBwdRefIdeal.main_arg1)) (m ((c.tc : Thread Cert.KvNormBwdRefIdeal.nD Cert.KvNormBwdRefIdeal.τ).loc Cert.KvNormBwdRefIdeal.main_arg2)) (m ((c.tc : Thread Cert.KvNormBwdRefIdeal.nD Cert.KvNormBwdRefIdeal.τ).loc Cert.KvNormBwdRefIdeal.main_arg3)) (m ((c.tc : Thread Cert.KvNormBwdRefIdeal.nD Cert.KvNormBwdRefIdeal.τ).loc Cert.KvNormBwdRefIdeal.main_arg4)) (m ((c.tc : Thread Cert.KvNormBwdRefIdeal.nD Cert.KvNormBwdRefIdeal.τ).loc Cert.KvNormBwdRefIdeal.main_arg5)) (m ((c.tc : Thread Cert.KvNormBwdRefIdeal.nD Cert.KvNormBwdRefIdeal.τ).loc Cert.KvNormBwdRefIdeal.main_arg6))).2.2.2.2.2.1 = (fun _ => 1#1)
    ∧ (Cert.Pre_kv_norm_bwd_finite.fn (F := Ideal) (m ((c.tc : Thread Cert.KvNormBwdRefIdeal.nD Cert.KvNormBwdRefIdeal.τ).loc Cert.KvNormBwdRefIdeal.main_arg0)) (m ((c.tc : Thread Cert.KvNormBwdRefIdeal.nD Cert.KvNormBwdRefIdeal.τ).loc Cert.KvNormBwdRefIdeal.main_arg1)) (m ((c.tc : Thread Cert.KvNormBwdRefIdeal.nD Cert.KvNormBwdRefIdeal.τ).loc Cert.KvNormBwdRefIdeal.main_arg2)) (m ((c.tc : Thread Cert.KvNormBwdRefIdeal.nD Cert.KvNormBwdRefIdeal.τ).loc Cert.KvNormBwdRefIdeal.main_arg3)) (m ((c.tc : Thread Cert.KvNormBwdRefIdeal.nD Cert.KvNormBwdRefIdeal.τ).loc Cert.KvNormBwdRefIdeal.main_arg4)) (m ((c.tc : Thread Cert.KvNormBwdRefIdeal.nD Cert.KvNormBwdRefIdeal.τ).loc Cert.KvNormBwdRefIdeal.main_arg5)) (m ((c.tc : Thread Cert.KvNormBwdRefIdeal.nD Cert.KvNormBwdRefIdeal.τ).loc Cert.KvNormBwdRefIdeal.main_arg6))).2.2.2.2.2.2 = (fun _ => 1#1)

def Pre_MemAttnBwd (m : (ℓ : Loc Cert.MemAttnBwd.nD Cert.MemAttnBwd.τ Cert.MemAttnBwd.sig) → Buf (Elt Bits) ℓ) : Prop :=
  True

def Pre_MemAttnBwdIdeal (m : (ℓ : Loc Cert.MemAttnBwdIdeal.nD Cert.MemAttnBwdIdeal.τ Cert.MemAttnBwdIdeal.sig) → Buf (Elt Ideal) ℓ) : Prop :=
  True

def Pre_MemAttnBwdIdeal_mem_attn_bwd_finite [hPre_mem_attn_bwd_finite : Cert.Pre_mem_attn_bwd_finite.Facts] (m : (ℓ : Loc Cert.MemAttnBwdIdeal.nD Cert.MemAttnBwdIdeal.τ Cert.MemAttnBwdIdeal.sig) → Buf (Elt Ideal) ℓ) : Prop :=
  ∀ c : Dev Cert.MemAttnBwdIdeal.nD,
    (Cert.Pre_mem_attn_bwd_finite.fn (F := Ideal) (m ((c.tc : Thread Cert.MemAttnBwdIdeal.nD Cert.MemAttnBwdIdeal.τ).loc Cert.MemAttnBwdIdeal.main_arg0)) (m ((c.tc : Thread Cert.MemAttnBwdIdeal.nD Cert.MemAttnBwdIdeal.τ).loc Cert.MemAttnBwdIdeal.main_arg1)) (m ((c.tc : Thread Cert.MemAttnBwdIdeal.nD Cert.MemAttnBwdIdeal.τ).loc Cert.MemAttnBwdIdeal.main_arg2))).1 = (fun _ => 1#1)
    ∧ (Cert.Pre_mem_attn_bwd_finite.fn (F := Ideal) (m ((c.tc : Thread Cert.MemAttnBwdIdeal.nD Cert.MemAttnBwdIdeal.τ).loc Cert.MemAttnBwdIdeal.main_arg0)) (m ((c.tc : Thread Cert.MemAttnBwdIdeal.nD Cert.MemAttnBwdIdeal.τ).loc Cert.MemAttnBwdIdeal.main_arg1)) (m ((c.tc : Thread Cert.MemAttnBwdIdeal.nD Cert.MemAttnBwdIdeal.τ).loc Cert.MemAttnBwdIdeal.main_arg2))).2.1 = (fun _ => 1#1)
    ∧ (Cert.Pre_mem_attn_bwd_finite.fn (F := Ideal) (m ((c.tc : Thread Cert.MemAttnBwdIdeal.nD Cert.MemAttnBwdIdeal.τ).loc Cert.MemAttnBwdIdeal.main_arg0)) (m ((c.tc : Thread Cert.MemAttnBwdIdeal.nD Cert.MemAttnBwdIdeal.τ).loc Cert.MemAttnBwdIdeal.main_arg1)) (m ((c.tc : Thread Cert.MemAttnBwdIdeal.nD Cert.MemAttnBwdIdeal.τ).loc Cert.MemAttnBwdIdeal.main_arg2))).2.2 = (fun _ => 1#1)

def Pre_MemAttnBwdRefIdeal (m : (ℓ : Loc Cert.MemAttnBwdRefIdeal.nD Cert.MemAttnBwdRefIdeal.τ Cert.MemAttnBwdRefIdeal.sig) → Buf (Elt Ideal) ℓ) : Prop :=
  True

def Pre_MemAttnBwdRefIdeal_mem_attn_bwd_finite [hPre_mem_attn_bwd_finite : Cert.Pre_mem_attn_bwd_finite.Facts] (m : (ℓ : Loc Cert.MemAttnBwdRefIdeal.nD Cert.MemAttnBwdRefIdeal.τ Cert.MemAttnBwdRefIdeal.sig) → Buf (Elt Ideal) ℓ) : Prop :=
  ∀ c : Dev Cert.MemAttnBwdRefIdeal.nD,
    (Cert.Pre_mem_attn_bwd_finite.fn (F := Ideal) (m ((c.tc : Thread Cert.MemAttnBwdRefIdeal.nD Cert.MemAttnBwdRefIdeal.τ).loc Cert.MemAttnBwdRefIdeal.main_arg0)) (m ((c.tc : Thread Cert.MemAttnBwdRefIdeal.nD Cert.MemAttnBwdRefIdeal.τ).loc Cert.MemAttnBwdRefIdeal.main_arg1)) (m ((c.tc : Thread Cert.MemAttnBwdRefIdeal.nD Cert.MemAttnBwdRefIdeal.τ).loc Cert.MemAttnBwdRefIdeal.main_arg2))).1 = (fun _ => 1#1)
    ∧ (Cert.Pre_mem_attn_bwd_finite.fn (F := Ideal) (m ((c.tc : Thread Cert.MemAttnBwdRefIdeal.nD Cert.MemAttnBwdRefIdeal.τ).loc Cert.MemAttnBwdRefIdeal.main_arg0)) (m ((c.tc : Thread Cert.MemAttnBwdRefIdeal.nD Cert.MemAttnBwdRefIdeal.τ).loc Cert.MemAttnBwdRefIdeal.main_arg1)) (m ((c.tc : Thread Cert.MemAttnBwdRefIdeal.nD Cert.MemAttnBwdRefIdeal.τ).loc Cert.MemAttnBwdRefIdeal.main_arg2))).2.1 = (fun _ => 1#1)
    ∧ (Cert.Pre_mem_attn_bwd_finite.fn (F := Ideal) (m ((c.tc : Thread Cert.MemAttnBwdRefIdeal.nD Cert.MemAttnBwdRefIdeal.τ).loc Cert.MemAttnBwdRefIdeal.main_arg0)) (m ((c.tc : Thread Cert.MemAttnBwdRefIdeal.nD Cert.MemAttnBwdRefIdeal.τ).loc Cert.MemAttnBwdRefIdeal.main_arg1)) (m ((c.tc : Thread Cert.MemAttnBwdRefIdeal.nD Cert.MemAttnBwdRefIdeal.τ).loc Cert.MemAttnBwdRefIdeal.main_arg2))).2.2 = (fun _ => 1#1)

def Pre_StickFwd (m : (ℓ : Loc Cert.StickFwd.nD Cert.StickFwd.τ Cert.StickFwd.sig) → Buf (Elt Bits) ℓ) : Prop :=
  True

def Pre_StickFwdIdeal (m : (ℓ : Loc Cert.StickFwdIdeal.nD Cert.StickFwdIdeal.τ Cert.StickFwdIdeal.sig) → Buf (Elt Ideal) ℓ) : Prop :=
  True

def Pre_StickFwdIdeal_stick_fwd_finite [hPre_stick_fwd_finite : Cert.Pre_stick_fwd_finite.Facts] (m : (ℓ : Loc Cert.StickFwdIdeal.nD Cert.StickFwdIdeal.τ Cert.StickFwdIdeal.sig) → Buf (Elt Ideal) ℓ) : Prop :=
  ∀ c : Dev Cert.StickFwdIdeal.nD,
    (Cert.Pre_stick_fwd_finite.fn (F := Ideal) (m ((c.tc : Thread Cert.StickFwdIdeal.nD Cert.StickFwdIdeal.τ).loc Cert.StickFwdIdeal.main_arg0)) (m ((c.tc : Thread Cert.StickFwdIdeal.nD Cert.StickFwdIdeal.τ).loc Cert.StickFwdIdeal.main_arg1))).1 = (fun _ => 1#1)
    ∧ (Cert.Pre_stick_fwd_finite.fn (F := Ideal) (m ((c.tc : Thread Cert.StickFwdIdeal.nD Cert.StickFwdIdeal.τ).loc Cert.StickFwdIdeal.main_arg0)) (m ((c.tc : Thread Cert.StickFwdIdeal.nD Cert.StickFwdIdeal.τ).loc Cert.StickFwdIdeal.main_arg1))).2 = (fun _ => 1#1)

def Pre_StickFwdRefIdeal (m : (ℓ : Loc Cert.StickFwdRefIdeal.nD Cert.StickFwdRefIdeal.τ Cert.StickFwdRefIdeal.sig) → Buf (Elt Ideal) ℓ) : Prop :=
  True

def Pre_StickFwdRefIdeal_stick_fwd_finite [hPre_stick_fwd_finite : Cert.Pre_stick_fwd_finite.Facts] (m : (ℓ : Loc Cert.StickFwdRefIdeal.nD Cert.StickFwdRefIdeal.τ Cert.StickFwdRefIdeal.sig) → Buf (Elt Ideal) ℓ) : Prop :=
  ∀ c : Dev Cert.StickFwdRefIdeal.nD,
    (Cert.Pre_stick_fwd_finite.fn (F := Ideal) (m ((c.tc : Thread Cert.StickFwdRefIdeal.nD Cert.StickFwdRefIdeal.τ).loc Cert.StickFwdRefIdeal.main_arg0)) (m ((c.tc : Thread Cert.StickFwdRefIdeal.nD Cert.StickFwdRefIdeal.τ).loc Cert.StickFwdRefIdeal.main_arg1))).1 = (fun _ => 1#1)
    ∧ (Cert.Pre_stick_fwd_finite.fn (F := Ideal) (m ((c.tc : Thread Cert.StickFwdRefIdeal.nD Cert.StickFwdRefIdeal.τ).loc Cert.StickFwdRefIdeal.main_arg0)) (m ((c.tc : Thread Cert.StickFwdRefIdeal.nD Cert.StickFwdRefIdeal.τ).loc Cert.StickFwdRefIdeal.main_arg1))).2 = (fun _ => 1#1)

def Pre_InNormBwd (m : (ℓ : Loc Cert.InNormBwd.nD Cert.InNormBwd.τ Cert.InNormBwd.sig) → Buf (Elt Bits) ℓ) : Prop :=
  True

def Pre_InNormBwdIdeal (m : (ℓ : Loc Cert.InNormBwdIdeal.nD Cert.InNormBwdIdeal.τ Cert.InNormBwdIdeal.sig) → Buf (Elt Ideal) ℓ) : Prop :=
  True

def Pre_InNormBwdIdeal_in_norm_bwd_finite [hPre_in_norm_bwd_finite : Cert.Pre_in_norm_bwd_finite.Facts] (m : (ℓ : Loc Cert.InNormBwdIdeal.nD Cert.InNormBwdIdeal.τ Cert.InNormBwdIdeal.sig) → Buf (Elt Ideal) ℓ) : Prop :=
  ∀ c : Dev Cert.InNormBwdIdeal.nD,
    (Cert.Pre_in_norm_bwd_finite.fn (F := Ideal) (m ((c.tc : Thread Cert.InNormBwdIdeal.nD Cert.InNormBwdIdeal.τ).loc Cert.InNormBwdIdeal.main_arg0)) (m ((c.tc : Thread Cert.InNormBwdIdeal.nD Cert.InNormBwdIdeal.τ).loc Cert.InNormBwdIdeal.main_arg1)) (m ((c.tc : Thread Cert.InNormBwdIdeal.nD Cert.InNormBwdIdeal.τ).loc Cert.InNormBwdIdeal.main_arg2)) (m ((c.tc : Thread Cert.InNormBwdIdeal.nD Cert.InNormBwdIdeal.τ).loc Cert.InNormBwdIdeal.main_arg3)) (m ((c.tc : Thread Cert.InNormBwdIdeal.nD Cert.InNormBwdIdeal.τ).loc Cert.InNormBwdIdeal.main_arg4))).1 = (fun _ => 1#1)
    ∧ (Cert.Pre_in_norm_bwd_finite.fn (F := Ideal) (m ((c.tc : Thread Cert.InNormBwdIdeal.nD Cert.InNormBwdIdeal.τ).loc Cert.InNormBwdIdeal.main_arg0)) (m ((c.tc : Thread Cert.InNormBwdIdeal.nD Cert.InNormBwdIdeal.τ).loc Cert.InNormBwdIdeal.main_arg1)) (m ((c.tc : Thread Cert.InNormBwdIdeal.nD Cert.InNormBwdIdeal.τ).loc Cert.InNormBwdIdeal.main_arg2)) (m ((c.tc : Thread Cert.InNormBwdIdeal.nD Cert.InNormBwdIdeal.τ).loc Cert.InNormBwdIdeal.main_arg3)) (m ((c.tc : Thread Cert.InNormBwdIdeal.nD Cert.InNormBwdIdeal.τ).loc Cert.InNormBwdIdeal.main_arg4))).2.1 = (fun _ => 1#1)
    ∧ (Cert.Pre_in_norm_bwd_finite.fn (F := Ideal) (m ((c.tc : Thread Cert.InNormBwdIdeal.nD Cert.InNormBwdIdeal.τ).loc Cert.InNormBwdIdeal.main_arg0)) (m ((c.tc : Thread Cert.InNormBwdIdeal.nD Cert.InNormBwdIdeal.τ).loc Cert.InNormBwdIdeal.main_arg1)) (m ((c.tc : Thread Cert.InNormBwdIdeal.nD Cert.InNormBwdIdeal.τ).loc Cert.InNormBwdIdeal.main_arg2)) (m ((c.tc : Thread Cert.InNormBwdIdeal.nD Cert.InNormBwdIdeal.τ).loc Cert.InNormBwdIdeal.main_arg3)) (m ((c.tc : Thread Cert.InNormBwdIdeal.nD Cert.InNormBwdIdeal.τ).loc Cert.InNormBwdIdeal.main_arg4))).2.2.1 = (fun _ => 1#1)
    ∧ (Cert.Pre_in_norm_bwd_finite.fn (F := Ideal) (m ((c.tc : Thread Cert.InNormBwdIdeal.nD Cert.InNormBwdIdeal.τ).loc Cert.InNormBwdIdeal.main_arg0)) (m ((c.tc : Thread Cert.InNormBwdIdeal.nD Cert.InNormBwdIdeal.τ).loc Cert.InNormBwdIdeal.main_arg1)) (m ((c.tc : Thread Cert.InNormBwdIdeal.nD Cert.InNormBwdIdeal.τ).loc Cert.InNormBwdIdeal.main_arg2)) (m ((c.tc : Thread Cert.InNormBwdIdeal.nD Cert.InNormBwdIdeal.τ).loc Cert.InNormBwdIdeal.main_arg3)) (m ((c.tc : Thread Cert.InNormBwdIdeal.nD Cert.InNormBwdIdeal.τ).loc Cert.InNormBwdIdeal.main_arg4))).2.2.2.1 = (fun _ => 1#1)
    ∧ (Cert.Pre_in_norm_bwd_finite.fn (F := Ideal) (m ((c.tc : Thread Cert.InNormBwdIdeal.nD Cert.InNormBwdIdeal.τ).loc Cert.InNormBwdIdeal.main_arg0)) (m ((c.tc : Thread Cert.InNormBwdIdeal.nD Cert.InNormBwdIdeal.τ).loc Cert.InNormBwdIdeal.main_arg1)) (m ((c.tc : Thread Cert.InNormBwdIdeal.nD Cert.InNormBwdIdeal.τ).loc Cert.InNormBwdIdeal.main_arg2)) (m ((c.tc : Thread Cert.InNormBwdIdeal.nD Cert.InNormBwdIdeal.τ).loc Cert.InNormBwdIdeal.main_arg3)) (m ((c.tc : Thread Cert.InNormBwdIdeal.nD Cert.InNormBwdIdeal.τ).loc Cert.InNormBwdIdeal.main_arg4))).2.2.2.2 = (fun _ => 1#1)

def Pre_InNormBwdRefIdeal (m : (ℓ : Loc Cert.InNormBwdRefIdeal.nD Cert.InNormBwdRefIdeal.τ Cert.InNormBwdRefIdeal.sig) → Buf (Elt Ideal) ℓ) : Prop :=
  True

def Pre_InNormBwdRefIdeal_in_norm_bwd_finite [hPre_in_norm_bwd_finite : Cert.Pre_in_norm_bwd_finite.Facts] (m : (ℓ : Loc Cert.InNormBwdRefIdeal.nD Cert.InNormBwdRefIdeal.τ Cert.InNormBwdRefIdeal.sig) → Buf (Elt Ideal) ℓ) : Prop :=
  ∀ c : Dev Cert.InNormBwdRefIdeal.nD,
    (Cert.Pre_in_norm_bwd_finite.fn (F := Ideal) (m ((c.tc : Thread Cert.InNormBwdRefIdeal.nD Cert.InNormBwdRefIdeal.τ).loc Cert.InNormBwdRefIdeal.main_arg0)) (m ((c.tc : Thread Cert.InNormBwdRefIdeal.nD Cert.InNormBwdRefIdeal.τ).loc Cert.InNormBwdRefIdeal.main_arg1)) (m ((c.tc : Thread Cert.InNormBwdRefIdeal.nD Cert.InNormBwdRefIdeal.τ).loc Cert.InNormBwdRefIdeal.main_arg2)) (m ((c.tc : Thread Cert.InNormBwdRefIdeal.nD Cert.InNormBwdRefIdeal.τ).loc Cert.InNormBwdRefIdeal.main_arg3)) (m ((c.tc : Thread Cert.InNormBwdRefIdeal.nD Cert.InNormBwdRefIdeal.τ).loc Cert.InNormBwdRefIdeal.main_arg4))).1 = (fun _ => 1#1)
    ∧ (Cert.Pre_in_norm_bwd_finite.fn (F := Ideal) (m ((c.tc : Thread Cert.InNormBwdRefIdeal.nD Cert.InNormBwdRefIdeal.τ).loc Cert.InNormBwdRefIdeal.main_arg0)) (m ((c.tc : Thread Cert.InNormBwdRefIdeal.nD Cert.InNormBwdRefIdeal.τ).loc Cert.InNormBwdRefIdeal.main_arg1)) (m ((c.tc : Thread Cert.InNormBwdRefIdeal.nD Cert.InNormBwdRefIdeal.τ).loc Cert.InNormBwdRefIdeal.main_arg2)) (m ((c.tc : Thread Cert.InNormBwdRefIdeal.nD Cert.InNormBwdRefIdeal.τ).loc Cert.InNormBwdRefIdeal.main_arg3)) (m ((c.tc : Thread Cert.InNormBwdRefIdeal.nD Cert.InNormBwdRefIdeal.τ).loc Cert.InNormBwdRefIdeal.main_arg4))).2.1 = (fun _ => 1#1)
    ∧ (Cert.Pre_in_norm_bwd_finite.fn (F := Ideal) (m ((c.tc : Thread Cert.InNormBwdRefIdeal.nD Cert.InNormBwdRefIdeal.τ).loc Cert.InNormBwdRefIdeal.main_arg0)) (m ((c.tc : Thread Cert.InNormBwdRefIdeal.nD Cert.InNormBwdRefIdeal.τ).loc Cert.InNormBwdRefIdeal.main_arg1)) (m ((c.tc : Thread Cert.InNormBwdRefIdeal.nD Cert.InNormBwdRefIdeal.τ).loc Cert.InNormBwdRefIdeal.main_arg2)) (m ((c.tc : Thread Cert.InNormBwdRefIdeal.nD Cert.InNormBwdRefIdeal.τ).loc Cert.InNormBwdRefIdeal.main_arg3)) (m ((c.tc : Thread Cert.InNormBwdRefIdeal.nD Cert.InNormBwdRefIdeal.τ).loc Cert.InNormBwdRefIdeal.main_arg4))).2.2.1 = (fun _ => 1#1)
    ∧ (Cert.Pre_in_norm_bwd_finite.fn (F := Ideal) (m ((c.tc : Thread Cert.InNormBwdRefIdeal.nD Cert.InNormBwdRefIdeal.τ).loc Cert.InNormBwdRefIdeal.main_arg0)) (m ((c.tc : Thread Cert.InNormBwdRefIdeal.nD Cert.InNormBwdRefIdeal.τ).loc Cert.InNormBwdRefIdeal.main_arg1)) (m ((c.tc : Thread Cert.InNormBwdRefIdeal.nD Cert.InNormBwdRefIdeal.τ).loc Cert.InNormBwdRefIdeal.main_arg2)) (m ((c.tc : Thread Cert.InNormBwdRefIdeal.nD Cert.InNormBwdRefIdeal.τ).loc Cert.InNormBwdRefIdeal.main_arg3)) (m ((c.tc : Thread Cert.InNormBwdRefIdeal.nD Cert.InNormBwdRefIdeal.τ).loc Cert.InNormBwdRefIdeal.main_arg4))).2.2.2.1 = (fun _ => 1#1)
    ∧ (Cert.Pre_in_norm_bwd_finite.fn (F := Ideal) (m ((c.tc : Thread Cert.InNormBwdRefIdeal.nD Cert.InNormBwdRefIdeal.τ).loc Cert.InNormBwdRefIdeal.main_arg0)) (m ((c.tc : Thread Cert.InNormBwdRefIdeal.nD Cert.InNormBwdRefIdeal.τ).loc Cert.InNormBwdRefIdeal.main_arg1)) (m ((c.tc : Thread Cert.InNormBwdRefIdeal.nD Cert.InNormBwdRefIdeal.τ).loc Cert.InNormBwdRefIdeal.main_arg2)) (m ((c.tc : Thread Cert.InNormBwdRefIdeal.nD Cert.InNormBwdRefIdeal.τ).loc Cert.InNormBwdRefIdeal.main_arg3)) (m ((c.tc : Thread Cert.InNormBwdRefIdeal.nD Cert.InNormBwdRefIdeal.τ).loc Cert.InNormBwdRefIdeal.main_arg4))).2.2.2.2 = (fun _ => 1#1)

def Pre_MemAttnBwdB (m : (ℓ : Loc Cert.MemAttnBwdB.nD Cert.MemAttnBwdB.τ Cert.MemAttnBwdB.sig) → Buf (Elt Bits) ℓ) : Prop :=
  True

def Pre_MemAttnBwdBIdeal (m : (ℓ : Loc Cert.MemAttnBwdBIdeal.nD Cert.MemAttnBwdBIdeal.τ Cert.MemAttnBwdBIdeal.sig) → Buf (Elt Ideal) ℓ) : Prop :=
  True

def Pre_MemAttnBwdBIdeal_mem_attn_bwd_b_finite [hPre_mem_attn_bwd_b_finite : Cert.Pre_mem_attn_bwd_b_finite.Facts] (m : (ℓ : Loc Cert.MemAttnBwdBIdeal.nD Cert.MemAttnBwdBIdeal.τ Cert.MemAttnBwdBIdeal.sig) → Buf (Elt Ideal) ℓ) : Prop :=
  ∀ c : Dev Cert.MemAttnBwdBIdeal.nD,
    (Cert.Pre_mem_attn_bwd_b_finite.fn (F := Ideal) (m ((c.tc : Thread Cert.MemAttnBwdBIdeal.nD Cert.MemAttnBwdBIdeal.τ).loc Cert.MemAttnBwdBIdeal.main_arg0)) (m ((c.tc : Thread Cert.MemAttnBwdBIdeal.nD Cert.MemAttnBwdBIdeal.τ).loc Cert.MemAttnBwdBIdeal.main_arg1)) (m ((c.tc : Thread Cert.MemAttnBwdBIdeal.nD Cert.MemAttnBwdBIdeal.τ).loc Cert.MemAttnBwdBIdeal.main_arg2))).1 = (fun _ => 1#1)
    ∧ (Cert.Pre_mem_attn_bwd_b_finite.fn (F := Ideal) (m ((c.tc : Thread Cert.MemAttnBwdBIdeal.nD Cert.MemAttnBwdBIdeal.τ).loc Cert.MemAttnBwdBIdeal.main_arg0)) (m ((c.tc : Thread Cert.MemAttnBwdBIdeal.nD Cert.MemAttnBwdBIdeal.τ).loc Cert.MemAttnBwdBIdeal.main_arg1)) (m ((c.tc : Thread Cert.MemAttnBwdBIdeal.nD Cert.MemAttnBwdBIdeal.τ).loc Cert.MemAttnBwdBIdeal.main_arg2))).2.1 = (fun _ => 1#1)
    ∧ (Cert.Pre_mem_attn_bwd_b_finite.fn (F := Ideal) (m ((c.tc : Thread Cert.MemAttnBwdBIdeal.nD Cert.MemAttnBwdBIdeal.τ).loc Cert.MemAttnBwdBIdeal.main_arg0)) (m ((c.tc : Thread Cert.MemAttnBwdBIdeal.nD Cert.MemAttnBwdBIdeal.τ).loc Cert.MemAttnBwdBIdeal.main_arg1)) (m ((c.tc : Thread Cert.MemAttnBwdBIdeal.nD Cert.MemAttnBwdBIdeal.τ).loc Cert.MemAttnBwdBIdeal.main_arg2))).2.2 = (fun _ => 1#1)

def Pre_MemAttnBwdBRefIdeal (m : (ℓ : Loc Cert.MemAttnBwdBRefIdeal.nD Cert.MemAttnBwdBRefIdeal.τ Cert.MemAttnBwdBRefIdeal.sig) → Buf (Elt Ideal) ℓ) : Prop :=
  True

def Pre_MemAttnBwdBRefIdeal_mem_attn_bwd_b_finite [hPre_mem_attn_bwd_b_finite : Cert.Pre_mem_attn_bwd_b_finite.Facts] (m : (ℓ : Loc Cert.MemAttnBwdBRefIdeal.nD Cert.MemAttnBwdBRefIdeal.τ Cert.MemAttnBwdBRefIdeal.sig) → Buf (Elt Ideal) ℓ) : Prop :=
  ∀ c : Dev Cert.MemAttnBwdBRefIdeal.nD,
    (Cert.Pre_mem_attn_bwd_b_finite.fn (F := Ideal) (m ((c.tc : Thread Cert.MemAttnBwdBRefIdeal.nD Cert.MemAttnBwdBRefIdeal.τ).loc Cert.MemAttnBwdBRefIdeal.main_arg0)) (m ((c.tc : Thread Cert.MemAttnBwdBRefIdeal.nD Cert.MemAttnBwdBRefIdeal.τ).loc Cert.MemAttnBwdBRefIdeal.main_arg1)) (m ((c.tc : Thread Cert.MemAttnBwdBRefIdeal.nD Cert.MemAttnBwdBRefIdeal.τ).loc Cert.MemAttnBwdBRefIdeal.main_arg2))).1 = (fun _ => 1#1)
    ∧ (Cert.Pre_mem_attn_bwd_b_finite.fn (F := Ideal) (m ((c.tc : Thread Cert.MemAttnBwdBRefIdeal.nD Cert.MemAttnBwdBRefIdeal.τ).loc Cert.MemAttnBwdBRefIdeal.main_arg0)) (m ((c.tc : Thread Cert.MemAttnBwdBRefIdeal.nD Cert.MemAttnBwdBRefIdeal.τ).loc Cert.MemAttnBwdBRefIdeal.main_arg1)) (m ((c.tc : Thread Cert.MemAttnBwdBRefIdeal.nD Cert.MemAttnBwdBRefIdeal.τ).loc Cert.MemAttnBwdBRefIdeal.main_arg2))).2.1 = (fun _ => 1#1)
    ∧ (Cert.Pre_mem_attn_bwd_b_finite.fn (F := Ideal) (m ((c.tc : Thread Cert.MemAttnBwdBRefIdeal.nD Cert.MemAttnBwdBRefIdeal.τ).loc Cert.MemAttnBwdBRefIdeal.main_arg0)) (m ((c.tc : Thread Cert.MemAttnBwdBRefIdeal.nD Cert.MemAttnBwdBRefIdeal.τ).loc Cert.MemAttnBwdBRefIdeal.main_arg1)) (m ((c.tc : Thread Cert.MemAttnBwdBRefIdeal.nD Cert.MemAttnBwdBRefIdeal.τ).loc Cert.MemAttnBwdBRefIdeal.main_arg2))).2.2 = (fun _ => 1#1)

def Pre_MemAttnFwd (m : (ℓ : Loc Cert.MemAttnFwd.nD Cert.MemAttnFwd.τ Cert.MemAttnFwd.sig) → Buf (Elt Bits) ℓ) : Prop :=
  True

def Pre_MemAttnFwdIdeal (m : (ℓ : Loc Cert.MemAttnFwdIdeal.nD Cert.MemAttnFwdIdeal.τ Cert.MemAttnFwdIdeal.sig) → Buf (Elt Ideal) ℓ) : Prop :=
  True

def Pre_MemAttnFwdRefIdeal (m : (ℓ : Loc Cert.MemAttnFwdRefIdeal.nD Cert.MemAttnFwdRefIdeal.τ Cert.MemAttnFwdRefIdeal.sig) → Buf (Elt Ideal) ℓ) : Prop :=
  True

def Pre_MemAttnFwdB (m : (ℓ : Loc Cert.MemAttnFwdB.nD Cert.MemAttnFwdB.τ Cert.MemAttnFwdB.sig) → Buf (Elt Bits) ℓ) : Prop :=
  True

def Pre_MemAttnFwdBIdeal (m : (ℓ : Loc Cert.MemAttnFwdBIdeal.nD Cert.MemAttnFwdBIdeal.τ Cert.MemAttnFwdBIdeal.sig) → Buf (Elt Ideal) ℓ) : Prop :=
  True

def Pre_MemAttnFwdBRefIdeal (m : (ℓ : Loc Cert.MemAttnFwdBRefIdeal.nD Cert.MemAttnFwdBRefIdeal.τ Cert.MemAttnFwdBRefIdeal.sig) → Buf (Elt Ideal) ℓ) : Prop :=
  True

def Pre_GateFwd (m : (ℓ : Loc Cert.GateFwd.nD Cert.GateFwd.τ Cert.GateFwd.sig) → Buf (Elt Bits) ℓ) : Prop :=
  True

def Pre_GateFwdIdeal (m : (ℓ : Loc Cert.GateFwdIdeal.nD Cert.GateFwdIdeal.τ Cert.GateFwdIdeal.sig) → Buf (Elt Ideal) ℓ) : Prop :=
  True

def Pre_GateFwdRefIdeal (m : (ℓ : Loc Cert.GateFwdRefIdeal.nD Cert.GateFwdRefIdeal.τ Cert.GateFwdRefIdeal.sig) → Buf (Elt Ideal) ℓ) : Prop :=
  True

def Pre_NormFwd (m : (ℓ : Loc Cert.NormFwd.nD Cert.NormFwd.τ Cert.NormFwd.sig) → Buf (Elt Bits) ℓ) : Prop :=
  True

def Pre_NormFwdIdeal (m : (ℓ : Loc Cert.NormFwdIdeal.nD Cert.NormFwdIdeal.τ Cert.NormFwdIdeal.sig) → Buf (Elt Ideal) ℓ) : Prop :=
  True

def Pre_NormFwdRefIdeal (m : (ℓ : Loc Cert.NormFwdRefIdeal.nD Cert.NormFwdRefIdeal.τ Cert.NormFwdRefIdeal.sig) → Buf (Elt Ideal) ℓ) : Prop :=
  True

def Pre_NormsFwd (m : (ℓ : Loc Cert.NormsFwd.nD Cert.NormsFwd.τ Cert.NormsFwd.sig) → Buf (Elt Bits) ℓ) : Prop :=
  True

def Pre_NormsFwdIdeal (m : (ℓ : Loc Cert.NormsFwdIdeal.nD Cert.NormsFwdIdeal.τ Cert.NormsFwdIdeal.sig) → Buf (Elt Ideal) ℓ) : Prop :=
  True

def Pre_NormsFwdRefIdeal (m : (ℓ : Loc Cert.NormsFwdRefIdeal.nD Cert.NormsFwdRefIdeal.τ Cert.NormsFwdRefIdeal.sig) → Buf (Elt Ideal) ℓ) : Prop :=
  True

def Pre_MemNormFwd (m : (ℓ : Loc Cert.MemNormFwd.nD Cert.MemNormFwd.τ Cert.MemNormFwd.sig) → Buf (Elt Bits) ℓ) : Prop :=
  True

def Pre_MemNormFwdIdeal (m : (ℓ : Loc Cert.MemNormFwdIdeal.nD Cert.MemNormFwdIdeal.τ Cert.MemNormFwdIdeal.sig) → Buf (Elt Ideal) ℓ) : Prop :=
  True

def Pre_MemNormFwdRefIdeal (m : (ℓ : Loc Cert.MemNormFwdRefIdeal.nD Cert.MemNormFwdRefIdeal.τ Cert.MemNormFwdRefIdeal.sig) → Buf (Elt Ideal) ℓ) : Prop :=
  True

def Pre_ScaleFwd (m : (ℓ : Loc Cert.ScaleFwd.nD Cert.ScaleFwd.τ Cert.ScaleFwd.sig) → Buf (Elt Bits) ℓ) : Prop :=
  True

def Pre_ScaleFwdIdeal (m : (ℓ : Loc Cert.ScaleFwdIdeal.nD Cert.ScaleFwdIdeal.τ Cert.ScaleFwdIdeal.sig) → Buf (Elt Ideal) ℓ) : Prop :=
  True

def Pre_ScaleFwdRefIdeal (m : (ℓ : Loc Cert.ScaleFwdRefIdeal.nD Cert.ScaleFwdRefIdeal.τ Cert.ScaleFwdRefIdeal.sig) → Buf (Elt Ideal) ℓ) : Prop :=
  True

def Pre_PoolFwd (m : (ℓ : Loc Cert.PoolFwd.nD Cert.PoolFwd.τ Cert.PoolFwd.sig) → Buf (Elt Bits) ℓ) : Prop :=
  True

def Pre_PoolFwdIdeal (m : (ℓ : Loc Cert.PoolFwdIdeal.nD Cert.PoolFwdIdeal.τ Cert.PoolFwdIdeal.sig) → Buf (Elt Ideal) ℓ) : Prop :=
  True

def Pre_PoolFwdIdeal_pool_fwd_finite [hPre_pool_fwd_finite : Cert.Pre_pool_fwd_finite.Facts] (m : (ℓ : Loc Cert.PoolFwdIdeal.nD Cert.PoolFwdIdeal.τ Cert.PoolFwdIdeal.sig) → Buf (Elt Ideal) ℓ) : Prop :=
  ∀ c : Dev Cert.PoolFwdIdeal.nD,
    (Cert.Pre_pool_fwd_finite.fn (F := Ideal) (m ((c.tc : Thread Cert.PoolFwdIdeal.nD Cert.PoolFwdIdeal.τ).loc Cert.PoolFwdIdeal.main_arg0))) = (fun _ => 1#1)

def Pre_PoolFwdRefIdeal (m : (ℓ : Loc Cert.PoolFwdRefIdeal.nD Cert.PoolFwdRefIdeal.τ Cert.PoolFwdRefIdeal.sig) → Buf (Elt Ideal) ℓ) : Prop :=
  True

def Pre_PoolFwdRefIdeal_pool_fwd_finite [hPre_pool_fwd_finite : Cert.Pre_pool_fwd_finite.Facts] (m : (ℓ : Loc Cert.PoolFwdRefIdeal.nD Cert.PoolFwdRefIdeal.τ Cert.PoolFwdRefIdeal.sig) → Buf (Elt Ideal) ℓ) : Prop :=
  ∀ c : Dev Cert.PoolFwdRefIdeal.nD,
    (Cert.Pre_pool_fwd_finite.fn (F := Ideal) (m ((c.tc : Thread Cert.PoolFwdRefIdeal.nD Cert.PoolFwdRefIdeal.τ).loc Cert.PoolFwdRefIdeal.main_arg0))) = (fun _ => 1#1)

def Pre_GuDw (m : (ℓ : Loc Cert.GuDw.nD Cert.GuDw.τ Cert.GuDw.sig) → Buf (Elt Bits) ℓ) : Prop :=
  True

def Pre_GuDwIdeal (m : (ℓ : Loc Cert.GuDwIdeal.nD Cert.GuDwIdeal.τ Cert.GuDwIdeal.sig) → Buf (Elt Ideal) ℓ) : Prop :=
  True

def Pre_GuDwRefIdeal (m : (ℓ : Loc Cert.GuDwRefIdeal.nD Cert.GuDwRefIdeal.τ Cert.GuDwRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamKv (m : (ℓ : Loc Cert.AdamKv.nD Cert.AdamKv.τ Cert.AdamKv.sig) → Buf (Elt Bits) ℓ) : Prop :=
  True

def Pre_AdamKvIdeal (m : (ℓ : Loc Cert.AdamKvIdeal.nD Cert.AdamKvIdeal.τ Cert.AdamKvIdeal.sig) → Buf (Elt Ideal) ℓ) : Prop :=
  True

def Pre_AdamKvRefIdeal (m : (ℓ : Loc Cert.AdamKvRefIdeal.nD Cert.AdamKvRefIdeal.τ Cert.AdamKvRefIdeal.sig) → Buf (Elt Ideal) ℓ) : Prop :=
  True

def Pre_AdamMem (m : (ℓ : Loc Cert.AdamMem.nD Cert.AdamMem.τ Cert.AdamMem.sig) → Buf (Elt Bits) ℓ) : Prop :=
  True

def Pre_AdamMemIdeal (m : (ℓ : Loc Cert.AdamMemIdeal.nD Cert.AdamMemIdeal.τ Cert.AdamMemIdeal.sig) → Buf (Elt Ideal) ℓ) : Prop :=
  True

def Pre_AdamMemRefIdeal (m : (ℓ : Loc Cert.AdamMemRefIdeal.nD Cert.AdamMemRefIdeal.τ Cert.AdamMemRefIdeal.sig) → Buf (Elt Ideal) ℓ) : Prop :=
  True

def Pre_AdamGu (m : (ℓ : Loc Cert.AdamGu.nD Cert.AdamGu.τ Cert.AdamGu.sig) → Buf (Elt Bits) ℓ) : Prop :=
  True

def Pre_AdamGuIdeal (m : (ℓ : Loc Cert.AdamGuIdeal.nD Cert.AdamGuIdeal.τ Cert.AdamGuIdeal.sig) → Buf (Elt Ideal) ℓ) : Prop :=
  True

def Pre_AdamGuRefIdeal (m : (ℓ : Loc Cert.AdamGuRefIdeal.nD Cert.AdamGuRefIdeal.τ Cert.AdamGuRefIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownRefIdeal (m : (ℓ : Loc Cert.AdamDownRefIdeal.nD Cert.AdamDownRefIdeal.τ Cert.AdamDownRefIdeal.sig) → Buf (Elt Ideal) ℓ) : Prop :=
  True

def quiescent_PoolBwd [hPoolBwd : Cert.PoolBwd.Facts] : Prop :=
  ∀ (m : (ℓ : Loc Cert.PoolBwd.nD Cert.PoolBwd.τ Cert.PoolBwd.sig) → Buf (Elt Bits) ℓ) (g : Dev Cert.PoolBwd.nD → PrngReg), Pre_PoolBwd m →
    θ_run (Cert.PoolBwd.defs (F := Bits)) (onTc (τ := Cert.PoolBwd.τ) (Cert.PoolBwd.main (F := Bits))) ⟨m, fun _ => 0, g⟩ (fun r => (∀ c : Dev Cert.PoolBwd.nD,
      r.2.mem ((c.tc : Thread Cert.PoolBwd.nD Cert.PoolBwd.τ).loc Cert.PoolBwd.main_arg0) = m ((c.tc : Thread Cert.PoolBwd.nD Cert.PoolBwd.τ).loc Cert.PoolBwd.main_arg0))
      ∧ r.2.sem = fun _ => 0)

def quiescent_PoolBwdIdeal [hPoolBwdIdeal : Cert.PoolBwdIdeal.Facts] : Prop :=
  ∀ (m : (ℓ : Loc Cert.PoolBwdIdeal.nD Cert.PoolBwdIdeal.τ Cert.PoolBwdIdeal.sig) → Buf (Elt Ideal) ℓ) (g : Dev Cert.PoolBwdIdeal.nD → PrngReg), Pre_PoolBwdIdeal m →
    θ_run (Cert.PoolBwdIdeal.defs (F := Ideal)) (onTc (τ := Cert.PoolBwdIdeal.τ) (Cert.PoolBwdIdeal.main (F := Ideal))) ⟨m, fun _ => 0, g⟩ (fun r => (∀ c : Dev Cert.PoolBwdIdeal.nD,
      r.2.mem ((c.tc : Thread Cert.PoolBwdIdeal.nD Cert.PoolBwdIdeal.τ).loc Cert.PoolBwdIdeal.main_arg0) = m ((c.tc : Thread Cert.PoolBwdIdeal.nD Cert.PoolBwdIdeal.τ).loc Cert.PoolBwdIdeal.main_arg0))
      ∧ r.2.sem = fun _ => 0)

def quiescent_PoolBwdIdeal_pre_pool_bwd_finite [hPoolBwdIdeal : Cert.PoolBwdIdeal.Facts] [hPre_pool_bwd_finite : Cert.Pre_pool_bwd_finite.Facts] : Prop :=
  ∀ (m : (ℓ : Loc Cert.PoolBwdIdeal.nD Cert.PoolBwdIdeal.τ Cert.PoolBwdIdeal.sig) → Buf (Elt Ideal) ℓ) (g : Dev Cert.PoolBwdIdeal.nD → PrngReg), Pre_PoolBwdIdeal_pool_bwd_finite m →
    θ_run (Cert.PoolBwdIdeal.defs (F := Ideal)) (onTc (τ := Cert.PoolBwdIdeal.τ) (Cert.PoolBwdIdeal.main (F := Ideal))) ⟨m, fun _ => 0, g⟩ (fun r => (∀ c : Dev Cert.PoolBwdIdeal.nD,
      r.2.mem ((c.tc : Thread Cert.PoolBwdIdeal.nD Cert.PoolBwdIdeal.τ).loc Cert.PoolBwdIdeal.main_arg0) = m ((c.tc : Thread Cert.PoolBwdIdeal.nD Cert.PoolBwdIdeal.τ).loc Cert.PoolBwdIdeal.main_arg0))
      ∧ r.2.sem = fun _ => 0)

def quiescent_PoolBwdRefIdeal [hPoolBwdRefIdeal : Cert.PoolBwdRefIdeal.Facts] : Prop :=
  ∀ (m : (ℓ : Loc Cert.PoolBwdRefIdeal.nD Cert.PoolBwdRefIdeal.τ Cert.PoolBwdRefIdeal.sig) → Buf (Elt Ideal) ℓ) (g : Dev Cert.PoolBwdRefIdeal.nD → PrngReg), Pre_PoolBwdRefIdeal m →
    θ_run (Cert.PoolBwdRefIdeal.defs (F := Ideal)) (onTc (τ := Cert.PoolBwdRefIdeal.τ) (Cert.PoolBwdRefIdeal.main (F := Ideal))) ⟨m, fun _ => 0, g⟩ (fun r => (∀ c : Dev Cert.PoolBwdRefIdeal.nD,
      r.2.mem ((c.tc : Thread Cert.PoolBwdRefIdeal.nD Cert.PoolBwdRefIdeal.τ).loc Cert.PoolBwdRefIdeal.main_arg0) = m ((c.tc : Thread Cert.PoolBwdRefIdeal.nD Cert.PoolBwdRefIdeal.τ).loc Cert.PoolBwdRefIdeal.main_arg0))
      ∧ r.2.sem = fun _ => 0)

def quiescent_PoolBwdRefIdeal_pre_pool_bwd_finite [hPoolBwdRefIdeal : Cert.PoolBwdRefIdeal.Facts] [hPre_pool_bwd_finite : Cert.Pre_pool_bwd_finite.Facts] : Prop :=
  ∀ (m : (ℓ : Loc Cert.PoolBwdRefIdeal.nD Cert.PoolBwdRefIdeal.τ Cert.PoolBwdRefIdeal.sig) → Buf (Elt Ideal) ℓ) (g : Dev Cert.PoolBwdRefIdeal.nD → PrngReg), Pre_PoolBwdRefIdeal_pool_bwd_finite m →
    θ_run (Cert.PoolBwdRefIdeal.defs (F := Ideal)) (onTc (τ := Cert.PoolBwdRefIdeal.τ) (Cert.PoolBwdRefIdeal.main (F := Ideal))) ⟨m, fun _ => 0, g⟩ (fun r => (∀ c : Dev Cert.PoolBwdRefIdeal.nD,
      r.2.mem ((c.tc : Thread Cert.PoolBwdRefIdeal.nD Cert.PoolBwdRefIdeal.τ).loc Cert.PoolBwdRefIdeal.main_arg0) = m ((c.tc : Thread Cert.PoolBwdRefIdeal.nD Cert.PoolBwdRefIdeal.τ).loc Cert.PoolBwdRefIdeal.main_arg0))
      ∧ r.2.sem = fun _ => 0)

def quiescent_StickBwd [hStickBwd : Cert.StickBwd.Facts] : Prop :=
  ∀ (m : (ℓ : Loc Cert.StickBwd.nD Cert.StickBwd.τ Cert.StickBwd.sig) → Buf (Elt Bits) ℓ) (g : Dev Cert.StickBwd.nD → PrngReg), Pre_StickBwd m →
    θ_run (Cert.StickBwd.defs (F := Bits)) (onTc (τ := Cert.StickBwd.τ) (Cert.StickBwd.main (F := Bits))) ⟨m, fun _ => 0, g⟩ (fun r => (∀ c : Dev Cert.StickBwd.nD,
      r.2.mem ((c.tc : Thread Cert.StickBwd.nD Cert.StickBwd.τ).loc Cert.StickBwd.main_arg0) = m ((c.tc : Thread Cert.StickBwd.nD Cert.StickBwd.τ).loc Cert.StickBwd.main_arg0)
      ∧ r.2.mem ((c.tc : Thread Cert.StickBwd.nD Cert.StickBwd.τ).loc Cert.StickBwd.main_arg1) = m ((c.tc : Thread Cert.StickBwd.nD Cert.StickBwd.τ).loc Cert.StickBwd.main_arg1)
      ∧ r.2.mem ((c.tc : Thread Cert.StickBwd.nD Cert.StickBwd.τ).loc Cert.StickBwd.main_arg2) = m ((c.tc : Thread Cert.StickBwd.nD Cert.StickBwd.τ).loc Cert.StickBwd.main_arg2))
      ∧ r.2.sem = fun _ => 0)

def quiescent_StickBwdIdeal [hStickBwdIdeal : Cert.StickBwdIdeal.Facts] : Prop :=
  ∀ (m : (ℓ : Loc Cert.StickBwdIdeal.nD Cert.StickBwdIdeal.τ Cert.StickBwdIdeal.sig) → Buf (Elt Ideal) ℓ) (g : Dev Cert.StickBwdIdeal.nD → PrngReg), Pre_StickBwdIdeal m →
    θ_run (Cert.StickBwdIdeal.defs (F := Ideal)) (onTc (τ := Cert.StickBwdIdeal.τ) (Cert.StickBwdIdeal.main (F := Ideal))) ⟨m, fun _ => 0, g⟩ (fun r => (∀ c : Dev Cert.StickBwdIdeal.nD,
      r.2.mem ((c.tc : Thread Cert.StickBwdIdeal.nD Cert.StickBwdIdeal.τ).loc Cert.StickBwdIdeal.main_arg0) = m ((c.tc : Thread Cert.StickBwdIdeal.nD Cert.StickBwdIdeal.τ).loc Cert.StickBwdIdeal.main_arg0)
      ∧ r.2.mem ((c.tc : Thread Cert.StickBwdIdeal.nD Cert.StickBwdIdeal.τ).loc Cert.StickBwdIdeal.main_arg1) = m ((c.tc : Thread Cert.StickBwdIdeal.nD Cert.StickBwdIdeal.τ).loc Cert.StickBwdIdeal.main_arg1)
      ∧ r.2.mem ((c.tc : Thread Cert.StickBwdIdeal.nD Cert.StickBwdIdeal.τ).loc Cert.StickBwdIdeal.main_arg2) = m ((c.tc : Thread Cert.StickBwdIdeal.nD Cert.StickBwdIdeal.τ).loc Cert.StickBwdIdeal.main_arg2))
      ∧ r.2.sem = fun _ => 0)

def quiescent_StickBwdIdeal_pre_stick_bwd_finite [hStickBwdIdeal : Cert.StickBwdIdeal.Facts] [hPre_stick_bwd_finite : Cert.Pre_stick_bwd_finite.Facts] : Prop :=
  ∀ (m : (ℓ : Loc Cert.StickBwdIdeal.nD Cert.StickBwdIdeal.τ Cert.StickBwdIdeal.sig) → Buf (Elt Ideal) ℓ) (g : Dev Cert.StickBwdIdeal.nD → PrngReg), Pre_StickBwdIdeal_stick_bwd_finite m →
    θ_run (Cert.StickBwdIdeal.defs (F := Ideal)) (onTc (τ := Cert.StickBwdIdeal.τ) (Cert.StickBwdIdeal.main (F := Ideal))) ⟨m, fun _ => 0, g⟩ (fun r => (∀ c : Dev Cert.StickBwdIdeal.nD,
      r.2.mem ((c.tc : Thread Cert.StickBwdIdeal.nD Cert.StickBwdIdeal.τ).loc Cert.StickBwdIdeal.main_arg0) = m ((c.tc : Thread Cert.StickBwdIdeal.nD Cert.StickBwdIdeal.τ).loc Cert.StickBwdIdeal.main_arg0)
      ∧ r.2.mem ((c.tc : Thread Cert.StickBwdIdeal.nD Cert.StickBwdIdeal.τ).loc Cert.StickBwdIdeal.main_arg1) = m ((c.tc : Thread Cert.StickBwdIdeal.nD Cert.StickBwdIdeal.τ).loc Cert.StickBwdIdeal.main_arg1)
      ∧ r.2.mem ((c.tc : Thread Cert.StickBwdIdeal.nD Cert.StickBwdIdeal.τ).loc Cert.StickBwdIdeal.main_arg2) = m ((c.tc : Thread Cert.StickBwdIdeal.nD Cert.StickBwdIdeal.τ).loc Cert.StickBwdIdeal.main_arg2))
      ∧ r.2.sem = fun _ => 0)

def quiescent_StickBwdRefIdeal [hStickBwdRefIdeal : Cert.StickBwdRefIdeal.Facts] : Prop :=
  ∀ (m : (ℓ : Loc Cert.StickBwdRefIdeal.nD Cert.StickBwdRefIdeal.τ Cert.StickBwdRefIdeal.sig) → Buf (Elt Ideal) ℓ) (g : Dev Cert.StickBwdRefIdeal.nD → PrngReg), Pre_StickBwdRefIdeal m →
    θ_run (Cert.StickBwdRefIdeal.defs (F := Ideal)) (onTc (τ := Cert.StickBwdRefIdeal.τ) (Cert.StickBwdRefIdeal.main (F := Ideal))) ⟨m, fun _ => 0, g⟩ (fun r => (∀ c : Dev Cert.StickBwdRefIdeal.nD,
      r.2.mem ((c.tc : Thread Cert.StickBwdRefIdeal.nD Cert.StickBwdRefIdeal.τ).loc Cert.StickBwdRefIdeal.main_arg0) = m ((c.tc : Thread Cert.StickBwdRefIdeal.nD Cert.StickBwdRefIdeal.τ).loc Cert.StickBwdRefIdeal.main_arg0)
      ∧ r.2.mem ((c.tc : Thread Cert.StickBwdRefIdeal.nD Cert.StickBwdRefIdeal.τ).loc Cert.StickBwdRefIdeal.main_arg1) = m ((c.tc : Thread Cert.StickBwdRefIdeal.nD Cert.StickBwdRefIdeal.τ).loc Cert.StickBwdRefIdeal.main_arg1)
      ∧ r.2.mem ((c.tc : Thread Cert.StickBwdRefIdeal.nD Cert.StickBwdRefIdeal.τ).loc Cert.StickBwdRefIdeal.main_arg2) = m ((c.tc : Thread Cert.StickBwdRefIdeal.nD Cert.StickBwdRefIdeal.τ).loc Cert.StickBwdRefIdeal.main_arg2))
      ∧ r.2.sem = fun _ => 0)

def quiescent_StickBwdRefIdeal_pre_stick_bwd_finite [hStickBwdRefIdeal : Cert.StickBwdRefIdeal.Facts] [hPre_stick_bwd_finite : Cert.Pre_stick_bwd_finite.Facts] : Prop :=
  ∀ (m : (ℓ : Loc Cert.StickBwdRefIdeal.nD Cert.StickBwdRefIdeal.τ Cert.StickBwdRefIdeal.sig) → Buf (Elt Ideal) ℓ) (g : Dev Cert.StickBwdRefIdeal.nD → PrngReg), Pre_StickBwdRefIdeal_stick_bwd_finite m →
    θ_run (Cert.StickBwdRefIdeal.defs (F := Ideal)) (onTc (τ := Cert.StickBwdRefIdeal.τ) (Cert.StickBwdRefIdeal.main (F := Ideal))) ⟨m, fun _ => 0, g⟩ (fun r => (∀ c : Dev Cert.StickBwdRefIdeal.nD,
      r.2.mem ((c.tc : Thread Cert.StickBwdRefIdeal.nD Cert.StickBwdRefIdeal.τ).loc Cert.StickBwdRefIdeal.main_arg0) = m ((c.tc : Thread Cert.StickBwdRefIdeal.nD Cert.StickBwdRefIdeal.τ).loc Cert.StickBwdRefIdeal.main_arg0)
      ∧ r.2.mem ((c.tc : Thread Cert.StickBwdRefIdeal.nD Cert.StickBwdRefIdeal.τ).loc Cert.StickBwdRefIdeal.main_arg1) = m ((c.tc : Thread Cert.StickBwdRefIdeal.nD Cert.StickBwdRefIdeal.τ).loc Cert.StickBwdRefIdeal.main_arg1)
      ∧ r.2.mem ((c.tc : Thread Cert.StickBwdRefIdeal.nD Cert.StickBwdRefIdeal.τ).loc Cert.StickBwdRefIdeal.main_arg2) = m ((c.tc : Thread Cert.StickBwdRefIdeal.nD Cert.StickBwdRefIdeal.τ).loc Cert.StickBwdRefIdeal.main_arg2))
      ∧ r.2.sem = fun _ => 0)

def quiescent_ScaleBwd [hScaleBwd : Cert.ScaleBwd.Facts] : Prop :=
  ∀ (m : (ℓ : Loc Cert.ScaleBwd.nD Cert.ScaleBwd.τ Cert.ScaleBwd.sig) → Buf (Elt Bits) ℓ) (g : Dev Cert.ScaleBwd.nD → PrngReg), Pre_ScaleBwd m →
    θ_run (Cert.ScaleBwd.defs (F := Bits)) (onTc (τ := Cert.ScaleBwd.τ) (Cert.ScaleBwd.main (F := Bits))) ⟨m, fun _ => 0, g⟩ (fun r => (∀ c : Dev Cert.ScaleBwd.nD,
      r.2.mem ((c.tc : Thread Cert.ScaleBwd.nD Cert.ScaleBwd.τ).loc Cert.ScaleBwd.main_arg0) = m ((c.tc : Thread Cert.ScaleBwd.nD Cert.ScaleBwd.τ).loc Cert.ScaleBwd.main_arg0)
      ∧ r.2.mem ((c.tc : Thread Cert.ScaleBwd.nD Cert.ScaleBwd.τ).loc Cert.ScaleBwd.main_arg1) = m ((c.tc : Thread Cert.ScaleBwd.nD Cert.ScaleBwd.τ).loc Cert.ScaleBwd.main_arg1)
      ∧ r.2.mem ((c.tc : Thread Cert.ScaleBwd.nD Cert.ScaleBwd.τ).loc Cert.ScaleBwd.main_arg2) = m ((c.tc : Thread Cert.ScaleBwd.nD Cert.ScaleBwd.τ).loc Cert.ScaleBwd.main_arg2))
      ∧ r.2.sem = fun _ => 0)

def quiescent_ScaleBwdIdeal [hScaleBwdIdeal : Cert.ScaleBwdIdeal.Facts] : Prop :=
  ∀ (m : (ℓ : Loc Cert.ScaleBwdIdeal.nD Cert.ScaleBwdIdeal.τ Cert.ScaleBwdIdeal.sig) → Buf (Elt Ideal) ℓ) (g : Dev Cert.ScaleBwdIdeal.nD → PrngReg), Pre_ScaleBwdIdeal m →
    θ_run (Cert.ScaleBwdIdeal.defs (F := Ideal)) (onTc (τ := Cert.ScaleBwdIdeal.τ) (Cert.ScaleBwdIdeal.main (F := Ideal))) ⟨m, fun _ => 0, g⟩ (fun r => (∀ c : Dev Cert.ScaleBwdIdeal.nD,
      r.2.mem ((c.tc : Thread Cert.ScaleBwdIdeal.nD Cert.ScaleBwdIdeal.τ).loc Cert.ScaleBwdIdeal.main_arg0) = m ((c.tc : Thread Cert.ScaleBwdIdeal.nD Cert.ScaleBwdIdeal.τ).loc Cert.ScaleBwdIdeal.main_arg0)
      ∧ r.2.mem ((c.tc : Thread Cert.ScaleBwdIdeal.nD Cert.ScaleBwdIdeal.τ).loc Cert.ScaleBwdIdeal.main_arg1) = m ((c.tc : Thread Cert.ScaleBwdIdeal.nD Cert.ScaleBwdIdeal.τ).loc Cert.ScaleBwdIdeal.main_arg1)
      ∧ r.2.mem ((c.tc : Thread Cert.ScaleBwdIdeal.nD Cert.ScaleBwdIdeal.τ).loc Cert.ScaleBwdIdeal.main_arg2) = m ((c.tc : Thread Cert.ScaleBwdIdeal.nD Cert.ScaleBwdIdeal.τ).loc Cert.ScaleBwdIdeal.main_arg2))
      ∧ r.2.sem = fun _ => 0)

def quiescent_ScaleBwdRefIdeal [hScaleBwdRefIdeal : Cert.ScaleBwdRefIdeal.Facts] : Prop :=
  ∀ (m : (ℓ : Loc Cert.ScaleBwdRefIdeal.nD Cert.ScaleBwdRefIdeal.τ Cert.ScaleBwdRefIdeal.sig) → Buf (Elt Ideal) ℓ) (g : Dev Cert.ScaleBwdRefIdeal.nD → PrngReg), Pre_ScaleBwdRefIdeal m →
    θ_run (Cert.ScaleBwdRefIdeal.defs (F := Ideal)) (onTc (τ := Cert.ScaleBwdRefIdeal.τ) (Cert.ScaleBwdRefIdeal.main (F := Ideal))) ⟨m, fun _ => 0, g⟩ (fun r => (∀ c : Dev Cert.ScaleBwdRefIdeal.nD,
      r.2.mem ((c.tc : Thread Cert.ScaleBwdRefIdeal.nD Cert.ScaleBwdRefIdeal.τ).loc Cert.ScaleBwdRefIdeal.main_arg0) = m ((c.tc : Thread Cert.ScaleBwdRefIdeal.nD Cert.ScaleBwdRefIdeal.τ).loc Cert.ScaleBwdRefIdeal.main_arg0)
      ∧ r.2.mem ((c.tc : Thread Cert.ScaleBwdRefIdeal.nD Cert.ScaleBwdRefIdeal.τ).loc Cert.ScaleBwdRefIdeal.main_arg1) = m ((c.tc : Thread Cert.ScaleBwdRefIdeal.nD Cert.ScaleBwdRefIdeal.τ).loc Cert.ScaleBwdRefIdeal.main_arg1)
      ∧ r.2.mem ((c.tc : Thread Cert.ScaleBwdRefIdeal.nD Cert.ScaleBwdRefIdeal.τ).loc Cert.ScaleBwdRefIdeal.main_arg2) = m ((c.tc : Thread Cert.ScaleBwdRefIdeal.nD Cert.ScaleBwdRefIdeal.τ).loc Cert.ScaleBwdRefIdeal.main_arg2))
      ∧ r.2.sem = fun _ => 0)

def quiescent_SwigluBwd [hSwigluBwd : Cert.SwigluBwd.Facts] : Prop :=
  ∀ (m : (ℓ : Loc Cert.SwigluBwd.nD Cert.SwigluBwd.τ Cert.SwigluBwd.sig) → Buf (Elt Bits) ℓ) (g : Dev Cert.SwigluBwd.nD → PrngReg), Pre_SwigluBwd m →
    θ_run (Cert.SwigluBwd.defs (F := Bits)) (onTc (τ := Cert.SwigluBwd.τ) (Cert.SwigluBwd.main (F := Bits))) ⟨m, fun _ => 0, g⟩ (fun r => (∀ c : Dev Cert.SwigluBwd.nD,
      r.2.mem ((c.tc : Thread Cert.SwigluBwd.nD Cert.SwigluBwd.τ).loc Cert.SwigluBwd.main_arg0) = m ((c.tc : Thread Cert.SwigluBwd.nD Cert.SwigluBwd.τ).loc Cert.SwigluBwd.main_arg0)
      ∧ r.2.mem ((c.tc : Thread Cert.SwigluBwd.nD Cert.SwigluBwd.τ).loc Cert.SwigluBwd.main_arg1) = m ((c.tc : Thread Cert.SwigluBwd.nD Cert.SwigluBwd.τ).loc Cert.SwigluBwd.main_arg1)
      ∧ r.2.mem ((c.tc : Thread Cert.SwigluBwd.nD Cert.SwigluBwd.τ).loc Cert.SwigluBwd.main_arg2) = m ((c.tc : Thread Cert.SwigluBwd.nD Cert.SwigluBwd.τ).loc Cert.SwigluBwd.main_arg2)
      ∧ r.2.mem ((c.tc : Thread Cert.SwigluBwd.nD Cert.SwigluBwd.τ).loc Cert.SwigluBwd.main_arg3) = m ((c.tc : Thread Cert.SwigluBwd.nD Cert.SwigluBwd.τ).loc Cert.SwigluBwd.main_arg3))
      ∧ r.2.sem = fun _ => 0)

def quiescent_SwigluBwdIdeal [hSwigluBwdIdeal : Cert.SwigluBwdIdeal.Facts] : Prop :=
  ∀ (m : (ℓ : Loc Cert.SwigluBwdIdeal.nD Cert.SwigluBwdIdeal.τ Cert.SwigluBwdIdeal.sig) → Buf (Elt Ideal) ℓ) (g : Dev Cert.SwigluBwdIdeal.nD → PrngReg), Pre_SwigluBwdIdeal m →
    θ_run (Cert.SwigluBwdIdeal.defs (F := Ideal)) (onTc (τ := Cert.SwigluBwdIdeal.τ) (Cert.SwigluBwdIdeal.main (F := Ideal))) ⟨m, fun _ => 0, g⟩ (fun r => (∀ c : Dev Cert.SwigluBwdIdeal.nD,
      r.2.mem ((c.tc : Thread Cert.SwigluBwdIdeal.nD Cert.SwigluBwdIdeal.τ).loc Cert.SwigluBwdIdeal.main_arg0) = m ((c.tc : Thread Cert.SwigluBwdIdeal.nD Cert.SwigluBwdIdeal.τ).loc Cert.SwigluBwdIdeal.main_arg0)
      ∧ r.2.mem ((c.tc : Thread Cert.SwigluBwdIdeal.nD Cert.SwigluBwdIdeal.τ).loc Cert.SwigluBwdIdeal.main_arg1) = m ((c.tc : Thread Cert.SwigluBwdIdeal.nD Cert.SwigluBwdIdeal.τ).loc Cert.SwigluBwdIdeal.main_arg1)
      ∧ r.2.mem ((c.tc : Thread Cert.SwigluBwdIdeal.nD Cert.SwigluBwdIdeal.τ).loc Cert.SwigluBwdIdeal.main_arg2) = m ((c.tc : Thread Cert.SwigluBwdIdeal.nD Cert.SwigluBwdIdeal.τ).loc Cert.SwigluBwdIdeal.main_arg2)
      ∧ r.2.mem ((c.tc : Thread Cert.SwigluBwdIdeal.nD Cert.SwigluBwdIdeal.τ).loc Cert.SwigluBwdIdeal.main_arg3) = m ((c.tc : Thread Cert.SwigluBwdIdeal.nD Cert.SwigluBwdIdeal.τ).loc Cert.SwigluBwdIdeal.main_arg3))
      ∧ r.2.sem = fun _ => 0)

def quiescent_SwigluBwdIdeal_pre_swiglu_bwd_finite [hSwigluBwdIdeal : Cert.SwigluBwdIdeal.Facts] [hPre_swiglu_bwd_finite : Cert.Pre_swiglu_bwd_finite.Facts] : Prop :=
  ∀ (m : (ℓ : Loc Cert.SwigluBwdIdeal.nD Cert.SwigluBwdIdeal.τ Cert.SwigluBwdIdeal.sig) → Buf (Elt Ideal) ℓ) (g : Dev Cert.SwigluBwdIdeal.nD → PrngReg), Pre_SwigluBwdIdeal_swiglu_bwd_finite m →
    θ_run (Cert.SwigluBwdIdeal.defs (F := Ideal)) (onTc (τ := Cert.SwigluBwdIdeal.τ) (Cert.SwigluBwdIdeal.main (F := Ideal))) ⟨m, fun _ => 0, g⟩ (fun r => (∀ c : Dev Cert.SwigluBwdIdeal.nD,
      r.2.mem ((c.tc : Thread Cert.SwigluBwdIdeal.nD Cert.SwigluBwdIdeal.τ).loc Cert.SwigluBwdIdeal.main_arg0) = m ((c.tc : Thread Cert.SwigluBwdIdeal.nD Cert.SwigluBwdIdeal.τ).loc Cert.SwigluBwdIdeal.main_arg0)
      ∧ r.2.mem ((c.tc : Thread Cert.SwigluBwdIdeal.nD Cert.SwigluBwdIdeal.τ).loc Cert.SwigluBwdIdeal.main_arg1) = m ((c.tc : Thread Cert.SwigluBwdIdeal.nD Cert.SwigluBwdIdeal.τ).loc Cert.SwigluBwdIdeal.main_arg1)
      ∧ r.2.mem ((c.tc : Thread Cert.SwigluBwdIdeal.nD Cert.SwigluBwdIdeal.τ).loc Cert.SwigluBwdIdeal.main_arg2) = m ((c.tc : Thread Cert.SwigluBwdIdeal.nD Cert.SwigluBwdIdeal.τ).loc Cert.SwigluBwdIdeal.main_arg2)
      ∧ r.2.mem ((c.tc : Thread Cert.SwigluBwdIdeal.nD Cert.SwigluBwdIdeal.τ).loc Cert.SwigluBwdIdeal.main_arg3) = m ((c.tc : Thread Cert.SwigluBwdIdeal.nD Cert.SwigluBwdIdeal.τ).loc Cert.SwigluBwdIdeal.main_arg3))
      ∧ r.2.sem = fun _ => 0)

def quiescent_SwigluBwdRefIdeal [hSwigluBwdRefIdeal : Cert.SwigluBwdRefIdeal.Facts] : Prop :=
  ∀ (m : (ℓ : Loc Cert.SwigluBwdRefIdeal.nD Cert.SwigluBwdRefIdeal.τ Cert.SwigluBwdRefIdeal.sig) → Buf (Elt Ideal) ℓ) (g : Dev Cert.SwigluBwdRefIdeal.nD → PrngReg), Pre_SwigluBwdRefIdeal m →
    θ_run (Cert.SwigluBwdRefIdeal.defs (F := Ideal)) (onTc (τ := Cert.SwigluBwdRefIdeal.τ) (Cert.SwigluBwdRefIdeal.main (F := Ideal))) ⟨m, fun _ => 0, g⟩ (fun r => (∀ c : Dev Cert.SwigluBwdRefIdeal.nD,
      r.2.mem ((c.tc : Thread Cert.SwigluBwdRefIdeal.nD Cert.SwigluBwdRefIdeal.τ).loc Cert.SwigluBwdRefIdeal.main_arg0) = m ((c.tc : Thread Cert.SwigluBwdRefIdeal.nD Cert.SwigluBwdRefIdeal.τ).loc Cert.SwigluBwdRefIdeal.main_arg0)
      ∧ r.2.mem ((c.tc : Thread Cert.SwigluBwdRefIdeal.nD Cert.SwigluBwdRefIdeal.τ).loc Cert.SwigluBwdRefIdeal.main_arg1) = m ((c.tc : Thread Cert.SwigluBwdRefIdeal.nD Cert.SwigluBwdRefIdeal.τ).loc Cert.SwigluBwdRefIdeal.main_arg1)
      ∧ r.2.mem ((c.tc : Thread Cert.SwigluBwdRefIdeal.nD Cert.SwigluBwdRefIdeal.τ).loc Cert.SwigluBwdRefIdeal.main_arg2) = m ((c.tc : Thread Cert.SwigluBwdRefIdeal.nD Cert.SwigluBwdRefIdeal.τ).loc Cert.SwigluBwdRefIdeal.main_arg2)
      ∧ r.2.mem ((c.tc : Thread Cert.SwigluBwdRefIdeal.nD Cert.SwigluBwdRefIdeal.τ).loc Cert.SwigluBwdRefIdeal.main_arg3) = m ((c.tc : Thread Cert.SwigluBwdRefIdeal.nD Cert.SwigluBwdRefIdeal.τ).loc Cert.SwigluBwdRefIdeal.main_arg3))
      ∧ r.2.sem = fun _ => 0)

def quiescent_SwigluBwdRefIdeal_pre_swiglu_bwd_finite [hSwigluBwdRefIdeal : Cert.SwigluBwdRefIdeal.Facts] [hPre_swiglu_bwd_finite : Cert.Pre_swiglu_bwd_finite.Facts] : Prop :=
  ∀ (m : (ℓ : Loc Cert.SwigluBwdRefIdeal.nD Cert.SwigluBwdRefIdeal.τ Cert.SwigluBwdRefIdeal.sig) → Buf (Elt Ideal) ℓ) (g : Dev Cert.SwigluBwdRefIdeal.nD → PrngReg), Pre_SwigluBwdRefIdeal_swiglu_bwd_finite m →
    θ_run (Cert.SwigluBwdRefIdeal.defs (F := Ideal)) (onTc (τ := Cert.SwigluBwdRefIdeal.τ) (Cert.SwigluBwdRefIdeal.main (F := Ideal))) ⟨m, fun _ => 0, g⟩ (fun r => (∀ c : Dev Cert.SwigluBwdRefIdeal.nD,
      r.2.mem ((c.tc : Thread Cert.SwigluBwdRefIdeal.nD Cert.SwigluBwdRefIdeal.τ).loc Cert.SwigluBwdRefIdeal.main_arg0) = m ((c.tc : Thread Cert.SwigluBwdRefIdeal.nD Cert.SwigluBwdRefIdeal.τ).loc Cert.SwigluBwdRefIdeal.main_arg0)
      ∧ r.2.mem ((c.tc : Thread Cert.SwigluBwdRefIdeal.nD Cert.SwigluBwdRefIdeal.τ).loc Cert.SwigluBwdRefIdeal.main_arg1) = m ((c.tc : Thread Cert.SwigluBwdRefIdeal.nD Cert.SwigluBwdRefIdeal.τ).loc Cert.SwigluBwdRefIdeal.main_arg1)
      ∧ r.2.mem ((c.tc : Thread Cert.SwigluBwdRefIdeal.nD Cert.SwigluBwdRefIdeal.τ).loc Cert.SwigluBwdRefIdeal.main_arg2) = m ((c.tc : Thread Cert.SwigluBwdRefIdeal.nD Cert.SwigluBwdRefIdeal.τ).loc Cert.SwigluBwdRefIdeal.main_arg2)
      ∧ r.2.mem ((c.tc : Thread Cert.SwigluBwdRefIdeal.nD Cert.SwigluBwdRefIdeal.τ).loc Cert.SwigluBwdRefIdeal.main_arg3) = m ((c.tc : Thread Cert.SwigluBwdRefIdeal.nD Cert.SwigluBwdRefIdeal.τ).loc Cert.SwigluBwdRefIdeal.main_arg3))
      ∧ r.2.sem = fun _ => 0)

def quiescent_MemNormBwd [hMemNormBwd : Cert.MemNormBwd.Facts] : Prop :=
  ∀ (m : (ℓ : Loc Cert.MemNormBwd.nD Cert.MemNormBwd.τ Cert.MemNormBwd.sig) → Buf (Elt Bits) ℓ) (g : Dev Cert.MemNormBwd.nD → PrngReg), Pre_MemNormBwd m →
    θ_run (Cert.MemNormBwd.defs (F := Bits)) (onTc (τ := Cert.MemNormBwd.τ) (Cert.MemNormBwd.main (F := Bits))) ⟨m, fun _ => 0, g⟩ (fun r => (∀ c : Dev Cert.MemNormBwd.nD,
      r.2.mem ((c.tc : Thread Cert.MemNormBwd.nD Cert.MemNormBwd.τ).loc Cert.MemNormBwd.main_arg0) = m ((c.tc : Thread Cert.MemNormBwd.nD Cert.MemNormBwd.τ).loc Cert.MemNormBwd.main_arg0)
      ∧ r.2.mem ((c.tc : Thread Cert.MemNormBwd.nD Cert.MemNormBwd.τ).loc Cert.MemNormBwd.main_arg1) = m ((c.tc : Thread Cert.MemNormBwd.nD Cert.MemNormBwd.τ).loc Cert.MemNormBwd.main_arg1)
      ∧ r.2.mem ((c.tc : Thread Cert.MemNormBwd.nD Cert.MemNormBwd.τ).loc Cert.MemNormBwd.main_arg2) = m ((c.tc : Thread Cert.MemNormBwd.nD Cert.MemNormBwd.τ).loc Cert.MemNormBwd.main_arg2))
      ∧ r.2.sem = fun _ => 0)

def quiescent_MemNormBwdIdeal [hMemNormBwdIdeal : Cert.MemNormBwdIdeal.Facts] : Prop :=
  ∀ (m : (ℓ : Loc Cert.MemNormBwdIdeal.nD Cert.MemNormBwdIdeal.τ Cert.MemNormBwdIdeal.sig) → Buf (Elt Ideal) ℓ) (g : Dev Cert.MemNormBwdIdeal.nD → PrngReg), Pre_MemNormBwdIdeal m →
    θ_run (Cert.MemNormBwdIdeal.defs (F := Ideal)) (onTc (τ := Cert.MemNormBwdIdeal.τ) (Cert.MemNormBwdIdeal.main (F := Ideal))) ⟨m, fun _ => 0, g⟩ (fun r => (∀ c : Dev Cert.MemNormBwdIdeal.nD,
      r.2.mem ((c.tc : Thread Cert.MemNormBwdIdeal.nD Cert.MemNormBwdIdeal.τ).loc Cert.MemNormBwdIdeal.main_arg0) = m ((c.tc : Thread Cert.MemNormBwdIdeal.nD Cert.MemNormBwdIdeal.τ).loc Cert.MemNormBwdIdeal.main_arg0)
      ∧ r.2.mem ((c.tc : Thread Cert.MemNormBwdIdeal.nD Cert.MemNormBwdIdeal.τ).loc Cert.MemNormBwdIdeal.main_arg1) = m ((c.tc : Thread Cert.MemNormBwdIdeal.nD Cert.MemNormBwdIdeal.τ).loc Cert.MemNormBwdIdeal.main_arg1)
      ∧ r.2.mem ((c.tc : Thread Cert.MemNormBwdIdeal.nD Cert.MemNormBwdIdeal.τ).loc Cert.MemNormBwdIdeal.main_arg2) = m ((c.tc : Thread Cert.MemNormBwdIdeal.nD Cert.MemNormBwdIdeal.τ).loc Cert.MemNormBwdIdeal.main_arg2))
      ∧ r.2.sem = fun _ => 0)

def quiescent_MemNormBwdIdeal_pre_mem_norm_bwd_finite [hMemNormBwdIdeal : Cert.MemNormBwdIdeal.Facts] [hPre_mem_norm_bwd_finite : Cert.Pre_mem_norm_bwd_finite.Facts] : Prop :=
  ∀ (m : (ℓ : Loc Cert.MemNormBwdIdeal.nD Cert.MemNormBwdIdeal.τ Cert.MemNormBwdIdeal.sig) → Buf (Elt Ideal) ℓ) (g : Dev Cert.MemNormBwdIdeal.nD → PrngReg), Pre_MemNormBwdIdeal_mem_norm_bwd_finite m →
    θ_run (Cert.MemNormBwdIdeal.defs (F := Ideal)) (onTc (τ := Cert.MemNormBwdIdeal.τ) (Cert.MemNormBwdIdeal.main (F := Ideal))) ⟨m, fun _ => 0, g⟩ (fun r => (∀ c : Dev Cert.MemNormBwdIdeal.nD,
      r.2.mem ((c.tc : Thread Cert.MemNormBwdIdeal.nD Cert.MemNormBwdIdeal.τ).loc Cert.MemNormBwdIdeal.main_arg0) = m ((c.tc : Thread Cert.MemNormBwdIdeal.nD Cert.MemNormBwdIdeal.τ).loc Cert.MemNormBwdIdeal.main_arg0)
      ∧ r.2.mem ((c.tc : Thread Cert.MemNormBwdIdeal.nD Cert.MemNormBwdIdeal.τ).loc Cert.MemNormBwdIdeal.main_arg1) = m ((c.tc : Thread Cert.MemNormBwdIdeal.nD Cert.MemNormBwdIdeal.τ).loc Cert.MemNormBwdIdeal.main_arg1)
      ∧ r.2.mem ((c.tc : Thread Cert.MemNormBwdIdeal.nD Cert.MemNormBwdIdeal.τ).loc Cert.MemNormBwdIdeal.main_arg2) = m ((c.tc : Thread Cert.MemNormBwdIdeal.nD Cert.MemNormBwdIdeal.τ).loc Cert.MemNormBwdIdeal.main_arg2))
      ∧ r.2.sem = fun _ => 0)

def quiescent_MemNormBwdRefIdeal [hMemNormBwdRefIdeal : Cert.MemNormBwdRefIdeal.Facts] : Prop :=
  ∀ (m : (ℓ : Loc Cert.MemNormBwdRefIdeal.nD Cert.MemNormBwdRefIdeal.τ Cert.MemNormBwdRefIdeal.sig) → Buf (Elt Ideal) ℓ) (g : Dev Cert.MemNormBwdRefIdeal.nD → PrngReg), Pre_MemNormBwdRefIdeal m →
    θ_run (Cert.MemNormBwdRefIdeal.defs (F := Ideal)) (onTc (τ := Cert.MemNormBwdRefIdeal.τ) (Cert.MemNormBwdRefIdeal.main (F := Ideal))) ⟨m, fun _ => 0, g⟩ (fun r => (∀ c : Dev Cert.MemNormBwdRefIdeal.nD,
      r.2.mem ((c.tc : Thread Cert.MemNormBwdRefIdeal.nD Cert.MemNormBwdRefIdeal.τ).loc Cert.MemNormBwdRefIdeal.main_arg0) = m ((c.tc : Thread Cert.MemNormBwdRefIdeal.nD Cert.MemNormBwdRefIdeal.τ).loc Cert.MemNormBwdRefIdeal.main_arg0)
      ∧ r.2.mem ((c.tc : Thread Cert.MemNormBwdRefIdeal.nD Cert.MemNormBwdRefIdeal.τ).loc Cert.MemNormBwdRefIdeal.main_arg1) = m ((c.tc : Thread Cert.MemNormBwdRefIdeal.nD Cert.MemNormBwdRefIdeal.τ).loc Cert.MemNormBwdRefIdeal.main_arg1)
      ∧ r.2.mem ((c.tc : Thread Cert.MemNormBwdRefIdeal.nD Cert.MemNormBwdRefIdeal.τ).loc Cert.MemNormBwdRefIdeal.main_arg2) = m ((c.tc : Thread Cert.MemNormBwdRefIdeal.nD Cert.MemNormBwdRefIdeal.τ).loc Cert.MemNormBwdRefIdeal.main_arg2))
      ∧ r.2.sem = fun _ => 0)

def quiescent_MemNormBwdRefIdeal_pre_mem_norm_bwd_finite [hMemNormBwdRefIdeal : Cert.MemNormBwdRefIdeal.Facts] [hPre_mem_norm_bwd_finite : Cert.Pre_mem_norm_bwd_finite.Facts] : Prop :=
  ∀ (m : (ℓ : Loc Cert.MemNormBwdRefIdeal.nD Cert.MemNormBwdRefIdeal.τ Cert.MemNormBwdRefIdeal.sig) → Buf (Elt Ideal) ℓ) (g : Dev Cert.MemNormBwdRefIdeal.nD → PrngReg), Pre_MemNormBwdRefIdeal_mem_norm_bwd_finite m →
    θ_run (Cert.MemNormBwdRefIdeal.defs (F := Ideal)) (onTc (τ := Cert.MemNormBwdRefIdeal.τ) (Cert.MemNormBwdRefIdeal.main (F := Ideal))) ⟨m, fun _ => 0, g⟩ (fun r => (∀ c : Dev Cert.MemNormBwdRefIdeal.nD,
      r.2.mem ((c.tc : Thread Cert.MemNormBwdRefIdeal.nD Cert.MemNormBwdRefIdeal.τ).loc Cert.MemNormBwdRefIdeal.main_arg0) = m ((c.tc : Thread Cert.MemNormBwdRefIdeal.nD Cert.MemNormBwdRefIdeal.τ).loc Cert.MemNormBwdRefIdeal.main_arg0)
      ∧ r.2.mem ((c.tc : Thread Cert.MemNormBwdRefIdeal.nD Cert.MemNormBwdRefIdeal.τ).loc Cert.MemNormBwdRefIdeal.main_arg1) = m ((c.tc : Thread Cert.MemNormBwdRefIdeal.nD Cert.MemNormBwdRefIdeal.τ).loc Cert.MemNormBwdRefIdeal.main_arg1)
      ∧ r.2.mem ((c.tc : Thread Cert.MemNormBwdRefIdeal.nD Cert.MemNormBwdRefIdeal.τ).loc Cert.MemNormBwdRefIdeal.main_arg2) = m ((c.tc : Thread Cert.MemNormBwdRefIdeal.nD Cert.MemNormBwdRefIdeal.τ).loc Cert.MemNormBwdRefIdeal.main_arg2))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1)
      ∧ r.2.mem ((c.tc : Thread Cert.LossHead.nD Cert.LossHead.τ).loc Cert.LossHead.main_arg2) = m ((c.tc : Thread Cert.LossHead.nD Cert.LossHead.τ).loc Cert.LossHead.main_arg2))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ r.2.sem = fun _ => 0)

def quiescent_LossHeadIdeal_pre_loss_head_finite [hLossHeadIdeal : Cert.LossHeadIdeal.Facts] [hPre_loss_head_finite : Cert.Pre_loss_head_finite.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal_loss_head_finite m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ r.2.sem = fun _ => 0)

def quiescent_LossHeadRefIdeal [hLossHeadRefIdeal : Cert.LossHeadRefIdeal.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1)
      ∧ r.2.mem ((c.tc : Thread Cert.LossHeadRefIdeal.nD Cert.LossHeadRefIdeal.τ).loc Cert.LossHeadRefIdeal.main_arg2) = m ((c.tc : Thread Cert.LossHeadRefIdeal.nD Cert.LossHeadRefIdeal.τ).loc Cert.LossHeadRefIdeal.main_arg2))
      ∧ r.2.sem = fun _ => 0)

def quiescent_LossHeadRefIdeal_pre_loss_head_finite [hLossHeadRefIdeal : Cert.LossHeadRefIdeal.Facts] [hPre_loss_head_finite : Cert.Pre_loss_head_finite.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal_loss_head_finite m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1)
      ∧ r.2.mem ((c.tc : Thread Cert.LossHeadRefIdeal.nD Cert.LossHeadRefIdeal.τ).loc Cert.LossHeadRefIdeal.main_arg2) = m ((c.tc : Thread Cert.LossHeadRefIdeal.nD Cert.LossHeadRefIdeal.τ).loc Cert.LossHeadRefIdeal.main_arg2))
      ∧ r.2.sem = fun _ => 0)

def quiescent_GuNormBwd [hGuNormBwd : Cert.GuNormBwd.Facts] : Prop :=
  ∀ (m : (ℓ : Loc Cert.GuNormBwd.nD Cert.GuNormBwd.τ Cert.GuNormBwd.sig) → Buf (Elt Bits) ℓ) (g : Dev Cert.GuNormBwd.nD → PrngReg), Pre_GuNormBwd m →
    θ_run (Cert.GuNormBwd.defs (F := Bits)) (onTc (τ := Cert.GuNormBwd.τ) (Cert.GuNormBwd.main (F := Bits))) ⟨m, fun _ => 0, g⟩ (fun r => (∀ c : Dev Cert.GuNormBwd.nD,
      r.2.mem ((c.tc : Thread Cert.GuNormBwd.nD Cert.GuNormBwd.τ).loc Cert.GuNormBwd.main_arg0) = m ((c.tc : Thread Cert.GuNormBwd.nD Cert.GuNormBwd.τ).loc Cert.GuNormBwd.main_arg0)
      ∧ r.2.mem ((c.tc : Thread Cert.GuNormBwd.nD Cert.GuNormBwd.τ).loc Cert.GuNormBwd.main_arg1) = m ((c.tc : Thread Cert.GuNormBwd.nD Cert.GuNormBwd.τ).loc Cert.GuNormBwd.main_arg1)
      ∧ r.2.mem ((c.tc : Thread Cert.GuNormBwd.nD Cert.GuNormBwd.τ).loc Cert.GuNormBwd.main_arg2) = m ((c.tc : Thread Cert.GuNormBwd.nD Cert.GuNormBwd.τ).loc Cert.GuNormBwd.main_arg2)
      ∧ r.2.mem ((c.tc : Thread Cert.GuNormBwd.nD Cert.GuNormBwd.τ).loc Cert.GuNormBwd.main_arg3) = m ((c.tc : Thread Cert.GuNormBwd.nD Cert.GuNormBwd.τ).loc Cert.GuNormBwd.main_arg3)
      ∧ r.2.mem ((c.tc : Thread Cert.GuNormBwd.nD Cert.GuNormBwd.τ).loc Cert.GuNormBwd.main_arg4) = m ((c.tc : Thread Cert.GuNormBwd.nD Cert.GuNormBwd.τ).loc Cert.GuNormBwd.main_arg4))
      ∧ r.2.sem = fun _ => 0)

def quiescent_GuNormBwdIdeal [hGuNormBwdIdeal : Cert.GuNormBwdIdeal.Facts] : Prop :=
  ∀ (m : (ℓ : Loc Cert.GuNormBwdIdeal.nD Cert.GuNormBwdIdeal.τ Cert.GuNormBwdIdeal.sig) → Buf (Elt Ideal) ℓ) (g : Dev Cert.GuNormBwdIdeal.nD → PrngReg), Pre_GuNormBwdIdeal m →
    θ_run (Cert.GuNormBwdIdeal.defs (F := Ideal)) (onTc (τ := Cert.GuNormBwdIdeal.τ) (Cert.GuNormBwdIdeal.main (F := Ideal))) ⟨m, fun _ => 0, g⟩ (fun r => (∀ c : Dev Cert.GuNormBwdIdeal.nD,
      r.2.mem ((c.tc : Thread Cert.GuNormBwdIdeal.nD Cert.GuNormBwdIdeal.τ).loc Cert.GuNormBwdIdeal.main_arg0) = m ((c.tc : Thread Cert.GuNormBwdIdeal.nD Cert.GuNormBwdIdeal.τ).loc Cert.GuNormBwdIdeal.main_arg0)
      ∧ r.2.mem ((c.tc : Thread Cert.GuNormBwdIdeal.nD Cert.GuNormBwdIdeal.τ).loc Cert.GuNormBwdIdeal.main_arg1) = m ((c.tc : Thread Cert.GuNormBwdIdeal.nD Cert.GuNormBwdIdeal.τ).loc Cert.GuNormBwdIdeal.main_arg1)
      ∧ r.2.mem ((c.tc : Thread Cert.GuNormBwdIdeal.nD Cert.GuNormBwdIdeal.τ).loc Cert.GuNormBwdIdeal.main_arg2) = m ((c.tc : Thread Cert.GuNormBwdIdeal.nD Cert.GuNormBwdIdeal.τ).loc Cert.GuNormBwdIdeal.main_arg2)
      ∧ r.2.mem ((c.tc : Thread Cert.GuNormBwdIdeal.nD Cert.GuNormBwdIdeal.τ).loc Cert.GuNormBwdIdeal.main_arg3) = m ((c.tc : Thread Cert.GuNormBwdIdeal.nD Cert.GuNormBwdIdeal.τ).loc Cert.GuNormBwdIdeal.main_arg3)
      ∧ r.2.mem ((c.tc : Thread Cert.GuNormBwdIdeal.nD Cert.GuNormBwdIdeal.τ).loc Cert.GuNormBwdIdeal.main_arg4) = m ((c.tc : Thread Cert.GuNormBwdIdeal.nD Cert.GuNormBwdIdeal.τ).loc Cert.GuNormBwdIdeal.main_arg4))
      ∧ r.2.sem = fun _ => 0)

def quiescent_GuNormBwdIdeal_pre_gu_norm_bwd_finite [hGuNormBwdIdeal : Cert.GuNormBwdIdeal.Facts] [hPre_gu_norm_bwd_finite : Cert.Pre_gu_norm_bwd_finite.Facts] : Prop :=
  ∀ (m : (ℓ : Loc Cert.GuNormBwdIdeal.nD Cert.GuNormBwdIdeal.τ Cert.GuNormBwdIdeal.sig) → Buf (Elt Ideal) ℓ) (g : Dev Cert.GuNormBwdIdeal.nD → PrngReg), Pre_GuNormBwdIdeal_gu_norm_bwd_finite m →
    θ_run (Cert.GuNormBwdIdeal.defs (F := Ideal)) (onTc (τ := Cert.GuNormBwdIdeal.τ) (Cert.GuNormBwdIdeal.main (F := Ideal))) ⟨m, fun _ => 0, g⟩ (fun r => (∀ c : Dev Cert.GuNormBwdIdeal.nD,
      r.2.mem ((c.tc : Thread Cert.GuNormBwdIdeal.nD Cert.GuNormBwdIdeal.τ).loc Cert.GuNormBwdIdeal.main_arg0) = m ((c.tc : Thread Cert.GuNormBwdIdeal.nD Cert.GuNormBwdIdeal.τ).loc Cert.GuNormBwdIdeal.main_arg0)
      ∧ r.2.mem ((c.tc : Thread Cert.GuNormBwdIdeal.nD Cert.GuNormBwdIdeal.τ).loc Cert.GuNormBwdIdeal.main_arg1) = m ((c.tc : Thread Cert.GuNormBwdIdeal.nD Cert.GuNormBwdIdeal.τ).loc Cert.GuNormBwdIdeal.main_arg1)
      ∧ r.2.mem ((c.tc : Thread Cert.GuNormBwdIdeal.nD Cert.GuNormBwdIdeal.τ).loc Cert.GuNormBwdIdeal.main_arg2) = m ((c.tc : Thread Cert.GuNormBwdIdeal.nD Cert.GuNormBwdIdeal.τ).loc Cert.GuNormBwdIdeal.main_arg2)
      ∧ r.2.mem ((c.tc : Thread Cert.GuNormBwdIdeal.nD Cert.GuNormBwdIdeal.τ).loc Cert.GuNormBwdIdeal.main_arg3) = m ((c.tc : Thread Cert.GuNormBwdIdeal.nD Cert.GuNormBwdIdeal.τ).loc Cert.GuNormBwdIdeal.main_arg3)
      ∧ r.2.mem ((c.tc : Thread Cert.GuNormBwdIdeal.nD Cert.GuNormBwdIdeal.τ).loc Cert.GuNormBwdIdeal.main_arg4) = m ((c.tc : Thread Cert.GuNormBwdIdeal.nD Cert.GuNormBwdIdeal.τ).loc Cert.GuNormBwdIdeal.main_arg4))
      ∧ r.2.sem = fun _ => 0)

def quiescent_GuNormBwdRefIdeal [hGuNormBwdRefIdeal : Cert.GuNormBwdRefIdeal.Facts] : Prop :=
  ∀ (m : (ℓ : Loc Cert.GuNormBwdRefIdeal.nD Cert.GuNormBwdRefIdeal.τ Cert.GuNormBwdRefIdeal.sig) → Buf (Elt Ideal) ℓ) (g : Dev Cert.GuNormBwdRefIdeal.nD → PrngReg), Pre_GuNormBwdRefIdeal m →
    θ_run (Cert.GuNormBwdRefIdeal.defs (F := Ideal)) (onTc (τ := Cert.GuNormBwdRefIdeal.τ) (Cert.GuNormBwdRefIdeal.main (F := Ideal))) ⟨m, fun _ => 0, g⟩ (fun r => (∀ c : Dev Cert.GuNormBwdRefIdeal.nD,
      r.2.mem ((c.tc : Thread Cert.GuNormBwdRefIdeal.nD Cert.GuNormBwdRefIdeal.τ).loc Cert.GuNormBwdRefIdeal.main_arg0) = m ((c.tc : Thread Cert.GuNormBwdRefIdeal.nD Cert.GuNormBwdRefIdeal.τ).loc Cert.GuNormBwdRefIdeal.main_arg0)
      ∧ r.2.mem ((c.tc : Thread Cert.GuNormBwdRefIdeal.nD Cert.GuNormBwdRefIdeal.τ).loc Cert.GuNormBwdRefIdeal.main_arg1) = m ((c.tc : Thread Cert.GuNormBwdRefIdeal.nD Cert.GuNormBwdRefIdeal.τ).loc Cert.GuNormBwdRefIdeal.main_arg1)
      ∧ r.2.mem ((c.tc : Thread Cert.GuNormBwdRefIdeal.nD Cert.GuNormBwdRefIdeal.τ).loc Cert.GuNormBwdRefIdeal.main_arg2) = m ((c.tc : Thread Cert.GuNormBwdRefIdeal.nD Cert.GuNormBwdRefIdeal.τ).loc Cert.GuNormBwdRefIdeal.main_arg2)
      ∧ r.2.mem ((c.tc : Thread Cert.GuNormBwdRefIdeal.nD Cert.GuNormBwdRefIdeal.τ).loc Cert.GuNormBwdRefIdeal.main_arg3) = m ((c.tc : Thread Cert.GuNormBwdRefIdeal.nD Cert.GuNormBwdRefIdeal.τ).loc Cert.GuNormBwdRefIdeal.main_arg3)
      ∧ r.2.mem ((c.tc : Thread Cert.GuNormBwdRefIdeal.nD Cert.GuNormBwdRefIdeal.τ).loc Cert.GuNormBwdRefIdeal.main_arg4) = m ((c.tc : Thread Cert.GuNormBwdRefIdeal.nD Cert.GuNormBwdRefIdeal.τ).loc Cert.GuNormBwdRefIdeal.main_arg4))
      ∧ r.2.sem = fun _ => 0)

def quiescent_GuNormBwdRefIdeal_pre_gu_norm_bwd_finite [hGuNormBwdRefIdeal : Cert.GuNormBwdRefIdeal.Facts] [hPre_gu_norm_bwd_finite : Cert.Pre_gu_norm_bwd_finite.Facts] : Prop :=
  ∀ (m : (ℓ : Loc Cert.GuNormBwdRefIdeal.nD Cert.GuNormBwdRefIdeal.τ Cert.GuNormBwdRefIdeal.sig) → Buf (Elt Ideal) ℓ) (g : Dev Cert.GuNormBwdRefIdeal.nD → PrngReg), Pre_GuNormBwdRefIdeal_gu_norm_bwd_finite m →
    θ_run (Cert.GuNormBwdRefIdeal.defs (F := Ideal)) (onTc (τ := Cert.GuNormBwdRefIdeal.τ) (Cert.GuNormBwdRefIdeal.main (F := Ideal))) ⟨m, fun _ => 0, g⟩ (fun r => (∀ c : Dev Cert.GuNormBwdRefIdeal.nD,
      r.2.mem ((c.tc : Thread Cert.GuNormBwdRefIdeal.nD Cert.GuNormBwdRefIdeal.τ).loc Cert.GuNormBwdRefIdeal.main_arg0) = m ((c.tc : Thread Cert.GuNormBwdRefIdeal.nD Cert.GuNormBwdRefIdeal.τ).loc Cert.GuNormBwdRefIdeal.main_arg0)
      ∧ r.2.mem ((c.tc : Thread Cert.GuNormBwdRefIdeal.nD Cert.GuNormBwdRefIdeal.τ).loc Cert.GuNormBwdRefIdeal.main_arg1) = m ((c.tc : Thread Cert.GuNormBwdRefIdeal.nD Cert.GuNormBwdRefIdeal.τ).loc Cert.GuNormBwdRefIdeal.main_arg1)
      ∧ r.2.mem ((c.tc : Thread Cert.GuNormBwdRefIdeal.nD Cert.GuNormBwdRefIdeal.τ).loc Cert.GuNormBwdRefIdeal.main_arg2) = m ((c.tc : Thread Cert.GuNormBwdRefIdeal.nD Cert.GuNormBwdRefIdeal.τ).loc Cert.GuNormBwdRefIdeal.main_arg2)
      ∧ r.2.mem ((c.tc : Thread Cert.GuNormBwdRefIdeal.nD Cert.GuNormBwdRefIdeal.τ).loc Cert.GuNormBwdRefIdeal.main_arg3) = m ((c.tc : Thread Cert.GuNormBwdRefIdeal.nD Cert.GuNormBwdRefIdeal.τ).loc Cert.GuNormBwdRefIdeal.main_arg3)
      ∧ r.2.mem ((c.tc : Thread Cert.GuNormBwdRefIdeal.nD Cert.GuNormBwdRefIdeal.τ).loc Cert.GuNormBwdRefIdeal.main_arg4) = m ((c.tc : Thread Cert.GuNormBwdRefIdeal.nD Cert.GuNormBwdRefIdeal.τ).loc Cert.GuNormBwdRefIdeal.main_arg4))
      ∧ r.2.sem = fun _ => 0)

def quiescent_KvNormBwd [hKvNormBwd : Cert.KvNormBwd.Facts] : Prop :=
  ∀ (m : (ℓ : Loc Cert.KvNormBwd.nD Cert.KvNormBwd.τ Cert.KvNormBwd.sig) → Buf (Elt Bits) ℓ) (g : Dev Cert.KvNormBwd.nD → PrngReg), Pre_KvNormBwd m →
    θ_run (Cert.KvNormBwd.defs (F := Bits)) (onTc (τ := Cert.KvNormBwd.τ) (Cert.KvNormBwd.main (F := Bits))) ⟨m, fun _ => 0, g⟩ (fun r => (∀ c : Dev Cert.KvNormBwd.nD,
      r.2.mem ((c.tc : Thread Cert.KvNormBwd.nD Cert.KvNormBwd.τ).loc Cert.KvNormBwd.main_arg0) = m ((c.tc : Thread Cert.KvNormBwd.nD Cert.KvNormBwd.τ).loc Cert.KvNormBwd.main_arg0)
      ∧ r.2.mem ((c.tc : Thread Cert.KvNormBwd.nD Cert.KvNormBwd.τ).loc Cert.KvNormBwd.main_arg1) = m ((c.tc : Thread Cert.KvNormBwd.nD Cert.KvNormBwd.τ).loc Cert.KvNormBwd.main_arg1)
      ∧ r.2.mem ((c.tc : Thread Cert.KvNormBwd.nD Cert.KvNormBwd.τ).loc Cert.KvNormBwd.main_arg2) = m ((c.tc : Thread Cert.KvNormBwd.nD Cert.KvNormBwd.τ).loc Cert.KvNormBwd.main_arg2)
      ∧ r.2.mem ((c.tc : Thread Cert.KvNormBwd.nD Cert.KvNormBwd.τ).loc Cert.KvNormBwd.main_arg3) = m ((c.tc : Thread Cert.KvNormBwd.nD Cert.KvNormBwd.τ).loc Cert.KvNormBwd.main_arg3)
      ∧ r.2.mem ((c.tc : Thread Cert.KvNormBwd.nD Cert.KvNormBwd.τ).loc Cert.KvNormBwd.main_arg4) = m ((c.tc : Thread Cert.KvNormBwd.nD Cert.KvNormBwd.τ).loc Cert.KvNormBwd.main_arg4)
      ∧ r.2.mem ((c.tc : Thread Cert.KvNormBwd.nD Cert.KvNormBwd.τ).loc Cert.KvNormBwd.main_arg5) = m ((c.tc : Thread Cert.KvNormBwd.nD Cert.KvNormBwd.τ).loc Cert.KvNormBwd.main_arg5)
      ∧ r.2.mem ((c.tc : Thread Cert.KvNormBwd.nD Cert.KvNormBwd.τ).loc Cert.KvNormBwd.main_arg6) = m ((c.tc : Thread Cert.KvNormBwd.nD Cert.KvNormBwd.τ).loc Cert.KvNormBwd.main_arg6))
      ∧ r.2.sem = fun _ => 0)

def quiescent_KvNormBwdIdeal [hKvNormBwdIdeal : Cert.KvNormBwdIdeal.Facts] : Prop :=
  ∀ (m : (ℓ : Loc Cert.KvNormBwdIdeal.nD Cert.KvNormBwdIdeal.τ Cert.KvNormBwdIdeal.sig) → Buf (Elt Ideal) ℓ) (g : Dev Cert.KvNormBwdIdeal.nD → PrngReg), Pre_KvNormBwdIdeal m →
    θ_run (Cert.KvNormBwdIdeal.defs (F := Ideal)) (onTc (τ := Cert.KvNormBwdIdeal.τ) (Cert.KvNormBwdIdeal.main (F := Ideal))) ⟨m, fun _ => 0, g⟩ (fun r => (∀ c : Dev Cert.KvNormBwdIdeal.nD,
      r.2.mem ((c.tc : Thread Cert.KvNormBwdIdeal.nD Cert.KvNormBwdIdeal.τ).loc Cert.KvNormBwdIdeal.main_arg0) = m ((c.tc : Thread Cert.KvNormBwdIdeal.nD Cert.KvNormBwdIdeal.τ).loc Cert.KvNormBwdIdeal.main_arg0)
      ∧ r.2.mem ((c.tc : Thread Cert.KvNormBwdIdeal.nD Cert.KvNormBwdIdeal.τ).loc Cert.KvNormBwdIdeal.main_arg1) = m ((c.tc : Thread Cert.KvNormBwdIdeal.nD Cert.KvNormBwdIdeal.τ).loc Cert.KvNormBwdIdeal.main_arg1)
      ∧ r.2.mem ((c.tc : Thread Cert.KvNormBwdIdeal.nD Cert.KvNormBwdIdeal.τ).loc Cert.KvNormBwdIdeal.main_arg2) = m ((c.tc : Thread Cert.KvNormBwdIdeal.nD Cert.KvNormBwdIdeal.τ).loc Cert.KvNormBwdIdeal.main_arg2)
      ∧ r.2.mem ((c.tc : Thread Cert.KvNormBwdIdeal.nD Cert.KvNormBwdIdeal.τ).loc Cert.KvNormBwdIdeal.main_arg3) = m ((c.tc : Thread Cert.KvNormBwdIdeal.nD Cert.KvNormBwdIdeal.τ).loc Cert.KvNormBwdIdeal.main_arg3)
      ∧ r.2.mem ((c.tc : Thread Cert.KvNormBwdIdeal.nD Cert.KvNormBwdIdeal.τ).loc Cert.KvNormBwdIdeal.main_arg4) = m ((c.tc : Thread Cert.KvNormBwdIdeal.nD Cert.KvNormBwdIdeal.τ).loc Cert.KvNormBwdIdeal.main_arg4)
      ∧ r.2.mem ((c.tc : Thread Cert.KvNormBwdIdeal.nD Cert.KvNormBwdIdeal.τ).loc Cert.KvNormBwdIdeal.main_arg5) = m ((c.tc : Thread Cert.KvNormBwdIdeal.nD Cert.KvNormBwdIdeal.τ).loc Cert.KvNormBwdIdeal.main_arg5)
      ∧ r.2.mem ((c.tc : Thread Cert.KvNormBwdIdeal.nD Cert.KvNormBwdIdeal.τ).loc Cert.KvNormBwdIdeal.main_arg6) = m ((c.tc : Thread Cert.KvNormBwdIdeal.nD Cert.KvNormBwdIdeal.τ).loc Cert.KvNormBwdIdeal.main_arg6))
      ∧ r.2.sem = fun _ => 0)

def quiescent_KvNormBwdIdeal_pre_kv_norm_bwd_finite [hKvNormBwdIdeal : Cert.KvNormBwdIdeal.Facts] [hPre_kv_norm_bwd_finite : Cert.Pre_kv_norm_bwd_finite.Facts] : Prop :=
  ∀ (m : (ℓ : Loc Cert.KvNormBwdIdeal.nD Cert.KvNormBwdIdeal.τ Cert.KvNormBwdIdeal.sig) → Buf (Elt Ideal) ℓ) (g : Dev Cert.KvNormBwdIdeal.nD → PrngReg), Pre_KvNormBwdIdeal_kv_norm_bwd_finite m →
    θ_run (Cert.KvNormBwdIdeal.defs (F := Ideal)) (onTc (τ := Cert.KvNormBwdIdeal.τ) (Cert.KvNormBwdIdeal.main (F := Ideal))) ⟨m, fun _ => 0, g⟩ (fun r => (∀ c : Dev Cert.KvNormBwdIdeal.nD,
      r.2.mem ((c.tc : Thread Cert.KvNormBwdIdeal.nD Cert.KvNormBwdIdeal.τ).loc Cert.KvNormBwdIdeal.main_arg0) = m ((c.tc : Thread Cert.KvNormBwdIdeal.nD Cert.KvNormBwdIdeal.τ).loc Cert.KvNormBwdIdeal.main_arg0)
      ∧ r.2.mem ((c.tc : Thread Cert.KvNormBwdIdeal.nD Cert.KvNormBwdIdeal.τ).loc Cert.KvNormBwdIdeal.main_arg1) = m ((c.tc : Thread Cert.KvNormBwdIdeal.nD Cert.KvNormBwdIdeal.τ).loc Cert.KvNormBwdIdeal.main_arg1)
      ∧ r.2.mem ((c.tc : Thread Cert.KvNormBwdIdeal.nD Cert.KvNormBwdIdeal.τ).loc Cert.KvNormBwdIdeal.main_arg2) = m ((c.tc : Thread Cert.KvNormBwdIdeal.nD Cert.KvNormBwdIdeal.τ).loc Cert.KvNormBwdIdeal.main_arg2)
      ∧ r.2.mem ((c.tc : Thread Cert.KvNormBwdIdeal.nD Cert.KvNormBwdIdeal.τ).loc Cert.KvNormBwdIdeal.main_arg3) = m ((c.tc : Thread Cert.KvNormBwdIdeal.nD Cert.KvNormBwdIdeal.τ).loc Cert.KvNormBwdIdeal.main_arg3)
      ∧ r.2.mem ((c.tc : Thread Cert.KvNormBwdIdeal.nD Cert.KvNormBwdIdeal.τ).loc Cert.KvNormBwdIdeal.main_arg4) = m ((c.tc : Thread Cert.KvNormBwdIdeal.nD Cert.KvNormBwdIdeal.τ).loc Cert.KvNormBwdIdeal.main_arg4)
      ∧ r.2.mem ((c.tc : Thread Cert.KvNormBwdIdeal.nD Cert.KvNormBwdIdeal.τ).loc Cert.KvNormBwdIdeal.main_arg5) = m ((c.tc : Thread Cert.KvNormBwdIdeal.nD Cert.KvNormBwdIdeal.τ).loc Cert.KvNormBwdIdeal.main_arg5)
      ∧ r.2.mem ((c.tc : Thread Cert.KvNormBwdIdeal.nD Cert.KvNormBwdIdeal.τ).loc Cert.KvNormBwdIdeal.main_arg6) = m ((c.tc : Thread Cert.KvNormBwdIdeal.nD Cert.KvNormBwdIdeal.τ).loc Cert.KvNormBwdIdeal.main_arg6))
      ∧ r.2.sem = fun _ => 0)

def quiescent_KvNormBwdRefIdeal [hKvNormBwdRefIdeal : Cert.KvNormBwdRefIdeal.Facts] : Prop :=
  ∀ (m : (ℓ : Loc Cert.KvNormBwdRefIdeal.nD Cert.KvNormBwdRefIdeal.τ Cert.KvNormBwdRefIdeal.sig) → Buf (Elt Ideal) ℓ) (g : Dev Cert.KvNormBwdRefIdeal.nD → PrngReg), Pre_KvNormBwdRefIdeal m →
    θ_run (Cert.KvNormBwdRefIdeal.defs (F := Ideal)) (onTc (τ := Cert.KvNormBwdRefIdeal.τ) (Cert.KvNormBwdRefIdeal.main (F := Ideal))) ⟨m, fun _ => 0, g⟩ (fun r => (∀ c : Dev Cert.KvNormBwdRefIdeal.nD,
      r.2.mem ((c.tc : Thread Cert.KvNormBwdRefIdeal.nD Cert.KvNormBwdRefIdeal.τ).loc Cert.KvNormBwdRefIdeal.main_arg0) = m ((c.tc : Thread Cert.KvNormBwdRefIdeal.nD Cert.KvNormBwdRefIdeal.τ).loc Cert.KvNormBwdRefIdeal.main_arg0)
      ∧ r.2.mem ((c.tc : Thread Cert.KvNormBwdRefIdeal.nD Cert.KvNormBwdRefIdeal.τ).loc Cert.KvNormBwdRefIdeal.main_arg1) = m ((c.tc : Thread Cert.KvNormBwdRefIdeal.nD Cert.KvNormBwdRefIdeal.τ).loc Cert.KvNormBwdRefIdeal.main_arg1)
      ∧ r.2.mem ((c.tc : Thread Cert.KvNormBwdRefIdeal.nD Cert.KvNormBwdRefIdeal.τ).loc Cert.KvNormBwdRefIdeal.main_arg2) = m ((c.tc : Thread Cert.KvNormBwdRefIdeal.nD Cert.KvNormBwdRefIdeal.τ).loc Cert.KvNormBwdRefIdeal.main_arg2)
      ∧ r.2.mem ((c.tc : Thread Cert.KvNormBwdRefIdeal.nD Cert.KvNormBwdRefIdeal.τ).loc Cert.KvNormBwdRefIdeal.main_arg3) = m ((c.tc : Thread Cert.KvNormBwdRefIdeal.nD Cert.KvNormBwdRefIdeal.τ).loc Cert.KvNormBwdRefIdeal.main_arg3)
      ∧ r.2.mem ((c.tc : Thread Cert.KvNormBwdRefIdeal.nD Cert.KvNormBwdRefIdeal.τ).loc Cert.KvNormBwdRefIdeal.main_arg4) = m ((c.tc : Thread Cert.KvNormBwdRefIdeal.nD Cert.KvNormBwdRefIdeal.τ).loc Cert.KvNormBwdRefIdeal.main_arg4)
      ∧ r.2.mem ((c.tc : Thread Cert.KvNormBwdRefIdeal.nD Cert.KvNormBwdRefIdeal.τ).loc Cert.KvNormBwdRefIdeal.main_arg5) = m ((c.tc : Thread Cert.KvNormBwdRefIdeal.nD Cert.KvNormBwdRefIdeal.τ).loc Cert.KvNormBwdRefIdeal.main_arg5)
      ∧ r.2.mem ((c.tc : Thread Cert.KvNormBwdRefIdeal.nD Cert.KvNormBwdRefIdeal.τ).loc Cert.KvNormBwdRefIdeal.main_arg6) = m ((c.tc : Thread Cert.KvNormBwdRefIdeal.nD Cert.KvNormBwdRefIdeal.τ).loc Cert.KvNormBwdRefIdeal.main_arg6))
      ∧ r.2.sem = fun _ => 0)

def quiescent_KvNormBwdRefIdeal_pre_kv_norm_bwd_finite [hKvNormBwdRefIdeal : Cert.KvNormBwdRefIdeal.Facts] [hPre_kv_norm_bwd_finite : Cert.Pre_kv_norm_bwd_finite.Facts] : Prop :=
  ∀ (m : (ℓ : Loc Cert.KvNormBwdRefIdeal.nD Cert.KvNormBwdRefIdeal.τ Cert.KvNormBwdRefIdeal.sig) → Buf (Elt Ideal) ℓ) (g : Dev Cert.KvNormBwdRefIdeal.nD → PrngReg), Pre_KvNormBwdRefIdeal_kv_norm_bwd_finite m →
    θ_run (Cert.KvNormBwdRefIdeal.defs (F := Ideal)) (onTc (τ := Cert.KvNormBwdRefIdeal.τ) (Cert.KvNormBwdRefIdeal.main (F := Ideal))) ⟨m, fun _ => 0, g⟩ (fun r => (∀ c : Dev Cert.KvNormBwdRefIdeal.nD,
      r.2.mem ((c.tc : Thread Cert.KvNormBwdRefIdeal.nD Cert.KvNormBwdRefIdeal.τ).loc Cert.KvNormBwdRefIdeal.main_arg0) = m ((c.tc : Thread Cert.KvNormBwdRefIdeal.nD Cert.KvNormBwdRefIdeal.τ).loc Cert.KvNormBwdRefIdeal.main_arg0)
      ∧ r.2.mem ((c.tc : Thread Cert.KvNormBwdRefIdeal.nD Cert.KvNormBwdRefIdeal.τ).loc Cert.KvNormBwdRefIdeal.main_arg1) = m ((c.tc : Thread Cert.KvNormBwdRefIdeal.nD Cert.KvNormBwdRefIdeal.τ).loc Cert.KvNormBwdRefIdeal.main_arg1)
      ∧ r.2.mem ((c.tc : Thread Cert.KvNormBwdRefIdeal.nD Cert.KvNormBwdRefIdeal.τ).loc Cert.KvNormBwdRefIdeal.main_arg2) = m ((c.tc : Thread Cert.KvNormBwdRefIdeal.nD Cert.KvNormBwdRefIdeal.τ).loc Cert.KvNormBwdRefIdeal.main_arg2)
      ∧ r.2.mem ((c.tc : Thread Cert.KvNormBwdRefIdeal.nD Cert.KvNormBwdRefIdeal.τ).loc Cert.KvNormBwdRefIdeal.main_arg3) = m ((c.tc : Thread Cert.KvNormBwdRefIdeal.nD Cert.KvNormBwdRefIdeal.τ).loc Cert.KvNormBwdRefIdeal.main_arg3)
      ∧ r.2.mem ((c.tc : Thread Cert.KvNormBwdRefIdeal.nD Cert.KvNormBwdRefIdeal.τ).loc Cert.KvNormBwdRefIdeal.main_arg4) = m ((c.tc : Thread Cert.KvNormBwdRefIdeal.nD Cert.KvNormBwdRefIdeal.τ).loc Cert.KvNormBwdRefIdeal.main_arg4)
      ∧ r.2.mem ((c.tc : Thread Cert.KvNormBwdRefIdeal.nD Cert.KvNormBwdRefIdeal.τ).loc Cert.KvNormBwdRefIdeal.main_arg5) = m ((c.tc : Thread Cert.KvNormBwdRefIdeal.nD Cert.KvNormBwdRefIdeal.τ).loc Cert.KvNormBwdRefIdeal.main_arg5)
      ∧ r.2.mem ((c.tc : Thread Cert.KvNormBwdRefIdeal.nD Cert.KvNormBwdRefIdeal.τ).loc Cert.KvNormBwdRefIdeal.main_arg6) = m ((c.tc : Thread Cert.KvNormBwdRefIdeal.nD Cert.KvNormBwdRefIdeal.τ).loc Cert.KvNormBwdRefIdeal.main_arg6))
      ∧ r.2.sem = fun _ => 0)

def quiescent_MemAttnBwd [hMemAttnBwd : Cert.MemAttnBwd.Facts] : Prop :=
  ∀ (m : (ℓ : Loc Cert.MemAttnBwd.nD Cert.MemAttnBwd.τ Cert.MemAttnBwd.sig) → Buf (Elt Bits) ℓ) (g : Dev Cert.MemAttnBwd.nD → PrngReg), Pre_MemAttnBwd m →
    θ_run (Cert.MemAttnBwd.defs (F := Bits)) (onTc (τ := Cert.MemAttnBwd.τ) (Cert.MemAttnBwd.main (F := Bits))) ⟨m, fun _ => 0, g⟩ (fun r => (∀ c : Dev Cert.MemAttnBwd.nD,
      r.2.mem ((c.tc : Thread Cert.MemAttnBwd.nD Cert.MemAttnBwd.τ).loc Cert.MemAttnBwd.main_arg0) = m ((c.tc : Thread Cert.MemAttnBwd.nD Cert.MemAttnBwd.τ).loc Cert.MemAttnBwd.main_arg0)
      ∧ r.2.mem ((c.tc : Thread Cert.MemAttnBwd.nD Cert.MemAttnBwd.τ).loc Cert.MemAttnBwd.main_arg1) = m ((c.tc : Thread Cert.MemAttnBwd.nD Cert.MemAttnBwd.τ).loc Cert.MemAttnBwd.main_arg1)
      ∧ r.2.mem ((c.tc : Thread Cert.MemAttnBwd.nD Cert.MemAttnBwd.τ).loc Cert.MemAttnBwd.main_arg2) = m ((c.tc : Thread Cert.MemAttnBwd.nD Cert.MemAttnBwd.τ).loc Cert.MemAttnBwd.main_arg2))
      ∧ r.2.sem = fun _ => 0)

def quiescent_MemAttnBwdIdeal [hMemAttnBwdIdeal : Cert.MemAttnBwdIdeal.Facts] : Prop :=
  ∀ (m : (ℓ : Loc Cert.MemAttnBwdIdeal.nD Cert.MemAttnBwdIdeal.τ Cert.MemAttnBwdIdeal.sig) → Buf (Elt Ideal) ℓ) (g : Dev Cert.MemAttnBwdIdeal.nD → PrngReg), Pre_MemAttnBwdIdeal m →
    θ_run (Cert.MemAttnBwdIdeal.defs (F := Ideal)) (onTc (τ := Cert.MemAttnBwdIdeal.τ) (Cert.MemAttnBwdIdeal.main (F := Ideal))) ⟨m, fun _ => 0, g⟩ (fun r => (∀ c : Dev Cert.MemAttnBwdIdeal.nD,
      r.2.mem ((c.tc : Thread Cert.MemAttnBwdIdeal.nD Cert.MemAttnBwdIdeal.τ).loc Cert.MemAttnBwdIdeal.main_arg0) = m ((c.tc : Thread Cert.MemAttnBwdIdeal.nD Cert.MemAttnBwdIdeal.τ).loc Cert.MemAttnBwdIdeal.main_arg0)
      ∧ r.2.mem ((c.tc : Thread Cert.MemAttnBwdIdeal.nD Cert.MemAttnBwdIdeal.τ).loc Cert.MemAttnBwdIdeal.main_arg1) = m ((c.tc : Thread Cert.MemAttnBwdIdeal.nD Cert.MemAttnBwdIdeal.τ).loc Cert.MemAttnBwdIdeal.main_arg1)
      ∧ r.2.mem ((c.tc : Thread Cert.MemAttnBwdIdeal.nD Cert.MemAttnBwdIdeal.τ).loc Cert.MemAttnBwdIdeal.main_arg2) = m ((c.tc : Thread Cert.MemAttnBwdIdeal.nD Cert.MemAttnBwdIdeal.τ).loc Cert.MemAttnBwdIdeal.main_arg2))
      ∧ r.2.sem = fun _ => 0)

def quiescent_MemAttnBwdIdeal_pre_mem_attn_bwd_finite [hMemAttnBwdIdeal : Cert.MemAttnBwdIdeal.Facts] [hPre_mem_attn_bwd_finite : Cert.Pre_mem_attn_bwd_finite.Facts] : Prop :=
  ∀ (m : (ℓ : Loc Cert.MemAttnBwdIdeal.nD Cert.MemAttnBwdIdeal.τ Cert.MemAttnBwdIdeal.sig) → Buf (Elt Ideal) ℓ) (g : Dev Cert.MemAttnBwdIdeal.nD → PrngReg), Pre_MemAttnBwdIdeal_mem_attn_bwd_finite m →
    θ_run (Cert.MemAttnBwdIdeal.defs (F := Ideal)) (onTc (τ := Cert.MemAttnBwdIdeal.τ) (Cert.MemAttnBwdIdeal.main (F := Ideal))) ⟨m, fun _ => 0, g⟩ (fun r => (∀ c : Dev Cert.MemAttnBwdIdeal.nD,
      r.2.mem ((c.tc : Thread Cert.MemAttnBwdIdeal.nD Cert.MemAttnBwdIdeal.τ).loc Cert.MemAttnBwdIdeal.main_arg0) = m ((c.tc : Thread Cert.MemAttnBwdIdeal.nD Cert.MemAttnBwdIdeal.τ).loc Cert.MemAttnBwdIdeal.main_arg0)
      ∧ r.2.mem ((c.tc : Thread Cert.MemAttnBwdIdeal.nD Cert.MemAttnBwdIdeal.τ).loc Cert.MemAttnBwdIdeal.main_arg1) = m ((c.tc : Thread Cert.MemAttnBwdIdeal.nD Cert.MemAttnBwdIdeal.τ).loc Cert.MemAttnBwdIdeal.main_arg1)
      ∧ r.2.mem ((c.tc : Thread Cert.MemAttnBwdIdeal.nD Cert.MemAttnBwdIdeal.τ).loc Cert.MemAttnBwdIdeal.main_arg2) = m ((c.tc : Thread Cert.MemAttnBwdIdeal.nD Cert.MemAttnBwdIdeal.τ).loc Cert.MemAttnBwdIdeal.main_arg2))
      ∧ r.2.sem = fun _ => 0)

def quiescent_MemAttnBwdRefIdeal [hMemAttnBwdRefIdeal : Cert.MemAttnBwdRefIdeal.Facts] : Prop :=
  ∀ (m : (ℓ : Loc Cert.MemAttnBwdRefIdeal.nD Cert.MemAttnBwdRefIdeal.τ Cert.MemAttnBwdRefIdeal.sig) → Buf (Elt Ideal) ℓ) (g : Dev Cert.MemAttnBwdRefIdeal.nD → PrngReg), Pre_MemAttnBwdRefIdeal m →
    θ_run (Cert.MemAttnBwdRefIdeal.defs (F := Ideal)) (onTc (τ := Cert.MemAttnBwdRefIdeal.τ) (Cert.MemAttnBwdRefIdeal.main (F := Ideal))) ⟨m, fun _ => 0, g⟩ (fun r => (∀ c : Dev Cert.MemAttnBwdRefIdeal.nD,
      r.2.mem ((c.tc : Thread Cert.MemAttnBwdRefIdeal.nD Cert.MemAttnBwdRefIdeal.τ).loc Cert.MemAttnBwdRefIdeal.main_arg0) = m ((c.tc : Thread Cert.MemAttnBwdRefIdeal.nD Cert.MemAttnBwdRefIdeal.τ).loc Cert.MemAttnBwdRefIdeal.main_arg0)
      ∧ r.2.mem ((c.tc : Thread Cert.MemAttnBwdRefIdeal.nD Cert.MemAttnBwdRefIdeal.τ).loc Cert.MemAttnBwdRefIdeal.main_arg1) = m ((c.tc : Thread Cert.MemAttnBwdRefIdeal.nD Cert.MemAttnBwdRefIdeal.τ).loc Cert.MemAttnBwdRefIdeal.main_arg1)
      ∧ r.2.mem ((c.tc : Thread Cert.MemAttnBwdRefIdeal.nD Cert.MemAttnBwdRefIdeal.τ).loc Cert.MemAttnBwdRefIdeal.main_arg2) = m ((c.tc : Thread Cert.MemAttnBwdRefIdeal.nD Cert.MemAttnBwdRefIdeal.τ).loc Cert.MemAttnBwdRefIdeal.main_arg2))
      ∧ r.2.sem = fun _ => 0)

def quiescent_MemAttnBwdRefIdeal_pre_mem_attn_bwd_finite [hMemAttnBwdRefIdeal : Cert.MemAttnBwdRefIdeal.Facts] [hPre_mem_attn_bwd_finite : Cert.Pre_mem_attn_bwd_finite.Facts] : Prop :=
  ∀ (m : (ℓ : Loc Cert.MemAttnBwdRefIdeal.nD Cert.MemAttnBwdRefIdeal.τ Cert.MemAttnBwdRefIdeal.sig) → Buf (Elt Ideal) ℓ) (g : Dev Cert.MemAttnBwdRefIdeal.nD → PrngReg), Pre_MemAttnBwdRefIdeal_mem_attn_bwd_finite m →
    θ_run (Cert.MemAttnBwdRefIdeal.defs (F := Ideal)) (onTc (τ := Cert.MemAttnBwdRefIdeal.τ) (Cert.MemAttnBwdRefIdeal.main (F := Ideal))) ⟨m, fun _ => 0, g⟩ (fun r => (∀ c : Dev Cert.MemAttnBwdRefIdeal.nD,
      r.2.mem ((c.tc : Thread Cert.MemAttnBwdRefIdeal.nD Cert.MemAttnBwdRefIdeal.τ).loc Cert.MemAttnBwdRefIdeal.main_arg0) = m ((c.tc : Thread Cert.MemAttnBwdRefIdeal.nD Cert.MemAttnBwdRefIdeal.τ).loc Cert.MemAttnBwdRefIdeal.main_arg0)
      ∧ r.2.mem ((c.tc : Thread Cert.MemAttnBwdRefIdeal.nD Cert.MemAttnBwdRefIdeal.τ).loc Cert.MemAttnBwdRefIdeal.main_arg1) = m ((c.tc : Thread Cert.MemAttnBwdRefIdeal.nD Cert.MemAttnBwdRefIdeal.τ).loc Cert.MemAttnBwdRefIdeal.main_arg1)
      ∧ r.2.mem ((c.tc : Thread Cert.MemAttnBwdRefIdeal.nD Cert.MemAttnBwdRefIdeal.τ).loc Cert.MemAttnBwdRefIdeal.main_arg2) = m ((c.tc : Thread Cert.MemAttnBwdRefIdeal.nD Cert.MemAttnBwdRefIdeal.τ).loc Cert.MemAttnBwdRefIdeal.main_arg2))
      ∧ r.2.sem = fun _ => 0)

def quiescent_StickFwd [hStickFwd : Cert.StickFwd.Facts] : Prop :=
  ∀ (m : (ℓ : Loc Cert.StickFwd.nD Cert.StickFwd.τ Cert.StickFwd.sig) → Buf (Elt Bits) ℓ) (g : Dev Cert.StickFwd.nD → PrngReg), Pre_StickFwd m →
    θ_run (Cert.StickFwd.defs (F := Bits)) (onTc (τ := Cert.StickFwd.τ) (Cert.StickFwd.main (F := Bits))) ⟨m, fun _ => 0, g⟩ (fun r => (∀ c : Dev Cert.StickFwd.nD,
      r.2.mem ((c.tc : Thread Cert.StickFwd.nD Cert.StickFwd.τ).loc Cert.StickFwd.main_arg0) = m ((c.tc : Thread Cert.StickFwd.nD Cert.StickFwd.τ).loc Cert.StickFwd.main_arg0)
      ∧ r.2.mem ((c.tc : Thread Cert.StickFwd.nD Cert.StickFwd.τ).loc Cert.StickFwd.main_arg1) = m ((c.tc : Thread Cert.StickFwd.nD Cert.StickFwd.τ).loc Cert.StickFwd.main_arg1))
      ∧ r.2.sem = fun _ => 0)

def quiescent_StickFwdIdeal [hStickFwdIdeal : Cert.StickFwdIdeal.Facts] : Prop :=
  ∀ (m : (ℓ : Loc Cert.StickFwdIdeal.nD Cert.StickFwdIdeal.τ Cert.StickFwdIdeal.sig) → Buf (Elt Ideal) ℓ) (g : Dev Cert.StickFwdIdeal.nD → PrngReg), Pre_StickFwdIdeal m →
    θ_run (Cert.StickFwdIdeal.defs (F := Ideal)) (onTc (τ := Cert.StickFwdIdeal.τ) (Cert.StickFwdIdeal.main (F := Ideal))) ⟨m, fun _ => 0, g⟩ (fun r => (∀ c : Dev Cert.StickFwdIdeal.nD,
      r.2.mem ((c.tc : Thread Cert.StickFwdIdeal.nD Cert.StickFwdIdeal.τ).loc Cert.StickFwdIdeal.main_arg0) = m ((c.tc : Thread Cert.StickFwdIdeal.nD Cert.StickFwdIdeal.τ).loc Cert.StickFwdIdeal.main_arg0)
      ∧ r.2.mem ((c.tc : Thread Cert.StickFwdIdeal.nD Cert.StickFwdIdeal.τ).loc Cert.StickFwdIdeal.main_arg1) = m ((c.tc : Thread Cert.StickFwdIdeal.nD Cert.StickFwdIdeal.τ).loc Cert.StickFwdIdeal.main_arg1))
      ∧ r.2.sem = fun _ => 0)

def quiescent_StickFwdIdeal_pre_stick_fwd_finite [hStickFwdIdeal : Cert.StickFwdIdeal.Facts] [hPre_stick_fwd_finite : Cert.Pre_stick_fwd_finite.Facts] : Prop :=
  ∀ (m : (ℓ : Loc Cert.StickFwdIdeal.nD Cert.StickFwdIdeal.τ Cert.StickFwdIdeal.sig) → Buf (Elt Ideal) ℓ) (g : Dev Cert.StickFwdIdeal.nD → PrngReg), Pre_StickFwdIdeal_stick_fwd_finite m →
    θ_run (Cert.StickFwdIdeal.defs (F := Ideal)) (onTc (τ := Cert.StickFwdIdeal.τ) (Cert.StickFwdIdeal.main (F := Ideal))) ⟨m, fun _ => 0, g⟩ (fun r => (∀ c : Dev Cert.StickFwdIdeal.nD,
      r.2.mem ((c.tc : Thread Cert.StickFwdIdeal.nD Cert.StickFwdIdeal.τ).loc Cert.StickFwdIdeal.main_arg0) = m ((c.tc : Thread Cert.StickFwdIdeal.nD Cert.StickFwdIdeal.τ).loc Cert.StickFwdIdeal.main_arg0)
      ∧ r.2.mem ((c.tc : Thread Cert.StickFwdIdeal.nD Cert.StickFwdIdeal.τ).loc Cert.StickFwdIdeal.main_arg1) = m ((c.tc : Thread Cert.StickFwdIdeal.nD Cert.StickFwdIdeal.τ).loc Cert.StickFwdIdeal.main_arg1))
      ∧ r.2.sem = fun _ => 0)

def quiescent_StickFwdRefIdeal [hStickFwdRefIdeal : Cert.StickFwdRefIdeal.Facts] : Prop :=
  ∀ (m : (ℓ : Loc Cert.StickFwdRefIdeal.nD Cert.StickFwdRefIdeal.τ Cert.StickFwdRefIdeal.sig) → Buf (Elt Ideal) ℓ) (g : Dev Cert.StickFwdRefIdeal.nD → PrngReg), Pre_StickFwdRefIdeal m →
    θ_run (Cert.StickFwdRefIdeal.defs (F := Ideal)) (onTc (τ := Cert.StickFwdRefIdeal.τ) (Cert.StickFwdRefIdeal.main (F := Ideal))) ⟨m, fun _ => 0, g⟩ (fun r => (∀ c : Dev Cert.StickFwdRefIdeal.nD,
      r.2.mem ((c.tc : Thread Cert.StickFwdRefIdeal.nD Cert.StickFwdRefIdeal.τ).loc Cert.StickFwdRefIdeal.main_arg0) = m ((c.tc : Thread Cert.StickFwdRefIdeal.nD Cert.StickFwdRefIdeal.τ).loc Cert.StickFwdRefIdeal.main_arg0)
      ∧ r.2.mem ((c.tc : Thread Cert.StickFwdRefIdeal.nD Cert.StickFwdRefIdeal.τ).loc Cert.StickFwdRefIdeal.main_arg1) = m ((c.tc : Thread Cert.StickFwdRefIdeal.nD Cert.StickFwdRefIdeal.τ).loc Cert.StickFwdRefIdeal.main_arg1))
      ∧ r.2.sem = fun _ => 0)

def quiescent_StickFwdRefIdeal_pre_stick_fwd_finite [hStickFwdRefIdeal : Cert.StickFwdRefIdeal.Facts] [hPre_stick_fwd_finite : Cert.Pre_stick_fwd_finite.Facts] : Prop :=
  ∀ (m : (ℓ : Loc Cert.StickFwdRefIdeal.nD Cert.StickFwdRefIdeal.τ Cert.StickFwdRefIdeal.sig) → Buf (Elt Ideal) ℓ) (g : Dev Cert.StickFwdRefIdeal.nD → PrngReg), Pre_StickFwdRefIdeal_stick_fwd_finite m →
    θ_run (Cert.StickFwdRefIdeal.defs (F := Ideal)) (onTc (τ := Cert.StickFwdRefIdeal.τ) (Cert.StickFwdRefIdeal.main (F := Ideal))) ⟨m, fun _ => 0, g⟩ (fun r => (∀ c : Dev Cert.StickFwdRefIdeal.nD,
      r.2.mem ((c.tc : Thread Cert.StickFwdRefIdeal.nD Cert.StickFwdRefIdeal.τ).loc Cert.StickFwdRefIdeal.main_arg0) = m ((c.tc : Thread Cert.StickFwdRefIdeal.nD Cert.StickFwdRefIdeal.τ).loc Cert.StickFwdRefIdeal.main_arg0)
      ∧ r.2.mem ((c.tc : Thread Cert.StickFwdRefIdeal.nD Cert.StickFwdRefIdeal.τ).loc Cert.StickFwdRefIdeal.main_arg1) = m ((c.tc : Thread Cert.StickFwdRefIdeal.nD Cert.StickFwdRefIdeal.τ).loc Cert.StickFwdRefIdeal.main_arg1))
      ∧ r.2.sem = fun _ => 0)

def quiescent_InNormBwd [hInNormBwd : Cert.InNormBwd.Facts] : Prop :=
  ∀ (m : (ℓ : Loc Cert.InNormBwd.nD Cert.InNormBwd.τ Cert.InNormBwd.sig) → Buf (Elt Bits) ℓ) (g : Dev Cert.InNormBwd.nD → PrngReg), Pre_InNormBwd m →
    θ_run (Cert.InNormBwd.defs (F := Bits)) (onTc (τ := Cert.InNormBwd.τ) (Cert.InNormBwd.main (F := Bits))) ⟨m, fun _ => 0, g⟩ (fun r => (∀ c : Dev Cert.InNormBwd.nD,
      r.2.mem ((c.tc : Thread Cert.InNormBwd.nD Cert.InNormBwd.τ).loc Cert.InNormBwd.main_arg0) = m ((c.tc : Thread Cert.InNormBwd.nD Cert.InNormBwd.τ).loc Cert.InNormBwd.main_arg0)
      ∧ r.2.mem ((c.tc : Thread Cert.InNormBwd.nD Cert.InNormBwd.τ).loc Cert.InNormBwd.main_arg1) = m ((c.tc : Thread Cert.InNormBwd.nD Cert.InNormBwd.τ).loc Cert.InNormBwd.main_arg1)
      ∧ r.2.mem ((c.tc : Thread Cert.InNormBwd.nD Cert.InNormBwd.τ).loc Cert.InNormBwd.main_arg2) = m ((c.tc : Thread Cert.InNormBwd.nD Cert.InNormBwd.τ).loc Cert.InNormBwd.main_arg2)
      ∧ r.2.mem ((c.tc : Thread Cert.InNormBwd.nD Cert.InNormBwd.τ).loc Cert.InNormBwd.main_arg3) = m ((c.tc : Thread Cert.InNormBwd.nD Cert.InNormBwd.τ).loc Cert.InNormBwd.main_arg3)
      ∧ r.2.mem ((c.tc : Thread Cert.InNormBwd.nD Cert.InNormBwd.τ).loc Cert.InNormBwd.main_arg4) = m ((c.tc : Thread Cert.InNormBwd.nD Cert.InNormBwd.τ).loc Cert.InNormBwd.main_arg4))
      ∧ r.2.sem = fun _ => 0)

def quiescent_InNormBwdIdeal [hInNormBwdIdeal : Cert.InNormBwdIdeal.Facts] : Prop :=
  ∀ (m : (ℓ : Loc Cert.InNormBwdIdeal.nD Cert.InNormBwdIdeal.τ Cert.InNormBwdIdeal.sig) → Buf (Elt Ideal) ℓ) (g : Dev Cert.InNormBwdIdeal.nD → PrngReg), Pre_InNormBwdIdeal m →
    θ_run (Cert.InNormBwdIdeal.defs (F := Ideal)) (onTc (τ := Cert.InNormBwdIdeal.τ) (Cert.InNormBwdIdeal.main (F := Ideal))) ⟨m, fun _ => 0, g⟩ (fun r => (∀ c : Dev Cert.InNormBwdIdeal.nD,
      r.2.mem ((c.tc : Thread Cert.InNormBwdIdeal.nD Cert.InNormBwdIdeal.τ).loc Cert.InNormBwdIdeal.main_arg0) = m ((c.tc : Thread Cert.InNormBwdIdeal.nD Cert.InNormBwdIdeal.τ).loc Cert.InNormBwdIdeal.main_arg0)
      ∧ r.2.mem ((c.tc : Thread Cert.InNormBwdIdeal.nD Cert.InNormBwdIdeal.τ).loc Cert.InNormBwdIdeal.main_arg1) = m ((c.tc : Thread Cert.InNormBwdIdeal.nD Cert.InNormBwdIdeal.τ).loc Cert.InNormBwdIdeal.main_arg1)
      ∧ r.2.mem ((c.tc : Thread Cert.InNormBwdIdeal.nD Cert.InNormBwdIdeal.τ).loc Cert.InNormBwdIdeal.main_arg2) = m ((c.tc : Thread Cert.InNormBwdIdeal.nD Cert.InNormBwdIdeal.τ).loc Cert.InNormBwdIdeal.main_arg2)
      ∧ r.2.mem ((c.tc : Thread Cert.InNormBwdIdeal.nD Cert.InNormBwdIdeal.τ).loc Cert.InNormBwdIdeal.main_arg3) = m ((c.tc : Thread Cert.InNormBwdIdeal.nD Cert.InNormBwdIdeal.τ).loc Cert.InNormBwdIdeal.main_arg3)
      ∧ r.2.mem ((c.tc : Thread Cert.InNormBwdIdeal.nD Cert.InNormBwdIdeal.τ).loc Cert.InNormBwdIdeal.main_arg4) = m ((c.tc : Thread Cert.InNormBwdIdeal.nD Cert.InNormBwdIdeal.τ).loc Cert.InNormBwdIdeal.main_arg4))
      ∧ r.2.sem = fun _ => 0)

def quiescent_InNormBwdIdeal_pre_in_norm_bwd_finite [hInNormBwdIdeal : Cert.InNormBwdIdeal.Facts] [hPre_in_norm_bwd_finite : Cert.Pre_in_norm_bwd_finite.Facts] : Prop :=
  ∀ (m : (ℓ : Loc Cert.InNormBwdIdeal.nD Cert.InNormBwdIdeal.τ Cert.InNormBwdIdeal.sig) → Buf (Elt Ideal) ℓ) (g : Dev Cert.InNormBwdIdeal.nD → PrngReg), Pre_InNormBwdIdeal_in_norm_bwd_finite m →
    θ_run (Cert.InNormBwdIdeal.defs (F := Ideal)) (onTc (τ := Cert.InNormBwdIdeal.τ) (Cert.InNormBwdIdeal.main (F := Ideal))) ⟨m, fun _ => 0, g⟩ (fun r => (∀ c : Dev Cert.InNormBwdIdeal.nD,
      r.2.mem ((c.tc : Thread Cert.InNormBwdIdeal.nD Cert.InNormBwdIdeal.τ).loc Cert.InNormBwdIdeal.main_arg0) = m ((c.tc : Thread Cert.InNormBwdIdeal.nD Cert.InNormBwdIdeal.τ).loc Cert.InNormBwdIdeal.main_arg0)
      ∧ r.2.mem ((c.tc : Thread Cert.InNormBwdIdeal.nD Cert.InNormBwdIdeal.τ).loc Cert.InNormBwdIdeal.main_arg1) = m ((c.tc : Thread Cert.InNormBwdIdeal.nD Cert.InNormBwdIdeal.τ).loc Cert.InNormBwdIdeal.main_arg1)
      ∧ r.2.mem ((c.tc : Thread Cert.InNormBwdIdeal.nD Cert.InNormBwdIdeal.τ).loc Cert.InNormBwdIdeal.main_arg2) = m ((c.tc : Thread Cert.InNormBwdIdeal.nD Cert.InNormBwdIdeal.τ).loc Cert.InNormBwdIdeal.main_arg2)
      ∧ r.2.mem ((c.tc : Thread Cert.InNormBwdIdeal.nD Cert.InNormBwdIdeal.τ).loc Cert.InNormBwdIdeal.main_arg3) = m ((c.tc : Thread Cert.InNormBwdIdeal.nD Cert.InNormBwdIdeal.τ).loc Cert.InNormBwdIdeal.main_arg3)
      ∧ r.2.mem ((c.tc : Thread Cert.InNormBwdIdeal.nD Cert.InNormBwdIdeal.τ).loc Cert.InNormBwdIdeal.main_arg4) = m ((c.tc : Thread Cert.InNormBwdIdeal.nD Cert.InNormBwdIdeal.τ).loc Cert.InNormBwdIdeal.main_arg4))
      ∧ r.2.sem = fun _ => 0)

def quiescent_InNormBwdRefIdeal [hInNormBwdRefIdeal : Cert.InNormBwdRefIdeal.Facts] : Prop :=
  ∀ (m : (ℓ : Loc Cert.InNormBwdRefIdeal.nD Cert.InNormBwdRefIdeal.τ Cert.InNormBwdRefIdeal.sig) → Buf (Elt Ideal) ℓ) (g : Dev Cert.InNormBwdRefIdeal.nD → PrngReg), Pre_InNormBwdRefIdeal m →
    θ_run (Cert.InNormBwdRefIdeal.defs (F := Ideal)) (onTc (τ := Cert.InNormBwdRefIdeal.τ) (Cert.InNormBwdRefIdeal.main (F := Ideal))) ⟨m, fun _ => 0, g⟩ (fun r => (∀ c : Dev Cert.InNormBwdRefIdeal.nD,
      r.2.mem ((c.tc : Thread Cert.InNormBwdRefIdeal.nD Cert.InNormBwdRefIdeal.τ).loc Cert.InNormBwdRefIdeal.main_arg0) = m ((c.tc : Thread Cert.InNormBwdRefIdeal.nD Cert.InNormBwdRefIdeal.τ).loc Cert.InNormBwdRefIdeal.main_arg0)
      ∧ r.2.mem ((c.tc : Thread Cert.InNormBwdRefIdeal.nD Cert.InNormBwdRefIdeal.τ).loc Cert.InNormBwdRefIdeal.main_arg1) = m ((c.tc : Thread Cert.InNormBwdRefIdeal.nD Cert.InNormBwdRefIdeal.τ).loc Cert.InNormBwdRefIdeal.main_arg1)
      ∧ r.2.mem ((c.tc : Thread Cert.InNormBwdRefIdeal.nD Cert.InNormBwdRefIdeal.τ).loc Cert.InNormBwdRefIdeal.main_arg2) = m ((c.tc : Thread Cert.InNormBwdRefIdeal.nD Cert.InNormBwdRefIdeal.τ).loc Cert.InNormBwdRefIdeal.main_arg2)
      ∧ r.2.mem ((c.tc : Thread Cert.InNormBwdRefIdeal.nD Cert.InNormBwdRefIdeal.τ).loc Cert.InNormBwdRefIdeal.main_arg3) = m ((c.tc : Thread Cert.InNormBwdRefIdeal.nD Cert.InNormBwdRefIdeal.τ).loc Cert.InNormBwdRefIdeal.main_arg3)
      ∧ r.2.mem ((c.tc : Thread Cert.InNormBwdRefIdeal.nD Cert.InNormBwdRefIdeal.τ).loc Cert.InNormBwdRefIdeal.main_arg4) = m ((c.tc : Thread Cert.InNormBwdRefIdeal.nD Cert.InNormBwdRefIdeal.τ).loc Cert.InNormBwdRefIdeal.main_arg4))
      ∧ r.2.sem = fun _ => 0)

def quiescent_InNormBwdRefIdeal_pre_in_norm_bwd_finite [hInNormBwdRefIdeal : Cert.InNormBwdRefIdeal.Facts] [hPre_in_norm_bwd_finite : Cert.Pre_in_norm_bwd_finite.Facts] : Prop :=
  ∀ (m : (ℓ : Loc Cert.InNormBwdRefIdeal.nD Cert.InNormBwdRefIdeal.τ Cert.InNormBwdRefIdeal.sig) → Buf (Elt Ideal) ℓ) (g : Dev Cert.InNormBwdRefIdeal.nD → PrngReg), Pre_InNormBwdRefIdeal_in_norm_bwd_finite m →
    θ_run (Cert.InNormBwdRefIdeal.defs (F := Ideal)) (onTc (τ := Cert.InNormBwdRefIdeal.τ) (Cert.InNormBwdRefIdeal.main (F := Ideal))) ⟨m, fun _ => 0, g⟩ (fun r => (∀ c : Dev Cert.InNormBwdRefIdeal.nD,
      r.2.mem ((c.tc : Thread Cert.InNormBwdRefIdeal.nD Cert.InNormBwdRefIdeal.τ).loc Cert.InNormBwdRefIdeal.main_arg0) = m ((c.tc : Thread Cert.InNormBwdRefIdeal.nD Cert.InNormBwdRefIdeal.τ).loc Cert.InNormBwdRefIdeal.main_arg0)
      ∧ r.2.mem ((c.tc : Thread Cert.InNormBwdRefIdeal.nD Cert.InNormBwdRefIdeal.τ).loc Cert.InNormBwdRefIdeal.main_arg1) = m ((c.tc : Thread Cert.InNormBwdRefIdeal.nD Cert.InNormBwdRefIdeal.τ).loc Cert.InNormBwdRefIdeal.main_arg1)
      ∧ r.2.mem ((c.tc : Thread Cert.InNormBwdRefIdeal.nD Cert.InNormBwdRefIdeal.τ).loc Cert.InNormBwdRefIdeal.main_arg2) = m ((c.tc : Thread Cert.InNormBwdRefIdeal.nD Cert.InNormBwdRefIdeal.τ).loc Cert.InNormBwdRefIdeal.main_arg2)
      ∧ r.2.mem ((c.tc : Thread Cert.InNormBwdRefIdeal.nD Cert.InNormBwdRefIdeal.τ).loc Cert.InNormBwdRefIdeal.main_arg3) = m ((c.tc : Thread Cert.InNormBwdRefIdeal.nD Cert.InNormBwdRefIdeal.τ).loc Cert.InNormBwdRefIdeal.main_arg3)
      ∧ r.2.mem ((c.tc : Thread Cert.InNormBwdRefIdeal.nD Cert.InNormBwdRefIdeal.τ).loc Cert.InNormBwdRefIdeal.main_arg4) = m ((c.tc : Thread Cert.InNormBwdRefIdeal.nD Cert.InNormBwdRefIdeal.τ).loc Cert.InNormBwdRefIdeal.main_arg4))
      ∧ r.2.sem = fun _ => 0)

def quiescent_MemAttnBwdB [hMemAttnBwdB : Cert.MemAttnBwdB.Facts] : Prop :=
  ∀ (m : (ℓ : Loc Cert.MemAttnBwdB.nD Cert.MemAttnBwdB.τ Cert.MemAttnBwdB.sig) → Buf (Elt Bits) ℓ) (g : Dev Cert.MemAttnBwdB.nD → PrngReg), Pre_MemAttnBwdB m →
    θ_run (Cert.MemAttnBwdB.defs (F := Bits)) (onTc (τ := Cert.MemAttnBwdB.τ) (Cert.MemAttnBwdB.main (F := Bits))) ⟨m, fun _ => 0, g⟩ (fun r => (∀ c : Dev Cert.MemAttnBwdB.nD,
      r.2.mem ((c.tc : Thread Cert.MemAttnBwdB.nD Cert.MemAttnBwdB.τ).loc Cert.MemAttnBwdB.main_arg0) = m ((c.tc : Thread Cert.MemAttnBwdB.nD Cert.MemAttnBwdB.τ).loc Cert.MemAttnBwdB.main_arg0)
      ∧ r.2.mem ((c.tc : Thread Cert.MemAttnBwdB.nD Cert.MemAttnBwdB.τ).loc Cert.MemAttnBwdB.main_arg1) = m ((c.tc : Thread Cert.MemAttnBwdB.nD Cert.MemAttnBwdB.τ).loc Cert.MemAttnBwdB.main_arg1)
      ∧ r.2.mem ((c.tc : Thread Cert.MemAttnBwdB.nD Cert.MemAttnBwdB.τ).loc Cert.MemAttnBwdB.main_arg2) = m ((c.tc : Thread Cert.MemAttnBwdB.nD Cert.MemAttnBwdB.τ).loc Cert.MemAttnBwdB.main_arg2))
      ∧ r.2.sem = fun _ => 0)

def quiescent_MemAttnBwdBIdeal [hMemAttnBwdBIdeal : Cert.MemAttnBwdBIdeal.Facts] : Prop :=
  ∀ (m : (ℓ : Loc Cert.MemAttnBwdBIdeal.nD Cert.MemAttnBwdBIdeal.τ Cert.MemAttnBwdBIdeal.sig) → Buf (Elt Ideal) ℓ) (g : Dev Cert.MemAttnBwdBIdeal.nD → PrngReg), Pre_MemAttnBwdBIdeal m →
    θ_run (Cert.MemAttnBwdBIdeal.defs (F := Ideal)) (onTc (τ := Cert.MemAttnBwdBIdeal.τ) (Cert.MemAttnBwdBIdeal.main (F := Ideal))) ⟨m, fun _ => 0, g⟩ (fun r => (∀ c : Dev Cert.MemAttnBwdBIdeal.nD,
      r.2.mem ((c.tc : Thread Cert.MemAttnBwdBIdeal.nD Cert.MemAttnBwdBIdeal.τ).loc Cert.MemAttnBwdBIdeal.main_arg0) = m ((c.tc : Thread Cert.MemAttnBwdBIdeal.nD Cert.MemAttnBwdBIdeal.τ).loc Cert.MemAttnBwdBIdeal.main_arg0)
      ∧ r.2.mem ((c.tc : Thread Cert.MemAttnBwdBIdeal.nD Cert.MemAttnBwdBIdeal.τ).loc Cert.MemAttnBwdBIdeal.main_arg1) = m ((c.tc : Thread Cert.MemAttnBwdBIdeal.nD Cert.MemAttnBwdBIdeal.τ).loc Cert.MemAttnBwdBIdeal.main_arg1)
      ∧ r.2.mem ((c.tc : Thread Cert.MemAttnBwdBIdeal.nD Cert.MemAttnBwdBIdeal.τ).loc Cert.MemAttnBwdBIdeal.main_arg2) = m ((c.tc : Thread Cert.MemAttnBwdBIdeal.nD Cert.MemAttnBwdBIdeal.τ).loc Cert.MemAttnBwdBIdeal.main_arg2))
      ∧ r.2.sem = fun _ => 0)

def quiescent_MemAttnBwdBIdeal_pre_mem_attn_bwd_b_finite [hMemAttnBwdBIdeal : Cert.MemAttnBwdBIdeal.Facts] [hPre_mem_attn_bwd_b_finite : Cert.Pre_mem_attn_bwd_b_finite.Facts] : Prop :=
  ∀ (m : (ℓ : Loc Cert.MemAttnBwdBIdeal.nD Cert.MemAttnBwdBIdeal.τ Cert.MemAttnBwdBIdeal.sig) → Buf (Elt Ideal) ℓ) (g : Dev Cert.MemAttnBwdBIdeal.nD → PrngReg), Pre_MemAttnBwdBIdeal_mem_attn_bwd_b_finite m →
    θ_run (Cert.MemAttnBwdBIdeal.defs (F := Ideal)) (onTc (τ := Cert.MemAttnBwdBIdeal.τ) (Cert.MemAttnBwdBIdeal.main (F := Ideal))) ⟨m, fun _ => 0, g⟩ (fun r => (∀ c : Dev Cert.MemAttnBwdBIdeal.nD,
      r.2.mem ((c.tc : Thread Cert.MemAttnBwdBIdeal.nD Cert.MemAttnBwdBIdeal.τ).loc Cert.MemAttnBwdBIdeal.main_arg0) = m ((c.tc : Thread Cert.MemAttnBwdBIdeal.nD Cert.MemAttnBwdBIdeal.τ).loc Cert.MemAttnBwdBIdeal.main_arg0)
      ∧ r.2.mem ((c.tc : Thread Cert.MemAttnBwdBIdeal.nD Cert.MemAttnBwdBIdeal.τ).loc Cert.MemAttnBwdBIdeal.main_arg1) = m ((c.tc : Thread Cert.MemAttnBwdBIdeal.nD Cert.MemAttnBwdBIdeal.τ).loc Cert.MemAttnBwdBIdeal.main_arg1)
      ∧ r.2.mem ((c.tc : Thread Cert.MemAttnBwdBIdeal.nD Cert.MemAttnBwdBIdeal.τ).loc Cert.MemAttnBwdBIdeal.main_arg2) = m ((c.tc : Thread Cert.MemAttnBwdBIdeal.nD Cert.MemAttnBwdBIdeal.τ).loc Cert.MemAttnBwdBIdeal.main_arg2))
      ∧ r.2.sem = fun _ => 0)

def quiescent_MemAttnBwdBRefIdeal [hMemAttnBwdBRefIdeal : Cert.MemAttnBwdBRefIdeal.Facts] : Prop :=
  ∀ (m : (ℓ : Loc Cert.MemAttnBwdBRefIdeal.nD Cert.MemAttnBwdBRefIdeal.τ Cert.MemAttnBwdBRefIdeal.sig) → Buf (Elt Ideal) ℓ) (g : Dev Cert.MemAttnBwdBRefIdeal.nD → PrngReg), Pre_MemAttnBwdBRefIdeal m →
    θ_run (Cert.MemAttnBwdBRefIdeal.defs (F := Ideal)) (onTc (τ := Cert.MemAttnBwdBRefIdeal.τ) (Cert.MemAttnBwdBRefIdeal.main (F := Ideal))) ⟨m, fun _ => 0, g⟩ (fun r => (∀ c : Dev Cert.MemAttnBwdBRefIdeal.nD,
      r.2.mem ((c.tc : Thread Cert.MemAttnBwdBRefIdeal.nD Cert.MemAttnBwdBRefIdeal.τ).loc Cert.MemAttnBwdBRefIdeal.main_arg0) = m ((c.tc : Thread Cert.MemAttnBwdBRefIdeal.nD Cert.MemAttnBwdBRefIdeal.τ).loc Cert.MemAttnBwdBRefIdeal.main_arg0)
      ∧ r.2.mem ((c.tc : Thread Cert.MemAttnBwdBRefIdeal.nD Cert.MemAttnBwdBRefIdeal.τ).loc Cert.MemAttnBwdBRefIdeal.main_arg1) = m ((c.tc : Thread Cert.MemAttnBwdBRefIdeal.nD Cert.MemAttnBwdBRefIdeal.τ).loc Cert.MemAttnBwdBRefIdeal.main_arg1)
      ∧ r.2.mem ((c.tc : Thread Cert.MemAttnBwdBRefIdeal.nD Cert.MemAttnBwdBRefIdeal.τ).loc Cert.MemAttnBwdBRefIdeal.main_arg2) = m ((c.tc : Thread Cert.MemAttnBwdBRefIdeal.nD Cert.MemAttnBwdBRefIdeal.τ).loc Cert.MemAttnBwdBRefIdeal.main_arg2))
      ∧ r.2.sem = fun _ => 0)

def quiescent_MemAttnBwdBRefIdeal_pre_mem_attn_bwd_b_finite [hMemAttnBwdBRefIdeal : Cert.MemAttnBwdBRefIdeal.Facts] [hPre_mem_attn_bwd_b_finite : Cert.Pre_mem_attn_bwd_b_finite.Facts] : Prop :=
  ∀ (m : (ℓ : Loc Cert.MemAttnBwdBRefIdeal.nD Cert.MemAttnBwdBRefIdeal.τ Cert.MemAttnBwdBRefIdeal.sig) → Buf (Elt Ideal) ℓ) (g : Dev Cert.MemAttnBwdBRefIdeal.nD → PrngReg), Pre_MemAttnBwdBRefIdeal_mem_attn_bwd_b_finite m →
    θ_run (Cert.MemAttnBwdBRefIdeal.defs (F := Ideal)) (onTc (τ := Cert.MemAttnBwdBRefIdeal.τ) (Cert.MemAttnBwdBRefIdeal.main (F := Ideal))) ⟨m, fun _ => 0, g⟩ (fun r => (∀ c : Dev Cert.MemAttnBwdBRefIdeal.nD,
      r.2.mem ((c.tc : Thread Cert.MemAttnBwdBRefIdeal.nD Cert.MemAttnBwdBRefIdeal.τ).loc Cert.MemAttnBwdBRefIdeal.main_arg0) = m ((c.tc : Thread Cert.MemAttnBwdBRefIdeal.nD Cert.MemAttnBwdBRefIdeal.τ).loc Cert.MemAttnBwdBRefIdeal.main_arg0)
      ∧ r.2.mem ((c.tc : Thread Cert.MemAttnBwdBRefIdeal.nD Cert.MemAttnBwdBRefIdeal.τ).loc Cert.MemAttnBwdBRefIdeal.main_arg1) = m ((c.tc : Thread Cert.MemAttnBwdBRefIdeal.nD Cert.MemAttnBwdBRefIdeal.τ).loc Cert.MemAttnBwdBRefIdeal.main_arg1)
      ∧ r.2.mem ((c.tc : Thread Cert.MemAttnBwdBRefIdeal.nD Cert.MemAttnBwdBRefIdeal.τ).loc Cert.MemAttnBwdBRefIdeal.main_arg2) = m ((c.tc : Thread Cert.MemAttnBwdBRefIdeal.nD Cert.MemAttnBwdBRefIdeal.τ).loc Cert.MemAttnBwdBRefIdeal.main_arg2))
      ∧ r.2.sem = fun _ => 0)

def quiescent_MemAttnFwd [hMemAttnFwd : Cert.MemAttnFwd.Facts] : Prop :=
  ∀ (m : (ℓ : Loc Cert.MemAttnFwd.nD Cert.MemAttnFwd.τ Cert.MemAttnFwd.sig) → Buf (Elt Bits) ℓ) (g : Dev Cert.MemAttnFwd.nD → PrngReg), Pre_MemAttnFwd m →
    θ_run (Cert.MemAttnFwd.defs (F := Bits)) (onTc (τ := Cert.MemAttnFwd.τ) (Cert.MemAttnFwd.main (F := Bits))) ⟨m, fun _ => 0, g⟩ (fun r => (∀ c : Dev Cert.MemAttnFwd.nD,
      r.2.mem ((c.tc : Thread Cert.MemAttnFwd.nD Cert.MemAttnFwd.τ).loc Cert.MemAttnFwd.main_arg0) = m ((c.tc : Thread Cert.MemAttnFwd.nD Cert.MemAttnFwd.τ).loc Cert.MemAttnFwd.main_arg0)
      ∧ r.2.mem ((c.tc : Thread Cert.MemAttnFwd.nD Cert.MemAttnFwd.τ).loc Cert.MemAttnFwd.main_arg1) = m ((c.tc : Thread Cert.MemAttnFwd.nD Cert.MemAttnFwd.τ).loc Cert.MemAttnFwd.main_arg1))
      ∧ r.2.sem = fun _ => 0)

def quiescent_MemAttnFwdIdeal [hMemAttnFwdIdeal : Cert.MemAttnFwdIdeal.Facts] : Prop :=
  ∀ (m : (ℓ : Loc Cert.MemAttnFwdIdeal.nD Cert.MemAttnFwdIdeal.τ Cert.MemAttnFwdIdeal.sig) → Buf (Elt Ideal) ℓ) (g : Dev Cert.MemAttnFwdIdeal.nD → PrngReg), Pre_MemAttnFwdIdeal m →
    θ_run (Cert.MemAttnFwdIdeal.defs (F := Ideal)) (onTc (τ := Cert.MemAttnFwdIdeal.τ) (Cert.MemAttnFwdIdeal.main (F := Ideal))) ⟨m, fun _ => 0, g⟩ (fun r => (∀ c : Dev Cert.MemAttnFwdIdeal.nD,
      r.2.mem ((c.tc : Thread Cert.MemAttnFwdIdeal.nD Cert.MemAttnFwdIdeal.τ).loc Cert.MemAttnFwdIdeal.main_arg0) = m ((c.tc : Thread Cert.MemAttnFwdIdeal.nD Cert.MemAttnFwdIdeal.τ).loc Cert.MemAttnFwdIdeal.main_arg0)
      ∧ r.2.mem ((c.tc : Thread Cert.MemAttnFwdIdeal.nD Cert.MemAttnFwdIdeal.τ).loc Cert.MemAttnFwdIdeal.main_arg1) = m ((c.tc : Thread Cert.MemAttnFwdIdeal.nD Cert.MemAttnFwdIdeal.τ).loc Cert.MemAttnFwdIdeal.main_arg1))
      ∧ r.2.sem = fun _ => 0)

def quiescent_MemAttnFwdRefIdeal [hMemAttnFwdRefIdeal : Cert.MemAttnFwdRefIdeal.Facts] : Prop :=
  ∀ (m : (ℓ : Loc Cert.MemAttnFwdRefIdeal.nD Cert.MemAttnFwdRefIdeal.τ Cert.MemAttnFwdRefIdeal.sig) → Buf (Elt Ideal) ℓ) (g : Dev Cert.MemAttnFwdRefIdeal.nD → PrngReg), Pre_MemAttnFwdRefIdeal m →
    θ_run (Cert.MemAttnFwdRefIdeal.defs (F := Ideal)) (onTc (τ := Cert.MemAttnFwdRefIdeal.τ) (Cert.MemAttnFwdRefIdeal.main (F := Ideal))) ⟨m, fun _ => 0, g⟩ (fun r => (∀ c : Dev Cert.MemAttnFwdRefIdeal.nD,
      r.2.mem ((c.tc : Thread Cert.MemAttnFwdRefIdeal.nD Cert.MemAttnFwdRefIdeal.τ).loc Cert.MemAttnFwdRefIdeal.main_arg0) = m ((c.tc : Thread Cert.MemAttnFwdRefIdeal.nD Cert.MemAttnFwdRefIdeal.τ).loc Cert.MemAttnFwdRefIdeal.main_arg0)
      ∧ r.2.mem ((c.tc : Thread Cert.MemAttnFwdRefIdeal.nD Cert.MemAttnFwdRefIdeal.τ).loc Cert.MemAttnFwdRefIdeal.main_arg1) = m ((c.tc : Thread Cert.MemAttnFwdRefIdeal.nD Cert.MemAttnFwdRefIdeal.τ).loc Cert.MemAttnFwdRefIdeal.main_arg1))
      ∧ r.2.sem = fun _ => 0)

def quiescent_MemAttnFwdB [hMemAttnFwdB : Cert.MemAttnFwdB.Facts] : Prop :=
  ∀ (m : (ℓ : Loc Cert.MemAttnFwdB.nD Cert.MemAttnFwdB.τ Cert.MemAttnFwdB.sig) → Buf (Elt Bits) ℓ) (g : Dev Cert.MemAttnFwdB.nD → PrngReg), Pre_MemAttnFwdB m →
    θ_run (Cert.MemAttnFwdB.defs (F := Bits)) (onTc (τ := Cert.MemAttnFwdB.τ) (Cert.MemAttnFwdB.main (F := Bits))) ⟨m, fun _ => 0, g⟩ (fun r => (∀ c : Dev Cert.MemAttnFwdB.nD,
      r.2.mem ((c.tc : Thread Cert.MemAttnFwdB.nD Cert.MemAttnFwdB.τ).loc Cert.MemAttnFwdB.main_arg0) = m ((c.tc : Thread Cert.MemAttnFwdB.nD Cert.MemAttnFwdB.τ).loc Cert.MemAttnFwdB.main_arg0)
      ∧ r.2.mem ((c.tc : Thread Cert.MemAttnFwdB.nD Cert.MemAttnFwdB.τ).loc Cert.MemAttnFwdB.main_arg1) = m ((c.tc : Thread Cert.MemAttnFwdB.nD Cert.MemAttnFwdB.τ).loc Cert.MemAttnFwdB.main_arg1))
      ∧ r.2.sem = fun _ => 0)

def quiescent_MemAttnFwdBIdeal [hMemAttnFwdBIdeal : Cert.MemAttnFwdBIdeal.Facts] : Prop :=
  ∀ (m : (ℓ : Loc Cert.MemAttnFwdBIdeal.nD Cert.MemAttnFwdBIdeal.τ Cert.MemAttnFwdBIdeal.sig) → Buf (Elt Ideal) ℓ) (g : Dev Cert.MemAttnFwdBIdeal.nD → PrngReg), Pre_MemAttnFwdBIdeal m →
    θ_run (Cert.MemAttnFwdBIdeal.defs (F := Ideal)) (onTc (τ := Cert.MemAttnFwdBIdeal.τ) (Cert.MemAttnFwdBIdeal.main (F := Ideal))) ⟨m, fun _ => 0, g⟩ (fun r => (∀ c : Dev Cert.MemAttnFwdBIdeal.nD,
      r.2.mem ((c.tc : Thread Cert.MemAttnFwdBIdeal.nD Cert.MemAttnFwdBIdeal.τ).loc Cert.MemAttnFwdBIdeal.main_arg0) = m ((c.tc : Thread Cert.MemAttnFwdBIdeal.nD Cert.MemAttnFwdBIdeal.τ).loc Cert.MemAttnFwdBIdeal.main_arg0)
      ∧ r.2.mem ((c.tc : Thread Cert.MemAttnFwdBIdeal.nD Cert.MemAttnFwdBIdeal.τ).loc Cert.MemAttnFwdBIdeal.main_arg1) = m ((c.tc : Thread Cert.MemAttnFwdBIdeal.nD Cert.MemAttnFwdBIdeal.τ).loc Cert.MemAttnFwdBIdeal.main_arg1))
      ∧ r.2.sem = fun _ => 0)

def quiescent_MemAttnFwdBRefIdeal [hMemAttnFwdBRefIdeal : Cert.MemAttnFwdBRefIdeal.Facts] : Prop :=
  ∀ (m : (ℓ : Loc Cert.MemAttnFwdBRefIdeal.nD Cert.MemAttnFwdBRefIdeal.τ Cert.MemAttnFwdBRefIdeal.sig) → Buf (Elt Ideal) ℓ) (g : Dev Cert.MemAttnFwdBRefIdeal.nD → PrngReg), Pre_MemAttnFwdBRefIdeal m →
    θ_run (Cert.MemAttnFwdBRefIdeal.defs (F := Ideal)) (onTc (τ := Cert.MemAttnFwdBRefIdeal.τ) (Cert.MemAttnFwdBRefIdeal.main (F := Ideal))) ⟨m, fun _ => 0, g⟩ (fun r => (∀ c : Dev Cert.MemAttnFwdBRefIdeal.nD,
      r.2.mem ((c.tc : Thread Cert.MemAttnFwdBRefIdeal.nD Cert.MemAttnFwdBRefIdeal.τ).loc Cert.MemAttnFwdBRefIdeal.main_arg0) = m ((c.tc : Thread Cert.MemAttnFwdBRefIdeal.nD Cert.MemAttnFwdBRefIdeal.τ).loc Cert.MemAttnFwdBRefIdeal.main_arg0)
      ∧ r.2.mem ((c.tc : Thread Cert.MemAttnFwdBRefIdeal.nD Cert.MemAttnFwdBRefIdeal.τ).loc Cert.MemAttnFwdBRefIdeal.main_arg1) = m ((c.tc : Thread Cert.MemAttnFwdBRefIdeal.nD Cert.MemAttnFwdBRefIdeal.τ).loc Cert.MemAttnFwdBRefIdeal.main_arg1))
      ∧ r.2.sem = fun _ => 0)

def quiescent_GateFwd [hGateFwd : Cert.GateFwd.Facts] : Prop :=
  ∀ (m : (ℓ : Loc Cert.GateFwd.nD Cert.GateFwd.τ Cert.GateFwd.sig) → Buf (Elt Bits) ℓ) (g : Dev Cert.GateFwd.nD → PrngReg), Pre_GateFwd m →
    θ_run (Cert.GateFwd.defs (F := Bits)) (onTc (τ := Cert.GateFwd.τ) (Cert.GateFwd.main (F := Bits))) ⟨m, fun _ => 0, g⟩ (fun r => (∀ c : Dev Cert.GateFwd.nD,
      r.2.mem ((c.tc : Thread Cert.GateFwd.nD Cert.GateFwd.τ).loc Cert.GateFwd.main_arg0) = m ((c.tc : Thread Cert.GateFwd.nD Cert.GateFwd.τ).loc Cert.GateFwd.main_arg0)
      ∧ r.2.mem ((c.tc : Thread Cert.GateFwd.nD Cert.GateFwd.τ).loc Cert.GateFwd.main_arg1) = m ((c.tc : Thread Cert.GateFwd.nD Cert.GateFwd.τ).loc Cert.GateFwd.main_arg1))
      ∧ r.2.sem = fun _ => 0)

def quiescent_GateFwdIdeal [hGateFwdIdeal : Cert.GateFwdIdeal.Facts] : Prop :=
  ∀ (m : (ℓ : Loc Cert.GateFwdIdeal.nD Cert.GateFwdIdeal.τ Cert.GateFwdIdeal.sig) → Buf (Elt Ideal) ℓ) (g : Dev Cert.GateFwdIdeal.nD → PrngReg), Pre_GateFwdIdeal m →
    θ_run (Cert.GateFwdIdeal.defs (F := Ideal)) (onTc (τ := Cert.GateFwdIdeal.τ) (Cert.GateFwdIdeal.main (F := Ideal))) ⟨m, fun _ => 0, g⟩ (fun r => (∀ c : Dev Cert.GateFwdIdeal.nD,
      r.2.mem ((c.tc : Thread Cert.GateFwdIdeal.nD Cert.GateFwdIdeal.τ).loc Cert.GateFwdIdeal.main_arg0) = m ((c.tc : Thread Cert.GateFwdIdeal.nD Cert.GateFwdIdeal.τ).loc Cert.GateFwdIdeal.main_arg0)
      ∧ r.2.mem ((c.tc : Thread Cert.GateFwdIdeal.nD Cert.GateFwdIdeal.τ).loc Cert.GateFwdIdeal.main_arg1) = m ((c.tc : Thread Cert.GateFwdIdeal.nD Cert.GateFwdIdeal.τ).loc Cert.GateFwdIdeal.main_arg1))
      ∧ r.2.sem = fun _ => 0)

def quiescent_GateFwdRefIdeal [hGateFwdRefIdeal : Cert.GateFwdRefIdeal.Facts] : Prop :=
  ∀ (m : (ℓ : Loc Cert.GateFwdRefIdeal.nD Cert.GateFwdRefIdeal.τ Cert.GateFwdRefIdeal.sig) → Buf (Elt Ideal) ℓ) (g : Dev Cert.GateFwdRefIdeal.nD → PrngReg), Pre_GateFwdRefIdeal m →
    θ_run (Cert.GateFwdRefIdeal.defs (F := Ideal)) (onTc (τ := Cert.GateFwdRefIdeal.τ) (Cert.GateFwdRefIdeal.main (F := Ideal))) ⟨m, fun _ => 0, g⟩ (fun r => (∀ c : Dev Cert.GateFwdRefIdeal.nD,
      r.2.mem ((c.tc : Thread Cert.GateFwdRefIdeal.nD Cert.GateFwdRefIdeal.τ).loc Cert.GateFwdRefIdeal.main_arg0) = m ((c.tc : Thread Cert.GateFwdRefIdeal.nD Cert.GateFwdRefIdeal.τ).loc Cert.GateFwdRefIdeal.main_arg0)
      ∧ r.2.mem ((c.tc : Thread Cert.GateFwdRefIdeal.nD Cert.GateFwdRefIdeal.τ).loc Cert.GateFwdRefIdeal.main_arg1) = m ((c.tc : Thread Cert.GateFwdRefIdeal.nD Cert.GateFwdRefIdeal.τ).loc Cert.GateFwdRefIdeal.main_arg1))
      ∧ r.2.sem = fun _ => 0)

def quiescent_NormFwd [hNormFwd : Cert.NormFwd.Facts] : Prop :=
  ∀ (m : (ℓ : Loc Cert.NormFwd.nD Cert.NormFwd.τ Cert.NormFwd.sig) → Buf (Elt Bits) ℓ) (g : Dev Cert.NormFwd.nD → PrngReg), Pre_NormFwd m →
    θ_run (Cert.NormFwd.defs (F := Bits)) (onTc (τ := Cert.NormFwd.τ) (Cert.NormFwd.main (F := Bits))) ⟨m, fun _ => 0, g⟩ (fun r => (∀ c : Dev Cert.NormFwd.nD,
      r.2.mem ((c.tc : Thread Cert.NormFwd.nD Cert.NormFwd.τ).loc Cert.NormFwd.main_arg0) = m ((c.tc : Thread Cert.NormFwd.nD Cert.NormFwd.τ).loc Cert.NormFwd.main_arg0)
      ∧ r.2.mem ((c.tc : Thread Cert.NormFwd.nD Cert.NormFwd.τ).loc Cert.NormFwd.main_arg1) = m ((c.tc : Thread Cert.NormFwd.nD Cert.NormFwd.τ).loc Cert.NormFwd.main_arg1))
      ∧ r.2.sem = fun _ => 0)

def quiescent_NormFwdIdeal [hNormFwdIdeal : Cert.NormFwdIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg), Pre_NormFwdIdeal m →
    θ_run (Cert.NormFwdIdeal.defs (F := Ideal)) (onTc (τ := Cert.NormFwdIdeal.τ) (Cert.NormFwdIdeal.main (F := Ideal))) ⟨m, fun _ => 0, g⟩ (fun r => (∀ c : Dev Cert.NormFwdIdeal.nD,
      r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
      ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1))
      ∧ r.2.sem = fun _ => 0)

def quiescent_NormFwdRefIdeal [hNormFwdRefIdeal : Cert.NormFwdRefIdeal.Facts] : Prop :=
  ∀ (m : (ℓ : Loc Cert.NormFwdRefIdeal.nD Cert.NormFwdRefIdeal.τ Cert.NormFwdRefIdeal.sig) → Buf (Elt Ideal) ℓ) (g : Dev Cert.NormFwdRefIdeal.nD → PrngReg), Pre_NormFwdRefIdeal m →
    θ_run (Cert.NormFwdRefIdeal.defs (F := Ideal)) (onTc (τ := Cert.NormFwdRefIdeal.τ) (Cert.NormFwdRefIdeal.main (F := Ideal))) ⟨m, fun _ => 0, g⟩ (fun r => (∀ c : Dev Cert.NormFwdRefIdeal.nD,
      r.2.mem ((c.tc : Thread Cert.NormFwdRefIdeal.nD Cert.NormFwdRefIdeal.τ).loc Cert.NormFwdRefIdeal.main_arg0) = m ((c.tc : Thread Cert.NormFwdRefIdeal.nD Cert.NormFwdRefIdeal.τ).loc Cert.NormFwdRefIdeal.main_arg0)
      ∧ r.2.mem ((c.tc : Thread Cert.NormFwdRefIdeal.nD Cert.NormFwdRefIdeal.τ).loc Cert.NormFwdRefIdeal.main_arg1) = m ((c.tc : Thread Cert.NormFwdRefIdeal.nD Cert.NormFwdRefIdeal.τ).loc Cert.NormFwdRefIdeal.main_arg1))
      ∧ r.2.sem = fun _ => 0)

def quiescent_NormsFwd [hNormsFwd : Cert.NormsFwd.Facts] : Prop :=
  ∀ (m : (ℓ : Loc Cert.NormsFwd.nD Cert.NormsFwd.τ Cert.NormsFwd.sig) → Buf (Elt Bits) ℓ) (g : Dev Cert.NormsFwd.nD → PrngReg), Pre_NormsFwd m →
    θ_run (Cert.NormsFwd.defs (F := Bits)) (onTc (τ := Cert.NormsFwd.τ) (Cert.NormsFwd.main (F := Bits))) ⟨m, fun _ => 0, g⟩ (fun r => (∀ c : Dev Cert.NormsFwd.nD,
      r.2.mem ((c.tc : Thread Cert.NormsFwd.nD Cert.NormsFwd.τ).loc Cert.NormsFwd.main_arg0) = m ((c.tc : Thread Cert.NormsFwd.nD Cert.NormsFwd.τ).loc Cert.NormsFwd.main_arg0)
      ∧ r.2.mem ((c.tc : Thread Cert.NormsFwd.nD Cert.NormsFwd.τ).loc Cert.NormsFwd.main_arg1) = m ((c.tc : Thread Cert.NormsFwd.nD Cert.NormsFwd.τ).loc Cert.NormsFwd.main_arg1)
      ∧ r.2.mem ((c.tc : Thread Cert.NormsFwd.nD Cert.NormsFwd.τ).loc Cert.NormsFwd.main_arg2) = m ((c.tc : Thread Cert.NormsFwd.nD Cert.NormsFwd.τ).loc Cert.NormsFwd.main_arg2))
      ∧ r.2.sem = fun _ => 0)

def quiescent_NormsFwdIdeal [hNormsFwdIdeal : Cert.NormsFwdIdeal.Facts] : Prop :=
  ∀ (m : (ℓ : Loc Cert.NormsFwdIdeal.nD Cert.NormsFwdIdeal.τ Cert.NormsFwdIdeal.sig) → Buf (Elt Ideal) ℓ) (g : Dev Cert.NormsFwdIdeal.nD → PrngReg), Pre_NormsFwdIdeal m →
    θ_run (Cert.NormsFwdIdeal.defs (F := Ideal)) (onTc (τ := Cert.NormsFwdIdeal.τ) (Cert.NormsFwdIdeal.main (F := Ideal))) ⟨m, fun _ => 0, g⟩ (fun r => (∀ c : Dev Cert.NormsFwdIdeal.nD,
      r.2.mem ((c.tc : Thread Cert.NormsFwdIdeal.nD Cert.NormsFwdIdeal.τ).loc Cert.NormsFwdIdeal.main_arg0) = m ((c.tc : Thread Cert.NormsFwdIdeal.nD Cert.NormsFwdIdeal.τ).loc Cert.NormsFwdIdeal.main_arg0)
      ∧ r.2.mem ((c.tc : Thread Cert.NormsFwdIdeal.nD Cert.NormsFwdIdeal.τ).loc Cert.NormsFwdIdeal.main_arg1) = m ((c.tc : Thread Cert.NormsFwdIdeal.nD Cert.NormsFwdIdeal.τ).loc Cert.NormsFwdIdeal.main_arg1)
      ∧ r.2.mem ((c.tc : Thread Cert.NormsFwdIdeal.nD Cert.NormsFwdIdeal.τ).loc Cert.NormsFwdIdeal.main_arg2) = m ((c.tc : Thread Cert.NormsFwdIdeal.nD Cert.NormsFwdIdeal.τ).loc Cert.NormsFwdIdeal.main_arg2))
      ∧ r.2.sem = fun _ => 0)

def quiescent_NormsFwdRefIdeal [hNormsFwdRefIdeal : Cert.NormsFwdRefIdeal.Facts] : Prop :=
  ∀ (m : (ℓ : Loc Cert.NormsFwdRefIdeal.nD Cert.NormsFwdRefIdeal.τ Cert.NormsFwdRefIdeal.sig) → Buf (Elt Ideal) ℓ) (g : Dev Cert.NormsFwdRefIdeal.nD → PrngReg), Pre_NormsFwdRefIdeal m →
    θ_run (Cert.NormsFwdRefIdeal.defs (F := Ideal)) (onTc (τ := Cert.NormsFwdRefIdeal.τ) (Cert.NormsFwdRefIdeal.main (F := Ideal))) ⟨m, fun _ => 0, g⟩ (fun r => (∀ c : Dev Cert.NormsFwdRefIdeal.nD,
      r.2.mem ((c.tc : Thread Cert.NormsFwdRefIdeal.nD Cert.NormsFwdRefIdeal.τ).loc Cert.NormsFwdRefIdeal.main_arg0) = m ((c.tc : Thread Cert.NormsFwdRefIdeal.nD Cert.NormsFwdRefIdeal.τ).loc Cert.NormsFwdRefIdeal.main_arg0)
      ∧ r.2.mem ((c.tc : Thread Cert.NormsFwdRefIdeal.nD Cert.NormsFwdRefIdeal.τ).loc Cert.NormsFwdRefIdeal.main_arg1) = m ((c.tc : Thread Cert.NormsFwdRefIdeal.nD Cert.NormsFwdRefIdeal.τ).loc Cert.NormsFwdRefIdeal.main_arg1)
      ∧ r.2.mem ((c.tc : Thread Cert.NormsFwdRefIdeal.nD Cert.NormsFwdRefIdeal.τ).loc Cert.NormsFwdRefIdeal.main_arg2) = m ((c.tc : Thread Cert.NormsFwdRefIdeal.nD Cert.NormsFwdRefIdeal.τ).loc Cert.NormsFwdRefIdeal.main_arg2))
      ∧ r.2.sem = fun _ => 0)

def quiescent_MemNormFwd [hMemNormFwd : Cert.MemNormFwd.Facts] : Prop :=
  ∀ (m : (ℓ : Loc Cert.MemNormFwd.nD Cert.MemNormFwd.τ Cert.MemNormFwd.sig) → Buf (Elt Bits) ℓ) (g : Dev Cert.MemNormFwd.nD → PrngReg), Pre_MemNormFwd m →
    θ_run (Cert.MemNormFwd.defs (F := Bits)) (onTc (τ := Cert.MemNormFwd.τ) (Cert.MemNormFwd.main (F := Bits))) ⟨m, fun _ => 0, g⟩ (fun r => (∀ c : Dev Cert.MemNormFwd.nD,
      r.2.mem ((c.tc : Thread Cert.MemNormFwd.nD Cert.MemNormFwd.τ).loc Cert.MemNormFwd.main_arg0) = m ((c.tc : Thread Cert.MemNormFwd.nD Cert.MemNormFwd.τ).loc Cert.MemNormFwd.main_arg0)
      ∧ r.2.mem ((c.tc : Thread Cert.MemNormFwd.nD Cert.MemNormFwd.τ).loc Cert.MemNormFwd.main_arg1) = m ((c.tc : Thread Cert.MemNormFwd.nD Cert.MemNormFwd.τ).loc Cert.MemNormFwd.main_arg1))
      ∧ r.2.sem = fun _ => 0)

def quiescent_MemNormFwdIdeal [hMemNormFwdIdeal : Cert.MemNormFwdIdeal.Facts] : Prop :=
  ∀ (m : (ℓ : Loc Cert.MemNormFwdIdeal.nD Cert.MemNormFwdIdeal.τ Cert.MemNormFwdIdeal.sig) → Buf (Elt Ideal) ℓ) (g : Dev Cert.MemNormFwdIdeal.nD → PrngReg), Pre_MemNormFwdIdeal m →
    θ_run (Cert.MemNormFwdIdeal.defs (F := Ideal)) (onTc (τ := Cert.MemNormFwdIdeal.τ) (Cert.MemNormFwdIdeal.main (F := Ideal))) ⟨m, fun _ => 0, g⟩ (fun r => (∀ c : Dev Cert.MemNormFwdIdeal.nD,
      r.2.mem ((c.tc : Thread Cert.MemNormFwdIdeal.nD Cert.MemNormFwdIdeal.τ).loc Cert.MemNormFwdIdeal.main_arg0) = m ((c.tc : Thread Cert.MemNormFwdIdeal.nD Cert.MemNormFwdIdeal.τ).loc Cert.MemNormFwdIdeal.main_arg0)
      ∧ r.2.mem ((c.tc : Thread Cert.MemNormFwdIdeal.nD Cert.MemNormFwdIdeal.τ).loc Cert.MemNormFwdIdeal.main_arg1) = m ((c.tc : Thread Cert.MemNormFwdIdeal.nD Cert.MemNormFwdIdeal.τ).loc Cert.MemNormFwdIdeal.main_arg1))
      ∧ r.2.sem = fun _ => 0)

def quiescent_MemNormFwdRefIdeal [hMemNormFwdRefIdeal : Cert.MemNormFwdRefIdeal.Facts] : Prop :=
  ∀ (m : (ℓ : Loc Cert.MemNormFwdRefIdeal.nD Cert.MemNormFwdRefIdeal.τ Cert.MemNormFwdRefIdeal.sig) → Buf (Elt Ideal) ℓ) (g : Dev Cert.MemNormFwdRefIdeal.nD → PrngReg), Pre_MemNormFwdRefIdeal m →
    θ_run (Cert.MemNormFwdRefIdeal.defs (F := Ideal)) (onTc (τ := Cert.MemNormFwdRefIdeal.τ) (Cert.MemNormFwdRefIdeal.main (F := Ideal))) ⟨m, fun _ => 0, g⟩ (fun r => (∀ c : Dev Cert.MemNormFwdRefIdeal.nD,
      r.2.mem ((c.tc : Thread Cert.MemNormFwdRefIdeal.nD Cert.MemNormFwdRefIdeal.τ).loc Cert.MemNormFwdRefIdeal.main_arg0) = m ((c.tc : Thread Cert.MemNormFwdRefIdeal.nD Cert.MemNormFwdRefIdeal.τ).loc Cert.MemNormFwdRefIdeal.main_arg0)
      ∧ r.2.mem ((c.tc : Thread Cert.MemNormFwdRefIdeal.nD Cert.MemNormFwdRefIdeal.τ).loc Cert.MemNormFwdRefIdeal.main_arg1) = m ((c.tc : Thread Cert.MemNormFwdRefIdeal.nD Cert.MemNormFwdRefIdeal.τ).loc Cert.MemNormFwdRefIdeal.main_arg1))
      ∧ r.2.sem = fun _ => 0)

def quiescent_ScaleFwd [hScaleFwd : Cert.ScaleFwd.Facts] : Prop :=
  ∀ (m : (ℓ : Loc Cert.ScaleFwd.nD Cert.ScaleFwd.τ Cert.ScaleFwd.sig) → Buf (Elt Bits) ℓ) (g : Dev Cert.ScaleFwd.nD → PrngReg), Pre_ScaleFwd m →
    θ_run (Cert.ScaleFwd.defs (F := Bits)) (onTc (τ := Cert.ScaleFwd.τ) (Cert.ScaleFwd.main (F := Bits))) ⟨m, fun _ => 0, g⟩ (fun r => (∀ c : Dev Cert.ScaleFwd.nD,
      r.2.mem ((c.tc : Thread Cert.ScaleFwd.nD Cert.ScaleFwd.τ).loc Cert.ScaleFwd.main_arg0) = m ((c.tc : Thread Cert.ScaleFwd.nD Cert.ScaleFwd.τ).loc Cert.ScaleFwd.main_arg0)
      ∧ r.2.mem ((c.tc : Thread Cert.ScaleFwd.nD Cert.ScaleFwd.τ).loc Cert.ScaleFwd.main_arg1) = m ((c.tc : Thread Cert.ScaleFwd.nD Cert.ScaleFwd.τ).loc Cert.ScaleFwd.main_arg1)
      ∧ r.2.mem ((c.tc : Thread Cert.ScaleFwd.nD Cert.ScaleFwd.τ).loc Cert.ScaleFwd.main_arg2) = m ((c.tc : Thread Cert.ScaleFwd.nD Cert.ScaleFwd.τ).loc Cert.ScaleFwd.main_arg2))
      ∧ r.2.sem = fun _ => 0)

def quiescent_ScaleFwdIdeal [hScaleFwdIdeal : Cert.ScaleFwdIdeal.Facts] : Prop :=
  ∀ (m : (ℓ : Loc Cert.ScaleFwdIdeal.nD Cert.ScaleFwdIdeal.τ Cert.ScaleFwdIdeal.sig) → Buf (Elt Ideal) ℓ) (g : Dev Cert.ScaleFwdIdeal.nD → PrngReg), Pre_ScaleFwdIdeal m →
    θ_run (Cert.ScaleFwdIdeal.defs (F := Ideal)) (onTc (τ := Cert.ScaleFwdIdeal.τ) (Cert.ScaleFwdIdeal.main (F := Ideal))) ⟨m, fun _ => 0, g⟩ (fun r => (∀ c : Dev Cert.ScaleFwdIdeal.nD,
      r.2.mem ((c.tc : Thread Cert.ScaleFwdIdeal.nD Cert.ScaleFwdIdeal.τ).loc Cert.ScaleFwdIdeal.main_arg0) = m ((c.tc : Thread Cert.ScaleFwdIdeal.nD Cert.ScaleFwdIdeal.τ).loc Cert.ScaleFwdIdeal.main_arg0)
      ∧ r.2.mem ((c.tc : Thread Cert.ScaleFwdIdeal.nD Cert.ScaleFwdIdeal.τ).loc Cert.ScaleFwdIdeal.main_arg1) = m ((c.tc : Thread Cert.ScaleFwdIdeal.nD Cert.ScaleFwdIdeal.τ).loc Cert.ScaleFwdIdeal.main_arg1)
      ∧ r.2.mem ((c.tc : Thread Cert.ScaleFwdIdeal.nD Cert.ScaleFwdIdeal.τ).loc Cert.ScaleFwdIdeal.main_arg2) = m ((c.tc : Thread Cert.ScaleFwdIdeal.nD Cert.ScaleFwdIdeal.τ).loc Cert.ScaleFwdIdeal.main_arg2))
      ∧ r.2.sem = fun _ => 0)

def quiescent_ScaleFwdRefIdeal [hScaleFwdRefIdeal : Cert.ScaleFwdRefIdeal.Facts] : Prop :=
  ∀ (m : (ℓ : Loc Cert.ScaleFwdRefIdeal.nD Cert.ScaleFwdRefIdeal.τ Cert.ScaleFwdRefIdeal.sig) → Buf (Elt Ideal) ℓ) (g : Dev Cert.ScaleFwdRefIdeal.nD → PrngReg), Pre_ScaleFwdRefIdeal m →
    θ_run (Cert.ScaleFwdRefIdeal.defs (F := Ideal)) (onTc (τ := Cert.ScaleFwdRefIdeal.τ) (Cert.ScaleFwdRefIdeal.main (F := Ideal))) ⟨m, fun _ => 0, g⟩ (fun r => (∀ c : Dev Cert.ScaleFwdRefIdeal.nD,
      r.2.mem ((c.tc : Thread Cert.ScaleFwdRefIdeal.nD Cert.ScaleFwdRefIdeal.τ).loc Cert.ScaleFwdRefIdeal.main_arg0) = m ((c.tc : Thread Cert.ScaleFwdRefIdeal.nD Cert.ScaleFwdRefIdeal.τ).loc Cert.ScaleFwdRefIdeal.main_arg0)
      ∧ r.2.mem ((c.tc : Thread Cert.ScaleFwdRefIdeal.nD Cert.ScaleFwdRefIdeal.τ).loc Cert.ScaleFwdRefIdeal.main_arg1) = m ((c.tc : Thread Cert.ScaleFwdRefIdeal.nD Cert.ScaleFwdRefIdeal.τ).loc Cert.ScaleFwdRefIdeal.main_arg1)
      ∧ r.2.mem ((c.tc : Thread Cert.ScaleFwdRefIdeal.nD Cert.ScaleFwdRefIdeal.τ).loc Cert.ScaleFwdRefIdeal.main_arg2) = m ((c.tc : Thread Cert.ScaleFwdRefIdeal.nD Cert.ScaleFwdRefIdeal.τ).loc Cert.ScaleFwdRefIdeal.main_arg2))
      ∧ r.2.sem = fun _ => 0)

def quiescent_PoolFwd [hPoolFwd : Cert.PoolFwd.Facts] : Prop :=
  ∀ (m : (ℓ : Loc Cert.PoolFwd.nD Cert.PoolFwd.τ Cert.PoolFwd.sig) → Buf (Elt Bits) ℓ) (g : Dev Cert.PoolFwd.nD → PrngReg), Pre_PoolFwd m →
    θ_run (Cert.PoolFwd.defs (F := Bits)) (onTc (τ := Cert.PoolFwd.τ) (Cert.PoolFwd.main (F := Bits))) ⟨m, fun _ => 0, g⟩ (fun r => (∀ c : Dev Cert.PoolFwd.nD,
      r.2.mem ((c.tc : Thread Cert.PoolFwd.nD Cert.PoolFwd.τ).loc Cert.PoolFwd.main_arg0) = m ((c.tc : Thread Cert.PoolFwd.nD Cert.PoolFwd.τ).loc Cert.PoolFwd.main_arg0))
      ∧ r.2.sem = fun _ => 0)

def quiescent_PoolFwdIdeal [hPoolFwdIdeal : Cert.PoolFwdIdeal.Facts] : Prop :=
  ∀ (m : (ℓ : Loc Cert.PoolFwdIdeal.nD Cert.PoolFwdIdeal.τ Cert.PoolFwdIdeal.sig) → Buf (Elt Ideal) ℓ) (g : Dev Cert.PoolFwdIdeal.nD → PrngReg), Pre_PoolFwdIdeal m →
    θ_run (Cert.PoolFwdIdeal.defs (F := Ideal)) (onTc (τ := Cert.PoolFwdIdeal.τ) (Cert.PoolFwdIdeal.main (F := Ideal))) ⟨m, fun _ => 0, g⟩ (fun r => (∀ c : Dev Cert.PoolFwdIdeal.nD,
      r.2.mem ((c.tc : Thread Cert.PoolFwdIdeal.nD Cert.PoolFwdIdeal.τ).loc Cert.PoolFwdIdeal.main_arg0) = m ((c.tc : Thread Cert.PoolFwdIdeal.nD Cert.PoolFwdIdeal.τ).loc Cert.PoolFwdIdeal.main_arg0))
      ∧ r.2.sem = fun _ => 0)

def quiescent_PoolFwdIdeal_pre_pool_fwd_finite [hPoolFwdIdeal : Cert.PoolFwdIdeal.Facts] [hPre_pool_fwd_finite : Cert.Pre_pool_fwd_finite.Facts] : Prop :=
  ∀ (m : (ℓ : Loc Cert.PoolFwdIdeal.nD Cert.PoolFwdIdeal.τ Cert.PoolFwdIdeal.sig) → Buf (Elt Ideal) ℓ) (g : Dev Cert.PoolFwdIdeal.nD → PrngReg), Pre_PoolFwdIdeal_pool_fwd_finite m →
    θ_run (Cert.PoolFwdIdeal.defs (F := Ideal)) (onTc (τ := Cert.PoolFwdIdeal.τ) (Cert.PoolFwdIdeal.main (F := Ideal))) ⟨m, fun _ => 0, g⟩ (fun r => (∀ c : Dev Cert.PoolFwdIdeal.nD,
      r.2.mem ((c.tc : Thread Cert.PoolFwdIdeal.nD Cert.PoolFwdIdeal.τ).loc Cert.PoolFwdIdeal.main_arg0) = m ((c.tc : Thread Cert.PoolFwdIdeal.nD Cert.PoolFwdIdeal.τ).loc Cert.PoolFwdIdeal.main_arg0))
      ∧ r.2.sem = fun _ => 0)

def quiescent_PoolFwdRefIdeal [hPoolFwdRefIdeal : Cert.PoolFwdRefIdeal.Facts] : Prop :=
  ∀ (m : (ℓ : Loc Cert.PoolFwdRefIdeal.nD Cert.PoolFwdRefIdeal.τ Cert.PoolFwdRefIdeal.sig) → Buf (Elt Ideal) ℓ) (g : Dev Cert.PoolFwdRefIdeal.nD → PrngReg), Pre_PoolFwdRefIdeal m →
    θ_run (Cert.PoolFwdRefIdeal.defs (F := Ideal)) (onTc (τ := Cert.PoolFwdRefIdeal.τ) (Cert.PoolFwdRefIdeal.main (F := Ideal))) ⟨m, fun _ => 0, g⟩ (fun r => (∀ c : Dev Cert.PoolFwdRefIdeal.nD,
      r.2.mem ((c.tc : Thread Cert.PoolFwdRefIdeal.nD Cert.PoolFwdRefIdeal.τ).loc Cert.PoolFwdRefIdeal.main_arg0) = m ((c.tc : Thread Cert.PoolFwdRefIdeal.nD Cert.PoolFwdRefIdeal.τ).loc Cert.PoolFwdRefIdeal.main_arg0))
      ∧ r.2.sem = fun _ => 0)

def quiescent_PoolFwdRefIdeal_pre_pool_fwd_finite [hPoolFwdRefIdeal : Cert.PoolFwdRefIdeal.Facts] [hPre_pool_fwd_finite : Cert.Pre_pool_fwd_finite.Facts] : Prop :=
  ∀ (m : (ℓ : Loc Cert.PoolFwdRefIdeal.nD Cert.PoolFwdRefIdeal.τ Cert.PoolFwdRefIdeal.sig) → Buf (Elt Ideal) ℓ) (g : Dev Cert.PoolFwdRefIdeal.nD → PrngReg), Pre_PoolFwdRefIdeal_pool_fwd_finite m →
    θ_run (Cert.PoolFwdRefIdeal.defs (F := Ideal)) (onTc (τ := Cert.PoolFwdRefIdeal.τ) (Cert.PoolFwdRefIdeal.main (F := Ideal))) ⟨m, fun _ => 0, g⟩ (fun r => (∀ c : Dev Cert.PoolFwdRefIdeal.nD,
      r.2.mem ((c.tc : Thread Cert.PoolFwdRefIdeal.nD Cert.PoolFwdRefIdeal.τ).loc Cert.PoolFwdRefIdeal.main_arg0) = m ((c.tc : Thread Cert.PoolFwdRefIdeal.nD Cert.PoolFwdRefIdeal.τ).loc Cert.PoolFwdRefIdeal.main_arg0))
      ∧ r.2.sem = fun _ => 0)

def quiescent_GuDw [hGuDw : Cert.GuDw.Facts] : Prop :=
  ∀ (m : (ℓ : Loc Cert.GuDw.nD Cert.GuDw.τ Cert.GuDw.sig) → Buf (Elt Bits) ℓ) (g : Dev Cert.GuDw.nD → PrngReg), Pre_GuDw m →
    θ_run (Cert.GuDw.defs (F := Bits)) (onTc (τ := Cert.GuDw.τ) (Cert.GuDw.main (F := Bits))) ⟨m, fun _ => 0, g⟩ (fun r => (∀ c : Dev Cert.GuDw.nD,
      r.2.mem ((c.tc : Thread Cert.GuDw.nD Cert.GuDw.τ).loc Cert.GuDw.main_arg0) = m ((c.tc : Thread Cert.GuDw.nD Cert.GuDw.τ).loc Cert.GuDw.main_arg0)
      ∧ r.2.mem ((c.tc : Thread Cert.GuDw.nD Cert.GuDw.τ).loc Cert.GuDw.main_arg1) = m ((c.tc : Thread Cert.GuDw.nD Cert.GuDw.τ).loc Cert.GuDw.main_arg1))
      ∧ r.2.sem = fun _ => 0)

def quiescent_GuDwIdeal [hGuDwIdeal : Cert.GuDwIdeal.Facts] : Prop :=
  ∀ (m : (ℓ : Loc Cert.GuDwIdeal.nD Cert.GuDwIdeal.τ Cert.GuDwIdeal.sig) → Buf (Elt Ideal) ℓ) (g : Dev Cert.GuDwIdeal.nD → PrngReg), Pre_GuDwIdeal m →
    θ_run (Cert.GuDwIdeal.defs (F := Ideal)) (onTc (τ := Cert.GuDwIdeal.τ) (Cert.GuDwIdeal.main (F := Ideal))) ⟨m, fun _ => 0, g⟩ (fun r => (∀ c : Dev Cert.GuDwIdeal.nD,
      r.2.mem ((c.tc : Thread Cert.GuDwIdeal.nD Cert.GuDwIdeal.τ).loc Cert.GuDwIdeal.main_arg0) = m ((c.tc : Thread Cert.GuDwIdeal.nD Cert.GuDwIdeal.τ).loc Cert.GuDwIdeal.main_arg0)
      ∧ r.2.mem ((c.tc : Thread Cert.GuDwIdeal.nD Cert.GuDwIdeal.τ).loc Cert.GuDwIdeal.main_arg1) = m ((c.tc : Thread Cert.GuDwIdeal.nD Cert.GuDwIdeal.τ).loc Cert.GuDwIdeal.main_arg1))
      ∧ r.2.sem = fun _ => 0)

def quiescent_GuDwRefIdeal [hGuDwRefIdeal : Cert.GuDwRefIdeal.Facts] : Prop :=
  ∀ (m : (ℓ : Loc Cert.GuDwRefIdeal.nD Cert.GuDwRefIdeal.τ Cert.GuDwRefIdeal.sig) → Buf (Elt Ideal) ℓ) (g : Dev Cert.GuDwRefIdeal.nD → PrngReg), Pre_GuDwRefIdeal m →
    θ_run (Cert.GuDwRefIdeal.defs (F := Ideal)) (onTc (τ := Cert.GuDwRefIdeal.τ) (Cert.GuDwRefIdeal.main (F := Ideal))) ⟨m, fun _ => 0, g⟩ (fun r => (∀ c : Dev Cert.GuDwRefIdeal.nD,
      r.2.mem ((c.tc : Thread Cert.GuDwRefIdeal.nD Cert.GuDwRefIdeal.τ).loc Cert.GuDwRefIdeal.main_arg0) = m ((c.tc : Thread Cert.GuDwRefIdeal.nD Cert.GuDwRefIdeal.τ).loc Cert.GuDwRefIdeal.main_arg0)
      ∧ r.2.mem ((c.tc : Thread Cert.GuDwRefIdeal.nD Cert.GuDwRefIdeal.τ).loc Cert.GuDwRefIdeal.main_arg1) = m ((c.tc : Thread Cert.GuDwRefIdeal.nD Cert.GuDwRefIdeal.τ).loc Cert.GuDwRefIdeal.main_arg1))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def quiescent_AdamKv [hAdamKv : Cert.AdamKv.Facts] : Prop :=
  ∀ (m : (ℓ : Loc Cert.AdamKv.nD Cert.AdamKv.τ Cert.AdamKv.sig) → Buf (Elt Bits) ℓ) (g : Dev Cert.AdamKv.nD → PrngReg), Pre_AdamKv m →
    θ_run (Cert.AdamKv.defs (F := Bits)) (onTc (τ := Cert.AdamKv.τ) (Cert.AdamKv.main (F := Bits))) ⟨m, fun _ => 0, g⟩ (fun r => (∀ c : Dev Cert.AdamKv.nD,
      r.2.mem ((c.tc : Thread Cert.AdamKv.nD Cert.AdamKv.τ).loc Cert.AdamKv.main_arg0) = m ((c.tc : Thread Cert.AdamKv.nD Cert.AdamKv.τ).loc Cert.AdamKv.main_arg0)
      ∧ r.2.mem ((c.tc : Thread Cert.AdamKv.nD Cert.AdamKv.τ).loc Cert.AdamKv.main_arg1) = m ((c.tc : Thread Cert.AdamKv.nD Cert.AdamKv.τ).loc Cert.AdamKv.main_arg1)
      ∧ r.2.mem ((c.tc : Thread Cert.AdamKv.nD Cert.AdamKv.τ).loc Cert.AdamKv.main_arg2) = m ((c.tc : Thread Cert.AdamKv.nD Cert.AdamKv.τ).loc Cert.AdamKv.main_arg2)
      ∧ r.2.mem ((c.tc : Thread Cert.AdamKv.nD Cert.AdamKv.τ).loc Cert.AdamKv.main_arg3) = m ((c.tc : Thread Cert.AdamKv.nD Cert.AdamKv.τ).loc Cert.AdamKv.main_arg3))
      ∧ r.2.sem = fun _ => 0)

def quiescent_AdamKvIdeal [hAdamKvIdeal : Cert.AdamKvIdeal.Facts] : Prop :=
  ∀ (m : (ℓ : Loc Cert.AdamKvIdeal.nD Cert.AdamKvIdeal.τ Cert.AdamKvIdeal.sig) → Buf (Elt Ideal) ℓ) (g : Dev Cert.AdamKvIdeal.nD → PrngReg), Pre_AdamKvIdeal m →
    θ_run (Cert.AdamKvIdeal.defs (F := Ideal)) (onTc (τ := Cert.AdamKvIdeal.τ) (Cert.AdamKvIdeal.main (F := Ideal))) ⟨m, fun _ => 0, g⟩ (fun r => (∀ c : Dev Cert.AdamKvIdeal.nD,
      r.2.mem ((c.tc : Thread Cert.AdamKvIdeal.nD Cert.AdamKvIdeal.τ).loc Cert.AdamKvIdeal.main_arg0) = m ((c.tc : Thread Cert.AdamKvIdeal.nD Cert.AdamKvIdeal.τ).loc Cert.AdamKvIdeal.main_arg0)
      ∧ r.2.mem ((c.tc : Thread Cert.AdamKvIdeal.nD Cert.AdamKvIdeal.τ).loc Cert.AdamKvIdeal.main_arg1) = m ((c.tc : Thread Cert.AdamKvIdeal.nD Cert.AdamKvIdeal.τ).loc Cert.AdamKvIdeal.main_arg1)
      ∧ r.2.mem ((c.tc : Thread Cert.AdamKvIdeal.nD Cert.AdamKvIdeal.τ).loc Cert.AdamKvIdeal.main_arg2) = m ((c.tc : Thread Cert.AdamKvIdeal.nD Cert.AdamKvIdeal.τ).loc Cert.AdamKvIdeal.main_arg2)
      ∧ r.2.mem ((c.tc : Thread Cert.AdamKvIdeal.nD Cert.AdamKvIdeal.τ).loc Cert.AdamKvIdeal.main_arg3) = m ((c.tc : Thread Cert.AdamKvIdeal.nD Cert.AdamKvIdeal.τ).loc Cert.AdamKvIdeal.main_arg3))
      ∧ r.2.sem = fun _ => 0)

def quiescent_AdamKvRefIdeal [hAdamKvRefIdeal : Cert.AdamKvRefIdeal.Facts] : Prop :=
  ∀ (m : (ℓ : Loc Cert.AdamKvRefIdeal.nD Cert.AdamKvRefIdeal.τ Cert.AdamKvRefIdeal.sig) → Buf (Elt Ideal) ℓ) (g : Dev Cert.AdamKvRefIdeal.nD → PrngReg), Pre_AdamKvRefIdeal m →
    θ_run (Cert.AdamKvRefIdeal.defs (F := Ideal)) (onTc (τ := Cert.AdamKvRefIdeal.τ) (Cert.AdamKvRefIdeal.main (F := Ideal))) ⟨m, fun _ => 0, g⟩ (fun r => (∀ c : Dev Cert.AdamKvRefIdeal.nD,
      r.2.mem ((c.tc : Thread Cert.AdamKvRefIdeal.nD Cert.AdamKvRefIdeal.τ).loc Cert.AdamKvRefIdeal.main_arg0) = m ((c.tc : Thread Cert.AdamKvRefIdeal.nD Cert.AdamKvRefIdeal.τ).loc Cert.AdamKvRefIdeal.main_arg0)
      ∧ r.2.mem ((c.tc : Thread Cert.AdamKvRefIdeal.nD Cert.AdamKvRefIdeal.τ).loc Cert.AdamKvRefIdeal.main_arg1) = m ((c.tc : Thread Cert.AdamKvRefIdeal.nD Cert.AdamKvRefIdeal.τ).loc Cert.AdamKvRefIdeal.main_arg1)
      ∧ r.2.mem ((c.tc : Thread Cert.AdamKvRefIdeal.nD Cert.AdamKvRefIdeal.τ).loc Cert.AdamKvRefIdeal.main_arg2) = m ((c.tc : Thread Cert.AdamKvRefIdeal.nD Cert.AdamKvRefIdeal.τ).loc Cert.AdamKvRefIdeal.main_arg2)
      ∧ r.2.mem ((c.tc : Thread Cert.AdamKvRefIdeal.nD Cert.AdamKvRefIdeal.τ).loc Cert.AdamKvRefIdeal.main_arg3) = m ((c.tc : Thread Cert.AdamKvRefIdeal.nD Cert.AdamKvRefIdeal.τ).loc Cert.AdamKvRefIdeal.main_arg3))
      ∧ r.2.sem = fun _ => 0)

def quiescent_AdamMem [hAdamMem : Cert.AdamMem.Facts] : Prop :=
  ∀ (m : (ℓ : Loc Cert.AdamMem.nD Cert.AdamMem.τ Cert.AdamMem.sig) → Buf (Elt Bits) ℓ) (g : Dev Cert.AdamMem.nD → PrngReg), Pre_AdamMem m →
    θ_run (Cert.AdamMem.defs (F := Bits)) (onTc (τ := Cert.AdamMem.τ) (Cert.AdamMem.main (F := Bits))) ⟨m, fun _ => 0, g⟩ (fun r => (∀ c : Dev Cert.AdamMem.nD,
      r.2.mem ((c.tc : Thread Cert.AdamMem.nD Cert.AdamMem.τ).loc Cert.AdamMem.main_arg0) = m ((c.tc : Thread Cert.AdamMem.nD Cert.AdamMem.τ).loc Cert.AdamMem.main_arg0)
      ∧ r.2.mem ((c.tc : Thread Cert.AdamMem.nD Cert.AdamMem.τ).loc Cert.AdamMem.main_arg1) = m ((c.tc : Thread Cert.AdamMem.nD Cert.AdamMem.τ).loc Cert.AdamMem.main_arg1)
      ∧ r.2.mem ((c.tc : Thread Cert.AdamMem.nD Cert.AdamMem.τ).loc Cert.AdamMem.main_arg2) = m ((c.tc : Thread Cert.AdamMem.nD Cert.AdamMem.τ).loc Cert.AdamMem.main_arg2)
      ∧ r.2.mem ((c.tc : Thread Cert.AdamMem.nD Cert.AdamMem.τ).loc Cert.AdamMem.main_arg3) = m ((c.tc : Thread Cert.AdamMem.nD Cert.AdamMem.τ).loc Cert.AdamMem.main_arg3))
      ∧ r.2.sem = fun _ => 0)

def quiescent_AdamMemIdeal [hAdamMemIdeal : Cert.AdamMemIdeal.Facts] : Prop :=
  ∀ (m : (ℓ : Loc Cert.AdamMemIdeal.nD Cert.AdamMemIdeal.τ Cert.AdamMemIdeal.sig) → Buf (Elt Ideal) ℓ) (g : Dev Cert.AdamMemIdeal.nD → PrngReg), Pre_AdamMemIdeal m →
    θ_run (Cert.AdamMemIdeal.defs (F := Ideal)) (onTc (τ := Cert.AdamMemIdeal.τ) (Cert.AdamMemIdeal.main (F := Ideal))) ⟨m, fun _ => 0, g⟩ (fun r => (∀ c : Dev Cert.AdamMemIdeal.nD,
      r.2.mem ((c.tc : Thread Cert.AdamMemIdeal.nD Cert.AdamMemIdeal.τ).loc Cert.AdamMemIdeal.main_arg0) = m ((c.tc : Thread Cert.AdamMemIdeal.nD Cert.AdamMemIdeal.τ).loc Cert.AdamMemIdeal.main_arg0)
      ∧ r.2.mem ((c.tc : Thread Cert.AdamMemIdeal.nD Cert.AdamMemIdeal.τ).loc Cert.AdamMemIdeal.main_arg1) = m ((c.tc : Thread Cert.AdamMemIdeal.nD Cert.AdamMemIdeal.τ).loc Cert.AdamMemIdeal.main_arg1)
      ∧ r.2.mem ((c.tc : Thread Cert.AdamMemIdeal.nD Cert.AdamMemIdeal.τ).loc Cert.AdamMemIdeal.main_arg2) = m ((c.tc : Thread Cert.AdamMemIdeal.nD Cert.AdamMemIdeal.τ).loc Cert.AdamMemIdeal.main_arg2)
      ∧ r.2.mem ((c.tc : Thread Cert.AdamMemIdeal.nD Cert.AdamMemIdeal.τ).loc Cert.AdamMemIdeal.main_arg3) = m ((c.tc : Thread Cert.AdamMemIdeal.nD Cert.AdamMemIdeal.τ).loc Cert.AdamMemIdeal.main_arg3))
      ∧ r.2.sem = fun _ => 0)

def quiescent_AdamMemRefIdeal [hAdamMemRefIdeal : Cert.AdamMemRefIdeal.Facts] : Prop :=
  ∀ (m : (ℓ : Loc Cert.AdamMemRefIdeal.nD Cert.AdamMemRefIdeal.τ Cert.AdamMemRefIdeal.sig) → Buf (Elt Ideal) ℓ) (g : Dev Cert.AdamMemRefIdeal.nD → PrngReg), Pre_AdamMemRefIdeal m →
    θ_run (Cert.AdamMemRefIdeal.defs (F := Ideal)) (onTc (τ := Cert.AdamMemRefIdeal.τ) (Cert.AdamMemRefIdeal.main (F := Ideal))) ⟨m, fun _ => 0, g⟩ (fun r => (∀ c : Dev Cert.AdamMemRefIdeal.nD,
      r.2.mem ((c.tc : Thread Cert.AdamMemRefIdeal.nD Cert.AdamMemRefIdeal.τ).loc Cert.AdamMemRefIdeal.main_arg0) = m ((c.tc : Thread Cert.AdamMemRefIdeal.nD Cert.AdamMemRefIdeal.τ).loc Cert.AdamMemRefIdeal.main_arg0)
      ∧ r.2.mem ((c.tc : Thread Cert.AdamMemRefIdeal.nD Cert.AdamMemRefIdeal.τ).loc Cert.AdamMemRefIdeal.main_arg1) = m ((c.tc : Thread Cert.AdamMemRefIdeal.nD Cert.AdamMemRefIdeal.τ).loc Cert.AdamMemRefIdeal.main_arg1)
      ∧ r.2.mem ((c.tc : Thread Cert.AdamMemRefIdeal.nD Cert.AdamMemRefIdeal.τ).loc Cert.AdamMemRefIdeal.main_arg2) = m ((c.tc : Thread Cert.AdamMemRefIdeal.nD Cert.AdamMemRefIdeal.τ).loc Cert.AdamMemRefIdeal.main_arg2)
      ∧ r.2.mem ((c.tc : Thread Cert.AdamMemRefIdeal.nD Cert.AdamMemRefIdeal.τ).loc Cert.AdamMemRefIdeal.main_arg3) = m ((c.tc : Thread Cert.AdamMemRefIdeal.nD Cert.AdamMemRefIdeal.τ).loc Cert.AdamMemRefIdeal.main_arg3))
      ∧ r.2.sem = fun _ => 0)

def quiescent_AdamGu [hAdamGu : Cert.AdamGu.Facts] : Prop :=
  ∀ (m : (ℓ : Loc Cert.AdamGu.nD Cert.AdamGu.τ Cert.AdamGu.sig) → Buf (Elt Bits) ℓ) (g : Dev Cert.AdamGu.nD → PrngReg), Pre_AdamGu m →
    θ_run (Cert.AdamGu.defs (F := Bits)) (onTc (τ := Cert.AdamGu.τ) (Cert.AdamGu.main (F := Bits))) ⟨m, fun _ => 0, g⟩ (fun r => (∀ c : Dev Cert.AdamGu.nD,
      r.2.mem ((c.tc : Thread Cert.AdamGu.nD Cert.AdamGu.τ).loc Cert.AdamGu.main_arg0) = m ((c.tc : Thread Cert.AdamGu.nD Cert.AdamGu.τ).loc Cert.AdamGu.main_arg0)
      ∧ r.2.mem ((c.tc : Thread Cert.AdamGu.nD Cert.AdamGu.τ).loc Cert.AdamGu.main_arg1) = m ((c.tc : Thread Cert.AdamGu.nD Cert.AdamGu.τ).loc Cert.AdamGu.main_arg1)
      ∧ r.2.mem ((c.tc : Thread Cert.AdamGu.nD Cert.AdamGu.τ).loc Cert.AdamGu.main_arg2) = m ((c.tc : Thread Cert.AdamGu.nD Cert.AdamGu.τ).loc Cert.AdamGu.main_arg2)
      ∧ r.2.mem ((c.tc : Thread Cert.AdamGu.nD Cert.AdamGu.τ).loc Cert.AdamGu.main_arg3) = m ((c.tc : Thread Cert.AdamGu.nD Cert.AdamGu.τ).loc Cert.AdamGu.main_arg3))
      ∧ r.2.sem = fun _ => 0)

def quiescent_AdamGuIdeal [hAdamGuIdeal : Cert.AdamGuIdeal.Facts] : Prop :=
  ∀ (m : (ℓ : Loc Cert.AdamGuIdeal.nD Cert.AdamGuIdeal.τ Cert.AdamGuIdeal.sig) → Buf (Elt Ideal) ℓ) (g : Dev Cert.AdamGuIdeal.nD → PrngReg), Pre_AdamGuIdeal m →
    θ_run (Cert.AdamGuIdeal.defs (F := Ideal)) (onTc (τ := Cert.AdamGuIdeal.τ) (Cert.AdamGuIdeal.main (F := Ideal))) ⟨m, fun _ => 0, g⟩ (fun r => (∀ c : Dev Cert.AdamGuIdeal.nD,
      r.2.mem ((c.tc : Thread Cert.AdamGuIdeal.nD Cert.AdamGuIdeal.τ).loc Cert.AdamGuIdeal.main_arg0) = m ((c.tc : Thread Cert.AdamGuIdeal.nD Cert.AdamGuIdeal.τ).loc Cert.AdamGuIdeal.main_arg0)
      ∧ r.2.mem ((c.tc : Thread Cert.AdamGuIdeal.nD Cert.AdamGuIdeal.τ).loc Cert.AdamGuIdeal.main_arg1) = m ((c.tc : Thread Cert.AdamGuIdeal.nD Cert.AdamGuIdeal.τ).loc Cert.AdamGuIdeal.main_arg1)
      ∧ r.2.mem ((c.tc : Thread Cert.AdamGuIdeal.nD Cert.AdamGuIdeal.τ).loc Cert.AdamGuIdeal.main_arg2) = m ((c.tc : Thread Cert.AdamGuIdeal.nD Cert.AdamGuIdeal.τ).loc Cert.AdamGuIdeal.main_arg2)
      ∧ r.2.mem ((c.tc : Thread Cert.AdamGuIdeal.nD Cert.AdamGuIdeal.τ).loc Cert.AdamGuIdeal.main_arg3) = m ((c.tc : Thread Cert.AdamGuIdeal.nD Cert.AdamGuIdeal.τ).loc Cert.AdamGuIdeal.main_arg3))
      ∧ r.2.sem = fun _ => 0)

def quiescent_AdamGuRefIdeal [hAdamGuRefIdeal : Cert.AdamGuRefIdeal.Facts] : Prop :=
  ∀ (m : (ℓ : Loc Cert.AdamGuRefIdeal.nD Cert.AdamGuRefIdeal.τ Cert.AdamGuRefIdeal.sig) → Buf (Elt Ideal) ℓ) (g : Dev Cert.AdamGuRefIdeal.nD → PrngReg), Pre_AdamGuRefIdeal m →
    θ_run (Cert.AdamGuRefIdeal.defs (F := Ideal)) (onTc (τ := Cert.AdamGuRefIdeal.τ) (Cert.AdamGuRefIdeal.main (F := Ideal))) ⟨m, fun _ => 0, g⟩ (fun r => (∀ c : Dev Cert.AdamGuRefIdeal.nD,
      r.2.mem ((c.tc : Thread Cert.AdamGuRefIdeal.nD Cert.AdamGuRefIdeal.τ).loc Cert.AdamGuRefIdeal.main_arg0) = m ((c.tc : Thread Cert.AdamGuRefIdeal.nD Cert.AdamGuRefIdeal.τ).loc Cert.AdamGuRefIdeal.main_arg0)
      ∧ r.2.mem ((c.tc : Thread Cert.AdamGuRefIdeal.nD Cert.AdamGuRefIdeal.τ).loc Cert.AdamGuRefIdeal.main_arg1) = m ((c.tc : Thread Cert.AdamGuRefIdeal.nD Cert.AdamGuRefIdeal.τ).loc Cert.AdamGuRefIdeal.main_arg1)
      ∧ r.2.mem ((c.tc : Thread Cert.AdamGuRefIdeal.nD Cert.AdamGuRefIdeal.τ).loc Cert.AdamGuRefIdeal.main_arg2) = m ((c.tc : Thread Cert.AdamGuRefIdeal.nD Cert.AdamGuRefIdeal.τ).loc Cert.AdamGuRefIdeal.main_arg2)
      ∧ r.2.mem ((c.tc : Thread Cert.AdamGuRefIdeal.nD Cert.AdamGuRefIdeal.τ).loc Cert.AdamGuRefIdeal.main_arg3) = m ((c.tc : Thread Cert.AdamGuRefIdeal.nD Cert.AdamGuRefIdeal.τ).loc Cert.AdamGuRefIdeal.main_arg3))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ r.2.sem = fun _ => 0)

def quiescent_AdamDownRefIdeal [hAdamDownRefIdeal : Cert.AdamDownRefIdeal.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3))
      ∧ r.2.sem = fun _ => 0)

def preserves_PoolBwd_PoolBwdIdeal : Prop :=
  True

def algebraic_PoolBwdIdeal_PoolBwdRefIdeal_pre_pool_bwd_finite [hPoolBwdIdeal : Cert.PoolBwdIdeal.Facts] [hPoolBwdRefIdeal : Cert.PoolBwdRefIdeal.Facts] [hPre_pool_bwd_finite : Cert.Pre_pool_bwd_finite.Facts] : Prop :=
  ∀ (m : (ℓ : Loc Cert.PoolBwdIdeal.nD Cert.PoolBwdIdeal.τ Cert.PoolBwdIdeal.sig) → Buf (Elt Ideal) ℓ) (g : Dev Cert.PoolBwdIdeal.nD → PrngReg)
    (m' : (ℓ : Loc Cert.PoolBwdRefIdeal.nD Cert.PoolBwdRefIdeal.τ Cert.PoolBwdRefIdeal.sig) → Buf (Elt Ideal) ℓ) (g' : Dev Cert.PoolBwdRefIdeal.nD → PrngReg), Pre_PoolBwdIdeal_pool_bwd_finite m →
    (∀ c : Dev Cert.PoolBwdIdeal.nD,
      m' ((c.tc : Thread Cert.PoolBwdRefIdeal.nD Cert.PoolBwdRefIdeal.τ).loc Cert.PoolBwdRefIdeal.main_arg0) = m ((c.tc : Thread Cert.PoolBwdIdeal.nD Cert.PoolBwdIdeal.τ).loc Cert.PoolBwdIdeal.main_arg0)) →
    ∃ (v0 : (c : Dev Cert.PoolBwdIdeal.nD) → Buf (Elt Ideal) ((c.tc : Thread Cert.PoolBwdIdeal.nD Cert.PoolBwdIdeal.τ).loc Cert.PoolBwdIdeal.main_v0)),
      θ_run (Cert.PoolBwdIdeal.defs (F := Ideal)) (onTc (τ := Cert.PoolBwdIdeal.τ) (Cert.PoolBwdIdeal.main (F := Ideal))) ⟨m, fun _ => 0, g⟩ (fun r => ∀ c : Dev Cert.PoolBwdIdeal.nD,
          r.2.mem ((c.tc : Thread Cert.PoolBwdIdeal.nD Cert.PoolBwdIdeal.τ).loc Cert.PoolBwdIdeal.main_v0) = v0 c
          ∧ r.2.mem ((c.tc : Thread Cert.PoolBwdIdeal.nD Cert.PoolBwdIdeal.τ).loc Cert.PoolBwdIdeal.main_arg0) = m ((c.tc : Thread Cert.PoolBwdIdeal.nD Cert.PoolBwdIdeal.τ).loc Cert.PoolBwdIdeal.main_arg0))
      ∧ θ_run (Cert.PoolBwdRefIdeal.defs (F := Ideal)) (onTc (τ := Cert.PoolBwdRefIdeal.τ) (Cert.PoolBwdRefIdeal.main (F := Ideal))) ⟨m', fun _ => 0, g'⟩ (fun r => ∀ c : Dev Cert.PoolBwdRefIdeal.nD,
          r.2.mem ((c.tc : Thread Cert.PoolBwdRefIdeal.nD Cert.PoolBwdRefIdeal.τ).loc Cert.PoolBwdRefIdeal.main_v105) = v0 c
          ∧ r.2.mem ((c.tc : Thread Cert.PoolBwdRefIdeal.nD Cert.PoolBwdRefIdeal.τ).loc Cert.PoolBwdRefIdeal.main_arg0) = m' ((c.tc : Thread Cert.PoolBwdRefIdeal.nD Cert.PoolBwdRefIdeal.τ).loc Cert.PoolBwdRefIdeal.main_arg0))

def preserves_StickBwd_StickBwdIdeal : Prop :=
  True

def algebraic_StickBwdIdeal_StickBwdRefIdeal_pre_stick_bwd_finite [hStickBwdIdeal : Cert.StickBwdIdeal.Facts] [hStickBwdRefIdeal : Cert.StickBwdRefIdeal.Facts] [hPre_stick_bwd_finite : Cert.Pre_stick_bwd_finite.Facts] : Prop :=
  ∀ (m : (ℓ : Loc Cert.StickBwdIdeal.nD Cert.StickBwdIdeal.τ Cert.StickBwdIdeal.sig) → Buf (Elt Ideal) ℓ) (g : Dev Cert.StickBwdIdeal.nD → PrngReg)
    (m' : (ℓ : Loc Cert.StickBwdRefIdeal.nD Cert.StickBwdRefIdeal.τ Cert.StickBwdRefIdeal.sig) → Buf (Elt Ideal) ℓ) (g' : Dev Cert.StickBwdRefIdeal.nD → PrngReg), Pre_StickBwdIdeal_stick_bwd_finite m →
    (∀ c : Dev Cert.StickBwdIdeal.nD,
      m' ((c.tc : Thread Cert.StickBwdRefIdeal.nD Cert.StickBwdRefIdeal.τ).loc Cert.StickBwdRefIdeal.main_arg0) = m ((c.tc : Thread Cert.StickBwdIdeal.nD Cert.StickBwdIdeal.τ).loc Cert.StickBwdIdeal.main_arg0)
      ∧ m' ((c.tc : Thread Cert.StickBwdRefIdeal.nD Cert.StickBwdRefIdeal.τ).loc Cert.StickBwdRefIdeal.main_arg1) = m ((c.tc : Thread Cert.StickBwdIdeal.nD Cert.StickBwdIdeal.τ).loc Cert.StickBwdIdeal.main_arg1)
      ∧ m' ((c.tc : Thread Cert.StickBwdRefIdeal.nD Cert.StickBwdRefIdeal.τ).loc Cert.StickBwdRefIdeal.main_arg2) = m ((c.tc : Thread Cert.StickBwdIdeal.nD Cert.StickBwdIdeal.τ).loc Cert.StickBwdIdeal.main_arg2)) →
    ∃ (v0 : (c : Dev Cert.StickBwdIdeal.nD) → Buf (Elt Ideal) ((c.tc : Thread Cert.StickBwdIdeal.nD Cert.StickBwdIdeal.τ).loc Cert.StickBwdIdeal.main_v22_0)) (v1 : (c : Dev Cert.StickBwdIdeal.nD) → Buf (Elt Ideal) ((c.tc : Thread Cert.StickBwdIdeal.nD Cert.StickBwdIdeal.τ).loc Cert.StickBwdIdeal.main_v23)),
      θ_run (Cert.StickBwdIdeal.defs (F := Ideal)) (onTc (τ := Cert.StickBwdIdeal.τ) (Cert.StickBwdIdeal.main (F := Ideal))) ⟨m, fun _ => 0, g⟩ (fun r => ∀ c : Dev Cert.StickBwdIdeal.nD,
          r.2.mem ((c.tc : Thread Cert.StickBwdIdeal.nD Cert.StickBwdIdeal.τ).loc Cert.StickBwdIdeal.main_v22_0) = v0 c
          ∧ r.2.mem ((c.tc : Thread Cert.StickBwdIdeal.nD Cert.StickBwdIdeal.τ).loc Cert.StickBwdIdeal.main_v23) = v1 c
          ∧ r.2.mem ((c.tc : Thread Cert.StickBwdIdeal.nD Cert.StickBwdIdeal.τ).loc Cert.StickBwdIdeal.main_arg0) = m ((c.tc : Thread Cert.StickBwdIdeal.nD Cert.StickBwdIdeal.τ).loc Cert.StickBwdIdeal.main_arg0)
          ∧ r.2.mem ((c.tc : Thread Cert.StickBwdIdeal.nD Cert.StickBwdIdeal.τ).loc Cert.StickBwdIdeal.main_arg1) = m ((c.tc : Thread Cert.StickBwdIdeal.nD Cert.StickBwdIdeal.τ).loc Cert.StickBwdIdeal.main_arg1)
          ∧ r.2.mem ((c.tc : Thread Cert.StickBwdIdeal.nD Cert.StickBwdIdeal.τ).loc Cert.StickBwdIdeal.main_arg2) = m ((c.tc : Thread Cert.StickBwdIdeal.nD Cert.StickBwdIdeal.τ).loc Cert.StickBwdIdeal.main_arg2))
      ∧ θ_run (Cert.StickBwdRefIdeal.defs (F := Ideal)) (onTc (τ := Cert.StickBwdRefIdeal.τ) (Cert.StickBwdRefIdeal.main (F := Ideal))) ⟨m', fun _ => 0, g'⟩ (fun r => ∀ c : Dev Cert.StickBwdRefIdeal.nD,
          r.2.mem ((c.tc : Thread Cert.StickBwdRefIdeal.nD Cert.StickBwdRefIdeal.τ).loc Cert.StickBwdRefIdeal.main_v62) = v0 c
          ∧ r.2.mem ((c.tc : Thread Cert.StickBwdRefIdeal.nD Cert.StickBwdRefIdeal.τ).loc Cert.StickBwdRefIdeal.main_v63) = v1 c
          ∧ r.2.mem ((c.tc : Thread Cert.StickBwdRefIdeal.nD Cert.StickBwdRefIdeal.τ).loc Cert.StickBwdRefIdeal.main_arg0) = m' ((c.tc : Thread Cert.StickBwdRefIdeal.nD Cert.StickBwdRefIdeal.τ).loc Cert.StickBwdRefIdeal.main_arg0)
          ∧ r.2.mem ((c.tc : Thread Cert.StickBwdRefIdeal.nD Cert.StickBwdRefIdeal.τ).loc Cert.StickBwdRefIdeal.main_arg1) = m' ((c.tc : Thread Cert.StickBwdRefIdeal.nD Cert.StickBwdRefIdeal.τ).loc Cert.StickBwdRefIdeal.main_arg1)
          ∧ r.2.mem ((c.tc : Thread Cert.StickBwdRefIdeal.nD Cert.StickBwdRefIdeal.τ).loc Cert.StickBwdRefIdeal.main_arg2) = m' ((c.tc : Thread Cert.StickBwdRefIdeal.nD Cert.StickBwdRefIdeal.τ).loc Cert.StickBwdRefIdeal.main_arg2))

def preserves_ScaleBwd_ScaleBwdIdeal : Prop :=
  True

def algebraic_ScaleBwdIdeal_ScaleBwdRefIdeal [hScaleBwdIdeal : Cert.ScaleBwdIdeal.Facts] [hScaleBwdRefIdeal : Cert.ScaleBwdRefIdeal.Facts] : Prop :=
  ∀ (m : (ℓ : Loc Cert.ScaleBwdIdeal.nD Cert.ScaleBwdIdeal.τ Cert.ScaleBwdIdeal.sig) → Buf (Elt Ideal) ℓ) (g : Dev Cert.ScaleBwdIdeal.nD → PrngReg)
    (m' : (ℓ : Loc Cert.ScaleBwdRefIdeal.nD Cert.ScaleBwdRefIdeal.τ Cert.ScaleBwdRefIdeal.sig) → Buf (Elt Ideal) ℓ) (g' : Dev Cert.ScaleBwdRefIdeal.nD → PrngReg), Pre_ScaleBwdIdeal m →
    (∀ c : Dev Cert.ScaleBwdIdeal.nD,
      m' ((c.tc : Thread Cert.ScaleBwdRefIdeal.nD Cert.ScaleBwdRefIdeal.τ).loc Cert.ScaleBwdRefIdeal.main_arg0) = m ((c.tc : Thread Cert.ScaleBwdIdeal.nD Cert.ScaleBwdIdeal.τ).loc Cert.ScaleBwdIdeal.main_arg0)
      ∧ m' ((c.tc : Thread Cert.ScaleBwdRefIdeal.nD Cert.ScaleBwdRefIdeal.τ).loc Cert.ScaleBwdRefIdeal.main_arg1) = m ((c.tc : Thread Cert.ScaleBwdIdeal.nD Cert.ScaleBwdIdeal.τ).loc Cert.ScaleBwdIdeal.main_arg1)
      ∧ m' ((c.tc : Thread Cert.ScaleBwdRefIdeal.nD Cert.ScaleBwdRefIdeal.τ).loc Cert.ScaleBwdRefIdeal.main_arg2) = m ((c.tc : Thread Cert.ScaleBwdIdeal.nD Cert.ScaleBwdIdeal.τ).loc Cert.ScaleBwdIdeal.main_arg2)) →
    ∃ (v0 : (c : Dev Cert.ScaleBwdIdeal.nD) → Buf (Elt Ideal) ((c.tc : Thread Cert.ScaleBwdIdeal.nD Cert.ScaleBwdIdeal.τ).loc Cert.ScaleBwdIdeal.main_v0_0)) (v1 : (c : Dev Cert.ScaleBwdIdeal.nD) → Buf (Elt Ideal) ((c.tc : Thread Cert.ScaleBwdIdeal.nD Cert.ScaleBwdIdeal.τ).loc Cert.ScaleBwdIdeal.main_v0_1)),
      θ_run (Cert.ScaleBwdIdeal.defs (F := Ideal)) (onTc (τ := Cert.ScaleBwdIdeal.τ) (Cert.ScaleBwdIdeal.main (F := Ideal))) ⟨m, fun _ => 0, g⟩ (fun r => ∀ c : Dev Cert.ScaleBwdIdeal.nD,
          r.2.mem ((c.tc : Thread Cert.ScaleBwdIdeal.nD Cert.ScaleBwdIdeal.τ).loc Cert.ScaleBwdIdeal.main_v0_0) = v0 c
          ∧ r.2.mem ((c.tc : Thread Cert.ScaleBwdIdeal.nD Cert.ScaleBwdIdeal.τ).loc Cert.ScaleBwdIdeal.main_v0_1) = v1 c
          ∧ r.2.mem ((c.tc : Thread Cert.ScaleBwdIdeal.nD Cert.ScaleBwdIdeal.τ).loc Cert.ScaleBwdIdeal.main_arg0) = m ((c.tc : Thread Cert.ScaleBwdIdeal.nD Cert.ScaleBwdIdeal.τ).loc Cert.ScaleBwdIdeal.main_arg0)
          ∧ r.2.mem ((c.tc : Thread Cert.ScaleBwdIdeal.nD Cert.ScaleBwdIdeal.τ).loc Cert.ScaleBwdIdeal.main_arg1) = m ((c.tc : Thread Cert.ScaleBwdIdeal.nD Cert.ScaleBwdIdeal.τ).loc Cert.ScaleBwdIdeal.main_arg1)
          ∧ r.2.mem ((c.tc : Thread Cert.ScaleBwdIdeal.nD Cert.ScaleBwdIdeal.τ).loc Cert.ScaleBwdIdeal.main_arg2) = m ((c.tc : Thread Cert.ScaleBwdIdeal.nD Cert.ScaleBwdIdeal.τ).loc Cert.ScaleBwdIdeal.main_arg2))
      ∧ θ_run (Cert.ScaleBwdRefIdeal.defs (F := Ideal)) (onTc (τ := Cert.ScaleBwdRefIdeal.τ) (Cert.ScaleBwdRefIdeal.main (F := Ideal))) ⟨m', fun _ => 0, g'⟩ (fun r => ∀ c : Dev Cert.ScaleBwdRefIdeal.nD,
          r.2.mem ((c.tc : Thread Cert.ScaleBwdRefIdeal.nD Cert.ScaleBwdRefIdeal.τ).loc Cert.ScaleBwdRefIdeal.main_v13) = v0 c
          ∧ r.2.mem ((c.tc : Thread Cert.ScaleBwdRefIdeal.nD Cert.ScaleBwdRefIdeal.τ).loc Cert.ScaleBwdRefIdeal.main_v10) = v1 c
          ∧ r.2.mem ((c.tc : Thread Cert.ScaleBwdRefIdeal.nD Cert.ScaleBwdRefIdeal.τ).loc Cert.ScaleBwdRefIdeal.main_arg0) = m' ((c.tc : Thread Cert.ScaleBwdRefIdeal.nD Cert.ScaleBwdRefIdeal.τ).loc Cert.ScaleBwdRefIdeal.main_arg0)
          ∧ r.2.mem ((c.tc : Thread Cert.ScaleBwdRefIdeal.nD Cert.ScaleBwdRefIdeal.τ).loc Cert.ScaleBwdRefIdeal.main_arg1) = m' ((c.tc : Thread Cert.ScaleBwdRefIdeal.nD Cert.ScaleBwdRefIdeal.τ).loc Cert.ScaleBwdRefIdeal.main_arg1)
          ∧ r.2.mem ((c.tc : Thread Cert.ScaleBwdRefIdeal.nD Cert.ScaleBwdRefIdeal.τ).loc Cert.ScaleBwdRefIdeal.main_arg2) = m' ((c.tc : Thread Cert.ScaleBwdRefIdeal.nD Cert.ScaleBwdRefIdeal.τ).loc Cert.ScaleBwdRefIdeal.main_arg2))

def preserves_SwigluBwd_SwigluBwdIdeal : Prop :=
  True

def algebraic_SwigluBwdIdeal_SwigluBwdRefIdeal_pre_swiglu_bwd_finite [hSwigluBwdIdeal : Cert.SwigluBwdIdeal.Facts] [hSwigluBwdRefIdeal : Cert.SwigluBwdRefIdeal.Facts] [hPre_swiglu_bwd_finite : Cert.Pre_swiglu_bwd_finite.Facts] : Prop :=
  ∀ (m : (ℓ : Loc Cert.SwigluBwdIdeal.nD Cert.SwigluBwdIdeal.τ Cert.SwigluBwdIdeal.sig) → Buf (Elt Ideal) ℓ) (g : Dev Cert.SwigluBwdIdeal.nD → PrngReg)
    (m' : (ℓ : Loc Cert.SwigluBwdRefIdeal.nD Cert.SwigluBwdRefIdeal.τ Cert.SwigluBwdRefIdeal.sig) → Buf (Elt Ideal) ℓ) (g' : Dev Cert.SwigluBwdRefIdeal.nD → PrngReg), Pre_SwigluBwdIdeal_swiglu_bwd_finite m →
    (∀ c : Dev Cert.SwigluBwdIdeal.nD,
      m' ((c.tc : Thread Cert.SwigluBwdRefIdeal.nD Cert.SwigluBwdRefIdeal.τ).loc Cert.SwigluBwdRefIdeal.main_arg0) = m ((c.tc : Thread Cert.SwigluBwdIdeal.nD Cert.SwigluBwdIdeal.τ).loc Cert.SwigluBwdIdeal.main_arg0)
      ∧ m' ((c.tc : Thread Cert.SwigluBwdRefIdeal.nD Cert.SwigluBwdRefIdeal.τ).loc Cert.SwigluBwdRefIdeal.main_arg1) = m ((c.tc : Thread Cert.SwigluBwdIdeal.nD Cert.SwigluBwdIdeal.τ).loc Cert.SwigluBwdIdeal.main_arg1)
      ∧ m' ((c.tc : Thread Cert.SwigluBwdRefIdeal.nD Cert.SwigluBwdRefIdeal.τ).loc Cert.SwigluBwdRefIdeal.main_arg2) = m ((c.tc : Thread Cert.SwigluBwdIdeal.nD Cert.SwigluBwdIdeal.τ).loc Cert.SwigluBwdIdeal.main_arg2)
      ∧ m' ((c.tc : Thread Cert.SwigluBwdRefIdeal.nD Cert.SwigluBwdRefIdeal.τ).loc Cert.SwigluBwdRefIdeal.main_arg3) = m ((c.tc : Thread Cert.SwigluBwdIdeal.nD Cert.SwigluBwdIdeal.τ).loc Cert.SwigluBwdIdeal.main_arg3)) →
    ∃ (v0 : (c : Dev Cert.SwigluBwdIdeal.nD) → Buf (Elt Ideal) ((c.tc : Thread Cert.SwigluBwdIdeal.nD Cert.SwigluBwdIdeal.τ).loc Cert.SwigluBwdIdeal.main_v0)),
      θ_run (Cert.SwigluBwdIdeal.defs (F := Ideal)) (onTc (τ := Cert.SwigluBwdIdeal.τ) (Cert.SwigluBwdIdeal.main (F := Ideal))) ⟨m, fun _ => 0, g⟩ (fun r => ∀ c : Dev Cert.SwigluBwdIdeal.nD,
          r.2.mem ((c.tc : Thread Cert.SwigluBwdIdeal.nD Cert.SwigluBwdIdeal.τ).loc Cert.SwigluBwdIdeal.main_v0) = v0 c
          ∧ r.2.mem ((c.tc : Thread Cert.SwigluBwdIdeal.nD Cert.SwigluBwdIdeal.τ).loc Cert.SwigluBwdIdeal.main_arg0) = m ((c.tc : Thread Cert.SwigluBwdIdeal.nD Cert.SwigluBwdIdeal.τ).loc Cert.SwigluBwdIdeal.main_arg0)
          ∧ r.2.mem ((c.tc : Thread Cert.SwigluBwdIdeal.nD Cert.SwigluBwdIdeal.τ).loc Cert.SwigluBwdIdeal.main_arg1) = m ((c.tc : Thread Cert.SwigluBwdIdeal.nD Cert.SwigluBwdIdeal.τ).loc Cert.SwigluBwdIdeal.main_arg1)
          ∧ r.2.mem ((c.tc : Thread Cert.SwigluBwdIdeal.nD Cert.SwigluBwdIdeal.τ).loc Cert.SwigluBwdIdeal.main_arg2) = m ((c.tc : Thread Cert.SwigluBwdIdeal.nD Cert.SwigluBwdIdeal.τ).loc Cert.SwigluBwdIdeal.main_arg2)
          ∧ r.2.mem ((c.tc : Thread Cert.SwigluBwdIdeal.nD Cert.SwigluBwdIdeal.τ).loc Cert.SwigluBwdIdeal.main_arg3) = m ((c.tc : Thread Cert.SwigluBwdIdeal.nD Cert.SwigluBwdIdeal.τ).loc Cert.SwigluBwdIdeal.main_arg3))
      ∧ θ_run (Cert.SwigluBwdRefIdeal.defs (F := Ideal)) (onTc (τ := Cert.SwigluBwdRefIdeal.τ) (Cert.SwigluBwdRefIdeal.main (F := Ideal))) ⟨m', fun _ => 0, g'⟩ (fun r => ∀ c : Dev Cert.SwigluBwdRefIdeal.nD,
          r.2.mem ((c.tc : Thread Cert.SwigluBwdRefIdeal.nD Cert.SwigluBwdRefIdeal.τ).loc Cert.SwigluBwdRefIdeal.main_v15) = v0 c
          ∧ r.2.mem ((c.tc : Thread Cert.SwigluBwdRefIdeal.nD Cert.SwigluBwdRefIdeal.τ).loc Cert.SwigluBwdRefIdeal.main_arg0) = m' ((c.tc : Thread Cert.SwigluBwdRefIdeal.nD Cert.SwigluBwdRefIdeal.τ).loc Cert.SwigluBwdRefIdeal.main_arg0)
          ∧ r.2.mem ((c.tc : Thread Cert.SwigluBwdRefIdeal.nD Cert.SwigluBwdRefIdeal.τ).loc Cert.SwigluBwdRefIdeal.main_arg1) = m' ((c.tc : Thread Cert.SwigluBwdRefIdeal.nD Cert.SwigluBwdRefIdeal.τ).loc Cert.SwigluBwdRefIdeal.main_arg1)
          ∧ r.2.mem ((c.tc : Thread Cert.SwigluBwdRefIdeal.nD Cert.SwigluBwdRefIdeal.τ).loc Cert.SwigluBwdRefIdeal.main_arg2) = m' ((c.tc : Thread Cert.SwigluBwdRefIdeal.nD Cert.SwigluBwdRefIdeal.τ).loc Cert.SwigluBwdRefIdeal.main_arg2)
          ∧ r.2.mem ((c.tc : Thread Cert.SwigluBwdRefIdeal.nD Cert.SwigluBwdRefIdeal.τ).loc Cert.SwigluBwdRefIdeal.main_arg3) = m' ((c.tc : Thread Cert.SwigluBwdRefIdeal.nD Cert.SwigluBwdRefIdeal.τ).loc Cert.SwigluBwdRefIdeal.main_arg3))

def preserves_MemNormBwd_MemNormBwdIdeal : Prop :=
  True

def algebraic_MemNormBwdIdeal_MemNormBwdRefIdeal_pre_mem_norm_bwd_finite [hMemNormBwdIdeal : Cert.MemNormBwdIdeal.Facts] [hMemNormBwdRefIdeal : Cert.MemNormBwdRefIdeal.Facts] [hPre_mem_norm_bwd_finite : Cert.Pre_mem_norm_bwd_finite.Facts] : Prop :=
  ∀ (m : (ℓ : Loc Cert.MemNormBwdIdeal.nD Cert.MemNormBwdIdeal.τ Cert.MemNormBwdIdeal.sig) → Buf (Elt Ideal) ℓ) (g : Dev Cert.MemNormBwdIdeal.nD → PrngReg)
    (m' : (ℓ : Loc Cert.MemNormBwdRefIdeal.nD Cert.MemNormBwdRefIdeal.τ Cert.MemNormBwdRefIdeal.sig) → Buf (Elt Ideal) ℓ) (g' : Dev Cert.MemNormBwdRefIdeal.nD → PrngReg), Pre_MemNormBwdIdeal_mem_norm_bwd_finite m →
    (∀ c : Dev Cert.MemNormBwdIdeal.nD,
      m' ((c.tc : Thread Cert.MemNormBwdRefIdeal.nD Cert.MemNormBwdRefIdeal.τ).loc Cert.MemNormBwdRefIdeal.main_arg0) = m ((c.tc : Thread Cert.MemNormBwdIdeal.nD Cert.MemNormBwdIdeal.τ).loc Cert.MemNormBwdIdeal.main_arg0)
      ∧ m' ((c.tc : Thread Cert.MemNormBwdRefIdeal.nD Cert.MemNormBwdRefIdeal.τ).loc Cert.MemNormBwdRefIdeal.main_arg1) = m ((c.tc : Thread Cert.MemNormBwdIdeal.nD Cert.MemNormBwdIdeal.τ).loc Cert.MemNormBwdIdeal.main_arg1)
      ∧ m' ((c.tc : Thread Cert.MemNormBwdRefIdeal.nD Cert.MemNormBwdRefIdeal.τ).loc Cert.MemNormBwdRefIdeal.main_arg2) = m ((c.tc : Thread Cert.MemNormBwdIdeal.nD Cert.MemNormBwdIdeal.τ).loc Cert.MemNormBwdIdeal.main_arg2)) →
    ∃ (v0 : (c : Dev Cert.MemNormBwdIdeal.nD) → Buf (Elt Ideal) ((c.tc : Thread Cert.MemNormBwdIdeal.nD Cert.MemNormBwdIdeal.τ).loc Cert.MemNormBwdIdeal.main_v0)),
      θ_run (Cert.MemNormBwdIdeal.defs (F := Ideal)) (onTc (τ := Cert.MemNormBwdIdeal.τ) (Cert.MemNormBwdIdeal.main (F := Ideal))) ⟨m, fun _ => 0, g⟩ (fun r => ∀ c : Dev Cert.MemNormBwdIdeal.nD,
          r.2.mem ((c.tc : Thread Cert.MemNormBwdIdeal.nD Cert.MemNormBwdIdeal.τ).loc Cert.MemNormBwdIdeal.main_v0) = v0 c
          ∧ r.2.mem ((c.tc : Thread Cert.MemNormBwdIdeal.nD Cert.MemNormBwdIdeal.τ).loc Cert.MemNormBwdIdeal.main_arg0) = m ((c.tc : Thread Cert.MemNormBwdIdeal.nD Cert.MemNormBwdIdeal.τ).loc Cert.MemNormBwdIdeal.main_arg0)
          ∧ r.2.mem ((c.tc : Thread Cert.MemNormBwdIdeal.nD Cert.MemNormBwdIdeal.τ).loc Cert.MemNormBwdIdeal.main_arg1) = m ((c.tc : Thread Cert.MemNormBwdIdeal.nD Cert.MemNormBwdIdeal.τ).loc Cert.MemNormBwdIdeal.main_arg1)
          ∧ r.2.mem ((c.tc : Thread Cert.MemNormBwdIdeal.nD Cert.MemNormBwdIdeal.τ).loc Cert.MemNormBwdIdeal.main_arg2) = m ((c.tc : Thread Cert.MemNormBwdIdeal.nD Cert.MemNormBwdIdeal.τ).loc Cert.MemNormBwdIdeal.main_arg2))
      ∧ θ_run (Cert.MemNormBwdRefIdeal.defs (F := Ideal)) (onTc (τ := Cert.MemNormBwdRefIdeal.τ) (Cert.MemNormBwdRefIdeal.main (F := Ideal))) ⟨m', fun _ => 0, g'⟩ (fun r => ∀ c : Dev Cert.MemNormBwdRefIdeal.nD,
          r.2.mem ((c.tc : Thread Cert.MemNormBwdRefIdeal.nD Cert.MemNormBwdRefIdeal.τ).loc Cert.MemNormBwdRefIdeal.main_v14) = v0 c
          ∧ r.2.mem ((c.tc : Thread Cert.MemNormBwdRefIdeal.nD Cert.MemNormBwdRefIdeal.τ).loc Cert.MemNormBwdRefIdeal.main_arg0) = m' ((c.tc : Thread Cert.MemNormBwdRefIdeal.nD Cert.MemNormBwdRefIdeal.τ).loc Cert.MemNormBwdRefIdeal.main_arg0)
          ∧ r.2.mem ((c.tc : Thread Cert.MemNormBwdRefIdeal.nD Cert.MemNormBwdRefIdeal.τ).loc Cert.MemNormBwdRefIdeal.main_arg1) = m' ((c.tc : Thread Cert.MemNormBwdRefIdeal.nD Cert.MemNormBwdRefIdeal.τ).loc Cert.MemNormBwdRefIdeal.main_arg1)
          ∧ r.2.mem ((c.tc : Thread Cert.MemNormBwdRefIdeal.nD Cert.MemNormBwdRefIdeal.τ).loc Cert.MemNormBwdRefIdeal.main_arg2) = m' ((c.tc : Thread Cert.MemNormBwdRefIdeal.nD Cert.MemNormBwdRefIdeal.τ).loc Cert.MemNormBwdRefIdeal.main_arg2))

def preserves_LossHead_LossHeadIdeal : Prop :=
  True

def algebraic_LossHeadIdeal_LossHeadRefIdeal_pre_loss_head_finite [hLossHeadIdeal : Cert.LossHeadIdeal.Facts] [hLossHeadRefIdeal : Cert.LossHeadRefIdeal.Facts] [hPre_loss_head_finite : Cert.Pre_loss_head_finite.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadRefIdeal.nD Cert.LossHeadRefIdeal.τ Cert.LossHeadRefIdeal.sig) → Buf (Elt Ideal) ℓ) (g' : Dev Cert.LossHeadRefIdeal.nD → PrngReg), Pre_LossHeadIdeal_loss_head_finite m →
    (∀ c : Dev Cert.LossHeadIdeal.nD,
      m' ((c.tc : Thread Cert.LossHeadRefIdeal.nD Cert.LossHeadRefIdeal.τ).loc Cert.LossHeadRefIdeal.main_arg0) = m ((c.tc : Thread Cert.LossHeadIdeal.nD Cert.LossHeadIdeal.τ).loc Cert.LossHeadIdeal.main_arg0)
      ∧ m' ((c.tc : Thread Cert.LossHeadRefIdeal.nD Cert.LossHeadRefIdeal.τ).loc Cert.LossHeadRefIdeal.main_arg1) = m ((c.tc : Thread Cert.LossHeadIdeal.nD Cert.LossHeadIdeal.τ).loc Cert.LossHeadIdeal.main_arg1)
      ∧ m' ((c.tc : Thread Cert.LossHeadRefIdeal.nD Cert.LossHeadRefIdeal.τ).loc Cert.LossHeadRefIdeal.main_arg2) = m ((c.tc : Thread Cert.LossHeadIdeal.nD Cert.LossHeadIdeal.τ).loc Cert.LossHeadIdeal.main_arg2)) →
    ∃ (v0 : (c : Dev Cert.LossHeadIdeal.nD) → Buf (Elt Ideal) ((c.tc : Thread Cert.LossHeadIdeal.nD Cert.LossHeadIdeal.τ).loc Cert.LossHeadIdeal.main_v0_0)) (v1 : (c : Dev Cert.LossHeadIdeal.nD) → Buf (Elt Ideal) ((c.tc : Thread Cert.LossHeadIdeal.nD Cert.LossHeadIdeal.τ).loc Cert.LossHeadIdeal.main_v0_1)) (v2 : (c : Dev Cert.LossHeadIdeal.nD) → Buf (Elt Ideal) ((c.tc : Thread Cert.LossHeadIdeal.nD Cert.LossHeadIdeal.τ).loc Cert.LossHeadIdeal.main_v0_2)) (v3 : (c : Dev Cert.LossHeadIdeal.nD) → Buf (Elt Ideal) ((c.tc : Thread Cert.LossHeadIdeal.nD Cert.LossHeadIdeal.τ).loc Cert.LossHeadIdeal.main_v0_3)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v0_0) = v0 c
          ∧ r.2.mem ((c.tc : Thread Cert.LossHeadIdeal.nD Cert.LossHeadIdeal.τ).loc Cert.LossHeadIdeal.main_v0_1) = v1 c
          ∧ r.2.mem ((c.tc : Thread Cert.LossHeadIdeal.nD Cert.LossHeadIdeal.τ).loc Cert.LossHeadIdeal.main_v0_2) = v2 c
          ∧ r.2.mem ((c.tc : Thread Cert.LossHeadIdeal.nD Cert.LossHeadIdeal.τ).loc Cert.LossHeadIdeal.main_v0_3) = v3 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
          ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ θ_run (Cert.LossHeadRefIdeal.defs (F := Ideal)) (onTc (τ := Cert.LossHeadRefIdeal.τ) (Cert.LossHeadRefIdeal.main (F := Ideal))) ⟨m', fun _ => 0, g'⟩ (fun r => ∀ c : Dev Cert.LossHeadRefIdeal.nD,
          r.2.mem ((c.tc : Thread Cert.LossHeadRefIdeal.nD Cert.LossHeadRefIdeal.τ).loc Cert.LossHeadRefIdeal.main_v48) = v0 c
          ∧ r.2.mem ((c.tc : Thread Cert.LossHeadRefIdeal.nD Cert.LossHeadRefIdeal.τ).loc Cert.LossHeadRefIdeal.main_v49) = v1 c
          ∧ r.2.mem ((c.tc : Thread Cert.LossHeadRefIdeal.nD Cert.LossHeadRefIdeal.τ).loc Cert.LossHeadRefIdeal.main_v32) = v2 c
          ∧ r.2.mem ((c.tc : Thread Cert.LossHeadRefIdeal.nD Cert.LossHeadRefIdeal.τ).loc Cert.LossHeadRefIdeal.main_v50) = v3 c
          ∧ r.2.mem ((c.tc : Thread Cert.LossHeadRefIdeal.nD Cert.LossHeadRefIdeal.τ).loc Cert.LossHeadRefIdeal.main_arg0) = m' ((c.tc : Thread Cert.LossHeadRefIdeal.nD Cert.LossHeadRefIdeal.τ).loc Cert.LossHeadRefIdeal.main_arg0)
          ∧ r.2.mem ((c.tc : Thread Cert.LossHeadRefIdeal.nD Cert.LossHeadRefIdeal.τ).loc Cert.LossHeadRefIdeal.main_arg1) = m' ((c.tc : Thread Cert.LossHeadRefIdeal.nD Cert.LossHeadRefIdeal.τ).loc Cert.LossHeadRefIdeal.main_arg1)
          ∧ r.2.mem ((c.tc : Thread Cert.LossHeadRefIdeal.nD Cert.LossHeadRefIdeal.τ).loc Cert.LossHeadRefIdeal.main_arg2) = m' ((c.tc : Thread Cert.LossHeadRefIdeal.nD Cert.LossHeadRefIdeal.τ).loc Cert.LossHeadRefIdeal.main_arg2))

def preserves_GuNormBwd_GuNormBwdIdeal : Prop :=
  True

def algebraic_GuNormBwdIdeal_GuNormBwdRefIdeal_pre_gu_norm_bwd_finite [hGuNormBwdIdeal : Cert.GuNormBwdIdeal.Facts] [hGuNormBwdRefIdeal : Cert.GuNormBwdRefIdeal.Facts] [hPre_gu_norm_bwd_finite : Cert.Pre_gu_norm_bwd_finite.Facts] : Prop :=
  ∀ (m : (ℓ : Loc Cert.GuNormBwdIdeal.nD Cert.GuNormBwdIdeal.τ Cert.GuNormBwdIdeal.sig) → Buf (Elt Ideal) ℓ) (g : Dev Cert.GuNormBwdIdeal.nD → PrngReg)
    (m' : (ℓ : Loc Cert.GuNormBwdRefIdeal.nD Cert.GuNormBwdRefIdeal.τ Cert.GuNormBwdRefIdeal.sig) → Buf (Elt Ideal) ℓ) (g' : Dev Cert.GuNormBwdRefIdeal.nD → PrngReg), Pre_GuNormBwdIdeal_gu_norm_bwd_finite m →
    (∀ c : Dev Cert.GuNormBwdIdeal.nD,
      m' ((c.tc : Thread Cert.GuNormBwdRefIdeal.nD Cert.GuNormBwdRefIdeal.τ).loc Cert.GuNormBwdRefIdeal.main_arg0) = m ((c.tc : Thread Cert.GuNormBwdIdeal.nD Cert.GuNormBwdIdeal.τ).loc Cert.GuNormBwdIdeal.main_arg0)
      ∧ m' ((c.tc : Thread Cert.GuNormBwdRefIdeal.nD Cert.GuNormBwdRefIdeal.τ).loc Cert.GuNormBwdRefIdeal.main_arg1) = m ((c.tc : Thread Cert.GuNormBwdIdeal.nD Cert.GuNormBwdIdeal.τ).loc Cert.GuNormBwdIdeal.main_arg1)
      ∧ m' ((c.tc : Thread Cert.GuNormBwdRefIdeal.nD Cert.GuNormBwdRefIdeal.τ).loc Cert.GuNormBwdRefIdeal.main_arg2) = m ((c.tc : Thread Cert.GuNormBwdIdeal.nD Cert.GuNormBwdIdeal.τ).loc Cert.GuNormBwdIdeal.main_arg2)
      ∧ m' ((c.tc : Thread Cert.GuNormBwdRefIdeal.nD Cert.GuNormBwdRefIdeal.τ).loc Cert.GuNormBwdRefIdeal.main_arg3) = m ((c.tc : Thread Cert.GuNormBwdIdeal.nD Cert.GuNormBwdIdeal.τ).loc Cert.GuNormBwdIdeal.main_arg3)
      ∧ m' ((c.tc : Thread Cert.GuNormBwdRefIdeal.nD Cert.GuNormBwdRefIdeal.τ).loc Cert.GuNormBwdRefIdeal.main_arg4) = m ((c.tc : Thread Cert.GuNormBwdIdeal.nD Cert.GuNormBwdIdeal.τ).loc Cert.GuNormBwdIdeal.main_arg4)) →
    ∃ (v0 : (c : Dev Cert.GuNormBwdIdeal.nD) → Buf (Elt Ideal) ((c.tc : Thread Cert.GuNormBwdIdeal.nD Cert.GuNormBwdIdeal.τ).loc Cert.GuNormBwdIdeal.main_v0_0)) (v1 : (c : Dev Cert.GuNormBwdIdeal.nD) → Buf (Elt Ideal) ((c.tc : Thread Cert.GuNormBwdIdeal.nD Cert.GuNormBwdIdeal.τ).loc Cert.GuNormBwdIdeal.main_v0_1)) (v2 : (c : Dev Cert.GuNormBwdIdeal.nD) → Buf (Elt Ideal) ((c.tc : Thread Cert.GuNormBwdIdeal.nD Cert.GuNormBwdIdeal.τ).loc Cert.GuNormBwdIdeal.main_v0_2)),
      θ_run (Cert.GuNormBwdIdeal.defs (F := Ideal)) (onTc (τ := Cert.GuNormBwdIdeal.τ) (Cert.GuNormBwdIdeal.main (F := Ideal))) ⟨m, fun _ => 0, g⟩ (fun r => ∀ c : Dev Cert.GuNormBwdIdeal.nD,
          r.2.mem ((c.tc : Thread Cert.GuNormBwdIdeal.nD Cert.GuNormBwdIdeal.τ).loc Cert.GuNormBwdIdeal.main_v0_0) = v0 c
          ∧ r.2.mem ((c.tc : Thread Cert.GuNormBwdIdeal.nD Cert.GuNormBwdIdeal.τ).loc Cert.GuNormBwdIdeal.main_v0_1) = v1 c
          ∧ r.2.mem ((c.tc : Thread Cert.GuNormBwdIdeal.nD Cert.GuNormBwdIdeal.τ).loc Cert.GuNormBwdIdeal.main_v0_2) = v2 c
          ∧ r.2.mem ((c.tc : Thread Cert.GuNormBwdIdeal.nD Cert.GuNormBwdIdeal.τ).loc Cert.GuNormBwdIdeal.main_arg0) = m ((c.tc : Thread Cert.GuNormBwdIdeal.nD Cert.GuNormBwdIdeal.τ).loc Cert.GuNormBwdIdeal.main_arg0)
          ∧ r.2.mem ((c.tc : Thread Cert.GuNormBwdIdeal.nD Cert.GuNormBwdIdeal.τ).loc Cert.GuNormBwdIdeal.main_arg1) = m ((c.tc : Thread Cert.GuNormBwdIdeal.nD Cert.GuNormBwdIdeal.τ).loc Cert.GuNormBwdIdeal.main_arg1)
          ∧ r.2.mem ((c.tc : Thread Cert.GuNormBwdIdeal.nD Cert.GuNormBwdIdeal.τ).loc Cert.GuNormBwdIdeal.main_arg2) = m ((c.tc : Thread Cert.GuNormBwdIdeal.nD Cert.GuNormBwdIdeal.τ).loc Cert.GuNormBwdIdeal.main_arg2)
          ∧ r.2.mem ((c.tc : Thread Cert.GuNormBwdIdeal.nD Cert.GuNormBwdIdeal.τ).loc Cert.GuNormBwdIdeal.main_arg3) = m ((c.tc : Thread Cert.GuNormBwdIdeal.nD Cert.GuNormBwdIdeal.τ).loc Cert.GuNormBwdIdeal.main_arg3)
          ∧ r.2.mem ((c.tc : Thread Cert.GuNormBwdIdeal.nD Cert.GuNormBwdIdeal.τ).loc Cert.GuNormBwdIdeal.main_arg4) = m ((c.tc : Thread Cert.GuNormBwdIdeal.nD Cert.GuNormBwdIdeal.τ).loc Cert.GuNormBwdIdeal.main_arg4))
      ∧ θ_run (Cert.GuNormBwdRefIdeal.defs (F := Ideal)) (onTc (τ := Cert.GuNormBwdRefIdeal.τ) (Cert.GuNormBwdRefIdeal.main (F := Ideal))) ⟨m', fun _ => 0, g'⟩ (fun r => ∀ c : Dev Cert.GuNormBwdRefIdeal.nD,
          r.2.mem ((c.tc : Thread Cert.GuNormBwdRefIdeal.nD Cert.GuNormBwdRefIdeal.τ).loc Cert.GuNormBwdRefIdeal.main_v38) = v0 c
          ∧ r.2.mem ((c.tc : Thread Cert.GuNormBwdRefIdeal.nD Cert.GuNormBwdRefIdeal.τ).loc Cert.GuNormBwdRefIdeal.main_v39) = v1 c
          ∧ r.2.mem ((c.tc : Thread Cert.GuNormBwdRefIdeal.nD Cert.GuNormBwdRefIdeal.τ).loc Cert.GuNormBwdRefIdeal.main_v21) = v2 c
          ∧ r.2.mem ((c.tc : Thread Cert.GuNormBwdRefIdeal.nD Cert.GuNormBwdRefIdeal.τ).loc Cert.GuNormBwdRefIdeal.main_arg0) = m' ((c.tc : Thread Cert.GuNormBwdRefIdeal.nD Cert.GuNormBwdRefIdeal.τ).loc Cert.GuNormBwdRefIdeal.main_arg0)
          ∧ r.2.mem ((c.tc : Thread Cert.GuNormBwdRefIdeal.nD Cert.GuNormBwdRefIdeal.τ).loc Cert.GuNormBwdRefIdeal.main_arg1) = m' ((c.tc : Thread Cert.GuNormBwdRefIdeal.nD Cert.GuNormBwdRefIdeal.τ).loc Cert.GuNormBwdRefIdeal.main_arg1)
          ∧ r.2.mem ((c.tc : Thread Cert.GuNormBwdRefIdeal.nD Cert.GuNormBwdRefIdeal.τ).loc Cert.GuNormBwdRefIdeal.main_arg2) = m' ((c.tc : Thread Cert.GuNormBwdRefIdeal.nD Cert.GuNormBwdRefIdeal.τ).loc Cert.GuNormBwdRefIdeal.main_arg2)
          ∧ r.2.mem ((c.tc : Thread Cert.GuNormBwdRefIdeal.nD Cert.GuNormBwdRefIdeal.τ).loc Cert.GuNormBwdRefIdeal.main_arg3) = m' ((c.tc : Thread Cert.GuNormBwdRefIdeal.nD Cert.GuNormBwdRefIdeal.τ).loc Cert.GuNormBwdRefIdeal.main_arg3)
          ∧ r.2.mem ((c.tc : Thread Cert.GuNormBwdRefIdeal.nD Cert.GuNormBwdRefIdeal.τ).loc Cert.GuNormBwdRefIdeal.main_arg4) = m' ((c.tc : Thread Cert.GuNormBwdRefIdeal.nD Cert.GuNormBwdRefIdeal.τ).loc Cert.GuNormBwdRefIdeal.main_arg4))

def preserves_KvNormBwd_KvNormBwdIdeal : Prop :=
  True

def algebraic_KvNormBwdIdeal_KvNormBwdRefIdeal_pre_kv_norm_bwd_finite [hKvNormBwdIdeal : Cert.KvNormBwdIdeal.Facts] [hKvNormBwdRefIdeal : Cert.KvNormBwdRefIdeal.Facts] [hPre_kv_norm_bwd_finite : Cert.Pre_kv_norm_bwd_finite.Facts] : Prop :=
  ∀ (m : (ℓ : Loc Cert.KvNormBwdIdeal.nD Cert.KvNormBwdIdeal.τ Cert.KvNormBwdIdeal.sig) → Buf (Elt Ideal) ℓ) (g : Dev Cert.KvNormBwdIdeal.nD → PrngReg)
    (m' : (ℓ : Loc Cert.KvNormBwdRefIdeal.nD Cert.KvNormBwdRefIdeal.τ Cert.KvNormBwdRefIdeal.sig) → Buf (Elt Ideal) ℓ) (g' : Dev Cert.KvNormBwdRefIdeal.nD → PrngReg), Pre_KvNormBwdIdeal_kv_norm_bwd_finite m →
    (∀ c : Dev Cert.KvNormBwdIdeal.nD,
      m' ((c.tc : Thread Cert.KvNormBwdRefIdeal.nD Cert.KvNormBwdRefIdeal.τ).loc Cert.KvNormBwdRefIdeal.main_arg0) = m ((c.tc : Thread Cert.KvNormBwdIdeal.nD Cert.KvNormBwdIdeal.τ).loc Cert.KvNormBwdIdeal.main_arg0)
      ∧ m' ((c.tc : Thread Cert.KvNormBwdRefIdeal.nD Cert.KvNormBwdRefIdeal.τ).loc Cert.KvNormBwdRefIdeal.main_arg1) = m ((c.tc : Thread Cert.KvNormBwdIdeal.nD Cert.KvNormBwdIdeal.τ).loc Cert.KvNormBwdIdeal.main_arg1)
      ∧ m' ((c.tc : Thread Cert.KvNormBwdRefIdeal.nD Cert.KvNormBwdRefIdeal.τ).loc Cert.KvNormBwdRefIdeal.main_arg2) = m ((c.tc : Thread Cert.KvNormBwdIdeal.nD Cert.KvNormBwdIdeal.τ).loc Cert.KvNormBwdIdeal.main_arg2)
      ∧ m' ((c.tc : Thread Cert.KvNormBwdRefIdeal.nD Cert.KvNormBwdRefIdeal.τ).loc Cert.KvNormBwdRefIdeal.main_arg3) = m ((c.tc : Thread Cert.KvNormBwdIdeal.nD Cert.KvNormBwdIdeal.τ).loc Cert.KvNormBwdIdeal.main_arg3)
      ∧ m' ((c.tc : Thread Cert.KvNormBwdRefIdeal.nD Cert.KvNormBwdRefIdeal.τ).loc Cert.KvNormBwdRefIdeal.main_arg4) = m ((c.tc : Thread Cert.KvNormBwdIdeal.nD Cert.KvNormBwdIdeal.τ).loc Cert.KvNormBwdIdeal.main_arg4)
      ∧ m' ((c.tc : Thread Cert.KvNormBwdRefIdeal.nD Cert.KvNormBwdRefIdeal.τ).loc Cert.KvNormBwdRefIdeal.main_arg5) = m ((c.tc : Thread Cert.KvNormBwdIdeal.nD Cert.KvNormBwdIdeal.τ).loc Cert.KvNormBwdIdeal.main_arg5)
      ∧ m' ((c.tc : Thread Cert.KvNormBwdRefIdeal.nD Cert.KvNormBwdRefIdeal.τ).loc Cert.KvNormBwdRefIdeal.main_arg6) = m ((c.tc : Thread Cert.KvNormBwdIdeal.nD Cert.KvNormBwdIdeal.τ).loc Cert.KvNormBwdIdeal.main_arg6)) →
    ∃ (v0 : (c : Dev Cert.KvNormBwdIdeal.nD) → Buf (Elt Ideal) ((c.tc : Thread Cert.KvNormBwdIdeal.nD Cert.KvNormBwdIdeal.τ).loc Cert.KvNormBwdIdeal.main_v0_0)) (v1 : (c : Dev Cert.KvNormBwdIdeal.nD) → Buf (Elt Ideal) ((c.tc : Thread Cert.KvNormBwdIdeal.nD Cert.KvNormBwdIdeal.τ).loc Cert.KvNormBwdIdeal.main_v0_1)) (v2 : (c : Dev Cert.KvNormBwdIdeal.nD) → Buf (Elt Ideal) ((c.tc : Thread Cert.KvNormBwdIdeal.nD Cert.KvNormBwdIdeal.τ).loc Cert.KvNormBwdIdeal.main_v0_2)) (v3 : (c : Dev Cert.KvNormBwdIdeal.nD) → Buf (Elt Ideal) ((c.tc : Thread Cert.KvNormBwdIdeal.nD Cert.KvNormBwdIdeal.τ).loc Cert.KvNormBwdIdeal.main_v0_3)),
      θ_run (Cert.KvNormBwdIdeal.defs (F := Ideal)) (onTc (τ := Cert.KvNormBwdIdeal.τ) (Cert.KvNormBwdIdeal.main (F := Ideal))) ⟨m, fun _ => 0, g⟩ (fun r => ∀ c : Dev Cert.KvNormBwdIdeal.nD,
          r.2.mem ((c.tc : Thread Cert.KvNormBwdIdeal.nD Cert.KvNormBwdIdeal.τ).loc Cert.KvNormBwdIdeal.main_v0_0) = v0 c
          ∧ r.2.mem ((c.tc : Thread Cert.KvNormBwdIdeal.nD Cert.KvNormBwdIdeal.τ).loc Cert.KvNormBwdIdeal.main_v0_1) = v1 c
          ∧ r.2.mem ((c.tc : Thread Cert.KvNormBwdIdeal.nD Cert.KvNormBwdIdeal.τ).loc Cert.KvNormBwdIdeal.main_v0_2) = v2 c
          ∧ r.2.mem ((c.tc : Thread Cert.KvNormBwdIdeal.nD Cert.KvNormBwdIdeal.τ).loc Cert.KvNormBwdIdeal.main_v0_3) = v3 c
          ∧ r.2.mem ((c.tc : Thread Cert.KvNormBwdIdeal.nD Cert.KvNormBwdIdeal.τ).loc Cert.KvNormBwdIdeal.main_arg0) = m ((c.tc : Thread Cert.KvNormBwdIdeal.nD Cert.KvNormBwdIdeal.τ).loc Cert.KvNormBwdIdeal.main_arg0)
          ∧ r.2.mem ((c.tc : Thread Cert.KvNormBwdIdeal.nD Cert.KvNormBwdIdeal.τ).loc Cert.KvNormBwdIdeal.main_arg1) = m ((c.tc : Thread Cert.KvNormBwdIdeal.nD Cert.KvNormBwdIdeal.τ).loc Cert.KvNormBwdIdeal.main_arg1)
          ∧ r.2.mem ((c.tc : Thread Cert.KvNormBwdIdeal.nD Cert.KvNormBwdIdeal.τ).loc Cert.KvNormBwdIdeal.main_arg2) = m ((c.tc : Thread Cert.KvNormBwdIdeal.nD Cert.KvNormBwdIdeal.τ).loc Cert.KvNormBwdIdeal.main_arg2)
          ∧ r.2.mem ((c.tc : Thread Cert.KvNormBwdIdeal.nD Cert.KvNormBwdIdeal.τ).loc Cert.KvNormBwdIdeal.main_arg3) = m ((c.tc : Thread Cert.KvNormBwdIdeal.nD Cert.KvNormBwdIdeal.τ).loc Cert.KvNormBwdIdeal.main_arg3)
          ∧ r.2.mem ((c.tc : Thread Cert.KvNormBwdIdeal.nD Cert.KvNormBwdIdeal.τ).loc Cert.KvNormBwdIdeal.main_arg4) = m ((c.tc : Thread Cert.KvNormBwdIdeal.nD Cert.KvNormBwdIdeal.τ).loc Cert.KvNormBwdIdeal.main_arg4)
          ∧ r.2.mem ((c.tc : Thread Cert.KvNormBwdIdeal.nD Cert.KvNormBwdIdeal.τ).loc Cert.KvNormBwdIdeal.main_arg5) = m ((c.tc : Thread Cert.KvNormBwdIdeal.nD Cert.KvNormBwdIdeal.τ).loc Cert.KvNormBwdIdeal.main_arg5)
          ∧ r.2.mem ((c.tc : Thread Cert.KvNormBwdIdeal.nD Cert.KvNormBwdIdeal.τ).loc Cert.KvNormBwdIdeal.main_arg6) = m ((c.tc : Thread Cert.KvNormBwdIdeal.nD Cert.KvNormBwdIdeal.τ).loc Cert.KvNormBwdIdeal.main_arg6))
      ∧ θ_run (Cert.KvNormBwdRefIdeal.defs (F := Ideal)) (onTc (τ := Cert.KvNormBwdRefIdeal.τ) (Cert.KvNormBwdRefIdeal.main (F := Ideal))) ⟨m', fun _ => 0, g'⟩ (fun r => ∀ c : Dev Cert.KvNormBwdRefIdeal.nD,
          r.2.mem ((c.tc : Thread Cert.KvNormBwdRefIdeal.nD Cert.KvNormBwdRefIdeal.τ).loc Cert.KvNormBwdRefIdeal.main_v73) = v0 c
          ∧ r.2.mem ((c.tc : Thread Cert.KvNormBwdRefIdeal.nD Cert.KvNormBwdRefIdeal.τ).loc Cert.KvNormBwdRefIdeal.main_v74) = v1 c
          ∧ r.2.mem ((c.tc : Thread Cert.KvNormBwdRefIdeal.nD Cert.KvNormBwdRefIdeal.τ).loc Cert.KvNormBwdRefIdeal.main_v56) = v2 c
          ∧ r.2.mem ((c.tc : Thread Cert.KvNormBwdRefIdeal.nD Cert.KvNormBwdRefIdeal.τ).loc Cert.KvNormBwdRefIdeal.main_v35) = v3 c
          ∧ r.2.mem ((c.tc : Thread Cert.KvNormBwdRefIdeal.nD Cert.KvNormBwdRefIdeal.τ).loc Cert.KvNormBwdRefIdeal.main_arg0) = m' ((c.tc : Thread Cert.KvNormBwdRefIdeal.nD Cert.KvNormBwdRefIdeal.τ).loc Cert.KvNormBwdRefIdeal.main_arg0)
          ∧ r.2.mem ((c.tc : Thread Cert.KvNormBwdRefIdeal.nD Cert.KvNormBwdRefIdeal.τ).loc Cert.KvNormBwdRefIdeal.main_arg1) = m' ((c.tc : Thread Cert.KvNormBwdRefIdeal.nD Cert.KvNormBwdRefIdeal.τ).loc Cert.KvNormBwdRefIdeal.main_arg1)
          ∧ r.2.mem ((c.tc : Thread Cert.KvNormBwdRefIdeal.nD Cert.KvNormBwdRefIdeal.τ).loc Cert.KvNormBwdRefIdeal.main_arg2) = m' ((c.tc : Thread Cert.KvNormBwdRefIdeal.nD Cert.KvNormBwdRefIdeal.τ).loc Cert.KvNormBwdRefIdeal.main_arg2)
          ∧ r.2.mem ((c.tc : Thread Cert.KvNormBwdRefIdeal.nD Cert.KvNormBwdRefIdeal.τ).loc Cert.KvNormBwdRefIdeal.main_arg3) = m' ((c.tc : Thread Cert.KvNormBwdRefIdeal.nD Cert.KvNormBwdRefIdeal.τ).loc Cert.KvNormBwdRefIdeal.main_arg3)
          ∧ r.2.mem ((c.tc : Thread Cert.KvNormBwdRefIdeal.nD Cert.KvNormBwdRefIdeal.τ).loc Cert.KvNormBwdRefIdeal.main_arg4) = m' ((c.tc : Thread Cert.KvNormBwdRefIdeal.nD Cert.KvNormBwdRefIdeal.τ).loc Cert.KvNormBwdRefIdeal.main_arg4)
          ∧ r.2.mem ((c.tc : Thread Cert.KvNormBwdRefIdeal.nD Cert.KvNormBwdRefIdeal.τ).loc Cert.KvNormBwdRefIdeal.main_arg5) = m' ((c.tc : Thread Cert.KvNormBwdRefIdeal.nD Cert.KvNormBwdRefIdeal.τ).loc Cert.KvNormBwdRefIdeal.main_arg5)
          ∧ r.2.mem ((c.tc : Thread Cert.KvNormBwdRefIdeal.nD Cert.KvNormBwdRefIdeal.τ).loc Cert.KvNormBwdRefIdeal.main_arg6) = m' ((c.tc : Thread Cert.KvNormBwdRefIdeal.nD Cert.KvNormBwdRefIdeal.τ).loc Cert.KvNormBwdRefIdeal.main_arg6))

def preserves_MemAttnBwd_MemAttnBwdIdeal : Prop :=
  True

def algebraic_MemAttnBwdIdeal_MemAttnBwdRefIdeal_pre_mem_attn_bwd_finite [hMemAttnBwdIdeal : Cert.MemAttnBwdIdeal.Facts] [hMemAttnBwdRefIdeal : Cert.MemAttnBwdRefIdeal.Facts] [hPre_mem_attn_bwd_finite : Cert.Pre_mem_attn_bwd_finite.Facts] : Prop :=
  ∀ (m : (ℓ : Loc Cert.MemAttnBwdIdeal.nD Cert.MemAttnBwdIdeal.τ Cert.MemAttnBwdIdeal.sig) → Buf (Elt Ideal) ℓ) (g : Dev Cert.MemAttnBwdIdeal.nD → PrngReg)
    (m' : (ℓ : Loc Cert.MemAttnBwdRefIdeal.nD Cert.MemAttnBwdRefIdeal.τ Cert.MemAttnBwdRefIdeal.sig) → Buf (Elt Ideal) ℓ) (g' : Dev Cert.MemAttnBwdRefIdeal.nD → PrngReg), Pre_MemAttnBwdIdeal_mem_attn_bwd_finite m →
    (∀ c : Dev Cert.MemAttnBwdIdeal.nD,
      m' ((c.tc : Thread Cert.MemAttnBwdRefIdeal.nD Cert.MemAttnBwdRefIdeal.τ).loc Cert.MemAttnBwdRefIdeal.main_arg0) = m ((c.tc : Thread Cert.MemAttnBwdIdeal.nD Cert.MemAttnBwdIdeal.τ).loc Cert.MemAttnBwdIdeal.main_arg0)
      ∧ m' ((c.tc : Thread Cert.MemAttnBwdRefIdeal.nD Cert.MemAttnBwdRefIdeal.τ).loc Cert.MemAttnBwdRefIdeal.main_arg1) = m ((c.tc : Thread Cert.MemAttnBwdIdeal.nD Cert.MemAttnBwdIdeal.τ).loc Cert.MemAttnBwdIdeal.main_arg1)
      ∧ m' ((c.tc : Thread Cert.MemAttnBwdRefIdeal.nD Cert.MemAttnBwdRefIdeal.τ).loc Cert.MemAttnBwdRefIdeal.main_arg2) = m ((c.tc : Thread Cert.MemAttnBwdIdeal.nD Cert.MemAttnBwdIdeal.τ).loc Cert.MemAttnBwdIdeal.main_arg2)) →
    ∃ (v0 : (c : Dev Cert.MemAttnBwdIdeal.nD) → Buf (Elt Ideal) ((c.tc : Thread Cert.MemAttnBwdIdeal.nD Cert.MemAttnBwdIdeal.τ).loc Cert.MemAttnBwdIdeal.main_v0_0)) (v1 : (c : Dev Cert.MemAttnBwdIdeal.nD) → Buf (Elt Ideal) ((c.tc : Thread Cert.MemAttnBwdIdeal.nD Cert.MemAttnBwdIdeal.τ).loc Cert.MemAttnBwdIdeal.main_v0_1)),
      θ_run (Cert.MemAttnBwdIdeal.defs (F := Ideal)) (onTc (τ := Cert.MemAttnBwdIdeal.τ) (Cert.MemAttnBwdIdeal.main (F := Ideal))) ⟨m, fun _ => 0, g⟩ (fun r => ∀ c : Dev Cert.MemAttnBwdIdeal.nD,
          r.2.mem ((c.tc : Thread Cert.MemAttnBwdIdeal.nD Cert.MemAttnBwdIdeal.τ).loc Cert.MemAttnBwdIdeal.main_v0_0) = v0 c
          ∧ r.2.mem ((c.tc : Thread Cert.MemAttnBwdIdeal.nD Cert.MemAttnBwdIdeal.τ).loc Cert.MemAttnBwdIdeal.main_v0_1) = v1 c
          ∧ r.2.mem ((c.tc : Thread Cert.MemAttnBwdIdeal.nD Cert.MemAttnBwdIdeal.τ).loc Cert.MemAttnBwdIdeal.main_arg0) = m ((c.tc : Thread Cert.MemAttnBwdIdeal.nD Cert.MemAttnBwdIdeal.τ).loc Cert.MemAttnBwdIdeal.main_arg0)
          ∧ r.2.mem ((c.tc : Thread Cert.MemAttnBwdIdeal.nD Cert.MemAttnBwdIdeal.τ).loc Cert.MemAttnBwdIdeal.main_arg1) = m ((c.tc : Thread Cert.MemAttnBwdIdeal.nD Cert.MemAttnBwdIdeal.τ).loc Cert.MemAttnBwdIdeal.main_arg1)
          ∧ r.2.mem ((c.tc : Thread Cert.MemAttnBwdIdeal.nD Cert.MemAttnBwdIdeal.τ).loc Cert.MemAttnBwdIdeal.main_arg2) = m ((c.tc : Thread Cert.MemAttnBwdIdeal.nD Cert.MemAttnBwdIdeal.τ).loc Cert.MemAttnBwdIdeal.main_arg2))
      ∧ θ_run (Cert.MemAttnBwdRefIdeal.defs (F := Ideal)) (onTc (τ := Cert.MemAttnBwdRefIdeal.τ) (Cert.MemAttnBwdRefIdeal.main (F := Ideal))) ⟨m', fun _ => 0, g'⟩ (fun r => ∀ c : Dev Cert.MemAttnBwdRefIdeal.nD,
          r.2.mem ((c.tc : Thread Cert.MemAttnBwdRefIdeal.nD Cert.MemAttnBwdRefIdeal.τ).loc Cert.MemAttnBwdRefIdeal.main_v75) = v0 c
          ∧ r.2.mem ((c.tc : Thread Cert.MemAttnBwdRefIdeal.nD Cert.MemAttnBwdRefIdeal.τ).loc Cert.MemAttnBwdRefIdeal.main_v76) = v1 c
          ∧ r.2.mem ((c.tc : Thread Cert.MemAttnBwdRefIdeal.nD Cert.MemAttnBwdRefIdeal.τ).loc Cert.MemAttnBwdRefIdeal.main_arg0) = m' ((c.tc : Thread Cert.MemAttnBwdRefIdeal.nD Cert.MemAttnBwdRefIdeal.τ).loc Cert.MemAttnBwdRefIdeal.main_arg0)
          ∧ r.2.mem ((c.tc : Thread Cert.MemAttnBwdRefIdeal.nD Cert.MemAttnBwdRefIdeal.τ).loc Cert.MemAttnBwdRefIdeal.main_arg1) = m' ((c.tc : Thread Cert.MemAttnBwdRefIdeal.nD Cert.MemAttnBwdRefIdeal.τ).loc Cert.MemAttnBwdRefIdeal.main_arg1)
          ∧ r.2.mem ((c.tc : Thread Cert.MemAttnBwdRefIdeal.nD Cert.MemAttnBwdRefIdeal.τ).loc Cert.MemAttnBwdRefIdeal.main_arg2) = m' ((c.tc : Thread Cert.MemAttnBwdRefIdeal.nD Cert.MemAttnBwdRefIdeal.τ).loc Cert.MemAttnBwdRefIdeal.main_arg2))

def preserves_StickFwd_StickFwdIdeal : Prop :=
  True

def algebraic_StickFwdIdeal_StickFwdRefIdeal_pre_stick_fwd_finite [hStickFwdIdeal : Cert.StickFwdIdeal.Facts] [hStickFwdRefIdeal : Cert.StickFwdRefIdeal.Facts] [hPre_stick_fwd_finite : Cert.Pre_stick_fwd_finite.Facts] : Prop :=
  ∀ (m : (ℓ : Loc Cert.StickFwdIdeal.nD Cert.StickFwdIdeal.τ Cert.StickFwdIdeal.sig) → Buf (Elt Ideal) ℓ) (g : Dev Cert.StickFwdIdeal.nD → PrngReg)
    (m' : (ℓ : Loc Cert.StickFwdRefIdeal.nD Cert.StickFwdRefIdeal.τ Cert.StickFwdRefIdeal.sig) → Buf (Elt Ideal) ℓ) (g' : Dev Cert.StickFwdRefIdeal.nD → PrngReg), Pre_StickFwdIdeal_stick_fwd_finite m →
    (∀ c : Dev Cert.StickFwdIdeal.nD,
      m' ((c.tc : Thread Cert.StickFwdRefIdeal.nD Cert.StickFwdRefIdeal.τ).loc Cert.StickFwdRefIdeal.main_arg0) = m ((c.tc : Thread Cert.StickFwdIdeal.nD Cert.StickFwdIdeal.τ).loc Cert.StickFwdIdeal.main_arg0)
      ∧ m' ((c.tc : Thread Cert.StickFwdRefIdeal.nD Cert.StickFwdRefIdeal.τ).loc Cert.StickFwdRefIdeal.main_arg1) = m ((c.tc : Thread Cert.StickFwdIdeal.nD Cert.StickFwdIdeal.τ).loc Cert.StickFwdIdeal.main_arg1)) →
    ∃ (v0 : (c : Dev Cert.StickFwdIdeal.nD) → Buf (Elt Ideal) ((c.tc : Thread Cert.StickFwdIdeal.nD Cert.StickFwdIdeal.τ).loc Cert.StickFwdIdeal.main_v0_0)) (v1 : (c : Dev Cert.StickFwdIdeal.nD) → Buf (Elt Ideal) ((c.tc : Thread Cert.StickFwdIdeal.nD Cert.StickFwdIdeal.τ).loc Cert.StickFwdIdeal.main_v0_1)),
      θ_run (Cert.StickFwdIdeal.defs (F := Ideal)) (onTc (τ := Cert.StickFwdIdeal.τ) (Cert.StickFwdIdeal.main (F := Ideal))) ⟨m, fun _ => 0, g⟩ (fun r => ∀ c : Dev Cert.StickFwdIdeal.nD,
          r.2.mem ((c.tc : Thread Cert.StickFwdIdeal.nD Cert.StickFwdIdeal.τ).loc Cert.StickFwdIdeal.main_v0_0) = v0 c
          ∧ r.2.mem ((c.tc : Thread Cert.StickFwdIdeal.nD Cert.StickFwdIdeal.τ).loc Cert.StickFwdIdeal.main_v0_1) = v1 c
          ∧ r.2.mem ((c.tc : Thread Cert.StickFwdIdeal.nD Cert.StickFwdIdeal.τ).loc Cert.StickFwdIdeal.main_arg0) = m ((c.tc : Thread Cert.StickFwdIdeal.nD Cert.StickFwdIdeal.τ).loc Cert.StickFwdIdeal.main_arg0)
          ∧ r.2.mem ((c.tc : Thread Cert.StickFwdIdeal.nD Cert.StickFwdIdeal.τ).loc Cert.StickFwdIdeal.main_arg1) = m ((c.tc : Thread Cert.StickFwdIdeal.nD Cert.StickFwdIdeal.τ).loc Cert.StickFwdIdeal.main_arg1))
      ∧ θ_run (Cert.StickFwdRefIdeal.defs (F := Ideal)) (onTc (τ := Cert.StickFwdRefIdeal.τ) (Cert.StickFwdRefIdeal.main (F := Ideal))) ⟨m', fun _ => 0, g'⟩ (fun r => ∀ c : Dev Cert.StickFwdRefIdeal.nD,
          r.2.mem ((c.tc : Thread Cert.StickFwdRefIdeal.nD Cert.StickFwdRefIdeal.τ).loc Cert.StickFwdRefIdeal.main_v47) = v0 c
          ∧ r.2.mem ((c.tc : Thread Cert.StickFwdRefIdeal.nD Cert.StickFwdRefIdeal.τ).loc Cert.StickFwdRefIdeal.main_v46) = v1 c
          ∧ r.2.mem ((c.tc : Thread Cert.StickFwdRefIdeal.nD Cert.StickFwdRefIdeal.τ).loc Cert.StickFwdRefIdeal.main_arg0) = m' ((c.tc : Thread Cert.StickFwdRefIdeal.nD Cert.StickFwdRefIdeal.τ).loc Cert.StickFwdRefIdeal.main_arg0)
          ∧ r.2.mem ((c.tc : Thread Cert.StickFwdRefIdeal.nD Cert.StickFwdRefIdeal.τ).loc Cert.StickFwdRefIdeal.main_arg1) = m' ((c.tc : Thread Cert.StickFwdRefIdeal.nD Cert.StickFwdRefIdeal.τ).loc Cert.StickFwdRefIdeal.main_arg1))

def preserves_InNormBwd_InNormBwdIdeal : Prop :=
  True

def algebraic_InNormBwdIdeal_InNormBwdRefIdeal_pre_in_norm_bwd_finite [hInNormBwdIdeal : Cert.InNormBwdIdeal.Facts] [hInNormBwdRefIdeal : Cert.InNormBwdRefIdeal.Facts] [hPre_in_norm_bwd_finite : Cert.Pre_in_norm_bwd_finite.Facts] : Prop :=
  ∀ (m : (ℓ : Loc Cert.InNormBwdIdeal.nD Cert.InNormBwdIdeal.τ Cert.InNormBwdIdeal.sig) → Buf (Elt Ideal) ℓ) (g : Dev Cert.InNormBwdIdeal.nD → PrngReg)
    (m' : (ℓ : Loc Cert.InNormBwdRefIdeal.nD Cert.InNormBwdRefIdeal.τ Cert.InNormBwdRefIdeal.sig) → Buf (Elt Ideal) ℓ) (g' : Dev Cert.InNormBwdRefIdeal.nD → PrngReg), Pre_InNormBwdIdeal_in_norm_bwd_finite m →
    (∀ c : Dev Cert.InNormBwdIdeal.nD,
      m' ((c.tc : Thread Cert.InNormBwdRefIdeal.nD Cert.InNormBwdRefIdeal.τ).loc Cert.InNormBwdRefIdeal.main_arg0) = m ((c.tc : Thread Cert.InNormBwdIdeal.nD Cert.InNormBwdIdeal.τ).loc Cert.InNormBwdIdeal.main_arg0)
      ∧ m' ((c.tc : Thread Cert.InNormBwdRefIdeal.nD Cert.InNormBwdRefIdeal.τ).loc Cert.InNormBwdRefIdeal.main_arg1) = m ((c.tc : Thread Cert.InNormBwdIdeal.nD Cert.InNormBwdIdeal.τ).loc Cert.InNormBwdIdeal.main_arg1)
      ∧ m' ((c.tc : Thread Cert.InNormBwdRefIdeal.nD Cert.InNormBwdRefIdeal.τ).loc Cert.InNormBwdRefIdeal.main_arg2) = m ((c.tc : Thread Cert.InNormBwdIdeal.nD Cert.InNormBwdIdeal.τ).loc Cert.InNormBwdIdeal.main_arg2)
      ∧ m' ((c.tc : Thread Cert.InNormBwdRefIdeal.nD Cert.InNormBwdRefIdeal.τ).loc Cert.InNormBwdRefIdeal.main_arg3) = m ((c.tc : Thread Cert.InNormBwdIdeal.nD Cert.InNormBwdIdeal.τ).loc Cert.InNormBwdIdeal.main_arg3)
      ∧ m' ((c.tc : Thread Cert.InNormBwdRefIdeal.nD Cert.InNormBwdRefIdeal.τ).loc Cert.InNormBwdRefIdeal.main_arg4) = m ((c.tc : Thread Cert.InNormBwdIdeal.nD Cert.InNormBwdIdeal.τ).loc Cert.InNormBwdIdeal.main_arg4)) →
    ∃ (v0 : (c : Dev Cert.InNormBwdIdeal.nD) → Buf (Elt Ideal) ((c.tc : Thread Cert.InNormBwdIdeal.nD Cert.InNormBwdIdeal.τ).loc Cert.InNormBwdIdeal.main_v0_0)) (v1 : (c : Dev Cert.InNormBwdIdeal.nD) → Buf (Elt Ideal) ((c.tc : Thread Cert.InNormBwdIdeal.nD Cert.InNormBwdIdeal.τ).loc Cert.InNormBwdIdeal.main_v0_1)) (v2 : (c : Dev Cert.InNormBwdIdeal.nD) → Buf (Elt Ideal) ((c.tc : Thread Cert.InNormBwdIdeal.nD Cert.InNormBwdIdeal.τ).loc Cert.InNormBwdIdeal.main_v0_2)),
      θ_run (Cert.InNormBwdIdeal.defs (F := Ideal)) (onTc (τ := Cert.InNormBwdIdeal.τ) (Cert.InNormBwdIdeal.main (F := Ideal))) ⟨m, fun _ => 0, g⟩ (fun r => ∀ c : Dev Cert.InNormBwdIdeal.nD,
          r.2.mem ((c.tc : Thread Cert.InNormBwdIdeal.nD Cert.InNormBwdIdeal.τ).loc Cert.InNormBwdIdeal.main_v0_0) = v0 c
          ∧ r.2.mem ((c.tc : Thread Cert.InNormBwdIdeal.nD Cert.InNormBwdIdeal.τ).loc Cert.InNormBwdIdeal.main_v0_1) = v1 c
          ∧ r.2.mem ((c.tc : Thread Cert.InNormBwdIdeal.nD Cert.InNormBwdIdeal.τ).loc Cert.InNormBwdIdeal.main_v0_2) = v2 c
          ∧ r.2.mem ((c.tc : Thread Cert.InNormBwdIdeal.nD Cert.InNormBwdIdeal.τ).loc Cert.InNormBwdIdeal.main_arg0) = m ((c.tc : Thread Cert.InNormBwdIdeal.nD Cert.InNormBwdIdeal.τ).loc Cert.InNormBwdIdeal.main_arg0)
          ∧ r.2.mem ((c.tc : Thread Cert.InNormBwdIdeal.nD Cert.InNormBwdIdeal.τ).loc Cert.InNormBwdIdeal.main_arg1) = m ((c.tc : Thread Cert.InNormBwdIdeal.nD Cert.InNormBwdIdeal.τ).loc Cert.InNormBwdIdeal.main_arg1)
          ∧ r.2.mem ((c.tc : Thread Cert.InNormBwdIdeal.nD Cert.InNormBwdIdeal.τ).loc Cert.InNormBwdIdeal.main_arg2) = m ((c.tc : Thread Cert.InNormBwdIdeal.nD Cert.InNormBwdIdeal.τ).loc Cert.InNormBwdIdeal.main_arg2)
          ∧ r.2.mem ((c.tc : Thread Cert.InNormBwdIdeal.nD Cert.InNormBwdIdeal.τ).loc Cert.InNormBwdIdeal.main_arg3) = m ((c.tc : Thread Cert.InNormBwdIdeal.nD Cert.InNormBwdIdeal.τ).loc Cert.InNormBwdIdeal.main_arg3)
          ∧ r.2.mem ((c.tc : Thread Cert.InNormBwdIdeal.nD Cert.InNormBwdIdeal.τ).loc Cert.InNormBwdIdeal.main_arg4) = m ((c.tc : Thread Cert.InNormBwdIdeal.nD Cert.InNormBwdIdeal.τ).loc Cert.InNormBwdIdeal.main_arg4))
      ∧ θ_run (Cert.InNormBwdRefIdeal.defs (F := Ideal)) (onTc (τ := Cert.InNormBwdRefIdeal.τ) (Cert.InNormBwdRefIdeal.main (F := Ideal))) ⟨m', fun _ => 0, g'⟩ (fun r => ∀ c : Dev Cert.InNormBwdRefIdeal.nD,
          r.2.mem ((c.tc : Thread Cert.InNormBwdRefIdeal.nD Cert.InNormBwdRefIdeal.τ).loc Cert.InNormBwdRefIdeal.main_v38) = v0 c
          ∧ r.2.mem ((c.tc : Thread Cert.InNormBwdRefIdeal.nD Cert.InNormBwdRefIdeal.τ).loc Cert.InNormBwdRefIdeal.main_v39) = v1 c
          ∧ r.2.mem ((c.tc : Thread Cert.InNormBwdRefIdeal.nD Cert.InNormBwdRefIdeal.τ).loc Cert.InNormBwdRefIdeal.main_v21) = v2 c
          ∧ r.2.mem ((c.tc : Thread Cert.InNormBwdRefIdeal.nD Cert.InNormBwdRefIdeal.τ).loc Cert.InNormBwdRefIdeal.main_arg0) = m' ((c.tc : Thread Cert.InNormBwdRefIdeal.nD Cert.InNormBwdRefIdeal.τ).loc Cert.InNormBwdRefIdeal.main_arg0)
          ∧ r.2.mem ((c.tc : Thread Cert.InNormBwdRefIdeal.nD Cert.InNormBwdRefIdeal.τ).loc Cert.InNormBwdRefIdeal.main_arg1) = m' ((c.tc : Thread Cert.InNormBwdRefIdeal.nD Cert.InNormBwdRefIdeal.τ).loc Cert.InNormBwdRefIdeal.main_arg1)
          ∧ r.2.mem ((c.tc : Thread Cert.InNormBwdRefIdeal.nD Cert.InNormBwdRefIdeal.τ).loc Cert.InNormBwdRefIdeal.main_arg2) = m' ((c.tc : Thread Cert.InNormBwdRefIdeal.nD Cert.InNormBwdRefIdeal.τ).loc Cert.InNormBwdRefIdeal.main_arg2)
          ∧ r.2.mem ((c.tc : Thread Cert.InNormBwdRefIdeal.nD Cert.InNormBwdRefIdeal.τ).loc Cert.InNormBwdRefIdeal.main_arg3) = m' ((c.tc : Thread Cert.InNormBwdRefIdeal.nD Cert.InNormBwdRefIdeal.τ).loc Cert.InNormBwdRefIdeal.main_arg3)
          ∧ r.2.mem ((c.tc : Thread Cert.InNormBwdRefIdeal.nD Cert.InNormBwdRefIdeal.τ).loc Cert.InNormBwdRefIdeal.main_arg4) = m' ((c.tc : Thread Cert.InNormBwdRefIdeal.nD Cert.InNormBwdRefIdeal.τ).loc Cert.InNormBwdRefIdeal.main_arg4))

def preserves_MemAttnBwdB_MemAttnBwdBIdeal : Prop :=
  True

def algebraic_MemAttnBwdBIdeal_MemAttnBwdBRefIdeal_pre_mem_attn_bwd_b_finite [hMemAttnBwdBIdeal : Cert.MemAttnBwdBIdeal.Facts] [hMemAttnBwdBRefIdeal : Cert.MemAttnBwdBRefIdeal.Facts] [hPre_mem_attn_bwd_b_finite : Cert.Pre_mem_attn_bwd_b_finite.Facts] : Prop :=
  ∀ (m : (ℓ : Loc Cert.MemAttnBwdBIdeal.nD Cert.MemAttnBwdBIdeal.τ Cert.MemAttnBwdBIdeal.sig) → Buf (Elt Ideal) ℓ) (g : Dev Cert.MemAttnBwdBIdeal.nD → PrngReg)
    (m' : (ℓ : Loc Cert.MemAttnBwdBRefIdeal.nD Cert.MemAttnBwdBRefIdeal.τ Cert.MemAttnBwdBRefIdeal.sig) → Buf (Elt Ideal) ℓ) (g' : Dev Cert.MemAttnBwdBRefIdeal.nD → PrngReg), Pre_MemAttnBwdBIdeal_mem_attn_bwd_b_finite m →
    (∀ c : Dev Cert.MemAttnBwdBIdeal.nD,
      m' ((c.tc : Thread Cert.MemAttnBwdBRefIdeal.nD Cert.MemAttnBwdBRefIdeal.τ).loc Cert.MemAttnBwdBRefIdeal.main_arg0) = m ((c.tc : Thread Cert.MemAttnBwdBIdeal.nD Cert.MemAttnBwdBIdeal.τ).loc Cert.MemAttnBwdBIdeal.main_arg0)
      ∧ m' ((c.tc : Thread Cert.MemAttnBwdBRefIdeal.nD Cert.MemAttnBwdBRefIdeal.τ).loc Cert.MemAttnBwdBRefIdeal.main_arg1) = m ((c.tc : Thread Cert.MemAttnBwdBIdeal.nD Cert.MemAttnBwdBIdeal.τ).loc Cert.MemAttnBwdBIdeal.main_arg1)
      ∧ m' ((c.tc : Thread Cert.MemAttnBwdBRefIdeal.nD Cert.MemAttnBwdBRefIdeal.τ).loc Cert.MemAttnBwdBRefIdeal.main_arg2) = m ((c.tc : Thread Cert.MemAttnBwdBIdeal.nD Cert.MemAttnBwdBIdeal.τ).loc Cert.MemAttnBwdBIdeal.main_arg2)) →
    ∃ (v0 : (c : Dev Cert.MemAttnBwdBIdeal.nD) → Buf (Elt Ideal) ((c.tc : Thread Cert.MemAttnBwdBIdeal.nD Cert.MemAttnBwdBIdeal.τ).loc Cert.MemAttnBwdBIdeal.main_v0_0)) (v1 : (c : Dev Cert.MemAttnBwdBIdeal.nD) → Buf (Elt Ideal) ((c.tc : Thread Cert.MemAttnBwdBIdeal.nD Cert.MemAttnBwdBIdeal.τ).loc Cert.MemAttnBwdBIdeal.main_v0_1)),
      θ_run (Cert.MemAttnBwdBIdeal.defs (F := Ideal)) (onTc (τ := Cert.MemAttnBwdBIdeal.τ) (Cert.MemAttnBwdBIdeal.main (F := Ideal))) ⟨m, fun _ => 0, g⟩ (fun r => ∀ c : Dev Cert.MemAttnBwdBIdeal.nD,
          r.2.mem ((c.tc : Thread Cert.MemAttnBwdBIdeal.nD Cert.MemAttnBwdBIdeal.τ).loc Cert.MemAttnBwdBIdeal.main_v0_0) = v0 c
          ∧ r.2.mem ((c.tc : Thread Cert.MemAttnBwdBIdeal.nD Cert.MemAttnBwdBIdeal.τ).loc Cert.MemAttnBwdBIdeal.main_v0_1) = v1 c
          ∧ r.2.mem ((c.tc : Thread Cert.MemAttnBwdBIdeal.nD Cert.MemAttnBwdBIdeal.τ).loc Cert.MemAttnBwdBIdeal.main_arg0) = m ((c.tc : Thread Cert.MemAttnBwdBIdeal.nD Cert.MemAttnBwdBIdeal.τ).loc Cert.MemAttnBwdBIdeal.main_arg0)
          ∧ r.2.mem ((c.tc : Thread Cert.MemAttnBwdBIdeal.nD Cert.MemAttnBwdBIdeal.τ).loc Cert.MemAttnBwdBIdeal.main_arg1) = m ((c.tc : Thread Cert.MemAttnBwdBIdeal.nD Cert.MemAttnBwdBIdeal.τ).loc Cert.MemAttnBwdBIdeal.main_arg1)
          ∧ r.2.mem ((c.tc : Thread Cert.MemAttnBwdBIdeal.nD Cert.MemAttnBwdBIdeal.τ).loc Cert.MemAttnBwdBIdeal.main_arg2) = m ((c.tc : Thread Cert.MemAttnBwdBIdeal.nD Cert.MemAttnBwdBIdeal.τ).loc Cert.MemAttnBwdBIdeal.main_arg2))
      ∧ θ_run (Cert.MemAttnBwdBRefIdeal.defs (F := Ideal)) (onTc (τ := Cert.MemAttnBwdBRefIdeal.τ) (Cert.MemAttnBwdBRefIdeal.main (F := Ideal))) ⟨m', fun _ => 0, g'⟩ (fun r => ∀ c : Dev Cert.MemAttnBwdBRefIdeal.nD,
          r.2.mem ((c.tc : Thread Cert.MemAttnBwdBRefIdeal.nD Cert.MemAttnBwdBRefIdeal.τ).loc Cert.MemAttnBwdBRefIdeal.main_v76) = v0 c
          ∧ r.2.mem ((c.tc : Thread Cert.MemAttnBwdBRefIdeal.nD Cert.MemAttnBwdBRefIdeal.τ).loc Cert.MemAttnBwdBRefIdeal.main_v77) = v1 c
          ∧ r.2.mem ((c.tc : Thread Cert.MemAttnBwdBRefIdeal.nD Cert.MemAttnBwdBRefIdeal.τ).loc Cert.MemAttnBwdBRefIdeal.main_arg0) = m' ((c.tc : Thread Cert.MemAttnBwdBRefIdeal.nD Cert.MemAttnBwdBRefIdeal.τ).loc Cert.MemAttnBwdBRefIdeal.main_arg0)
          ∧ r.2.mem ((c.tc : Thread Cert.MemAttnBwdBRefIdeal.nD Cert.MemAttnBwdBRefIdeal.τ).loc Cert.MemAttnBwdBRefIdeal.main_arg1) = m' ((c.tc : Thread Cert.MemAttnBwdBRefIdeal.nD Cert.MemAttnBwdBRefIdeal.τ).loc Cert.MemAttnBwdBRefIdeal.main_arg1)
          ∧ r.2.mem ((c.tc : Thread Cert.MemAttnBwdBRefIdeal.nD Cert.MemAttnBwdBRefIdeal.τ).loc Cert.MemAttnBwdBRefIdeal.main_arg2) = m' ((c.tc : Thread Cert.MemAttnBwdBRefIdeal.nD Cert.MemAttnBwdBRefIdeal.τ).loc Cert.MemAttnBwdBRefIdeal.main_arg2))

def preserves_MemAttnFwd_MemAttnFwdIdeal : Prop :=
  True

def algebraic_MemAttnFwdIdeal_MemAttnFwdRefIdeal [hMemAttnFwdIdeal : Cert.MemAttnFwdIdeal.Facts] [hMemAttnFwdRefIdeal : Cert.MemAttnFwdRefIdeal.Facts] : Prop :=
  ∀ (m : (ℓ : Loc Cert.MemAttnFwdIdeal.nD Cert.MemAttnFwdIdeal.τ Cert.MemAttnFwdIdeal.sig) → Buf (Elt Ideal) ℓ) (g : Dev Cert.MemAttnFwdIdeal.nD → PrngReg)
    (m' : (ℓ : Loc Cert.MemAttnFwdRefIdeal.nD Cert.MemAttnFwdRefIdeal.τ Cert.MemAttnFwdRefIdeal.sig) → Buf (Elt Ideal) ℓ) (g' : Dev Cert.MemAttnFwdRefIdeal.nD → PrngReg), Pre_MemAttnFwdIdeal m →
    (∀ c : Dev Cert.MemAttnFwdIdeal.nD,
      m' ((c.tc : Thread Cert.MemAttnFwdRefIdeal.nD Cert.MemAttnFwdRefIdeal.τ).loc Cert.MemAttnFwdRefIdeal.main_arg0) = m ((c.tc : Thread Cert.MemAttnFwdIdeal.nD Cert.MemAttnFwdIdeal.τ).loc Cert.MemAttnFwdIdeal.main_arg0)
      ∧ m' ((c.tc : Thread Cert.MemAttnFwdRefIdeal.nD Cert.MemAttnFwdRefIdeal.τ).loc Cert.MemAttnFwdRefIdeal.main_arg1) = m ((c.tc : Thread Cert.MemAttnFwdIdeal.nD Cert.MemAttnFwdIdeal.τ).loc Cert.MemAttnFwdIdeal.main_arg1)) →
    ∃ (v0 : (c : Dev Cert.MemAttnFwdIdeal.nD) → Buf (Elt Ideal) ((c.tc : Thread Cert.MemAttnFwdIdeal.nD Cert.MemAttnFwdIdeal.τ).loc Cert.MemAttnFwdIdeal.main_v0)),
      θ_run (Cert.MemAttnFwdIdeal.defs (F := Ideal)) (onTc (τ := Cert.MemAttnFwdIdeal.τ) (Cert.MemAttnFwdIdeal.main (F := Ideal))) ⟨m, fun _ => 0, g⟩ (fun r => ∀ c : Dev Cert.MemAttnFwdIdeal.nD,
          r.2.mem ((c.tc : Thread Cert.MemAttnFwdIdeal.nD Cert.MemAttnFwdIdeal.τ).loc Cert.MemAttnFwdIdeal.main_v0) = v0 c
          ∧ r.2.mem ((c.tc : Thread Cert.MemAttnFwdIdeal.nD Cert.MemAttnFwdIdeal.τ).loc Cert.MemAttnFwdIdeal.main_arg0) = m ((c.tc : Thread Cert.MemAttnFwdIdeal.nD Cert.MemAttnFwdIdeal.τ).loc Cert.MemAttnFwdIdeal.main_arg0)
          ∧ r.2.mem ((c.tc : Thread Cert.MemAttnFwdIdeal.nD Cert.MemAttnFwdIdeal.τ).loc Cert.MemAttnFwdIdeal.main_arg1) = m ((c.tc : Thread Cert.MemAttnFwdIdeal.nD Cert.MemAttnFwdIdeal.τ).loc Cert.MemAttnFwdIdeal.main_arg1))
      ∧ θ_run (Cert.MemAttnFwdRefIdeal.defs (F := Ideal)) (onTc (τ := Cert.MemAttnFwdRefIdeal.τ) (Cert.MemAttnFwdRefIdeal.main (F := Ideal))) ⟨m', fun _ => 0, g'⟩ (fun r => ∀ c : Dev Cert.MemAttnFwdRefIdeal.nD,
          r.2.mem ((c.tc : Thread Cert.MemAttnFwdRefIdeal.nD Cert.MemAttnFwdRefIdeal.τ).loc Cert.MemAttnFwdRefIdeal.main_v27) = v0 c
          ∧ r.2.mem ((c.tc : Thread Cert.MemAttnFwdRefIdeal.nD Cert.MemAttnFwdRefIdeal.τ).loc Cert.MemAttnFwdRefIdeal.main_arg0) = m' ((c.tc : Thread Cert.MemAttnFwdRefIdeal.nD Cert.MemAttnFwdRefIdeal.τ).loc Cert.MemAttnFwdRefIdeal.main_arg0)
          ∧ r.2.mem ((c.tc : Thread Cert.MemAttnFwdRefIdeal.nD Cert.MemAttnFwdRefIdeal.τ).loc Cert.MemAttnFwdRefIdeal.main_arg1) = m' ((c.tc : Thread Cert.MemAttnFwdRefIdeal.nD Cert.MemAttnFwdRefIdeal.τ).loc Cert.MemAttnFwdRefIdeal.main_arg1))

def preserves_MemAttnFwdB_MemAttnFwdBIdeal : Prop :=
  True

def algebraic_MemAttnFwdBIdeal_MemAttnFwdBRefIdeal [hMemAttnFwdBIdeal : Cert.MemAttnFwdBIdeal.Facts] [hMemAttnFwdBRefIdeal : Cert.MemAttnFwdBRefIdeal.Facts] : Prop :=
  ∀ (m : (ℓ : Loc Cert.MemAttnFwdBIdeal.nD Cert.MemAttnFwdBIdeal.τ Cert.MemAttnFwdBIdeal.sig) → Buf (Elt Ideal) ℓ) (g : Dev Cert.MemAttnFwdBIdeal.nD → PrngReg)
    (m' : (ℓ : Loc Cert.MemAttnFwdBRefIdeal.nD Cert.MemAttnFwdBRefIdeal.τ Cert.MemAttnFwdBRefIdeal.sig) → Buf (Elt Ideal) ℓ) (g' : Dev Cert.MemAttnFwdBRefIdeal.nD → PrngReg), Pre_MemAttnFwdBIdeal m →
    (∀ c : Dev Cert.MemAttnFwdBIdeal.nD,
      m' ((c.tc : Thread Cert.MemAttnFwdBRefIdeal.nD Cert.MemAttnFwdBRefIdeal.τ).loc Cert.MemAttnFwdBRefIdeal.main_arg0) = m ((c.tc : Thread Cert.MemAttnFwdBIdeal.nD Cert.MemAttnFwdBIdeal.τ).loc Cert.MemAttnFwdBIdeal.main_arg0)
      ∧ m' ((c.tc : Thread Cert.MemAttnFwdBRefIdeal.nD Cert.MemAttnFwdBRefIdeal.τ).loc Cert.MemAttnFwdBRefIdeal.main_arg1) = m ((c.tc : Thread Cert.MemAttnFwdBIdeal.nD Cert.MemAttnFwdBIdeal.τ).loc Cert.MemAttnFwdBIdeal.main_arg1)) →
    ∃ (v0 : (c : Dev Cert.MemAttnFwdBIdeal.nD) → Buf (Elt Ideal) ((c.tc : Thread Cert.MemAttnFwdBIdeal.nD Cert.MemAttnFwdBIdeal.τ).loc Cert.MemAttnFwdBIdeal.main_v0)),
      θ_run (Cert.MemAttnFwdBIdeal.defs (F := Ideal)) (onTc (τ := Cert.MemAttnFwdBIdeal.τ) (Cert.MemAttnFwdBIdeal.main (F := Ideal))) ⟨m, fun _ => 0, g⟩ (fun r => ∀ c : Dev Cert.MemAttnFwdBIdeal.nD,
          r.2.mem ((c.tc : Thread Cert.MemAttnFwdBIdeal.nD Cert.MemAttnFwdBIdeal.τ).loc Cert.MemAttnFwdBIdeal.main_v0) = v0 c
          ∧ r.2.mem ((c.tc : Thread Cert.MemAttnFwdBIdeal.nD Cert.MemAttnFwdBIdeal.τ).loc Cert.MemAttnFwdBIdeal.main_arg0) = m ((c.tc : Thread Cert.MemAttnFwdBIdeal.nD Cert.MemAttnFwdBIdeal.τ).loc Cert.MemAttnFwdBIdeal.main_arg0)
          ∧ r.2.mem ((c.tc : Thread Cert.MemAttnFwdBIdeal.nD Cert.MemAttnFwdBIdeal.τ).loc Cert.MemAttnFwdBIdeal.main_arg1) = m ((c.tc : Thread Cert.MemAttnFwdBIdeal.nD Cert.MemAttnFwdBIdeal.τ).loc Cert.MemAttnFwdBIdeal.main_arg1))
      ∧ θ_run (Cert.MemAttnFwdBRefIdeal.defs (F := Ideal)) (onTc (τ := Cert.MemAttnFwdBRefIdeal.τ) (Cert.MemAttnFwdBRefIdeal.main (F := Ideal))) ⟨m', fun _ => 0, g'⟩ (fun r => ∀ c : Dev Cert.MemAttnFwdBRefIdeal.nD,
          r.2.mem ((c.tc : Thread Cert.MemAttnFwdBRefIdeal.nD Cert.MemAttnFwdBRefIdeal.τ).loc Cert.MemAttnFwdBRefIdeal.main_v28) = v0 c
          ∧ r.2.mem ((c.tc : Thread Cert.MemAttnFwdBRefIdeal.nD Cert.MemAttnFwdBRefIdeal.τ).loc Cert.MemAttnFwdBRefIdeal.main_arg0) = m' ((c.tc : Thread Cert.MemAttnFwdBRefIdeal.nD Cert.MemAttnFwdBRefIdeal.τ).loc Cert.MemAttnFwdBRefIdeal.main_arg0)
          ∧ r.2.mem ((c.tc : Thread Cert.MemAttnFwdBRefIdeal.nD Cert.MemAttnFwdBRefIdeal.τ).loc Cert.MemAttnFwdBRefIdeal.main_arg1) = m' ((c.tc : Thread Cert.MemAttnFwdBRefIdeal.nD Cert.MemAttnFwdBRefIdeal.τ).loc Cert.MemAttnFwdBRefIdeal.main_arg1))

def preserves_GateFwd_GateFwdIdeal : Prop :=
  True

def algebraic_GateFwdIdeal_GateFwdRefIdeal [hGateFwdIdeal : Cert.GateFwdIdeal.Facts] [hGateFwdRefIdeal : Cert.GateFwdRefIdeal.Facts] : Prop :=
  ∀ (m : (ℓ : Loc Cert.GateFwdIdeal.nD Cert.GateFwdIdeal.τ Cert.GateFwdIdeal.sig) → Buf (Elt Ideal) ℓ) (g : Dev Cert.GateFwdIdeal.nD → PrngReg)
    (m' : (ℓ : Loc Cert.GateFwdRefIdeal.nD Cert.GateFwdRefIdeal.τ Cert.GateFwdRefIdeal.sig) → Buf (Elt Ideal) ℓ) (g' : Dev Cert.GateFwdRefIdeal.nD → PrngReg), Pre_GateFwdIdeal m →
    (∀ c : Dev Cert.GateFwdIdeal.nD,
      m' ((c.tc : Thread Cert.GateFwdRefIdeal.nD Cert.GateFwdRefIdeal.τ).loc Cert.GateFwdRefIdeal.main_arg0) = m ((c.tc : Thread Cert.GateFwdIdeal.nD Cert.GateFwdIdeal.τ).loc Cert.GateFwdIdeal.main_arg0)
      ∧ m' ((c.tc : Thread Cert.GateFwdRefIdeal.nD Cert.GateFwdRefIdeal.τ).loc Cert.GateFwdRefIdeal.main_arg1) = m ((c.tc : Thread Cert.GateFwdIdeal.nD Cert.GateFwdIdeal.τ).loc Cert.GateFwdIdeal.main_arg1)) →
    ∃ (v0 : (c : Dev Cert.GateFwdIdeal.nD) → Buf (Elt Ideal) ((c.tc : Thread Cert.GateFwdIdeal.nD Cert.GateFwdIdeal.τ).loc Cert.GateFwdIdeal.main_v0_0)) (v1 : (c : Dev Cert.GateFwdIdeal.nD) → Buf (Elt Ideal) ((c.tc : Thread Cert.GateFwdIdeal.nD Cert.GateFwdIdeal.τ).loc Cert.GateFwdIdeal.main_v0_1)) (v2 : (c : Dev Cert.GateFwdIdeal.nD) → Buf (Elt Ideal) ((c.tc : Thread Cert.GateFwdIdeal.nD Cert.GateFwdIdeal.τ).loc Cert.GateFwdIdeal.main_v0_2)),
      θ_run (Cert.GateFwdIdeal.defs (F := Ideal)) (onTc (τ := Cert.GateFwdIdeal.τ) (Cert.GateFwdIdeal.main (F := Ideal))) ⟨m, fun _ => 0, g⟩ (fun r => ∀ c : Dev Cert.GateFwdIdeal.nD,
          r.2.mem ((c.tc : Thread Cert.GateFwdIdeal.nD Cert.GateFwdIdeal.τ).loc Cert.GateFwdIdeal.main_v0_0) = v0 c
          ∧ r.2.mem ((c.tc : Thread Cert.GateFwdIdeal.nD Cert.GateFwdIdeal.τ).loc Cert.GateFwdIdeal.main_v0_1) = v1 c
          ∧ r.2.mem ((c.tc : Thread Cert.GateFwdIdeal.nD Cert.GateFwdIdeal.τ).loc Cert.GateFwdIdeal.main_v0_2) = v2 c
          ∧ r.2.mem ((c.tc : Thread Cert.GateFwdIdeal.nD Cert.GateFwdIdeal.τ).loc Cert.GateFwdIdeal.main_arg0) = m ((c.tc : Thread Cert.GateFwdIdeal.nD Cert.GateFwdIdeal.τ).loc Cert.GateFwdIdeal.main_arg0)
          ∧ r.2.mem ((c.tc : Thread Cert.GateFwdIdeal.nD Cert.GateFwdIdeal.τ).loc Cert.GateFwdIdeal.main_arg1) = m ((c.tc : Thread Cert.GateFwdIdeal.nD Cert.GateFwdIdeal.τ).loc Cert.GateFwdIdeal.main_arg1))
      ∧ θ_run (Cert.GateFwdRefIdeal.defs (F := Ideal)) (onTc (τ := Cert.GateFwdRefIdeal.τ) (Cert.GateFwdRefIdeal.main (F := Ideal))) ⟨m', fun _ => 0, g'⟩ (fun r => ∀ c : Dev Cert.GateFwdRefIdeal.nD,
          r.2.mem ((c.tc : Thread Cert.GateFwdRefIdeal.nD Cert.GateFwdRefIdeal.τ).loc Cert.GateFwdRefIdeal.main_v5) = v0 c
          ∧ r.2.mem ((c.tc : Thread Cert.GateFwdRefIdeal.nD Cert.GateFwdRefIdeal.τ).loc Cert.GateFwdRefIdeal.main_v6) = v1 c
          ∧ r.2.mem ((c.tc : Thread Cert.GateFwdRefIdeal.nD Cert.GateFwdRefIdeal.τ).loc Cert.GateFwdRefIdeal.main_v9) = v2 c
          ∧ r.2.mem ((c.tc : Thread Cert.GateFwdRefIdeal.nD Cert.GateFwdRefIdeal.τ).loc Cert.GateFwdRefIdeal.main_arg0) = m' ((c.tc : Thread Cert.GateFwdRefIdeal.nD Cert.GateFwdRefIdeal.τ).loc Cert.GateFwdRefIdeal.main_arg0)
          ∧ r.2.mem ((c.tc : Thread Cert.GateFwdRefIdeal.nD Cert.GateFwdRefIdeal.τ).loc Cert.GateFwdRefIdeal.main_arg1) = m' ((c.tc : Thread Cert.GateFwdRefIdeal.nD Cert.GateFwdRefIdeal.τ).loc Cert.GateFwdRefIdeal.main_arg1))

def preserves_NormFwd_NormFwdIdeal : Prop :=
  True

def algebraic_NormFwdIdeal_NormFwdRefIdeal [hNormFwdIdeal : Cert.NormFwdIdeal.Facts] [hNormFwdRefIdeal : Cert.NormFwdRefIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg)
    (m' : (ℓ : Loc Cert.NormFwdRefIdeal.nD Cert.NormFwdRefIdeal.τ Cert.NormFwdRefIdeal.sig) → Buf (Elt Ideal) ℓ) (g' : Dev Cert.NormFwdRefIdeal.nD → PrngReg), Pre_NormFwdIdeal m →
    (∀ c : Dev Cert.NormFwdIdeal.nD,
      m' ((c.tc : Thread Cert.NormFwdRefIdeal.nD Cert.NormFwdRefIdeal.τ).loc Cert.NormFwdRefIdeal.main_arg0) = m ((c.tc : Thread Cert.NormFwdIdeal.nD Cert.NormFwdIdeal.τ).loc Cert.NormFwdIdeal.main_arg0)
      ∧ m' ((c.tc : Thread Cert.NormFwdRefIdeal.nD Cert.NormFwdRefIdeal.τ).loc Cert.NormFwdRefIdeal.main_arg1) = m ((c.tc : Thread Cert.NormFwdIdeal.nD Cert.NormFwdIdeal.τ).loc Cert.NormFwdIdeal.main_arg1)) →
    ∃ (v0 : (c : Dev Cert.NormFwdIdeal.nD) → Buf (Elt Ideal) ((c.tc : Thread Cert.NormFwdIdeal.nD Cert.NormFwdIdeal.τ).loc Cert.NormFwdIdeal.main_v0)),
      θ_run (Cert.NormFwdIdeal.defs (F := Ideal)) (onTc (τ := Cert.NormFwdIdeal.τ) (Cert.NormFwdIdeal.main (F := Ideal))) ⟨m, fun _ => 0, g⟩ (fun r => ∀ c : Dev Cert.NormFwdIdeal.nD,
          r.2.mem ((c.tc : Thread Cert.NormFwdIdeal.nD Cert.NormFwdIdeal.τ).loc Cert.NormFwdIdeal.main_v0) = v0 c
          ∧ r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
          ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1))
      ∧ θ_run (Cert.NormFwdRefIdeal.defs (F := Ideal)) (onTc (τ := Cert.NormFwdRefIdeal.τ) (Cert.NormFwdRefIdeal.main (F := Ideal))) ⟨m', fun _ => 0, g'⟩ (fun r => ∀ c : Dev Cert.NormFwdRefIdeal.nD,
          r.2.mem ((c.tc : Thread Cert.NormFwdRefIdeal.nD Cert.NormFwdRefIdeal.τ).loc Cert.NormFwdRefIdeal.main_v12) = v0 c
          ∧ r.2.mem ((c.tc : Thread Cert.NormFwdRefIdeal.nD Cert.NormFwdRefIdeal.τ).loc Cert.NormFwdRefIdeal.main_arg0) = m' ((c.tc : Thread Cert.NormFwdRefIdeal.nD Cert.NormFwdRefIdeal.τ).loc Cert.NormFwdRefIdeal.main_arg0)
          ∧ r.2.mem ((c.tc : Thread Cert.NormFwdRefIdeal.nD Cert.NormFwdRefIdeal.τ).loc Cert.NormFwdRefIdeal.main_arg1) = m' ((c.tc : Thread Cert.NormFwdRefIdeal.nD Cert.NormFwdRefIdeal.τ).loc Cert.NormFwdRefIdeal.main_arg1))

def preserves_NormsFwd_NormsFwdIdeal : Prop :=
  True

def algebraic_NormsFwdIdeal_NormsFwdRefIdeal [hNormsFwdIdeal : Cert.NormsFwdIdeal.Facts] [hNormsFwdRefIdeal : Cert.NormsFwdRefIdeal.Facts] : Prop :=
  ∀ (m : (ℓ : Loc Cert.NormsFwdIdeal.nD Cert.NormsFwdIdeal.τ Cert.NormsFwdIdeal.sig) → Buf (Elt Ideal) ℓ) (g : Dev Cert.NormsFwdIdeal.nD → PrngReg)
    (m' : (ℓ : Loc Cert.NormsFwdRefIdeal.nD Cert.NormsFwdRefIdeal.τ Cert.NormsFwdRefIdeal.sig) → Buf (Elt Ideal) ℓ) (g' : Dev Cert.NormsFwdRefIdeal.nD → PrngReg), Pre_NormsFwdIdeal m →
    (∀ c : Dev Cert.NormsFwdIdeal.nD,
      m' ((c.tc : Thread Cert.NormsFwdRefIdeal.nD Cert.NormsFwdRefIdeal.τ).loc Cert.NormsFwdRefIdeal.main_arg0) = m ((c.tc : Thread Cert.NormsFwdIdeal.nD Cert.NormsFwdIdeal.τ).loc Cert.NormsFwdIdeal.main_arg0)
      ∧ m' ((c.tc : Thread Cert.NormsFwdRefIdeal.nD Cert.NormsFwdRefIdeal.τ).loc Cert.NormsFwdRefIdeal.main_arg1) = m ((c.tc : Thread Cert.NormsFwdIdeal.nD Cert.NormsFwdIdeal.τ).loc Cert.NormsFwdIdeal.main_arg1)
      ∧ m' ((c.tc : Thread Cert.NormsFwdRefIdeal.nD Cert.NormsFwdRefIdeal.τ).loc Cert.NormsFwdRefIdeal.main_arg2) = m ((c.tc : Thread Cert.NormsFwdIdeal.nD Cert.NormsFwdIdeal.τ).loc Cert.NormsFwdIdeal.main_arg2)) →
    ∃ (v0 : (c : Dev Cert.NormsFwdIdeal.nD) → Buf (Elt Ideal) ((c.tc : Thread Cert.NormsFwdIdeal.nD Cert.NormsFwdIdeal.τ).loc Cert.NormsFwdIdeal.main_v0_0)) (v1 : (c : Dev Cert.NormsFwdIdeal.nD) → Buf (Elt Ideal) ((c.tc : Thread Cert.NormsFwdIdeal.nD Cert.NormsFwdIdeal.τ).loc Cert.NormsFwdIdeal.main_v0_1)),
      θ_run (Cert.NormsFwdIdeal.defs (F := Ideal)) (onTc (τ := Cert.NormsFwdIdeal.τ) (Cert.NormsFwdIdeal.main (F := Ideal))) ⟨m, fun _ => 0, g⟩ (fun r => ∀ c : Dev Cert.NormsFwdIdeal.nD,
          r.2.mem ((c.tc : Thread Cert.NormsFwdIdeal.nD Cert.NormsFwdIdeal.τ).loc Cert.NormsFwdIdeal.main_v0_0) = v0 c
          ∧ r.2.mem ((c.tc : Thread Cert.NormsFwdIdeal.nD Cert.NormsFwdIdeal.τ).loc Cert.NormsFwdIdeal.main_v0_1) = v1 c
          ∧ r.2.mem ((c.tc : Thread Cert.NormsFwdIdeal.nD Cert.NormsFwdIdeal.τ).loc Cert.NormsFwdIdeal.main_arg0) = m ((c.tc : Thread Cert.NormsFwdIdeal.nD Cert.NormsFwdIdeal.τ).loc Cert.NormsFwdIdeal.main_arg0)
          ∧ r.2.mem ((c.tc : Thread Cert.NormsFwdIdeal.nD Cert.NormsFwdIdeal.τ).loc Cert.NormsFwdIdeal.main_arg1) = m ((c.tc : Thread Cert.NormsFwdIdeal.nD Cert.NormsFwdIdeal.τ).loc Cert.NormsFwdIdeal.main_arg1)
          ∧ r.2.mem ((c.tc : Thread Cert.NormsFwdIdeal.nD Cert.NormsFwdIdeal.τ).loc Cert.NormsFwdIdeal.main_arg2) = m ((c.tc : Thread Cert.NormsFwdIdeal.nD Cert.NormsFwdIdeal.τ).loc Cert.NormsFwdIdeal.main_arg2))
      ∧ θ_run (Cert.NormsFwdRefIdeal.defs (F := Ideal)) (onTc (τ := Cert.NormsFwdRefIdeal.τ) (Cert.NormsFwdRefIdeal.main (F := Ideal))) ⟨m', fun _ => 0, g'⟩ (fun r => ∀ c : Dev Cert.NormsFwdRefIdeal.nD,
          r.2.mem ((c.tc : Thread Cert.NormsFwdRefIdeal.nD Cert.NormsFwdRefIdeal.τ).loc Cert.NormsFwdRefIdeal.main_v12) = v0 c
          ∧ r.2.mem ((c.tc : Thread Cert.NormsFwdRefIdeal.nD Cert.NormsFwdRefIdeal.τ).loc Cert.NormsFwdRefIdeal.main_v25) = v1 c
          ∧ r.2.mem ((c.tc : Thread Cert.NormsFwdRefIdeal.nD Cert.NormsFwdRefIdeal.τ).loc Cert.NormsFwdRefIdeal.main_arg0) = m' ((c.tc : Thread Cert.NormsFwdRefIdeal.nD Cert.NormsFwdRefIdeal.τ).loc Cert.NormsFwdRefIdeal.main_arg0)
          ∧ r.2.mem ((c.tc : Thread Cert.NormsFwdRefIdeal.nD Cert.NormsFwdRefIdeal.τ).loc Cert.NormsFwdRefIdeal.main_arg1) = m' ((c.tc : Thread Cert.NormsFwdRefIdeal.nD Cert.NormsFwdRefIdeal.τ).loc Cert.NormsFwdRefIdeal.main_arg1)
          ∧ r.2.mem ((c.tc : Thread Cert.NormsFwdRefIdeal.nD Cert.NormsFwdRefIdeal.τ).loc Cert.NormsFwdRefIdeal.main_arg2) = m' ((c.tc : Thread Cert.NormsFwdRefIdeal.nD Cert.NormsFwdRefIdeal.τ).loc Cert.NormsFwdRefIdeal.main_arg2))

def preserves_MemNormFwd_MemNormFwdIdeal : Prop :=
  True

def algebraic_MemNormFwdIdeal_MemNormFwdRefIdeal [hMemNormFwdIdeal : Cert.MemNormFwdIdeal.Facts] [hMemNormFwdRefIdeal : Cert.MemNormFwdRefIdeal.Facts] : Prop :=
  ∀ (m : (ℓ : Loc Cert.MemNormFwdIdeal.nD Cert.MemNormFwdIdeal.τ Cert.MemNormFwdIdeal.sig) → Buf (Elt Ideal) ℓ) (g : Dev Cert.MemNormFwdIdeal.nD → PrngReg)
    (m' : (ℓ : Loc Cert.MemNormFwdRefIdeal.nD Cert.MemNormFwdRefIdeal.τ Cert.MemNormFwdRefIdeal.sig) → Buf (Elt Ideal) ℓ) (g' : Dev Cert.MemNormFwdRefIdeal.nD → PrngReg), Pre_MemNormFwdIdeal m →
    (∀ c : Dev Cert.MemNormFwdIdeal.nD,
      m' ((c.tc : Thread Cert.MemNormFwdRefIdeal.nD Cert.MemNormFwdRefIdeal.τ).loc Cert.MemNormFwdRefIdeal.main_arg0) = m ((c.tc : Thread Cert.MemNormFwdIdeal.nD Cert.MemNormFwdIdeal.τ).loc Cert.MemNormFwdIdeal.main_arg0)
      ∧ m' ((c.tc : Thread Cert.MemNormFwdRefIdeal.nD Cert.MemNormFwdRefIdeal.τ).loc Cert.MemNormFwdRefIdeal.main_arg1) = m ((c.tc : Thread Cert.MemNormFwdIdeal.nD Cert.MemNormFwdIdeal.τ).loc Cert.MemNormFwdIdeal.main_arg1)) →
    ∃ (v0 : (c : Dev Cert.MemNormFwdIdeal.nD) → Buf (Elt Ideal) ((c.tc : Thread Cert.MemNormFwdIdeal.nD Cert.MemNormFwdIdeal.τ).loc Cert.MemNormFwdIdeal.main_v0)),
      θ_run (Cert.MemNormFwdIdeal.defs (F := Ideal)) (onTc (τ := Cert.MemNormFwdIdeal.τ) (Cert.MemNormFwdIdeal.main (F := Ideal))) ⟨m, fun _ => 0, g⟩ (fun r => ∀ c : Dev Cert.MemNormFwdIdeal.nD,
          r.2.mem ((c.tc : Thread Cert.MemNormFwdIdeal.nD Cert.MemNormFwdIdeal.τ).loc Cert.MemNormFwdIdeal.main_v0) = v0 c
          ∧ r.2.mem ((c.tc : Thread Cert.MemNormFwdIdeal.nD Cert.MemNormFwdIdeal.τ).loc Cert.MemNormFwdIdeal.main_arg0) = m ((c.tc : Thread Cert.MemNormFwdIdeal.nD Cert.MemNormFwdIdeal.τ).loc Cert.MemNormFwdIdeal.main_arg0)
          ∧ r.2.mem ((c.tc : Thread Cert.MemNormFwdIdeal.nD Cert.MemNormFwdIdeal.τ).loc Cert.MemNormFwdIdeal.main_arg1) = m ((c.tc : Thread Cert.MemNormFwdIdeal.nD Cert.MemNormFwdIdeal.τ).loc Cert.MemNormFwdIdeal.main_arg1))
      ∧ θ_run (Cert.MemNormFwdRefIdeal.defs (F := Ideal)) (onTc (τ := Cert.MemNormFwdRefIdeal.τ) (Cert.MemNormFwdRefIdeal.main (F := Ideal))) ⟨m', fun _ => 0, g'⟩ (fun r => ∀ c : Dev Cert.MemNormFwdRefIdeal.nD,
          r.2.mem ((c.tc : Thread Cert.MemNormFwdRefIdeal.nD Cert.MemNormFwdRefIdeal.τ).loc Cert.MemNormFwdRefIdeal.main_v12) = v0 c
          ∧ r.2.mem ((c.tc : Thread Cert.MemNormFwdRefIdeal.nD Cert.MemNormFwdRefIdeal.τ).loc Cert.MemNormFwdRefIdeal.main_arg0) = m' ((c.tc : Thread Cert.MemNormFwdRefIdeal.nD Cert.MemNormFwdRefIdeal.τ).loc Cert.MemNormFwdRefIdeal.main_arg0)
          ∧ r.2.mem ((c.tc : Thread Cert.MemNormFwdRefIdeal.nD Cert.MemNormFwdRefIdeal.τ).loc Cert.MemNormFwdRefIdeal.main_arg1) = m' ((c.tc : Thread Cert.MemNormFwdRefIdeal.nD Cert.MemNormFwdRefIdeal.τ).loc Cert.MemNormFwdRefIdeal.main_arg1))

def preserves_ScaleFwd_ScaleFwdIdeal : Prop :=
  True

def algebraic_ScaleFwdIdeal_ScaleFwdRefIdeal [hScaleFwdIdeal : Cert.ScaleFwdIdeal.Facts] [hScaleFwdRefIdeal : Cert.ScaleFwdRefIdeal.Facts] : Prop :=
  ∀ (m : (ℓ : Loc Cert.ScaleFwdIdeal.nD Cert.ScaleFwdIdeal.τ Cert.ScaleFwdIdeal.sig) → Buf (Elt Ideal) ℓ) (g : Dev Cert.ScaleFwdIdeal.nD → PrngReg)
    (m' : (ℓ : Loc Cert.ScaleFwdRefIdeal.nD Cert.ScaleFwdRefIdeal.τ Cert.ScaleFwdRefIdeal.sig) → Buf (Elt Ideal) ℓ) (g' : Dev Cert.ScaleFwdRefIdeal.nD → PrngReg), Pre_ScaleFwdIdeal m →
    (∀ c : Dev Cert.ScaleFwdIdeal.nD,
      m' ((c.tc : Thread Cert.ScaleFwdRefIdeal.nD Cert.ScaleFwdRefIdeal.τ).loc Cert.ScaleFwdRefIdeal.main_arg0) = m ((c.tc : Thread Cert.ScaleFwdIdeal.nD Cert.ScaleFwdIdeal.τ).loc Cert.ScaleFwdIdeal.main_arg0)
      ∧ m' ((c.tc : Thread Cert.ScaleFwdRefIdeal.nD Cert.ScaleFwdRefIdeal.τ).loc Cert.ScaleFwdRefIdeal.main_arg1) = m ((c.tc : Thread Cert.ScaleFwdIdeal.nD Cert.ScaleFwdIdeal.τ).loc Cert.ScaleFwdIdeal.main_arg1)
      ∧ m' ((c.tc : Thread Cert.ScaleFwdRefIdeal.nD Cert.ScaleFwdRefIdeal.τ).loc Cert.ScaleFwdRefIdeal.main_arg2) = m ((c.tc : Thread Cert.ScaleFwdIdeal.nD Cert.ScaleFwdIdeal.τ).loc Cert.ScaleFwdIdeal.main_arg2)) →
    ∃ (v0 : (c : Dev Cert.ScaleFwdIdeal.nD) → Buf (Elt Ideal) ((c.tc : Thread Cert.ScaleFwdIdeal.nD Cert.ScaleFwdIdeal.τ).loc Cert.ScaleFwdIdeal.main_v0)),
      θ_run (Cert.ScaleFwdIdeal.defs (F := Ideal)) (onTc (τ := Cert.ScaleFwdIdeal.τ) (Cert.ScaleFwdIdeal.main (F := Ideal))) ⟨m, fun _ => 0, g⟩ (fun r => ∀ c : Dev Cert.ScaleFwdIdeal.nD,
          r.2.mem ((c.tc : Thread Cert.ScaleFwdIdeal.nD Cert.ScaleFwdIdeal.τ).loc Cert.ScaleFwdIdeal.main_v0) = v0 c
          ∧ r.2.mem ((c.tc : Thread Cert.ScaleFwdIdeal.nD Cert.ScaleFwdIdeal.τ).loc Cert.ScaleFwdIdeal.main_arg0) = m ((c.tc : Thread Cert.ScaleFwdIdeal.nD Cert.ScaleFwdIdeal.τ).loc Cert.ScaleFwdIdeal.main_arg0)
          ∧ r.2.mem ((c.tc : Thread Cert.ScaleFwdIdeal.nD Cert.ScaleFwdIdeal.τ).loc Cert.ScaleFwdIdeal.main_arg1) = m ((c.tc : Thread Cert.ScaleFwdIdeal.nD Cert.ScaleFwdIdeal.τ).loc Cert.ScaleFwdIdeal.main_arg1)
          ∧ r.2.mem ((c.tc : Thread Cert.ScaleFwdIdeal.nD Cert.ScaleFwdIdeal.τ).loc Cert.ScaleFwdIdeal.main_arg2) = m ((c.tc : Thread Cert.ScaleFwdIdeal.nD Cert.ScaleFwdIdeal.τ).loc Cert.ScaleFwdIdeal.main_arg2))
      ∧ θ_run (Cert.ScaleFwdRefIdeal.defs (F := Ideal)) (onTc (τ := Cert.ScaleFwdRefIdeal.τ) (Cert.ScaleFwdRefIdeal.main (F := Ideal))) ⟨m', fun _ => 0, g'⟩ (fun r => ∀ c : Dev Cert.ScaleFwdRefIdeal.nD,
          r.2.mem ((c.tc : Thread Cert.ScaleFwdRefIdeal.nD Cert.ScaleFwdRefIdeal.τ).loc Cert.ScaleFwdRefIdeal.main_v5) = v0 c
          ∧ r.2.mem ((c.tc : Thread Cert.ScaleFwdRefIdeal.nD Cert.ScaleFwdRefIdeal.τ).loc Cert.ScaleFwdRefIdeal.main_arg0) = m' ((c.tc : Thread Cert.ScaleFwdRefIdeal.nD Cert.ScaleFwdRefIdeal.τ).loc Cert.ScaleFwdRefIdeal.main_arg0)
          ∧ r.2.mem ((c.tc : Thread Cert.ScaleFwdRefIdeal.nD Cert.ScaleFwdRefIdeal.τ).loc Cert.ScaleFwdRefIdeal.main_arg1) = m' ((c.tc : Thread Cert.ScaleFwdRefIdeal.nD Cert.ScaleFwdRefIdeal.τ).loc Cert.ScaleFwdRefIdeal.main_arg1)
          ∧ r.2.mem ((c.tc : Thread Cert.ScaleFwdRefIdeal.nD Cert.ScaleFwdRefIdeal.τ).loc Cert.ScaleFwdRefIdeal.main_arg2) = m' ((c.tc : Thread Cert.ScaleFwdRefIdeal.nD Cert.ScaleFwdRefIdeal.τ).loc Cert.ScaleFwdRefIdeal.main_arg2))

def preserves_PoolFwd_PoolFwdIdeal : Prop :=
  True

def algebraic_PoolFwdIdeal_PoolFwdRefIdeal_pre_pool_fwd_finite [hPoolFwdIdeal : Cert.PoolFwdIdeal.Facts] [hPoolFwdRefIdeal : Cert.PoolFwdRefIdeal.Facts] [hPre_pool_fwd_finite : Cert.Pre_pool_fwd_finite.Facts] : Prop :=
  ∀ (m : (ℓ : Loc Cert.PoolFwdIdeal.nD Cert.PoolFwdIdeal.τ Cert.PoolFwdIdeal.sig) → Buf (Elt Ideal) ℓ) (g : Dev Cert.PoolFwdIdeal.nD → PrngReg)
    (m' : (ℓ : Loc Cert.PoolFwdRefIdeal.nD Cert.PoolFwdRefIdeal.τ Cert.PoolFwdRefIdeal.sig) → Buf (Elt Ideal) ℓ) (g' : Dev Cert.PoolFwdRefIdeal.nD → PrngReg), Pre_PoolFwdIdeal_pool_fwd_finite m →
    (∀ c : Dev Cert.PoolFwdIdeal.nD,
      m' ((c.tc : Thread Cert.PoolFwdRefIdeal.nD Cert.PoolFwdRefIdeal.τ).loc Cert.PoolFwdRefIdeal.main_arg0) = m ((c.tc : Thread Cert.PoolFwdIdeal.nD Cert.PoolFwdIdeal.τ).loc Cert.PoolFwdIdeal.main_arg0)) →
    ∃ (v0 : (c : Dev Cert.PoolFwdIdeal.nD) → Buf (Elt Ideal) ((c.tc : Thread Cert.PoolFwdIdeal.nD Cert.PoolFwdIdeal.τ).loc Cert.PoolFwdIdeal.main_v0)),
      θ_run (Cert.PoolFwdIdeal.defs (F := Ideal)) (onTc (τ := Cert.PoolFwdIdeal.τ) (Cert.PoolFwdIdeal.main (F := Ideal))) ⟨m, fun _ => 0, g⟩ (fun r => ∀ c : Dev Cert.PoolFwdIdeal.nD,
          r.2.mem ((c.tc : Thread Cert.PoolFwdIdeal.nD Cert.PoolFwdIdeal.τ).loc Cert.PoolFwdIdeal.main_v0) = v0 c
          ∧ r.2.mem ((c.tc : Thread Cert.PoolFwdIdeal.nD Cert.PoolFwdIdeal.τ).loc Cert.PoolFwdIdeal.main_arg0) = m ((c.tc : Thread Cert.PoolFwdIdeal.nD Cert.PoolFwdIdeal.τ).loc Cert.PoolFwdIdeal.main_arg0))
      ∧ θ_run (Cert.PoolFwdRefIdeal.defs (F := Ideal)) (onTc (τ := Cert.PoolFwdRefIdeal.τ) (Cert.PoolFwdRefIdeal.main (F := Ideal))) ⟨m', fun _ => 0, g'⟩ (fun r => ∀ c : Dev Cert.PoolFwdRefIdeal.nD,
          r.2.mem ((c.tc : Thread Cert.PoolFwdRefIdeal.nD Cert.PoolFwdRefIdeal.τ).loc Cert.PoolFwdRefIdeal.main_v59) = v0 c
          ∧ r.2.mem ((c.tc : Thread Cert.PoolFwdRefIdeal.nD Cert.PoolFwdRefIdeal.τ).loc Cert.PoolFwdRefIdeal.main_arg0) = m' ((c.tc : Thread Cert.PoolFwdRefIdeal.nD Cert.PoolFwdRefIdeal.τ).loc Cert.PoolFwdRefIdeal.main_arg0))

def preserves_GuDw_GuDwIdeal : Prop :=
  True

def algebraic_GuDwIdeal_GuDwRefIdeal [hGuDwIdeal : Cert.GuDwIdeal.Facts] [hGuDwRefIdeal : Cert.GuDwRefIdeal.Facts] : Prop :=
  ∀ (m : (ℓ : Loc Cert.GuDwIdeal.nD Cert.GuDwIdeal.τ Cert.GuDwIdeal.sig) → Buf (Elt Ideal) ℓ) (g : Dev Cert.GuDwIdeal.nD → PrngReg)
    (m' : (ℓ : Loc Cert.GuDwRefIdeal.nD Cert.GuDwRefIdeal.τ Cert.GuDwRefIdeal.sig) → Buf (Elt Ideal) ℓ) (g' : Dev Cert.GuDwRefIdeal.nD → PrngReg), Pre_GuDwIdeal m →
    (∀ c : Dev Cert.GuDwIdeal.nD,
      m' ((c.tc : Thread Cert.GuDwRefIdeal.nD Cert.GuDwRefIdeal.τ).loc Cert.GuDwRefIdeal.main_arg0) = m ((c.tc : Thread Cert.GuDwIdeal.nD Cert.GuDwIdeal.τ).loc Cert.GuDwIdeal.main_arg0)
      ∧ m' ((c.tc : Thread Cert.GuDwRefIdeal.nD Cert.GuDwRefIdeal.τ).loc Cert.GuDwRefIdeal.main_arg1) = m ((c.tc : Thread Cert.GuDwIdeal.nD Cert.GuDwIdeal.τ).loc Cert.GuDwIdeal.main_arg1)) →
    ∃ (v0 : (c : Dev Cert.GuDwIdeal.nD) → Buf (Elt Ideal) ((c.tc : Thread Cert.GuDwIdeal.nD Cert.GuDwIdeal.τ).loc Cert.GuDwIdeal.main_v0)),
      θ_run (Cert.GuDwIdeal.defs (F := Ideal)) (onTc (τ := Cert.GuDwIdeal.τ) (Cert.GuDwIdeal.main (F := Ideal))) ⟨m, fun _ => 0, g⟩ (fun r => ∀ c : Dev Cert.GuDwIdeal.nD,
          r.2.mem ((c.tc : Thread Cert.GuDwIdeal.nD Cert.GuDwIdeal.τ).loc Cert.GuDwIdeal.main_v0) = v0 c
          ∧ r.2.mem ((c.tc : Thread Cert.GuDwIdeal.nD Cert.GuDwIdeal.τ).loc Cert.GuDwIdeal.main_arg0) = m ((c.tc : Thread Cert.GuDwIdeal.nD Cert.GuDwIdeal.τ).loc Cert.GuDwIdeal.main_arg0)
          ∧ r.2.mem ((c.tc : Thread Cert.GuDwIdeal.nD Cert.GuDwIdeal.τ).loc Cert.GuDwIdeal.main_arg1) = m ((c.tc : Thread Cert.GuDwIdeal.nD Cert.GuDwIdeal.τ).loc Cert.GuDwIdeal.main_arg1))
      ∧ θ_run (Cert.GuDwRefIdeal.defs (F := Ideal)) (onTc (τ := Cert.GuDwRefIdeal.τ) (Cert.GuDwRefIdeal.main (F := Ideal))) ⟨m', fun _ => 0, g'⟩ (fun r => ∀ c : Dev Cert.GuDwRefIdeal.nD,
          r.2.mem ((c.tc : Thread Cert.GuDwRefIdeal.nD Cert.GuDwRefIdeal.τ).loc Cert.GuDwRefIdeal.main_v6) = v0 c
          ∧ r.2.mem ((c.tc : Thread Cert.GuDwRefIdeal.nD Cert.GuDwRefIdeal.τ).loc Cert.GuDwRefIdeal.main_arg0) = m' ((c.tc : Thread Cert.GuDwRefIdeal.nD Cert.GuDwRefIdeal.τ).loc Cert.GuDwRefIdeal.main_arg0)
          ∧ r.2.mem ((c.tc : Thread Cert.GuDwRefIdeal.nD Cert.GuDwRefIdeal.τ).loc Cert.GuDwRefIdeal.main_arg1) = m' ((c.tc : Thread Cert.GuDwRefIdeal.nD Cert.GuDwRefIdeal.τ).loc Cert.GuDwRefIdeal.main_arg1))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v23) = v0 c
          ∧ r.2.mem ((c.tc : Thread Cert.AdamInRefIdeal.nD Cert.AdamInRefIdeal.τ).loc Cert.AdamInRefIdeal.main_v4) = v1 c
          ∧ r.2.mem ((c.tc : Thread Cert.AdamInRefIdeal.nD Cert.AdamInRefIdeal.τ).loc Cert.AdamInRefIdeal.main_v10) = v2 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))

def preserves_AdamKv_AdamKvIdeal : Prop :=
  True

def algebraic_AdamKvIdeal_AdamKvRefIdeal [hAdamKvIdeal : Cert.AdamKvIdeal.Facts] [hAdamKvRefIdeal : Cert.AdamKvRefIdeal.Facts] : Prop :=
  ∀ (m : (ℓ : Loc Cert.AdamKvIdeal.nD Cert.AdamKvIdeal.τ Cert.AdamKvIdeal.sig) → Buf (Elt Ideal) ℓ) (g : Dev Cert.AdamKvIdeal.nD → PrngReg)
    (m' : (ℓ : Loc Cert.AdamKvRefIdeal.nD Cert.AdamKvRefIdeal.τ Cert.AdamKvRefIdeal.sig) → Buf (Elt Ideal) ℓ) (g' : Dev Cert.AdamKvRefIdeal.nD → PrngReg), Pre_AdamKvIdeal m →
    (∀ c : Dev Cert.AdamKvIdeal.nD,
      m' ((c.tc : Thread Cert.AdamKvRefIdeal.nD Cert.AdamKvRefIdeal.τ).loc Cert.AdamKvRefIdeal.main_arg0) = m ((c.tc : Thread Cert.AdamKvIdeal.nD Cert.AdamKvIdeal.τ).loc Cert.AdamKvIdeal.main_arg0)
      ∧ m' ((c.tc : Thread Cert.AdamKvRefIdeal.nD Cert.AdamKvRefIdeal.τ).loc Cert.AdamKvRefIdeal.main_arg1) = m ((c.tc : Thread Cert.AdamKvIdeal.nD Cert.AdamKvIdeal.τ).loc Cert.AdamKvIdeal.main_arg1)
      ∧ m' ((c.tc : Thread Cert.AdamKvRefIdeal.nD Cert.AdamKvRefIdeal.τ).loc Cert.AdamKvRefIdeal.main_arg2) = m ((c.tc : Thread Cert.AdamKvIdeal.nD Cert.AdamKvIdeal.τ).loc Cert.AdamKvIdeal.main_arg2)
      ∧ m' ((c.tc : Thread Cert.AdamKvRefIdeal.nD Cert.AdamKvRefIdeal.τ).loc Cert.AdamKvRefIdeal.main_arg3) = m ((c.tc : Thread Cert.AdamKvIdeal.nD Cert.AdamKvIdeal.τ).loc Cert.AdamKvIdeal.main_arg3)) →
    ∃ (v0 : (c : Dev Cert.AdamKvIdeal.nD) → Buf (Elt Ideal) ((c.tc : Thread Cert.AdamKvIdeal.nD Cert.AdamKvIdeal.τ).loc Cert.AdamKvIdeal.main_v0_0)) (v1 : (c : Dev Cert.AdamKvIdeal.nD) → Buf (Elt Ideal) ((c.tc : Thread Cert.AdamKvIdeal.nD Cert.AdamKvIdeal.τ).loc Cert.AdamKvIdeal.main_v0_1)) (v2 : (c : Dev Cert.AdamKvIdeal.nD) → Buf (Elt Ideal) ((c.tc : Thread Cert.AdamKvIdeal.nD Cert.AdamKvIdeal.τ).loc Cert.AdamKvIdeal.main_v0_2)),
      θ_run (Cert.AdamKvIdeal.defs (F := Ideal)) (onTc (τ := Cert.AdamKvIdeal.τ) (Cert.AdamKvIdeal.main (F := Ideal))) ⟨m, fun _ => 0, g⟩ (fun r => ∀ c : Dev Cert.AdamKvIdeal.nD,
          r.2.mem ((c.tc : Thread Cert.AdamKvIdeal.nD Cert.AdamKvIdeal.τ).loc Cert.AdamKvIdeal.main_v0_0) = v0 c
          ∧ r.2.mem ((c.tc : Thread Cert.AdamKvIdeal.nD Cert.AdamKvIdeal.τ).loc Cert.AdamKvIdeal.main_v0_1) = v1 c
          ∧ r.2.mem ((c.tc : Thread Cert.AdamKvIdeal.nD Cert.AdamKvIdeal.τ).loc Cert.AdamKvIdeal.main_v0_2) = v2 c
          ∧ r.2.mem ((c.tc : Thread Cert.AdamKvIdeal.nD Cert.AdamKvIdeal.τ).loc Cert.AdamKvIdeal.main_arg0) = m ((c.tc : Thread Cert.AdamKvIdeal.nD Cert.AdamKvIdeal.τ).loc Cert.AdamKvIdeal.main_arg0)
          ∧ r.2.mem ((c.tc : Thread Cert.AdamKvIdeal.nD Cert.AdamKvIdeal.τ).loc Cert.AdamKvIdeal.main_arg1) = m ((c.tc : Thread Cert.AdamKvIdeal.nD Cert.AdamKvIdeal.τ).loc Cert.AdamKvIdeal.main_arg1)
          ∧ r.2.mem ((c.tc : Thread Cert.AdamKvIdeal.nD Cert.AdamKvIdeal.τ).loc Cert.AdamKvIdeal.main_arg2) = m ((c.tc : Thread Cert.AdamKvIdeal.nD Cert.AdamKvIdeal.τ).loc Cert.AdamKvIdeal.main_arg2)
          ∧ r.2.mem ((c.tc : Thread Cert.AdamKvIdeal.nD Cert.AdamKvIdeal.τ).loc Cert.AdamKvIdeal.main_arg3) = m ((c.tc : Thread Cert.AdamKvIdeal.nD Cert.AdamKvIdeal.τ).loc Cert.AdamKvIdeal.main_arg3))
      ∧ θ_run (Cert.AdamKvRefIdeal.defs (F := Ideal)) (onTc (τ := Cert.AdamKvRefIdeal.τ) (Cert.AdamKvRefIdeal.main (F := Ideal))) ⟨m', fun _ => 0, g'⟩ (fun r => ∀ c : Dev Cert.AdamKvRefIdeal.nD,
          r.2.mem ((c.tc : Thread Cert.AdamKvRefIdeal.nD Cert.AdamKvRefIdeal.τ).loc Cert.AdamKvRefIdeal.main_v23) = v0 c
          ∧ r.2.mem ((c.tc : Thread Cert.AdamKvRefIdeal.nD Cert.AdamKvRefIdeal.τ).loc Cert.AdamKvRefIdeal.main_v4) = v1 c
          ∧ r.2.mem ((c.tc : Thread Cert.AdamKvRefIdeal.nD Cert.AdamKvRefIdeal.τ).loc Cert.AdamKvRefIdeal.main_v10) = v2 c
          ∧ r.2.mem ((c.tc : Thread Cert.AdamKvRefIdeal.nD Cert.AdamKvRefIdeal.τ).loc Cert.AdamKvRefIdeal.main_arg0) = m' ((c.tc : Thread Cert.AdamKvRefIdeal.nD Cert.AdamKvRefIdeal.τ).loc Cert.AdamKvRefIdeal.main_arg0)
          ∧ r.2.mem ((c.tc : Thread Cert.AdamKvRefIdeal.nD Cert.AdamKvRefIdeal.τ).loc Cert.AdamKvRefIdeal.main_arg1) = m' ((c.tc : Thread Cert.AdamKvRefIdeal.nD Cert.AdamKvRefIdeal.τ).loc Cert.AdamKvRefIdeal.main_arg1)
          ∧ r.2.mem ((c.tc : Thread Cert.AdamKvRefIdeal.nD Cert.AdamKvRefIdeal.τ).loc Cert.AdamKvRefIdeal.main_arg2) = m' ((c.tc : Thread Cert.AdamKvRefIdeal.nD Cert.AdamKvRefIdeal.τ).loc Cert.AdamKvRefIdeal.main_arg2)
          ∧ r.2.mem ((c.tc : Thread Cert.AdamKvRefIdeal.nD Cert.AdamKvRefIdeal.τ).loc Cert.AdamKvRefIdeal.main_arg3) = m' ((c.tc : Thread Cert.AdamKvRefIdeal.nD Cert.AdamKvRefIdeal.τ).loc Cert.AdamKvRefIdeal.main_arg3))

def preserves_AdamMem_AdamMemIdeal : Prop :=
  True

def algebraic_AdamMemIdeal_AdamMemRefIdeal [hAdamMemIdeal : Cert.AdamMemIdeal.Facts] [hAdamMemRefIdeal : Cert.AdamMemRefIdeal.Facts] : Prop :=
  ∀ (m : (ℓ : Loc Cert.AdamMemIdeal.nD Cert.AdamMemIdeal.τ Cert.AdamMemIdeal.sig) → Buf (Elt Ideal) ℓ) (g : Dev Cert.AdamMemIdeal.nD → PrngReg)
    (m' : (ℓ : Loc Cert.AdamMemRefIdeal.nD Cert.AdamMemRefIdeal.τ Cert.AdamMemRefIdeal.sig) → Buf (Elt Ideal) ℓ) (g' : Dev Cert.AdamMemRefIdeal.nD → PrngReg), Pre_AdamMemIdeal m →
    (∀ c : Dev Cert.AdamMemIdeal.nD,
      m' ((c.tc : Thread Cert.AdamMemRefIdeal.nD Cert.AdamMemRefIdeal.τ).loc Cert.AdamMemRefIdeal.main_arg0) = m ((c.tc : Thread Cert.AdamMemIdeal.nD Cert.AdamMemIdeal.τ).loc Cert.AdamMemIdeal.main_arg0)
      ∧ m' ((c.tc : Thread Cert.AdamMemRefIdeal.nD Cert.AdamMemRefIdeal.τ).loc Cert.AdamMemRefIdeal.main_arg1) = m ((c.tc : Thread Cert.AdamMemIdeal.nD Cert.AdamMemIdeal.τ).loc Cert.AdamMemIdeal.main_arg1)
      ∧ m' ((c.tc : Thread Cert.AdamMemRefIdeal.nD Cert.AdamMemRefIdeal.τ).loc Cert.AdamMemRefIdeal.main_arg2) = m ((c.tc : Thread Cert.AdamMemIdeal.nD Cert.AdamMemIdeal.τ).loc Cert.AdamMemIdeal.main_arg2)
      ∧ m' ((c.tc : Thread Cert.AdamMemRefIdeal.nD Cert.AdamMemRefIdeal.τ).loc Cert.AdamMemRefIdeal.main_arg3) = m ((c.tc : Thread Cert.AdamMemIdeal.nD Cert.AdamMemIdeal.τ).loc Cert.AdamMemIdeal.main_arg3)) →
    ∃ (v0 : (c : Dev Cert.AdamMemIdeal.nD) → Buf (Elt Ideal) ((c.tc : Thread Cert.AdamMemIdeal.nD Cert.AdamMemIdeal.τ).loc Cert.AdamMemIdeal.main_v0_0)) (v1 : (c : Dev Cert.AdamMemIdeal.nD) → Buf (Elt Ideal) ((c.tc : Thread Cert.AdamMemIdeal.nD Cert.AdamMemIdeal.τ).loc Cert.AdamMemIdeal.main_v0_1)) (v2 : (c : Dev Cert.AdamMemIdeal.nD) → Buf (Elt Ideal) ((c.tc : Thread Cert.AdamMemIdeal.nD Cert.AdamMemIdeal.τ).loc Cert.AdamMemIdeal.main_v0_2)),
      θ_run (Cert.AdamMemIdeal.defs (F := Ideal)) (onTc (τ := Cert.AdamMemIdeal.τ) (Cert.AdamMemIdeal.main (F := Ideal))) ⟨m, fun _ => 0, g⟩ (fun r => ∀ c : Dev Cert.AdamMemIdeal.nD,
          r.2.mem ((c.tc : Thread Cert.AdamMemIdeal.nD Cert.AdamMemIdeal.τ).loc Cert.AdamMemIdeal.main_v0_0) = v0 c
          ∧ r.2.mem ((c.tc : Thread Cert.AdamMemIdeal.nD Cert.AdamMemIdeal.τ).loc Cert.AdamMemIdeal.main_v0_1) = v1 c
          ∧ r.2.mem ((c.tc : Thread Cert.AdamMemIdeal.nD Cert.AdamMemIdeal.τ).loc Cert.AdamMemIdeal.main_v0_2) = v2 c
          ∧ r.2.mem ((c.tc : Thread Cert.AdamMemIdeal.nD Cert.AdamMemIdeal.τ).loc Cert.AdamMemIdeal.main_arg0) = m ((c.tc : Thread Cert.AdamMemIdeal.nD Cert.AdamMemIdeal.τ).loc Cert.AdamMemIdeal.main_arg0)
          ∧ r.2.mem ((c.tc : Thread Cert.AdamMemIdeal.nD Cert.AdamMemIdeal.τ).loc Cert.AdamMemIdeal.main_arg1) = m ((c.tc : Thread Cert.AdamMemIdeal.nD Cert.AdamMemIdeal.τ).loc Cert.AdamMemIdeal.main_arg1)
          ∧ r.2.mem ((c.tc : Thread Cert.AdamMemIdeal.nD Cert.AdamMemIdeal.τ).loc Cert.AdamMemIdeal.main_arg2) = m ((c.tc : Thread Cert.AdamMemIdeal.nD Cert.AdamMemIdeal.τ).loc Cert.AdamMemIdeal.main_arg2)
          ∧ r.2.mem ((c.tc : Thread Cert.AdamMemIdeal.nD Cert.AdamMemIdeal.τ).loc Cert.AdamMemIdeal.main_arg3) = m ((c.tc : Thread Cert.AdamMemIdeal.nD Cert.AdamMemIdeal.τ).loc Cert.AdamMemIdeal.main_arg3))
      ∧ θ_run (Cert.AdamMemRefIdeal.defs (F := Ideal)) (onTc (τ := Cert.AdamMemRefIdeal.τ) (Cert.AdamMemRefIdeal.main (F := Ideal))) ⟨m', fun _ => 0, g'⟩ (fun r => ∀ c : Dev Cert.AdamMemRefIdeal.nD,
          r.2.mem ((c.tc : Thread Cert.AdamMemRefIdeal.nD Cert.AdamMemRefIdeal.τ).loc Cert.AdamMemRefIdeal.main_v23) = v0 c
          ∧ r.2.mem ((c.tc : Thread Cert.AdamMemRefIdeal.nD Cert.AdamMemRefIdeal.τ).loc Cert.AdamMemRefIdeal.main_v4) = v1 c
          ∧ r.2.mem ((c.tc : Thread Cert.AdamMemRefIdeal.nD Cert.AdamMemRefIdeal.τ).loc Cert.AdamMemRefIdeal.main_v10) = v2 c
          ∧ r.2.mem ((c.tc : Thread Cert.AdamMemRefIdeal.nD Cert.AdamMemRefIdeal.τ).loc Cert.AdamMemRefIdeal.main_arg0) = m' ((c.tc : Thread Cert.AdamMemRefIdeal.nD Cert.AdamMemRefIdeal.τ).loc Cert.AdamMemRefIdeal.main_arg0)
          ∧ r.2.mem ((c.tc : Thread Cert.AdamMemRefIdeal.nD Cert.AdamMemRefIdeal.τ).loc Cert.AdamMemRefIdeal.main_arg1) = m' ((c.tc : Thread Cert.AdamMemRefIdeal.nD Cert.AdamMemRefIdeal.τ).loc Cert.AdamMemRefIdeal.main_arg1)
          ∧ r.2.mem ((c.tc : Thread Cert.AdamMemRefIdeal.nD Cert.AdamMemRefIdeal.τ).loc Cert.AdamMemRefIdeal.main_arg2) = m' ((c.tc : Thread Cert.AdamMemRefIdeal.nD Cert.AdamMemRefIdeal.τ).loc Cert.AdamMemRefIdeal.main_arg2)
          ∧ r.2.mem ((c.tc : Thread Cert.AdamMemRefIdeal.nD Cert.AdamMemRefIdeal.τ).loc Cert.AdamMemRefIdeal.main_arg3) = m' ((c.tc : Thread Cert.AdamMemRefIdeal.nD Cert.AdamMemRefIdeal.τ).loc Cert.AdamMemRefIdeal.main_arg3))

def preserves_AdamGu_AdamGuIdeal : Prop :=
  True

def algebraic_AdamGuIdeal_AdamGuRefIdeal [hAdamGuIdeal : Cert.AdamGuIdeal.Facts] [hAdamGuRefIdeal : Cert.AdamGuRefIdeal.Facts] : Prop :=
  ∀ (m : (ℓ : Loc Cert.AdamGuIdeal.nD Cert.AdamGuIdeal.τ Cert.AdamGuIdeal.sig) → Buf (Elt Ideal) ℓ) (g : Dev Cert.AdamGuIdeal.nD → PrngReg)
    (m' : (ℓ : Loc Cert.AdamGuRefIdeal.nD Cert.AdamGuRefIdeal.τ Cert.AdamGuRefIdeal.sig) → Buf (Elt Ideal) ℓ) (g' : Dev Cert.AdamGuRefIdeal.nD → PrngReg), Pre_AdamGuIdeal m →
    (∀ c : Dev Cert.AdamGuIdeal.nD,
      m' ((c.tc : Thread Cert.AdamGuRefIdeal.nD Cert.AdamGuRefIdeal.τ).loc Cert.AdamGuRefIdeal.main_arg0) = m ((c.tc : Thread Cert.AdamGuIdeal.nD Cert.AdamGuIdeal.τ).loc Cert.AdamGuIdeal.main_arg0)
      ∧ m' ((c.tc : Thread Cert.AdamGuRefIdeal.nD Cert.AdamGuRefIdeal.τ).loc Cert.AdamGuRefIdeal.main_arg1) = m ((c.tc : Thread Cert.AdamGuIdeal.nD Cert.AdamGuIdeal.τ).loc Cert.AdamGuIdeal.main_arg1)
      ∧ m' ((c.tc : Thread Cert.AdamGuRefIdeal.nD Cert.AdamGuRefIdeal.τ).loc Cert.AdamGuRefIdeal.main_arg2) = m ((c.tc : Thread Cert.AdamGuIdeal.nD Cert.AdamGuIdeal.τ).loc Cert.AdamGuIdeal.main_arg2)
      ∧ m' ((c.tc : Thread Cert.AdamGuRefIdeal.nD Cert.AdamGuRefIdeal.τ).loc Cert.AdamGuRefIdeal.main_arg3) = m ((c.tc : Thread Cert.AdamGuIdeal.nD Cert.AdamGuIdeal.τ).loc Cert.AdamGuIdeal.main_arg3)) →
    ∃ (v0 : (c : Dev Cert.AdamGuIdeal.nD) → Buf (Elt Ideal) ((c.tc : Thread Cert.AdamGuIdeal.nD Cert.AdamGuIdeal.τ).loc Cert.AdamGuIdeal.main_v0_0)) (v1 : (c : Dev Cert.AdamGuIdeal.nD) → Buf (Elt Ideal) ((c.tc : Thread Cert.AdamGuIdeal.nD Cert.AdamGuIdeal.τ).loc Cert.AdamGuIdeal.main_v0_1)) (v2 : (c : Dev Cert.AdamGuIdeal.nD) → Buf (Elt Ideal) ((c.tc : Thread Cert.AdamGuIdeal.nD Cert.AdamGuIdeal.τ).loc Cert.AdamGuIdeal.main_v0_2)),
      θ_run (Cert.AdamGuIdeal.defs (F := Ideal)) (onTc (τ := Cert.AdamGuIdeal.τ) (Cert.AdamGuIdeal.main (F := Ideal))) ⟨m, fun _ => 0, g⟩ (fun r => ∀ c : Dev Cert.AdamGuIdeal.nD,
          r.2.mem ((c.tc : Thread Cert.AdamGuIdeal.nD Cert.AdamGuIdeal.τ).loc Cert.AdamGuIdeal.main_v0_0) = v0 c
          ∧ r.2.mem ((c.tc : Thread Cert.AdamGuIdeal.nD Cert.AdamGuIdeal.τ).loc Cert.AdamGuIdeal.main_v0_1) = v1 c
          ∧ r.2.mem ((c.tc : Thread Cert.AdamGuIdeal.nD Cert.AdamGuIdeal.τ).loc Cert.AdamGuIdeal.main_v0_2) = v2 c
          ∧ r.2.mem ((c.tc : Thread Cert.AdamGuIdeal.nD Cert.AdamGuIdeal.τ).loc Cert.AdamGuIdeal.main_arg0) = m ((c.tc : Thread Cert.AdamGuIdeal.nD Cert.AdamGuIdeal.τ).loc Cert.AdamGuIdeal.main_arg0)
          ∧ r.2.mem ((c.tc : Thread Cert.AdamGuIdeal.nD Cert.AdamGuIdeal.τ).loc Cert.AdamGuIdeal.main_arg1) = m ((c.tc : Thread Cert.AdamGuIdeal.nD Cert.AdamGuIdeal.τ).loc Cert.AdamGuIdeal.main_arg1)
          ∧ r.2.mem ((c.tc : Thread Cert.AdamGuIdeal.nD Cert.AdamGuIdeal.τ).loc Cert.AdamGuIdeal.main_arg2) = m ((c.tc : Thread Cert.AdamGuIdeal.nD Cert.AdamGuIdeal.τ).loc Cert.AdamGuIdeal.main_arg2)
          ∧ r.2.mem ((c.tc : Thread Cert.AdamGuIdeal.nD Cert.AdamGuIdeal.τ).loc Cert.AdamGuIdeal.main_arg3) = m ((c.tc : Thread Cert.AdamGuIdeal.nD Cert.AdamGuIdeal.τ).loc Cert.AdamGuIdeal.main_arg3))
      ∧ θ_run (Cert.AdamGuRefIdeal.defs (F := Ideal)) (onTc (τ := Cert.AdamGuRefIdeal.τ) (Cert.AdamGuRefIdeal.main (F := Ideal))) ⟨m', fun _ => 0, g'⟩ (fun r => ∀ c : Dev Cert.AdamGuRefIdeal.nD,
          r.2.mem ((c.tc : Thread Cert.AdamGuRefIdeal.nD Cert.AdamGuRefIdeal.τ).loc Cert.AdamGuRefIdeal.main_v23) = v0 c
          ∧ r.2.mem ((c.tc : Thread Cert.AdamGuRefIdeal.nD Cert.AdamGuRefIdeal.τ).loc Cert.AdamGuRefIdeal.main_v4) = v1 c
          ∧ r.2.mem ((c.tc : Thread Cert.AdamGuRefIdeal.nD Cert.AdamGuRefIdeal.τ).loc Cert.AdamGuRefIdeal.main_v10) = v2 c
          ∧ r.2.mem ((c.tc : Thread Cert.AdamGuRefIdeal.nD Cert.AdamGuRefIdeal.τ).loc Cert.AdamGuRefIdeal.main_arg0) = m' ((c.tc : Thread Cert.AdamGuRefIdeal.nD Cert.AdamGuRefIdeal.τ).loc Cert.AdamGuRefIdeal.main_arg0)
          ∧ r.2.mem ((c.tc : Thread Cert.AdamGuRefIdeal.nD Cert.AdamGuRefIdeal.τ).loc Cert.AdamGuRefIdeal.main_arg1) = m' ((c.tc : Thread Cert.AdamGuRefIdeal.nD Cert.AdamGuRefIdeal.τ).loc Cert.AdamGuRefIdeal.main_arg1)
          ∧ r.2.mem ((c.tc : Thread Cert.AdamGuRefIdeal.nD Cert.AdamGuRefIdeal.τ).loc Cert.AdamGuRefIdeal.main_arg2) = m' ((c.tc : Thread Cert.AdamGuRefIdeal.nD Cert.AdamGuRefIdeal.τ).loc Cert.AdamGuRefIdeal.main_arg2)
          ∧ r.2.mem ((c.tc : Thread Cert.AdamGuRefIdeal.nD Cert.AdamGuRefIdeal.τ).loc Cert.AdamGuRefIdeal.main_arg3) = m' ((c.tc : Thread Cert.AdamGuRefIdeal.nD Cert.AdamGuRefIdeal.τ).loc Cert.AdamGuRefIdeal.main_arg3))

def preserves_AdamDown_AdamDownIdeal : Prop :=
  True

def algebraic_AdamDownIdeal_AdamDownRefIdeal [hAdamDownIdeal : Cert.AdamDownIdeal.Facts] [hAdamDownRefIdeal : Cert.AdamDownRefIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownRefIdeal.nD Cert.AdamDownRefIdeal.τ Cert.AdamDownRefIdeal.sig) → Buf (Elt Ideal) ℓ) (g' : Dev Cert.AdamDownRefIdeal.nD → PrngReg), Pre_AdamDownIdeal m →
    (∀ c : Dev Cert.AdamDownIdeal.nD,
      m' ((c.tc : Thread Cert.AdamDownRefIdeal.nD Cert.AdamDownRefIdeal.τ).loc Cert.AdamDownRefIdeal.main_arg0) = m ((c.tc : Thread Cert.AdamDownIdeal.nD Cert.AdamDownIdeal.τ).loc Cert.AdamDownIdeal.main_arg0)
      ∧ m' ((c.tc : Thread Cert.AdamDownRefIdeal.nD Cert.AdamDownRefIdeal.τ).loc Cert.AdamDownRefIdeal.main_arg1) = m ((c.tc : Thread Cert.AdamDownIdeal.nD Cert.AdamDownIdeal.τ).loc Cert.AdamDownIdeal.main_arg1)
      ∧ m' ((c.tc : Thread Cert.AdamDownRefIdeal.nD Cert.AdamDownRefIdeal.τ).loc Cert.AdamDownRefIdeal.main_arg2) = m ((c.tc : Thread Cert.AdamDownIdeal.nD Cert.AdamDownIdeal.τ).loc Cert.AdamDownIdeal.main_arg2)
      ∧ m' ((c.tc : Thread Cert.AdamDownRefIdeal.nD Cert.AdamDownRefIdeal.τ).loc Cert.AdamDownRefIdeal.main_arg3) = m ((c.tc : Thread Cert.AdamDownIdeal.nD Cert.AdamDownIdeal.τ).loc Cert.AdamDownIdeal.main_arg3)) →
    ∃ (v0 : (c : Dev Cert.AdamDownIdeal.nD) → Buf (Elt Ideal) ((c.tc : Thread Cert.AdamDownIdeal.nD Cert.AdamDownIdeal.τ).loc Cert.AdamDownIdeal.main_v0_0)) (v1 : (c : Dev Cert.AdamDownIdeal.nD) → Buf (Elt Ideal) ((c.tc : Thread Cert.AdamDownIdeal.nD Cert.AdamDownIdeal.τ).loc Cert.AdamDownIdeal.main_v0_1)) (v2 : (c : Dev Cert.AdamDownIdeal.nD) → Buf (Elt Ideal) ((c.tc : Thread Cert.AdamDownIdeal.nD Cert.AdamDownIdeal.τ).loc Cert.AdamDownIdeal.main_v0_2)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v0_0) = v0 c
          ∧ r.2.mem ((c.tc : Thread Cert.AdamDownIdeal.nD Cert.AdamDownIdeal.τ).loc Cert.AdamDownIdeal.main_v0_1) = v1 c
          ∧ r.2.mem ((c.tc : Thread Cert.AdamDownIdeal.nD Cert.AdamDownIdeal.τ).loc Cert.AdamDownIdeal.main_v0_2) = v2 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ θ_run (Cert.AdamDownRefIdeal.defs (F := Ideal)) (onTc (τ := Cert.AdamDownRefIdeal.τ) (Cert.AdamDownRefIdeal.main (F := Ideal))) ⟨m', fun _ => 0, g'⟩ (fun r => ∀ c : Dev Cert.AdamDownRefIdeal.nD,
          r.2.mem ((c.tc : Thread Cert.AdamDownRefIdeal.nD Cert.AdamDownRefIdeal.τ).loc Cert.AdamDownRefIdeal.main_v23) = v0 c
          ∧ r.2.mem ((c.tc : Thread Cert.AdamDownRefIdeal.nD Cert.AdamDownRefIdeal.τ).loc Cert.AdamDownRefIdeal.main_v4) = v1 c
          ∧ r.2.mem ((c.tc : Thread Cert.AdamDownRefIdeal.nD Cert.AdamDownRefIdeal.τ).loc Cert.AdamDownRefIdeal.main_v10) = v2 c
          ∧ r.2.mem ((c.tc : Thread Cert.AdamDownRefIdeal.nD Cert.AdamDownRefIdeal.τ).loc Cert.AdamDownRefIdeal.main_arg0) = m' ((c.tc : Thread Cert.AdamDownRefIdeal.nD Cert.AdamDownRefIdeal.τ).loc Cert.AdamDownRefIdeal.main_arg0)
          ∧ r.2.mem ((c.tc : Thread Cert.AdamDownRefIdeal.nD Cert.AdamDownRefIdeal.τ).loc Cert.AdamDownRefIdeal.main_arg1) = m' ((c.tc : Thread Cert.AdamDownRefIdeal.nD Cert.AdamDownRefIdeal.τ).loc Cert.AdamDownRefIdeal.main_arg1)
          ∧ r.2.mem ((c.tc : Thread Cert.AdamDownRefIdeal.nD Cert.AdamDownRefIdeal.τ).loc Cert.AdamDownRefIdeal.main_arg2) = m' ((c.tc : Thread Cert.AdamDownRefIdeal.nD Cert.AdamDownRefIdeal.τ).loc Cert.AdamDownRefIdeal.main_arg2)
          ∧ r.2.mem ((c.tc : Thread Cert.AdamDownRefIdeal.nD Cert.AdamDownRefIdeal.τ).loc Cert.AdamDownRefIdeal.main_arg3) = m' ((c.tc : Thread Cert.AdamDownRefIdeal.nD Cert.AdamDownRefIdeal.τ).loc Cert.AdamDownRefIdeal.main_arg3))

def Claim : Prop :=
  ∃ (hPoolBwd : Cert.PoolBwd.Facts) (hPoolBwdIdeal : Cert.PoolBwdIdeal.Facts) (hPoolBwdRefIdeal : Cert.PoolBwdRefIdeal.Facts) (hStickBwd : Cert.StickBwd.Facts) (hStickBwdIdeal : Cert.StickBwdIdeal.Facts) (hStickBwdRefIdeal : Cert.StickBwdRefIdeal.Facts) (hScaleBwd : Cert.ScaleBwd.Facts) (hScaleBwdIdeal : Cert.ScaleBwdIdeal.Facts) (hScaleBwdRefIdeal : Cert.ScaleBwdRefIdeal.Facts) (hSwigluBwd : Cert.SwigluBwd.Facts) (hSwigluBwdIdeal : Cert.SwigluBwdIdeal.Facts) (hSwigluBwdRefIdeal : Cert.SwigluBwdRefIdeal.Facts) (hMemNormBwd : Cert.MemNormBwd.Facts) (hMemNormBwdIdeal : Cert.MemNormBwdIdeal.Facts) (hMemNormBwdRefIdeal : Cert.MemNormBwdRefIdeal.Facts) (hLossHead : Cert.LossHead.Facts) (hLossHeadIdeal : Cert.LossHeadIdeal.Facts) (hLossHeadRefIdeal : Cert.LossHeadRefIdeal.Facts) (hGuNormBwd : Cert.GuNormBwd.Facts) (hGuNormBwdIdeal : Cert.GuNormBwdIdeal.Facts) (hGuNormBwdRefIdeal : Cert.GuNormBwdRefIdeal.Facts) (hKvNormBwd : Cert.KvNormBwd.Facts) (hKvNormBwdIdeal : Cert.KvNormBwdIdeal.Facts) (hKvNormBwdRefIdeal : Cert.KvNormBwdRefIdeal.Facts) (hMemAttnBwd : Cert.MemAttnBwd.Facts) (hMemAttnBwdIdeal : Cert.MemAttnBwdIdeal.Facts) (hMemAttnBwdRefIdeal : Cert.MemAttnBwdRefIdeal.Facts) (hStickFwd : Cert.StickFwd.Facts) (hStickFwdIdeal : Cert.StickFwdIdeal.Facts) (hStickFwdRefIdeal : Cert.StickFwdRefIdeal.Facts) (hInNormBwd : Cert.InNormBwd.Facts) (hInNormBwdIdeal : Cert.InNormBwdIdeal.Facts) (hInNormBwdRefIdeal : Cert.InNormBwdRefIdeal.Facts) (hMemAttnBwdB : Cert.MemAttnBwdB.Facts) (hMemAttnBwdBIdeal : Cert.MemAttnBwdBIdeal.Facts) (hMemAttnBwdBRefIdeal : Cert.MemAttnBwdBRefIdeal.Facts) (hMemAttnFwd : Cert.MemAttnFwd.Facts) (hMemAttnFwdIdeal : Cert.MemAttnFwdIdeal.Facts) (hMemAttnFwdRefIdeal : Cert.MemAttnFwdRefIdeal.Facts) (hMemAttnFwdB : Cert.MemAttnFwdB.Facts) (hMemAttnFwdBIdeal : Cert.MemAttnFwdBIdeal.Facts) (hMemAttnFwdBRefIdeal : Cert.MemAttnFwdBRefIdeal.Facts) (hGateFwd : Cert.GateFwd.Facts) (hGateFwdIdeal : Cert.GateFwdIdeal.Facts) (hGateFwdRefIdeal : Cert.GateFwdRefIdeal.Facts) (hNormFwd : Cert.NormFwd.Facts) (hNormFwdIdeal : Cert.NormFwdIdeal.Facts) (hNormFwdRefIdeal : Cert.NormFwdRefIdeal.Facts) (hNormsFwd : Cert.NormsFwd.Facts) (hNormsFwdIdeal : Cert.NormsFwdIdeal.Facts) (hNormsFwdRefIdeal : Cert.NormsFwdRefIdeal.Facts) (hMemNormFwd : Cert.MemNormFwd.Facts) (hMemNormFwdIdeal : Cert.MemNormFwdIdeal.Facts) (hMemNormFwdRefIdeal : Cert.MemNormFwdRefIdeal.Facts) (hScaleFwd : Cert.ScaleFwd.Facts) (hScaleFwdIdeal : Cert.ScaleFwdIdeal.Facts) (hScaleFwdRefIdeal : Cert.ScaleFwdRefIdeal.Facts) (hPoolFwd : Cert.PoolFwd.Facts) (hPoolFwdIdeal : Cert.PoolFwdIdeal.Facts) (hPoolFwdRefIdeal : Cert.PoolFwdRefIdeal.Facts) (hGuDw : Cert.GuDw.Facts) (hGuDwIdeal : Cert.GuDwIdeal.Facts) (hGuDwRefIdeal : Cert.GuDwRefIdeal.Facts) (hAdamIn : Cert.AdamIn.Facts) (hAdamInIdeal : Cert.AdamInIdeal.Facts) (hAdamInRefIdeal : Cert.AdamInRefIdeal.Facts) (hAdamKv : Cert.AdamKv.Facts) (hAdamKvIdeal : Cert.AdamKvIdeal.Facts) (hAdamKvRefIdeal : Cert.AdamKvRefIdeal.Facts) (hAdamMem : Cert.AdamMem.Facts) (hAdamMemIdeal : Cert.AdamMemIdeal.Facts) (hAdamMemRefIdeal : Cert.AdamMemRefIdeal.Facts) (hAdamGu : Cert.AdamGu.Facts) (hAdamGuIdeal : Cert.AdamGuIdeal.Facts) (hAdamGuRefIdeal : Cert.AdamGuRefIdeal.Facts) (hAdamDown : Cert.AdamDown.Facts) (hAdamDownIdeal : Cert.AdamDownIdeal.Facts) (hAdamDownRefIdeal : Cert.AdamDownRefIdeal.Facts) (hPre_pool_bwd_finite : Cert.Pre_pool_bwd_finite.Facts) (hPre_stick_bwd_finite : Cert.Pre_stick_bwd_finite.Facts) (hPre_swiglu_bwd_finite : Cert.Pre_swiglu_bwd_finite.Facts) (hPre_mem_norm_bwd_finite : Cert.Pre_mem_norm_bwd_finite.Facts) (hPre_loss_head_finite : Cert.Pre_loss_head_finite.Facts) (hPre_gu_norm_bwd_finite : Cert.Pre_gu_norm_bwd_finite.Facts) (hPre_kv_norm_bwd_finite : Cert.Pre_kv_norm_bwd_finite.Facts) (hPre_mem_attn_bwd_finite : Cert.Pre_mem_attn_bwd_finite.Facts) (hPre_stick_fwd_finite : Cert.Pre_stick_fwd_finite.Facts) (hPre_in_norm_bwd_finite : Cert.Pre_in_norm_bwd_finite.Facts) (hPre_mem_attn_bwd_b_finite : Cert.Pre_mem_attn_bwd_b_finite.Facts) (hPre_pool_fwd_finite : Cert.Pre_pool_fwd_finite.Facts),
    quiescent_PoolBwd (hPoolBwd := hPoolBwd)
    ∧ quiescent_PoolBwdIdeal (hPoolBwdIdeal := hPoolBwdIdeal)
    ∧ quiescent_PoolBwdIdeal_pre_pool_bwd_finite (hPoolBwdIdeal := hPoolBwdIdeal) (hPre_pool_bwd_finite := hPre_pool_bwd_finite)
    ∧ quiescent_PoolBwdRefIdeal (hPoolBwdRefIdeal := hPoolBwdRefIdeal)
    ∧ quiescent_PoolBwdRefIdeal_pre_pool_bwd_finite (hPoolBwdRefIdeal := hPoolBwdRefIdeal) (hPre_pool_bwd_finite := hPre_pool_bwd_finite)
    ∧ quiescent_StickBwd (hStickBwd := hStickBwd)
    ∧ quiescent_StickBwdIdeal (hStickBwdIdeal := hStickBwdIdeal)
    ∧ quiescent_StickBwdIdeal_pre_stick_bwd_finite (hStickBwdIdeal := hStickBwdIdeal) (hPre_stick_bwd_finite := hPre_stick_bwd_finite)
    ∧ quiescent_StickBwdRefIdeal (hStickBwdRefIdeal := hStickBwdRefIdeal)
    ∧ quiescent_StickBwdRefIdeal_pre_stick_bwd_finite (hStickBwdRefIdeal := hStickBwdRefIdeal) (hPre_stick_bwd_finite := hPre_stick_bwd_finite)
    ∧ quiescent_ScaleBwd (hScaleBwd := hScaleBwd)
    ∧ quiescent_ScaleBwdIdeal (hScaleBwdIdeal := hScaleBwdIdeal)
    ∧ quiescent_ScaleBwdRefIdeal (hScaleBwdRefIdeal := hScaleBwdRefIdeal)
    ∧ quiescent_SwigluBwd (hSwigluBwd := hSwigluBwd)
    ∧ quiescent_SwigluBwdIdeal (hSwigluBwdIdeal := hSwigluBwdIdeal)
    ∧ quiescent_SwigluBwdIdeal_pre_swiglu_bwd_finite (hSwigluBwdIdeal := hSwigluBwdIdeal) (hPre_swiglu_bwd_finite := hPre_swiglu_bwd_finite)
    ∧ quiescent_SwigluBwdRefIdeal (hSwigluBwdRefIdeal := hSwigluBwdRefIdeal)
    ∧ quiescent_SwigluBwdRefIdeal_pre_swiglu_bwd_finite (hSwigluBwdRefIdeal := hSwigluBwdRefIdeal) (hPre_swiglu_bwd_finite := hPre_swiglu_bwd_finite)
    ∧ quiescent_MemNormBwd (hMemNormBwd := hMemNormBwd)
    ∧ quiescent_MemNormBwdIdeal (hMemNormBwdIdeal := hMemNormBwdIdeal)
    ∧ quiescent_MemNormBwdIdeal_pre_mem_norm_bwd_finite (hMemNormBwdIdeal := hMemNormBwdIdeal) (hPre_mem_norm_bwd_finite := hPre_mem_norm_bwd_finite)
    ∧ quiescent_MemNormBwdRefIdeal (hMemNormBwdRefIdeal := hMemNormBwdRefIdeal)
    ∧ quiescent_MemNormBwdRefIdeal_pre_mem_norm_bwd_finite (hMemNormBwdRefIdeal := hMemNormBwdRefIdeal) (hPre_mem_norm_bwd_finite := hPre_mem_norm_bwd_finite)
    ∧ quiescent_LossHead (hLossHead := hLossHead)
    ∧ quiescent_LossHeadIdeal (hLossHeadIdeal := hLossHeadIdeal)
    ∧ quiescent_LossHeadIdeal_pre_loss_head_finite (hLossHeadIdeal := hLossHeadIdeal) (hPre_loss_head_finite := hPre_loss_head_finite)
    ∧ quiescent_LossHeadRefIdeal (hLossHeadRefIdeal := hLossHeadRefIdeal)
    ∧ quiescent_LossHeadRefIdeal_pre_loss_head_finite (hLossHeadRefIdeal := hLossHeadRefIdeal) (hPre_loss_head_finite := hPre_loss_head_finite)
    ∧ quiescent_GuNormBwd (hGuNormBwd := hGuNormBwd)
    ∧ quiescent_GuNormBwdIdeal (hGuNormBwdIdeal := hGuNormBwdIdeal)
    ∧ quiescent_GuNormBwdIdeal_pre_gu_norm_bwd_finite (hGuNormBwdIdeal := hGuNormBwdIdeal) (hPre_gu_norm_bwd_finite := hPre_gu_norm_bwd_finite)
    ∧ quiescent_GuNormBwdRefIdeal (hGuNormBwdRefIdeal := hGuNormBwdRefIdeal)
    ∧ quiescent_GuNormBwdRefIdeal_pre_gu_norm_bwd_finite (hGuNormBwdRefIdeal := hGuNormBwdRefIdeal) (hPre_gu_norm_bwd_finite := hPre_gu_norm_bwd_finite)
    ∧ quiescent_KvNormBwd (hKvNormBwd := hKvNormBwd)
    ∧ quiescent_KvNormBwdIdeal (hKvNormBwdIdeal := hKvNormBwdIdeal)
    ∧ quiescent_KvNormBwdIdeal_pre_kv_norm_bwd_finite (hKvNormBwdIdeal := hKvNormBwdIdeal) (hPre_kv_norm_bwd_finite := hPre_kv_norm_bwd_finite)
    ∧ quiescent_KvNormBwdRefIdeal (hKvNormBwdRefIdeal := hKvNormBwdRefIdeal)
    ∧ quiescent_KvNormBwdRefIdeal_pre_kv_norm_bwd_finite (hKvNormBwdRefIdeal := hKvNormBwdRefIdeal) (hPre_kv_norm_bwd_finite := hPre_kv_norm_bwd_finite)
    ∧ quiescent_MemAttnBwd (hMemAttnBwd := hMemAttnBwd)
    ∧ quiescent_MemAttnBwdIdeal (hMemAttnBwdIdeal := hMemAttnBwdIdeal)
    ∧ quiescent_MemAttnBwdIdeal_pre_mem_attn_bwd_finite (hMemAttnBwdIdeal := hMemAttnBwdIdeal) (hPre_mem_attn_bwd_finite := hPre_mem_attn_bwd_finite)
    ∧ quiescent_MemAttnBwdRefIdeal (hMemAttnBwdRefIdeal := hMemAttnBwdRefIdeal)
    ∧ quiescent_MemAttnBwdRefIdeal_pre_mem_attn_bwd_finite (hMemAttnBwdRefIdeal := hMemAttnBwdRefIdeal) (hPre_mem_attn_bwd_finite := hPre_mem_attn_bwd_finite)
    ∧ quiescent_StickFwd (hStickFwd := hStickFwd)
    ∧ quiescent_StickFwdIdeal (hStickFwdIdeal := hStickFwdIdeal)
    ∧ quiescent_StickFwdIdeal_pre_stick_fwd_finite (hStickFwdIdeal := hStickFwdIdeal) (hPre_stick_fwd_finite := hPre_stick_fwd_finite)
    ∧ quiescent_StickFwdRefIdeal (hStickFwdRefIdeal := hStickFwdRefIdeal)
    ∧ quiescent_StickFwdRefIdeal_pre_stick_fwd_finite (hStickFwdRefIdeal := hStickFwdRefIdeal) (hPre_stick_fwd_finite := hPre_stick_fwd_finite)
    ∧ quiescent_InNormBwd (hInNormBwd := hInNormBwd)
    ∧ quiescent_InNormBwdIdeal (hInNormBwdIdeal := hInNormBwdIdeal)
    ∧ quiescent_InNormBwdIdeal_pre_in_norm_bwd_finite (hInNormBwdIdeal := hInNormBwdIdeal) (hPre_in_norm_bwd_finite := hPre_in_norm_bwd_finite)
    ∧ quiescent_InNormBwdRefIdeal (hInNormBwdRefIdeal := hInNormBwdRefIdeal)
    ∧ quiescent_InNormBwdRefIdeal_pre_in_norm_bwd_finite (hInNormBwdRefIdeal := hInNormBwdRefIdeal) (hPre_in_norm_bwd_finite := hPre_in_norm_bwd_finite)
    ∧ quiescent_MemAttnBwdB (hMemAttnBwdB := hMemAttnBwdB)
    ∧ quiescent_MemAttnBwdBIdeal (hMemAttnBwdBIdeal := hMemAttnBwdBIdeal)
    ∧ quiescent_MemAttnBwdBIdeal_pre_mem_attn_bwd_b_finite (hMemAttnBwdBIdeal := hMemAttnBwdBIdeal) (hPre_mem_attn_bwd_b_finite := hPre_mem_attn_bwd_b_finite)
    ∧ quiescent_MemAttnBwdBRefIdeal (hMemAttnBwdBRefIdeal := hMemAttnBwdBRefIdeal)
    ∧ quiescent_MemAttnBwdBRefIdeal_pre_mem_attn_bwd_b_finite (hMemAttnBwdBRefIdeal := hMemAttnBwdBRefIdeal) (hPre_mem_attn_bwd_b_finite := hPre_mem_attn_bwd_b_finite)
    ∧ quiescent_MemAttnFwd (hMemAttnFwd := hMemAttnFwd)
    ∧ quiescent_MemAttnFwdIdeal (hMemAttnFwdIdeal := hMemAttnFwdIdeal)
    ∧ quiescent_MemAttnFwdRefIdeal (hMemAttnFwdRefIdeal := hMemAttnFwdRefIdeal)
    ∧ quiescent_MemAttnFwdB (hMemAttnFwdB := hMemAttnFwdB)
    ∧ quiescent_MemAttnFwdBIdeal (hMemAttnFwdBIdeal := hMemAttnFwdBIdeal)
    ∧ quiescent_MemAttnFwdBRefIdeal (hMemAttnFwdBRefIdeal := hMemAttnFwdBRefIdeal)
    ∧ quiescent_GateFwd (hGateFwd := hGateFwd)
    ∧ quiescent_GateFwdIdeal (hGateFwdIdeal := hGateFwdIdeal)
    ∧ quiescent_GateFwdRefIdeal (hGateFwdRefIdeal := hGateFwdRefIdeal)
    ∧ quiescent_NormFwd (hNormFwd := hNormFwd)
    ∧ quiescent_NormFwdIdeal (hNormFwdIdeal := hNormFwdIdeal)
    ∧ quiescent_NormFwdRefIdeal (hNormFwdRefIdeal := hNormFwdRefIdeal)
    ∧ quiescent_NormsFwd (hNormsFwd := hNormsFwd)
    ∧ quiescent_NormsFwdIdeal (hNormsFwdIdeal := hNormsFwdIdeal)
    ∧ quiescent_NormsFwdRefIdeal (hNormsFwdRefIdeal := hNormsFwdRefIdeal)
    ∧ quiescent_MemNormFwd (hMemNormFwd := hMemNormFwd)
    ∧ quiescent_MemNormFwdIdeal (hMemNormFwdIdeal := hMemNormFwdIdeal)
    ∧ quiescent_MemNormFwdRefIdeal (hMemNormFwdRefIdeal := hMemNormFwdRefIdeal)
    ∧ quiescent_ScaleFwd (hScaleFwd := hScaleFwd)
    ∧ quiescent_ScaleFwdIdeal (hScaleFwdIdeal := hScaleFwdIdeal)
    ∧ quiescent_ScaleFwdRefIdeal (hScaleFwdRefIdeal := hScaleFwdRefIdeal)
    ∧ quiescent_PoolFwd (hPoolFwd := hPoolFwd)
    ∧ quiescent_PoolFwdIdeal (hPoolFwdIdeal := hPoolFwdIdeal)
    ∧ quiescent_PoolFwdIdeal_pre_pool_fwd_finite (hPoolFwdIdeal := hPoolFwdIdeal) (hPre_pool_fwd_finite := hPre_pool_fwd_finite)
    ∧ quiescent_PoolFwdRefIdeal (hPoolFwdRefIdeal := hPoolFwdRefIdeal)
    ∧ quiescent_PoolFwdRefIdeal_pre_pool_fwd_finite (hPoolFwdRefIdeal := hPoolFwdRefIdeal) (hPre_pool_fwd_finite := hPre_pool_fwd_finite)
    ∧ quiescent_GuDw (hGuDw := hGuDw)
    ∧ quiescent_GuDwIdeal (hGuDwIdeal := hGuDwIdeal)
    ∧ quiescent_GuDwRefIdeal (hGuDwRefIdeal := hGuDwRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamKv (hAdamKv := hAdamKv)
    ∧ quiescent_AdamKvIdeal (hAdamKvIdeal := hAdamKvIdeal)
    ∧ quiescent_AdamKvRefIdeal (hAdamKvRefIdeal := hAdamKvRefIdeal)
    ∧ quiescent_AdamMem (hAdamMem := hAdamMem)
    ∧ quiescent_AdamMemIdeal (hAdamMemIdeal := hAdamMemIdeal)
    ∧ quiescent_AdamMemRefIdeal (hAdamMemRefIdeal := hAdamMemRefIdeal)
    ∧ quiescent_AdamGu (hAdamGu := hAdamGu)
    ∧ quiescent_AdamGuIdeal (hAdamGuIdeal := hAdamGuIdeal)
    ∧ quiescent_AdamGuRefIdeal (hAdamGuRefIdeal := hAdamGuRefIdeal)
    ∧ quiescent_AdamDown (hAdamDown := hAdamDown)
    ∧ quiescent_AdamDownIdeal (hAdamDownIdeal := hAdamDownIdeal)
    ∧ quiescent_AdamDownRefIdeal (hAdamDownRefIdeal := hAdamDownRefIdeal)
    ∧ preserves_PoolBwd_PoolBwdIdeal
    ∧ algebraic_PoolBwdIdeal_PoolBwdRefIdeal_pre_pool_bwd_finite (hPoolBwdIdeal := hPoolBwdIdeal) (hPoolBwdRefIdeal := hPoolBwdRefIdeal) (hPre_pool_bwd_finite := hPre_pool_bwd_finite)
    ∧ preserves_StickBwd_StickBwdIdeal
    ∧ algebraic_StickBwdIdeal_StickBwdRefIdeal_pre_stick_bwd_finite (hStickBwdIdeal := hStickBwdIdeal) (hStickBwdRefIdeal := hStickBwdRefIdeal) (hPre_stick_bwd_finite := hPre_stick_bwd_finite)
    ∧ preserves_ScaleBwd_ScaleBwdIdeal
    ∧ algebraic_ScaleBwdIdeal_ScaleBwdRefIdeal (hScaleBwdIdeal := hScaleBwdIdeal) (hScaleBwdRefIdeal := hScaleBwdRefIdeal)
    ∧ preserves_SwigluBwd_SwigluBwdIdeal
    ∧ algebraic_SwigluBwdIdeal_SwigluBwdRefIdeal_pre_swiglu_bwd_finite (hSwigluBwdIdeal := hSwigluBwdIdeal) (hSwigluBwdRefIdeal := hSwigluBwdRefIdeal) (hPre_swiglu_bwd_finite := hPre_swiglu_bwd_finite)
    ∧ preserves_MemNormBwd_MemNormBwdIdeal
    ∧ algebraic_MemNormBwdIdeal_MemNormBwdRefIdeal_pre_mem_norm_bwd_finite (hMemNormBwdIdeal := hMemNormBwdIdeal) (hMemNormBwdRefIdeal := hMemNormBwdRefIdeal) (hPre_mem_norm_bwd_finite := hPre_mem_norm_bwd_finite)
    ∧ preserves_LossHead_LossHeadIdeal
    ∧ algebraic_LossHeadIdeal_LossHeadRefIdeal_pre_loss_head_finite (hLossHeadIdeal := hLossHeadIdeal) (hLossHeadRefIdeal := hLossHeadRefIdeal) (hPre_loss_head_finite := hPre_loss_head_finite)
    ∧ preserves_GuNormBwd_GuNormBwdIdeal
    ∧ algebraic_GuNormBwdIdeal_GuNormBwdRefIdeal_pre_gu_norm_bwd_finite (hGuNormBwdIdeal := hGuNormBwdIdeal) (hGuNormBwdRefIdeal := hGuNormBwdRefIdeal) (hPre_gu_norm_bwd_finite := hPre_gu_norm_bwd_finite)
    ∧ preserves_KvNormBwd_KvNormBwdIdeal
    ∧ algebraic_KvNormBwdIdeal_KvNormBwdRefIdeal_pre_kv_norm_bwd_finite (hKvNormBwdIdeal := hKvNormBwdIdeal) (hKvNormBwdRefIdeal := hKvNormBwdRefIdeal) (hPre_kv_norm_bwd_finite := hPre_kv_norm_bwd_finite)
    ∧ preserves_MemAttnBwd_MemAttnBwdIdeal
    ∧ algebraic_MemAttnBwdIdeal_MemAttnBwdRefIdeal_pre_mem_attn_bwd_finite (hMemAttnBwdIdeal := hMemAttnBwdIdeal) (hMemAttnBwdRefIdeal := hMemAttnBwdRefIdeal) (hPre_mem_attn_bwd_finite := hPre_mem_attn_bwd_finite)
    ∧ preserves_StickFwd_StickFwdIdeal
    ∧ algebraic_StickFwdIdeal_StickFwdRefIdeal_pre_stick_fwd_finite (hStickFwdIdeal := hStickFwdIdeal) (hStickFwdRefIdeal := hStickFwdRefIdeal) (hPre_stick_fwd_finite := hPre_stick_fwd_finite)
    ∧ preserves_InNormBwd_InNormBwdIdeal
    ∧ algebraic_InNormBwdIdeal_InNormBwdRefIdeal_pre_in_norm_bwd_finite (hInNormBwdIdeal := hInNormBwdIdeal) (hInNormBwdRefIdeal := hInNormBwdRefIdeal) (hPre_in_norm_bwd_finite := hPre_in_norm_bwd_finite)
    ∧ preserves_MemAttnBwdB_MemAttnBwdBIdeal
    ∧ algebraic_MemAttnBwdBIdeal_MemAttnBwdBRefIdeal_pre_mem_attn_bwd_b_finite (hMemAttnBwdBIdeal := hMemAttnBwdBIdeal) (hMemAttnBwdBRefIdeal := hMemAttnBwdBRefIdeal) (hPre_mem_attn_bwd_b_finite := hPre_mem_attn_bwd_b_finite)
    ∧ preserves_MemAttnFwd_MemAttnFwdIdeal
    ∧ algebraic_MemAttnFwdIdeal_MemAttnFwdRefIdeal (hMemAttnFwdIdeal := hMemAttnFwdIdeal) (hMemAttnFwdRefIdeal := hMemAttnFwdRefIdeal)
    ∧ preserves_MemAttnFwdB_MemAttnFwdBIdeal
    ∧ algebraic_MemAttnFwdBIdeal_MemAttnFwdBRefIdeal (hMemAttnFwdBIdeal := hMemAttnFwdBIdeal) (hMemAttnFwdBRefIdeal := hMemAttnFwdBRefIdeal)
    ∧ preserves_GateFwd_GateFwdIdeal
    ∧ algebraic_GateFwdIdeal_GateFwdRefIdeal (hGateFwdIdeal := hGateFwdIdeal) (hGateFwdRefIdeal := hGateFwdRefIdeal)
    ∧ preserves_NormFwd_NormFwdIdeal
    ∧ algebraic_NormFwdIdeal_NormFwdRefIdeal (hNormFwdIdeal := hNormFwdIdeal) (hNormFwdRefIdeal := hNormFwdRefIdeal)
    ∧ preserves_NormsFwd_NormsFwdIdeal
    ∧ algebraic_NormsFwdIdeal_NormsFwdRefIdeal (hNormsFwdIdeal := hNormsFwdIdeal) (hNormsFwdRefIdeal := hNormsFwdRefIdeal)
    ∧ preserves_MemNormFwd_MemNormFwdIdeal
    ∧ algebraic_MemNormFwdIdeal_MemNormFwdRefIdeal (hMemNormFwdIdeal := hMemNormFwdIdeal) (hMemNormFwdRefIdeal := hMemNormFwdRefIdeal)
    ∧ preserves_ScaleFwd_ScaleFwdIdeal
    ∧ algebraic_ScaleFwdIdeal_ScaleFwdRefIdeal (hScaleFwdIdeal := hScaleFwdIdeal) (hScaleFwdRefIdeal := hScaleFwdRefIdeal)
    ∧ preserves_PoolFwd_PoolFwdIdeal
    ∧ algebraic_PoolFwdIdeal_PoolFwdRefIdeal_pre_pool_fwd_finite (hPoolFwdIdeal := hPoolFwdIdeal) (hPoolFwdRefIdeal := hPoolFwdRefIdeal) (hPre_pool_fwd_finite := hPre_pool_fwd_finite)
    ∧ preserves_GuDw_GuDwIdeal
    ∧ algebraic_GuDwIdeal_GuDwRefIdeal (hGuDwIdeal := hGuDwIdeal) (hGuDwRefIdeal := hGuDwRefIdeal)
    ∧ preserves_AdamIn_AdamInIdeal
    ∧ algebraic_AdamInIdeal_AdamInRefIdeal (hAdamInIdeal := hAdamInIdeal) (hAdamInRefIdeal := hAdamInRefIdeal)
    ∧ preserves_AdamKv_AdamKvIdeal
    ∧ algebraic_AdamKvIdeal_AdamKvRefIdeal (hAdamKvIdeal := hAdamKvIdeal) (hAdamKvRefIdeal := hAdamKvRefIdeal)
    ∧ preserves_AdamMem_AdamMemIdeal
    ∧ algebraic_AdamMemIdeal_AdamMemRefIdeal (hAdamMemIdeal := hAdamMemIdeal) (hAdamMemRefIdeal := hAdamMemRefIdeal)
    ∧ preserves_AdamGu_AdamGuIdeal
    ∧ algebraic_AdamGuIdeal_AdamGuRefIdeal (hAdamGuIdeal := hAdamGuIdeal) (hAdamGuRefIdeal := hAdamGuRefIdeal)
    ∧ preserves_AdamDown_AdamDownIdeal
    ∧ algebraic_AdamDownIdeal_AdamDownRefIdeal (hAdamDownIdeal := hAdamDownIdeal) (hAdamDownRefIdeal := hAdamDownRefIdeal)
-- ==== Pre_gu_norm_bwd_finite.lean ====
abbrev S4096x5632 : Shape := ⟨2, ![4096, 5632]⟩
abbrev S1024x5632 : Shape := ⟨2, ![1024, 5632]⟩
abbrev S4096x1024 : Shape := ⟨2, ![4096, 1024]⟩
abbrev S1x1024 : Shape := ⟨2, ![1, 1024]⟩
abbrev S_ : Shape := ⟨0, ![]⟩

class Facts : Prop where
  bitsLt_bf16_f32 : FTy.bits .bf16 < FTy.bits .f32
  bcast_S_S4096x5632 : S_.BroadcastsInDim S4096x5632 (![] : Fin 0 → Fin S4096x5632.rank)
  bcast_S_S1024x5632 : S_.BroadcastsInDim S1024x5632 (![] : Fin 0 → Fin S1024x5632.rank)
  bcast_S_S4096x1024 : S_.BroadcastsInDim S4096x1024 (![] : Fin 0 → Fin S4096x1024.rank)
  bcast_S_S1x1024 : S_.BroadcastsInDim S1x1024 (![] : Fin 0 → Fin S1x1024.rank)

variable [Facts]

def fn {F : FTy → Type} [FloatOps F] (main_arg0 : FVec F S4096x5632 .bf16) (main_arg1 : FVec F S1024x5632 .bf16) (main_arg2 : FVec F S4096x1024 .f32) (main_arg3 : FVec F S1x1024 .f32) (main_arg4 : FVec F S4096x1024 .f32) : IVec S4096x5632 1 × IVec S1024x5632 1 × IVec S4096x1024 1 × IVec S1x1024 1 × IVec S4096x1024 1 :=
  let main_v0 : FVec F S4096x5632 .f32 := (extf .f32 · bitsLt_bf16_f32) main_arg0
  let main_v1 : FVec F S4096x5632 .f32 := Host.absf main_v0
  let main_cst : FVec F S_ .f32 := constant S_ .f32 0x7F800000#32
  let main_v2 : FVec F S4096x5632 .f32 := broadcastInDim S4096x5632 ![] bcast_S_S4096x5632 main_cst
  let main_v3 : IVec S4096x5632 1 := cmpf .olt main_v1 main_v2
  let main_v4 : FVec F S1024x5632 .f32 := (extf .f32 · bitsLt_bf16_f32) main_arg1
  let main_v5 : FVec F S1024x5632 .f32 := Host.absf main_v4
  let main_cst_0 : FVec F S_ .f32 := constant S_ .f32 0x7F800000#32
  let main_v6 : FVec F S1024x5632 .f32 := broadcastInDim S1024x5632 ![] bcast_S_S1024x5632 main_cst_0
  let main_v7 : IVec S1024x5632 1 := cmpf .olt main_v5 main_v6
  let main_v8 : FVec F S4096x1024 .f32 := Host.absf main_arg2
  let main_cst_1 : FVec F S_ .f32 := constant S_ .f32 0x7F800000#32
  let main_v9 : FVec F S4096x1024 .f32 := broadcastInDim S4096x1024 ![] bcast_S_S4096x1024 main_cst_1
  let main_v10 : IVec S4096x1024 1 := cmpf .olt main_v8 main_v9
  let main_v11 : FVec F S1x1024 .f32 := Host.absf main_arg3
  let main_cst_2 : FVec F S_ .f32 := constant S_ .f32 0x7F800000#32
  let main_v12 : FVec F S1x1024 .f32 := broadcastInDim S1x1024 ![] bcast_S_S1x1024 main_cst_2
  let main_v13 : IVec S1x1024 1 := cmpf .olt main_v11 main_v12
  let main_v14 : FVec F S4096x1024 .f32 := Host.absf main_arg4
  let main_cst_3 : FVec F S_ .f32 := constant S_ .f32 0x7F800000#32
  let main_v15 : FVec F S4096x1024 .f32 := broadcastInDim S4096x1024 ![] bcast_S_S4096x1024 main_cst_3
  let main_v16 : IVec S4096x1024 1 := cmpf .olt main_v14 main_v15
  (main_v3, main_v7, main_v10, main_v13, main_v16)
-- ==== Pre_in_norm_bwd_finite.lean ====
abbrev S4096x1024 : Shape := ⟨2, ![4096, 1024]⟩
abbrev S1024x1024 : Shape := ⟨2, ![1024, 1024]⟩
abbrev S1x1024 : Shape := ⟨2, ![1, 1024]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  bcast_S_S1024x1024 : S_.BroadcastsInDim S1024x1024 (![] : Fin 0 → Fin S1024x1024.rank)
  bcast_S_S1x1024 : S_.BroadcastsInDim S1x1024 (![] : Fin 0 → Fin S1x1024.rank)

variable [Facts]

def fn {F : FTy → Type} [FloatOps F] (main_arg0 : FVec F S4096x1024 .bf16) (main_arg1 : FVec F S1024x1024 .bf16) (main_arg2 : FVec F S4096x1024 .f32) (main_arg3 : FVec F S1x1024 .f32) (main_arg4 : FVec F S4096x1024 .f32) : IVec S4096x1024 1 × IVec S1024x1024 1 × IVec S4096x1024 1 × IVec S1x1024 1 × IVec S4096x1024 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_v4 : FVec F S1024x1024 .f32 := (extf .f32 · bitsLt_bf16_f32) main_arg1
  let main_v5 : FVec F S1024x1024 .f32 := Host.absf main_v4
  let main_cst_0 : FVec F S_ .f32 := constant S_ .f32 0x7F800000#32
  let main_v6 : FVec F S1024x1024 .f32 := broadcastInDim S1024x1024 ![] bcast_S_S1024x1024 main_cst_0
  let main_v7 : IVec S1024x1024 1 := cmpf .olt main_v5 main_v6
  let main_v8 : FVec F S4096x1024 .f32 := Host.absf main_arg2
  let main_cst_1 : FVec F S_ .f32 := constant S_ .f32 0x7F800000#32
  let main_v9 : FVec F S4096x1024 .f32 := broadcastInDim S4096x1024 ![] bcast_S_S4096x1024 main_cst_1
  let main_v10 : IVec S4096x1024 1 := cmpf .olt main_v8 main_v9
  let main_v11 : FVec F S1x1024 .f32 := Host.absf main_arg3
  let main_cst_2 : FVec F S_ .f32 := constant S_ .f32 0x7F800000#32
  let main_v12 : FVec F S1x1024 .f32 := broadcastInDim S1x1024 ![] bcast_S_S1x1024 main_cst_2
  let main_v13 : IVec S1x1024 1 := cmpf .olt main_v11 main_v12
  let main_v14 : FVec F S4096x1024 .f32 := Host.absf main_arg4
  let main_cst_3 : FVec F S_ .f32 := constant S_ .f32 0x7F800000#32
  let main_v15 : FVec F S4096x1024 .f32 := broadcastInDim S4096x1024 ![] bcast_S_S4096x1024 main_cst_3
  let main_v16 : IVec S4096x1024 1 := cmpf .olt main_v14 main_v15
  (main_v3, main_v7, main_v10, main_v13, main_v16)
-- ==== Pre_kv_norm_bwd_finite.lean ====
abbrev S4096x1536 : Shape := ⟨2, ![4096, 1536]⟩
abbrev S1024x1536 : Shape := ⟨2, ![1024, 1536]⟩
abbrev S4096x1024 : Shape := ⟨2, ![4096, 1024]⟩
abbrev S1x1024 : Shape := ⟨2, ![1, 1024]⟩
abbrev S_ : Shape := ⟨0, ![]⟩

class Facts : Prop where
  bitsLt_bf16_f32 : FTy.bits .bf16 < FTy.bits .f32
  bcast_S_S4096x1536 : S_.BroadcastsInDim S4096x1536 (![] : Fin 0 → Fin S4096x1536.rank)
  bcast_S_S1024x1536 : S_.BroadcastsInDim S1024x1536 (![] : Fin 0 → Fin S1024x1536.rank)
  bcast_S_S4096x1024 : S_.BroadcastsInDim S4096x1024 (![] : Fin 0 → Fin S4096x1024.rank)
  bcast_S_S1x1024 : S_.BroadcastsInDim S1x1024 (![] : Fin 0 → Fin S1x1024.rank)

variable [Facts]

def fn_part1 {F : FTy → Type} [FloatOps F] (main_arg6 : FVec F S4096x1024 .f32) (main_v3 : IVec S4096x1536 1) (main_v7 : IVec S1024x1536 1) (main_v10 : IVec S4096x1024 1) (main_v13 : IVec S1x1024 1) (main_v16 : IVec S4096x1024 1) (main_v17 : FVec F S1x1024 .f32) (main_cst_4 : FVec F S_ .f32) : IVec S4096x1536 1 × IVec S1024x1536 1 × IVec S4096x1024 1 × IVec S1x1024 1 × IVec S4096x1024 1 × IVec S1x1024 1 × IVec S4096x1024 1 :=
  let main_v18 : FVec F S1x1024 .f32 := broadcastInDim S1x1024 ![] bcast_S_S1x1024 main_cst_4
  let main_v19 : IVec S1x1024 1 := cmpf .olt main_v17 main_v18
  let main_v20 : FVec F S4096x1024 .f32 := Host.absf main_arg6
  let main_cst_5 : FVec F S_ .f32 := constant S_ .f32 0x7F800000#32
  let main_v21 : FVec F S4096x1024 .f32 := broadcastInDim S4096x1024 ![] bcast_S_S4096x1024 main_cst_5
  let main_v22 : IVec S4096x1024 1 := cmpf .olt main_v20 main_v21
  (main_v3, main_v7, main_v10, main_v13, main_v16, main_v19, main_v22)

def fn {F : FTy → Type} [FloatOps F] (main_arg0 : FVec F S4096x1536 .bf16) (main_arg1 : FVec F S1024x1536 .bf16) (main_arg2 : FVec F S4096x1024 .f32) (main_arg3 : FVec F S1x1024 .f32) (main_arg4 : FVec F S4096x1024 .f32) (main_arg5 : FVec F S1x1024 .f32) (main_arg6 : FVec F S4096x1024 .f32) : IVec S4096x1536 1 × IVec S1024x1536 1 × IVec S4096x1024 1 × IVec S1x1024 1 × IVec S4096x1024 1 × IVec S1x1024 1 × IVec S4096x1024 1 :=
  let main_v0 : FVec F S4096x1536 .f32 := (extf .f32 · bitsLt_bf16_f32) main_arg0
  let main_v1 : FVec F S4096x1536 .f32 := Host.absf main_v0
  let main_cst : FVec F S_ .f32 := constant S_ .f32 0x7F800000#32
  let main_v2 : FVec F S4096x1536 .f32 := broadcastInDim S4096x1536 ![] bcast_S_S4096x1536 main_cst
  let main_v3 : IVec S4096x1536 1 := cmpf .olt main_v1 main_v2
  let main_v4 : FVec F S1024x1536 .f32 := (extf .f32 · bitsLt_bf16_f32) main_arg1
  let main_v5 : FVec F S1024x1536 .f32 := Host.absf main_v4
  let main_cst_0 : FVec F S_ .f32 := constant S_ .f32 0x7F800000#32
  let main_v6 : FVec F S1024x1536 .f32 := broadcastInDim S1024x1536 ![] bcast_S_S1024x1536 main_cst_0
  let main_v7 : IVec S1024x1536 1 := cmpf .olt main_v5 main_v6
  let main_v8 : FVec F S4096x1024 .f32 := Host.absf main_arg2
  let main_cst_1 : FVec F S_ .f32 := constant S_ .f32 0x7F800000#32
  let main_v9 : FVec F S4096x1024 .f32 := broadcastInDim S4096x1024 ![] bcast_S_S4096x1024 main_cst_1
  let main_v10 : IVec S4096x1024 1 := cmpf .olt main_v8 main_v9
  let main_v11 : FVec F S1x1024 .f32 := Host.absf main_arg3
  let main_cst_2 : FVec F S_ .f32 := constant S_ .f32 0x7F800000#32
  let main_v12 : FVec F S1x1024 .f32 := broadcastInDim S1x1024 ![] bcast_S_S1x1024 main_cst_2
  let main_v13 : IVec S1x1024 1 := cmpf .olt main_v11 main_v12
  let main_v14 : FVec F S4096x1024 .f32 := Host.absf main_arg4
  let main_cst_3 : FVec F S_ .f32 := constant S_ .f32 0x7F800000#32
  let main_v15 : FVec F S4096x1024 .f32 := broadcastInDim S4096x1024 ![] bcast_S_S4096x1024 main_cst_3
  let main_v16 : IVec S4096x1024 1 := cmpf .olt main_v14 main_v15
  let main_v17 : FVec F S1x1024 .f32 := Host.absf main_arg5
  let main_cst_4 : FVec F S_ .f32 := constant S_ .f32 0x7F800000#32
  fn_part1 (F := F) main_arg6 main_v3 main_v7 main_v10 main_v13 main_v16 main_v17 main_cst_4
-- ==== Pre_loss_head_finite.lean ====
abbrev S4096x1024 : Shape := ⟨2, ![4096, 1024]⟩
abbrev S1x1024 : Shape := ⟨2, ![1, 1024]⟩
abbrev S_ : Shape := ⟨0, ![]⟩

class Facts : Prop where
  bcast_S_S4096x1024 : S_.BroadcastsInDim S4096x1024 (![] : Fin 0 → Fin S4096x1024.rank)
  bcast_S_S1x1024 : S_.BroadcastsInDim S1x1024 (![] : Fin 0 → Fin S1x1024.rank)

variable [Facts]

def fn {F : FTy → Type} [FloatOps F] (main_arg0 : FVec F S4096x1024 .f32) (main_arg1 : FVec F S4096x1024 .f32) (main_arg2 : FVec F S1x1024 .f32) : IVec S4096x1024 1 × IVec S4096x1024 1 × IVec S1x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  (main_v2, main_v5, main_v8)
-- ==== Pre_mem_attn_bwd_b_finite.lean ====
abbrev S4096x1024 : Shape := ⟨2, ![4096, 1024]⟩
abbrev S256x512 : Shape := ⟨2, ![256, 512]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  bcast_S_S256x512 : S_.BroadcastsInDim S256x512 (![] : Fin 0 → Fin S256x512.rank)

variable [Facts]

def fn {F : FTy → Type} [FloatOps F] (main_arg0 : FVec F S4096x1024 .bf16) (main_arg1 : FVec F S256x512 .bf16) (main_arg2 : FVec F S4096x1024 .bf16) : IVec S4096x1024 1 × IVec S256x512 1 × IVec S4096x1024 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_v4 : FVec F S256x512 .f32 := (extf .f32 · bitsLt_bf16_f32) main_arg1
  let main_v5 : FVec F S256x512 .f32 := Host.absf main_v4
  let main_cst_0 : FVec F S_ .f32 := constant S_ .f32 0x7F800000#32
  let main_v6 : FVec F S256x512 .f32 := broadcastInDim S256x512 ![] bcast_S_S256x512 main_cst_0
  let main_v7 : IVec S256x512 1 := cmpf .olt main_v5 main_v6
  let main_v8 : FVec F S4096x1024 .f32 := (extf .f32 · bitsLt_bf16_f32) main_arg2
  let main_v9 : FVec F S4096x1024 .f32 := Host.absf main_v8
  let main_cst_1 : FVec F S_ .f32 := constant S_ .f32 0x7F800000#32
  let main_v10 : FVec F S4096x1024 .f32 := broadcastInDim S4096x1024 ![] bcast_S_S4096x1024 main_cst_1
  let main_v11 : IVec S4096x1024 1 := cmpf .olt main_v9 main_v10
  (main_v3, main_v7, main_v11)
-- ==== Pre_mem_attn_bwd_finite.lean ====
abbrev S4096x1024 : Shape := ⟨2, ![4096, 1024]⟩
abbrev S256x512 : Shape := ⟨2, ![256, 512]⟩
abbrev S_ : Shape := ⟨0, ![]⟩

class Facts : Prop where
  bcast_S_S4096x1024 : S_.BroadcastsInDim S4096x1024 (![] : Fin 0 → Fin S4096x1024.rank)
  bitsLt_bf16_f32 : FTy.bits .bf16 < FTy.bits .f32
  bcast_S_S256x512 : S_.BroadcastsInDim S256x512 (![] : Fin 0 → Fin S256x512.rank)

variable [Facts]

def fn {F : FTy → Type} [FloatOps F] (main_arg0 : FVec F S4096x1024 .f32) (main_arg1 : FVec F S256x512 .bf16) (main_arg2 : FVec F S4096x1024 .bf16) : IVec S4096x1024 1 × IVec S256x512 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S256x512 .f32 := (extf .f32 · bitsLt_bf16_f32) main_arg1
  let main_v4 : FVec F S256x512 .f32 := Host.absf main_v3
  let main_cst_0 : FVec F S_ .f32 := constant S_ .f32 0x7F800000#32
  let main_v5 : FVec F S256x512 .f32 := broadcastInDim S256x512 ![] bcast_S_S256x512 main_cst_0
  let main_v6 : IVec S256x512 1 := cmpf .olt main_v4 main_v5
  let main_v7 : FVec F S4096x1024 .f32 := (extf .f32 · bitsLt_bf16_f32) main_arg2
  let main_v8 : FVec F S4096x1024 .f32 := Host.absf main_v7
  let main_cst_1 : FVec F S_ .f32 := constant S_ .f32 0x7F800000#32
  let main_v9 : FVec F S4096x1024 .f32 := broadcastInDim S4096x1024 ![] bcast_S_S4096x1024 main_cst_1
  let main_v10 : IVec S4096x1024 1 := cmpf .olt main_v8 main_v9
  (main_v2, main_v6, main_v10)
-- ==== Pre_mem_norm_bwd_finite.lean ====
abbrev S256x1024 : Shape := ⟨2, ![256, 1024]⟩
abbrev S1x1024 : Shape := ⟨2, ![1, 1024]⟩
abbrev S_ : Shape := ⟨0, ![]⟩

class Facts : Prop where
  bcast_S_S256x1024 : S_.BroadcastsInDim S256x1024 (![] : Fin 0 → Fin S256x1024.rank)

variable [Facts]

def fn {F : FTy → Type} [FloatOps F] (main_arg0 : FVec F S256x1024 .f32) (main_arg1 : FVec F S1x1024 .f32) (main_arg2 : FVec F S256x1024 .f32) : IVec S256x1024 1 × IVec S256x1024 1 :=
  let main_v0 : FVec F S256x1024 .f32 := Host.absf main_arg0
  let main_cst : FVec F S_ .f32 := constant S_ .f32 0x7F800000#32
  let main_v1 : FVec F S256x1024 .f32 := broadcastInDim S256x1024 ![] bcast_S_S256x1024 main_cst
  let main_v2 : IVec S256x1024 1 := cmpf .olt main_v0 main_v1
  let main_v3 : FVec F S256x1024 .f32 := Host.absf main_arg2
  let main_cst_0 : FVec F S_ .f32 := constant S_ .f32 0x7F800000#32
  let main_v4 : FVec F S256x1024 .f32 := broadcastInDim S256x1024 ![] bcast_S_S256x1024 main_cst_0
  let main_v5 : IVec S256x1024 1 := cmpf .olt main_v3 main_v4
  (main_v2, main_v5)
-- ==== Pre_pool_bwd_finite.lean ====
abbrev S4096x768 : Shape := ⟨2, ![4096, 768]⟩
abbrev S_ : Shape := ⟨0, ![]⟩

class Facts : Prop where
  bcast_S_S4096x768 : S_.BroadcastsInDim S4096x768 (![] : Fin 0 → Fin S4096x768.rank)

variable [Facts]

def fn {F : FTy → Type} [FloatOps F] (main_arg0 : FVec F S4096x768 .f32) : IVec S4096x768 1 :=
  let main_v0 : FVec F S4096x768 .f32 := Host.absf main_arg0
  let main_cst : FVec F S_ .f32 := constant S_ .f32 0x7F800000#32
  let main_v1 : FVec F S4096x768 .f32 := broadcastInDim S4096x768 ![] bcast_S_S4096x768 main_cst
  let main_v2 : IVec S4096x768 1 := cmpf .olt main_v0 main_v1
  main_v2
-- ==== Pre_pool_fwd_finite.lean ====
abbrev S4096x1024 : Shape := ⟨2, ![4096, 1024]⟩
abbrev S_ : Shape := ⟨0, ![]⟩

class Facts : Prop where
  bcast_S_S4096x1024 : S_.BroadcastsInDim S4096x1024 (![] : Fin 0 → Fin S4096x1024.rank)

variable [Facts]

def fn {F : FTy → Type} [FloatOps F] (main_arg0 : FVec F S4096x1024 .f32) : IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  main_v2
-- ==== Pre_stick_bwd_finite.lean ====
abbrev S4096x1024 : Shape := ⟨2, ![4096, 1024]⟩
abbrev S4096x1536 : Shape := ⟨2, ![4096, 1536]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  bcast_S_S4096x1536 : S_.BroadcastsInDim S4096x1536 (![] : Fin 0 → Fin S4096x1536.rank)

variable [Facts]

def fn {F : FTy → Type} [FloatOps F] (main_arg0 : FVec F S4096x1024 .bf16) (main_arg1 : FVec F S4096x1536 .bf16) (main_arg2 : FVec F S4096x1024 .bf16) : IVec S4096x1024 1 × IVec S4096x1536 1 × IVec S4096x1024 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_v4 : FVec F S4096x1536 .f32 := (extf .f32 · bitsLt_bf16_f32) main_arg1
  let main_v5 : FVec F S4096x1536 .f32 := Host.absf main_v4
  let main_cst_0 : FVec F S_ .f32 := constant S_ .f32 0x7F800000#32
  let main_v6 : FVec F S4096x1536 .f32 := broadcastInDim S4096x1536 ![] bcast_S_S4096x1536 main_cst_0
  let main_v7 : IVec S4096x1536 1 := cmpf .olt main_v5 main_v6
  let main_v8 : FVec F S4096x1024 .f32 := (extf .f32 · bitsLt_bf16_f32) main_arg2
  let main_v9 : FVec F S4096x1024 .f32 := Host.absf main_v8
  let main_cst_1 : FVec F S_ .f32 := constant S_ .f32 0x7F800000#32
  let main_v10 : FVec F S4096x1024 .f32 := broadcastInDim S4096x1024 ![] bcast_S_S4096x1024 main_cst_1
  let main_v11 : IVec S4096x1024 1 := cmpf .olt main_v9 main_v10
  (main_v3, main_v7, main_v11)
-- ==== Pre_stick_fwd_finite.lean ====
abbrev S4096x1024 : Shape := ⟨2, ![4096, 1024]⟩
abbrev S4096x1536 : Shape := ⟨2, ![4096, 1536]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  bcast_S_S4096x1536 : S_.BroadcastsInDim S4096x1536 (![] : Fin 0 → Fin S4096x1536.rank)

variable [Facts]

def fn {F : FTy → Type} [FloatOps F] (main_arg0 : FVec F S4096x1024 .bf16) (main_arg1 : FVec F S4096x1536 .bf16) : IVec S4096x1024 1 × IVec S4096x1536 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_v4 : FVec F S4096x1536 .f32 := (extf .f32 · bitsLt_bf16_f32) main_arg1
  let main_v5 : FVec F S4096x1536 .f32 := Host.absf main_v4
  let main_cst_0 : FVec F S_ .f32 := constant S_ .f32 0x7F800000#32
  let main_v6 : FVec F S4096x1536 .f32 := broadcastInDim S4096x1536 ![] bcast_S_S4096x1536 main_cst_0
  let main_v7 : IVec S4096x1536 1 := cmpf .olt main_v5 main_v6
  (main_v3, main_v7)
-- ==== Pre_swiglu_bwd_finite.lean ====
abbrev S4096x1024 : Shape := ⟨2, ![4096, 1024]⟩
abbrev S2816x1024 : Shape := ⟨2, ![2816, 1024]⟩
abbrev S4096x2816 : Shape := ⟨2, ![4096, 2816]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  bcast_S_S2816x1024 : S_.BroadcastsInDim S2816x1024 (![] : Fin 0 → Fin S2816x1024.rank)
  bcast_S_S4096x2816 : S_.BroadcastsInDim S4096x2816 (![] : Fin 0 → Fin S4096x2816.rank)

variable [Facts]

def fn {F : FTy → Type} [FloatOps F] (main_arg0 : FVec F S4096x1024 .bf16) (main_arg1 : FVec F S2816x1024 .bf16) (main_arg2 : FVec F S4096x2816 .bf16) (main_arg3 : FVec F S4096x2816 .bf16) : IVec S4096x1024 1 × IVec S2816x1024 1 × IVec S4096x2816 1 × IVec S4096x2816 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_v4 : FVec F S2816x1024 .f32 := (extf .f32 · bitsLt_bf16_f32) main_arg1
  let main_v5 : FVec F S2816x1024 .f32 := Host.absf main_v4
  let main_cst_0 : FVec F S_ .f32 := constant S_ .f32 0x7F800000#32
  let main_v6 : FVec F S2816x1024 .f32 := broadcastInDim S2816x1024 ![] bcast_S_S2816x1024 main_cst_0
  let main_v7 : IVec S2816x1024 1 := cmpf .olt main_v5 main_v6
  let main_v8 : FVec F S4096x2816 .f32 := (extf .f32 · bitsLt_bf16_f32) main_arg2
  let main_v9 : FVec F S4096x2816 .f32 := Host.absf main_v8
  let main_cst_1 : FVec F S_ .f32 := constant S_ .f32 0x7F800000#32
  let main_v10 : FVec F S4096x2816 .f32 := broadcastInDim S4096x2816 ![] bcast_S_S4096x2816 main_cst_1
  let main_v11 : IVec S4096x2816 1 := cmpf .olt main_v9 main_v10
  let main_v12 : FVec F S4096x2816 .f32 := (extf .f32 · bitsLt_bf16_f32) main_arg3
  let main_v13 : FVec F S4096x2816 .f32 := Host.absf main_v12
  let main_cst_2 : FVec F S_ .f32 := constant S_ .f32 0x7F800000#32
  let main_v14 : FVec F S4096x2816 .f32 := broadcastInDim S4096x2816 ![] bcast_S_S4096x2816 main_cst_2
  let main_v15 : IVec S4096x2816 1 := cmpf .olt main_v13 main_v14
  (main_v3, main_v7, main_v11, main_v15)
-- ==== PoolBwd.lean ====
abbrev S4096x768 : Shape := ⟨2, ![4096, 768]⟩
abbrev S512x768 : Shape := ⟨2, ![512, 768]⟩
abbrev S16x768 : Shape := ⟨2, ![16, 768]⟩
abbrev S528x768 : Shape := ⟨2, ![528, 768]⟩

abbrev nBuf : Space → Nat
  | .hbm => 2
  | .vmem => 6
  | .smem => 0
  | _ => 0

abbrev bufTy : (tb : Table) → Fin (tcTables nBuf tb) → BufTy
  | .hbm, ⟨0, _⟩ => ⟨S4096x768, .f32⟩
  | .hbm, ⟨1, _⟩ => ⟨S4096x768, .bf16⟩
  | .local _ .vmem, ⟨0, _⟩ => ⟨S512x768, .f32⟩
  | .local _ .vmem, ⟨1, _⟩ => ⟨S512x768, .f32⟩
  | .local _ .vmem, ⟨2, _⟩ => ⟨S16x768, .f32⟩
  | .local _ .vmem, ⟨3, _⟩ => ⟨S16x768, .f32⟩
  | .local _ .vmem, ⟨4, _⟩ => ⟨S512x768, .bf16⟩
  | .local _ .vmem, ⟨5, _⟩ => ⟨S512x768, .bf16⟩
  | _, _ => ⟨S4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== PoolBwdRefIdeal.lean ====
abbrev S4096x768 : Shape := ⟨2, ![4096, 768]⟩
abbrev S_ : Shape := ⟨0, ![]⟩
abbrev S1x4096x768 : Shape := ⟨3, ![1, 4096, 768]⟩
abbrev S4096 : Shape := ⟨1, ![4096]⟩
abbrev S1x4096x192 : Shape := ⟨3, ![1, 4096, 192]⟩
abbrev S1x2x192 : Shape := ⟨3, ![1, 2, 192]⟩
abbrev S1x4094x192 : Shape := ⟨3, ![1, 4094, 192]⟩
abbrev S1x4096x1 : Shape := ⟨3, ![1, 4096, 1]⟩
abbrev S1x4x192 : Shape := ⟨3, ![1, 4, 192]⟩
abbrev S1x4092x192 : Shape := ⟨3, ![1, 4092, 192]⟩
abbrev S1x8x192 : Shape := ⟨3, ![1, 8, 192]⟩
abbrev S1x4088x192 : Shape := ⟨3, ![1, 4088, 192]⟩
abbrev S1x16x192 : Shape := ⟨3, ![1, 16, 192]⟩
abbrev S1x4080x192 : Shape := ⟨3, ![1, 4080, 192]⟩

abbrev nBuf : Space → Nat
  | .hbm => 136
  | .vmem => 0
  | .smem => 0
  | _ => 0

abbrev hbmTy0_0 (i : Nat) : BufTy := match i % 128 with
  | 0 => ⟨S4096x768, .f32⟩
  | 1 => ⟨S_, .f32⟩
  | 2 => ⟨S1x4096x768, .f32⟩
  | 3 => ⟨S_, .f32⟩
  | 4 => ⟨S_, .f32⟩
  | 5 => ⟨S1x4096x768, .f32⟩
  | 6 => ⟨S4096, .i32⟩
  | 7 => ⟨S1x4096x192, .f32⟩
  | 8 => ⟨S_, .f32⟩
  | 9 => ⟨S1x2x192, .f32⟩
  | 10 => ⟨S1x4094x192, .f32⟩
  | 11 => ⟨S1x4096x192, .f32⟩
  | 12 => ⟨S_, .f32⟩
  | 13 => ⟨S1x2x192, .f32⟩
  | 14 => ⟨S_, .i32⟩
  | 15 => ⟨S4096, .i32⟩
  | 16 => ⟨S4096, .i32⟩
  | 17 => ⟨S_, .i32⟩
  | 18 => ⟨S4096, .i32⟩
  | 19 => ⟨S4096, .i32⟩
  | 20 => ⟨S4096, .f32⟩
  | 21 => ⟨S1x4096x1, .f32⟩
  | 22 => ⟨S1x4096x192, .f32⟩
  | 23 => ⟨S1x4096x192, .f32⟩
  | 24 => ⟨S1x4096x192, .f32⟩
  | 25 => ⟨S1x4096x192, .f32⟩
  | 26 => ⟨S_, .f32⟩
  | 27 => ⟨S1x4x192, .f32⟩
  | 28 => ⟨S1x4092x192, .f32⟩
  | 29 => ⟨S1x4096x192, .f32⟩
  | 30 => ⟨S_, .f32⟩
  | 31 => ⟨S1x4x192, .f32⟩
  | 32 => ⟨S_, .i32⟩
  | 33 => ⟨S4096, .i32⟩
  | 34 => ⟨S4096, .i32⟩
  | 35 => ⟨S_, .i32⟩
  | 36 => ⟨S4096, .i32⟩
  | 37 => ⟨S4096, .i32⟩
  | 38 => ⟨S4096, .f32⟩
  | 39 => ⟨S1x4096x1, .f32⟩
  | 40 => ⟨S1x4096x192, .f32⟩
  | 41 => ⟨S1x4096x192, .f32⟩
  | 42 => ⟨S1x4096x192, .f32⟩
  | 43 => ⟨S1x4096x192, .f32⟩
  | 44 => ⟨S_, .f32⟩
  | 45 => ⟨S1x8x192, .f32⟩
  | 46 => ⟨S1x4088x192, .f32⟩
  | 47 => ⟨S1x4096x192, .f32⟩
  | 48 => ⟨S_, .f32⟩
  | 49 => ⟨S1x8x192, .f32⟩
  | 50 => ⟨S_, .i32⟩
  | 51 => ⟨S4096, .i32⟩
  | 52 => ⟨S4096, .i32⟩
  | 53 => ⟨S_, .i32⟩
  | 54 => ⟨S4096, .i32⟩
  | 55 => ⟨S4096, .i32⟩
  | 56 => ⟨S4096, .f32⟩
  | 57 => ⟨S1x4096x1, .f32⟩
  | 58 => ⟨S1x4096x192, .f32⟩
  | 59 => ⟨S1x4096x192, .f32⟩
  | 60 => ⟨S1x4096x192, .f32⟩
  | 61 => ⟨S1x4096x192, .f32⟩
  | 62 => ⟨S_, .f32⟩
  | 63 => ⟨S1x16x192, .f32⟩
  | 64 => ⟨S1x4080x192, .f32⟩
  | 65 => ⟨S1x4096x192, .f32⟩
  | 66 => ⟨S_, .f32⟩
  | 67 => ⟨S1x16x192, .f32⟩
  | 68 => ⟨S_, .i32⟩
  | 69 => ⟨S4096, .i32⟩
  | 70 => ⟨S4096, .i32⟩
  | 71 => ⟨S_, .i32⟩
  | 72 => ⟨S4096, .i32⟩
  | 73 => ⟨S4096, .i32⟩
  | 74 => ⟨S4096, .f32⟩
  | 75 => ⟨S1x4096x1, .f32⟩
  | 76 => ⟨S1x4096x192, .f32⟩
  | 77 => ⟨S1x4096x192, .f32⟩
  | 78 => ⟨S1x4096x192, .f32⟩
  | 79 => ⟨S1x4096x768, .f32⟩
  | 80 => ⟨S1x4096x768, .f32⟩
  | 81 => ⟨S1x4096x768, .f32⟩
  | 82 => ⟨S1x4096x768, .f32⟩
  | 83 => ⟨S1x4096x192, .f32⟩
  | 84 => ⟨S1x4096x192, .f32⟩
  | 85 => ⟨S1x4096x192, .f32⟩
  | 86 => ⟨S1x4096x192, .f32⟩
  | 87 => ⟨S1x4096x192, .f32⟩
  | 88 => ⟨S1x4096x192, .f32⟩
  | 89 => ⟨S1x4096x192, .f32⟩
  | 90 => ⟨S1x16x192, .f32⟩
  | 91 => ⟨S1x4080x192, .f32⟩
  | 92 => ⟨S_, .f32⟩
  | 93 => ⟨S1x4096x192, .f32⟩
  | 94 => ⟨S1x4096x192, .f32⟩
  | 95 => ⟨S_, .f32⟩
  | 96 => ⟨S1x4096x768, .f32⟩
  | 97 => ⟨S1x4096x192, .f32⟩
  | 98 => ⟨S1x4096x192, .f32⟩
  | 99 => ⟨S1x4096x192, .f32⟩
  | 100 => ⟨S1x8x192, .f32⟩
  | 101 => ⟨S1x4088x192, .f32⟩
  | 102 => ⟨S_, .f32⟩
  | 103 => ⟨S1x4096x192, .f32⟩
  | 104 => ⟨S1x4096x192, .f32⟩
  | 105 => ⟨S_, .f32⟩
  | 106 => ⟨S1x4096x768, .f32⟩
  | 107 => ⟨S1x4096x768, .f32⟩
  | 108 => ⟨S1x4096x192, .f32⟩
  | 109 => ⟨S1x4096x192, .f32⟩
  | 110 => ⟨S1x4096x192, .f32⟩
  | 111 => ⟨S1x4x192, .f32⟩
  | 112 => ⟨S1x4092x192, .f32⟩
  | 113 => ⟨S_, .f32⟩
  | 114 => ⟨S1x4096x192, .f32⟩
  | 115 => ⟨S1x4096x192, .f32⟩
  | 116 => ⟨S_, .f32⟩
  | 117 => ⟨S1x4096x768, .f32⟩
  | 118 => ⟨S1x4096x768, .f32⟩
  | 119 => ⟨S1x4096x192, .f32⟩
  | 120 => ⟨S1x4096x192, .f32⟩
  | 121 => ⟨S1x4096x192, .f32⟩
  | 122 => ⟨S1x2x192, .f32⟩
  | 123 => ⟨S1x4094x192, .f32⟩
  | 124 => ⟨S_, .f32⟩
  | 125 => ⟨S1x4096x192, .f32⟩
  | 126 => ⟨S1x4096x192, .f32⟩
  | 127 => ⟨S_, .f32⟩
  | _ => ⟨S4096x768, .f32⟩

abbrev hbmTy0_1 (i : Nat) : BufTy := match i % 128 with
  | 0 => ⟨S1x4096x768, .f32⟩
  | 1 => ⟨S1x4096x768, .f32⟩
  | 2 => ⟨S_, .f32⟩
  | 3 => ⟨S_, .f32⟩
  | 4 => ⟨S1x4096x768, .f32⟩
  | 5 => ⟨S1x4096x768, .f32⟩
  | 6 => ⟨S4096x768, .f32⟩
  | 7 => ⟨S4096x768, .bf16⟩
  | _ => ⟨S4096x768, .f32⟩

abbrev hbmTy (i : Nat) : BufTy := match i / 128 with
  | 0 => hbmTy0_0 i
  | 1 => hbmTy0_1 i
  | _ => ⟨S4096x768, .f32⟩

abbrev bufTy : (tb : Table) → Fin (tcTables nBuf tb) → BufTy
  | .hbm, ⟨i, _⟩ => hbmTy i
  | _, _ => ⟨S4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_call0_call0_cst : Ref sig .tc := ⟨.hbm, 3, rfl⟩
abbrev main_call0_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_v9 : Ref sig .tc := ⟨.hbm, 16, rfl⟩
abbrev main_c_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_c_5 : Ref sig .tc := ⟨.hbm, 32, rfl⟩
abbrev main_v22 : Ref sig .tc := ⟨.hbm, 33, rfl⟩
abbrev main_v23 : Ref sig .tc := ⟨.hbm, 34, rfl⟩
abbrev main_c_6 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_8 : Ref sig .tc := ⟨.hbm, 48, rfl⟩
abbrev main_v35 : Ref sig .tc := ⟨.hbm, 49, rfl⟩
abbrev main_c_9 : Ref sig .tc := ⟨.hbm, 50, rfl⟩
abbrev main_v36 : Ref sig .tc := ⟨.hbm, 51, rfl⟩
abbrev main_v37 : Ref sig .tc := ⟨.hbm, 52, rfl⟩
abbrev main_c_10 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_11 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_12 : Ref sig .tc := ⟨.hbm, 66, rfl⟩
abbrev main_v49 : Ref sig .tc := ⟨.hbm, 67, rfl⟩
abbrev main_c_13 : Ref sig .tc := ⟨.hbm, 68, rfl⟩
abbrev main_v50 : Ref sig .tc := ⟨.hbm, 69, rfl⟩
abbrev main_v51 : Ref sig .tc := ⟨.hbm, 70, rfl⟩
abbrev main_c_14 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_cst_15 : Ref sig .tc := ⟨.hbm, 92, rfl⟩
abbrev main_v72 : Ref sig .tc := ⟨.hbm, 93, rfl⟩
abbrev main_v73 : Ref sig .tc := ⟨.hbm, 94, rfl⟩
abbrev main_cst_16 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_cst_17 : Ref sig .tc := ⟨.hbm, 102, rfl⟩
abbrev main_v80 : Ref sig .tc := ⟨.hbm, 103, rfl⟩
abbrev main_v81 : Ref sig .tc := ⟨.hbm, 104, rfl⟩
abbrev main_cst_18 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_cst_19 : Ref sig .tc := ⟨.hbm, 113, rfl⟩
abbrev main_v89 : Ref sig .tc := ⟨.hbm, 114, rfl⟩
abbrev main_v90 : Ref sig .tc := ⟨.hbm, 115, rfl⟩
abbrev main_cst_20 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_cst_21 : Ref sig .tc := ⟨.hbm, 124, rfl⟩
abbrev main_v98 : Ref sig .tc := ⟨.hbm, 125, rfl⟩
abbrev main_v99 : Ref sig .tc := ⟨.hbm, 126, rfl⟩
abbrev main_cst_22 : Ref sig .tc := ⟨.hbm, 127, rfl⟩
abbrev main_v100 : Ref sig .tc := ⟨.hbm, 128, rfl⟩
abbrev main_v101 : Ref sig .tc := ⟨.hbm, 129, rfl⟩
abbrev main_call1_call0_cst : Ref sig .tc := ⟨.hbm, 130, rfl⟩
abbrev main_call1_call0_v0 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩

abbrev nD : Nat := 1
abbrev τ : Topo := Topo.v7x

variable {F : FTy → Type} [FloatOps F]
-- ==== StickBwd.lean ====
abbrev S4096x1024 : Shape := ⟨2, ![4096, 1024]⟩
abbrev S4096x1536 : Shape := ⟨2, ![4096, 1536]⟩
abbrev S4096x768 : Shape := ⟨2, ![4096, 768]⟩
abbrev S1x4096x12x64 : Shape := ⟨4, ![1, 4096, 12, 64]⟩
abbrev S1x12x4096x64 : Shape := ⟨4, ![1, 12, 4096, 64]⟩
abbrev S1x12x4096x4096 : Shape := ⟨4, ![1, 12, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1x12x4096 : Shape := ⟨3, ![1, 12, 4096]⟩
abbrev S6x2x4096x1 : Shape := ⟨4, ![6, 2, 4096, 1]⟩
abbrev S6x2x4096x128 : Shape := ⟨4, ![6, 2, 4096, 128]⟩
abbrev S4096x128 : Shape := ⟨2, ![4096, 128]⟩
abbrev S1x2x4096x128 : Shape := ⟨4, ![1, 2, 4096, 128]⟩
abbrev S256x256 : Shape := ⟨2, ![256, 256]⟩
abbrev S128x128 : Shape := ⟨2, ![128, 128]⟩
abbrev S512x256 : Shape := ⟨2, ![512, 256]⟩
abbrev S512x128 : Shape := ⟨2, ![512, 128]⟩
abbrev S1x1x512x1 : Shape := ⟨4, ![1, 1, 512, 1]⟩
abbrev S512x1 : Shape := ⟨2, ![512, 1]⟩
abbrev S512x512 : Shape := ⟨2, ![512, 512]⟩
abbrev S512 : Shape := ⟨1, ![512]⟩
abbrev S256x128 : Shape := ⟨2, ![256, 128]⟩
abbrev S256x1 : Shape := ⟨2, ![256, 1]⟩
abbrev S256 : Shape := ⟨1, ![256]⟩

abbrev nBuf : Space → Nat
  | .hbm => 50
  | .vmem => 18
  | .smem => 0
  | _ => 0

abbrev bufTy : (tb : Table) → Fin (tcTables nBuf tb) → BufTy
  | .hbm, ⟨0, _⟩ => ⟨S4096x1024, .bf16⟩
  | .hbm, ⟨1, _⟩ => ⟨S4096x1536, .bf16⟩
  | .hbm, ⟨2, _⟩ => ⟨S4096x1024, .bf16⟩
  | .hbm, ⟨3, _⟩ => ⟨S4096x768, .bf16⟩
  | .hbm, ⟨4, _⟩ => ⟨S1x4096x12x64, .bf16⟩
  | .hbm, ⟨5, _⟩ => ⟨S1x12x4096x64, .bf16⟩
  | .hbm, ⟨6, _⟩ => ⟨S4096x768, .bf16⟩
  | .hbm, ⟨7, _⟩ => ⟨S4096x768, .f32⟩
  | .hbm, ⟨8, _⟩ => ⟨S1x4096x12x64, .f32⟩
  | .hbm, ⟨9, _⟩ => ⟨S1x12x4096x64, .f32⟩
  | .hbm, ⟨10, _⟩ => ⟨S1x12x4096x4096, .f32⟩
  | .hbm, ⟨11, _⟩ => ⟨S_, .f32⟩
  | .hbm, ⟨12, _⟩ => ⟨S1x12x4096x4096, .f32⟩
  | .hbm, ⟨13, _⟩ => ⟨S1x12x4096x4096, .f32⟩
  | .hbm, ⟨14, _⟩ => ⟨S4096, .i32⟩
  | .hbm, ⟨15, _⟩ => ⟨S1x4096, .i32⟩
  | .hbm, ⟨16, _⟩ => ⟨S4096x1, .i32⟩
  | .hbm, ⟨17, _⟩ => ⟨S4096x4096, .i32⟩
  | .hbm, ⟨18, _⟩ => ⟨S4096x4096, .i32⟩
  | .hbm, ⟨19, _⟩ => ⟨S4096x4096, .i1⟩
  | .hbm, ⟨20, _⟩ => ⟨S1x12x4096x4096, .f32⟩
  | .hbm, ⟨21, _⟩ => ⟨S1x12x4096x4096, .f32⟩
  | .hbm, ⟨22, _⟩ => ⟨S_, .f32⟩
  | .hbm, ⟨23, _⟩ => ⟨S1x12x4096x4096, .f32⟩
  | .hbm, ⟨24, _⟩ => ⟨S1x12x4096x4096, .f32⟩
  | .hbm, ⟨25, _⟩ => ⟨S1x12x4096x4096, .f32⟩
  | .hbm, ⟨26, _⟩ => ⟨S1x12x4096x4096, .f32⟩
  | .hbm, ⟨27, _⟩ => ⟨S1x12x4096x4096, .i1⟩
  | .hbm, ⟨28, _⟩ => ⟨S1x12x4096x4096, .f32⟩
  | .hbm, ⟨29, _⟩ => ⟨S1x12x4096x4096, .f32⟩
  | .hbm, ⟨30, _⟩ => ⟨S1x12x4096x4096, .f32⟩
  | .hbm, ⟨31, _⟩ => ⟨S1x12x4096x4096, .f32⟩
  | .hbm, ⟨32, _⟩ => ⟨S1x12x4096x4096, .f32⟩
  | .hbm, ⟨33, _⟩ => ⟨S1x12x4096x4096, .f32⟩
  | .hbm, ⟨34, _⟩ => ⟨S1x12x4096x4096, .f32⟩
  | .hbm, ⟨35, _⟩ => ⟨S1x12x4096x4096, .f32⟩
  | .hbm, ⟨36, _⟩ => ⟨S1x12x4096x4096, .f32⟩
  | .hbm, ⟨37, _⟩ => ⟨S_, .f32⟩
  | .hbm, ⟨38, _⟩ => ⟨S_, .f32⟩
  | .hbm, ⟨39, _⟩ => ⟨S1x12x4096x4096, .i1⟩
  | .hbm, ⟨40, _⟩ => ⟨S1x12x4096x4096, .f32⟩
  | .hbm, ⟨41, _⟩ => ⟨S1x12x4096x4096, .f32⟩
  | .hbm, ⟨42, _⟩ => ⟨S_, .f32⟩
  | .hbm, ⟨43, _⟩ => ⟨S1x12x4096, .f32⟩
  | .hbm, ⟨44, _⟩ => ⟨S6x2x4096x1, .f32⟩
  | .hbm, ⟨45, _⟩ => ⟨S6x2x4096x128, .f32⟩
  | .hbm, ⟨46, _⟩ => ⟨S4096x768, .bf16⟩
  | .hbm, ⟨47, _⟩ => ⟨S4096x768, .bf16⟩
  | .hbm, ⟨48, _⟩ => ⟨S4096x768, .bf16⟩
  | .hbm, ⟨49, _⟩ => ⟨S4096x1536, .bf16⟩
  | .local _ .vmem, ⟨0, _⟩ => ⟨S4096x128, .bf16⟩
  | .local _ .vmem, ⟨1, _⟩ => ⟨S4096x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S4096x128, .bf16⟩
  | .local _ .vmem, ⟨7, _⟩ => ⟨S4096x128, .bf16⟩
  | .local _ .vmem, ⟨8, _⟩ => ⟨S1x2x4096x128, .f32⟩
  | .local _ .vmem, ⟨9, _⟩ => ⟨S1x2x4096x128, .f32⟩
  | .local _ .vmem, ⟨10, _⟩ => ⟨S4096x128, .bf16⟩
  | .local _ .vmem, ⟨11, _⟩ => ⟨S4096x128, .bf16⟩
  | .local _ .vmem, ⟨12, _⟩ => ⟨S4096x128, .bf16⟩
  | .local _ .vmem, ⟨13, _⟩ => ⟨S4096x128, .bf16⟩
  | .local _ .vmem, ⟨14, _⟩ => ⟨S4096x128, .bf16⟩
  | .local _ .vmem, ⟨15, _⟩ => ⟨S4096x128, .bf16⟩
  | .local _ .vmem, ⟨16, _⟩ => ⟨S4096x128, .f32⟩
  | .local _ .vmem, ⟨17, _⟩ => ⟨S4096x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_call0_v0 : Ref sig .tc := ⟨.hbm, 21, rfl⟩
abbrev main_call0_call0_cst : Ref sig .tc := ⟨.hbm, 22, rfl⟩
abbrev main_call0_call0_v0 : Ref sig .tc := ⟨.hbm, 23, rfl⟩
abbrev main_call0_call0_v1 : Ref sig .tc := ⟨.hbm, 24, rfl⟩
abbrev main_call0_call0_v2 : Ref sig .tc := ⟨.hbm, 25, rfl⟩
abbrev main_call0_call0_v3 : Ref sig .tc := ⟨.hbm, 26, rfl⟩
abbrev main_call0_call0_v4 : Ref sig .tc := ⟨.hbm, 27, rfl⟩
abbrev main_call0_call0_v5 : Ref sig .tc := ⟨.hbm, 28, rfl⟩
abbrev main_call0_call0_v6 : Ref sig .tc := ⟨.hbm, 29, rfl⟩
abbrev main_call0_call0_v7 : Ref sig .tc := ⟨.hbm, 30, rfl⟩
abbrev main_call0_call0_v8 : Ref sig .tc := ⟨.hbm, 31, rfl⟩
abbrev main_call0_call0_v9 : Ref sig .tc := ⟨.hbm, 32, rfl⟩
abbrev main_call0_call0_v10 : Ref sig .tc := ⟨.hbm, 33, rfl⟩
abbrev main_call0_call0_v11 : Ref sig .tc := ⟨.hbm, 34, rfl⟩
abbrev main_call0_v1 : Ref sig .tc := ⟨.hbm, 35, rfl⟩
abbrev main_v17 : Ref sig .tc := ⟨.hbm, 36, rfl⟩
abbrev main_cst_0 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_v18 : Ref sig .tc := ⟨.hbm, 41, rfl⟩
abbrev main_cst_1 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22_0 : Ref sig .tc := ⟨.hbm, 46, rfl⟩
abbrev main_v22_1 : Ref sig .tc := ⟨.hbm, 47, rfl⟩
abbrev main_v22_2 : Ref sig .tc := ⟨.hbm, 48, rfl⟩
abbrev main_v23 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![6], ![false]⟩

@[reducible] def k0_t1_loop : Scf.Loop 32 :=
  let c0_i32 : BitVec 32 := 0#32
  let c8_i32 : BitVec 32 := 8#32
  let v40 : BitVec 32 := Scalar.addi c0_i32 c8_i32
  let c1_i32 : BitVec 32 := 1#32
  ⟨c0_i32, v40, c1_i32⟩
def k0_mult1 (k0_t1 : Fin k0_t1_loop.trips) : BitVec 32 :=
  let c0_i32 : BitVec 32 := 0#32
  let c1_i32 : BitVec 32 := 1#32
  let arg11 : BitVec 32 := Scf.iv c0_i32 c1_i32 k0_t1
  let c512_i32 : BitVec 32 := 512#32
  let v47 : BitVec 32 := Scalar.muli arg11 c512_i32
  v47
def k0_off1 (k0_t1 : Fin k0_t1_loop.trips) : Fin 2 → Nat :=
  let c0_i32 : BitVec 32 := 0#32
  let c1_i32 : BitVec 32 := 1#32
  let arg11 : BitVec 32 := Scf.iv c0_i32 c1_i32 k0_t1
  let c512_i32 : BitVec 32 := 512#32
  let v47 : BitVec 32 := Scalar.muli arg11 c512_i32
  let v48 : BitVec 32 := v47
  let v49 : Index := Scalar.indexCast v48
  let c0_14 : Index := 0#32
  ![v49.toNat, 0]
def k0_off2 (k0_t1 : Fin k0_t1_loop.trips) : Fin 4 → Nat :=
  let c0_21 : Index := 0#32
  let c0_22 : Index := 0#32
  let c0_i32 : BitVec 32 := 0#32
  let c1_i32 : BitVec 32 := 1#32
  let arg11 : BitVec 32 := Scf.iv c0_i32 c1_i32 k0_t1
  let c512_i32 : BitVec 32 := 512#32
  let v47 : BitVec 32 := Scalar.muli arg11 c512_i32
  let v48 : BitVec 32 := v47
  let v63 : Index := Scalar.indexCast v48
  let c0_23 : Index := 0#32
  ![0, 0, v63.toNat, 0]
def k0_off3 (k0_t1 : Fin k0_t1_loop.trips) : Fin 4 → Nat :=
  let c0_24 : Index := 0#32
  let c1 : Index := 1#32
  let c0_i32 : BitVec 32 := 0#32
  let c1_i32 : BitVec 32 := 1#32
  let arg11 : BitVec 32 := Scf.iv c0_i32 c1_i32 k0_t1
  let c512_i32 : BitVec 32 := 512#32
  let v47 : BitVec 32 := Scalar.muli arg11 c512_i32
  let v48 : BitVec 32 := v47
  let v66 : Index := Scalar.indexCast v48
  let c0_25 : Index := 0#32
  ![0, 1, v66.toNat, 0]
@[reducible] def k0_t2_loop (k0_t1 : Fin k0_t1_loop.trips) : Scf.Loop 32 :=
  let c0_i32_34 : BitVec 32 := 0#32
  let c0_i32 : BitVec 32 := 0#32
  let c1_i32 : BitVec 32 := 1#32
  let arg11 : BitVec 32 := Scf.iv c0_i32 c1_i32 k0_t1
  let c0_i32_28 : BitVec 32 := 0#32
  let v72 : BitVec 1 := Scalar.cmpi .sgt arg11 c0_i32_28
  let v73 : BitVec 32 := Scalar.extui v72
  let c0_i32_29 : BitVec 32 := 0#32
  let v74 : BitVec 1 := Scalar.cmpi .slt arg11 c0_i32_29
  let v75 : BitVec 32 := Scalar.extui v74
  let v76 : BitVec 32 := Scalar.subi v73 v75
  let c2_i32 : BitVec 32 := 2#32
  let c0_i32_30 : BitVec 32 := 0#32
  let v77 : BitVec 1 := Scalar.cmpi .sgt c2_i32 c0_i32_30
  let v78 : BitVec 32 := Scalar.extui v77
  let c0_i32_31 : BitVec 32 := 0#32
  let v79 : BitVec 1 := Scalar.cmpi .slt c2_i32 c0_i32_31
  let v80 : BitVec 32 := Scalar.extui v79
  let v81 : BitVec 32 := Scalar.subi v78 v80
  let v82 : BitVec 1 := Scalar.cmpi .ne v76 v81
  let v83 : BitVec 32 := Scalar.remsi arg11 c2_i32
  let c0_i32_32 : BitVec 32 := 0#32
  let v84 : BitVec 1 := Scalar.cmpi .ne v83 c0_i32_32
  let v85 : BitVec 1 := Scalar.andi v82 v84
  let v71 : BitVec 32 := Scalar.divsi arg11 c2_i32
  let c1_i32_33 : BitVec 32 := 1#32
  let v86 : BitVec 32 := Scalar.subi v71 c1_i32_33
  let v87 : BitVec 32 := Scalar.select v85 v86 v71
  let v88 : BitVec 32 := Scalar.subi v87 c0_i32_34
  let c1_i32_35 : BitVec 32 := 1#32
  let v90 : BitVec 32 := Scalar.divsi v88 c1_i32_35
  let v91 : BitVec 32 := Scalar.muli v90 c1_i32_35
  let v92 : BitVec 32 := Scalar.addi c0_i32_34 v91
  let c1_i32_36 : BitVec 32 := 1#32
  ⟨c0_i32_34, v92, c1_i32_36⟩
def k0_mult2 (k0_t1 : Fin k0_t1_loop.trips) (k0_t2 : Fin (k0_t2_loop k0_t1).trips) : BitVec 32 :=
  let c2_i32_143 : BitVec 32 := 2#32
  let c0_i32_34 : BitVec 32 := 0#32
  let c1_i32_36 : BitVec 32 := 1#32
  let arg12 : BitVec 32 := Scf.iv c0_i32_34 c1_i32_36 k0_t2
  let v456 : BitVec 32 := Scalar.muli c2_i32_143 arg12
  let c512_i32_144 : BitVec 32 := 512#32
  let v457 : BitVec 32 := Scalar.muli v456 c512_i32_144
  v457
def k0_off4 (k0_t1 : Fin k0_t1_loop.trips) (k0_t2 : Fin (k0_t2_loop k0_t1).trips) : Fin 2 → Nat :=
  let c2_i32_143 : BitVec 32 := 2#32
  let c0_i32_34 : BitVec 32 := 0#32
  let c1_i32_36 : BitVec 32 := 1#32
  let arg12 : BitVec 32 := Scf.iv c0_i32_34 c1_i32_36 k0_t2
  let v456 : BitVec 32 := Scalar.muli c2_i32_143 arg12
  let c512_i32_144 : BitVec 32 := 512#32
  let v457 : BitVec 32 := Scalar.muli v456 c512_i32_144
  let v458 : BitVec 32 := v457
  let v459 : Index := Scalar.indexCast v458
  let c0_145 : Index := 0#32
  ![v459.toNat, 0]
def k0_mult3 (k0_t1 : Fin k0_t1_loop.trips) (k0_t2 : Fin (k0_t2_loop k0_t1).trips) : BitVec 32 :=
  let c2_i32_140 : BitVec 32 := 2#32
  let c0_i32_34 : BitVec 32 := 0#32
  let c1_i32_36 : BitVec 32 := 1#32
  let arg12 : BitVec 32 := Scf.iv c0_i32_34 c1_i32_36 k0_t2
  let v453 : BitVec 32 := Scalar.muli c2_i32_140 arg12
  let c1_i32_141 : BitVec 32 := 1#32
  let v454 : BitVec 32 := Scalar.addi v453 c1_i32_141
  let c512_i32_142 : BitVec 32 := 512#32
  let v455 : BitVec 32 := Scalar.muli v454 c512_i32_142
  v455
def k0_off5 (k0_t1 : Fin k0_t1_loop.trips) (k0_t2 : Fin (k0_t2_loop k0_t1).trips) : Fin 2 → Nat :=
  let c2_i32_140 : BitVec 32 := 2#32
  let c0_i32_34 : BitVec 32 := 0#32
  let c1_i32_36 : BitVec 32 := 1#32
  let arg12 : BitVec 32 := Scf.iv c0_i32_34 c1_i32_36 k0_t2
  let v453 : BitVec 32 := Scalar.muli c2_i32_140 arg12
  let c1_i32_141 : BitVec 32 := 1#32
  let v454 : BitVec 32 := Scalar.addi v453 c1_i32_141
  let c512_i32_142 : BitVec 32 := 512#32
  let v455 : BitVec 32 := Scalar.muli v454 c512_i32_142
  let v607 : BitVec 32 := v455
  let v608 : Index := Scalar.indexCast v607
  let c0_185 : Index := 0#32
  ![v608.toNat, 0]
@[reducible] def k0_t3_loop (k0_t1 : Fin k0_t1_loop.trips) : Scf.Loop 32 :=
  let c0_i32_34 : BitVec 32 := 0#32
  let c0_i32 : BitVec 32 := 0#32
  let c1_i32 : BitVec 32 := 1#32
  let arg11 : BitVec 32 := Scf.iv c0_i32 c1_i32 k0_t1
  let c0_i32_28 : BitVec 32 := 0#32
  let v72 : BitVec 1 := Scalar.cmpi .sgt arg11 c0_i32_28
  let v73 : BitVec 32 := Scalar.extui v72
  let c0_i32_29 : BitVec 32 := 0#32
  let v74 : BitVec 1 := Scalar.cmpi .slt arg11 c0_i32_29
  let v75 : BitVec 32 := Scalar.extui v74
  let v76 : BitVec 32 := Scalar.subi v73 v75
  let c2_i32 : BitVec 32 := 2#32
  let c0_i32_30 : BitVec 32 := 0#32
  let v77 : BitVec 1 := Scalar.cmpi .sgt c2_i32 c0_i32_30
  let v78 : BitVec 32 := Scalar.extui v77
  let c0_i32_31 : BitVec 32 := 0#32
  let v79 : BitVec 1 := Scalar.cmpi .slt c2_i32 c0_i32_31
  let v80 : BitVec 32 := Scalar.extui v79
  let v81 : BitVec 32 := Scalar.subi v78 v80
  let v82 : BitVec 1 := Scalar.cmpi .ne v76 v81
  let v83 : BitVec 32 := Scalar.remsi arg11 c2_i32
  let c0_i32_32 : BitVec 32 := 0#32
  let v84 : BitVec 1 := Scalar.cmpi .ne v83 c0_i32_32
  let v85 : BitVec 1 := Scalar.andi v82 v84
  let v71 : BitVec 32 := Scalar.divsi arg11 c2_i32
  let c1_i32_33 : BitVec 32 := 1#32
  let v86 : BitVec 32 := Scalar.subi v71 c1_i32_33
  let v87 : BitVec 32 := Scalar.select v85 v86 v71
  let v88 : BitVec 32 := Scalar.subi v87 c0_i32_34
  let c1_i32_35 : BitVec 32 := 1#32
  let v90 : BitVec 32 := Scalar.divsi v88 c1_i32_35
  let v91 : BitVec 32 := Scalar.muli v90 c1_i32_35
  let v92 : BitVec 32 := Scalar.addi c0_i32_34 v91
  let v89 : BitVec 32 := Scalar.addi c0_i32_34 v88
  let c1_i32_37 : BitVec 32 := 1#32
  ⟨v92, v89, c1_i32_37⟩
def k0_mult4 (k0_t1 : Fin k0_t1_loop.trips) (k0_t3 : Fin (k0_t3_loop k0_t1).trips) : BitVec 32 :=
  let c2_i32_143 : BitVec 32 := 2#32
  let c0_i32_34 : BitVec 32 := 0#32
  let c0_i32 : BitVec 32 := 0#32
  let c1_i32 : BitVec 32 := 1#32
  let arg11 : BitVec 32 := Scf.iv c0_i32 c1_i32 k0_t1
  let c0_i32_28 : BitVec 32 := 0#32
  let v72 : BitVec 1 := Scalar.cmpi .sgt arg11 c0_i32_28
  let v73 : BitVec 32 := Scalar.extui v72
  let c0_i32_29 : BitVec 32 := 0#32
  let v74 : BitVec 1 := Scalar.cmpi .slt arg11 c0_i32_29
  let v75 : BitVec 32 := Scalar.extui v74
  let v76 : BitVec 32 := Scalar.subi v73 v75
  let c2_i32 : BitVec 32 := 2#32
  let c0_i32_30 : BitVec 32 := 0#32
  let v77 : BitVec 1 := Scalar.cmpi .sgt c2_i32 c0_i32_30
  let v78 : BitVec 32 := Scalar.extui v77
  let c0_i32_31 : BitVec 32 := 0#32
  let v79 : BitVec 1 := Scalar.cmpi .slt c2_i32 c0_i32_31
  let v80 : BitVec 32 := Scalar.extui v79
  let v81 : BitVec 32 := Scalar.subi v78 v80
  let v82 : BitVec 1 := Scalar.cmpi .ne v76 v81
  let v83 : BitVec 32 := Scalar.remsi arg11 c2_i32
  let c0_i32_32 : BitVec 32 := 0#32
  let v84 : BitVec 1 := Scalar.cmpi .ne v83 c0_i32_32
  let v85 : BitVec 1 := Scalar.andi v82 v84
  let v71 : BitVec 32 := Scalar.divsi arg11 c2_i32
  let c1_i32_33 : BitVec 32 := 1#32
  let v86 : BitVec 32 := Scalar.subi v71 c1_i32_33
  let v87 : BitVec 32 := Scalar.select v85 v86 v71
  let v88 : BitVec 32 := Scalar.subi v87 c0_i32_34
  let c1_i32_35 : BitVec 32 := 1#32
  let v90 : BitVec 32 := Scalar.divsi v88 c1_i32_35
  let v91 : BitVec 32 := Scalar.muli v90 c1_i32_35
  let v92 : BitVec 32 := Scalar.addi c0_i32_34 v91
  let c1_i32_37 : BitVec 32 := 1#32
  let arg12 : BitVec 32 := Scf.iv v92 c1_i32_37 k0_t3
  let v456 : BitVec 32 := Scalar.muli c2_i32_143 arg12
  let c512_i32_144 : BitVec 32 := 512#32
  let v457 : BitVec 32 := Scalar.muli v456 c512_i32_144
  v457
def k0_off6 (k0_t1 : Fin k0_t1_loop.trips) (k0_t3 : Fin (k0_t3_loop k0_t1).trips) : Fin 2 → Nat :=
  let c2_i32_143 : BitVec 32 := 2#32
  let c0_i32_34 : BitVec 32 := 0#32
  let c0_i32 : BitVec 32 := 0#32
  let c1_i32 : BitVec 32 := 1#32
  let arg11 : BitVec 32 := Scf.iv c0_i32 c1_i32 k0_t1
  let c0_i32_28 : BitVec 32 := 0#32
  let v72 : BitVec 1 := Scalar.cmpi .sgt arg11 c0_i32_28
  let v73 : BitVec 32 := Scalar.extui v72
  let c0_i32_29 : BitVec 32 := 0#32
  let v74 : BitVec 1 := Scalar.cmpi .slt arg11 c0_i32_29
  let v75 : BitVec 32 := Scalar.extui v74
  let v76 : BitVec 32 := Scalar.subi v73 v75
  let c2_i32 : BitVec 32 := 2#32
  let c0_i32_30 : BitVec 32 := 0#32
  let v77 : BitVec 1 := Scalar.cmpi .sgt c2_i32 c0_i32_30
  let v78 : BitVec 32 := Scalar.extui v77
  let c0_i32_31 : BitVec 32 := 0#32
  let v79 : BitVec 1 := Scalar.cmpi .slt c2_i32 c0_i32_31
  let v80 : BitVec 32 := Scalar.extui v79
  let v81 : BitVec 32 := Scalar.subi v78 v80
  let v82 : BitVec 1 := Scalar.cmpi .ne v76 v81
  let v83 : BitVec 32 := Scalar.remsi arg11 c2_i32
  let c0_i32_32 : BitVec 32 := 0#32
  let v84 : BitVec 1 := Scalar.cmpi .ne v83 c0_i32_32
  let v85 : BitVec 1 := Scalar.andi v82 v84
  let v71 : BitVec 32 := Scalar.divsi arg11 c2_i32
  let c1_i32_33 : BitVec 32 := 1#32
  let v86 : BitVec 32 := Scalar.subi v71 c1_i32_33
  let v87 : BitVec 32 := Scalar.select v85 v86 v71
  let v88 : BitVec 32 := Scalar.subi v87 c0_i32_34
  let c1_i32_35 : BitVec 32 := 1#32
  let v90 : BitVec 32 := Scalar.divsi v88 c1_i32_35
  let v91 : BitVec 32 := Scalar.muli v90 c1_i32_35
  let v92 : BitVec 32 := Scalar.addi c0_i32_34 v91
  let c1_i32_37 : BitVec 32 := 1#32
  let arg12 : BitVec 32 := Scf.iv v92 c1_i32_37 k0_t3
  let v456 : BitVec 32 := Scalar.muli c2_i32_143 arg12
  let c512_i32_144 : BitVec 32 := 512#32
  let v457 : BitVec 32 := Scalar.muli v456 c512_i32_144
  let v458 : BitVec 32 := v457
  let v459 : Index := Scalar.indexCast v458
  let c0_145 : Index := 0#32
  ![v459.toNat, 0]
def k0_mult5 (k0_t1 : Fin k0_t1_loop.trips) (k0_t3 : Fin (k0_t3_loop k0_t1).trips) : BitVec 32 :=
  let c2_i32_140 : BitVec 32 := 2#32
  let c0_i32_34 : BitVec 32 := 0#32
  let c0_i32 : BitVec 32 := 0#32
  let c1_i32 : BitVec 32 := 1#32
  let arg11 : BitVec 32 := Scf.iv c0_i32 c1_i32 k0_t1
  let c0_i32_28 : BitVec 32 := 0#32
  let v72 : BitVec 1 := Scalar.cmpi .sgt arg11 c0_i32_28
  let v73 : BitVec 32 := Scalar.extui v72
  let c0_i32_29 : BitVec 32 := 0#32
  let v74 : BitVec 1 := Scalar.cmpi .slt arg11 c0_i32_29
  let v75 : BitVec 32 := Scalar.extui v74
  let v76 : BitVec 32 := Scalar.subi v73 v75
  let c2_i32 : BitVec 32 := 2#32
  let c0_i32_30 : BitVec 32 := 0#32
  let v77 : BitVec 1 := Scalar.cmpi .sgt c2_i32 c0_i32_30
  let v78 : BitVec 32 := Scalar.extui v77
  let c0_i32_31 : BitVec 32 := 0#32
  let v79 : BitVec 1 := Scalar.cmpi .slt c2_i32 c0_i32_31
  let v80 : BitVec 32 := Scalar.extui v79
  let v81 : BitVec 32 := Scalar.subi v78 v80
  let v82 : BitVec 1 := Scalar.cmpi .ne v76 v81
  let v83 : BitVec 32 := Scalar.remsi arg11 c2_i32
  let c0_i32_32 : BitVec 32 := 0#32
  let v84 : BitVec 1 := Scalar.cmpi .ne v83 c0_i32_32
  let v85 : BitVec 1 := Scalar.andi v82 v84
  let v71 : BitVec 32 := Scalar.divsi arg11 c2_i32
  let c1_i32_33 : BitVec 32 := 1#32
  let v86 : BitVec 32 := Scalar.subi v71 c1_i32_33
  let v87 : BitVec 32 := Scalar.select v85 v86 v71
  let v88 : BitVec 32 := Scalar.subi v87 c0_i32_34
  let c1_i32_35 : BitVec 32 := 1#32
  let v90 : BitVec 32 := Scalar.divsi v88 c1_i32_35
  let v91 : BitVec 32 := Scalar.muli v90 c1_i32_35
  let v92 : BitVec 32 := Scalar.addi c0_i32_34 v91
  let c1_i32_37 : BitVec 32 := 1#32
  let arg12 : BitVec 32 := Scf.iv v92 c1_i32_37 k0_t3
  let v453 : BitVec 32 := Scalar.muli c2_i32_140 arg12
  let c1_i32_141 : BitVec 32 := 1#32
  let v454 : BitVec 32 := Scalar.addi v453 c1_i32_141
  let c512_i32_142 : BitVec 32 := 512#32
  let v455 : BitVec 32 := Scalar.muli v454 c512_i32_142
  v455
def k0_off7 (k0_t1 : Fin k0_t1_loop.trips) (k0_t3 : Fin (k0_t3_loop k0_t1).trips) : Fin 2 → Nat :=
  let c2_i32_140 : BitVec 32 := 2#32
  let c0_i32_34 : BitVec 32 := 0#32
  let c0_i32 : BitVec 32 := 0#32
  let c1_i32 : BitVec 32 := 1#32
  let arg11 : BitVec 32 := Scf.iv c0_i32 c1_i32 k0_t1
  let c0_i32_28 : BitVec 32 := 0#32
  let v72 : BitVec 1 := Scalar.cmpi .sgt arg11 c0_i32_28
  let v73 : BitVec 32 := Scalar.extui v72
  let c0_i32_29 : BitVec 32 := 0#32
  let v74 : BitVec 1 := Scalar.cmpi .slt arg11 c0_i32_29
  let v75 : BitVec 32 := Scalar.extui v74
  let v76 : BitVec 32 := Scalar.subi v73 v75
  let c2_i32 : BitVec 32 := 2#32
  let c0_i32_30 : BitVec 32 := 0#32
  let v77 : BitVec 1 := Scalar.cmpi .sgt c2_i32 c0_i32_30
  let v78 : BitVec 32 := Scalar.extui v77
  let c0_i32_31 : BitVec 32 := 0#32
  let v79 : BitVec 1 := Scalar.cmpi .slt c2_i32 c0_i32_31
  let v80 : BitVec 32 := Scalar.extui v79
  let v81 : BitVec 32 := Scalar.subi v78 v80
  let v82 : BitVec 1 := Scalar.cmpi .ne v76 v81
  let v83 : BitVec 32 := Scalar.remsi arg11 c2_i32
  let c0_i32_32 : BitVec 32 := 0#32
  let v84 : BitVec 1 := Scalar.cmpi .ne v83 c0_i32_32
  let v85 : BitVec 1 := Scalar.andi v82 v84
  let v71 : BitVec 32 := Scalar.divsi arg11 c2_i32
  let c1_i32_33 : BitVec 32 := 1#32
  let v86 : BitVec 32 := Scalar.subi v71 c1_i32_33
  let v87 : BitVec 32 := Scalar.select v85 v86 v71
  let v88 : BitVec 32 := Scalar.subi v87 c0_i32_34
  let c1_i32_35 : BitVec 32 := 1#32
  let v90 : BitVec 32 := Scalar.divsi v88 c1_i32_35
  let v91 : BitVec 32 := Scalar.muli v90 c1_i32_35
  let v92 : BitVec 32 := Scalar.addi c0_i32_34 v91
  let c1_i32_37 : BitVec 32 := 1#32
  let arg12 : BitVec 32 := Scf.iv v92 c1_i32_37 k0_t3
  let v453 : BitVec 32 := Scalar.muli c2_i32_140 arg12
  let c1_i32_141 : BitVec 32 := 1#32
  let v454 : BitVec 32 := Scalar.addi v453 c1_i32_141
  let c512_i32_142 : BitVec 32 := 512#32
  let v455 : BitVec 32 := Scalar.muli v454 c512_i32_142
  let v607 : BitVec 32 := v455
  let v608 : Index := Scalar.indexCast v607
  let c0_185 : Index := 0#32
  ![v608.toNat, 0]
@[reducible] def k0_t4_loop (k0_t1 : Fin k0_t1_loop.trips) : Scf.Loop 32 :=
  let c0_i32_44 : BitVec 32 := 0#32
  let c0_i32 : BitVec 32 := 0#32
  let c1_i32 : BitVec 32 := 1#32
  let arg11 : BitVec 32 := Scf.iv c0_i32 c1_i32 k0_t1
  let c2_i32_38 : BitVec 32 := 2#32
  let c0_i32_39 : BitVec 32 := 0#32
  let v95 : BitVec 1 := Scalar.cmpi .eq c2_i32_38 c0_i32_39
  let c1_i32_40 : BitVec 32 := 1#32
  let v96 : BitVec 32 := Scalar.select v95 c1_i32_40 c2_i32_38
  let v97 : BitVec 32 := Scalar.remsi arg11 v96
  let c0_i32_42 : BitVec 32 := 0#32
  let v99 : BitVec 1 := Scalar.cmpi .slt v97 c0_i32_42
  let c0_i32_43 : BitVec 32 := 0#32
  let v100 : BitVec 1 := Scalar.cmpi .slt v96 c0_i32_43
  let v101 : BitVec 1 := Scalar.xori v99 v100
  let c0_i32_41 : BitVec 32 := 0#32
  let v98 : BitVec 1 := Scalar.cmpi .ne v97 c0_i32_41
  let v102 : BitVec 1 := Scalar.andi v101 v98
  let v103 : BitVec 32 := Scalar.addi v97 v96
  let v104 : BitVec 32 := Scalar.select v102 v103 v97
  let v105 : BitVec 32 := Scalar.subi v104 c0_i32_44
  let c1_i32_45 : BitVec 32 := 1#32
  let v107 : BitVec 32 := Scalar.divsi v105 c1_i32_45
  let v108 : BitVec 32 := Scalar.muli v107 c1_i32_45
  let v109 : BitVec 32 := Scalar.addi c0_i32_44 v108
  let c1_i32_46 : BitVec 32 := 1#32
  ⟨c0_i32_44, v109, c1_i32_46⟩
def k0_mult6 (k0_t1 : Fin k0_t1_loop.trips) : BitVec 32 :=
  let c0_i32 : BitVec 32 := 0#32
  let c1_i32 : BitVec 32 := 1#32
  let arg11 : BitVec 32 := Scf.iv c0_i32 c1_i32 k0_t1
  let c512_i32 : BitVec 32 := 512#32
  let v47 : BitVec 32 := Scalar.muli arg11 c512_i32
  let v48 : BitVec 32 := v47
  let c512_i32_140 : BitVec 32 := 512#32
  let v453 : BitVec 32 := Scalar.subi v48 c512_i32_140
  v453
def k0_off8 (k0_t1 : Fin k0_t1_loop.trips) : Fin 2 → Nat :=
  let c0_i32 : BitVec 32 := 0#32
  let c1_i32 : BitVec 32 := 1#32
  let arg11 : BitVec 32 := Scf.iv c0_i32 c1_i32 k0_t1
  let c512_i32 : BitVec 32 := 512#32
  let v47 : BitVec 32 := Scalar.muli arg11 c512_i32
  let v48 : BitVec 32 := v47
  let c512_i32_140 : BitVec 32 := 512#32
  let v453 : BitVec 32 := Scalar.subi v48 c512_i32_140
  let v454 : BitVec 32 := v453
  let v455 : Index := Scalar.indexCast v454
  let c0_141 : Index := 0#32
  ![v455.toNat, 0]
@[reducible] def k0_t5_loop (k0_t1 : Fin k0_t1_loop.trips) : Scf.Loop 32 :=
  let c0_i32_44 : BitVec 32 := 0#32
  let c0_i32 : BitVec 32 := 0#32
  let c1_i32 : BitVec 32 := 1#32
  let arg11 : BitVec 32 := Scf.iv c0_i32 c1_i32 k0_t1
  let c2_i32_38 : BitVec 32 := 2#32
  let c0_i32_39 : BitVec 32 := 0#32
  let v95 : BitVec 1 := Scalar.cmpi .eq c2_i32_38 c0_i32_39
  let c1_i32_40 : BitVec 32 := 1#32
  let v96 : BitVec 32 := Scalar.select v95 c1_i32_40 c2_i32_38
  let v97 : BitVec 32 := Scalar.remsi arg11 v96
  let c0_i32_42 : BitVec 32 := 0#32
  let v99 : BitVec 1 := Scalar.cmpi .slt v97 c0_i32_42
  let c0_i32_43 : BitVec 32 := 0#32
  let v100 : BitVec 1 := Scalar.cmpi .slt v96 c0_i32_43
  let v101 : BitVec 1 := Scalar.xori v99 v100
  let c0_i32_41 : BitVec 32 := 0#32
  let v98 : BitVec 1 := Scalar.cmpi .ne v97 c0_i32_41
  let v102 : BitVec 1 := Scalar.andi v101 v98
  let v103 : BitVec 32 := Scalar.addi v97 v96
  let v104 : BitVec 32 := Scalar.select v102 v103 v97
  let v105 : BitVec 32 := Scalar.subi v104 c0_i32_44
  let c1_i32_45 : BitVec 32 := 1#32
  let v107 : BitVec 32 := Scalar.divsi v105 c1_i32_45
  let v108 : BitVec 32 := Scalar.muli v107 c1_i32_45
  let v109 : BitVec 32 := Scalar.addi c0_i32_44 v108
  let v106 : BitVec 32 := Scalar.addi c0_i32_44 v105
  let c1_i32_47 : BitVec 32 := 1#32
  ⟨v109, v106, c1_i32_47⟩
def k0_mult7 (k0_t1 : Fin k0_t1_loop.trips) : BitVec 32 :=
  let c0_i32 : BitVec 32 := 0#32
  let c1_i32 : BitVec 32 := 1#32
  let arg11 : BitVec 32 := Scf.iv c0_i32 c1_i32 k0_t1
  let c512_i32 : BitVec 32 := 512#32
  let v47 : BitVec 32 := Scalar.muli arg11 c512_i32
  let v48 : BitVec 32 := v47
  let c512_i32_140 : BitVec 32 := 512#32
  let v453 : BitVec 32 := Scalar.subi v48 c512_i32_140
  v453
def k0_off9 (k0_t1 : Fin k0_t1_loop.trips) : Fin 2 → Nat :=
  let c0_i32 : BitVec 32 := 0#32
  let c1_i32 : BitVec 32 := 1#32
  let arg11 : BitVec 32 := Scf.iv c0_i32 c1_i32 k0_t1
  let c512_i32 : BitVec 32 := 512#32
  let v47 : BitVec 32 := Scalar.muli arg11 c512_i32
  let v48 : BitVec 32 := v47
  let c512_i32_140 : BitVec 32 := 512#32
  let v453 : BitVec 32 := Scalar.subi v48 c512_i32_140
  let v454 : BitVec 32 := v453
  let v455 : Index := Scalar.indexCast v454
  let c0_141 : Index := 0#32
  ![v455.toNat, 0]
def k0_off10 (k0_t1 : Fin k0_t1_loop.trips) : Fin 2 → Nat :=
  let c0_i32 : BitVec 32 := 0#32
  let c1_i32 : BitVec 32 := 1#32
  let arg11 : BitVec 32 := Scf.iv c0_i32 c1_i32 k0_t1
  let c512_i32 : BitVec 32 := 512#32
  let v47 : BitVec 32 := Scalar.muli arg11 c512_i32
  let v48 : BitVec 32 := v47
  let v112 : Index := Scalar.indexCast v48
  let c0_48 : Index := 0#32
  ![v112.toNat, 0]
def k0_mult8 (k0_t1 : Fin k0_t1_loop.trips) : BitVec 32 :=
  let c0_i32 : BitVec 32 := 0#32
  let c1_i32 : BitVec 32 := 1#32
  let arg11 : BitVec 32 := Scf.iv c0_i32 c1_i32 k0_t1
  let c512_i32 : BitVec 32 := 512#32
  let v47 : BitVec 32 := Scalar.muli arg11 c512_i32
  let v48 : BitVec 32 := v47
  let c256_i32 : BitVec 32 := 256#32
  let v274 : BitVec 32 := Scalar.addi v48 c256_i32
  v274
def k0_off11 (k0_t1 : Fin k0_t1_loop.trips) : Fin 2 → Nat :=
  let c0_i32 : BitVec 32 := 0#32
  let c1_i32 : BitVec 32 := 1#32
  let arg11 : BitVec 32 := Scf.iv c0_i32 c1_i32 k0_t1
  let c512_i32 : BitVec 32 := 512#32
  let v47 : BitVec 32 := Scalar.muli arg11 c512_i32
  let v48 : BitVec 32 := v47
  let c256_i32 : BitVec 32 := 256#32
  let v274 : BitVec 32 := Scalar.addi v48 c256_i32
  let v275 : BitVec 32 := v274
  let v283 : Index := Scalar.indexCast v275
  let c0_94 : Index := 0#32
  ![v283.toNat, 0]
def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let c6_i32 : BitVec 32 := 6#32
  let v0 : BitVec 32 := Scalar.addi c6_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2x4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4096x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4096x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== StickBwdRefIdeal.lean ====
abbrev S4096x1024 : Shape := ⟨2, ![4096, 1024]⟩
abbrev S4096x1536 : Shape := ⟨2, ![4096, 1536]⟩
abbrev S4096x768 : Shape := ⟨2, ![4096, 768]⟩
abbrev S1x4096x12x64 : Shape := ⟨4, ![1, 4096, 12, 64]⟩
abbrev S1x12x4096x64 : Shape := ⟨4, ![1, 12, 4096, 64]⟩
abbrev S1x12x4096x4096 : Shape := ⟨4, ![1, 12, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1x12x64x4096 : Shape := ⟨4, ![1, 12, 64, 4096]⟩

abbrev nBuf : Space → Nat
  | .hbm => 189
  | .vmem => 0
  | .smem => 0
  | _ => 0

abbrev hbmTy0_0 (i : Nat) : BufTy := match i % 128 with
  | 0 => ⟨S4096x1024, .bf16⟩
  | 1 => ⟨S4096x1536, .bf16⟩
  | 2 => ⟨S4096x1024, .bf16⟩
  | 3 => ⟨S4096x1024, .f32⟩
  | 4 => ⟨S4096x1536, .f32⟩
  | 5 => ⟨S4096x1024, .f32⟩
  | 6 => ⟨S4096x768, .f32⟩
  | 7 => ⟨S1x4096x12x64, .f32⟩
  | 8 => ⟨S1x12x4096x64, .f32⟩
  | 9 => ⟨S4096x768, .f32⟩
  | 10 => ⟨S1x4096x12x64, .f32⟩
  | 11 => ⟨S1x12x4096x64, .f32⟩
  | 12 => ⟨S4096x768, .f32⟩
  | 13 => ⟨S1x4096x12x64, .f32⟩
  | 14 => ⟨S1x12x4096x64, .f32⟩
  | 15 => ⟨S1x12x4096x4096, .f32⟩
  | 16 => ⟨S_, .f32⟩
  | 17 => ⟨S1x12x4096x4096, .f32⟩
  | 18 => ⟨S1x12x4096x4096, .f32⟩
  | 19 => ⟨S4096, .i32⟩
  | 20 => ⟨S1x4096, .i32⟩
  | 21 => ⟨S4096x1, .i32⟩
  | 22 => ⟨S4096x4096, .i32⟩
  | 23 => ⟨S4096x4096, .i32⟩
  | 24 => ⟨S4096x4096, .i1⟩
  | 25 => ⟨S1x12x4096x4096, .f32⟩
  | 26 => ⟨S1x12x4096x4096, .f32⟩
  | 27 => ⟨S_, .f32⟩
  | 28 => ⟨S1x12x4096x4096, .f32⟩
  | 29 => ⟨S1x12x4096x4096, .f32⟩
  | 30 => ⟨S1x12x4096x4096, .f32⟩
  | 31 => ⟨S1x12x4096x4096, .f32⟩
  | 32 => ⟨S1x12x4096x4096, .i1⟩
  | 33 => ⟨S1x12x4096x4096, .f32⟩
  | 34 => ⟨S1x12x4096x4096, .f32⟩
  | 35 => ⟨S1x12x4096x4096, .f32⟩
  | 36 => ⟨S1x12x4096x4096, .f32⟩
  | 37 => ⟨S1x12x4096x4096, .f32⟩
  | 38 => ⟨S1x12x4096x4096, .f32⟩
  | 39 => ⟨S1x12x4096x4096, .f32⟩
  | 40 => ⟨S1x12x4096x4096, .f32⟩
  | 41 => ⟨S_, .f32⟩
  | 42 => ⟨S1x12x4096x4096, .f32⟩
  | 43 => ⟨S1x12x4096x4096, .i1⟩
  | 44 => ⟨S_, .f32⟩
  | 45 => ⟨S1x12x4096x4096, .f32⟩
  | 46 => ⟨S1x12x4096x4096, .f32⟩
  | 47 => ⟨S_, .f32⟩
  | 48 => ⟨S1x12x4096x4096, .f32⟩
  | 49 => ⟨S1x12x4096x4096, .i1⟩
  | 50 => ⟨S_, .f32⟩
  | 51 => ⟨S1x12x4096x4096, .f32⟩
  | 52 => ⟨S1x12x4096x4096, .f32⟩
  | 53 => ⟨S1x12x4096x4096, .f32⟩
  | 54 => ⟨S1x12x4096x4096, .f32⟩
  | 55 => ⟨S_, .f32⟩
  | 56 => ⟨S_, .f32⟩
  | 57 => ⟨S_, .i1⟩
  | 58 => ⟨S_, .f32⟩
  | 59 => ⟨S_, .f32⟩
  | 60 => ⟨S_, .f32⟩
  | 61 => ⟨S_, .f32⟩
  | 62 => ⟨S1x12x4096x4096, .f32⟩
  | 63 => ⟨S1x12x4096x4096, .i1⟩
  | 64 => ⟨S_, .f32⟩
  | 65 => ⟨S1x12x4096x4096, .f32⟩
  | 66 => ⟨S1x12x4096x4096, .f32⟩
  | 67 => ⟨S1x12x4096x4096, .f32⟩
  | 68 => ⟨S1x12x4096x4096, .f32⟩
  | 69 => ⟨S1x12x4096x4096, .f32⟩
  | 70 => ⟨S_, .f32⟩
  | 71 => ⟨S1x12x4096x4096, .f32⟩
  | 72 => ⟨S1x12x4096x4096, .f32⟩
  | 73 => ⟨S1x12x4096x4096, .f32⟩
  | 74 => ⟨S_, .f32⟩
  | 75 => ⟨S_, .f32⟩
  | 76 => ⟨S1x12x4096x4096, .i1⟩
  | 77 => ⟨S1x12x4096x4096, .f32⟩
  | 78 => ⟨S1x12x4096x4096, .f32⟩
  | 79 => ⟨S_, .f32⟩
  | 80 => ⟨S1x12x4096x4096, .f32⟩
  | 81 => ⟨S_, .f32⟩
  | 82 => ⟨S_, .f32⟩
  | 83 => ⟨S1x12x4096x4096, .f32⟩
  | 84 => ⟨S1x12x4096x4096, .f32⟩
  | 85 => ⟨S1x12x4096x4096, .f32⟩
  | 86 => ⟨S_, .f32⟩
  | 87 => ⟨S1x12x4096x4096, .f32⟩
  | 88 => ⟨S1x12x4096x4096, .f32⟩
  | 89 => ⟨S1x12x4096x4096, .f32⟩
  | 90 => ⟨S1x12x4096x4096, .f32⟩
  | 91 => ⟨S1x12x4096x4096, .i1⟩
  | 92 => ⟨S1x12x4096x4096, .f32⟩
  | 93 => ⟨S1x12x4096x4096, .f32⟩
  | 94 => ⟨S1x12x4096x4096, .f32⟩
  | 95 => ⟨S1x12x4096x4096, .f32⟩
  | 96 => ⟨S1x12x4096x4096, .f32⟩
  | 97 => ⟨S1x12x4096x4096, .f32⟩
  | 98 => ⟨S1x12x4096x4096, .f32⟩
  | 99 => ⟨S1x12x4096x4096, .f32⟩
  | 100 => ⟨S_, .f32⟩
  | 101 => ⟨S1x12x4096x4096, .f32⟩
  | 102 => ⟨S1x12x4096x4096, .i1⟩
  | 103 => ⟨S_, .f32⟩
  | 104 => ⟨S1x12x4096x4096, .f32⟩
  | 105 => ⟨S1x12x4096x4096, .f32⟩
  | 106 => ⟨S_, .f32⟩
  | 107 => ⟨S1x12x4096x4096, .f32⟩
  | 108 => ⟨S1x12x4096x4096, .i1⟩
  | 109 => ⟨S_, .f32⟩
  | 110 => ⟨S1x12x4096x4096, .f32⟩
  | 111 => ⟨S1x12x4096x4096, .f32⟩
  | 112 => ⟨S1x12x4096x4096, .f32⟩
  | 113 => ⟨S1x12x4096x4096, .f32⟩
  | 114 => ⟨S_, .f32⟩
  | 115 => ⟨S_, .f32⟩
  | 116 => ⟨S_, .i1⟩
  | 117 => ⟨S_, .f32⟩
  | 118 => ⟨S_, .f32⟩
  | 119 => ⟨S_, .f32⟩
  | 120 => ⟨S_, .f32⟩
  | 121 => ⟨S1x12x4096x4096, .f32⟩
  | 122 => ⟨S1x12x4096x4096, .i1⟩
  | 123 => ⟨S_, .f32⟩
  | 124 => ⟨S1x12x4096x4096, .f32⟩
  | 125 => ⟨S1x12x4096x4096, .f32⟩
  | 126 => ⟨S1x12x4096x4096, .f32⟩
  | 127 => ⟨S1x12x4096x4096, .f32⟩
  | _ => ⟨S4096x1024, .bf16⟩

abbrev hbmTy0_1 (i : Nat) : BufTy := match i % 128 with
  | 0 => ⟨S1x12x4096x4096, .f32⟩
  | 1 => ⟨S_, .f32⟩
  | 2 => ⟨S1x12x4096x4096, .f32⟩
  | 3 => ⟨S1x12x4096x4096, .f32⟩
  | 4 => ⟨S1x12x4096x4096, .f32⟩
  | 5 => ⟨S1x12x4096x4096, .f32⟩
  | 6 => ⟨S1x12x4096x4096, .f32⟩
  | 7 => ⟨S_, .f32⟩
  | 8 => ⟨S_, .f32⟩
  | 9 => ⟨S1x12x4096x4096, .i1⟩
  | 10 => ⟨S1x12x4096x4096, .f32⟩
  | 11 => ⟨S1x12x4096x4096, .f32⟩
  | 12 => ⟨S_, .f32⟩
  | 13 => ⟨S1x12x4096x4096, .f32⟩
  | 14 => ⟨S1x12x4096x64, .f32⟩
  | 15 => ⟨S1x4096x12x64, .f32⟩
  | 16 => ⟨S4096x768, .f32⟩
  | 17 => ⟨S4096x768, .f32⟩
  | 18 => ⟨S1x4096x12x64, .f32⟩
  | 19 => ⟨S1x12x4096x64, .f32⟩
  | 20 => ⟨S1x12x64x4096, .f32⟩
  | 21 => ⟨S1x12x4096x64, .f32⟩
  | 22 => ⟨S1x12x4096x4096, .f32⟩
  | 23 => ⟨S_, .f32⟩
  | 24 => ⟨S1x12x4096x4096, .f32⟩
  | 25 => ⟨S1x12x4096x4096, .f32⟩
  | 26 => ⟨S1x12x4096x4096, .f32⟩
  | 27 => ⟨S1x12x4096x4096, .f32⟩
  | 28 => ⟨S1x12x4096x4096, .f32⟩
  | 29 => ⟨S1x12x4096x4096, .f32⟩
  | 30 => ⟨S1x12x4096x4096, .f32⟩
  | 31 => ⟨S_, .f32⟩
  | 32 => ⟨S_, .f32⟩
  | 33 => ⟨S1x12x4096x4096, .f32⟩
  | 34 => ⟨S1x12x4096x4096, .f32⟩
  | 35 => ⟨S_, .f32⟩
  | 36 => ⟨S1x12x4096x4096, .f32⟩
  | 37 => ⟨S1x12x4096x4096, .f32⟩
  | 38 => ⟨S1x12x4096x4096, .f32⟩
  | 39 => ⟨S1x12x4096x4096, .f32⟩
  | 40 => ⟨S1x12x4096x4096, .f32⟩
  | 41 => ⟨S1x12x4096x4096, .f32⟩
  | 42 => ⟨S1x12x4096x4096, .f32⟩
  | 43 => ⟨S_, .f32⟩
  | 44 => ⟨S1x12x4096x4096, .f32⟩
  | 45 => ⟨S1x12x4096x4096, .f32⟩
  | 46 => ⟨S1x12x4096x64, .f32⟩
  | 47 => ⟨S1x12x4096x64, .f32⟩
  | 48 => ⟨S1x4096x12x64, .f32⟩
  | 49 => ⟨S4096x768, .f32⟩
  | 50 => ⟨S_, .f32⟩
  | 51 => ⟨S4096x1536, .f32⟩
  | 52 => ⟨S1x4096x12x64, .f32⟩
  | 53 => ⟨S4096x768, .f32⟩
  | 54 => ⟨S_, .f32⟩
  | 55 => ⟨S4096x1536, .f32⟩
  | 56 => ⟨S4096x1536, .f32⟩
  | 57 => ⟨S1x4096x12x64, .f32⟩
  | 58 => ⟨S4096x768, .f32⟩
  | 59 => ⟨S4096x768, .bf16⟩
  | 60 => ⟨S4096x1536, .bf16⟩
  | _ => ⟨S4096x1024, .bf16⟩

abbrev hbmTy (i : Nat) : BufTy := match i / 128 with
  | 0 => hbmTy0_0 i
  | 1 => hbmTy0_1 i
  | _ => ⟨S4096x1024, .bf16⟩

abbrev bufTy : (tb : Table) → Fin (tcTables nBuf tb) → BufTy
  | .hbm, ⟨i, _⟩ => hbmTy i
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_call0_v0 : Ref sig .tc := ⟨.hbm, 26, rfl⟩
abbrev main_call0_call0_cst : Ref sig .tc := ⟨.hbm, 27, rfl⟩
abbrev main_call0_call0_v0 : Ref sig .tc := ⟨.hbm, 28, rfl⟩
abbrev main_call0_call0_v1 : Ref sig .tc := ⟨.hbm, 29, rfl⟩
abbrev main_call0_call0_v2 : Ref sig .tc := ⟨.hbm, 30, rfl⟩
abbrev main_call0_call0_v3 : Ref sig .tc := ⟨.hbm, 31, rfl⟩
abbrev main_call0_call0_v4 : Ref sig .tc := ⟨.hbm, 32, rfl⟩
abbrev main_call0_call0_v5 : Ref sig .tc := ⟨.hbm, 33, rfl⟩
abbrev main_call0_call0_v6 : Ref sig .tc := ⟨.hbm, 34, rfl⟩
abbrev main_call0_call0_v7 : Ref sig .tc := ⟨.hbm, 35, rfl⟩
abbrev main_call0_call0_v8 : Ref sig .tc := ⟨.hbm, 36, rfl⟩
abbrev main_call0_call0_v9 : Ref sig .tc := ⟨.hbm, 37, rfl⟩
abbrev main_call0_call0_v10 : Ref sig .tc := ⟨.hbm, 38, rfl⟩
abbrev main_call0_call0_v11 : Ref sig .tc := ⟨.hbm, 39, rfl⟩
abbrev main_call0_v1_0 : Ref sig .tc := ⟨.hbm, 40, rfl⟩
abbrev main_call0_call0_cst_0 : Ref sig .tc := ⟨.hbm, 41, rfl⟩
abbrev main_call0_call0_v13 : Ref sig .tc := ⟨.hbm, 42, rfl⟩
abbrev main_call0_call0_v14 : Ref sig .tc := ⟨.hbm, 43, rfl⟩
abbrev main_call0_call0_cst_1 : Ref sig .tc := ⟨.hbm, 44, rfl⟩
abbrev main_call0_call0_v15 : Ref sig .tc := ⟨.hbm, 45, rfl⟩
abbrev main_call0_call0_v16 : Ref sig .tc := ⟨.hbm, 46, rfl⟩
abbrev main_call0_call0_cst_2 : Ref sig .tc := ⟨.hbm, 47, rfl⟩
abbrev main_call0_call0_v17 : Ref sig .tc := ⟨.hbm, 48, rfl⟩
abbrev main_call0_call0_v18 : Ref sig .tc := ⟨.hbm, 49, rfl⟩
abbrev main_call0_call0_cst_3 : Ref sig .tc := ⟨.hbm, 50, rfl⟩
abbrev main_call0_call0_v19 : Ref sig .tc := ⟨.hbm, 51, rfl⟩
abbrev main_call0_call0_v20 : Ref sig .tc := ⟨.hbm, 52, rfl⟩
abbrev main_call0_call0_v21 : Ref sig .tc := ⟨.hbm, 53, rfl⟩
abbrev main_v22_1 : Ref sig .tc := ⟨.hbm, 54, rfl⟩
abbrev main_call0_call0_cst_4 : Ref sig .tc := ⟨.hbm, 55, rfl⟩
abbrev main_call0_call0_cst_5 : Ref sig .tc := ⟨.hbm, 56, rfl⟩
abbrev main_call0_call0_v23 : Ref sig .tc := ⟨.hbm, 57, rfl⟩
abbrev main_call0_call0_cst_6 : Ref sig .tc := ⟨.hbm, 58, rfl⟩
abbrev main_call0_call0_cst_7 : Ref sig .tc := ⟨.hbm, 59, rfl⟩
abbrev main_call0_call0_v24 : Ref sig .tc := ⟨.hbm, 60, rfl⟩
abbrev main_call0_call0_cst_8 : Ref sig .tc := ⟨.hbm, 61, rfl⟩
abbrev main_call0_call0_v25 : Ref sig .tc := ⟨.hbm, 62, rfl⟩
abbrev main_call0_call0_v26 : Ref sig .tc := ⟨.hbm, 63, rfl⟩
abbrev main_call0_call0_cst_9 : Ref sig .tc := ⟨.hbm, 64, rfl⟩
abbrev main_call0_call0_v27 : Ref sig .tc := ⟨.hbm, 65, rfl⟩
abbrev main_call0_call0_v28 : Ref sig .tc := ⟨.hbm, 66, rfl⟩
abbrev main_call0_call0_v29 : Ref sig .tc := ⟨.hbm, 67, rfl⟩
abbrev main_call0_call0_v30 : Ref sig .tc := ⟨.hbm, 68, rfl⟩
abbrev main_call0_call0_v31 : Ref sig .tc := ⟨.hbm, 69, rfl⟩
abbrev main_call0_call0_cst_10 : Ref sig .tc := ⟨.hbm, 70, rfl⟩
abbrev main_call0_call0_v32 : Ref sig .tc := ⟨.hbm, 71, rfl⟩
abbrev main_v22_2 : Ref sig .tc := ⟨.hbm, 72, rfl⟩
abbrev main_v22_0 : Ref sig .tc := ⟨.hbm, 73, rfl⟩
abbrev main_cst_0 : Ref sig .tc := ⟨.hbm, 74, rfl⟩
abbrev main_call1_v0 : Ref sig .tc := ⟨.hbm, 75, rfl⟩
abbrev main_v23_1 : Ref sig .tc := ⟨.hbm, 76, rfl⟩
abbrev main_call1_v2 : Ref sig .tc := ⟨.hbm, 77, rfl⟩
abbrev main_v23_0 : Ref sig .tc := ⟨.hbm, 78, rfl⟩
abbrev main_call1_cst : Ref sig .tc := ⟨.hbm, 79, rfl⟩
abbrev main_v23_2 : Ref sig .tc := ⟨.hbm, 80, rfl⟩
abbrev main_call2_cst : Ref sig .tc := ⟨.hbm, 81, rfl⟩
abbrev main_call2_v0 : Ref sig .tc := ⟨.hbm, 82, rfl⟩
abbrev main_v24 : Ref sig .tc := ⟨.hbm, 83, rfl⟩
abbrev main_v25 : Ref sig .tc := ⟨.hbm, 84, rfl⟩
abbrev main_call3_v0 : Ref sig .tc := ⟨.hbm, 85, rfl⟩
abbrev main_call3_call0_cst : Ref sig .tc := ⟨.hbm, 86, rfl⟩
abbrev main_call3_call0_v0 : Ref sig .tc := ⟨.hbm, 87, rfl⟩
abbrev main_call3_call0_v1 : Ref sig .tc := ⟨.hbm, 88, rfl⟩
abbrev main_call3_call0_v2 : Ref sig .tc := ⟨.hbm, 89, rfl⟩
abbrev main_call3_call0_v3 : Ref sig .tc := ⟨.hbm, 90, rfl⟩
abbrev main_call3_call0_v4 : Ref sig .tc := ⟨.hbm, 91, rfl⟩
abbrev main_call3_call0_v5 : Ref sig .tc := ⟨.hbm, 92, rfl⟩
abbrev main_call3_call0_v6 : Ref sig .tc := ⟨.hbm, 93, rfl⟩
abbrev main_call3_call0_v7 : Ref sig .tc := ⟨.hbm, 94, rfl⟩
abbrev main_call3_call0_v8 : Ref sig .tc := ⟨.hbm, 95, rfl⟩
abbrev main_call3_call0_v9 : Ref sig .tc := ⟨.hbm, 96, rfl⟩
abbrev main_call3_call0_v10 : Ref sig .tc := ⟨.hbm, 97, rfl⟩
abbrev main_call3_call0_v11 : Ref sig .tc := ⟨.hbm, 98, rfl⟩
abbrev main_call3_v1_0 : Ref sig .tc := ⟨.hbm, 99, rfl⟩
abbrev main_call3_call0_cst_0 : Ref sig .tc := ⟨.hbm, 100, rfl⟩
abbrev main_call3_call0_v13 : Ref sig .tc := ⟨.hbm, 101, rfl⟩
abbrev main_call3_call0_v14 : Ref sig .tc := ⟨.hbm, 102, rfl⟩
abbrev main_call3_call0_cst_1 : Ref sig .tc := ⟨.hbm, 103, rfl⟩
abbrev main_call3_call0_v15 : Ref sig .tc := ⟨.hbm, 104, rfl⟩
abbrev main_call3_call0_v16 : Ref sig .tc := ⟨.hbm, 105, rfl⟩
abbrev main_call3_call0_cst_2 : Ref sig .tc := ⟨.hbm, 106, rfl⟩
abbrev main_call3_call0_v17 : Ref sig .tc := ⟨.hbm, 107, rfl⟩
abbrev main_call3_call0_v18 : Ref sig .tc := ⟨.hbm, 108, rfl⟩
abbrev main_call3_call0_cst_3 : Ref sig .tc := ⟨.hbm, 109, rfl⟩
abbrev main_call3_call0_v19 : Ref sig .tc := ⟨.hbm, 110, rfl⟩
abbrev main_call3_call0_v20 : Ref sig .tc := ⟨.hbm, 111, rfl⟩
abbrev main_call3_call0_v21 : Ref sig .tc := ⟨.hbm, 112, rfl⟩
abbrev main_v26_1 : Ref sig .tc := ⟨.hbm, 113, rfl⟩
abbrev main_call3_call0_cst_4 : Ref sig .tc := ⟨.hbm, 114, rfl⟩
abbrev main_call3_call0_cst_5 : Ref sig .tc := ⟨.hbm, 115, rfl⟩
abbrev main_call3_call0_v23 : Ref sig .tc := ⟨.hbm, 116, rfl⟩
abbrev main_call3_call0_cst_6 : Ref sig .tc := ⟨.hbm, 117, rfl⟩
abbrev main_call3_call0_cst_7 : Ref sig .tc := ⟨.hbm, 118, rfl⟩
abbrev main_call3_call0_v24 : Ref sig .tc := ⟨.hbm, 119, rfl⟩
abbrev main_call3_call0_cst_8 : Ref sig .tc := ⟨.hbm, 120, rfl⟩
abbrev main_call3_call0_v25 : Ref sig .tc := ⟨.hbm, 121, rfl⟩
abbrev main_call3_call0_v26 : Ref sig .tc := ⟨.hbm, 122, rfl⟩
abbrev main_call3_call0_cst_9 : Ref sig .tc := ⟨.hbm, 123, rfl⟩
abbrev main_call3_call0_v27 : Ref sig .tc := ⟨.hbm, 124, rfl⟩
abbrev main_call3_call0_v28 : Ref sig .tc := ⟨.hbm, 125, rfl⟩
abbrev main_call3_call0_v29 : Ref sig .tc := ⟨.hbm, 126, rfl⟩
abbrev main_call3_call0_v30 : Ref sig .tc := ⟨.hbm, 127, rfl⟩
abbrev main_call3_call0_v31 : Ref sig .tc := ⟨.hbm, 128, rfl⟩
abbrev main_call3_call0_cst_10 : Ref sig .tc := ⟨.hbm, 129, rfl⟩
abbrev main_call3_call0_v32 : Ref sig .tc := ⟨.hbm, 130, rfl⟩
abbrev main_v26_2 : Ref sig .tc := ⟨.hbm, 131, rfl⟩
abbrev main_v26_0 : Ref sig .tc := ⟨.hbm, 132, rfl⟩
abbrev main_v27 : Ref sig .tc := ⟨.hbm, 133, rfl⟩
abbrev main_v28 : Ref sig .tc := ⟨.hbm, 134, rfl⟩
abbrev main_cst_1 : Ref sig .tc := ⟨.hbm, 135, rfl⟩
abbrev main_call4_v0 : Ref sig .tc := ⟨.hbm, 136, rfl⟩
abbrev main_v29_1 : Ref sig .tc := ⟨.hbm, 137, rfl⟩
abbrev main_call4_v2 : Ref sig .tc := ⟨.hbm, 138, rfl⟩
abbrev main_v29_0 : Ref sig .tc := ⟨.hbm, 139, rfl⟩
abbrev main_call4_cst : Ref sig .tc := ⟨.hbm, 140, rfl⟩
abbrev main_v29_2 : Ref sig .tc := ⟨.hbm, 141, rfl⟩
abbrev main_v30 : Ref sig .tc := ⟨.hbm, 142, rfl⟩
abbrev main_v31 : Ref sig .tc := ⟨.hbm, 143, rfl⟩
abbrev main_v32 : Ref sig .tc := ⟨.hbm, 144, rfl⟩
abbrev main_v33 : Ref sig .tc := ⟨.hbm, 145, rfl⟩
abbrev main_v34 : Ref sig .tc := ⟨.hbm, 146, rfl⟩
abbrev main_v35 : Ref sig .tc := ⟨.hbm, 147, rfl⟩
abbrev main_v36 : Ref sig .tc := ⟨.hbm, 148, rfl⟩
abbrev main_v37 : Ref sig .tc := ⟨.hbm, 149, rfl⟩
abbrev main_v38 : Ref sig .tc := ⟨.hbm, 150, rfl⟩
abbrev main_call5_cst : Ref sig .tc := ⟨.hbm, 151, rfl⟩
abbrev main_call5_v0 : Ref sig .tc := ⟨.hbm, 152, rfl⟩
abbrev main_v39 : Ref sig .tc := ⟨.hbm, 153, rfl⟩
abbrev main_v40 : Ref sig .tc := ⟨.hbm, 154, rfl⟩
abbrev main_call6_v0 : Ref sig .tc := ⟨.hbm, 155, rfl⟩
abbrev main_call6_v1 : Ref sig .tc := ⟨.hbm, 156, rfl⟩
abbrev main_v41 : Ref sig .tc := ⟨.hbm, 157, rfl⟩
abbrev main_v42 : Ref sig .tc := ⟨.hbm, 158, rfl⟩
abbrev main_call7_cst : Ref sig .tc := ⟨.hbm, 159, rfl⟩
abbrev main_call7_v0 : Ref sig .tc := ⟨.hbm, 160, rfl⟩
abbrev main_v43 : Ref sig .tc := ⟨.hbm, 161, rfl⟩
abbrev main_v44 : Ref sig .tc := ⟨.hbm, 162, rfl⟩
abbrev main_call8_cst : Ref sig .tc := ⟨.hbm, 163, rfl⟩
abbrev main_call8_v0 : Ref sig .tc := ⟨.hbm, 164, rfl⟩
abbrev main_v45 : Ref sig .tc := ⟨.hbm, 165, rfl⟩
abbrev main_call9_v0 : Ref sig .tc := ⟨.hbm, 166, rfl⟩
abbrev main_call9_v1 : Ref sig .tc := ⟨.hbm, 167, rfl⟩
abbrev main_v46 : Ref sig .tc := ⟨.hbm, 168, rfl⟩
abbrev main_v47 : Ref sig .tc := ⟨.hbm, 169, rfl⟩
abbrev main_v48 : Ref sig .tc := ⟨.hbm, 170, rfl⟩
abbrev main_cst_2 : Ref sig .tc := ⟨.hbm, 171, rfl⟩
abbrev main_v49 : Ref sig .tc := ⟨.hbm, 172, rfl⟩
abbrev main_v50 : Ref sig .tc := ⟨.hbm, 173, rfl⟩
abbrev main_v51 : Ref sig .tc := ⟨.hbm, 174, rfl⟩
abbrev main_v52 : Ref sig .tc := ⟨.hbm, 175, rfl⟩
abbrev main_v53 : Ref sig .tc := ⟨.hbm, 176, rfl⟩
abbrev main_v54 : Ref sig .tc := ⟨.hbm, 177, rfl⟩
abbrev main_cst_3 : Ref sig .tc := ⟨.hbm, 178, rfl⟩
abbrev main_v55 : Ref sig .tc := ⟨.hbm, 179, rfl⟩
abbrev main_v56 : Ref sig .tc := ⟨.hbm, 180, rfl⟩
abbrev main_v57 : Ref sig .tc := ⟨.hbm, 181, rfl⟩
abbrev main_cst_4 : Ref sig .tc := ⟨.hbm, 182, rfl⟩
abbrev main_v58 : Ref sig .tc := ⟨.hbm, 183, rfl⟩
abbrev main_v59 : Ref sig .tc := ⟨.hbm, 184, rfl⟩
abbrev main_v60 : Ref sig .tc := ⟨.hbm, 185, rfl⟩
abbrev main_v61 : Ref sig .tc := ⟨.hbm, 186, rfl⟩
abbrev main_v62 : Ref sig .tc := ⟨.hbm, 187, rfl⟩
abbrev main_v63 : Ref sig .tc := ⟨.hbm, 188, rfl⟩

abbrev nD : Nat := 1
abbrev τ : Topo := Topo.v7x

variable {F : FTy → Type} [FloatOps F]
-- ==== ScaleBwd.lean ====
abbrev S4096x1024 : Shape := ⟨2, ![4096, 1024]⟩
abbrev S4096x768 : Shape := ⟨2, ![4096, 768]⟩
abbrev S1x768 : Shape := ⟨2, ![1, 768]⟩
abbrev S512x768 : Shape := ⟨2, ![512, 768]⟩
abbrev S768 : Shape := ⟨1, ![768]⟩

abbrev nBuf : Space → Nat
  | .hbm => 5
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S4096x768, .bf16⟩
  | .hbm, ⟨2, _⟩ => ⟨S1x768, .f32⟩
  | .hbm, ⟨3, _⟩ => ⟨S4096x768, .bf16⟩
  | .hbm, ⟨4, _⟩ => ⟨S1x768, .f32⟩
  | .local _ .vmem, ⟨0, _⟩ => ⟨S512x768, .bf16⟩
  | .local _ .vmem, ⟨1, _⟩ => ⟨S512x768, .bf16⟩
  | .local _ .vmem, ⟨2, _⟩ => ⟨S512x768, .bf16⟩
  | .local _ .vmem, ⟨3, _⟩ => ⟨S512x768, .bf16⟩
  | .local _ .vmem, ⟨4, _⟩ => ⟨S1x768, .f32⟩
  | .local _ .vmem, ⟨5, _⟩ => ⟨S512x768, .bf16⟩
  | .local _ .vmem, ⟨6, _⟩ => ⟨S512x768, .bf16⟩
  | .local _ .vmem, ⟨7, _⟩ => ⟨S1x768, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ScaleBwdRefIdeal.lean ====
abbrev S4096x1024 : Shape := ⟨2, ![4096, 1024]⟩
abbrev S4096x768 : Shape := ⟨2, ![4096, 768]⟩
abbrev S1x768 : Shape := ⟨2, ![1, 768]⟩
abbrev S_ : Shape := ⟨0, ![]⟩
abbrev S4096x256 : Shape := ⟨2, ![4096, 256]⟩
abbrev S768 : Shape := ⟨1, ![768]⟩

abbrev nBuf : Space → Nat
  | .hbm => 19
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x768, .bf16⟩
  | .hbm, ⟨2, _⟩ => ⟨S1x768, .f32⟩
  | .hbm, ⟨3, _⟩ => ⟨S4096x1024, .f32⟩
  | .hbm, ⟨4, _⟩ => ⟨S4096x768, .f32⟩
  | .hbm, ⟨5, _⟩ => ⟨S_, .f32⟩
  | .hbm, ⟨6, _⟩ => ⟨S4096x256, .f32⟩
  | .hbm, ⟨7, _⟩ => ⟨S4096x768, .f32⟩
  | .hbm, ⟨8, _⟩ => ⟨S4096x768, .f32⟩
  | .hbm, ⟨9, _⟩ => ⟨S4096x1024, .f32⟩
  | .hbm, ⟨10, _⟩ => ⟨S4096x768, .f32⟩
  | .hbm, ⟨11, _⟩ => ⟨S4096x256, .f32⟩
  | .hbm, ⟨12, _⟩ => ⟨S4096x768, .f32⟩
  | .hbm, ⟨13, _⟩ => ⟨S_, .f32⟩
  | .hbm, ⟨14, _⟩ => ⟨S768, .f32⟩
  | .hbm, ⟨15, _⟩ => ⟨S1x768, .f32⟩
  | .hbm, ⟨16, _⟩ => ⟨S4096x768, .f32⟩
  | .hbm, ⟨17, _⟩ => ⟨S4096x768, .f32⟩
  | .hbm, ⟨18, _⟩ => ⟨S4096x768, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== SwigluBwd.lean ====
abbrev S4096x1024 : Shape := ⟨2, ![4096, 1024]⟩
abbrev S2816x1024 : Shape := ⟨2, ![2816, 1024]⟩
abbrev S4096x2816 : Shape := ⟨2, ![4096, 2816]⟩
abbrev S4096x5632 : Shape := ⟨2, ![4096, 5632]⟩
abbrev S256x1024 : Shape := ⟨2, ![256, 1024]⟩
abbrev S256x2816 : Shape := ⟨2, ![256, 2816]⟩
abbrev S256x5632 : Shape := ⟨2, ![256, 5632]⟩

abbrev nBuf : Space → Nat
  | .hbm => 5
  | .vmem => 9
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S4096x2816, .bf16⟩
  | .hbm, ⟨3, _⟩ => ⟨S4096x2816, .bf16⟩
  | .hbm, ⟨4, _⟩ => ⟨S4096x5632, .bf16⟩
  | .local _ .vmem, ⟨0, _⟩ => ⟨S256x1024, .bf16⟩
  | .local _ .vmem, ⟨1, _⟩ => ⟨S256x1024, .bf16⟩
  | .local _ .vmem, ⟨2, _⟩ => ⟨S2816x1024, .bf16⟩
  | .local _ .vmem, ⟨3, _⟩ => ⟨S256x2816, .bf16⟩
  | .local _ .vmem, ⟨4, _⟩ => ⟨S256x2816, .bf16⟩
  | .local _ .vmem, ⟨5, _⟩ => ⟨S256x2816, .bf16⟩
  | .local _ .vmem, ⟨6, _⟩ => ⟨S256x2816, .bf16⟩
  | .local _ .vmem, ⟨7, _⟩ => ⟨S256x5632, .bf16⟩
  | .local _ .vmem, ⟨8, _⟩ => ⟨S256x5632, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x5632 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== SwigluBwdRefIdeal.lean ====
abbrev S4096x1024 : Shape := ⟨2, ![4096, 1024]⟩
abbrev S2816x1024 : Shape := ⟨2, ![2816, 1024]⟩
abbrev S4096x2816 : Shape := ⟨2, ![4096, 2816]⟩
abbrev S4096x5632 : Shape := ⟨2, ![4096, 5632]⟩
abbrev S_ : Shape := ⟨0, ![]⟩

abbrev nBuf : Space → Nat
  | .hbm => 35
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S4096x2816, .bf16⟩
  | .hbm, ⟨3, _⟩ => ⟨S4096x2816, .bf16⟩
  | .hbm, ⟨4, _⟩ => ⟨S4096x1024, .f32⟩
  | .hbm, ⟨5, _⟩ => ⟨S2816x1024, .f32⟩
  | .hbm, ⟨6, _⟩ => ⟨S4096x2816, .f32⟩
  | .hbm, ⟨7, _⟩ => ⟨S4096x2816, .f32⟩
  | .hbm, ⟨8, _⟩ => ⟨S4096x5632, .f32⟩
  | .hbm, ⟨9, _⟩ => ⟨S4096x2816, .f32⟩
  | .hbm, ⟨10, _⟩ => ⟨S4096x2816, .f32⟩
  | .hbm, ⟨11, _⟩ => ⟨S4096x2816, .f32⟩
  | .hbm, ⟨12, _⟩ => ⟨S4096x2816, .f32⟩
  | .hbm, ⟨13, _⟩ => ⟨S_, .f32⟩
  | .hbm, ⟨14, _⟩ => ⟨S4096x2816, .f32⟩
  | .hbm, ⟨15, _⟩ => ⟨S4096x2816, .f32⟩
  | .hbm, ⟨16, _⟩ => ⟨S_, .f32⟩
  | .hbm, ⟨17, _⟩ => ⟨S4096x2816, .f32⟩
  | .hbm, ⟨18, _⟩ => ⟨S4096x2816, .f32⟩
  | .hbm, ⟨19, _⟩ => ⟨S_, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x1024, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S4096x5632, .f32⟩
  | .hbm, ⟨34, _⟩ => ⟨S4096x5632, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_v7_2 : Ref sig .tc := ⟨.hbm, 18, rfl⟩
abbrev main_call0_cst_1 : Ref sig .tc := ⟨.hbm, 19, rfl⟩
abbrev main_call0_v6 : Ref sig .tc := ⟨.hbm, 20, rfl⟩
abbrev main_call0_v7 : Ref sig .tc := ⟨.hbm, 21, rfl⟩
abbrev main_v7_1 : Ref sig .tc := ⟨.hbm, 22, rfl⟩
abbrev main_v7_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩

abbrev nD : Nat := 1
abbrev τ : Topo := Topo.v7x

variable {F : FTy → Type} [FloatOps F]
-- ==== MemNormBwd.lean ====
abbrev S256x1024 : Shape := ⟨2, ![256, 1024]⟩
abbrev S1x1024 : Shape := ⟨2, ![1, 1024]⟩
abbrev S256 : Shape := ⟨1, ![256]⟩
abbrev S256x1 : Shape := ⟨2, ![256, 1]⟩
abbrev S1024 : Shape := ⟨1, ![1024]⟩

abbrev nBuf : Space → Nat
  | .hbm => 4
  | .vmem => 4
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S256x1024, .f32⟩
  | .hbm, ⟨3, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== MemNormBwdRefIdeal.lean ====
abbrev S256x1024 : Shape := ⟨2, ![256, 1024]⟩
abbrev S1x1024 : Shape := ⟨2, ![1, 1024]⟩
abbrev S_ : Shape := ⟨0, ![]⟩
abbrev S256 : Shape := ⟨1, ![256]⟩
abbrev S256x1 : Shape := ⟨2, ![256, 1]⟩
abbrev S1024 : Shape := ⟨1, ![1024]⟩

abbrev nBuf : Space → Nat
  | .hbm => 22
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x1, .f32⟩
  | .hbm, ⟨14, _⟩ => ⟨S256x1024, .f32⟩
  | .hbm, ⟨15, _⟩ => ⟨S256x1024, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S1024, .f32⟩
  | .hbm, ⟨21, _⟩ => ⟨S1x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== LossHead.lean ====
abbrev S4096x1024 : Shape := ⟨2, ![4096, 1024]⟩
abbrev S1x1024 : Shape := ⟨2, ![1, 1024]⟩
abbrev S1x128 : Shape := ⟨2, ![1, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S4096x1024, .f32⟩
  | .hbm, ⟨4, _⟩ => ⟨S4096x1024, .bf16⟩
  | .hbm, ⟨5, _⟩ => ⟨S1x1024, .f32⟩
  | .hbm, ⟨6, _⟩ => ⟨S1x128, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .bf16⟩
  | .local _ .vmem, ⟨8, _⟩ => ⟨S512x1024, .bf16⟩
  | .local _ .vmem, ⟨9, _⟩ => ⟨S1x1024, .f32⟩
  | .local _ .vmem, ⟨10, _⟩ => ⟨S1x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LossHeadRefIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S1x128 : Shape := ⟨2, ![1, 128]⟩

abbrev nBuf : Space → Nat
  | .hbm => 70
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096, .f32⟩
  | .hbm, ⟨29, _⟩ => ⟨S_, .f32⟩
  | .hbm, ⟨30, _⟩ => ⟨S4096, .f32⟩
  | .hbm, ⟨31, _⟩ => ⟨S4096, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S4096, .f32⟩
  | .hbm, ⟨40, _⟩ => ⟨S_, .f32⟩
  | .hbm, ⟨41, _⟩ => ⟨S4096, .f32⟩
  | .hbm, ⟨42, _⟩ => ⟨S4096, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S4096, .f32⟩
  | .hbm, ⟨54, _⟩ => ⟨S4096x1, .f32⟩
  | .hbm, ⟨55, _⟩ => ⟨S4096x1024, .f32⟩
  | .hbm, ⟨56, _⟩ => ⟨S4096x1024, .f32⟩
  | .hbm, ⟨57, _⟩ => ⟨S4096x1, .f32⟩
  | .hbm, ⟨58, _⟩ => ⟨S_, .f32⟩
  | .hbm, ⟨59, _⟩ => ⟨S4096x1, .f32⟩
  | .hbm, ⟨60, _⟩ => ⟨S4096x1, .f32⟩
  | .hbm, ⟨61, _⟩ => ⟨S_, .f32⟩
  | .hbm, ⟨62, _⟩ => ⟨S4096, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S4096x1024, .bf16⟩
  | .hbm, ⟨69, _⟩ => ⟨S1x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_cst_8 : Ref sig .tc := ⟨.hbm, 36, rfl⟩
abbrev main_cst_9 : Ref sig .tc := ⟨.hbm, 37, rfl⟩
abbrev main_v24 : Ref sig .tc := ⟨.hbm, 38, rfl⟩
abbrev main_v25 : Ref sig .tc := ⟨.hbm, 39, rfl⟩
abbrev main_cst_10 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_11 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_13 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩

abbrev nD : Nat := 1
abbrev τ : Topo := Topo.v7x

variable {F : FTy → Type} [FloatOps F]
-- ==== GuNormBwd.lean ====
abbrev S4096x5632 : Shape := ⟨2, ![4096, 5632]⟩
abbrev S1024x5632 : Shape := ⟨2, ![1024, 5632]⟩
abbrev S4096x1024 : Shape := ⟨2, ![4096, 1024]⟩
abbrev S1x1024 : Shape := ⟨2, ![1, 1024]⟩
abbrev S256x5632 : Shape := ⟨2, ![256, 5632]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 8
  | .vmem => 13
  | .smem => 0
  | _ => 0

abbrev bufTy : (tb : Table) → Fin (tcTables nBuf tb) → BufTy
  | .hbm, ⟨0, _⟩ => ⟨S4096x5632, .bf16⟩
  | .hbm, ⟨1, _⟩ => ⟨S1024x5632, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S4096x1024, .bf16⟩
  | .hbm, ⟨7, _⟩ => ⟨S1x1024, .f32⟩
  | .local _ .vmem, ⟨0, _⟩ => ⟨S256x5632, .bf16⟩
  | .local _ .vmem, ⟨1, _⟩ => ⟨S256x5632, .bf16⟩
  | .local _ .vmem, ⟨2, _⟩ => ⟨S1024x5632, .bf16⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .bf16⟩
  | .local _ .vmem, ⟨11, _⟩ => ⟨S256x1024, .bf16⟩
  | .local _ .vmem, ⟨12, _⟩ => ⟨S1x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x5632 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== GuNormBwdRefIdeal.lean ====
abbrev S4096x5632 : Shape := ⟨2, ![4096, 5632]⟩
abbrev S1024x5632 : Shape := ⟨2, ![1024, 5632]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 53
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S1024x5632, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x5632, .f32⟩
  | .hbm, ⟨6, _⟩ => ⟨S1024x5632, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x5632, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096, .f32⟩
  | .hbm, ⟨37, _⟩ => ⟨S4096x1, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S_, .f32⟩
  | .hbm, ⟨46, _⟩ => ⟨S4096, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== KvNormBwd.lean ====
abbrev S4096x1536 : Shape := ⟨2, ![4096, 1536]⟩
abbrev S1024x1536 : Shape := ⟨2, ![1024, 1536]⟩
abbrev S4096x1024 : Shape := ⟨2, ![4096, 1024]⟩
abbrev S1x1024 : Shape := ⟨2, ![1, 1024]⟩
abbrev S256x1536 : Shape := ⟨2, ![256, 1536]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 11
  | .vmem => 17
  | .smem => 0
  | _ => 0

abbrev bufTy : (tb : Table) → Fin (tcTables nBuf tb) → BufTy
  | .hbm, ⟨0, _⟩ => ⟨S4096x1536, .bf16⟩
  | .hbm, ⟨1, _⟩ => ⟨S1024x1536, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S1x1024, .f32⟩
  | .hbm, ⟨6, _⟩ => ⟨S4096x1024, .f32⟩
  | .hbm, ⟨7, _⟩ => ⟨S4096x1024, .f32⟩
  | .hbm, ⟨8, _⟩ => ⟨S4096x1024, .bf16⟩
  | .hbm, ⟨9, _⟩ => ⟨S1x1024, .f32⟩
  | .hbm, ⟨10, _⟩ => ⟨S1x1024, .f32⟩
  | .local _ .vmem, ⟨0, _⟩ => ⟨S256x1536, .bf16⟩
  | .local _ .vmem, ⟨1, _⟩ => ⟨S256x1536, .bf16⟩
  | .local _ .vmem, ⟨2, _⟩ => ⟨S1024x1536, .bf16⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S1x1024, .f32⟩
  | .local _ .vmem, ⟨8, _⟩ => ⟨S1x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .bf16⟩
  | .local _ .vmem, ⟨14, _⟩ => ⟨S256x1024, .bf16⟩
  | .local _ .vmem, ⟨15, _⟩ => ⟨S1x1024, .f32⟩
  | .local _ .vmem, ⟨16, _⟩ => ⟨S1x1024, .f32⟩
  | _, _ => ⟨S4096x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== KvNormBwdRefIdeal.lean ====
abbrev S4096x1536 : Shape := ⟨2, ![4096, 1536]⟩
abbrev S1024x1536 : Shape := ⟨2, ![1024, 1536]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 98
  | .vmem => 0
  | .smem => 0
  | _ => 0

abbrev bufTy : (tb : Table) → Fin (tcTables nBuf tb) → BufTy
  | .hbm, ⟨0, _⟩ => ⟨S4096x1536, .bf16⟩
  | .hbm, ⟨1, _⟩ => ⟨S1024x1536, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S1x1024, .f32⟩
  | .hbm, ⟨6, _⟩ => ⟨S4096x1024, .f32⟩
  | .hbm, ⟨7, _⟩ => ⟨S4096x1536, .f32⟩
  | .hbm, ⟨8, _⟩ => ⟨S1024x1536, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1536, .f32⟩
  | .hbm, ⟨29, _⟩ => ⟨S4096x1024, .f32⟩
  | .hbm, ⟨30, _⟩ => ⟨S_, .f32⟩
  | .hbm, ⟨31, _⟩ => ⟨S4096, .f32⟩
  | .hbm, ⟨32, _⟩ => ⟨S4096x1, .f32⟩
  | .hbm, ⟨33, _⟩ => ⟨S_, .f32⟩
  | .hbm, ⟨34, _⟩ => ⟨S4096x1, .f32⟩
  | .hbm, ⟨35, _⟩ => ⟨S4096x1, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S4096x1, .f32⟩
  | .hbm, ⟨40, _⟩ => ⟨S4096x1, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S_, .f32⟩
  | .hbm, ⟨50, _⟩ => ⟨S1024, .f32⟩
  | .hbm, ⟨51, _⟩ => ⟨S1x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S_, .f32⟩
  | .hbm, ⟨56, _⟩ => ⟨S4096, .f32⟩
  | .hbm, ⟨57, _⟩ => ⟨S4096x1, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1, .f32⟩
  | .hbm, ⟨62, _⟩ => ⟨S_, .f32⟩
  | .hbm, ⟨63, _⟩ => ⟨S4096x1, .f32⟩
  | .hbm, ⟨64, _⟩ => ⟨S4096x1, .f32⟩
  | .hbm, ⟨65, _⟩ => ⟨S_, .f32⟩
  | .hbm, ⟨66, _⟩ => ⟨S4096, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S_, .f32⟩
  | .hbm, ⟨75, _⟩ => ⟨S1024, .f32⟩
  | .hbm, ⟨76, _⟩ => ⟨S1x1024, .f32⟩
  | .hbm, ⟨77, _⟩ => ⟨S4096x1024, .f32⟩
  | .hbm, ⟨78, _⟩ => ⟨S4096x1024, .f32⟩
  | .hbm, ⟨79, _⟩ => ⟨S4096x1024, .f32⟩
  | .hbm, ⟨80, _⟩ => ⟨S_, .f32⟩
  | .hbm, ⟨81, _⟩ => ⟨S4096, .f32⟩
  | .hbm, ⟨82, _⟩ => ⟨S4096x1, .f32⟩
  | .hbm, ⟨83, _⟩ => ⟨S4096x1024, .f32⟩
  | .hbm, ⟨84, _⟩ => ⟨S4096x1024, .f32⟩
  | .hbm, ⟨85, _⟩ => ⟨S4096x1024, .f32⟩
  | .hbm, ⟨86, _⟩ => ⟨S4096x1, .f32⟩
  | .hbm, ⟨87, _⟩ => ⟨S_, .f32⟩
  | .hbm, ⟨88, _⟩ => ⟨S4096x1, .f32⟩
  | .hbm, ⟨89, _⟩ => ⟨S4096x1, .f32⟩
  | .hbm, ⟨90, _⟩ => ⟨S_, .f32⟩
  | .hbm, ⟨91, _⟩ => ⟨S4096, .f32⟩
  | .hbm, ⟨92, _⟩ => ⟨S4096x1024, .f32⟩
  | .hbm, ⟨93, _⟩ => ⟨S4096x1024, .f32⟩
  | .hbm, ⟨94, _⟩ => ⟨S4096x1024, .f32⟩
  | .hbm, ⟨95, _⟩ => ⟨S4096x1024, .f32⟩
  | .hbm, ⟨96, _⟩ => ⟨S4096x1024, .f32⟩
  | .hbm, ⟨97, _⟩ => ⟨S4096x1024, .bf16⟩
  | _, _ => ⟨S4096x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_cst_5 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_6 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_8 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_9 : Ref sig .tc := ⟨.hbm, 62, rfl⟩
abbrev main_v45 : Ref sig .tc := ⟨.hbm, 63, rfl⟩
abbrev main_v46 : Ref sig .tc := ⟨.hbm, 64, rfl⟩
abbrev main_cst_10 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_11 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_12 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_cst_13 : Ref sig .tc := ⟨.hbm, 87, rfl⟩
abbrev main_v66 : Ref sig .tc := ⟨.hbm, 88, rfl⟩
abbrev main_v67 : Ref sig .tc := ⟨.hbm, 89, rfl⟩
abbrev main_cst_14 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩

abbrev nD : Nat := 1
abbrev τ : Topo := Topo.v7x

variable {F : FTy → Type} [FloatOps F]
-- ==== MemAttnBwd.lean ====
abbrev S4096x1024 : Shape := ⟨2, ![4096, 1024]⟩
abbrev S256x512 : Shape := ⟨2, ![256, 512]⟩
abbrev S4096x256 : Shape := ⟨2, ![4096, 256]⟩
abbrev S512x256 : Shape := ⟨2, ![512, 256]⟩
abbrev S512x128 : Shape := ⟨2, ![512, 128]⟩
abbrev S256x128 : Shape := ⟨2, ![256, 128]⟩
abbrev S512 : Shape := ⟨1, ![512]⟩
abbrev S512x1 : Shape := ⟨2, ![512, 1]⟩

abbrev nBuf : Space → Nat
  | .hbm => 5
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S256x512, .bf16⟩
  | .hbm, ⟨2, _⟩ => ⟨S4096x1024, .bf16⟩
  | .hbm, ⟨3, _⟩ => ⟨S4096x256, .bf16⟩
  | .hbm, ⟨4, _⟩ => ⟨S256x512, .f32⟩
  | .local _ .vmem, ⟨0, _⟩ => ⟨S512x256, .f32⟩
  | .local _ .vmem, ⟨1, _⟩ => ⟨S512x256, .f32⟩
  | .local _ .vmem, ⟨2, _⟩ => ⟨S256x512, .bf16⟩
  | .local _ .vmem, ⟨3, _⟩ => ⟨S512x256, .bf16⟩
  | .local _ .vmem, ⟨4, _⟩ => ⟨S512x256, .bf16⟩
  | .local _ .vmem, ⟨5, _⟩ => ⟨S512x256, .bf16⟩
  | .local _ .vmem, ⟨6, _⟩ => ⟨S512x256, .bf16⟩
  | .local _ .vmem, ⟨7, _⟩ => ⟨S256x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== MemAttnBwdRefIdeal.lean ====
abbrev S4096x1024 : Shape := ⟨2, ![4096, 1024]⟩
abbrev S256x512 : Shape := ⟨2, ![256, 512]⟩
abbrev S4096x256 : Shape := ⟨2, ![4096, 256]⟩
abbrev S1x4096x256 : Shape := ⟨3, ![1, 4096, 256]⟩
abbrev S1x256x512 : Shape := ⟨3, ![1, 256, 512]⟩
abbrev S1x256x256 : Shape := ⟨3, ![1, 256, 256]⟩
abbrev S1x256x4x64 : Shape := ⟨4, ![1, 256, 4, 64]⟩
abbrev S1x4096x4x64 : Shape := ⟨4, ![1, 4096, 4, 64]⟩
abbrev S1x4x4096x256 : Shape := ⟨4, ![1, 4, 4096, 256]⟩
abbrev S_ : Shape := ⟨0, ![]⟩
abbrev S1x4x4096 : Shape := ⟨3, ![1, 4, 4096]⟩
abbrev S1x4x4096x1 : Shape := ⟨4, ![1, 4, 4096, 1]⟩
abbrev S1x4x64x4096 : Shape := ⟨4, ![1, 4, 64, 4096]⟩
abbrev S1x4x64x256 : Shape := ⟨4, ![1, 4, 64, 256]⟩
abbrev S4x4096 : Shape := ⟨2, ![4, 4096]⟩
abbrev S1x4x256x64 : Shape := ⟨4, ![1, 4, 256, 64]⟩
abbrev S1x4x4096x64 : Shape := ⟨4, ![1, 4, 4096, 64]⟩

abbrev nBuf : Space → Nat
  | .hbm => 94
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S256x512, .bf16⟩
  | .hbm, ⟨2, _⟩ => ⟨S4096x1024, .bf16⟩
  | .hbm, ⟨3, _⟩ => ⟨S256x512, .f32⟩
  | .hbm, ⟨4, _⟩ => ⟨S4096x1024, .f32⟩
  | .hbm, ⟨5, _⟩ => ⟨S4096x256, .f32⟩
  | .hbm, ⟨6, _⟩ => ⟨S1x4096x256, .f32⟩
  | .hbm, ⟨7, _⟩ => ⟨S1x256x512, .f32⟩
  | .hbm, ⟨8, _⟩ => ⟨S1x256x256, .f32⟩
  | .hbm, ⟨9, _⟩ => ⟨S1x256x256, .f32⟩
  | .hbm, ⟨10, _⟩ => ⟨S1x256x4x64, .f32⟩
  | .hbm, ⟨11, _⟩ => ⟨S1x256x4x64, .f32⟩
  | .hbm, ⟨12, _⟩ => ⟨S1x4096x4x64, .f32⟩
  | .hbm, ⟨13, _⟩ => ⟨S1x4x4096x256, .f32⟩
  | .hbm, ⟨14, _⟩ => ⟨S_, .f32⟩
  | .hbm, ⟨15, _⟩ => ⟨S1x4x4096x256, .f32⟩
  | .hbm, ⟨16, _⟩ => ⟨S1x4x4096x256, .f32⟩
  | .hbm, ⟨17, _⟩ => ⟨S_, .f32⟩
  | .hbm, ⟨18, _⟩ => ⟨S1x4x4096, .f32⟩
  | .hbm, ⟨19, _⟩ => ⟨S1x4x4096x1, .f32⟩
  | .hbm, ⟨20, _⟩ => ⟨S1x4x4096x256, .f32⟩
  | .hbm, ⟨21, _⟩ => ⟨S1x4x4096x256, .i1⟩
  | .hbm, ⟨22, _⟩ => ⟨S1x4x4096x256, .f32⟩
  | .hbm, ⟨23, _⟩ => ⟨S_, .f32⟩
  | .hbm, ⟨24, _⟩ => ⟨S1x4x4096, .f32⟩
  | .hbm, ⟨25, _⟩ => ⟨S_, .f32⟩
  | .hbm, ⟨26, _⟩ => ⟨S1x4x4096, .f32⟩
  | .hbm, ⟨27, _⟩ => ⟨S1x4x4096, .f32⟩
  | .hbm, ⟨28, _⟩ => ⟨S_, .f32⟩
  | .hbm, ⟨29, _⟩ => ⟨S1x4x4096, .f32⟩
  | .hbm, ⟨30, _⟩ => ⟨S1x4x4096, .i1⟩
  | .hbm, ⟨31, _⟩ => ⟨S_, .f32⟩
  | .hbm, ⟨32, _⟩ => ⟨S1x4x4096, .f32⟩
  | .hbm, ⟨33, _⟩ => ⟨S1x4x4096, .i1⟩
  | .hbm, ⟨34, _⟩ => ⟨S_, .f32⟩
  | .hbm, ⟨35, _⟩ => ⟨S1x4x4096, .f32⟩
  | .hbm, ⟨36, _⟩ => ⟨S_, .f32⟩
  | .hbm, ⟨37, _⟩ => ⟨S1x4x4096, .f32⟩
  | .hbm, ⟨38, _⟩ => ⟨S_, .f32⟩
  | .hbm, ⟨39, _⟩ => ⟨S1x4x4096, .f32⟩
  | .hbm, ⟨40, _⟩ => ⟨S1x4x4096, .f32⟩
  | .hbm, ⟨41, _⟩ => ⟨S1x4x4096, .f32⟩
  | .hbm, ⟨42, _⟩ => ⟨S1x4x4096x1, .f32⟩
  | .hbm, ⟨43, _⟩ => ⟨S1x4x4096x256, .f32⟩
  | .hbm, ⟨44, _⟩ => ⟨S1x4x4096x256, .f32⟩
  | .hbm, ⟨45, _⟩ => ⟨S1x4x4096x256, .f32⟩
  | .hbm, ⟨46, _⟩ => ⟨S_, .f32⟩
  | .hbm, ⟨47, _⟩ => ⟨S1x4x4096, .f32⟩
  | .hbm, ⟨48, _⟩ => ⟨S1x4x4096x1, .f32⟩
  | .hbm, ⟨49, _⟩ => ⟨S1x4x4096x256, .f32⟩
  | .hbm, ⟨50, _⟩ => ⟨S1x4x4096x256, .f32⟩
  | .hbm, ⟨51, _⟩ => ⟨S1x4x4096x1, .f32⟩
  | .hbm, ⟨52, _⟩ => ⟨S_, .f32⟩
  | .hbm, ⟨53, _⟩ => ⟨S1x4x4096x1, .f32⟩
  | .hbm, ⟨54, _⟩ => ⟨S1x4x4096x1, .f32⟩
  | .hbm, ⟨55, _⟩ => ⟨S1x4x64x4096, .f32⟩
  | .hbm, ⟨56, _⟩ => ⟨S1x4096x4x64, .f32⟩
  | .hbm, ⟨57, _⟩ => ⟨S1x4096x256, .f32⟩
  | .hbm, ⟨58, _⟩ => ⟨S4096x256, .f32⟩
  | .hbm, ⟨59, _⟩ => ⟨S1x4096x256, .f32⟩
  | .hbm, ⟨60, _⟩ => ⟨S1x4096x4x64, .f32⟩
  | .hbm, ⟨61, _⟩ => ⟨S1x4x64x4096, .f32⟩
  | .hbm, ⟨62, _⟩ => ⟨S1x4x4096x256, .f32⟩
  | .hbm, ⟨63, _⟩ => ⟨S1x4x64x256, .f32⟩
  | .hbm, ⟨64, _⟩ => ⟨S1x256x4x64, .f32⟩
  | .hbm, ⟨65, _⟩ => ⟨S1x4x4096x256, .f32⟩
  | .hbm, ⟨66, _⟩ => ⟨S1x4x4096x256, .f32⟩
  | .hbm, ⟨67, _⟩ => ⟨S1x4x4096x256, .f32⟩
  | .hbm, ⟨68, _⟩ => ⟨S_, .f32⟩
  | .hbm, ⟨69, _⟩ => ⟨S1x4x4096, .f32⟩
  | .hbm, ⟨70, _⟩ => ⟨S1x4x4096x1, .f32⟩
  | .hbm, ⟨71, _⟩ => ⟨S1x4x4096x1, .f32⟩
  | .hbm, ⟨72, _⟩ => ⟨S1x4x4096x256, .f32⟩
  | .hbm, ⟨73, _⟩ => ⟨S1x4x4096x256, .f32⟩
  | .hbm, ⟨74, _⟩ => ⟨S_, .f32⟩
  | .hbm, ⟨75, _⟩ => ⟨S4x4096, .f32⟩
  | .hbm, ⟨76, _⟩ => ⟨S1x4x4096, .f32⟩
  | .hbm, ⟨77, _⟩ => ⟨S1x4x4096x256, .f32⟩
  | .hbm, ⟨78, _⟩ => ⟨S1x4x4096x256, .f32⟩
  | .hbm, ⟨79, _⟩ => ⟨S1x4x4096x256, .f32⟩
  | .hbm, ⟨80, _⟩ => ⟨S_, .f32⟩
  | .hbm, ⟨81, _⟩ => ⟨S1x4x4096x256, .f32⟩
  | .hbm, ⟨82, _⟩ => ⟨S1x4x4096x256, .f32⟩
  | .hbm, ⟨83, _⟩ => ⟨S1x4x256x64, .f32⟩
  | .hbm, ⟨84, _⟩ => ⟨S1x256x4x64, .f32⟩
  | .hbm, ⟨85, _⟩ => ⟨S1x4x4096x64, .f32⟩
  | .hbm, ⟨86, _⟩ => ⟨S1x4096x4x64, .f32⟩
  | .hbm, ⟨87, _⟩ => ⟨S1x4096x256, .f32⟩
  | .hbm, ⟨88, _⟩ => ⟨S1x256x256, .f32⟩
  | .hbm, ⟨89, _⟩ => ⟨S1x256x256, .f32⟩
  | .hbm, ⟨90, _⟩ => ⟨S1x256x512, .f32⟩
  | .hbm, ⟨91, _⟩ => ⟨S4096x256, .f32⟩
  | .hbm, ⟨92, _⟩ => ⟨S4096x256, .bf16⟩
  | .hbm, ⟨93, _⟩ => ⟨S256x512, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_1 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩
abbrev main_cst_4 : Ref sig .tc := ⟨.hbm, 31, rfl⟩
abbrev main_v23 : Ref sig .tc := ⟨.hbm, 32, rfl⟩
abbrev main_v24 : Ref sig .tc := ⟨.hbm, 33, rfl⟩
abbrev main_cst_5 : Ref sig .tc := ⟨.hbm, 34, rfl⟩
abbrev main_v25 : Ref sig .tc := ⟨.hbm, 35, rfl⟩
abbrev main_cst_6 : Ref sig .tc := ⟨.hbm, 36, rfl⟩
abbrev main_v26 : Ref sig .tc := ⟨.hbm, 37, rfl⟩
abbrev main_cst_7 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_8 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_9 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_cst_10 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_cst_11 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_cst_12 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩

abbrev nD : Nat := 1
abbrev τ : Topo := Topo.v7x

variable {F : FTy → Type} [FloatOps F]
-- ==== StickFwd.lean ====
abbrev S4096x1024 : Shape := ⟨2, ![4096, 1024]⟩
abbrev S4096x1536 : Shape := ⟨2, ![4096, 1536]⟩
abbrev S4096x768 : Shape := ⟨2, ![4096, 768]⟩
abbrev S6x2x4096x128 : Shape := ⟨4, ![6, 2, 4096, 128]⟩
abbrev S4096x128 : Shape := ⟨2, ![4096, 128]⟩
abbrev S1x2x4096x128 : Shape := ⟨4, ![1, 2, 4096, 128]⟩
abbrev S512x512 : Shape := ⟨2, ![512, 512]⟩
abbrev S256x256 : Shape := ⟨2, ![256, 256]⟩
abbrev S512x256 : Shape := ⟨2, ![512, 256]⟩
abbrev S512x128 : Shape := ⟨2, ![512, 128]⟩
abbrev S256x1 : Shape := ⟨2, ![256, 1]⟩
abbrev S256x128 : Shape := ⟨2, ![256, 128]⟩
abbrev S256 : Shape := ⟨1, ![256]⟩
abbrev S512x1 : Shape := ⟨2, ![512, 1]⟩
abbrev S512 : Shape := ⟨1, ![512]⟩
abbrev S1x1x512x128 : Shape := ⟨4, ![1, 1, 512, 128]⟩

abbrev nBuf : Space → Nat
  | .hbm => 4
  | .vmem => 10
  | .smem => 0
  | _ => 0

abbrev bufTy : (tb : Table) → Fin (tcTables nBuf tb) → BufTy
  | .hbm, ⟨0, _⟩ => ⟨S4096x1024, .bf16⟩
  | .hbm, ⟨1, _⟩ => ⟨S4096x1536, .bf16⟩
  | .hbm, ⟨2, _⟩ => ⟨S4096x768, .bf16⟩
  | .hbm, ⟨3, _⟩ => ⟨S6x2x4096x128, .f32⟩
  | .local _ .vmem, ⟨0, _⟩ => ⟨S4096x128, .bf16⟩
  | .local _ .vmem, ⟨1, _⟩ => ⟨S4096x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S4096x128, .bf16⟩
  | .local _ .vmem, ⟨7, _⟩ => ⟨S4096x128, .bf16⟩
  | .local _ .vmem, ⟨8, _⟩ => ⟨S1x2x4096x128, .f32⟩
  | .local _ .vmem, ⟨9, _⟩ => ⟨S1x2x4096x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![6], ![false]⟩

@[reducible] def k0_t1_loop : Scf.Loop 32 :=
  let c0_i32 : BitVec 32 := 0#32
  let c8_i32 : BitVec 32 := 8#32
  let v20 : BitVec 32 := Scalar.addi c0_i32 c8_i32
  let c1_i32 : BitVec 32 := 1#32
  ⟨c0_i32, v20, c1_i32⟩
def k0_mult1 (k0_t1 : Fin k0_t1_loop.trips) : BitVec 32 :=
  let c0_i32 : BitVec 32 := 0#32
  let c1_i32 : BitVec 32 := 1#32
  let arg6 : BitVec 32 := Scf.iv c0_i32 c1_i32 k0_t1
  let c512_i32 : BitVec 32 := 512#32
  let v21 : BitVec 32 := Scalar.muli arg6 c512_i32
  v21
def k0_off1 (k0_t1 : Fin k0_t1_loop.trips) : Fin 2 → Nat :=
  let c0_i32 : BitVec 32 := 0#32
  let c1_i32 : BitVec 32 := 1#32
  let arg6 : BitVec 32 := Scf.iv c0_i32 c1_i32 k0_t1
  let c512_i32 : BitVec 32 := 512#32
  let v21 : BitVec 32 := Scalar.muli arg6 c512_i32
  let v22 : BitVec 32 := v21
  let v23 : Index := Scalar.indexCast v22
  let c0 : Index := 0#32
  ![v23.toNat, 0]
def k0_mult2 (k0_t1 : Fin k0_t1_loop.trips) : BitVec 32 :=
  let c0_i32 : BitVec 32 := 0#32
  let c1_i32 : BitVec 32 := 1#32
  let arg6 : BitVec 32 := Scf.iv c0_i32 c1_i32 k0_t1
  let c512_i32 : BitVec 32 := 512#32
  let v21 : BitVec 32 := Scalar.muli arg6 c512_i32
  let v22 : BitVec 32 := v21
  let c256_i32 : BitVec 32 := 256#32
  let v35 : BitVec 32 := Scalar.addi v22 c256_i32
  v35
def k0_off2 (k0_t1 : Fin k0_t1_loop.trips) : Fin 2 → Nat :=
  let c0_i32 : BitVec 32 := 0#32
  let c1_i32 : BitVec 32 := 1#32
  let arg6 : BitVec 32 := Scf.iv c0_i32 c1_i32 k0_t1
  let c512_i32 : BitVec 32 := 512#32
  let v21 : BitVec 32 := Scalar.muli arg6 c512_i32
  let v22 : BitVec 32 := v21
  let c256_i32 : BitVec 32 := 256#32
  let v35 : BitVec 32 := Scalar.addi v22 c256_i32
  let v36 : BitVec 32 := v35
  let v38 : Index := Scalar.indexCast v36
  let c0_6 : Index := 0#32
  ![v38.toNat, 0]
def k0_off3 (k0_t1 : Fin k0_t1_loop.trips) : Fin 2 → Nat :=
  let c0_i32 : BitVec 32 := 0#32
  let c1_i32 : BitVec 32 := 1#32
  let arg6 : BitVec 32 := Scf.iv c0_i32 c1_i32 k0_t1
  let c512_i32 : BitVec 32 := 512#32
  let v21 : BitVec 32 := Scalar.muli arg6 c512_i32
  let v22 : BitVec 32 := v21
  let v109 : Index := Scalar.indexCast v22
  let c0_28 : Index := 0#32
  ![v109.toNat, 0]
@[reducible] def k0_t2_loop (k0_t1 : Fin k0_t1_loop.trips) : Scf.Loop 32 :=
  let c0_i32_56 : BitVec 32 := 0#32
  let c0_i32 : BitVec 32 := 0#32
  let c1_i32 : BitVec 32 := 1#32
  let arg6 : BitVec 32 := Scf.iv c0_i32 c1_i32 k0_t1
  let c0_i32_50 : BitVec 32 := 0#32
  let v178 : BitVec 1 := Scalar.cmpi .sgt arg6 c0_i32_50
  let v179 : BitVec 32 := Scalar.extui v178
  let c0_i32_51 : BitVec 32 := 0#32
  let v180 : BitVec 1 := Scalar.cmpi .slt arg6 c0_i32_51
  let v181 : BitVec 32 := Scalar.extui v180
  let v182 : BitVec 32 := Scalar.subi v179 v181
  let c2_i32 : BitVec 32 := 2#32
  let c0_i32_52 : BitVec 32 := 0#32
  let v183 : BitVec 1 := Scalar.cmpi .sgt c2_i32 c0_i32_52
  let v184 : BitVec 32 := Scalar.extui v183
  let c0_i32_53 : BitVec 32 := 0#32
  let v185 : BitVec 1 := Scalar.cmpi .slt c2_i32 c0_i32_53
  let v186 : BitVec 32 := Scalar.extui v185
  let v187 : BitVec 32 := Scalar.subi v184 v186
  let v188 : BitVec 1 := Scalar.cmpi .ne v182 v187
  let v189 : BitVec 32 := Scalar.remsi arg6 c2_i32
  let c0_i32_54 : BitVec 32 := 0#32
  let v190 : BitVec 1 := Scalar.cmpi .ne v189 c0_i32_54
  let v191 : BitVec 1 := Scalar.andi v188 v190
  let v177 : BitVec 32 := Scalar.divsi arg6 c2_i32
  let c1_i32_55 : BitVec 32 := 1#32
  let v192 : BitVec 32 := Scalar.subi v177 c1_i32_55
  let v193 : BitVec 32 := Scalar.select v191 v192 v177
  let v194 : BitVec 32 := Scalar.subi v193 c0_i32_56
  let c1_i32_57 : BitVec 32 := 1#32
  let v196 : BitVec 32 := Scalar.divsi v194 c1_i32_57
  let v197 : BitVec 32 := Scalar.muli v196 c1_i32_57
  let v198 : BitVec 32 := Scalar.addi c0_i32_56 v197
  let c1_i32_58 : BitVec 32 := 1#32
  ⟨c0_i32_56, v198, c1_i32_58⟩
def k0_mult3 (k0_t1 : Fin k0_t1_loop.trips) (k0_t2 : Fin (k0_t2_loop k0_t1).trips) : BitVec 32 :=
  let c0_i32 : BitVec 32 := 0#32
  let c1_i32 : BitVec 32 := 1#32
  let arg6 : BitVec 32 := Scf.iv c0_i32 c1_i32 k0_t1
  let c512_i32 : BitVec 32 := 512#32
  let v21 : BitVec 32 := Scalar.muli arg6 c512_i32
  let v22 : BitVec 32 := v21
  let c2_i32_76 : BitVec 32 := 2#32
  let c0_i32_56 : BitVec 32 := 0#32
  let c1_i32_58 : BitVec 32 := 1#32
  let arg7 : BitVec 32 := Scf.iv c0_i32_56 c1_i32_58 k0_t2
  let v233 : BitVec 32 := Scalar.muli c2_i32_76 arg7
  let c1_i32_77 : BitVec 32 := 1#32
  let v234 : BitVec 32 := Scalar.addi v233 c1_i32_77
  let c512_i32_78 : BitVec 32 := 512#32
  let v235 : BitVec 32 := Scalar.muli v234 c512_i32_78
  let v236 : BitVec 32 := Scalar.subi v22 v235
  v236
def k0_off4 (k0_t1 : Fin k0_t1_loop.trips) (k0_t2 : Fin (k0_t2_loop k0_t1).trips) : Fin 2 → Nat :=
  let c0_i32 : BitVec 32 := 0#32
  let c1_i32 : BitVec 32 := 1#32
  let arg6 : BitVec 32 := Scf.iv c0_i32 c1_i32 k0_t1
  let c512_i32 : BitVec 32 := 512#32
  let v21 : BitVec 32 := Scalar.muli arg6 c512_i32
  let v22 : BitVec 32 := v21
  let c2_i32_76 : BitVec 32 := 2#32
  let c0_i32_56 : BitVec 32 := 0#32
  let c1_i32_58 : BitVec 32 := 1#32
  let arg7 : BitVec 32 := Scf.iv c0_i32_56 c1_i32_58 k0_t2
  let v233 : BitVec 32 := Scalar.muli c2_i32_76 arg7
  let c1_i32_77 : BitVec 32 := 1#32
  let v234 : BitVec 32 := Scalar.addi v233 c1_i32_77
  let c512_i32_78 : BitVec 32 := 512#32
  let v235 : BitVec 32 := Scalar.muli v234 c512_i32_78
  let v236 : BitVec 32 := Scalar.subi v22 v235
  let v238 : BitVec 32 := v236
  let v239 : Index := Scalar.indexCast v238
  let c0_80 : Index := 0#32
  ![v239.toNat, 0]
def k0_mult4 (k0_t1 : Fin k0_t1_loop.trips) (k0_t2 : Fin (k0_t2_loop k0_t1).trips) : BitVec 32 :=
  let c0_i32 : BitVec 32 := 0#32
  let c1_i32 : BitVec 32 := 1#32
  let arg6 : BitVec 32 := Scf.iv c0_i32 c1_i32 k0_t1
  let c512_i32 : BitVec 32 := 512#32
  let v21 : BitVec 32 := Scalar.muli arg6 c512_i32
  let v22 : BitVec 32 := v21
  let c2_i32_76 : BitVec 32 := 2#32
  let c0_i32_56 : BitVec 32 := 0#32
  let c1_i32_58 : BitVec 32 := 1#32
  let arg7 : BitVec 32 := Scf.iv c0_i32_56 c1_i32_58 k0_t2
  let v233 : BitVec 32 := Scalar.muli c2_i32_76 arg7
  let c1_i32_77 : BitVec 32 := 1#32
  let v234 : BitVec 32 := Scalar.addi v233 c1_i32_77
  let c512_i32_78 : BitVec 32 := 512#32
  let v235 : BitVec 32 := Scalar.muli v234 c512_i32_78
  let v236 : BitVec 32 := Scalar.subi v22 v235
  let c512_i32_79 : BitVec 32 := 512#32
  let v237 : BitVec 32 := Scalar.subi v236 c512_i32_79
  v237
def k0_off5 (k0_t1 : Fin k0_t1_loop.trips) (k0_t2 : Fin (k0_t2_loop k0_t1).trips) : Fin 2 → Nat :=
  let c0_i32 : BitVec 32 := 0#32
  let c1_i32 : BitVec 32 := 1#32
  let arg6 : BitVec 32 := Scf.iv c0_i32 c1_i32 k0_t1
  let c512_i32 : BitVec 32 := 512#32
  let v21 : BitVec 32 := Scalar.muli arg6 c512_i32
  let v22 : BitVec 32 := v21
  let c2_i32_76 : BitVec 32 := 2#32
  let c0_i32_56 : BitVec 32 := 0#32
  let c1_i32_58 : BitVec 32 := 1#32
  let arg7 : BitVec 32 := Scf.iv c0_i32_56 c1_i32_58 k0_t2
  let v233 : BitVec 32 := Scalar.muli c2_i32_76 arg7
  let c1_i32_77 : BitVec 32 := 1#32
  let v234 : BitVec 32 := Scalar.addi v233 c1_i32_77
  let c512_i32_78 : BitVec 32 := 512#32
  let v235 : BitVec 32 := Scalar.muli v234 c512_i32_78
  let v236 : BitVec 32 := Scalar.subi v22 v235
  let c512_i32_79 : BitVec 32 := 512#32
  let v237 : BitVec 32 := Scalar.subi v236 c512_i32_79
  let v297 : BitVec 32 := v237
  let v298 : Index := Scalar.indexCast v297
  let c0_98 : Index := 0#32
  ![v298.toNat, 0]
@[reducible] def k0_t3_loop (k0_t1 : Fin k0_t1_loop.trips) : Scf.Loop 32 :=
  let c0_i32_56 : BitVec 32 := 0#32
  let c0_i32 : BitVec 32 := 0#32
  let c1_i32 : BitVec 32 := 1#32
  let arg6 : BitVec 32 := Scf.iv c0_i32 c1_i32 k0_t1
  let c0_i32_50 : BitVec 32 := 0#32
  let v178 : BitVec 1 := Scalar.cmpi .sgt arg6 c0_i32_50
  let v179 : BitVec 32 := Scalar.extui v178
  let c0_i32_51 : BitVec 32 := 0#32
  let v180 : BitVec 1 := Scalar.cmpi .slt arg6 c0_i32_51
  let v181 : BitVec 32 := Scalar.extui v180
  let v182 : BitVec 32 := Scalar.subi v179 v181
  let c2_i32 : BitVec 32 := 2#32
  let c0_i32_52 : BitVec 32 := 0#32
  let v183 : BitVec 1 := Scalar.cmpi .sgt c2_i32 c0_i32_52
  let v184 : BitVec 32 := Scalar.extui v183
  let c0_i32_53 : BitVec 32 := 0#32
  let v185 : BitVec 1 := Scalar.cmpi .slt c2_i32 c0_i32_53
  let v186 : BitVec 32 := Scalar.extui v185
  let v187 : BitVec 32 := Scalar.subi v184 v186
  let v188 : BitVec 1 := Scalar.cmpi .ne v182 v187
  let v189 : BitVec 32 := Scalar.remsi arg6 c2_i32
  let c0_i32_54 : BitVec 32 := 0#32
  let v190 : BitVec 1 := Scalar.cmpi .ne v189 c0_i32_54
  let v191 : BitVec 1 := Scalar.andi v188 v190
  let v177 : BitVec 32 := Scalar.divsi arg6 c2_i32
  let c1_i32_55 : BitVec 32 := 1#32
  let v192 : BitVec 32 := Scalar.subi v177 c1_i32_55
  let v193 : BitVec 32 := Scalar.select v191 v192 v177
  let v194 : BitVec 32 := Scalar.subi v193 c0_i32_56
  let c1_i32_57 : BitVec 32 := 1#32
  let v196 : BitVec 32 := Scalar.divsi v194 c1_i32_57
  let v197 : BitVec 32 := Scalar.muli v196 c1_i32_57
  let v198 : BitVec 32 := Scalar.addi c0_i32_56 v197
  let v195 : BitVec 32 := Scalar.addi c0_i32_56 v194
  let c1_i32_59 : BitVec 32 := 1#32
  ⟨v198, v195, c1_i32_59⟩
def k0_mult5 (k0_t1 : Fin k0_t1_loop.trips) (k0_t3 : Fin (k0_t3_loop k0_t1).trips) : BitVec 32 :=
  let c0_i32 : BitVec 32 := 0#32
  let c1_i32 : BitVec 32 := 1#32
  let arg6 : BitVec 32 := Scf.iv c0_i32 c1_i32 k0_t1
  let c512_i32 : BitVec 32 := 512#32
  let v21 : BitVec 32 := Scalar.muli arg6 c512_i32
  let v22 : BitVec 32 := v21
  let c2_i32_76 : BitVec 32 := 2#32
  let c0_i32_56 : BitVec 32 := 0#32
  let c0_i32_50 : BitVec 32 := 0#32
  let v178 : BitVec 1 := Scalar.cmpi .sgt arg6 c0_i32_50
  let v179 : BitVec 32 := Scalar.extui v178
  let c0_i32_51 : BitVec 32 := 0#32
  let v180 : BitVec 1 := Scalar.cmpi .slt arg6 c0_i32_51
  let v181 : BitVec 32 := Scalar.extui v180
  let v182 : BitVec 32 := Scalar.subi v179 v181
  let c2_i32 : BitVec 32 := 2#32
  let c0_i32_52 : BitVec 32 := 0#32
  let v183 : BitVec 1 := Scalar.cmpi .sgt c2_i32 c0_i32_52
  let v184 : BitVec 32 := Scalar.extui v183
  let c0_i32_53 : BitVec 32 := 0#32
  let v185 : BitVec 1 := Scalar.cmpi .slt c2_i32 c0_i32_53
  let v186 : BitVec 32 := Scalar.extui v185
  let v187 : BitVec 32 := Scalar.subi v184 v186
  let v188 : BitVec 1 := Scalar.cmpi .ne v182 v187
  let v189 : BitVec 32 := Scalar.remsi arg6 c2_i32
  let c0_i32_54 : BitVec 32 := 0#32
  let v190 : BitVec 1 := Scalar.cmpi .ne v189 c0_i32_54
  let v191 : BitVec 1 := Scalar.andi v188 v190
  let v177 : BitVec 32 := Scalar.divsi arg6 c2_i32
  let c1_i32_55 : BitVec 32 := 1#32
  let v192 : BitVec 32 := Scalar.subi v177 c1_i32_55
  let v193 : BitVec 32 := Scalar.select v191 v192 v177
  let v194 : BitVec 32 := Scalar.subi v193 c0_i32_56
  let c1_i32_57 : BitVec 32 := 1#32
  let v196 : BitVec 32 := Scalar.divsi v194 c1_i32_57
  let v197 : BitVec 32 := Scalar.muli v196 c1_i32_57
  let v198 : BitVec 32 := Scalar.addi c0_i32_56 v197
  let c1_i32_59 : BitVec 32 := 1#32
  let arg7 : BitVec 32 := Scf.iv v198 c1_i32_59 k0_t3
  let v233 : BitVec 32 := Scalar.muli c2_i32_76 arg7
  let c1_i32_77 : BitVec 32 := 1#32
  let v234 : BitVec 32 := Scalar.addi v233 c1_i32_77
  let c512_i32_78 : BitVec 32 := 512#32
  let v235 : BitVec 32 := Scalar.muli v234 c512_i32_78
  let v236 : BitVec 32 := Scalar.subi v22 v235
  v236
def k0_off6 (k0_t1 : Fin k0_t1_loop.trips) (k0_t3 : Fin (k0_t3_loop k0_t1).trips) : Fin 2 → Nat :=
  let c0_i32 : BitVec 32 := 0#32
  let c1_i32 : BitVec 32 := 1#32
  let arg6 : BitVec 32 := Scf.iv c0_i32 c1_i32 k0_t1
  let c512_i32 : BitVec 32 := 512#32
  let v21 : BitVec 32 := Scalar.muli arg6 c512_i32
  let v22 : BitVec 32 := v21
  let c2_i32_76 : BitVec 32 := 2#32
  let c0_i32_56 : BitVec 32 := 0#32
  let c0_i32_50 : BitVec 32 := 0#32
  let v178 : BitVec 1 := Scalar.cmpi .sgt arg6 c0_i32_50
  let v179 : BitVec 32 := Scalar.extui v178
  let c0_i32_51 : BitVec 32 := 0#32
  let v180 : BitVec 1 := Scalar.cmpi .slt arg6 c0_i32_51
  let v181 : BitVec 32 := Scalar.extui v180
  let v182 : BitVec 32 := Scalar.subi v179 v181
  let c2_i32 : BitVec 32 := 2#32
  let c0_i32_52 : BitVec 32 := 0#32
  let v183 : BitVec 1 := Scalar.cmpi .sgt c2_i32 c0_i32_52
  let v184 : BitVec 32 := Scalar.extui v183
  let c0_i32_53 : BitVec 32 := 0#32
  let v185 : BitVec 1 := Scalar.cmpi .slt c2_i32 c0_i32_53
  let v186 : BitVec 32 := Scalar.extui v185
  let v187 : BitVec 32 := Scalar.subi v184 v186
  let v188 : BitVec 1 := Scalar.cmpi .ne v182 v187
  let v189 : BitVec 32 := Scalar.remsi arg6 c2_i32
  let c0_i32_54 : BitVec 32 := 0#32
  let v190 : BitVec 1 := Scalar.cmpi .ne v189 c0_i32_54
  let v191 : BitVec 1 := Scalar.andi v188 v190
  let v177 : BitVec 32 := Scalar.divsi arg6 c2_i32
  let c1_i32_55 : BitVec 32 := 1#32
  let v192 : BitVec 32 := Scalar.subi v177 c1_i32_55
  let v193 : BitVec 32 := Scalar.select v191 v192 v177
  let v194 : BitVec 32 := Scalar.subi v193 c0_i32_56
  let c1_i32_57 : BitVec 32 := 1#32
  let v196 : BitVec 32 := Scalar.divsi v194 c1_i32_57
  let v197 : BitVec 32 := Scalar.muli v196 c1_i32_57
  let v198 : BitVec 32 := Scalar.addi c0_i32_56 v197
  let c1_i32_59 : BitVec 32 := 1#32
  let arg7 : BitVec 32 := Scf.iv v198 c1_i32_59 k0_t3
  let v233 : BitVec 32 := Scalar.muli c2_i32_76 arg7
  let c1_i32_77 : BitVec 32 := 1#32
  let v234 : BitVec 32 := Scalar.addi v233 c1_i32_77
  let c512_i32_78 : BitVec 32 := 512#32
  let v235 : BitVec 32 := Scalar.muli v234 c512_i32_78
  let v236 : BitVec 32 := Scalar.subi v22 v235
  let v238 : BitVec 32 := v236
  let v239 : Index := Scalar.indexCast v238
  let c0_80 : Index := 0#32
  ![v239.toNat, 0]
def k0_mult6 (k0_t1 : Fin k0_t1_loop.trips) (k0_t3 : Fin (k0_t3_loop k0_t1).trips) : BitVec 32 :=
  let c0_i32 : BitVec 32 := 0#32
  let c1_i32 : BitVec 32 := 1#32
  let arg6 : BitVec 32 := Scf.iv c0_i32 c1_i32 k0_t1
  let c512_i32 : BitVec 32 := 512#32
  let v21 : BitVec 32 := Scalar.muli arg6 c512_i32
  let v22 : BitVec 32 := v21
  let c2_i32_76 : BitVec 32 := 2#32
  let c0_i32_56 : BitVec 32 := 0#32
  let c0_i32_50 : BitVec 32 := 0#32
  let v178 : BitVec 1 := Scalar.cmpi .sgt arg6 c0_i32_50
  let v179 : BitVec 32 := Scalar.extui v178
  let c0_i32_51 : BitVec 32 := 0#32
  let v180 : BitVec 1 := Scalar.cmpi .slt arg6 c0_i32_51
  let v181 : BitVec 32 := Scalar.extui v180
  let v182 : BitVec 32 := Scalar.subi v179 v181
  let c2_i32 : BitVec 32 := 2#32
  let c0_i32_52 : BitVec 32 := 0#32
  let v183 : BitVec 1 := Scalar.cmpi .sgt c2_i32 c0_i32_52
  let v184 : BitVec 32 := Scalar.extui v183
  let c0_i32_53 : BitVec 32 := 0#32
  let v185 : BitVec 1 := Scalar.cmpi .slt c2_i32 c0_i32_53
  let v186 : BitVec 32 := Scalar.extui v185
  let v187 : BitVec 32 := Scalar.subi v184 v186
  let v188 : BitVec 1 := Scalar.cmpi .ne v182 v187
  let v189 : BitVec 32 := Scalar.remsi arg6 c2_i32
  let c0_i32_54 : BitVec 32 := 0#32
  let v190 : BitVec 1 := Scalar.cmpi .ne v189 c0_i32_54
  let v191 : BitVec 1 := Scalar.andi v188 v190
  let v177 : BitVec 32 := Scalar.divsi arg6 c2_i32
  let c1_i32_55 : BitVec 32 := 1#32
  let v192 : BitVec 32 := Scalar.subi v177 c1_i32_55
  let v193 : BitVec 32 := Scalar.select v191 v192 v177
  let v194 : BitVec 32 := Scalar.subi v193 c0_i32_56
  let c1_i32_57 : BitVec 32 := 1#32
  let v196 : BitVec 32 := Scalar.divsi v194 c1_i32_57
  let v197 : BitVec 32 := Scalar.muli v196 c1_i32_57
  let v198 : BitVec 32 := Scalar.addi c0_i32_56 v197
  let c1_i32_59 : BitVec 32 := 1#32
  let arg7 : BitVec 32 := Scf.iv v198 c1_i32_59 k0_t3
  let v233 : BitVec 32 := Scalar.muli c2_i32_76 arg7
  let c1_i32_77 : BitVec 32 := 1#32
  let v234 : BitVec 32 := Scalar.addi v233 c1_i32_77
  let c512_i32_78 : BitVec 32 := 512#32
  let v235 : BitVec 32 := Scalar.muli v234 c512_i32_78
  let v236 : BitVec 32 := Scalar.subi v22 v235
  let c512_i32_79 : BitVec 32 := 512#32
  let v237 : BitVec 32 := Scalar.subi v236 c512_i32_79
  v237
def k0_off7 (k0_t1 : Fin k0_t1_loop.trips) (k0_t3 : Fin (k0_t3_loop k0_t1).trips) : Fin 2 → Nat :=
  let c0_i32 : BitVec 32 := 0#32
  let c1_i32 : BitVec 32 := 1#32
  let arg6 : BitVec 32 := Scf.iv c0_i32 c1_i32 k0_t1
  let c512_i32 : BitVec 32 := 512#32
  let v21 : BitVec 32 := Scalar.muli arg6 c512_i32
  let v22 : BitVec 32 := v21
  let c2_i32_76 : BitVec 32 := 2#32
  let c0_i32_56 : BitVec 32 := 0#32
  let c0_i32_50 : BitVec 32 := 0#32
  let v178 : BitVec 1 := Scalar.cmpi .sgt arg6 c0_i32_50
  let v179 : BitVec 32 := Scalar.extui v178
  let c0_i32_51 : BitVec 32 := 0#32
  let v180 : BitVec 1 := Scalar.cmpi .slt arg6 c0_i32_51
  let v181 : BitVec 32 := Scalar.extui v180
  let v182 : BitVec 32 := Scalar.subi v179 v181
  let c2_i32 : BitVec 32 := 2#32
  let c0_i32_52 : BitVec 32 := 0#32
  let v183 : BitVec 1 := Scalar.cmpi .sgt c2_i32 c0_i32_52
  let v184 : BitVec 32 := Scalar.extui v183
  let c0_i32_53 : BitVec 32 := 0#32
  let v185 : BitVec 1 := Scalar.cmpi .slt c2_i32 c0_i32_53
  let v186 : BitVec 32 := Scalar.extui v185
  let v187 : BitVec 32 := Scalar.subi v184 v186
  let v188 : BitVec 1 := Scalar.cmpi .ne v182 v187
  let v189 : BitVec 32 := Scalar.remsi arg6 c2_i32
  let c0_i32_54 : BitVec 32 := 0#32
  let v190 : BitVec 1 := Scalar.cmpi .ne v189 c0_i32_54
  let v191 : BitVec 1 := Scalar.andi v188 v190
  let v177 : BitVec 32 := Scalar.divsi arg6 c2_i32
  let c1_i32_55 : BitVec 32 := 1#32
  let v192 : BitVec 32 := Scalar.subi v177 c1_i32_55
  let v193 : BitVec 32 := Scalar.select v191 v192 v177
  let v194 : BitVec 32 := Scalar.subi v193 c0_i32_56
  let c1_i32_57 : BitVec 32 := 1#32
  let v196 : BitVec 32 := Scalar.divsi v194 c1_i32_57
  let v197 : BitVec 32 := Scalar.muli v196 c1_i32_57
  let v198 : BitVec 32 := Scalar.addi c0_i32_56 v197
  let c1_i32_59 : BitVec 32 := 1#32
  let arg7 : BitVec 32 := Scf.iv v198 c1_i32_59 k0_t3
  let v233 : BitVec 32 := Scalar.muli c2_i32_76 arg7
  let c1_i32_77 : BitVec 32 := 1#32
  let v234 : BitVec 32 := Scalar.addi v233 c1_i32_77
  let c512_i32_78 : BitVec 32 := 512#32
  let v235 : BitVec 32 := Scalar.muli v234 c512_i32_78
  let v236 : BitVec 32 := Scalar.subi v22 v235
  let c512_i32_79 : BitVec 32 := 512#32
  let v237 : BitVec 32 := Scalar.subi v236 c512_i32_79
  let v297 : BitVec 32 := v237
  let v298 : Index := Scalar.indexCast v297
  let c0_98 : Index := 0#32
  ![v298.toNat, 0]
@[reducible] def k0_t4_loop (k0_t1 : Fin k0_t1_loop.trips) : Scf.Loop 32 :=
  let c0_i32_66 : BitVec 32 := 0#32
  let c0_i32 : BitVec 32 := 0#32
  let c1_i32 : BitVec 32 := 1#32
  let arg6 : BitVec 32 := Scf.iv c0_i32 c1_i32 k0_t1
  let c2_i32_60 : BitVec 32 := 2#32
  let c0_i32_61 : BitVec 32 := 0#32
  let v201 : BitVec 1 := Scalar.cmpi .eq c2_i32_60 c0_i32_61
  let c1_i32_62 : BitVec 32 := 1#32
  let v202 : BitVec 32 := Scalar.select v201 c1_i32_62 c2_i32_60
  let v203 : BitVec 32 := Scalar.remsi arg6 v202
  let c0_i32_64 : BitVec 32 := 0#32
  let v205 : BitVec 1 := Scalar.cmpi .slt v203 c0_i32_64
  let c0_i32_65 : BitVec 32 := 0#32
  let v206 : BitVec 1 := Scalar.cmpi .slt v202 c0_i32_65
  let v207 : BitVec 1 := Scalar.xori v205 v206
  let c0_i32_63 : BitVec 32 := 0#32
  let v204 : BitVec 1 := Scalar.cmpi .ne v203 c0_i32_63
  let v208 : BitVec 1 := Scalar.andi v207 v204
  let v209 : BitVec 32 := Scalar.addi v203 v202
  let v210 : BitVec 32 := Scalar.select v208 v209 v203
  let v211 : BitVec 32 := Scalar.subi v210 c0_i32_66
  let c1_i32_67 : BitVec 32 := 1#32
  let v213 : BitVec 32 := Scalar.divsi v211 c1_i32_67
  let v214 : BitVec 32 := Scalar.muli v213 c1_i32_67
  let v215 : BitVec 32 := Scalar.addi c0_i32_66 v214
  let c1_i32_68 : BitVec 32 := 1#32
  ⟨c0_i32_66, v215, c1_i32_68⟩
def k0_mult7 : BitVec 32 :=
  let c0_i32_76 : BitVec 32 := 0#32
  c0_i32_76
@[reducible] def k0_t5_loop (k0_t1 : Fin k0_t1_loop.trips) : Scf.Loop 32 :=
  let c0_i32_66 : BitVec 32 := 0#32
  let c0_i32 : BitVec 32 := 0#32
  let c1_i32 : BitVec 32 := 1#32
  let arg6 : BitVec 32 := Scf.iv c0_i32 c1_i32 k0_t1
  let c2_i32_60 : BitVec 32 := 2#32
  let c0_i32_61 : BitVec 32 := 0#32
  let v201 : BitVec 1 := Scalar.cmpi .eq c2_i32_60 c0_i32_61
  let c1_i32_62 : BitVec 32 := 1#32
  let v202 : BitVec 32 := Scalar.select v201 c1_i32_62 c2_i32_60
  let v203 : BitVec 32 := Scalar.remsi arg6 v202
  let c0_i32_64 : BitVec 32 := 0#32
  let v205 : BitVec 1 := Scalar.cmpi .slt v203 c0_i32_64
  let c0_i32_65 : BitVec 32 := 0#32
  let v206 : BitVec 1 := Scalar.cmpi .slt v202 c0_i32_65
  let v207 : BitVec 1 := Scalar.xori v205 v206
  let c0_i32_63 : BitVec 32 := 0#32
  let v204 : BitVec 1 := Scalar.cmpi .ne v203 c0_i32_63
  let v208 : BitVec 1 := Scalar.andi v207 v204
  let v209 : BitVec 32 := Scalar.addi v203 v202
  let v210 : BitVec 32 := Scalar.select v208 v209 v203
  let v211 : BitVec 32 := Scalar.subi v210 c0_i32_66
  let c1_i32_67 : BitVec 32 := 1#32
  let v213 : BitVec 32 := Scalar.divsi v211 c1_i32_67
  let v214 : BitVec 32 := Scalar.muli v213 c1_i32_67
  let v215 : BitVec 32 := Scalar.addi c0_i32_66 v214
  let v212 : BitVec 32 := Scalar.addi c0_i32_66 v211
  let c1_i32_69 : BitVec 32 := 1#32
  ⟨v215, v212, c1_i32_69⟩
def k0_mult8 : BitVec 32 :=
  let c0_i32_76 : BitVec 32 := 0#32
  c0_i32_76
def k0_off8 (k0_t1 : Fin k0_t1_loop.trips) : Fin 4 → Nat :=
  let c0_71 : Index := 0#32
  let c0_72 : Index := 0#32
  let c0_i32 : BitVec 32 := 0#32
  let c1_i32 : BitVec 32 := 1#32
  let arg6 : BitVec 32 := Scf.iv c0_i32 c1_i32 k0_t1
  let c512_i32 : BitVec 32 := 512#32
  let v21 : BitVec 32 := Scalar.muli arg6 c512_i32
  let v22 : BitVec 32 := v21
  let v223 : Index := Scalar.indexCast v22
  let c0_73 : Index := 0#32
  ![0, 0, v223.toNat, 0]
def k0_off9 (k0_t1 : Fin k0_t1_loop.trips) : Fin 4 → Nat :=
  let c0_74 : Index := 0#32
  let c1 : Index := 1#32
  let c0_i32 : BitVec 32 := 0#32
  let c1_i32 : BitVec 32 := 1#32
  let arg6 : BitVec 32 := Scf.iv c0_i32 c1_i32 k0_t1
  let c512_i32 : BitVec 32 := 512#32
  let v21 : BitVec 32 := Scalar.muli arg6 c512_i32
  let v22 : BitVec 32 := v21
  let v229 : Index := Scalar.indexCast v22
  let c0_75 : Index := 0#32
  ![0, 1, v229.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c6_i32 : BitVec 32 := 6#32
  let v0 : BitVec 32 := Scalar.addi c6_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2x4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== StickFwdRefIdeal.lean ====
abbrev S4096x1024 : Shape := ⟨2, ![4096, 1024]⟩
abbrev S4096x1536 : Shape := ⟨2, ![4096, 1536]⟩
abbrev S4096x768 : Shape := ⟨2, ![4096, 768]⟩
abbrev S1x4096x12x64 : Shape := ⟨4, ![1, 4096, 12, 64]⟩
abbrev S1x12x4096x64 : Shape := ⟨4, ![1, 12, 4096, 64]⟩
abbrev S1x12x4096x4096 : Shape := ⟨4, ![1, 12, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1x12x4096 : Shape := ⟨3, ![1, 12, 4096]⟩
abbrev S6x2x4096x1 : Shape := ⟨4, ![6, 2, 4096, 1]⟩
abbrev S6x2x4096x128 : Shape := ⟨4, ![6, 2, 4096, 128]⟩

abbrev nBuf : Space → Nat
  | .hbm => 112
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1536, .bf16⟩
  | .hbm, ⟨2, _⟩ => ⟨S4096x1024, .f32⟩
  | .hbm, ⟨3, _⟩ => ⟨S4096x1536, .f32⟩
  | .hbm, ⟨4, _⟩ => ⟨S4096x768, .f32⟩
  | .hbm, ⟨5, _⟩ => ⟨S1x4096x12x64, .f32⟩
  | .hbm, ⟨6, _⟩ => ⟨S1x12x4096x64, .f32⟩
  | .hbm, ⟨7, _⟩ => ⟨S4096x768, .f32⟩
  | .hbm, ⟨8, _⟩ => ⟨S1x4096x12x64, .f32⟩
  | .hbm, ⟨9, _⟩ => ⟨S1x12x4096x64, .f32⟩
  | .hbm, ⟨10, _⟩ => ⟨S4096x768, .f32⟩
  | .hbm, ⟨11, _⟩ => ⟨S1x4096x12x64, .f32⟩
  | .hbm, ⟨12, _⟩ => ⟨S1x12x4096x64, .f32⟩
  | .hbm, ⟨13, _⟩ => ⟨S1x12x4096x4096, .f32⟩
  | .hbm, ⟨14, _⟩ => ⟨S_, .f32⟩
  | .hbm, ⟨15, _⟩ => ⟨S1x12x4096x4096, .f32⟩
  | .hbm, ⟨16, _⟩ => ⟨S1x12x4096x4096, .f32⟩
  | .hbm, ⟨17, _⟩ => ⟨S4096, .i32⟩
  | .hbm, ⟨18, _⟩ => ⟨S1x4096, .i32⟩
  | .hbm, ⟨19, _⟩ => ⟨S4096x1, .i32⟩
  | .hbm, ⟨20, _⟩ => ⟨S4096x4096, .i32⟩
  | .hbm, ⟨21, _⟩ => ⟨S4096x4096, .i32⟩
  | .hbm, ⟨22, _⟩ => ⟨S4096x4096, .i1⟩
  | .hbm, ⟨23, _⟩ => ⟨S1x12x4096x4096, .f32⟩
  | .hbm, ⟨24, _⟩ => ⟨S1x12x4096x4096, .f32⟩
  | .hbm, ⟨25, _⟩ => ⟨S_, .f32⟩
  | .hbm, ⟨26, _⟩ => ⟨S1x12x4096x4096, .f32⟩
  | .hbm, ⟨27, _⟩ => ⟨S1x12x4096x4096, .f32⟩
  | .hbm, ⟨28, _⟩ => ⟨S1x12x4096x4096, .f32⟩
  | .hbm, ⟨29, _⟩ => ⟨S1x12x4096x4096, .f32⟩
  | .hbm, ⟨30, _⟩ => ⟨S1x12x4096x4096, .i1⟩
  | .hbm, ⟨31, _⟩ => ⟨S1x12x4096x4096, .f32⟩
  | .hbm, ⟨32, _⟩ => ⟨S1x12x4096x4096, .f32⟩
  | .hbm, ⟨33, _⟩ => ⟨S1x12x4096x4096, .f32⟩
  | .hbm, ⟨34, _⟩ => ⟨S1x12x4096x4096, .f32⟩
  | .hbm, ⟨35, _⟩ => ⟨S1x12x4096x4096, .f32⟩
  | .hbm, ⟨36, _⟩ => ⟨S1x12x4096x4096, .f32⟩
  | .hbm, ⟨37, _⟩ => ⟨S1x12x4096x4096, .f32⟩
  | .hbm, ⟨38, _⟩ => ⟨S1x12x4096x4096, .f32⟩
  | .hbm, ⟨39, _⟩ => ⟨S1x12x4096x4096, .f32⟩
  | .hbm, ⟨40, _⟩ => ⟨S_, .f32⟩
  | .hbm, ⟨41, _⟩ => ⟨S_, .f32⟩
  | .hbm, ⟨42, _⟩ => ⟨S1x12x4096x4096, .i1⟩
  | .hbm, ⟨43, _⟩ => ⟨S1x12x4096x4096, .f32⟩
  | .hbm, ⟨44, _⟩ => ⟨S1x12x4096x4096, .f32⟩
  | .hbm, ⟨45, _⟩ => ⟨S_, .f32⟩
  | .hbm, ⟨46, _⟩ => ⟨S_, .f32⟩
  | .hbm, ⟨47, _⟩ => ⟨S1x12x4096x4096, .f32⟩
  | .hbm, ⟨48, _⟩ => ⟨S1x12x4096x4096, .f32⟩
  | .hbm, ⟨49, _⟩ => ⟨S1x12x4096x4096, .f32⟩
  | .hbm, ⟨50, _⟩ => ⟨S_, .f32⟩
  | .hbm, ⟨51, _⟩ => ⟨S1x12x4096x4096, .f32⟩
  | .hbm, ⟨52, _⟩ => ⟨S1x12x4096x4096, .f32⟩
  | .hbm, ⟨53, _⟩ => ⟨S1x12x4096x4096, .f32⟩
  | .hbm, ⟨54, _⟩ => ⟨S1x12x4096x4096, .f32⟩
  | .hbm, ⟨55, _⟩ => ⟨S1x12x4096x4096, .i1⟩
  | .hbm, ⟨56, _⟩ => ⟨S1x12x4096x4096, .f32⟩
  | .hbm, ⟨57, _⟩ => ⟨S1x12x4096x4096, .f32⟩
  | .hbm, ⟨58, _⟩ => ⟨S1x12x4096x4096, .f32⟩
  | .hbm, ⟨59, _⟩ => ⟨S1x12x4096x4096, .f32⟩
  | .hbm, ⟨60, _⟩ => ⟨S1x12x4096x4096, .f32⟩
  | .hbm, ⟨61, _⟩ => ⟨S1x12x4096x4096, .f32⟩
  | .hbm, ⟨62, _⟩ => ⟨S1x12x4096x4096, .f32⟩
  | .hbm, ⟨63, _⟩ => ⟨S1x12x4096x4096, .f32⟩
  | .hbm, ⟨64, _⟩ => ⟨S1x12x4096x4096, .f32⟩
  | .hbm, ⟨65, _⟩ => ⟨S1x12x4096x4096, .f32⟩
  | .hbm, ⟨66, _⟩ => ⟨S1x12x4096x4096, .f32⟩
  | .hbm, ⟨67, _⟩ => ⟨S_, .f32⟩
  | .hbm, ⟨68, _⟩ => ⟨S_, .f32⟩
  | .hbm, ⟨69, _⟩ => ⟨S1x12x4096x4096, .i1⟩
  | .hbm, ⟨70, _⟩ => ⟨S1x12x4096x4096, .f32⟩
  | .hbm, ⟨71, _⟩ => ⟨S1x12x4096x4096, .f32⟩
  | .hbm, ⟨72, _⟩ => ⟨S1x12x4096x64, .f32⟩
  | .hbm, ⟨73, _⟩ => ⟨S1x4096x12x64, .f32⟩
  | .hbm, ⟨74, _⟩ => ⟨S4096x768, .f32⟩
  | .hbm, ⟨75, _⟩ => ⟨S1x12x4096x4096, .f32⟩
  | .hbm, ⟨76, _⟩ => ⟨S_, .f32⟩
  | .hbm, ⟨77, _⟩ => ⟨S1x12x4096x4096, .f32⟩
  | .hbm, ⟨78, _⟩ => ⟨S1x12x4096x4096, .f32⟩
  | .hbm, ⟨79, _⟩ => ⟨S4096, .i32⟩
  | .hbm, ⟨80, _⟩ => ⟨S1x4096, .i32⟩
  | .hbm, ⟨81, _⟩ => ⟨S4096x1, .i32⟩
  | .hbm, ⟨82, _⟩ => ⟨S4096x4096, .i32⟩
  | .hbm, ⟨83, _⟩ => ⟨S4096x4096, .i32⟩
  | .hbm, ⟨84, _⟩ => ⟨S4096x4096, .i1⟩
  | .hbm, ⟨85, _⟩ => ⟨S1x12x4096x4096, .f32⟩
  | .hbm, ⟨86, _⟩ => ⟨S1x12x4096x4096, .f32⟩
  | .hbm, ⟨87, _⟩ => ⟨S_, .f32⟩
  | .hbm, ⟨88, _⟩ => ⟨S1x12x4096x4096, .f32⟩
  | .hbm, ⟨89, _⟩ => ⟨S1x12x4096x4096, .f32⟩
  | .hbm, ⟨90, _⟩ => ⟨S1x12x4096x4096, .f32⟩
  | .hbm, ⟨91, _⟩ => ⟨S1x12x4096x4096, .f32⟩
  | .hbm, ⟨92, _⟩ => ⟨S1x12x4096x4096, .i1⟩
  | .hbm, ⟨93, _⟩ => ⟨S1x12x4096x4096, .f32⟩
  | .hbm, ⟨94, _⟩ => ⟨S1x12x4096x4096, .f32⟩
  | .hbm, ⟨95, _⟩ => ⟨S1x12x4096x4096, .f32⟩
  | .hbm, ⟨96, _⟩ => ⟨S1x12x4096x4096, .f32⟩
  | .hbm, ⟨97, _⟩ => ⟨S1x12x4096x4096, .f32⟩
  | .hbm, ⟨98, _⟩ => ⟨S1x12x4096x4096, .f32⟩
  | .hbm, ⟨99, _⟩ => ⟨S1x12x4096x4096, .f32⟩
  | .hbm, ⟨100, _⟩ => ⟨S1x12x4096x4096, .f32⟩
  | .hbm, ⟨101, _⟩ => ⟨S1x12x4096x4096, .f32⟩
  | .hbm, ⟨102, _⟩ => ⟨S_, .f32⟩
  | .hbm, ⟨103, _⟩ => ⟨S_, .f32⟩
  | .hbm, ⟨104, _⟩ => ⟨S1x12x4096x4096, .i1⟩
  | .hbm, ⟨105, _⟩ => ⟨S1x12x4096x4096, .f32⟩
  | .hbm, ⟨106, _⟩ => ⟨S1x12x4096x4096, .f32⟩
  | .hbm, ⟨107, _⟩ => ⟨S_, .f32⟩
  | .hbm, ⟨108, _⟩ => ⟨S1x12x4096, .f32⟩
  | .hbm, ⟨109, _⟩ => ⟨S6x2x4096x1, .f32⟩
  | .hbm, ⟨110, _⟩ => ⟨S6x2x4096x128, .f32⟩
  | .hbm, ⟨111, _⟩ => ⟨S4096x768, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_cst : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_call0_v0 : Ref sig .tc := ⟨.hbm, 24, rfl⟩
abbrev main_call0_call0_cst : Ref sig .tc := ⟨.hbm, 25, rfl⟩
abbrev main_call0_call0_v0 : Ref sig .tc := ⟨.hbm, 26, rfl⟩
abbrev main_call0_call0_v1 : Ref sig .tc := ⟨.hbm, 27, rfl⟩
abbrev main_call0_call0_v2 : Ref sig .tc := ⟨.hbm, 28, rfl⟩
abbrev main_call0_call0_v3 : Ref sig .tc := ⟨.hbm, 29, rfl⟩
abbrev main_call0_call0_v4 : Ref sig .tc := ⟨.hbm, 30, rfl⟩
abbrev main_call0_call0_v5 : Ref sig .tc := ⟨.hbm, 31, rfl⟩
abbrev main_call0_call0_v6 : Ref sig .tc := ⟨.hbm, 32, rfl⟩
abbrev main_call0_call0_v7 : Ref sig .tc := ⟨.hbm, 33, rfl⟩
abbrev main_call0_call0_v8 : Ref sig .tc := ⟨.hbm, 34, rfl⟩
abbrev main_call0_call0_v9 : Ref sig .tc := ⟨.hbm, 35, rfl⟩
abbrev main_call0_call0_v10 : Ref sig .tc := ⟨.hbm, 36, rfl⟩
abbrev main_call0_call0_v11 : Ref sig .tc := ⟨.hbm, 37, rfl⟩
abbrev main_call0_v1 : Ref sig .tc := ⟨.hbm, 38, rfl⟩
abbrev main_v21 : Ref sig .tc := ⟨.hbm, 39, rfl⟩
abbrev main_cst_0 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v22 : Ref sig .tc := ⟨.hbm, 44, rfl⟩
abbrev main_call2_cst : Ref sig .tc := ⟨.hbm, 45, rfl⟩
abbrev main_call2_v0 : Ref sig .tc := ⟨.hbm, 46, rfl⟩
abbrev main_v23 : Ref sig .tc := ⟨.hbm, 47, rfl⟩
abbrev main_v24 : Ref sig .tc := ⟨.hbm, 48, rfl⟩
abbrev main_call3_v0 : Ref sig .tc := ⟨.hbm, 49, rfl⟩
abbrev main_call3_call0_cst : Ref sig .tc := ⟨.hbm, 50, rfl⟩
abbrev main_call3_call0_v0 : Ref sig .tc := ⟨.hbm, 51, rfl⟩
abbrev main_call3_call0_v1 : Ref sig .tc := ⟨.hbm, 52, rfl⟩
abbrev main_call3_call0_v2 : Ref sig .tc := ⟨.hbm, 53, rfl⟩
abbrev main_call3_call0_v3 : Ref sig .tc := ⟨.hbm, 54, rfl⟩
abbrev main_call3_call0_v4 : Ref sig .tc := ⟨.hbm, 55, rfl⟩
abbrev main_call3_call0_v5 : Ref sig .tc := ⟨.hbm, 56, rfl⟩
abbrev main_call3_call0_v6 : Ref sig .tc := ⟨.hbm, 57, rfl⟩
abbrev main_call3_call0_v7 : Ref sig .tc := ⟨.hbm, 58, rfl⟩
abbrev main_call3_call0_v8 : Ref sig .tc := ⟨.hbm, 59, rfl⟩
abbrev main_call3_call0_v9 : Ref sig .tc := ⟨.hbm, 60, rfl⟩
abbrev main_call3_call0_v10 : Ref sig .tc := ⟨.hbm, 61, rfl⟩
abbrev main_call3_call0_v11 : Ref sig .tc := ⟨.hbm, 62, rfl⟩
abbrev main_call3_v1 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_cst_1 : Ref sig .tc := ⟨.hbm, 67, rfl⟩
abbrev main_call4_v0 : Ref sig .tc := ⟨.hbm, 68, rfl⟩
abbrev main_call4_v1 : Ref sig .tc := ⟨.hbm, 69, rfl⟩
abbrev main_call4_v2 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_cst_2 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev main_call5_v0 : Ref sig .tc := ⟨.hbm, 86, rfl⟩
abbrev main_call5_call0_cst : Ref sig .tc := ⟨.hbm, 87, rfl⟩
abbrev main_call5_call0_v0 : Ref sig .tc := ⟨.hbm, 88, rfl⟩
abbrev main_call5_call0_v1 : Ref sig .tc := ⟨.hbm, 89, rfl⟩
abbrev main_call5_call0_v2 : Ref sig .tc := ⟨.hbm, 90, rfl⟩
abbrev main_call5_call0_v3 : Ref sig .tc := ⟨.hbm, 91, rfl⟩
abbrev main_call5_call0_v4 : Ref sig .tc := ⟨.hbm, 92, rfl⟩
abbrev main_call5_call0_v5 : Ref sig .tc := ⟨.hbm, 93, rfl⟩
abbrev main_call5_call0_v6 : Ref sig .tc := ⟨.hbm, 94, rfl⟩
abbrev main_call5_call0_v7 : Ref sig .tc := ⟨.hbm, 95, rfl⟩
abbrev main_call5_call0_v8 : Ref sig .tc := ⟨.hbm, 96, rfl⟩
abbrev main_call5_call0_v9 : Ref sig .tc := ⟨.hbm, 97, rfl⟩
abbrev main_call5_call0_v10 : Ref sig .tc := ⟨.hbm, 98, rfl⟩
abbrev main_call5_call0_v11 : Ref sig .tc := ⟨.hbm, 99, rfl⟩
abbrev main_call5_v1 : Ref sig .tc := ⟨.hbm, 100, rfl⟩
abbrev main_v42 : Ref sig .tc := ⟨.hbm, 101, rfl⟩
abbrev main_cst_3 : Ref sig .tc := ⟨.hbm, 102, rfl⟩
abbrev main_call6_v0 : Ref sig .tc := ⟨.hbm, 103, rfl⟩
abbrev main_call6_v1 : Ref sig .tc := ⟨.hbm, 104, rfl⟩
abbrev main_call6_v2 : Ref sig .tc := ⟨.hbm, 105, rfl⟩
abbrev main_v43 : Ref sig .tc := ⟨.hbm, 106, rfl⟩
abbrev main_cst_4 : Ref sig .tc := ⟨.hbm, 107, rfl⟩
abbrev main_v44 : Ref sig .tc := ⟨.hbm, 108, rfl⟩
abbrev main_v45 : Ref sig .tc := ⟨.hbm, 109, rfl⟩
abbrev main_v46 : Ref sig .tc := ⟨.hbm, 110, rfl⟩
abbrev main_v47 : Ref sig .tc := ⟨.hbm, 111, rfl⟩

abbrev nD : Nat := 1
abbrev τ : Topo := Topo.v7x

variable {F : FTy → Type} [FloatOps F]
-- ==== InNormBwd.lean ====
abbrev S4096x1024 : Shape := ⟨2, ![4096, 1024]⟩
abbrev S1024x1024 : Shape := ⟨2, ![1024, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 8
  | .vmem => 13
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S4096x1024, .bf16⟩
  | .hbm, ⟨7, _⟩ => ⟨S1x1024, .f32⟩
  | .local _ .vmem, ⟨0, _⟩ => ⟨S256x1024, .bf16⟩
  | .local _ .vmem, ⟨1, _⟩ => ⟨S256x1024, .bf16⟩
  | .local _ .vmem, ⟨2, _⟩ => ⟨S1024x1024, .bf16⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .bf16⟩
  | .local _ .vmem, ⟨11, _⟩ => ⟨S256x1024, .bf16⟩
  | .local _ .vmem, ⟨12, _⟩ => ⟨S1x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== InNormBwdRefIdeal.lean ====
abbrev S4096x1024 : Shape := ⟨2, ![4096, 1024]⟩
abbrev S1024x1024 : Shape := ⟨2, ![1024, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 53
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S1024x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096, .f32⟩
  | .hbm, ⟨37, _⟩ => ⟨S4096x1, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S_, .f32⟩
  | .hbm, ⟨46, _⟩ => ⟨S4096, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== MemAttnBwdB.lean ====
abbrev S4096x1024 : Shape := ⟨2, ![4096, 1024]⟩
abbrev S256x512 : Shape := ⟨2, ![256, 512]⟩
abbrev S4096x256 : Shape := ⟨2, ![4096, 256]⟩
abbrev S512x256 : Shape := ⟨2, ![512, 256]⟩
abbrev S512x128 : Shape := ⟨2, ![512, 128]⟩
abbrev S256x128 : Shape := ⟨2, ![256, 128]⟩
abbrev S512 : Shape := ⟨1, ![512]⟩
abbrev S512x1 : Shape := ⟨2, ![512, 1]⟩

abbrev nBuf : Space → Nat
  | .hbm => 5
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S256x512, .bf16⟩
  | .hbm, ⟨2, _⟩ => ⟨S4096x1024, .bf16⟩
  | .hbm, ⟨3, _⟩ => ⟨S4096x256, .bf16⟩
  | .hbm, ⟨4, _⟩ => ⟨S256x512, .f32⟩
  | .local _ .vmem, ⟨0, _⟩ => ⟨S512x256, .bf16⟩
  | .local _ .vmem, ⟨1, _⟩ => ⟨S512x256, .bf16⟩
  | .local _ .vmem, ⟨2, _⟩ => ⟨S256x512, .bf16⟩
  | .local _ .vmem, ⟨3, _⟩ => ⟨S512x256, .bf16⟩
  | .local _ .vmem, ⟨4, _⟩ => ⟨S512x256, .bf16⟩
  | .local _ .vmem, ⟨5, _⟩ => ⟨S512x256, .bf16⟩
  | .local _ .vmem, ⟨6, _⟩ => ⟨S512x256, .bf16⟩
  | .local _ .vmem, ⟨7, _⟩ => ⟨S256x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== MemAttnBwdBRefIdeal.lean ====
abbrev S4096x1024 : Shape := ⟨2, ![4096, 1024]⟩
abbrev S256x512 : Shape := ⟨2, ![256, 512]⟩
abbrev S4096x256 : Shape := ⟨2, ![4096, 256]⟩
abbrev S1x4096x256 : Shape := ⟨3, ![1, 4096, 256]⟩
abbrev S1x256x512 : Shape := ⟨3, ![1, 256, 512]⟩
abbrev S1x256x256 : Shape := ⟨3, ![1, 256, 256]⟩
abbrev S1x256x4x64 : Shape := ⟨4, ![1, 256, 4, 64]⟩
abbrev S1x4096x4x64 : Shape := ⟨4, ![1, 4096, 4, 64]⟩
abbrev S1x4x4096x256 : Shape := ⟨4, ![1, 4, 4096, 256]⟩
abbrev S_ : Shape := ⟨0, ![]⟩
abbrev S1x4x4096 : Shape := ⟨3, ![1, 4, 4096]⟩
abbrev S1x4x4096x1 : Shape := ⟨4, ![1, 4, 4096, 1]⟩
abbrev S1x4x64x4096 : Shape := ⟨4, ![1, 4, 64, 4096]⟩
abbrev S1x4x64x256 : Shape := ⟨4, ![1, 4, 64, 256]⟩
abbrev S4x4096 : Shape := ⟨2, ![4, 4096]⟩
abbrev S1x4x256x64 : Shape := ⟨4, ![1, 4, 256, 64]⟩
abbrev S1x4x4096x64 : Shape := ⟨4, ![1, 4, 4096, 64]⟩

abbrev nBuf : Space → Nat
  | .hbm => 95
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S256x512, .bf16⟩
  | .hbm, ⟨2, _⟩ => ⟨S4096x1024, .bf16⟩
  | .hbm, ⟨3, _⟩ => ⟨S4096x1024, .f32⟩
  | .hbm, ⟨4, _⟩ => ⟨S256x512, .f32⟩
  | .hbm, ⟨5, _⟩ => ⟨S4096x1024, .f32⟩
  | .hbm, ⟨6, _⟩ => ⟨S4096x256, .f32⟩
  | .hbm, ⟨7, _⟩ => ⟨S1x4096x256, .f32⟩
  | .hbm, ⟨8, _⟩ => ⟨S1x256x512, .f32⟩
  | .hbm, ⟨9, _⟩ => ⟨S1x256x256, .f32⟩
  | .hbm, ⟨10, _⟩ => ⟨S1x256x256, .f32⟩
  | .hbm, ⟨11, _⟩ => ⟨S1x256x4x64, .f32⟩
  | .hbm, ⟨12, _⟩ => ⟨S1x256x4x64, .f32⟩
  | .hbm, ⟨13, _⟩ => ⟨S1x4096x4x64, .f32⟩
  | .hbm, ⟨14, _⟩ => ⟨S1x4x4096x256, .f32⟩
  | .hbm, ⟨15, _⟩ => ⟨S_, .f32⟩
  | .hbm, ⟨16, _⟩ => ⟨S1x4x4096x256, .f32⟩
  | .hbm, ⟨17, _⟩ => ⟨S1x4x4096x256, .f32⟩
  | .hbm, ⟨18, _⟩ => ⟨S_, .f32⟩
  | .hbm, ⟨19, _⟩ => ⟨S1x4x4096, .f32⟩
  | .hbm, ⟨20, _⟩ => ⟨S1x4x4096x1, .f32⟩
  | .hbm, ⟨21, _⟩ => ⟨S1x4x4096x256, .f32⟩
  | .hbm, ⟨22, _⟩ => ⟨S1x4x4096x256, .i1⟩
  | .hbm, ⟨23, _⟩ => ⟨S1x4x4096x256, .f32⟩
  | .hbm, ⟨24, _⟩ => ⟨S_, .f32⟩
  | .hbm, ⟨25, _⟩ => ⟨S1x4x4096, .f32⟩
  | .hbm, ⟨26, _⟩ => ⟨S_, .f32⟩
  | .hbm, ⟨27, _⟩ => ⟨S1x4x4096, .f32⟩
  | .hbm, ⟨28, _⟩ => ⟨S1x4x4096, .f32⟩
  | .hbm, ⟨29, _⟩ => ⟨S_, .f32⟩
  | .hbm, ⟨30, _⟩ => ⟨S1x4x4096, .f32⟩
  | .hbm, ⟨31, _⟩ => ⟨S1x4x4096, .i1⟩
  | .hbm, ⟨32, _⟩ => ⟨S_, .f32⟩
  | .hbm, ⟨33, _⟩ => ⟨S1x4x4096, .f32⟩
  | .hbm, ⟨34, _⟩ => ⟨S1x4x4096, .i1⟩
  | .hbm, ⟨35, _⟩ => ⟨S_, .f32⟩
  | .hbm, ⟨36, _⟩ => ⟨S1x4x4096, .f32⟩
  | .hbm, ⟨37, _⟩ => ⟨S_, .f32⟩
  | .hbm, ⟨38, _⟩ => ⟨S1x4x4096, .f32⟩
  | .hbm, ⟨39, _⟩ => ⟨S_, .f32⟩
  | .hbm, ⟨40, _⟩ => ⟨S1x4x4096, .f32⟩
  | .hbm, ⟨41, _⟩ => ⟨S1x4x4096, .f32⟩
  | .hbm, ⟨42, _⟩ => ⟨S1x4x4096, .f32⟩
  | .hbm, ⟨43, _⟩ => ⟨S1x4x4096x1, .f32⟩
  | .hbm, ⟨44, _⟩ => ⟨S1x4x4096x256, .f32⟩
  | .hbm, ⟨45, _⟩ => ⟨S1x4x4096x256, .f32⟩
  | .hbm, ⟨46, _⟩ => ⟨S1x4x4096x256, .f32⟩
  | .hbm, ⟨47, _⟩ => ⟨S_, .f32⟩
  | .hbm, ⟨48, _⟩ => ⟨S1x4x4096, .f32⟩
  | .hbm, ⟨49, _⟩ => ⟨S1x4x4096x1, .f32⟩
  | .hbm, ⟨50, _⟩ => ⟨S1x4x4096x256, .f32⟩
  | .hbm, ⟨51, _⟩ => ⟨S1x4x4096x256, .f32⟩
  | .hbm, ⟨52, _⟩ => ⟨S1x4x4096x1, .f32⟩
  | .hbm, ⟨53, _⟩ => ⟨S_, .f32⟩
  | .hbm, ⟨54, _⟩ => ⟨S1x4x4096x1, .f32⟩
  | .hbm, ⟨55, _⟩ => ⟨S1x4x4096x1, .f32⟩
  | .hbm, ⟨56, _⟩ => ⟨S1x4x64x4096, .f32⟩
  | .hbm, ⟨57, _⟩ => ⟨S1x4096x4x64, .f32⟩
  | .hbm, ⟨58, _⟩ => ⟨S1x4096x256, .f32⟩
  | .hbm, ⟨59, _⟩ => ⟨S4096x256, .f32⟩
  | .hbm, ⟨60, _⟩ => ⟨S1x4096x256, .f32⟩
  | .hbm, ⟨61, _⟩ => ⟨S1x4096x4x64, .f32⟩
  | .hbm, ⟨62, _⟩ => ⟨S1x4x64x4096, .f32⟩
  | .hbm, ⟨63, _⟩ => ⟨S1x4x4096x256, .f32⟩
  | .hbm, ⟨64, _⟩ => ⟨S1x4x64x256, .f32⟩
  | .hbm, ⟨65, _⟩ => ⟨S1x256x4x64, .f32⟩
  | .hbm, ⟨66, _⟩ => ⟨S1x4x4096x256, .f32⟩
  | .hbm, ⟨67, _⟩ => ⟨S1x4x4096x256, .f32⟩
  | .hbm, ⟨68, _⟩ => ⟨S1x4x4096x256, .f32⟩
  | .hbm, ⟨69, _⟩ => ⟨S_, .f32⟩
  | .hbm, ⟨70, _⟩ => ⟨S1x4x4096, .f32⟩
  | .hbm, ⟨71, _⟩ => ⟨S1x4x4096x1, .f32⟩
  | .hbm, ⟨72, _⟩ => ⟨S1x4x4096x1, .f32⟩
  | .hbm, ⟨73, _⟩ => ⟨S1x4x4096x256, .f32⟩
  | .hbm, ⟨74, _⟩ => ⟨S1x4x4096x256, .f32⟩
  | .hbm, ⟨75, _⟩ => ⟨S_, .f32⟩
  | .hbm, ⟨76, _⟩ => ⟨S4x4096, .f32⟩
  | .hbm, ⟨77, _⟩ => ⟨S1x4x4096, .f32⟩
  | .hbm, ⟨78, _⟩ => ⟨S1x4x4096x256, .f32⟩
  | .hbm, ⟨79, _⟩ => ⟨S1x4x4096x256, .f32⟩
  | .hbm, ⟨80, _⟩ => ⟨S1x4x4096x256, .f32⟩
  | .hbm, ⟨81, _⟩ => ⟨S_, .f32⟩
  | .hbm, ⟨82, _⟩ => ⟨S1x4x4096x256, .f32⟩
  | .hbm, ⟨83, _⟩ => ⟨S1x4x4096x256, .f32⟩
  | .hbm, ⟨84, _⟩ => ⟨S1x4x256x64, .f32⟩
  | .hbm, ⟨85, _⟩ => ⟨S1x256x4x64, .f32⟩
  | .hbm, ⟨86, _⟩ => ⟨S1x4x4096x64, .f32⟩
  | .hbm, ⟨87, _⟩ => ⟨S1x4096x4x64, .f32⟩
  | .hbm, ⟨88, _⟩ => ⟨S1x4096x256, .f32⟩
  | .hbm, ⟨89, _⟩ => ⟨S1x256x256, .f32⟩
  | .hbm, ⟨90, _⟩ => ⟨S1x256x256, .f32⟩
  | .hbm, ⟨91, _⟩ => ⟨S1x256x512, .f32⟩
  | .hbm, ⟨92, _⟩ => ⟨S4096x256, .f32⟩
  | .hbm, ⟨93, _⟩ => ⟨S4096x256, .bf16⟩
  | .hbm, ⟨94, _⟩ => ⟨S256x512, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_cst_0 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_1 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_cst_4 : Ref sig .tc := ⟨.hbm, 32, rfl⟩
abbrev main_v24 : Ref sig .tc := ⟨.hbm, 33, rfl⟩
abbrev main_v25 : Ref sig .tc := ⟨.hbm, 34, rfl⟩
abbrev main_cst_5 : Ref sig .tc := ⟨.hbm, 35, rfl⟩
abbrev main_v26 : Ref sig .tc := ⟨.hbm, 36, rfl⟩
abbrev main_cst_6 : Ref sig .tc := ⟨.hbm, 37, rfl⟩
abbrev main_v27 : Ref sig .tc := ⟨.hbm, 38, rfl⟩
abbrev main_cst_7 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_8 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_9 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_cst_10 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_cst_11 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_cst_12 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩

abbrev nD : Nat := 1
abbrev τ : Topo := Topo.v7x

variable {F : FTy → Type} [FloatOps F]
-- ==== MemAttnFwd.lean ====
abbrev S4096x1024 : Shape := ⟨2, ![4096, 1024]⟩
abbrev S256x512 : Shape := ⟨2, ![256, 512]⟩
abbrev S4096x256 : Shape := ⟨2, ![4096, 256]⟩
abbrev S512x256 : Shape := ⟨2, ![512, 256]⟩
abbrev S512x128 : Shape := ⟨2, ![512, 128]⟩
abbrev S256x128 : Shape := ⟨2, ![256, 128]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S256x512, .bf16⟩
  | .hbm, ⟨2, _⟩ => ⟨S4096x256, .bf16⟩
  | .local _ .vmem, ⟨0, _⟩ => ⟨S512x256, .f32⟩
  | .local _ .vmem, ⟨1, _⟩ => ⟨S512x256, .f32⟩
  | .local _ .vmem, ⟨2, _⟩ => ⟨S256x512, .bf16⟩
  | .local _ .vmem, ⟨3, _⟩ => ⟨S512x256, .bf16⟩
  | .local _ .vmem, ⟨4, _⟩ => ⟨S512x256, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== MemAttnFwdRefIdeal.lean ====
abbrev S4096x1024 : Shape := ⟨2, ![4096, 1024]⟩
abbrev S256x512 : Shape := ⟨2, ![256, 512]⟩
abbrev S1x256x512 : Shape := ⟨3, ![1, 256, 512]⟩
abbrev S1x256x256 : Shape := ⟨3, ![1, 256, 256]⟩
abbrev S1x256x4x64 : Shape := ⟨4, ![1, 256, 4, 64]⟩
abbrev S4096x256 : Shape := ⟨2, ![4096, 256]⟩
abbrev S1x4096x256 : Shape := ⟨3, ![1, 4096, 256]⟩
abbrev S1x4096x4x64 : Shape := ⟨4, ![1, 4096, 4, 64]⟩
abbrev S1x4x4096x256 : Shape := ⟨4, ![1, 4, 4096, 256]⟩
abbrev S_ : Shape := ⟨0, ![]⟩
abbrev S1x4x4096 : Shape := ⟨3, ![1, 4, 4096]⟩
abbrev S1x4x4096x1 : Shape := ⟨4, ![1, 4, 4096, 1]⟩
abbrev S1x4x64x4096 : Shape := ⟨4, ![1, 4, 64, 4096]⟩

abbrev nBuf : Space → Nat
  | .hbm => 34
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S256x512, .bf16⟩
  | .hbm, ⟨2, _⟩ => ⟨S256x512, .f32⟩
  | .hbm, ⟨3, _⟩ => ⟨S1x256x512, .f32⟩
  | .hbm, ⟨4, _⟩ => ⟨S1x256x256, .f32⟩
  | .hbm, ⟨5, _⟩ => ⟨S1x256x256, .f32⟩
  | .hbm, ⟨6, _⟩ => ⟨S1x256x4x64, .f32⟩
  | .hbm, ⟨7, _⟩ => ⟨S1x256x4x64, .f32⟩
  | .hbm, ⟨8, _⟩ => ⟨S4096x256, .f32⟩
  | .hbm, ⟨9, _⟩ => ⟨S1x4096x256, .f32⟩
  | .hbm, ⟨10, _⟩ => ⟨S1x4096x4x64, .f32⟩
  | .hbm, ⟨11, _⟩ => ⟨S1x4x4096x256, .f32⟩
  | .hbm, ⟨12, _⟩ => ⟨S_, .f32⟩
  | .hbm, ⟨13, _⟩ => ⟨S1x4x4096x256, .f32⟩
  | .hbm, ⟨14, _⟩ => ⟨S1x4x4096x256, .f32⟩
  | .hbm, ⟨15, _⟩ => ⟨S_, .f32⟩
  | .hbm, ⟨16, _⟩ => ⟨S1x4x4096, .f32⟩
  | .hbm, ⟨17, _⟩ => ⟨S_, .f32⟩
  | .hbm, ⟨18, _⟩ => ⟨S1x4x4096, .f32⟩
  | .hbm, ⟨19, _⟩ => ⟨S1x4x4096, .f32⟩
  | .hbm, ⟨20, _⟩ => ⟨S1x4x4096x1, .f32⟩
  | .hbm, ⟨21, _⟩ => ⟨S1x4x4096x256, .f32⟩
  | .hbm, ⟨22, _⟩ => ⟨S1x4x4096x256, .f32⟩
  | .hbm, ⟨23, _⟩ => ⟨S1x4x4096x256, .f32⟩
  | .hbm, ⟨24, _⟩ => ⟨S_, .f32⟩
  | .hbm, ⟨25, _⟩ => ⟨S1x4x4096, .f32⟩
  | .hbm, ⟨26, _⟩ => ⟨S1x4x4096x1, .f32⟩
  | .hbm, ⟨27, _⟩ => ⟨S1x4x4096x256, .f32⟩
  | .hbm, ⟨28, _⟩ => ⟨S1x4x4096x256, .f32⟩
  | .hbm, ⟨29, _⟩ => ⟨S1x4x64x4096, .f32⟩
  | .hbm, ⟨30, _⟩ => ⟨S1x4096x4x64, .f32⟩
  | .hbm, ⟨31, _⟩ => ⟨S1x4096x256, .f32⟩
  | .hbm, ⟨32, _⟩ => ⟨S4096x256, .f32⟩
  | .hbm, ⟨33, _⟩ => ⟨S4096x256, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_2 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩

abbrev nD : Nat := 1
abbrev τ : Topo := Topo.v7x

variable {F : FTy → Type} [FloatOps F]
-- ==== MemAttnFwdB.lean ====
abbrev S4096x1024 : Shape := ⟨2, ![4096, 1024]⟩
abbrev S256x512 : Shape := ⟨2, ![256, 512]⟩
abbrev S4096x256 : Shape := ⟨2, ![4096, 256]⟩
abbrev S512x256 : Shape := ⟨2, ![512, 256]⟩
abbrev S512x128 : Shape := ⟨2, ![512, 128]⟩
abbrev S256x128 : Shape := ⟨2, ![256, 128]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S256x512, .bf16⟩
  | .hbm, ⟨2, _⟩ => ⟨S4096x256, .bf16⟩
  | .local _ .vmem, ⟨0, _⟩ => ⟨S512x256, .bf16⟩
  | .local _ .vmem, ⟨1, _⟩ => ⟨S512x256, .bf16⟩
  | .local _ .vmem, ⟨2, _⟩ => ⟨S256x512, .bf16⟩
  | .local _ .vmem, ⟨3, _⟩ => ⟨S512x256, .bf16⟩
  | .local _ .vmem, ⟨4, _⟩ => ⟨S512x256, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== MemAttnFwdBRefIdeal.lean ====
abbrev S4096x1024 : Shape := ⟨2, ![4096, 1024]⟩
abbrev S256x512 : Shape := ⟨2, ![256, 512]⟩
abbrev S1x256x512 : Shape := ⟨3, ![1, 256, 512]⟩
abbrev S1x256x256 : Shape := ⟨3, ![1, 256, 256]⟩
abbrev S1x256x4x64 : Shape := ⟨4, ![1, 256, 4, 64]⟩
abbrev S4096x256 : Shape := ⟨2, ![4096, 256]⟩
abbrev S1x4096x256 : Shape := ⟨3, ![1, 4096, 256]⟩
abbrev S1x4096x4x64 : Shape := ⟨4, ![1, 4096, 4, 64]⟩
abbrev S1x4x4096x256 : Shape := ⟨4, ![1, 4, 4096, 256]⟩
abbrev S_ : Shape := ⟨0, ![]⟩
abbrev S1x4x4096 : Shape := ⟨3, ![1, 4, 4096]⟩
abbrev S1x4x4096x1 : Shape := ⟨4, ![1, 4, 4096, 1]⟩
abbrev S1x4x64x4096 : Shape := ⟨4, ![1, 4, 64, 4096]⟩

abbrev nBuf : Space → Nat
  | .hbm => 35
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S256x512, .bf16⟩
  | .hbm, ⟨2, _⟩ => ⟨S4096x1024, .f32⟩
  | .hbm, ⟨3, _⟩ => ⟨S256x512, .f32⟩
  | .hbm, ⟨4, _⟩ => ⟨S1x256x512, .f32⟩
  | .hbm, ⟨5, _⟩ => ⟨S1x256x256, .f32⟩
  | .hbm, ⟨6, _⟩ => ⟨S1x256x256, .f32⟩
  | .hbm, ⟨7, _⟩ => ⟨S1x256x4x64, .f32⟩
  | .hbm, ⟨8, _⟩ => ⟨S1x256x4x64, .f32⟩
  | .hbm, ⟨9, _⟩ => ⟨S4096x256, .f32⟩
  | .hbm, ⟨10, _⟩ => ⟨S1x4096x256, .f32⟩
  | .hbm, ⟨11, _⟩ => ⟨S1x4096x4x64, .f32⟩
  | .hbm, ⟨12, _⟩ => ⟨S1x4x4096x256, .f32⟩
  | .hbm, ⟨13, _⟩ => ⟨S_, .f32⟩
  | .hbm, ⟨14, _⟩ => ⟨S1x4x4096x256, .f32⟩
  | .hbm, ⟨15, _⟩ => ⟨S1x4x4096x256, .f32⟩
  | .hbm, ⟨16, _⟩ => ⟨S_, .f32⟩
  | .hbm, ⟨17, _⟩ => ⟨S1x4x4096, .f32⟩
  | .hbm, ⟨18, _⟩ => ⟨S_, .f32⟩
  | .hbm, ⟨19, _⟩ => ⟨S1x4x4096, .f32⟩
  | .hbm, ⟨20, _⟩ => ⟨S1x4x4096, .f32⟩
  | .hbm, ⟨21, _⟩ => ⟨S1x4x4096x1, .f32⟩
  | .hbm, ⟨22, _⟩ => ⟨S1x4x4096x256, .f32⟩
  | .hbm, ⟨23, _⟩ => ⟨S1x4x4096x256, .f32⟩
  | .hbm, ⟨24, _⟩ => ⟨S1x4x4096x256, .f32⟩
  | .hbm, ⟨25, _⟩ => ⟨S_, .f32⟩
  | .hbm, ⟨26, _⟩ => ⟨S1x4x4096, .f32⟩
  | .hbm, ⟨27, _⟩ => ⟨S1x4x4096x1, .f32⟩
  | .hbm, ⟨28, _⟩ => ⟨S1x4x4096x256, .f32⟩
  | .hbm, ⟨29, _⟩ => ⟨S1x4x4096x256, .f32⟩
  | .hbm, ⟨30, _⟩ => ⟨S1x4x64x4096, .f32⟩
  | .hbm, ⟨31, _⟩ => ⟨S1x4096x4x64, .f32⟩
  | .hbm, ⟨32, _⟩ => ⟨S1x4096x256, .f32⟩
  | .hbm, ⟨33, _⟩ => ⟨S4096x256, .f32⟩
  | .hbm, ⟨34, _⟩ => ⟨S4096x256, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_cst_0 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_2 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩

abbrev nD : Nat := 1
abbrev τ : Topo := Topo.v7x

variable {F : FTy → Type} [FloatOps F]
-- ==== GateFwd.lean ====
abbrev S4096x1024 : Shape := ⟨2, ![4096, 1024]⟩
abbrev S1024x5632 : Shape := ⟨2, ![1024, 5632]⟩
abbrev S4096x2816 : Shape := ⟨2, ![4096, 2816]⟩
abbrev S1024x256 : Shape := ⟨2, ![1024, 256]⟩
abbrev S4096x256 : Shape := ⟨2, ![4096, 256]⟩

abbrev nBuf : Space → Nat
  | .hbm => 5
  | .vmem => 11
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S4096x2816, .bf16⟩
  | .hbm, ⟨3, _⟩ => ⟨S4096x2816, .bf16⟩
  | .hbm, ⟨4, _⟩ => ⟨S4096x2816, .bf16⟩
  | .local _ .vmem, ⟨0, _⟩ => ⟨S4096x1024, .bf16⟩
  | .local _ .vmem, ⟨1, _⟩ => ⟨S1024x256, .bf16⟩
  | .local _ .vmem, ⟨2, _⟩ => ⟨S1024x256, .bf16⟩
  | .local _ .vmem, ⟨3, _⟩ => ⟨S1024x256, .bf16⟩
  | .local _ .vmem, ⟨4, _⟩ => ⟨S1024x256, .bf16⟩
  | .local _ .vmem, ⟨5, _⟩ => ⟨S4096x256, .bf16⟩
  | .local _ .vmem, ⟨6, _⟩ => ⟨S4096x256, .bf16⟩
  | .local _ .vmem, ⟨7, _⟩ => ⟨S4096x256, .bf16⟩
  | .local _ .vmem, ⟨8, _⟩ => ⟨S4096x256, .bf16⟩
  | .local _ .vmem, ⟨9, _⟩ => ⟨S4096x256, .bf16⟩
  | .local _ .vmem, ⟨10, _⟩ => ⟨S4096x256, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c11_i32 : BitVec 32 := 11#32
  let v0 : BitVec 32 := Scalar.addi c11_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== GateFwdRefIdeal.lean ====
abbrev S4096x1024 : Shape := ⟨2, ![4096, 1024]⟩
abbrev S1024x5632 : Shape := ⟨2, ![1024, 5632]⟩
abbrev S4096x5632 : Shape := ⟨2, ![4096, 5632]⟩
abbrev S4096x2816 : Shape := ⟨2, ![4096, 2816]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S4096x1024, .f32⟩
  | .hbm, ⟨3, _⟩ => ⟨S1024x5632, .f32⟩
  | .hbm, ⟨4, _⟩ => ⟨S4096x5632, .f32⟩
  | .hbm, ⟨5, _⟩ => ⟨S4096x2816, .f32⟩
  | .hbm, ⟨6, _⟩ => ⟨S4096x2816, .f32⟩
  | .hbm, ⟨7, _⟩ => ⟨S4096x2816, .bf16⟩
  | .hbm, ⟨8, _⟩ => ⟨S4096x2816, .bf16⟩
  | .hbm, ⟨9, _⟩ => ⟨S4096x2816, .f32⟩
  | .hbm, ⟨10, _⟩ => ⟨S4096x2816, .f32⟩
  | .hbm, ⟨11, _⟩ => ⟨S_, .f32⟩
  | .hbm, ⟨12, _⟩ => ⟨S4096x2816, .f32⟩
  | .hbm, ⟨13, _⟩ => ⟨S4096x2816, .f32⟩
  | .hbm, ⟨14, _⟩ => ⟨S_, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩

abbrev nD : Nat := 1
abbrev τ : Topo := Topo.v7x

variable {F : FTy → Type} [FloatOps F]
-- ==== NormFwd.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormFwdRefIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 18
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== NormsFwd.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 5
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S4096x1024, .bf16⟩
  | .hbm, ⟨4, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== NormsFwdRefIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 35
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .bf16⟩
  | .hbm, ⟨19, _⟩ => ⟨S4096x1024, .f32⟩
  | .hbm, ⟨20, _⟩ => ⟨S_, .f32⟩
  | .hbm, ⟨21, _⟩ => ⟨S4096, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S4096x1, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]
-- ==== MemNormFwd.lean ====
abbrev S256x1024 : Shape := ⟨2, ![256, 1024]⟩
abbrev S1x1024 : Shape := ⟨2, ![1, 1024]⟩
abbrev S256 : Shape := ⟨1, ![256]⟩
abbrev S256x1 : Shape := ⟨2, ![256, 1]⟩

abbrev nBuf : Space → Nat
  | .hbm => 3
  | .vmem => 3
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S256x1024, .bf16⟩
  | .local _ .vmem, ⟨0, _⟩ => ⟨S256x1024, .f32⟩
  | .local _ .vmem, ⟨1, _⟩ => ⟨S1x1024, .f32⟩
  | .local _ .vmem, ⟨2, _⟩ => ⟨S256x1024, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== MemNormFwdRefIdeal.lean ====
abbrev S256x1024 : Shape := ⟨2, ![256, 1024]⟩
abbrev S1x1024 : Shape := ⟨2, ![1, 1024]⟩
abbrev S_ : Shape := ⟨0, ![]⟩
abbrev S256 : Shape := ⟨1, ![256]⟩
abbrev S256x1 : Shape := ⟨2, ![256, 1]⟩

abbrev nBuf : Space → Nat
  | .hbm => 18
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S256x1024, .f32⟩
  | .hbm, ⟨3, _⟩ => ⟨S_, .f32⟩
  | .hbm, ⟨4, _⟩ => ⟨S256, .f32⟩
  | .hbm, ⟨5, _⟩ => ⟨S256x1, .f32⟩
  | .hbm, ⟨6, _⟩ => ⟨S_, .f32⟩
  | .hbm, ⟨7, _⟩ => ⟨S256x1, .f32⟩
  | .hbm, ⟨8, _⟩ => ⟨S256x1, .f32⟩
  | .hbm, ⟨9, _⟩ => ⟨S_, .f32⟩
  | .hbm, ⟨10, _⟩ => ⟨S256x1, .f32⟩
  | .hbm, ⟨11, _⟩ => ⟨S256x1, .f32⟩
  | .hbm, ⟨12, _⟩ => ⟨S256x1, .f32⟩
  | .hbm, ⟨13, _⟩ => ⟨S256x1024, .f32⟩
  | .hbm, ⟨14, _⟩ => ⟨S256x1024, .f32⟩
  | .hbm, ⟨15, _⟩ => ⟨S256x1024, .f32⟩
  | .hbm, ⟨16, _⟩ => ⟨S256x1024, .f32⟩
  | .hbm, ⟨17, _⟩ => ⟨S256x1024, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== ScaleFwd.lean ====
abbrev S4096x768 : Shape := ⟨2, ![4096, 768]⟩
abbrev S4096x256 : Shape := ⟨2, ![4096, 256]⟩
abbrev S1x768 : Shape := ⟨2, ![1, 768]⟩
abbrev S4096x1024 : Shape := ⟨2, ![4096, 1024]⟩
abbrev S512x768 : Shape := ⟨2, ![512, 768]⟩
abbrev S512x256 : Shape := ⟨2, ![512, 256]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x768, .bf16⟩
  | .hbm, ⟨1, _⟩ => ⟨S4096x256, .bf16⟩
  | .hbm, ⟨2, _⟩ => ⟨S1x768, .f32⟩
  | .hbm, ⟨3, _⟩ => ⟨S4096x1024, .bf16⟩
  | .local _ .vmem, ⟨0, _⟩ => ⟨S512x768, .bf16⟩
  | .local _ .vmem, ⟨1, _⟩ => ⟨S512x768, .bf16⟩
  | .local _ .vmem, ⟨2, _⟩ => ⟨S512x256, .bf16⟩
  | .local _ .vmem, ⟨3, _⟩ => ⟨S512x256, .bf16⟩
  | .local _ .vmem, ⟨4, _⟩ => ⟨S1x768, .f32⟩
  | .local _ .vmem, ⟨5, _⟩ => ⟨S512x1024, .bf16⟩
  | .local _ .vmem, ⟨6, _⟩ => ⟨S512x1024, .bf16⟩
  | _, _ => ⟨S4096x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ScaleFwdRefIdeal.lean ====
abbrev S4096x768 : Shape := ⟨2, ![4096, 768]⟩
abbrev S4096x256 : Shape := ⟨2, ![4096, 256]⟩
abbrev S1x768 : Shape := ⟨2, ![1, 768]⟩
abbrev S4096x1024 : Shape := ⟨2, ![4096, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x768, .bf16⟩
  | .hbm, ⟨1, _⟩ => ⟨S4096x256, .bf16⟩
  | .hbm, ⟨2, _⟩ => ⟨S1x768, .f32⟩
  | .hbm, ⟨3, _⟩ => ⟨S4096x768, .f32⟩
  | .hbm, ⟨4, _⟩ => ⟨S4096x768, .f32⟩
  | .hbm, ⟨5, _⟩ => ⟨S4096x768, .f32⟩
  | .hbm, ⟨6, _⟩ => ⟨S4096x256, .f32⟩
  | .hbm, ⟨7, _⟩ => ⟨S4096x1024, .f32⟩
  | .hbm, ⟨8, _⟩ => ⟨S4096x1024, .bf16⟩
  | _, _ => ⟨S4096x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== PoolFwd.lean ====
abbrev S4096x1024 : Shape := ⟨2, ![4096, 1024]⟩
abbrev S4096x768 : Shape := ⟨2, ![4096, 768]⟩
abbrev S512x768 : Shape := ⟨2, ![512, 768]⟩
abbrev S16x768 : Shape := ⟨2, ![16, 768]⟩
abbrev S528x768 : Shape := ⟨2, ![528, 768]⟩

abbrev nBuf : Space → Nat
  | .hbm => 2
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x768, .bf16⟩
  | .local _ .vmem, ⟨0, _⟩ => ⟨S512x768, .f32⟩
  | .local _ .vmem, ⟨1, _⟩ => ⟨S512x768, .f32⟩
  | .local _ .vmem, ⟨2, _⟩ => ⟨S16x768, .f32⟩
  | .local _ .vmem, ⟨3, _⟩ => ⟨S16x768, .f32⟩
  | .local _ .vmem, ⟨4, _⟩ => ⟨S512x768, .bf16⟩
  | .local _ .vmem, ⟨5, _⟩ => ⟨S512x768, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== PoolFwdRefIdeal.lean ====
abbrev S4096x1024 : Shape := ⟨2, ![4096, 1024]⟩
abbrev S4096x768 : Shape := ⟨2, ![4096, 768]⟩
abbrev S1x4096x768 : Shape := ⟨3, ![1, 4096, 768]⟩
abbrev S_ : Shape := ⟨0, ![]⟩
abbrev S4096 : Shape := ⟨1, ![4096]⟩
abbrev S1x4096x192 : Shape := ⟨3, ![1, 4096, 192]⟩
abbrev S1x2x192 : Shape := ⟨3, ![1, 2, 192]⟩
abbrev S1x4094x192 : Shape := ⟨3, ![1, 4094, 192]⟩
abbrev S1x4096x1 : Shape := ⟨3, ![1, 4096, 1]⟩
abbrev S1x4x192 : Shape := ⟨3, ![1, 4, 192]⟩
abbrev S1x4092x192 : Shape := ⟨3, ![1, 4092, 192]⟩
abbrev S1x8x192 : Shape := ⟨3, ![1, 8, 192]⟩
abbrev S1x4088x192 : Shape := ⟨3, ![1, 4088, 192]⟩
abbrev S1x16x192 : Shape := ⟨3, ![1, 16, 192]⟩
abbrev S1x4080x192 : Shape := ⟨3, ![1, 4080, 192]⟩

abbrev nBuf : Space → Nat
  | .hbm => 75
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x768, .f32⟩
  | .hbm, ⟨2, _⟩ => ⟨S1x4096x768, .f32⟩
  | .hbm, ⟨3, _⟩ => ⟨S_, .f32⟩
  | .hbm, ⟨4, _⟩ => ⟨S_, .f32⟩
  | .hbm, ⟨5, _⟩ => ⟨S1x4096x768, .f32⟩
  | .hbm, ⟨6, _⟩ => ⟨S4096, .i32⟩
  | .hbm, ⟨7, _⟩ => ⟨S1x4096x192, .f32⟩
  | .hbm, ⟨8, _⟩ => ⟨S_, .f32⟩
  | .hbm, ⟨9, _⟩ => ⟨S1x2x192, .f32⟩
  | .hbm, ⟨10, _⟩ => ⟨S1x4094x192, .f32⟩
  | .hbm, ⟨11, _⟩ => ⟨S1x4096x192, .f32⟩
  | .hbm, ⟨12, _⟩ => ⟨S_, .i32⟩
  | .hbm, ⟨13, _⟩ => ⟨S4096, .i32⟩
  | .hbm, ⟨14, _⟩ => ⟨S4096, .i32⟩
  | .hbm, ⟨15, _⟩ => ⟨S_, .i32⟩
  | .hbm, ⟨16, _⟩ => ⟨S4096, .i32⟩
  | .hbm, ⟨17, _⟩ => ⟨S4096, .i32⟩
  | .hbm, ⟨18, _⟩ => ⟨S4096, .f32⟩
  | .hbm, ⟨19, _⟩ => ⟨S1x4096x1, .f32⟩
  | .hbm, ⟨20, _⟩ => ⟨S1x4096x192, .f32⟩
  | .hbm, ⟨21, _⟩ => ⟨S1x4096x192, .f32⟩
  | .hbm, ⟨22, _⟩ => ⟨S1x4096x192, .f32⟩
  | .hbm, ⟨23, _⟩ => ⟨S1x4096x192, .f32⟩
  | .hbm, ⟨24, _⟩ => ⟨S_, .f32⟩
  | .hbm, ⟨25, _⟩ => ⟨S1x4x192, .f32⟩
  | .hbm, ⟨26, _⟩ => ⟨S1x4092x192, .f32⟩
  | .hbm, ⟨27, _⟩ => ⟨S1x4096x192, .f32⟩
  | .hbm, ⟨28, _⟩ => ⟨S_, .i32⟩
  | .hbm, ⟨29, _⟩ => ⟨S4096, .i32⟩
  | .hbm, ⟨30, _⟩ => ⟨S4096, .i32⟩
  | .hbm, ⟨31, _⟩ => ⟨S_, .i32⟩
  | .hbm, ⟨32, _⟩ => ⟨S4096, .i32⟩
  | .hbm, ⟨33, _⟩ => ⟨S4096, .i32⟩
  | .hbm, ⟨34, _⟩ => ⟨S4096, .f32⟩
  | .hbm, ⟨35, _⟩ => ⟨S1x4096x1, .f32⟩
  | .hbm, ⟨36, _⟩ => ⟨S1x4096x192, .f32⟩
  | .hbm, ⟨37, _⟩ => ⟨S1x4096x192, .f32⟩
  | .hbm, ⟨38, _⟩ => ⟨S1x4096x192, .f32⟩
  | .hbm, ⟨39, _⟩ => ⟨S1x4096x192, .f32⟩
  | .hbm, ⟨40, _⟩ => ⟨S_, .f32⟩
  | .hbm, ⟨41, _⟩ => ⟨S1x8x192, .f32⟩
  | .hbm, ⟨42, _⟩ => ⟨S1x4088x192, .f32⟩
  | .hbm, ⟨43, _⟩ => ⟨S1x4096x192, .f32⟩
  | .hbm, ⟨44, _⟩ => ⟨S_, .i32⟩
  | .hbm, ⟨45, _⟩ => ⟨S4096, .i32⟩
  | .hbm, ⟨46, _⟩ => ⟨S4096, .i32⟩
  | .hbm, ⟨47, _⟩ => ⟨S_, .i32⟩
  | .hbm, ⟨48, _⟩ => ⟨S4096, .i32⟩
  | .hbm, ⟨49, _⟩ => ⟨S4096, .i32⟩
  | .hbm, ⟨50, _⟩ => ⟨S4096, .f32⟩
  | .hbm, ⟨51, _⟩ => ⟨S1x4096x1, .f32⟩
  | .hbm, ⟨52, _⟩ => ⟨S1x4096x192, .f32⟩
  | .hbm, ⟨53, _⟩ => ⟨S1x4096x192, .f32⟩
  | .hbm, ⟨54, _⟩ => ⟨S1x4096x192, .f32⟩
  | .hbm, ⟨55, _⟩ => ⟨S1x4096x192, .f32⟩
  | .hbm, ⟨56, _⟩ => ⟨S_, .f32⟩
  | .hbm, ⟨57, _⟩ => ⟨S1x16x192, .f32⟩
  | .hbm, ⟨58, _⟩ => ⟨S1x4080x192, .f32⟩
  | .hbm, ⟨59, _⟩ => ⟨S1x4096x192, .f32⟩
  | .hbm, ⟨60, _⟩ => ⟨S_, .i32⟩
  | .hbm, ⟨61, _⟩ => ⟨S4096, .i32⟩
  | .hbm, ⟨62, _⟩ => ⟨S4096, .i32⟩
  | .hbm, ⟨63, _⟩ => ⟨S_, .i32⟩
  | .hbm, ⟨64, _⟩ => ⟨S4096, .i32⟩
  | .hbm, ⟨65, _⟩ => ⟨S4096, .i32⟩
  | .hbm, ⟨66, _⟩ => ⟨S4096, .f32⟩
  | .hbm, ⟨67, _⟩ => ⟨S1x4096x1, .f32⟩
  | .hbm, ⟨68, _⟩ => ⟨S1x4096x192, .f32⟩
  | .hbm, ⟨69, _⟩ => ⟨S1x4096x192, .f32⟩
  | .hbm, ⟨70, _⟩ => ⟨S1x4096x192, .f32⟩
  | .hbm, ⟨71, _⟩ => ⟨S1x4096x768, .f32⟩
  | .hbm, ⟨72, _⟩ => ⟨S1x4096x768, .f32⟩
  | .hbm, ⟨73, _⟩ => ⟨S4096x768, .f32⟩
  | .hbm, ⟨74, _⟩ => ⟨S4096x768, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_call0_call0_cst : Ref sig .tc := ⟨.hbm, 3, rfl⟩
abbrev main_call0_call0_v0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_v8 : Ref sig .tc := ⟨.hbm, 13, rfl⟩
abbrev main_v9 : Ref sig .tc := ⟨.hbm, 14, rfl⟩
abbrev main_c_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_1 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_c_2 : Ref sig .tc := ⟨.hbm, 28, rfl⟩
abbrev main_v21 : Ref sig .tc := ⟨.hbm, 29, rfl⟩
abbrev main_v22 : Ref sig .tc := ⟨.hbm, 30, rfl⟩
abbrev main_c_3 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_4 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_c_5 : Ref sig .tc := ⟨.hbm, 44, rfl⟩
abbrev main_v34 : Ref sig .tc := ⟨.hbm, 45, rfl⟩
abbrev main_v35 : Ref sig .tc := ⟨.hbm, 46, rfl⟩
abbrev main_c_6 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst_7 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_c_8 : Ref sig .tc := ⟨.hbm, 60, rfl⟩
abbrev main_v47 : Ref sig .tc := ⟨.hbm, 61, rfl⟩
abbrev main_v48 : Ref sig .tc := ⟨.hbm, 62, rfl⟩
abbrev main_c_9 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩

abbrev nD : Nat := 1
abbrev τ : Topo := Topo.v7x

variable {F : FTy → Type} [FloatOps F]
-- ==== GuDw.lean ====
abbrev S4096x1024 : Shape := ⟨2, ![4096, 1024]⟩
abbrev S4096x5632 : Shape := ⟨2, ![4096, 5632]⟩
abbrev S1024x5632 : Shape := ⟨2, ![1024, 5632]⟩
abbrev S4096x512 : Shape := ⟨2, ![4096, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S1024x5632, .bf16⟩
  | .local _ .vmem, ⟨0, _⟩ => ⟨S4096x1024, .bf16⟩
  | .local _ .vmem, ⟨1, _⟩ => ⟨S4096x512, .bf16⟩
  | .local _ .vmem, ⟨2, _⟩ => ⟨S4096x512, .bf16⟩
  | .local _ .vmem, ⟨3, _⟩ => ⟨S1024x512, .bf16⟩
  | .local _ .vmem, ⟨4, _⟩ => ⟨S1024x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GuDwRefIdeal.lean ====
abbrev S4096x1024 : Shape := ⟨2, ![4096, 1024]⟩
abbrev S4096x5632 : Shape := ⟨2, ![4096, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S4096x1024, .f32⟩
  | .hbm, ⟨3, _⟩ => ⟨S4096x5632, .f32⟩
  | .hbm, ⟨4, _⟩ => ⟨S_, .f32⟩
  | .hbm, ⟨5, _⟩ => ⟨S1024x5632, .f32⟩
  | .hbm, ⟨6, _⟩ => ⟨S4096x5632, .f32⟩
  | .hbm, ⟨7, _⟩ => ⟨S5632x1024, .f32⟩
  | .hbm, ⟨8, _⟩ => ⟨S1024x5632, .f32⟩
  | .hbm, ⟨9, _⟩ => ⟨S1024x5632, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== AdamIn.lean ====
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamInRefIdeal.lean ====
abbrev S256x1024 : Shape := ⟨2, ![256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256x1024, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamKv.lean ====
abbrev S1024x384 : Shape := ⟨2, ![1024, 384]⟩
abbrev S256x384 : Shape := ⟨2, ![256, 384]⟩

abbrev nBuf : Space → Nat
  | .hbm => 7
  | .vmem => 14
  | .smem => 0
  | _ => 0

abbrev bufTy : (tb : Table) → Fin (tcTables nBuf tb) → BufTy
  | .hbm, ⟨0, _⟩ => ⟨S1024x384, .f32⟩
  | .hbm, ⟨1, _⟩ => ⟨S1024x384, .f32⟩
  | .hbm, ⟨2, _⟩ => ⟨S1024x384, .f32⟩
  | .hbm, ⟨3, _⟩ => ⟨S1024x384, .f32⟩
  | .hbm, ⟨4, _⟩ => ⟨S1024x384, .f32⟩
  | .hbm, ⟨5, _⟩ => ⟨S1024x384, .f32⟩
  | .hbm, ⟨6, _⟩ => ⟨S1024x384, .f32⟩
  | .local _ .vmem, ⟨0, _⟩ => ⟨S256x384, .f32⟩
  | .local _ .vmem, ⟨1, _⟩ => ⟨S256x384, .f32⟩
  | .local _ .vmem, ⟨2, _⟩ => ⟨S256x384, .f32⟩
  | .local _ .vmem, ⟨3, _⟩ => ⟨S256x384, .f32⟩
  | .local _ .vmem, ⟨4, _⟩ => ⟨S256x384, .f32⟩
  | .local _ .vmem, ⟨5, _⟩ => ⟨S256x384, .f32⟩
  | .local _ .vmem, ⟨6, _⟩ => ⟨S256x384, .f32⟩
  | .local _ .vmem, ⟨7, _⟩ => ⟨S256x384, .f32⟩
  | .local _ .vmem, ⟨8, _⟩ => ⟨S256x384, .f32⟩
  | .local _ .vmem, ⟨9, _⟩ => ⟨S256x384, .f32⟩
  | .local _ .vmem, ⟨10, _⟩ => ⟨S256x384, .f32⟩
  | .local _ .vmem, ⟨11, _⟩ => ⟨S256x384, .f32⟩
  | .local _ .vmem, ⟨12, _⟩ => ⟨S256x384, .f32⟩
  | .local _ .vmem, ⟨13, _⟩ => ⟨S256x384, .f32⟩
  | _, _ => ⟨S1024x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamKvRefIdeal.lean ====
abbrev S1024x384 : Shape := ⟨2, ![1024, 384]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x384, .f32⟩
  | .hbm, ⟨1, _⟩ => ⟨S1024x384, .f32⟩
  | .hbm, ⟨2, _⟩ => ⟨S1024x384, .f32⟩
  | .hbm, ⟨3, _⟩ => ⟨S1024x384, .f32⟩
  | .hbm, ⟨4, _⟩ => ⟨S_, .f32⟩
  | .hbm, ⟨5, _⟩ => ⟨S1024x384, .f32⟩
  | .hbm, ⟨6, _⟩ => ⟨S1024x384, .f32⟩
  | .hbm, ⟨7, _⟩ => ⟨S_, .f32⟩
  | .hbm, ⟨8, _⟩ => ⟨S1024x384, .f32⟩
  | .hbm, ⟨9, _⟩ => ⟨S1024x384, .f32⟩
  | .hbm, ⟨10, _⟩ => ⟨S1024x384, .f32⟩
  | .hbm, ⟨11, _⟩ => ⟨S_, .f32⟩
  | .hbm, ⟨12, _⟩ => ⟨S1024x384, .f32⟩
  | .hbm, ⟨13, _⟩ => ⟨S1024x384, .f32⟩
  | .hbm, ⟨14, _⟩ => ⟨S1024x384, .f32⟩
  | .hbm, ⟨15, _⟩ => ⟨S_, .f32⟩
  | .hbm, ⟨16, _⟩ => ⟨S1024x384, .f32⟩
  | .hbm, ⟨17, _⟩ => ⟨S1024x384, .f32⟩
  | .hbm, ⟨18, _⟩ => ⟨S1024x384, .f32⟩
  | .hbm, ⟨19, _⟩ => ⟨S_, .f32⟩
  | .hbm, ⟨20, _⟩ => ⟨S1024x384, .f32⟩
  | .hbm, ⟨21, _⟩ => ⟨S1024x384, .f32⟩
  | .hbm, ⟨22, _⟩ => ⟨S_, .f32⟩
  | .hbm, ⟨23, _⟩ => ⟨S1024x384, .f32⟩
  | .hbm, ⟨24, _⟩ => ⟨S1024x384, .f32⟩
  | .hbm, ⟨25, _⟩ => ⟨S1024x384, .f32⟩
  | .hbm, ⟨26, _⟩ => ⟨S_, .f32⟩
  | .hbm, ⟨27, _⟩ => ⟨S1024x384, .f32⟩
  | .hbm, ⟨28, _⟩ => ⟨S1024x384, .f32⟩
  | .hbm, ⟨29, _⟩ => ⟨S1024x384, .f32⟩
  | .hbm, ⟨30, _⟩ => ⟨S_, .f32⟩
  | .hbm, ⟨31, _⟩ => ⟨S1024x384, .f32⟩
  | .hbm, ⟨32, _⟩ => ⟨S1024x384, .f32⟩
  | .hbm, ⟨33, _⟩ => ⟨S1024x384, .f32⟩
  | .hbm, ⟨34, _⟩ => ⟨S_, .f32⟩
  | .hbm, ⟨35, _⟩ => ⟨S1024x384, .f32⟩
  | .hbm, ⟨36, _⟩ => ⟨S1024x384, .f32⟩
  | _, _ => ⟨S1024x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamMem.lean ====
abbrev S256x512 : Shape := ⟨2, ![256, 512]⟩

abbrev nBuf : Space → Nat
  | .hbm => 7
  | .vmem => 7
  | .smem => 0
  | _ => 0

abbrev bufTy : (tb : Table) → Fin (tcTables nBuf tb) → BufTy
  | .hbm, ⟨0, _⟩ => ⟨S256x512, .f32⟩
  | .hbm, ⟨1, _⟩ => ⟨S256x512, .f32⟩
  | .hbm, ⟨2, _⟩ => ⟨S256x512, .f32⟩
  | .hbm, ⟨3, _⟩ => ⟨S256x512, .f32⟩
  | .hbm, ⟨4, _⟩ => ⟨S256x512, .f32⟩
  | .hbm, ⟨5, _⟩ => ⟨S256x512, .f32⟩
  | .hbm, ⟨6, _⟩ => ⟨S256x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | _, _ => ⟨S256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamMemRefIdeal.lean ====
abbrev S256x512 : Shape := ⟨2, ![256, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x512, .f32⟩
  | .hbm, ⟨1, _⟩ => ⟨S256x512, .f32⟩
  | .hbm, ⟨2, _⟩ => ⟨S256x512, .f32⟩
  | .hbm, ⟨3, _⟩ => ⟨S256x512, .f32⟩
  | .hbm, ⟨4, _⟩ => ⟨S_, .f32⟩
  | .hbm, ⟨5, _⟩ => ⟨S256x512, .f32⟩
  | .hbm, ⟨6, _⟩ => ⟨S256x512, .f32⟩
  | .hbm, ⟨7, _⟩ => ⟨S_, .f32⟩
  | .hbm, ⟨8, _⟩ => ⟨S256x512, .f32⟩
  | .hbm, ⟨9, _⟩ => ⟨S256x512, .f32⟩
  | .hbm, ⟨10, _⟩ => ⟨S256x512, .f32⟩
  | .hbm, ⟨11, _⟩ => ⟨S_, .f32⟩
  | .hbm, ⟨12, _⟩ => ⟨S256x512, .f32⟩
  | .hbm, ⟨13, _⟩ => ⟨S256x512, .f32⟩
  | .hbm, ⟨14, _⟩ => ⟨S256x512, .f32⟩
  | .hbm, ⟨15, _⟩ => ⟨S_, .f32⟩
  | .hbm, ⟨16, _⟩ => ⟨S256x512, .f32⟩
  | .hbm, ⟨17, _⟩ => ⟨S256x512, .f32⟩
  | .hbm, ⟨18, _⟩ => ⟨S256x512, .f32⟩
  | .hbm, ⟨19, _⟩ => ⟨S_, .f32⟩
  | .hbm, ⟨20, _⟩ => ⟨S256x512, .f32⟩
  | .hbm, ⟨21, _⟩ => ⟨S256x512, .f32⟩
  | .hbm, ⟨22, _⟩ => ⟨S_, .f32⟩
  | .hbm, ⟨23, _⟩ => ⟨S256x512, .f32⟩
  | .hbm, ⟨24, _⟩ => ⟨S256x512, .f32⟩
  | .hbm, ⟨25, _⟩ => ⟨S256x512, .f32⟩
  | .hbm, ⟨26, _⟩ => ⟨S_, .f32⟩
  | .hbm, ⟨27, _⟩ => ⟨S256x512, .f32⟩
  | .hbm, ⟨28, _⟩ => ⟨S256x512, .f32⟩
  | .hbm, ⟨29, _⟩ => ⟨S256x512, .f32⟩
  | .hbm, ⟨30, _⟩ => ⟨S_, .f32⟩
  | .hbm, ⟨31, _⟩ => ⟨S256x512, .f32⟩
  | .hbm, ⟨32, _⟩ => ⟨S256x512, .f32⟩
  | .hbm, ⟨33, _⟩ => ⟨S256x512, .f32⟩
  | .hbm, ⟨34, _⟩ => ⟨S_, .f32⟩
  | .hbm, ⟨35, _⟩ => ⟨S256x512, .f32⟩
  | .hbm, ⟨36, _⟩ => ⟨S256x512, .f32⟩
  | _, _ => ⟨S256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamGu.lean ====
abbrev S1024x1408 : Shape := ⟨2, ![1024, 1408]⟩
abbrev S256x1408 : Shape := ⟨2, ![256, 1408]⟩

abbrev nBuf : Space → Nat
  | .hbm => 7
  | .vmem => 14
  | .smem => 0
  | _ => 0

abbrev bufTy : (tb : Table) → Fin (tcTables nBuf tb) → BufTy
  | .hbm, ⟨0, _⟩ => ⟨S1024x1408, .f32⟩
  | .hbm, ⟨1, _⟩ => ⟨S1024x1408, .f32⟩
  | .hbm, ⟨2, _⟩ => ⟨S1024x1408, .f32⟩
  | .hbm, ⟨3, _⟩ => ⟨S1024x1408, .f32⟩
  | .hbm, ⟨4, _⟩ => ⟨S1024x1408, .f32⟩
  | .hbm, ⟨5, _⟩ => ⟨S1024x1408, .f32⟩
  | .hbm, ⟨6, _⟩ => ⟨S1024x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | _, _ => ⟨S1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamGuRefIdeal.lean ====
abbrev S1024x1408 : Shape := ⟨2, ![1024, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1408, .f32⟩
  | .hbm, ⟨1, _⟩ => ⟨S1024x1408, .f32⟩
  | .hbm, ⟨2, _⟩ => ⟨S1024x1408, .f32⟩
  | .hbm, ⟨3, _⟩ => ⟨S1024x1408, .f32⟩
  | .hbm, ⟨4, _⟩ => ⟨S_, .f32⟩
  | .hbm, ⟨5, _⟩ => ⟨S1024x1408, .f32⟩
  | .hbm, ⟨6, _⟩ => ⟨S1024x1408, .f32⟩
  | .hbm, ⟨7, _⟩ => ⟨S_, .f32⟩
  | .hbm, ⟨8, _⟩ => ⟨S1024x1408, .f32⟩
  | .hbm, ⟨9, _⟩ => ⟨S1024x1408, .f32⟩
  | .hbm, ⟨10, _⟩ => ⟨S1024x1408, .f32⟩
  | .hbm, ⟨11, _⟩ => ⟨S_, .f32⟩
  | .hbm, ⟨12, _⟩ => ⟨S1024x1408, .f32⟩
  | .hbm, ⟨13, _⟩ => ⟨S1024x1408, .f32⟩
  | .hbm, ⟨14, _⟩ => ⟨S1024x1408, .f32⟩
  | .hbm, ⟨15, _⟩ => ⟨S_, .f32⟩
  | .hbm, ⟨16, _⟩ => ⟨S1024x1408, .f32⟩
  | .hbm, ⟨17, _⟩ => ⟨S1024x1408, .f32⟩
  | .hbm, ⟨18, _⟩ => ⟨S1024x1408, .f32⟩
  | .hbm, ⟨19, _⟩ => ⟨S_, .f32⟩
  | .hbm, ⟨20, _⟩ => ⟨S1024x1408, .f32⟩
  | .hbm, ⟨21, _⟩ => ⟨S1024x1408, .f32⟩
  | .hbm, ⟨22, _⟩ => ⟨S_, .f32⟩
  | .hbm, ⟨23, _⟩ => ⟨S1024x1408, .f32⟩
  | .hbm, ⟨24, _⟩ => ⟨S1024x1408, .f32⟩
  | .hbm, ⟨25, _⟩ => ⟨S1024x1408, .f32⟩
  | .hbm, ⟨26, _⟩ => ⟨S_, .f32⟩
  | .hbm, ⟨27, _⟩ => ⟨S1024x1408, .f32⟩
  | .hbm, ⟨28, _⟩ => ⟨S1024x1408, .f32⟩
  | .hbm, ⟨29, _⟩ => ⟨S1024x1408, .f32⟩
  | .hbm, ⟨30, _⟩ => ⟨S_, .f32⟩
  | .hbm, ⟨31, _⟩ => ⟨S1024x1408, .f32⟩
  | .hbm, ⟨32, _⟩ => ⟨S1024x1408, .f32⟩
  | .hbm, ⟨33, _⟩ => ⟨S1024x1408, .f32⟩
  | .hbm, ⟨34, _⟩ => ⟨S_, .f32⟩
  | .hbm, ⟨35, _⟩ => ⟨S1024x1408, .f32⟩
  | .hbm, ⟨36, _⟩ => ⟨S1024x1408, .f32⟩
  | _, _ => ⟨S1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamDown.lean ====
abbrev S704x1024 : Shape := ⟨2, ![704, 1024]⟩
abbrev S176x1024 : Shape := ⟨2, ![176, 1024]⟩

abbrev nBuf : Space → Nat
  | .hbm => 7
  | .vmem => 14
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .local _ .vmem, ⟨0, _⟩ => ⟨S176x1024, .f32⟩
  | .local _ .vmem, ⟨1, _⟩ => ⟨S176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamDownRefIdeal.lean ====
abbrev S704x1024 : Shape := ⟨2, ![704, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S_, .f32⟩
  | .hbm, ⟨5, _⟩ => ⟨S704x1024, .f32⟩
  | .hbm, ⟨6, _⟩ => ⟨S704x1024, .f32⟩
  | .hbm, ⟨7, _⟩ => ⟨S_, .f32⟩
  | .hbm, ⟨8, _⟩ => ⟨S704x1024, .f32⟩
  | .hbm, ⟨9, _⟩ => ⟨S704x1024, .f32⟩
  | .hbm, ⟨10, _⟩ => ⟨S704x1024, .f32⟩
  | .hbm, ⟨11, _⟩ => ⟨S_, .f32⟩
  | .hbm, ⟨12, _⟩ => ⟨S704x1024, .f32⟩
  | .hbm, ⟨13, _⟩ => ⟨S704x1024, .f32⟩
  | .hbm, ⟨14, _⟩ => ⟨S704x1024, .f32⟩
  | .hbm, ⟨15, _⟩ => ⟨S_, .f32⟩
  | .hbm, ⟨16, _⟩ => ⟨S704x1024, .f32⟩
  | .hbm, ⟨17, _⟩ => ⟨S704x1024, .f32⟩
  | .hbm, ⟨18, _⟩ => ⟨S704x1024, .f32⟩
  | .hbm, ⟨19, _⟩ => ⟨S_, .f32⟩
  | .hbm, ⟨20, _⟩ => ⟨S704x1024, .f32⟩
  | .hbm, ⟨21, _⟩ => ⟨S704x1024, .f32⟩
  | .hbm, ⟨22, _⟩ => ⟨S_, .f32⟩
  | .hbm, ⟨23, _⟩ => ⟨S704x1024, .f32⟩
  | .hbm, ⟨24, _⟩ => ⟨S704x1024, .f32⟩
  | .hbm, ⟨25, _⟩ => ⟨S704x1024, .f32⟩
  | .hbm, ⟨26, _⟩ => ⟨S_, .f32⟩
  | .hbm, ⟨27, _⟩ => ⟨S704x1024, .f32⟩
  | .hbm, ⟨28, _⟩ => ⟨S704x1024, .f32⟩
  | .hbm, ⟨29, _⟩ => ⟨S704x1024, .f32⟩
  | .hbm, ⟨30, _⟩ => ⟨S_, .f32⟩
  | .hbm, ⟨31, _⟩ => ⟨S704x1024, .f32⟩
  | .hbm, ⟨32, _⟩ => ⟨S704x1024, .f32⟩
  | .hbm, ⟨33, _⟩ => ⟨S704x1024, .f32⟩
  | .hbm, ⟨34, _⟩ => ⟨S_, .f32⟩
  | .hbm, ⟨35, _⟩ => ⟨S704x1024, .f32⟩
  | .hbm, ⟨36, _⟩ => ⟨S704x1024, .f32⟩
  | _, _ => ⟨S704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.Sums.lean ====
/- Shared facts: finite arrays as real ones, and jnp's running sums read as sums over an index range. -/
module

public import Idealize.ShloMosaic.Lib.Pointwise
public import Idealize.ShloMosaic.PureOps.Ideal.Laws

@[expose] public section

set_option maxRecDepth 16384

noncomputable section

namespace Cert.Hand

open Idealize.ShloMosaic

/-- A left fold that adds one term per entry is its start plus the list's sum. -/
theorem foldl_add_sum {ι : Type} (l : List ι) (g : ι → EReal) (v : EReal) :
    l.foldl (fun r n => r + g n) v = v + (l.map g).sum := by
  induction l generalizing v with
  | nil => simp
  | cons a l ih => rw [List.foldl_cons, ih, List.map_cons, List.sum_cons, add_assoc]

/-- The window sum at a result index: the initial value and the sum over the window's positions. -/
theorem windowSum_eq {s t : Shape} (window strides lo hi : Fin s.rank → Nat) (h : s.ReduceWindows window strides lo hi t)
    (x : s.Idx → EReal) (v : EReal) (j : t.Idx) :
    Ideal.hostReduceWindowAdd window strides lo hi h x v j
      = v + ∑ k : (⟨s.rank, window⟩ : Shape).Idx,
          (if hin : ∀ a, lo a ≤ (j (a.cast h.1.symm)).val * strides a + (k a).val
              ∧ (j (a.cast h.1.symm)).val * strides a + (k a).val - lo a < s.size a
            then x (fun a => ⟨(j (a.cast h.1.symm)).val * strides a + (k a).val - lo a, (hin a).2⟩) else v) := by
  unfold Ideal.hostReduceWindowAdd Host.reduceWindow
  refine (foldl_add_sum _ _ v).trans (congrArg (v + ·) ?_)
  rw [← Fintype.sum_equiv (⟨s.rank, window⟩ : Shape).rowMajor.symm _ _ (fun _ => rfl), ← List.sum_ofFn, List.ofFn_eq_map]
  refine congrArg List.sum (List.map_congr_left fun n _ => ?_)
  dsimp only
  split_ifs <;> rfl

/-- The word of plus infinity. -/
theorem inf_bits : Ideal.ofBits .f32 0x7F800000#32 = (⊤ : EReal) := by
  show Ideal.ieee 8 23 0x7F800000#32 = ⊤
  unfold Ideal.ieee
  dsimp only
  rw [if_pos (by decide), if_pos (by decide), if_neg (by decide)]

/-- The preconditions' comparison, read as finiteness. -/
theorem lt_top_of_cmp {x : EReal}
    (h : FloatOps.cmpf (F := Ideal) (φ := .f32) .olt (max x (-x) : EReal) (Ideal.ofBits .f32 0x7F800000#32) = 1#1) : max x (-x) < ⊤ := by
  rw [inf_bits] at h
  by_contra hn
  have e : FloatOps.cmpf (F := Ideal) (φ := .f32) .olt (max x (-x) : EReal) (⊤ : EReal) = 0#1 := by
    show BitVec.ofBool (decide _) = _
    rw [decide_eq_false hn]
    rfl
  rw [e] at h
  exact absurd h (by decide)

/-- A finite extended real is the image of its real part. -/
theorem coe_of_abs_lt {x : EReal} (h : max x (-x) < ⊤) : ((x.toReal : ℝ) : EReal) = x := by
  refine EReal.coe_toReal (fun hx => ?_) (fun hx => ?_)
  · subst hx; simp at h
  · subst hx; simp at h

/-- A finite sum of reals, cast. -/
theorem coe_sum {ι : Type} (s : Finset ι) (f : ι → ℝ) : ((∑ k ∈ s, f k : ℝ) : EReal) = ∑ k ∈ s, ((f k : ℝ) : EReal) := by
  classical
  induction s using Finset.induction_on with
  | empty => simp
  | insert a s ha ih => rw [Finset.sum_insert ha, Finset.sum_insert ha, EReal.coe_add, ih]

/-- jnp's reversed `cumsum` along the middle axis of a `[1, n, c]` array: entry `j` holds the sum of the entries from `j` on. -/
theorem suffixSum3 {n m c : Nat} (hn : m + 1 = n) (x : (⟨3, ![1, n, c]⟩ : Shape).Idx → EReal)
    (h : (⟨3, ![1, n, c]⟩ : Shape).ReduceWindows (![1, n, 1] : Fin 3 → Nat) ![1, 1, 1] ![0, 0, 0] ![0, m, 0] ⟨3, ![1, n, c]⟩)
    (j : Fin n) (l : Fin c) :
    Ideal.hostReduceWindowAdd (s := ⟨3, ![1, n, c]⟩) ![1, n, 1] ![1, 1, 1] ![0, 0, 0] ![0, m, 0] h x 0 (ix3 (0 : Fin 1) j l)
      = ∑ k : Fin n, if hk : j.val + k.val < n then x (ix3 (0 : Fin 1) ⟨j.val + k.val, hk⟩ l) else 0 := by
  rw [windowSum_eq, zero_add]
  refine (sum_idx3 (n0 := 1) (n1 := n) (n2 := 1) _).trans ?_
  rw [Fin.sum_univ_one]
  refine Finset.sum_congr rfl fun k _ => ?_
  rw [Fin.sum_univ_one]
  by_cases hk : j.val + k.val < n
  · rw [dif_pos hk, dif_pos (fun a => by
      match a with
      | ⟨0, _⟩ => exact ⟨Nat.zero_le _, by show 0 * 1 + 0 - 0 < 1; omega⟩
      | ⟨1, _⟩ => exact ⟨Nat.zero_le _, by show j.val * 1 + k.val - 0 < n; omega⟩
      | ⟨2, _⟩ => exact ⟨Nat.zero_le _, by show l.val * 1 + 0 - 0 < c; have := l.isLt; omega⟩)]
    refine congrArg x (funext fun a => Fin.ext ?_)
    match a with
    | ⟨0, _⟩ => show 0 * 1 + 0 - 0 = 0; omega
    | ⟨1, _⟩ => show j.val * 1 + k.val - 0 = j.val + k.val; omega
    | ⟨2, _⟩ => show l.val * 1 + 0 - 0 = l.val; omega
  · rw [dif_neg hk, dif_neg (fun hall => hk (by
      have h1 := (hall 1).2
      change j.val * 1 + k.val - 0 < n at h1
      omega))]

/-- An index of an array of one row. -/
theorem eq_row0 {n : ℕ} (j : (⟨2, ![1, n]⟩ : Shape).Idx) : j = ix2 (0 : Fin 1) (j 1) := by
  rw [eq_ix2 j]
  exact congrArg (fun a => ix2 a (j 1)) (Subsingleton.elim (α := Fin 1) _ _)

/-- The difference of a suffix sum and the same shifted by `w` is the sum over the first `w` entries. -/
theorem sum_telescope (f : ℕ → ℝ) (w : ℕ) (n : ℕ) :
    ∑ k ∈ Finset.range n, (f k - f (k + w)) = (∑ k ∈ Finset.range w, f k) - ∑ k ∈ Finset.range w, f (n + k) := by
  induction n with
  | zero => simp
  | succ n ih =>
    rw [Finset.sum_range_succ, ih]
    have e := Finset.sum_range_succ (fun k => f (n + k)) w
    have e' := Finset.sum_range_succ' (fun k => f (n + k)) w
    rw [e] at e'
    simp only [Nat.add_zero] at e'
    have e'' : ∑ k ∈ Finset.range w, f (n + 1 + k) = ∑ k ∈ Finset.range w, f (n + (k + 1)) :=
      Finset.sum_congr rfl fun k _ => by rw [Nat.add_assoc, Nat.add_comm 1 k]
    rw [e'']
    linarith

end Cert.Hand

end
-- ==== Proof.Pool.lean ====
/- The multiscale pool's gradient: the kernel's rotate-and-add windows against the reference's reversed running sum. -/
module

public import proofs.«01_k».proof.Proof.Sums
public import proofs.«01_k».proof.Proof.Gen.PoolBwdIdeal.Value
public import proofs.«01_k».proof.Proof.Gen.PoolBwdRefIdeal.Read
public import proofs.«01_k».proof.Defs
public import proofs.«01_k».proof.Proof.Gen.Pre_pool_bwd_finite
public import Idealize.ShloMosaic.Lib.Pipeline.ValueKit

@[expose] public section

set_option maxRecDepth 16384

noncomputable section

namespace Cert.Hand.Pool

open Idealize.ShloMosaic Idealize.ShloMosaic.TcCoe Idealize.SL.Sem

/-- The window of a column's group. -/
def wd (l : ℕ) : ℕ := if l < 192 then 2 else if l < 384 then 4 else if l < 576 then 8 else 16

theorem wd_pos (l : ℕ) : 0 < wd l := by unfold wd; split_ifs <;> decide

/-- How many entries the forward mean at row `n` takes. -/
def cnt (n l : ℕ) : ℕ := min (n + 1) (wd l)

theorem cnt_pos (n l : ℕ) : 0 < cnt n l := lt_min (Nat.succ_pos n) (wd_pos l)

/-- The cotangent at row `n` over its count, zero past the end. -/
def D (x : (⟨2, ![4096, 768]⟩ : Shape).Idx → EReal) (l : Fin 768) (n : ℕ) : EReal :=
  if h : n < 4096 then Ideal.div (x (ix2 ⟨n, h⟩ l)) ((cnt n l.val : ℝ) : EReal) else 0

/-- The count as index words: the smaller of the row number plus one and the window. -/
theorem min_word (n w : ℕ) (hn : n < 8192) (hw : w < 32) :
    (IntOp.minsi (IntOp.addi (BitVec.ofNat 32 n) 1#32) (BitVec.ofNat 32 w)).toInt = ((min (n + 1) w : ℕ) : ℤ) := by
  have e1 : IntOp.addi (BitVec.ofNat 32 n) 1#32 = BitVec.ofNat 32 (n + 1) := by
    show BitVec.ofNat 32 n + 1#32 = _
    rw [BitVec.ofNat_add]
  have hi : ∀ k : ℕ, k < 10000 → (BitVec.ofNat 32 k).toInt = (k : ℤ) := fun k hk => by
    rw [BitVec.toInt_eq_toNat_of_lt] <;> simp only [BitVec.toNat_ofNat] <;> omega
  rw [e1]
  unfold IntOp.minsi
  rw [BitVec.slt, hi _ (by omega), hi _ (by omega)]
  by_cases h : n + 1 < w
  · rw [if_pos (by simpa using by exact_mod_cast h), hi _ (by omega), Nat.min_eq_left (by omega)]
  · rw [if_neg (by simpa using by omega), hi _ (by omega), Nat.min_eq_right (by omega)]

/-- The window of a column, as the kernel's chain of selects. -/
theorem ladder_eq : ∀ l : Fin 768,
    Scalar.select (IntOp.cmpi CmpIPredicate.slt (BitVec.ofNat 32 l.val) 192#32) (2#32)
      (Scalar.select (IntOp.cmpi CmpIPredicate.slt (BitVec.ofNat 32 l.val) 384#32) (4#32)
        (Scalar.select (IntOp.cmpi CmpIPredicate.slt (BitVec.ofNat 32 l.val) 576#32) 8#32 16#32)) = BitVec.ofNat 32 (wd l.val) := by
  decide +kernel

theorem wd_lt (l : ℕ) : wd l < 32 := by unfold wd; split_ifs <;> decide

theorem count_word (n l : ℕ) (hn : n < 8192) :
    FloatOps.sitofp (F := Ideal) FTy.f32 (IntOp.minsi (IntOp.addi (BitVec.ofNat 32 n) 1#32) (BitVec.ofNat 32 (wd l))) = ((cnt n l : ℝ) : EReal) := by
  show ((_ : ℝ) : EReal) = _
  rw [min_word n (wd l) hn (wd_lt l)]
  simp [cnt]

theorem last_word (t : ℕ) (ht : t < 8) {α : Type} (a b : α) :
    Scalar.select (Scalar.cmpi CmpIPredicate.eq (BitVec.ofNat 32 t) 7#32) a b = if t = 7 then a else b := by
  interval_cases t <;> rfl

open Cert.PoolBwdIdeal Cert.PoolBwdIdeal.Gen

section Block

variable (x : (⟨2, ![4096, 768]⟩ : Shape).Idx → EReal) (i : grid0.Coords) (v0 : Vec Ideal S512x768 .f32) (v2 : Vec Ideal S16x768 .f32)
  (h0 : ∀ (r : Fin 512) (l : Fin 768) (h : 512 * (i 0).val + r.val < 4096), v0 (ix2 r l) = x (ix2 ⟨512 * (i 0).val + r.val, h⟩ l))
  (h2 : ∀ (r : Fin 16) (l : Fin 768) (h : 512 * (i 0).val + 512 + r.val < 4096), v2 (ix2 r l) = x (ix2 ⟨512 * (i 0).val + 512 + r.val, h⟩ l))

include h0 h2

/-- The block with its halo over the counts, before the shifts. -/
theorem entry (a : ℕ) (ha : a < 528) (l : Fin 768) (p : a < 512 → a < 512) (q : ¬ a < 512 → a - 512 < 16) :
    Ideal.div
        (if h : a < 512 then v0 (ix2 ⟨a, p h⟩ l)
        else Scalar.select (Scalar.cmpi CmpIPredicate.eq (BitVec.ofNat 32 (i 0).val) 7#32) 0 (v2 (ix2 ⟨a - 512, q h⟩ l)))
        (FloatOps.sitofp (F := Ideal) FTy.f32
          (IntOp.minsi (IntOp.addi (IntOp.addi (Scalar.muli (BitVec.ofNat 32 (i 0).val) 512#32) (BitVec.ofNat 32 a)) 1#32)
            (Scalar.select (IntOp.cmpi CmpIPredicate.slt (BitVec.ofNat 32 l.val) 192#32) (2#32)
              (Scalar.select (IntOp.cmpi CmpIPredicate.slt (BitVec.ofNat 32 l.val) 384#32) (4#32)
                (Scalar.select (IntOp.cmpi CmpIPredicate.slt (BitVec.ofNat 32 l.val) 576#32) 8#32 16#32)))))
      = D x l (512 * (i 0).val + a) := by
  have hi : (i 0).val < 8 := (i 0).isLt
  have e : IntOp.addi (Scalar.muli (BitVec.ofNat 32 (i 0).val) 512#32) (BitVec.ofNat 32 a) = BitVec.ofNat 32 (512 * (i 0).val + a) := by
    show BitVec.ofNat 32 (i 0).val * 512#32 + BitVec.ofNat 32 a = _
    rw [BitVec.ofNat_add, BitVec.ofNat_mul, BitVec.mul_comm]
  rw [ladder_eq, e, count_word _ _ (by omega)]
  simp only [last_word _ hi]
  unfold D
  by_cases hl : 512 * (i 0).val + a < 4096
  · rw [dif_pos hl]
    congr 1
    split_ifs with h h'
    · exact h0 ⟨a, h⟩ l hl
    · omega
    · rw [h2 ⟨a - 512, q h⟩ l (by dsimp only; omega)]
      congr 2
      simp only [Fin.mk.injEq]
      omega
  · rw [dif_neg hl, dif_neg (by omega), if_pos (by omega)]
    rw [show (0 : EReal) = ((0 : ℝ) : EReal) from rfl, Ideal.div_coe, EReal.coe_zero, zero_mul]
    exact_mod_cast (cnt_pos _ _).ne'

theorem pay3_row (r : ℕ) (hr : r + 2 ≤ 528) (l : Fin 768) (p) :
    k0_pay3 i v0 v2 (ix2 ⟨r, p⟩ l) = ∑ k ∈ Finset.range 2, D x l (512 * (i 0).val + (r + k)) := by
  pointwise [k0_pay3, k0_pay2]
  have e := entry x i v0 v2 h0 h2
  refine (congrArg₂ (· + ·) (e r (by omega) l _ _) (e ((r + 528 - 527) % 528) (by omega) l _ _)).trans ?_
  simp only [Finset.sum_range_succ, Finset.sum_range_zero, zero_add]
  rw [show (r + 528 - 527) % 528 = r + 1 by omega]
  rfl

theorem pay4_row (r : ℕ) (hr : r + 4 ≤ 528) (l : Fin 768) (p) :
    k0_pay4 i v0 v2 (ix2 ⟨r, p⟩ l) = ∑ k ∈ Finset.range 4, D x l (512 * (i 0).val + (r + k)) := by
  pointwise [k0_pay4]
  have e := pay3_row x i v0 v2 h0 h2
  refine (congrArg₂ (· + ·) (e r (by omega) l _) (e ((r + 528 - 526) % 528) (by omega) l _)).trans ?_
  rw [show (r + 528 - 526) % 528 = r + 2 by omega, Finset.sum_range_add _ 2 2]
  simp only [add_assoc]

theorem pay5_row (r : ℕ) (hr : r + 8 ≤ 528) (l : Fin 768) (p) :
    k0_pay5 i v0 v2 (ix2 ⟨r, p⟩ l) = ∑ k ∈ Finset.range 8, D x l (512 * (i 0).val + (r + k)) := by
  pointwise [k0_pay5]
  have e := pay4_row x i v0 v2 h0 h2
  refine (congrArg₂ (· + ·) (e r (by omega) l _) (e ((r + 528 - 524) % 528) (by omega) l _)).trans ?_
  rw [show (r + 528 - 524) % 528 = r + 4 by omega, Finset.sum_range_add _ 4 4]
  simp only [add_assoc]

theorem pay6_row (r : ℕ) (hr : r + 16 ≤ 528) (l : Fin 768) (p) :
    k0_pay6 i v0 v2 (ix2 ⟨r, p⟩ l) = ∑ k ∈ Finset.range 16, D x l (512 * (i 0).val + (r + k)) := by
  pointwise [k0_pay6]
  have e := pay5_row x i v0 v2 h0 h2
  refine (congrArg₂ (· + ·) (e r (by omega) l _) (e ((r + 528 - 520) % 528) (by omega) l _)).trans ?_
  rw [show (r + 528 - 520) % 528 = r + 8 by omega, Finset.sum_range_add _ 8 8]
  simp only [add_assoc]

theorem out_row (r : Fin 512) (l : Fin 768) (h : 512 * (i 0).val + r.val < 4096) :
    out0_2 i v0 v2 (ix2 r l) = (∑ k ∈ Finset.range (wd l.val), D x l (512 * (i 0).val + r.val + k)) - x (ix2 ⟨512 * (i 0).val + r.val, h⟩ l) := by
  rw [← h0 r l h]
  frame_out
  pointwise [k0_pay1, k0_pay2, k0_pay7]
  have hr := r.isLt
  rw [pay3_row x i v0 v2 h0 h2 _ (by omega), pay4_row x i v0 v2 h0 h2 _ (by omega), pay5_row x i v0 v2 h0 h2 _ (by omega), pay6_row x i v0 v2 h0 h2 _ (by omega)]
  rw [ladder_eq]
  have key : ∀ S : ℕ → EReal,
      Scalar.select (IntOp.cmpi CmpIPredicate.eq (BitVec.ofNat 32 (wd l.val)) 2#32) (S 2)
        (Scalar.select (IntOp.cmpi CmpIPredicate.eq (BitVec.ofNat 32 (wd l.val)) 4#32) (S 4)
          (Scalar.select (IntOp.cmpi CmpIPredicate.eq (BitVec.ofNat 32 (wd l.val)) 8#32) (S 8) (S 16))) = S (wd l.val) := by
    intro S
    unfold wd
    split_ifs <;> rfl
  rw [key fun w => ∑ k ∈ Finset.range w, D x l (512 * (i 0).val + (r.val + k))]
  simp only [add_assoc]

end Block

/-- The gradient in closed form: the window's sum over the counts, less the cotangent. -/
def grad (x : (⟨2, ![4096, 768]⟩ : Shape).Idx → EReal) (j : (⟨2, ![4096, 768]⟩ : Shape).Idx) : EReal :=
  (∑ k ∈ Finset.range (wd (j 1).val), D x (j 1) ((j 0).val + k)) - x j

theorem idx : ∀ t : Fin cfg0.N, ((grid0.coords t) 0).val = t.val ∧ win0_0.index t 0 = t.val ∧ win0_0.index t 1 = 0
    ∧ win0_1.index t 0 = min (32 * (t.val + 1)) 255 ∧ win0_1.index t 1 = 0 ∧ win0_2.index t 0 = t.val ∧ win0_2.index t 1 = 0 := by
  decide +kernel

theorem block_eq (m : (ℓ : Loc nD τ sig) → Buf (Elt Ideal) ℓ) (c : Dev nD) (t : Fin cfg0.N) (r : Fin 512) (l : Fin 768) :
    out0_2 (grid0.coords t) (iblk m c 0 t) (iblk m c 1 t) (ix2 r l)
      = grad (m ((c : Thread nD τ).loc main_arg0)) ((win0_2.blk t).view.emb (ix2 r l)) := by
  obtain ⟨hi, e00, e01, e10, e11, e20, e21⟩ := idx t
  have ht : t.val < 8 := t.isLt
  have hr := r.isLt
  have hy : (win0_2.blk t).view.emb (ix2 r l) = (ix2 ⟨512 * t.val + r.val, by omega⟩ l : (⟨2, ![4096, 768]⟩ : Shape).Idx) := by
    blk_ext [hi, e20, e21]
  rw [hy]
  refine (out_row (m ((c : Thread nD τ).loc main_arg0)) (grid0.coords t) (iblk m c 0 t) (iblk m c 1 t) (fun r l h => ?_) (fun r l h => ?_) r l (by omega)).trans ?_
  · blk_ext [iblk, V, hi, e00, e01]
  · rw [hi] at h
    blk_ext [iblk, V, hi, e10, e11]
  · unfold grad
    simp only [hi]
    rfl

theorem arr_eq (m : (ℓ : Loc nD τ sig) → Buf (Elt Ideal) ℓ) (c : Dev nD) :
    (dats m 0 c).arrAt 2 cfg0.N = grad (m ((c : Thread nD τ).loc main_arg0)) := by
  refine (dats m 0 c).arrAt_eq_of_covers 2 _ (by decide +kernel) fun t hf y => ?_
  blk_simp
  rw [after0_2, eq_ix2 y]
  exact block_eq m c t (y 0) (y 1)

/-- The cotangent at a row over its count, as a real number. -/
def f (x : (⟨2, ![4096, 768]⟩ : Shape).Idx → EReal) (l : Fin 768) (n : ℕ) : ℝ :=
  if h : n < 4096 then (x (ix2 ⟨n, h⟩ l)).toReal * (1 / (cnt n l.val : ℝ)) else 0

theorem D_coe (x : (⟨2, ![4096, 768]⟩ : Shape).Idx → EReal) (hx : ∀ i, max (x i) (-(x i)) < ⊤) (l : Fin 768) (n : ℕ) :
    D x l n = ((f x l n : ℝ) : EReal) := by
  unfold D f
  split_ifs with h
  · rw [Ideal.div_coe (y := (cnt n l.val : ℝ)) (by exact_mod_cast (cnt_pos n l.val).ne'), EReal.coe_mul, coe_of_abs_lt (hx _)]
  · rfl

/-- One group's entry before the running sum: the cotangent over its count less that of the row a window further on. -/
theorem piece (x : (⟨2, ![4096, 768]⟩ : Shape).Idx → EReal) (n : Fin 4096) (l l' : Fin 768) (hl : l' = l) (w : ℕ) (hw : wd l.val = w)
    (c : ℕ) (hc : c + w = 4096) (P : Prop) (hP : P) (q : n.val < c ∧ P → w + n.val < 4096) [Decidable (n.val < c ∧ P)] :
    Ideal.div (x (ix2 n l')) (FloatOps.sitofp (F := Ideal) FTy.f32 (IntOp.minsi (IntOp.addi (BitVec.ofNat 32 n.val) 1#32) (BitVec.ofNat 32 w))) +
        (if h : n.val < c ∧ P then
          -Ideal.div (x (ix2 ⟨w + n.val, q h⟩ l'))
              (FloatOps.sitofp (F := Ideal) FTy.f32 (IntOp.minsi (IntOp.addi (BitVec.ofNat 32 (w + n.val)) 1#32) (BitVec.ofNat 32 w)))
        else 0)
      = D x l n.val - D x l (n.val + wd l.val) := by
  subst hl
  subst hw
  have hn := n.isLt
  rw [count_word _ _ (by omega), sub_eq_add_neg]
  congr 1
  · unfold D
    rw [dif_pos hn]
  · unfold D
    split_ifs with h1 h2 h2
    · rw [count_word _ _ (by omega)]
      simp only [Nat.add_comm]
    · omega
    · exact absurd ⟨by omega, hP⟩ h1
    · simp

open Cert.PoolBwdRefIdeal.Read in
theorem ref_diff (x : (⟨2, ![4096, 768]⟩ : Shape).Idx → EReal) (hx : ∀ i, max (x i) (-(x i)) < ⊤) (n : Fin 4096) (l : Fin 768) :
    val_main_v101 (F := Ideal) x (ix3 (0 : Fin 1) n l) = ((f x l n.val - f x l (n.val + wd l.val) : ℝ) : EReal) := by
  rw [EReal.coe_sub, ← D_coe x hx, ← D_coe x hx]
  pointwise [val_main_cst, val_main_v0, val_main_call0_call0_cst, val_main_call0_call0_v0, val_main_v2, val_main_v3, val_main_cst_0,
    val_main_v4, val_main_v5, val_main_v6, val_main_cst_1, val_main_v7, val_main_c, val_main_v8, val_main_v9, val_main_c_2,
    val_main_v10, val_main_v11, val_main_v12, val_main_v13, val_main_v14, val_main_v15, val_main_v16, val_main_v17,
    val_main_cst_3, val_main_v18, val_main_v19, val_main_v20, val_main_cst_4, val_main_v21, val_main_c_5, val_main_v22,
    val_main_v23, val_main_c_6, val_main_v24, val_main_v25, val_main_v26, val_main_v27, val_main_v28, val_main_v29,
    val_main_v30, val_main_v31, val_main_cst_7, val_main_v32, val_main_v33, val_main_v34, val_main_cst_8, val_main_v35,
    val_main_c_9, val_main_v36, val_main_v37, val_main_c_10, val_main_v38, val_main_v39, val_main_v40, val_main_v41,
    val_main_v42, val_main_v43, val_main_v44, val_main_v45, val_main_cst_11, val_main_v46, val_main_v47, val_main_v48,
    val_main_cst_12, val_main_v49, val_main_c_13, val_main_v50, val_main_v51, val_main_c_14, val_main_v52, val_main_v53,
    val_main_v54, val_main_v55, val_main_v56, val_main_v57, val_main_v58, val_main_v59, val_main_v60, val_main_v61,
    val_main_v62, val_main_v63, val_main_v64, val_main_v65, val_main_v66, val_main_v67, val_main_v68, val_main_v69,
    val_main_v70, val_main_v71, val_main_cst_15, val_main_v72, val_main_v73, val_main_cst_16, val_main_v74, val_main_v75,
    val_main_v76, val_main_v77, val_main_v78, val_main_v79, val_main_cst_17, val_main_v80, val_main_v81, val_main_cst_18,
    val_main_v82, val_main_v83, val_main_v84, val_main_v85, val_main_v86, val_main_v87, val_main_v88, val_main_cst_19,
    val_main_v89, val_main_v90, val_main_cst_20, val_main_v91, val_main_v92, val_main_v93, val_main_v94, val_main_v95,
    val_main_v96, val_main_v97, val_main_cst_21, val_main_v98, val_main_v99, val_main_cst_22, val_main_v100, val_main_v101,
    val_main_call1_call0_cst, val_main_call1_call0_v0]
  have hl := l.isLt
  by_cases h0 : l.val < 192
  · have c576 : ¬ (576 ≤ l.val ∧ l.val - 576 < 192) := by omega
    have c384 : ¬ (384 ≤ l.val ∧ l.val - 384 < 192) := by omega
    have c192 : ¬ (192 ≤ l.val ∧ l.val - 192 < 192) := by omega
    have c0 : l.val < 192 := by omega
    refine (congrArg₂ (· + ·) (congrArg₂ (· + ·) (congrArg₂ (· + ·) (dif_neg c576) (dif_neg c384)) (dif_neg c192)) (dif_pos c0)).trans ?_
    simp only [zero_add, add_zero]
    exact piece x n l l rfl 2 (by unfold wd; split_ifs <;> omega) 4094 rfl _ h0 (by omega)
  by_cases h1 : l.val < 384
  · have c576 : ¬ (576 ≤ l.val ∧ l.val - 576 < 192) := by omega
    have c384 : ¬ (384 ≤ l.val ∧ l.val - 384 < 192) := by omega
    have c192 : (192 ≤ l.val ∧ l.val - 192 < 192) := by omega
    have c0 : ¬ l.val < 192 := by omega
    refine (congrArg₂ (· + ·) (congrArg₂ (· + ·) (congrArg₂ (· + ·) (dif_neg c576) (dif_neg c384)) (dif_pos c192)) (dif_neg c0)).trans ?_
    simp only [zero_add, add_zero]
    have hl' : (⟨192 + (l.val - 192), by omega⟩ : Fin 768) = l := Fin.ext (by dsimp only; omega)
    exact piece x n l _ hl' 4 (by unfold wd; split_ifs <;> omega) 4092 rfl _ c192.2 (by omega)
  by_cases h2 : l.val < 576
  · have c576 : ¬ (576 ≤ l.val ∧ l.val - 576 < 192) := by omega
    have c384 : (384 ≤ l.val ∧ l.val - 384 < 192) := by omega
    have c192 : ¬ (192 ≤ l.val ∧ l.val - 192 < 192) := by omega
    have c0 : ¬ l.val < 192 := by omega
    refine (congrArg₂ (· + ·) (congrArg₂ (· + ·) (congrArg₂ (· + ·) (dif_neg c576) (dif_pos c384)) (dif_neg c192)) (dif_neg c0)).trans ?_
    simp only [zero_add, add_zero]
    have hl' : (⟨384 + (l.val - 384), by omega⟩ : Fin 768) = l := Fin.ext (by dsimp only; omega)
    exact piece x n l _ hl' 8 (by unfold wd; split_ifs <;> omega) 4088 rfl _ c384.2 (by omega)
  · have c576 : (576 ≤ l.val ∧ l.val - 576 < 192) := by omega
    have c384 : ¬ (384 ≤ l.val ∧ l.val - 384 < 192) := by omega
    have c192 : ¬ (192 ≤ l.val ∧ l.val - 192 < 192) := by omega
    have c0 : ¬ l.val < 192 := by omega
    refine (congrArg₂ (· + ·) (congrArg₂ (· + ·) (congrArg₂ (· + ·) (dif_pos c576) (dif_neg c384)) (dif_neg c192)) (dif_neg c0)).trans ?_
    simp only [zero_add, add_zero]
    have hl' : (⟨576 + (l.val - 576), by omega⟩ : Fin 768) = l := Fin.ext (by dsimp only; omega)
    exact piece x n l _ hl' 16 (by unfold wd; split_ifs <;> omega) 4080 rfl _ c576.2 (by omega)

open Cert.PoolBwdRefIdeal.Read in
theorem ref_apply (x : (⟨2, ![4096, 768]⟩ : Shape).Idx → EReal) (hx : ∀ i, max (x i) (-(x i)) < ⊤) (r : Fin 4096) (l : Fin 768) :
    val_main_v105 (F := Ideal) x (ix2 r l) = grad x (ix2 r l) := by
  have e : val_main_v105 (F := Ideal) x (ix2 r l) = -(x (ix2 r l)) + val_main_v102 (F := Ideal) x (ix3 (0 : Fin 1) r l) := by
    pointwise [val_main_v105, val_main_v104, val_main_v103, val_main_v62, val_main_v61, val_main_v0]
  have e2 : val_main_v102 (F := Ideal) x (ix3 (0 : Fin 1) r l) = ∑ k : Fin 4096, if hk : r.val + k.val < 4096 then val_main_v101 (F := Ideal) x (ix3 (0 : Fin 1) ⟨r.val + k.val, hk⟩ l) else 0 := by
    unfold val_main_v102
    generalize val_main_v101 (F := Ideal) x = z
    have h0 : ∀ i, (val_main_call1_call0_v0 (F := Ideal)) i = 0 := fun i => by
      pointwise [val_main_call1_call0_v0, val_main_call1_call0_cst]
    unfold Host.reduceWindowAdd
    rw [h0]
    exact suffixSum3 (n := 4096) (m := 4095) (c := 768) rfl z _ r l
  rw [e, e2]
  have e3 : ∀ k : Fin 4096, (if hk : r.val + k.val < 4096 then val_main_v101 (F := Ideal) x (ix3 (0 : Fin 1) ⟨r.val + k.val, hk⟩ l) else 0)
      = ((f x l (r.val + k.val) - f x l (r.val + k.val + wd l.val) : ℝ) : EReal) := fun k => by
    split_ifs with hk
    · exact ref_diff x hx ⟨r.val + k.val, hk⟩ l
    · unfold f
      rw [dif_neg hk, dif_neg (by omega)]
      simp
  rw [Finset.sum_congr rfl fun k _ => e3 k, Fin.sum_univ_eq_sum_range (fun k => ((f x l (r.val + k) - f x l (r.val + k + wd l.val) : ℝ) : EReal)) 4096]
  have e4 := sum_telescope (fun k => f x l (r.val + k)) (wd l.val) 4096
  have e5 : ∑ k ∈ Finset.range (wd l.val), f x l (r.val + (4096 + k)) = 0 :=
    Finset.sum_eq_zero fun k _ => by unfold f; rw [dif_neg (by omega)]
  rw [e5, sub_zero] at e4
  simp only [← add_assoc] at e4
  rw [← coe_sum, e4]
  show _ = (∑ k ∈ Finset.range (wd l.val), D x l (r.val + k)) - x (ix2 r l)
  rw [coe_sum, sub_eq_add_neg, add_comm]
  exact congrArg (· + _) (Finset.sum_congr rfl fun k _ => (D_coe x hx l (r.val + k)).symm)

/-- The stated precondition gives a finite cotangent. -/
theorem finite_arg (m : (ℓ : Loc nD τ sig) → Buf (Elt Ideal) ℓ)
    (h : Cert.Pre_PoolBwdIdeal_pool_bwd_finite (hPre_pool_bwd_finite := Cert.Pre_pool_bwd_finite.Gen.facts) m) (c : Dev nD)
    (x : (⟨2, ![4096, 768]⟩ : Shape).Idx → EReal) (hx : m ((c : Thread nD τ).loc main_arg0) = x) (i : (⟨2, ![4096, 768]⟩ : Shape).Idx) :
    max (x i) (-(x i)) < ⊤ := by
  subst hx
  refine lt_top_of_cmp ?_
  have e := congrFun (h c) i
  unfold Cert.Pre_pool_bwd_finite.fn at e
  exact e

theorem frame_ref : Cert.quiescent_PoolBwdRefIdeal (hPoolBwdRefIdeal := Cert.PoolBwdRefIdeal.Gen.facts) := fun m ρ _ =>
  (θ_run _ _ _).mono (fun r h => ⟨fun c => (h c).2, sem_eq_zero_of_no_sems (by decide) r.2⟩) (Cert.PoolBwdRefIdeal.Value.run m ρ)

theorem alg : Cert.algebraic_PoolBwdIdeal_PoolBwdRefIdeal_pre_pool_bwd_finite (hPoolBwdIdeal := Cert.PoolBwdIdeal.Gen.facts)
    (hPoolBwdRefIdeal := Cert.PoolBwdRefIdeal.Gen.facts) (hPre_pool_bwd_finite := Cert.Pre_pool_bwd_finite.Gen.facts) := by
  intro m g m' g' hpre hag
  refine ⟨fun c => grad (m ((c : Thread nD τ).loc main_arg0)), ?_, ?_⟩
  · refine (θ_run defs _ _).mono (fun r h c => ⟨(h c).1.trans (arr_eq m c), (h c).2⟩) (Cert.PoolBwdIdeal.Value.run_blocks m g)
  · refine (θ_run Cert.PoolBwdRefIdeal.defs _ _).mono (fun r h c => ⟨(h c).1.trans ?_, (h c).2⟩) (Cert.PoolBwdRefIdeal.Value.run m' g')
    rw [Cert.PoolBwdRefIdeal.Read.val_main_v105_eq, hag c]
    funext j
    rw [eq_ix2 j]
    exact ref_apply _ (finite_arg m hpre c _ rfl) (j 0) (j 1)

end Cert.Hand.Pool

end
-- ==== Proof.SbOps.lean ====
module

public import proofs.«01_k».proof.Proof.Sums
public import Idealize.ShloMosaic.Lib.MatmulPlain
public import Idealize.ShloMosaic.Lib.Pipeline.Value
public import Mathlib.Analysis.SpecialFunctions.Log.Basic
public meta import Idealize.ShloMosaic.Lib.Pointwise

/-!
Vectors of the exact instance whose entries are real numbers: what each operation of the stick-breaking kernel does to
them, one lemma an operation, at any sizes.
-/

@[expose] public section

namespace Cert.Hand.Sb

open Idealize.ShloMosaic Idealize.ShloMosaic.TcCoe

/-- The entry in row `r`, column `c` of `v` is the real number `f r c`. -/
def IsR {M N : ℕ} (v : (⟨2, ![M, N]⟩ : Shape).Idx → EReal) (f : ℕ → ℕ → ℝ) : Prop :=
  ∀ (r : Fin M) (c : Fin N), v (ix2 r c) = ((f r.val c.val : ℝ) : EReal)

/-- An array of real entries. -/
def mat {M N : ℕ} (f : ℕ → ℕ → ℝ) : (⟨2, ![M, N]⟩ : Shape).Idx → EReal := fun i => ((f (i 0).val (i 1).val : ℝ) : EReal)

/-- The real entries of an array. -/
def re {M N : ℕ} (x : (⟨2, ![M, N]⟩ : Shape).Idx → EReal) (r c : ℕ) : ℝ :=
  if h : r < M ∧ c < N then (x (ix2 ⟨r, h.1⟩ ⟨c, h.2⟩)).toReal else 0

theorem re_eq {M N : ℕ} {x : (⟨2, ![M, N]⟩ : Shape).Idx → EReal} (hx : ∀ i, max (x i) (-(x i)) < ⊤) (i : (⟨2, ![M, N]⟩ : Shape).Idx) :
    x i = ((re x (i 0).val (i 1).val : ℝ) : EReal) := by
  unfold re
  rw [dif_pos ⟨(i 0).isLt, (i 1).isLt⟩]
  refine (coe_of_abs_lt (hx i)).symm.trans ?_
  conv_lhs => rw [eq_ix2 i]
  rfl

theorem sumR (n : ℕ) (f : ℕ → ℝ) : ((∑ k ∈ Finset.range n, f k : ℝ) : EReal) = ∑ k : Fin n, ((f k.val : ℝ) : EReal) := by
  rw [Finset.sum_range, coe_sum]

/-- A product against rows. -/
def dotT (Q K D : ℕ) : DotDims ⟨2, ![Q, D]⟩ ⟨2, ![K, D]⟩ ⟨2, ![Q, K]⟩ := DotDims.transposedRhs Q D K

/-- A product of columns with columns: rows are summed on both sides. -/
def dotL (Q K D : ℕ) : DotDims ⟨2, ![Q, K]⟩ ⟨2, ![Q, D]⟩ ⟨2, ![K, D]⟩ where
  lhsContracting := [0]
  rhsContracting := [0]
  lhsNonContracting := [1]
  rhsNonContracting := [1]
  lhsBatch := []
  rhsBatch := []
  wf := ⟨rfl, by simp, rfl, by simp, by simp, by simp, (by decide : (([] ++ [1] ++ [0] : List (Fin 2))).Perm (List.finRange 2)),
    (by decide : (([] ++ [1] ++ [0] : List (Fin 2))).Perm (List.finRange 2)), rfl, Nat.two_pos,
    fun b => by fin_cases b <;> rfl⟩

section
variable {M N K : ℕ} {φ φ₁ φ₂ : FTy}

theorem IsR.congr {v : (⟨2, ![M, N]⟩ : Shape).Idx → EReal} {f g : ℕ → ℕ → ℝ} (h : IsR v f)
    (e : ∀ r c, r < M → c < N → f r c = g r c) : IsR v g :=
  fun r c => (h r c).trans (by rw [e r.val c.val r.isLt c.isLt])

theorem isR_matmul_nn {a : FVec Ideal ⟨2, ![M, K]⟩ φ₁} {b : FVec Ideal ⟨2, ![K, N]⟩ φ₂} {f g : ℕ → ℕ → ℝ} (ha : IsR a f) (hb : IsR b g) :
    IsR (matmul (DotDims.plain M K N) none a b (constant (F := Ideal) ⟨2, ![M, N]⟩ .f32 0x00000000#32))
      (fun r c => ∑ k ∈ Finset.range K, f r k * g k c) := by
  intro r c
  refine (Ideal.matmul_plain_apply none a b _ r c).trans ?_
  refine (congrArg (· + _) (show constant (F := Ideal) ⟨2, ![M, N]⟩ .f32 0x00000000#32 (ix2 r c) = (0 : EReal) from
    Ideal.ofBits_zero_f32)).trans ?_
  rw [zero_add]
  refine Eq.trans ?_ (sumR K fun k => f r k * g k c).symm
  exact Finset.sum_congr rfl fun k _ => (congrArg₂ (· * ·) (ha r k) (hb k c)).trans (EReal.coe_mul _ _).symm

theorem isR_matmul_nt {a : FVec Ideal ⟨2, ![M, K]⟩ φ₁} {b : FVec Ideal ⟨2, ![N, K]⟩ φ₂} {f g : ℕ → ℕ → ℝ} (ha : IsR a f) (hb : IsR b g) :
    IsR (matmul (dotT M N K) none a b (constant (F := Ideal) ⟨2, ![M, N]⟩ .f32 0x00000000#32))
      (fun r c => ∑ k ∈ Finset.range K, f r k * g c k) := by
  intro r c
  refine (Ideal.matmul_transposedRhs_apply none a b _ r c).trans ?_
  refine (congrArg (· + _) (show constant (F := Ideal) ⟨2, ![M, N]⟩ .f32 0x00000000#32 (ix2 r c) = (0 : EReal) from
    Ideal.ofBits_zero_f32)).trans ?_
  rw [zero_add]
  refine Eq.trans ?_ (sumR K fun k => f r k * g c k).symm
  exact Finset.sum_congr rfl fun k _ => (congrArg₂ (· * ·) (ha r k) (hb c k)).trans (EReal.coe_mul _ _).symm

theorem isR_matmul_tn {a : FVec Ideal ⟨2, ![K, M]⟩ φ₁} {b : FVec Ideal ⟨2, ![K, N]⟩ φ₂} {f g : ℕ → ℕ → ℝ} (ha : IsR a f) (hb : IsR b g) :
    IsR (matmul (dotL K M N) none a b (constant (F := Ideal) ⟨2, ![M, N]⟩ .f32 0x00000000#32))
      (fun r c => ∑ k ∈ Finset.range K, f k r * g k c) := by
  intro r c
  refine (Ideal.matmul_constant_zero_apply (dotL K M N) none a b (ix2 r c)).trans ?_
  refine ((dotL K M N).sum_contr₁ (a := 0) (K := K) rfl rfl _).trans ?_
  refine Eq.trans ?_ (sumR K fun k => f k r * g k c).symm
  refine Finset.sum_congr rfl fun k _ => ?_
  have el : (dotL K M N).lhsIdx (ix2 r c) ((dotL K M N).contrIdx₁ (a := 0) (K := K) rfl rfl k) = ix2 k r := by
    funext a; apply Fin.ext
    match a with
    | ⟨0, _⟩ => rfl
    | ⟨1, _⟩ => rfl
  have er : (dotL K M N).rhsIdx (ix2 r c) ((dotL K M N).contrIdx₁ (a := 0) (K := K) rfl rfl k) = ix2 k c := by
    funext a; apply Fin.ext
    match a with
    | ⟨0, _⟩ => rfl
    | ⟨1, _⟩ => rfl
  rw [el, er, ha, hb, EReal.coe_mul]

theorem isR_add {a b : FVec Ideal ⟨2, ![M, N]⟩ φ} {f g : ℕ → ℕ → ℝ} (ha : IsR a f) (hb : IsR b g) :
    IsR (addf a b) (fun r c => f r c + g r c) := fun r c =>
  (congrArg₂ (· + ·) (ha r c) (hb r c)).trans (EReal.coe_add _ _).symm

theorem isR_sub {a b : FVec Ideal ⟨2, ![M, N]⟩ φ} {f g : ℕ → ℕ → ℝ} (ha : IsR a f) (hb : IsR b g) :
    IsR (subf a b) (fun r c => f r c - g r c) := fun r c =>
  (congrArg₂ (· - ·) (ha r c) (hb r c)).trans (EReal.coe_sub _ _).symm

theorem isR_mul {a b : FVec Ideal ⟨2, ![M, N]⟩ φ} {f g : ℕ → ℕ → ℝ} (ha : IsR a f) (hb : IsR b g) :
    IsR (mulf a b) (fun r c => f r c * g r c) := fun r c =>
  (congrArg₂ (· * ·) (ha r c) (hb r c)).trans (EReal.coe_mul _ _).symm

theorem isR_exp {a : FVec Ideal ⟨2, ![M, N]⟩ φ} {f : ℕ → ℕ → ℝ} (ha : IsR a f) :
    IsR (exp a) (fun r c => Real.exp (f r c)) := fun r c =>
  (congrArg Ideal.exp (ha r c)).trans (by rfl)

theorem isR_bc {x : EReal} {y : ℝ} (h : x = (y : EReal)) : IsR (M := M) (N := N) (broadcast (α := EReal) ⟨2, ![M, N]⟩ x) (fun _ _ => y) :=
  fun _ _ => h

theorem isR_col {a : FVec Ideal ⟨2, ![M, 1]⟩ φ} {f : ℕ → ℕ → ℝ} (ha : IsR a f) (h : (⟨2, ![M, 1]⟩ : Shape).Broadcasts ⟨2, ![M, N]⟩) :
    IsR (broadcastTo ⟨2, ![M, N]⟩ a h) (fun r _ => f r 0) := by
  intro r c
  have e : broadcastTo ⟨2, ![M, N]⟩ a h (ix2 r c) = a (ix2 r 0) := by
    rw [Pointwise.broadcastTo_apply, Shape.Idx.norm_def]
    refine congrArg a ?_
    funext b; apply Fin.ext
    match b with
    | ⟨0, _⟩ =>
      show (if h1 : M = 1 then (⟨0, _⟩ : Fin M) else ⟨r.val, _⟩).val = r.val
      split
      · have := r.isLt; show 0 = r.val; omega
      · rfl
    | ⟨1, _⟩ => rfl
  rw [e]; exact ha r 0

theorem isR_slice {M' N' : ℕ} (o p : ℕ) {a : FVec Ideal ⟨2, ![M, N]⟩ φ} {f : ℕ → ℕ → ℝ} (ha : IsR a f)
    (h : (⟨2, ![M, N]⟩ : Shape).Slices ![o, p] ⟨2, ![M', N']⟩) :
    IsR (extractStridedSlice ⟨2, ![M', N']⟩ ![o, p] a h) (fun r c => f (o + r) (p + c)) := by
  intro r c
  have h0 : o + r.val < M := by have h2 : o + M' ≤ M := h.2 0; have := r.isLt; omega
  have h1 : p + c.val < N := by have h2 : p + N' ≤ N := h.2 1; have := c.isLt; omega
  have e : extractStridedSlice ⟨2, ![M', N']⟩ ![o, p] a h (ix2 r c) = a (ix2 ⟨o + r.val, h0⟩ ⟨p + c.val, h1⟩) := by
    rw [Pointwise.extractStridedSlice_apply, Shape.Idx.norm_def]
    refine congrArg a ?_
    funext b; apply Fin.ext
    match b with
    | ⟨0, _⟩ => rfl
    | ⟨1, _⟩ => rfl
  rw [e]; exact ha _ _

theorem isR_rowSum {a : FVec Ideal ⟨2, ![M, N]⟩ .f32} {f : ℕ → ℕ → ℝ} (ha : IsR a f) (h : (⟨2, ![M, N]⟩ : Shape).Reduces [1] ⟨1, ![M]⟩)
    (p q) (hc : (⟨1, ![M]⟩ : Shape).ShapeCasts ⟨2, ![M, 1]⟩) :
    IsR (shapeCast ⟨2, ![M, 1]⟩ (multiReduction (F := Ideal) .add [1] ⟨1, ![M]⟩ a 0x00000000#32 h p q) hc)
      (fun r _ => ∑ k ∈ Finset.range N, f r k) := by
  intro r c
  have e : shapeCast ⟨2, ![M, 1]⟩ (multiReduction (F := Ideal) .add [1] ⟨1, ![M]⟩ a 0x00000000#32 h p q) hc (ix2 r c)
      = ∑ k : Fin N, a (ix2 r k) := by
    have e1 : Shape.reshapeEquiv hc (ix2 r c) = ix1 r := by
      refine Shape.reshapeEquiv_eq_of_rowMajor _ ?_
      rw [rowMajor_val1, rowMajor_val2 _ 1 rfl]
      show r.val = r.val * 1 + c.val
      have := c.isLt; omega
    pointwise []
    rw [e1]; rfl
  rw [e]
  refine Eq.trans ?_ (sumR N fun k => f r k).symm
  exact Finset.sum_congr rfl fun k _ => ha r k

theorem isR_cat {N₁ N₂ : ℕ} {a : FVec Ideal ⟨2, ![M, N₁]⟩ φ} {b : FVec Ideal ⟨2, ![M, N₂]⟩ φ} {f g : ℕ → ℕ → ℝ}
    (ha : IsR a f) (hb : IsR b g)
    (h : Shape.Concatenates [⟨2, ![M, N₁]⟩, ⟨2, ![M, N₂]⟩] ⟨2, ![M, N]⟩ 1) (hN : N₁ + N₂ = N) :
    IsR (concatenate (α := EReal) ⟨2, ![M, N]⟩ 1 [⟨⟨2, ![M, N₁]⟩, a⟩, ⟨⟨2, ![M, N₂]⟩, b⟩] h)
      (fun r c => if c < N₁ then f r c else g r (c - N₁)) := by
  intro r c
  by_cases hc : c.val < N₁
  · refine (concatenate_pair_apply_left (t := ⟨2, ![M, N]⟩) 1 a b h (ix2 r c) rfl (ix2 r ⟨c.val, hc⟩) fun d => ?_).trans ?_
    · match d with
      | ⟨0, _⟩ => rfl
      | ⟨1, _⟩ => rfl
    · rw [ha]; show _ = ((if c.val < N₁ then _ else _ : ℝ) : EReal); rw [if_pos hc]
  · have hc' : c.val - N₁ < N₂ := by have := c.isLt; omega
    refine (concatenate_pair_apply_right (t := ⟨2, ![M, N]⟩) 1 a b h (ix2 r c) rfl rfl (ix2 r ⟨c.val - N₁, hc'⟩) (fun d hd => ?_) ?_).trans ?_
    · match d with
      | ⟨0, _⟩ => rfl
      | ⟨1, _⟩ => exact absurd rfl hd
    · show c.val - N₁ + N₁ = c.val; omega
    · rw [hb]; show _ = ((if c.val < N₁ then _ else _ : ℝ) : EReal); rw [if_neg hc]

end

end Cert.Hand.Sb
-- ==== Proof.SbBlock.lean ====
module

public import proofs.«01_k».proof.Proof.SbOps

/-!
One block of the stick-breaking backward pass, at any sizes: `Q` query rows against `K = H + H` key rows. The operations in
the kernel's order, and what they come to over the reals.
-/

@[expose] public section

namespace Cert.Hand.Sb

open Idealize.ShloMosaic Idealize.ShloMosaic.TcCoe

/-- The shape of a matrix. -/
abbrev Mat (M N : ℕ) : Shape := ⟨2, ![M, N]⟩

/-- The side conditions of a block's operations. -/
structure BF (Q K H : ℕ) : Prop where
  sl0 : (Mat Q K).Slices ![0, 0] (Mat Q H)
  sl1 : (Mat Q K).Slices ![0, H] (Mat Q H)
  rd : (Mat Q H).Reduces [1] ⟨1, ![Q]⟩
  sc : (⟨1, ![Q]⟩ : Shape).ShapeCasts (Mat Q 1)
  bh : (Mat Q 1).Broadcasts (Mat Q H)
  bk : (Mat Q 1).Broadcasts (Mat Q K)
  ct : Shape.Concatenates [Mat Q H, Mat Q H] (Mat Q K) 1

section
variable {Q K H : ℕ} (bf : BF Q K H)

/-- The zero matrix a product is added to. -/
noncomputable abbrev zm (M N : ℕ) : FVec Ideal (Mat M N) .f32 := constant (F := Ideal) (Mat M N) .f32 0x00000000#32

/-- A constant matrix. -/
noncomputable abbrev cm (M N : ℕ) (b : BitVec 32) : FVec Ideal (Mat M N) .f32 := broadcast (Mat M N) (Scalar.ofBits .f32 b : Ideal .f32)

noncomputable def bz (q : FVec Ideal (Mat Q 128) .bf16) (k : FVec Ideal (Mat K 128) .bf16) : FVec Ideal (Mat Q K) .f32 :=
  matmul (dotT Q K 128) none q k (zm Q K)

/-- The logarithm of the gate not taken, of scores `z`. -/
noncomputable def bl (z : FVec Ideal (Mat Q K) .f32) : FVec Ideal (Mat Q K) .f32 :=
  subf (minimumf (subf (cm Q K 0x00000000#32) z) (cm Q K 0x00000000#32))
    (log (addf (cm Q K 0x3F800000#32) (exp (minimumf z (subf (cm Q K 0x00000000#32) z)))))

include bf in
noncomputable def bsum (x : FVec Ideal (Mat Q H) .f32) : FVec Ideal (Mat Q 1) .f32 :=
  shapeCast (Mat Q 1) (multiReduction (F := Ideal) .add [1] ⟨1, ![Q]⟩ x 0x00000000#32 bf.rd (.inl rfl) rfl) bf.sc

noncomputable def bx0 (x : FVec Ideal (Mat Q K) .f32) : FVec Ideal (Mat Q H) .f32 := extractStridedSlice (Mat Q H) ![0, 0] x bf.sl0
noncomputable def bx1 (x : FVec Ideal (Mat Q K) .f32) : FVec Ideal (Mat Q H) .f32 := extractStridedSlice (Mat Q H) ![0, H] x bf.sl1

noncomputable def btot (x : FVec Ideal (Mat Q K) .f32) : FVec Ideal (Mat Q 1) .f32 := addf (bsum bf (bx0 bf x)) (bsum bf (bx1 bf x))

noncomputable def btri (t : FVec Ideal (Mat H H) .bf16) (x : FVec Ideal (Mat Q H) .f32) (lt : FTy.bf16.bits < FTy.f32.bits) : FVec Ideal (Mat Q H) .f32 :=
  matmul (DotDims.plain Q H H) none (truncf .bf16 x lt) t (zm Q H)

noncomputable def bin (t : FVec Ideal (Mat H H) .bf16) (lt : FTy.bf16.bits < FTy.f32.bits) (x : FVec Ideal (Mat Q K) .f32) : FVec Ideal (Mat Q K) .f32 :=
  concatenate (Mat Q K) 1 [⟨Mat Q H, addf (btri t (bx0 bf x) lt) (broadcastTo (Mat Q H) (bsum bf (bx1 bf x)) bf.bh)⟩,
    ⟨Mat Q H, btri t (bx1 bf x) lt⟩] bf.ct

noncomputable def bbef (t : FVec Ideal (Mat H H) .bf16) (lt : FTy.bf16.bits < FTy.f32.bits) (x : FVec Ideal (Mat Q K) .f32) : FVec Ideal (Mat Q K) .f32 :=
  concatenate (Mat Q K) 1 [⟨Mat Q H, btri t (bx0 bf x) lt⟩,
    ⟨Mat Q H, addf (btri t (bx1 bf x) lt) (broadcastTo (Mat Q H) (bsum bf (bx0 bf x)) bf.bh)⟩] bf.ct

variable (lt : FTy.bf16.bits < FTy.f32.bits) (mk : FVec Ideal (Mat Q K) .f32 → FVec Ideal (Mat Q K) .f32)
  (t1 t2 : FVec Ideal (Mat H H) .bf16) (q g : FVec Ideal (Mat Q 128) .bf16) (k v kh : FVec Ideal (Mat K 128) .bf16)
  (tot cl cd : FVec Ideal (Mat Q 1) .f32) (dq : FVec Ideal (Mat Q 128) .f32)

noncomputable def bcl : FVec Ideal (Mat Q 1) .f32 := addf cl (btot bf (mk (bl (bz q k))))

noncomputable def bw : FVec Ideal (Mat Q K) .f32 :=
  mk (exp (addf (addf (bz q k) (bl (bz q k)))
    (addf (broadcastTo (Mat Q K) (subf tot (bcl bf mk q k cl)) bf.bk) (bin bf t1 lt (mk (bl (bz q k)))))))

noncomputable def be : FVec Ideal (Mat Q K) .f32 := mulf (bz g v) (bw bf lt mk t1 q k tot cl)

noncomputable def bcd : FVec Ideal (Mat Q 1) .f32 := addf cd (btot bf (be bf lt mk t1 q g k v tot cl))

noncomputable def bdz : FVec Ideal (Mat Q K) .bf16 :=
  truncf .bf16 (mk (subf (mulf (be bf lt mk t1 q g k v tot cl) (exp (bl (bz q k))))
    (mulf (addf (bbef bf t2 lt (be bf lt mk t1 q g k v tot cl)) (broadcastTo (Mat Q K) cd bf.bk))
      (exp (addf (bz q k) (bl (bz q k))))))) lt

noncomputable def bdq : FVec Ideal (Mat Q 128) .f32 :=
  addf dq (matmul (DotDims.plain Q K 128) none (bdz bf lt mk t1 t2 q g k v tot cl cd) kh (zm Q 128))

noncomputable def bdk : FVec Ideal (Mat K 128) .f32 :=
  matmul (dotL Q K 128) none (bdz bf lt mk t1 t2 q g k v tot cl cd) q (zm K 128)

noncomputable def bdv : FVec Ideal (Mat K 128) .f32 :=
  matmul (dotL Q K 128) none (truncf .bf16 (bw bf lt mk t1 q k tot cl) lt) g (zm K 128)

end

/-! ### Over the reals -/

/-- The logarithm of one less the logistic function. -/
noncomputable def lnR (z : ℝ) : ℝ := -Real.log (1 + Real.exp z)

theorem lnR_eq (z : ℝ) : min (0 - z) 0 - Real.log (1 + Real.exp (min z (0 - z))) = lnR z := by
  unfold lnR
  rcases le_total z 0 with h | h
  · rw [min_eq_right (by linarith), min_eq_left (by linarith)]; ring
  · rw [min_eq_left (by linarith), min_eq_right (by linarith)]
    have e : 1 + Real.exp z = Real.exp z * (1 + Real.exp (0 - z)) := by
      rw [mul_add, mul_one, ← Real.exp_add]; simp [add_comm]
    rw [e, Real.log_mul (Real.exp_pos z).ne' (by positivity), Real.log_exp]; ring

section
variable {Q K H : ℕ}

theorem zero_bits : (Scalar.ofBits .f32 0x00000000#32 : Ideal .f32) = ((0 : ℝ) : EReal) := by
  rw [EReal.coe_zero]; exact Ideal.ofBits_zero_f32

theorem one_bits : (Scalar.ofBits .f32 0x3F800000#32 : Ideal .f32) = ((1 : ℝ) : EReal) := by
  rw [EReal.coe_one]; exact Ideal.ofBits_one_f32

theorem coeMin (x y : ℝ) : ((min x y : ℝ) : EReal) = min (x : EReal) (y : EReal) :=
  (show Monotone (fun r : ℝ => (r : EReal)) from fun _ _ h => EReal.coe_le_coe_iff.2 h).map_min

theorem logPos {x : ℝ} (h : 0 < x) : Ideal.log (x : EReal) = ((Real.log x : ℝ) : EReal) := by
  show (if x ≤ 0 then (⊥ : EReal) else (Real.log x : EReal)) = _
  rw [if_neg (not_le.2 h)]

theorem isR_bl {z : FVec Ideal (Mat Q K) .f32} {f : ℕ → ℕ → ℝ} (h : IsR z f) : IsR (bl z) (fun r c => lnR (f r c)) := by
  have hn : IsR (subf (cm Q K 0x00000000#32) z) (fun r c => 0 - f r c) := isR_sub (isR_bc zero_bits) h
  have h1 : IsR (minimumf (subf (cm Q K 0x00000000#32) z) (cm Q K 0x00000000#32)) (fun r c => min (0 - f r c) 0) := fun r c =>
    (congrArg₂ min (hn r c) (isR_bc (M := Q) (N := K) zero_bits r c)).trans (coeMin _ _).symm
  have h2 : IsR (minimumf z (subf (cm Q K 0x00000000#32) z)) (fun r c => min (f r c) (0 - f r c)) := fun r c =>
    (congrArg₂ min (h r c) (hn r c)).trans (coeMin _ _).symm
  have h3 := isR_add (isR_bc (M := Q) (N := K) one_bits) (isR_exp h2)
  have h4 : IsR (log (addf (cm Q K 0x3F800000#32) (exp (minimumf z (subf (cm Q K 0x00000000#32) z)))))
      (fun r c => Real.log (1 + Real.exp (min (f r c) (0 - f r c)))) := fun r c =>
    (congrArg Ideal.log (h3 r c)).trans (logPos (by positivity))
  exact (isR_sub h1 h4).congr fun r c _ _ => lnR_eq _

variable (bf : BF Q K H) (lt : FTy.bf16.bits < FTy.f32.bits) (hK : H + H = K)

include hK in
theorem isR_btot {x : FVec Ideal (Mat Q K) .f32} {f : ℕ → ℕ → ℝ} (h : IsR x f) :
    IsR (btot bf x) (fun r _ => ∑ c ∈ Finset.range K, f r c) := by
  refine (isR_add (isR_rowSum (isR_slice 0 0 h bf.sl0) bf.rd (.inl rfl) rfl bf.sc)
    (isR_rowSum (isR_slice 0 H h bf.sl1) bf.rd (.inl rfl) rfl bf.sc)).congr fun r c _ _ => ?_
  subst hK
  rw [Finset.sum_range_add]
  simp only [zero_add]

theorem isR_btri {t : FVec Ideal (Mat H H) .bf16} {x : FVec Ideal (Mat Q H) .f32} {p f : ℕ → ℕ → ℝ} (ht : IsR t p) (h : IsR x f) :
    IsR (btri t x lt) (fun r c => ∑ k ∈ Finset.range H, f r k * p k c) :=
  isR_matmul_nn (φ₁ := .bf16) (φ₂ := .bf16) (show IsR (truncf .bf16 x lt : FVec Ideal (Mat Q H) .bf16) f from h) ht

include hK in
theorem isR_bin {t : FVec Ideal (Mat H H) .bf16} {x : FVec Ideal (Mat Q K) .f32} {f : ℕ → ℕ → ℝ}
    (ht : IsR t (fun j s => if s < j then 1 else 0)) (h : IsR x f) :
    IsR (bin bf t lt x) (fun r c => ∑ k ∈ Finset.range K, if c < k then f r k else 0) := by
  refine (isR_cat (isR_add (isR_btri lt ht (isR_slice 0 0 h bf.sl0))
      (isR_col (φ := .f32) (isR_rowSum (isR_slice 0 H h bf.sl1) bf.rd (.inl rfl) rfl bf.sc) bf.bh))
    (isR_btri lt ht (isR_slice 0 H h bf.sl1)) bf.ct hK).congr fun r c _ hc => ?_
  subst hK
  simp only [mul_ite, mul_one, mul_zero, zero_add]
  rw [Finset.sum_range_add]
  by_cases h1 : c < H
  · rw [if_pos h1]
    congr 1
    exact Finset.sum_congr rfl fun k _ => (if_pos (by omega)).symm
  · rw [if_neg h1]
    have e : ∑ k ∈ Finset.range H, (if c < k then f r k else 0) = 0 :=
      Finset.sum_eq_zero fun k hk => if_neg (by have := Finset.mem_range.1 hk; omega)
    rw [e, zero_add]
    exact Finset.sum_congr rfl fun k _ => if_congr (by omega) rfl rfl

include hK in
theorem isR_bbef {t : FVec Ideal (Mat H H) .bf16} {x : FVec Ideal (Mat Q K) .f32} {f : ℕ → ℕ → ℝ}
    (ht : IsR t (fun j s => if j < s then 1 else 0)) (h : IsR x f) :
    IsR (bbef bf t lt x) (fun r c => ∑ k ∈ Finset.range c, f r k) := by
  refine (isR_cat (isR_btri lt ht (isR_slice 0 0 h bf.sl0)) (isR_add (isR_btri lt ht (isR_slice 0 H h bf.sl1))
      (isR_col (φ := .f32) (isR_rowSum (isR_slice 0 0 h bf.sl0) bf.rd (.inl rfl) rfl bf.sc) bf.bh)) bf.ct hK).congr fun r c _ hc => ?_
  subst hK
  simp only [mul_ite, mul_one, mul_zero, zero_add]
  have cut : ∀ (n m : ℕ) (F : ℕ → ℝ), m ≤ n → ∑ k ∈ Finset.range n, (if k < m then F k else 0) = ∑ k ∈ Finset.range m, F k := by
    intro n m F hm
    obtain ⟨p, rfl⟩ := Nat.exists_eq_add_of_le hm
    rw [Finset.sum_range_add, Finset.sum_congr rfl fun k hk => if_pos (Finset.mem_range.1 hk),
      Finset.sum_congr (s₁ := Finset.range p) rfl fun k _ => if_neg (show ¬ m + k < m by omega)]
    simp
  by_cases h1 : c < H
  · rw [if_pos h1]; exact cut H c _ h1.le
  · rw [if_neg h1]
    obtain ⟨p, rfl⟩ := Nat.exists_eq_add_of_le (Nat.le_of_not_lt h1)
    rw [Finset.sum_range_add, add_comm, Nat.add_sub_cancel_left, cut H p _ (by omega)]

end

/-- The scores. -/
noncomputable def zR (q k : ℕ → ℕ → ℝ) (i j : ℕ) : ℝ := ∑ d ∈ Finset.range 128, q i d * k j d

/-- The masked logarithms of the gates not taken. -/
noncomputable def LR (q k : ℕ → ℕ → ℝ) (i j : ℕ) : ℝ := if j < i then lnR (zR q k i j) else 0

/-- The weights. -/
noncomputable def wR (q k : ℕ → ℕ → ℝ) (i j : ℕ) : ℝ :=
  if j < i then Real.exp (zR q k i j + lnR (zR q k i j) + ∑ s ∈ Finset.range 4096, if j < s then LR q k i s else 0) else 0

/-- The gradient of the logarithm of the weights. -/
noncomputable def eR (q k g v : ℕ → ℕ → ℝ) (i j : ℕ) : ℝ := zR g v i j * wR q k i j

/-- The gradient of the scores. -/
noncomputable def dzR (q k g v : ℕ → ℕ → ℝ) (i j : ℕ) : ℝ :=
  if j < i then eR q k g v i j * Real.exp (lnR (zR q k i j))
    - (∑ s ∈ Finset.range j, eR q k g v i s) * Real.exp (zR q k i j + lnR (zR q k i j)) else 0

section
variable {Q K H : ℕ} (bf : BF Q K H) (lt : FTy.bf16.bits < FTy.f32.bits) (hK : H + H = K)
  {mk : FVec Ideal (Mat Q K) .f32 → FVec Ideal (Mat Q K) .f32}
  {t1 t2 : FVec Ideal (Mat H H) .bf16} {q g : FVec Ideal (Mat Q 128) .bf16} {k v kh : FVec Ideal (Mat K 128) .bf16}
  {tot cl cd : FVec Ideal (Mat Q 1) .f32} {dq : FVec Ideal (Mat Q 128) .f32}
  {fq fg fk fv fh D : ℕ → ℕ → ℝ} {q0 k0 : ℕ}
  (hmk : ∀ x f, IsR x f → IsR (mk x) (fun r c => if k0 + c < q0 + r then f r c else 0))
  (ht1 : IsR t1 (fun j s => if s < j then 1 else 0)) (ht2 : IsR t2 (fun j s => if j < s then 1 else 0))
  (hq : IsR q (fun r d => fq (q0 + r) d)) (hg : IsR g (fun r d => fg (q0 + r) d))
  (hk : IsR k (fun c d => fk (k0 + c) d)) (hv : IsR v (fun c d => fv (k0 + c) d)) (hh : IsR kh (fun c d => fh (k0 + c) d))
  (hcl : IsR cl (fun r _ => ∑ j ∈ Finset.range k0, LR fq fk (q0 + r) j))
  (htot : IsR tot (fun r _ => ∑ j ∈ Finset.range 4096, LR fq fk (q0 + r) j))
  (hcd : IsR cd (fun r _ => ∑ j ∈ Finset.range k0, eR fq fk fg fv (q0 + r) j))
  (hdq : IsR dq D) (hle : k0 + K ≤ 4096)

include hmk hq hk in
theorem isR_L : IsR (mk (bl (bz q k))) (fun r c => LR fq fk (q0 + r) (k0 + c)) :=
  (hmk _ _ (isR_bl (isR_matmul_nt hq hk)))

include hK hmk hq hk hcl in
theorem isR_bcl : IsR (bcl bf mk q k cl) (fun r _ => ∑ j ∈ Finset.range (k0 + K), LR fq fk (q0 + r) j) :=
  (isR_add hcl (isR_btot bf hK (isR_L hmk hq hk))).congr fun r c _ _ => (Finset.sum_range_add _ _ _).symm

theorem rest_sum (F : ℕ → ℝ) (a c n : ℕ) (hc : c < n) (h : a + n ≤ 4096) :
    (∑ j ∈ Finset.range 4096, F j - ∑ j ∈ Finset.range (a + n), F j) + (∑ s ∈ Finset.range n, if c < s then F (a + s) else 0)
      = ∑ s ∈ Finset.range 4096, if a + c < s then F s else 0 := by
  obtain ⟨p, hp⟩ := Nat.exists_eq_add_of_le h
  rw [hp]
  rw [Finset.sum_range_add F (a + n) p, Finset.sum_range_add (fun s => if a + c < s then F s else 0) (a + n) p,
    Finset.sum_range_add (fun s => if a + c < s then F s else 0) a n]
  have e1 : ∑ s ∈ Finset.range a, (if a + c < s then F s else 0) = 0 :=
    Finset.sum_eq_zero fun s hs => if_neg (by have := Finset.mem_range.1 hs; omega)
  have e2 : ∑ s ∈ Finset.range n, (if a + c < a + s then F (a + s) else 0) = ∑ s ∈ Finset.range n, if c < s then F (a + s) else 0 :=
    Finset.sum_congr rfl fun s _ => if_congr (by omega) rfl rfl
  have e3 : ∑ s ∈ Finset.range p, (if a + c < a + n + s then F (a + n + s) else 0) = ∑ s ∈ Finset.range p, F (a + n + s) :=
    Finset.sum_congr rfl fun s _ => if_pos (by omega)
  rw [e1, e2, e3]; ring

include hK hmk ht1 hq hk hcl htot hle in
theorem isR_bw : IsR (bw bf lt mk t1 q k tot cl) (fun r c => wR fq fk (q0 + r) (k0 + c)) := by
  refine (hmk _ _ (isR_exp (isR_add (isR_add (isR_matmul_nt hq hk) (isR_bl (isR_matmul_nt hq hk)))
    (isR_add (isR_col (isR_sub htot (isR_bcl bf hK hmk hq hk hcl)) bf.bk) (isR_bin bf lt hK ht1 (isR_L hmk hq hk)))))).congr
    fun r c _ hc => ?_
  show (if k0 + c < q0 + r then Real.exp (_ + ((_ - _) + _)) else 0) = _
  rw [rest_sum (fun j => LR fq fk (q0 + r) j) k0 c K hc hle]
  rfl

include hK hmk ht1 hq hg hk hv hcl htot hle in
theorem isR_be : IsR (be bf lt mk t1 q g k v tot cl) (fun r c => eR fq fk fg fv (q0 + r) (k0 + c)) :=
  isR_mul (isR_matmul_nt hg hv) (isR_bw bf lt hK hmk ht1 hq hk hcl htot hle)

include hK hmk ht1 hq hg hk hv hcl htot hcd hle in
theorem isR_bcd : IsR (bcd bf lt mk t1 q g k v tot cl cd) (fun r _ => ∑ j ∈ Finset.range (k0 + K), eR fq fk fg fv (q0 + r) j) :=
  (isR_add hcd (isR_btot bf hK (isR_be bf lt hK hmk ht1 hq hg hk hv hcl htot hle))).congr fun r c _ _ => (Finset.sum_range_add _ _ _).symm

include hK hmk ht1 ht2 hq hg hk hv hcl htot hcd hle in
theorem isR_bdz : IsR (bdz bf lt mk t1 t2 q g k v tot cl cd) (fun r c => dzR fq fk fg fv (q0 + r) (k0 + c)) := by
  have hE := isR_be bf lt hK hmk ht1 hq hg hk hv hcl htot hle
  have hl := isR_bl (isR_matmul_nt hq hk)
  refine IsR.congr (hmk _ _ (isR_sub (isR_mul hE (isR_exp hl))
    (isR_mul (isR_add (isR_bbef bf lt hK ht2 hE) (isR_col hcd bf.bk)) (isR_exp (isR_add (isR_matmul_nt hq hk) hl))))) fun r c _ _ => ?_
  show (if k0 + c < q0 + r then _ - (_ + _) * _ else 0) = _
  rw [add_comm (∑ k ∈ Finset.range c, _), ← Finset.sum_range_add (fun j => eR fq fk fg fv (q0 + r) j) k0 c]
  rfl

include hK hmk ht1 ht2 hq hg hk hv hh hcl htot hcd hdq hle in
theorem isR_bdq : IsR (bdq bf lt mk t1 t2 q g k v kh tot cl cd dq)
    (fun r d => D r d + ∑ c ∈ Finset.range K, dzR fq fk fg fv (q0 + r) (k0 + c) * fh (k0 + c) d) :=
  isR_add hdq (isR_matmul_nn (isR_bdz bf lt hK hmk ht1 ht2 hq hg hk hv hcl htot hcd hle) hh)

include hK hmk ht1 ht2 hq hg hk hv hcl htot hcd hle in
theorem isR_bdk : IsR (bdk bf lt mk t1 t2 q g k v tot cl cd)
    (fun c d => ∑ r ∈ Finset.range Q, dzR fq fk fg fv (q0 + r) (k0 + c) * fq (q0 + r) d) :=
  isR_matmul_tn (isR_bdz bf lt hK hmk ht1 ht2 hq hg hk hv hcl htot hcd hle) hq

include hK hmk ht1 hq hg hk hcl htot hle in
theorem isR_bdv : IsR (bdv bf lt mk t1 q g k tot cl)
    (fun c d => ∑ r ∈ Finset.range Q, wR fq fk (q0 + r) (k0 + c) * fg (q0 + r) d) :=
  isR_matmul_tn (φ₁ := .bf16) (φ₂ := .bf16) (isR_bw bf lt hK hmk ht1 hq hk hcl htot hle) hg

end

end Cert.Hand.Sb
-- ==== Proof.SbTrip.lean ====
/-
The run of the attention's backward kernel: its counted loops, the trip of each, and what one grid
point leaves in its buffers. Stated at any floats, so that both frames and the value read the same run.
-/
module

public import proofs.«01_k».proof.Proof.Gen.StickBwdIdeal.Frame
public import proofs.«01_k».proof.Proof.Gen.StickBwdIdeal.Loops
public import Idealize.ShloMosaic.Lib.Exec
public import Idealize.ShloMosaic.Lib.Tactic
public import Idealize.ShloMosaic.Lib.Pipeline.Kit

@[expose] public section

set_option maxRecDepth 8192
set_option maxHeartbeats 4000000

noncomputable section

namespace Cert.Hand.Sb

open Cert.StickBwdIdeal Cert.StickBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat)

abbrev WB := Memref sig .tc .vmem S4096x128 .bf16
abbrev WF := Memref sig .tc .vmem S4096x128 .f32

variable {F : FTy → Type} [FloatOps F]
local notation "𝕄" => MT nD τ sig Unit (Elt F) ℕ (UR sig nD τ) ℕ

/-! ## Trip counts and offsets -/

theorem trips1 : k0_t1_loop.trips = 8 := by decide +kernel
theorem trips2 : ∀ a : Fin k0_t1_loop.trips, (k0_t2_loop a).trips = a.val / 2 := by decide +kernel
theorem trips3 : ∀ a : Fin k0_t1_loop.trips, (k0_t3_loop a).trips = 0 := by decide +kernel
theorem trips4 : ∀ a : Fin k0_t1_loop.trips, (k0_t4_loop a).trips = a.val % 2 := by decide +kernel
theorem trips5 : ∀ a : Fin k0_t1_loop.trips, (k0_t5_loop a).trips = 0 := by decide +kernel

theorem off1_eq : ∀ a, k0_off1 a = ![512 * a.val, 0] := by decide +kernel
theorem off2_eq : ∀ a, k0_off2 a = ![0, 0, 512 * a.val, 0] := by decide +kernel
theorem off3_eq : ∀ a, k0_off3 a = ![0, 1, 512 * a.val, 0] := by decide +kernel
theorem off4_eq : ∀ a b, k0_off4 a b = ![1024 * b.val, 0] := by decide +kernel
theorem off5_eq : ∀ a b, k0_off5 a b = ![1024 * b.val + 512, 0] := by decide +kernel
theorem off8_eq : ∀ a : Fin k0_t1_loop.trips, a.val % 2 = 1 → k0_off8 a = ![512 * (a.val - 1), 0] := by decide +kernel
theorem off10_eq : ∀ a, k0_off10 a = ![512 * a.val, 0] := by decide +kernel
theorem off11_eq : ∀ a, k0_off11 a = ![512 * a.val + 256, 0] := by decide +kernel

instance (a : Fin k0_t1_loop.trips) : ClosedOff (k0_off1 a) := ⟨_, off1_eq a⟩
instance (a : Fin k0_t1_loop.trips) (b : Fin (k0_t2_loop a).trips) : ClosedOff (k0_off4 a b) := ⟨_, off4_eq a b⟩
instance (a : Fin k0_t1_loop.trips) (b : Fin (k0_t2_loop a).trips) : ClosedOff (k0_off5 a b) := ⟨_, off5_eq a b⟩
instance (a : Fin k0_t1_loop.trips) : ClosedOff (k0_off10 a) := ⟨_, off10_eq a⟩
instance (a : Fin k0_t1_loop.trips) : ClosedOff (k0_off11 a) := ⟨_, off11_eq a⟩

/-- What the inner loops carry: for each of the two heads the sum of the log gates so far, the sum of
    the weights' gradients so far, and the query's gradient so far. -/
abbrev Acc (F : FTy → Type) : Type :=
  FVec F S512x1 .f32 × FVec F S512x1 .f32 × FVec F S512x128 .f32 × FVec F S512x1 .f32 × FVec F S512x1 .f32 × FVec F S512x128 .f32

/-! ## The loop over pairs of key blocks -/

section
variable (𝒱 : Variants) (c : Dev nD) (bd : Option 𝒱.V) (i : grid0.Coords) (a1 : WB) (p1 : a1.IsWhole) (a2 : WB) (p2 : a2.IsWhole) (a3 : WB) (p3 : a3.IsWhole) (a4 : WB) (p4 : a4.IsWhole) (a5 : Memref sig .tc .vmem S1x2x4096x128 .f32) (p5 : a5.IsWhole) (a6 : WB) (p6 : a6.IsWhole) (a7 : WB) (p7 : a7.IsWhole) (a8 : WB) (p8 : a8.IsWhole) (a9 : WF) (p9 : a9.IsWhole) (a10 : WF) (p10 : a10.IsWhole)
variable (v5 v11 : FVec F S256x256 .bf16) (v29 v31 : IVec S512x128 1) (a : Fin k0_t1_loop.trips) (a11 v48 : BitVec 32) (v56 v58 : FVec F S512x128 .bf16) (v60 v62 : Vec F S512x128 .bf16) (v65 v68 v69 : FVec F S512x1 .f32) (v70 : FVec F S512x128 .f32) (v71 : BitVec 32) (v82 : BitVec 1) (v83 c0 : BitVec 32)
variable (X2 : BufTy.Contents (Elt F) a2.view.ty) (X3 : BufTy.Contents (Elt F) a3.view.ty)

/-- What a trip touches: keys and values read, the two accumulators written. -/
abbrev Trip (f9 : BufTy.Contents (Elt F) a9.view.ty) (f10 : BufTy.Contents (Elt F) a10.view.ty) : sProp 𝕄 :=
  iprop((a2.view.loc (c : Thread nD τ) ↦[a2.view.set]{fullShare} X2) ∗ (a3.view.loc (c : Thread nD τ) ↦[a3.view.set]{fullShare} X3) ∗ (a9.view.loc (c : Thread nD τ) ↦[a9.view.set]{fullShare} f9) ∗ (a10.view.loc (c : Thread nD τ) ↦[a10.view.set]{fullShare} f10))

/-- One trip over a pair of key blocks: what it yields, and what it leaves in the two accumulators,
    as functions of what it carries and of what it finds there. -/
@[irreducible] def trip2 (k : Fin (k0_t2_loop a).trips) :
    Σ' (R : Acc F → BufTy.Contents (Elt F) a9.view.ty → BufTy.Contents (Elt F) a10.view.ty → Acc F)
      (G9 : Acc F → BufTy.Contents (Elt F) a9.view.ty → BufTy.Contents (Elt F) a10.view.ty → BufTy.Contents (Elt F) a9.view.ty),
      { G10 : Acc F → BufTy.Contents (Elt F) a9.view.ty → BufTy.Contents (Elt F) a10.view.ty → BufTy.Contents (Elt F) a10.view.ty //
        ∀ (E : Set ℕ) (acc : Acc F) (f9 : BufTy.Contents (Elt F) a9.view.ty) (f10 : BufTy.Contents (Elt F) a10.view.ty),
          Trip (F := F) c a2 a3 a9 a10 X2 X3 f9 f10
          ⊢ wp frame (wpE (defs₀ (F := F)) 𝒱 (c : Thread nD τ) bd) E (k0_t2_body (F := F) i a1 p1 a2 p2 a3 p3 a4 p4 a5 p5 a6 p6 a7 p7 a8 p8 a9 p9 a10 p10 v5 v11 v29 v31 a a11 v48 v56 v58 v60 v62 v65 v68 v69 v70 v71 v82 v83 c0 k acc)
            (fun yld => iprop(⌜yld = R acc f9 f10⌝ ∗ Trip (F := F) c a2 a3 a9 a10 X2 X3 (G9 acc f9 f10) (G10 acc f9 f10))) } := by
  refine ⟨?_, ?_, ?_, fun E acc f9 f10 => ?run⟩
  case run =>
    unfold k0_t2_body
    iintro ⟨H2, H3, H9, H10⟩
    sl_exec
    sl_step
    sl_close

/-- The state before trip `k`: what is carried, and the two accumulators, from their contents at entry. -/
@[irreducible] def st2Step (k : ℕ) (p : Acc F × BufTy.Contents (Elt F) a9.view.ty × BufTy.Contents (Elt F) a10.view.ty) : Acc F × BufTy.Contents (Elt F) a9.view.ty × BufTy.Contents (Elt F) a10.view.ty :=
  if h : k < (k0_t2_loop a).trips then
    ((trip2 (F := F) 𝒱 c bd i a1 p1 a2 p2 a3 p3 a4 p4 a5 p5 a6 p6 a7 p7 a8 p8 a9 p9 a10 p10 v5 v11 v29 v31 a a11 v48 v56 v58 v60 v62 v65 v68 v69 v70 v71 v82 v83 c0 X2 X3 ⟨k, h⟩).1 p.1 p.2.1 p.2.2, (trip2 (F := F) 𝒱 c bd i a1 p1 a2 p2 a3 p3 a4 p4 a5 p5 a6 p6 a7 p7 a8 p8 a9 p9 a10 p10 v5 v11 v29 v31 a a11 v48 v56 v58 v60 v62 v65 v68 v69 v70 v71 v82 v83 c0 X2 X3 ⟨k, h⟩).2.1 p.1 p.2.1 p.2.2, (trip2 (F := F) 𝒱 c bd i a1 p1 a2 p2 a3 p3 a4 p4 a5 p5 a6 p6 a7 p7 a8 p8 a9 p9 a10 p10 v5 v11 v29 v31 a a11 v48 v56 v58 v60 v62 v65 v68 v69 v70 v71 v82 v83 c0 X2 X3 ⟨k, h⟩).2.2.1 p.1 p.2.1 p.2.2)
  else p

def st2 (g9 : BufTy.Contents (Elt F) a9.view.ty) (g10 : BufTy.Contents (Elt F) a10.view.ty) (init : Acc F) : ℕ → Acc F × BufTy.Contents (Elt F) a9.view.ty × BufTy.Contents (Elt F) a10.view.ty
  | 0 => (init, g9, g10)
  | k + 1 => st2Step (F := F) 𝒱 c bd i a1 p1 a2 p2 a3 p3 a4 p4 a5 p5 a6 p6 a7 p7 a8 p8 a9 p9 a10 p10 v5 v11 v29 v31 a a11 v48 v56 v58 v60 v62 v65 v68 v69 v70 v71 v82 v83 c0 X2 X3 k (st2 g9 g10 init k)

theorem st2_succ (g9 : BufTy.Contents (Elt F) a9.view.ty) (g10 : BufTy.Contents (Elt F) a10.view.ty) (init : Acc F) (k : Fin (k0_t2_loop a).trips) :
    st2 (F := F) 𝒱 c bd i a1 p1 a2 p2 a3 p3 a4 p4 a5 p5 a6 p6 a7 p7 a8 p8 a9 p9 a10 p10 v5 v11 v29 v31 a a11 v48 v56 v58 v60 v62 v65 v68 v69 v70 v71 v82 v83 c0 X2 X3 g9 g10 init (k.val + 1) =
      let p := st2 (F := F) 𝒱 c bd i a1 p1 a2 p2 a3 p3 a4 p4 a5 p5 a6 p6 a7 p7 a8 p8 a9 p9 a10 p10 v5 v11 v29 v31 a a11 v48 v56 v58 v60 v62 v65 v68 v69 v70 v71 v82 v83 c0 X2 X3 g9 g10 init k.val
      ((trip2 (F := F) 𝒱 c bd i a1 p1 a2 p2 a3 p3 a4 p4 a5 p5 a6 p6 a7 p7 a8 p8 a9 p9 a10 p10 v5 v11 v29 v31 a a11 v48 v56 v58 v60 v62 v65 v68 v69 v70 v71 v82 v83 c0 X2 X3 k).1 p.1 p.2.1 p.2.2, (trip2 (F := F) 𝒱 c bd i a1 p1 a2 p2 a3 p3 a4 p4 a5 p5 a6 p6 a7 p7 a8 p8 a9 p9 a10 p10 v5 v11 v29 v31 a a11 v48 v56 v58 v60 v62 v65 v68 v69 v70 v71 v82 v83 c0 X2 X3 k).2.1 p.1 p.2.1 p.2.2, (trip2 (F := F) 𝒱 c bd i a1 p1 a2 p2 a3 p3 a4 p4 a5 p5 a6 p6 a7 p7 a8 p8 a9 p9 a10 p10 v5 v11 v29 v31 a a11 v48 v56 v58 v60 v62 v65 v68 v69 v70 v71 v82 v83 c0 X2 X3 k).2.2.1 p.1 p.2.1 p.2.2) := by
  rw [st2.eq_2]; unfold st2Step; exact dif_pos k.isLt

set_option warn.classDefReducibility false in
@[sl_loop] def loopInv2 (E : Set ℕ) (g9 : BufTy.Contents (Elt F) a9.view.ty) (g10 : BufTy.Contents (Elt F) a10.view.ty) (init : Acc F) :
    LoopInvTy_k0_t2 (F := F) Unit ℕ (UR sig nD τ) ℕ 𝒱 c bd E i a1 p1 a2 p2 a3 p3 a4 p4 a5 p5 a6 p6 a7 p7 a8 p8 a9 p9 a10 p10 v5 v11 v29 v31 a a11 v48 v56 v58 v60 v62 v65 v68 v69 v70 v71 v82 v83 c0 init where
  inv k acc := iprop((a2.view.loc (c : Thread nD τ) ↦[a2.view.set]{fullShare} X2) ∗ (a3.view.loc (c : Thread nD τ) ↦[a3.view.set]{fullShare} X3)
    ∗ (∃ f, (a9.view.loc (c : Thread nD τ) ↦[a9.view.set]{fullShare} f) ∗ ⌜f = (st2 (F := F) 𝒱 c bd i a1 p1 a2 p2 a3 p3 a4 p4 a5 p5 a6 p6 a7 p7 a8 p8 a9 p9 a10 p10 v5 v11 v29 v31 a a11 v48 v56 v58 v60 v62 v65 v68 v69 v70 v71 v82 v83 c0 X2 X3 g9 g10 init k).2.1⌝)
    ∗ (∃ f, (a10.view.loc (c : Thread nD τ) ↦[a10.view.set]{fullShare} f) ∗ ⌜f = (st2 (F := F) 𝒱 c bd i a1 p1 a2 p2 a3 p3 a4 p4 a5 p5 a6 p6 a7 p7 a8 p8 a9 p9 a10 p10 v5 v11 v29 v31 a a11 v48 v56 v58 v60 v62 v65 v68 v69 v70 v71 v82 v83 c0 X2 X3 g9 g10 init k).2.2⌝)
    ∗ ⌜acc = (st2 (F := F) 𝒱 c bd i a1 p1 a2 p2 a3 p3 a4 p4 a5 p5 a6 p6 a7 p7 a8 p8 a9 p9 a10 p10 v5 v11 v29 v31 a a11 v48 v56 v58 v60 v62 v65 v68 v69 v70 v71 v82 v83 c0 X2 X3 g9 g10 init k).1⌝)
  step k acc := by
    iintro ⟨H2, H3, ⟨%f9, H9, %h9⟩, ⟨%f10, H10, %h10⟩, %hacc⟩
    subst hacc
    iapply (wp_wand_r Idealize.ShloMosaic.frame (wpE (defs₀ (F := F)) 𝒱 (c : Thread nD τ) bd) E)
    isplitl [H2 H3 H9 H10]
    · iapply ((trip2 (F := F) 𝒱 c bd i a1 p1 a2 p2 a3 p3 a4 p4 a5 p5 a6 p6 a7 p7 a8 p8 a9 p9 a10 p10 v5 v11 v29 v31 a a11 v48 v56 v58 v60 v62 v65 v68 v69 v70 v71 v82 v83 c0 X2 X3 k).2.2.2 E (st2 (F := F) 𝒱 c bd i a1 p1 a2 p2 a3 p3 a4 p4 a5 p5 a6 p6 a7 p7 a8 p8 a9 p9 a10 p10 v5 v11 v29 v31 a a11 v48 v56 v58 v60 v62 v65 v68 v69 v70 v71 v82 v83 c0 X2 X3 g9 g10 init k).1 f9 f10)
      isplitl [H2]; · iexact H2
      isplitl [H3]; · iexact H3
      isplitl [H9]; · iexact H9
      iexact H10
    · iintro %yld ⟨%hres, H2, H3, H9, H10⟩
      isplitl [H2]; · iexact H2
      isplitl [H3]; · iexact H3
      simp only [st2_succ]
      isplitl [H9]
      · iexists _; isplitl [H9]; · iexact H9
        ipureintro; rw [h9, h10]
      isplitl [H10]
      · iexists _; isplitl [H10]; · iexact H10
        ipureintro; rw [h9, h10]
      ipureintro; rw [hres, h9, h10]

/-! ## The loop over what the pairs leave: it has no trip -/

variable (v92 : BitVec 32)

set_option warn.classDefReducibility false in
@[sl_loop] def loopInv3 (E : Set ℕ) (g9 : BufTy.Contents (Elt F) a9.view.ty) (g10 : BufTy.Contents (Elt F) a10.view.ty) (init : Acc F) :
    LoopInvTy_k0_t3 (F := F) Unit ℕ (UR sig nD τ) ℕ 𝒱 c bd E i a1 p1 a2 p2 a3 p3 a4 p4 a5 p5 a6 p6 a7 p7 a8 p8 a9 p9 a10 p10 v5 v11 v29 v31 a a11 v48 v56 v58 v60 v62 v65 v68 v69 v70 v71 v82 v83 c0 v92 init where
  inv k acc := iprop((∃ f, (a9.view.loc (c : Thread nD τ) ↦[a9.view.set]{fullShare} f) ∗ ⌜f = g9⌝)
    ∗ (∃ f, (a10.view.loc (c : Thread nD τ) ↦[a10.view.set]{fullShare} f) ∗ ⌜f = g10⌝)
    ∗ ⌜acc = init⌝)
  step k acc := absurd (lt_of_lt_of_eq k.isLt (trips3 a)) (Nat.not_lt_zero _)

end

/-! ## One query block -/

section
variable (𝒱 : Variants) (c : Dev nD) (bd : Option 𝒱.V) (i : grid0.Coords) (a1 : WB) (p1 : a1.IsWhole) (a2 : WB) (p2 : a2.IsWhole) (a3 : WB) (p3 : a3.IsWhole) (a4 : WB) (p4 : a4.IsWhole) (a5 : Memref sig .tc .vmem S1x2x4096x128 .f32) (p5 : a5.IsWhole) (a6 : WB) (p6 : a6.IsWhole) (a7 : WB) (p7 : a7.IsWhole) (a8 : WB) (p8 : a8.IsWhole) (a9 : WF) (p9 : a9.IsWhole) (a10 : WF) (p10 : a10.IsWhole)
variable (X1 : BufTy.Contents (Elt F) a1.view.ty) (X2 : BufTy.Contents (Elt F) a2.view.ty) (X3 : BufTy.Contents (Elt F) a3.view.ty) (X4 : BufTy.Contents (Elt F) a4.view.ty) (X5 : BufTy.Contents (Elt F) a5.view.ty)

/-- What a query block's trip touches. -/
abbrev TripQ (f6 : BufTy.Contents (Elt F) a6.view.ty) (f9 : BufTy.Contents (Elt F) a9.view.ty) (f10 : BufTy.Contents (Elt F) a10.view.ty) : sProp 𝕄 :=
  iprop((a1.view.loc (c : Thread nD τ) ↦[a1.view.set]{fullShare} X1) ∗ (a2.view.loc (c : Thread nD τ) ↦[a2.view.set]{fullShare} X2) ∗ (a3.view.loc (c : Thread nD τ) ↦[a3.view.set]{fullShare} X3) ∗ (a4.view.loc (c : Thread nD τ) ↦[a4.view.set]{fullShare} X4) ∗ (a5.view.loc (c : Thread nD τ) ↦[a5.view.set]{fullShare} X5) ∗ (a6.view.loc (c : Thread nD τ) ↦[a6.view.set]{fullShare} f6) ∗ (a9.view.loc (c : Thread nD τ) ↦[a9.view.set]{fullShare} f9) ∗ (a10.view.loc (c : Thread nD τ) ↦[a10.view.set]{fullShare} f10))

/-- One query block's trip: the piece it writes of the queries' gradient, and what it leaves in the
    two accumulators, as functions of what it finds in those. -/
@[irreducible] def trip1 (a : Fin k0_t1_loop.trips) :
    Σ' (L6 : BufTy.Contents (Elt F) a9.view.ty → BufTy.Contents (Elt F) a10.view.ty → List (View.Piece (Elt F) S4096x128 .bf16))
      (G9 : BufTy.Contents (Elt F) a9.view.ty → BufTy.Contents (Elt F) a10.view.ty → BufTy.Contents (Elt F) a9.view.ty),
      { G10 : BufTy.Contents (Elt F) a9.view.ty → BufTy.Contents (Elt F) a10.view.ty → BufTy.Contents (Elt F) a10.view.ty //
        ∀ (E : Set ℕ) (f6 : BufTy.Contents (Elt F) a6.view.ty) (f9 : BufTy.Contents (Elt F) a9.view.ty) (f10 : BufTy.Contents (Elt F) a10.view.ty),
          TripQ (F := F) c a1 a2 a3 a4 a5 a6 a9 a10 X1 X2 X3 X4 X5 f6 f9 f10
          ⊢ wp frame (wpE (defs₀ (F := F)) 𝒱 (c : Thread nD τ) bd) E (k0_t1_body (F := F) i a1 p1 a2 p2 a3 p3 a4 p4 a5 p5 a6 p6 a7 p7 a8 p8 a9 p9 a10 p10 a ())
            (fun _ => TripQ (F := F) c a1 a2 a3 a4 a5 a6 a9 a10 X1 X2 X3 X4 X5 (a6.view.writes (Elt F) f6 (L6 f9 f10)) (G9 f9 f10) (G10 f9 f10)) } := by
  refine ⟨?_, ?_, ?_, fun E f6 f9 f10 => ?run⟩
  case run =>
    unfold k0_t1_body
    iintro ⟨H1, H2, H3, H4, H5, H6, H9, H10⟩
    sl_exec
    sl_step
    sl_close
end

end Cert.Hand.Sb
-- ==== Proof.SbRun.lean ====
/-
One grid point of the attention's backward kernel, the run over its grid, and the frame.
-/
module

public import proofs.«01_k».proof.Proof.SbTrip
public import Idealize.ShloMosaic.Lib.Ring
public import Idealize.ShloMosaic.Lib.VecWindow
public import Idealize.ShloMosaic.Lib.Claim
public import Idealize.ShloMosaic.Lib.Pipeline.FrameBody
public import Idealize.ShloMosaic.Lib.Pipeline.FrameSuffix

@[expose] public section

set_option maxRecDepth 8192
set_option maxHeartbeats 4000000

noncomputable section

namespace Cert.Hand.Sb

open Cert.StickBwdIdeal Cert.StickBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat)

variable {F : FTy → Type} [FloatOps F]
local notation "𝕄" => MT nD τ sig Unit (Elt F) ℕ (UR sig nD τ) ℕ

/-! ## The query blocks in order -/

section
variable (𝒱 : Variants) (c : Dev nD) (bd : Option 𝒱.V) (i : grid0.Coords) (a1 : WB) (p1 : a1.IsWhole) (a2 : WB) (p2 : a2.IsWhole) (a3 : WB) (p3 : a3.IsWhole) (a4 : WB) (p4 : a4.IsWhole) (a5 : Memref sig .tc .vmem S1x2x4096x128 .f32) (p5 : a5.IsWhole) (a6 : WB) (p6 : a6.IsWhole) (a7 : WB) (p7 : a7.IsWhole) (a8 : WB) (p8 : a8.IsWhole) (a9 : WF) (p9 : a9.IsWhole) (a10 : WF) (p10 : a10.IsWhole)
variable (x1 : Vec F S4096x128 .bf16) (x2 : Vec F S4096x128 .bf16) (x3 : Vec F S4096x128 .bf16) (x4 : Vec F S4096x128 .bf16) (x5 : Vec F S1x2x4096x128 .f32) (g9 : BufTy.Contents (Elt F) a9.view.ty) (g10 : BufTy.Contents (Elt F) a10.view.ty)

/-- The state before query block `k`: the pieces of the queries' gradient written, last first, and the
    two accumulators. -/
def st1 : ℕ → List (View.Piece (Elt F) S4096x128 .bf16) × (BufTy.Contents (Elt F) a9.view.ty) × (BufTy.Contents (Elt F) a10.view.ty)
  | 0 => ([], g9, g10)
  | k + 1 =>
    if h : k < k0_t1_loop.trips then
      ((trip1 (F := F) 𝒱 c bd i a1 p1 a2 p2 a3 p3 a4 p4 a5 p5 a6 p6 a7 p7 a8 p8 a9 p9 a10 p10 (p1.unread x1) (p2.unread x2) (p3.unread x3) (p4.unread x4) (p5.unread x5) ⟨k, h⟩).1 (st1 k).2.1 (st1 k).2.2 ++ (st1 k).1,
       (trip1 (F := F) 𝒱 c bd i a1 p1 a2 p2 a3 p3 a4 p4 a5 p5 a6 p6 a7 p7 a8 p8 a9 p9 a10 p10 (p1.unread x1) (p2.unread x2) (p3.unread x3) (p4.unread x4) (p5.unread x5) ⟨k, h⟩).2.1 (st1 k).2.1 (st1 k).2.2,
       (trip1 (F := F) 𝒱 c bd i a1 p1 a2 p2 a3 p3 a4 p4 a5 p5 a6 p6 a7 p7 a8 p8 a9 p9 a10 p10 (p1.unread x1) (p2.unread x2) (p3.unread x3) (p4.unread x4) (p5.unread x5) ⟨k, h⟩).2.2.1 (st1 k).2.1 (st1 k).2.2)
    else st1 k

theorem st1_succ (k : Fin k0_t1_loop.trips) :
    st1 (F := F) 𝒱 c bd i a1 p1 a2 p2 a3 p3 a4 p4 a5 p5 a6 p6 a7 p7 a8 p8 a9 p9 a10 p10 x1 x2 x3 x4 x5 g9 g10 (k.val + 1) =
      ((trip1 (F := F) 𝒱 c bd i a1 p1 a2 p2 a3 p3 a4 p4 a5 p5 a6 p6 a7 p7 a8 p8 a9 p9 a10 p10 (p1.unread x1) (p2.unread x2) (p3.unread x3) (p4.unread x4) (p5.unread x5) k).1 (st1 (F := F) 𝒱 c bd i a1 p1 a2 p2 a3 p3 a4 p4 a5 p5 a6 p6 a7 p7 a8 p8 a9 p9 a10 p10 x1 x2 x3 x4 x5 g9 g10 k).2.1 (st1 (F := F) 𝒱 c bd i a1 p1 a2 p2 a3 p3 a4 p4 a5 p5 a6 p6 a7 p7 a8 p8 a9 p9 a10 p10 x1 x2 x3 x4 x5 g9 g10 k).2.2 ++ (st1 (F := F) 𝒱 c bd i a1 p1 a2 p2 a3 p3 a4 p4 a5 p5 a6 p6 a7 p7 a8 p8 a9 p9 a10 p10 x1 x2 x3 x4 x5 g9 g10 k).1,
       (trip1 (F := F) 𝒱 c bd i a1 p1 a2 p2 a3 p3 a4 p4 a5 p5 a6 p6 a7 p7 a8 p8 a9 p9 a10 p10 (p1.unread x1) (p2.unread x2) (p3.unread x3) (p4.unread x4) (p5.unread x5) k).2.1 (st1 (F := F) 𝒱 c bd i a1 p1 a2 p2 a3 p3 a4 p4 a5 p5 a6 p6 a7 p7 a8 p8 a9 p9 a10 p10 x1 x2 x3 x4 x5 g9 g10 k).2.1 (st1 (F := F) 𝒱 c bd i a1 p1 a2 p2 a3 p3 a4 p4 a5 p5 a6 p6 a7 p7 a8 p8 a9 p9 a10 p10 x1 x2 x3 x4 x5 g9 g10 k).2.2,
       (trip1 (F := F) 𝒱 c bd i a1 p1 a2 p2 a3 p3 a4 p4 a5 p5 a6 p6 a7 p7 a8 p8 a9 p9 a10 p10 (p1.unread x1) (p2.unread x2) (p3.unread x3) (p4.unread x4) (p5.unread x5) k).2.2.1 (st1 (F := F) 𝒱 c bd i a1 p1 a2 p2 a3 p3 a4 p4 a5 p5 a6 p6 a7 p7 a8 p8 a9 p9 a10 p10 x1 x2 x3 x4 x5 g9 g10 k).2.1 (st1 (F := F) 𝒱 c bd i a1 p1 a2 p2 a3 p3 a4 p4 a5 p5 a6 p6 a7 p7 a8 p8 a9 p9 a10 p10 x1 x2 x3 x4 x5 g9 g10 k).2.2) := by
  rw [st1]; exact dif_pos k.isLt

/-- What holds before query block `k`. -/
def inv1 (g6 : BufTy.Contents (Elt F) a6.view.ty) (k : ℕ) (_ : PUnit) : sProp 𝕄 :=
  iprop((a1.view.loc (c : Thread nD τ) ↦[a1.view.set]{fullShare} (p1.unread x1)) ∗ (a2.view.loc (c : Thread nD τ) ↦[a2.view.set]{fullShare} (p2.unread x2)) ∗ (a3.view.loc (c : Thread nD τ) ↦[a3.view.set]{fullShare} (p3.unread x3)) ∗ (a4.view.loc (c : Thread nD τ) ↦[a4.view.set]{fullShare} (p4.unread x4)) ∗ (a5.view.loc (c : Thread nD τ) ↦[a5.view.set]{fullShare} (p5.unread x5))
    ∗ (∃ f, (a6.view.loc (c : Thread nD τ) ↦[a6.view.set]{fullShare} f) ∗ ⌜f = a6.view.writes (Elt F) g6 (st1 (F := F) 𝒱 c bd i a1 p1 a2 p2 a3 p3 a4 p4 a5 p5 a6 p6 a7 p7 a8 p8 a9 p9 a10 p10 x1 x2 x3 x4 x5 g9 g10 k).1⌝)
    ∗ (∃ f, (a9.view.loc (c : Thread nD τ) ↦[a9.view.set]{fullShare} f) ∗ ⌜f = (st1 (F := F) 𝒱 c bd i a1 p1 a2 p2 a3 p3 a4 p4 a5 p5 a6 p6 a7 p7 a8 p8 a9 p9 a10 p10 x1 x2 x3 x4 x5 g9 g10 k).2.1⌝)
    ∗ (∃ f, (a10.view.loc (c : Thread nD τ) ↦[a10.view.set]{fullShare} f) ∗ ⌜f = (st1 (F := F) 𝒱 c bd i a1 p1 a2 p2 a3 p3 a4 p4 a5 p5 a6 p6 a7 p7 a8 p8 a9 p9 a10 p10 x1 x2 x3 x4 x5 g9 g10 k).2.2⌝))

theorem step1 (E : Set ℕ) (g6 : BufTy.Contents (Elt F) a6.view.ty) (k : Fin k0_t1_loop.trips) (acc : PUnit) :
    inv1 (F := F) 𝒱 c bd i a1 p1 a2 p2 a3 p3 a4 p4 a5 p5 a6 p6 a7 p7 a8 p8 a9 p9 a10 p10 x1 x2 x3 x4 x5 g9 g10 g6 k.val acc
    ⊢ wp frame (wpE (defs₀ (F := F)) 𝒱 (c : Thread nD τ) bd) E (k0_t1_body (F := F) i a1 p1 a2 p2 a3 p3 a4 p4 a5 p5 a6 p6 a7 p7 a8 p8 a9 p9 a10 p10 k acc)
      (fun acc => inv1 (F := F) 𝒱 c bd i a1 p1 a2 p2 a3 p3 a4 p4 a5 p5 a6 p6 a7 p7 a8 p8 a9 p9 a10 p10 x1 x2 x3 x4 x5 g9 g10 g6 (k.val + 1) acc) := by
    unfold inv1
    iintro ⟨H1, H2, H3, H4, H5, ⟨%f6, H6, %h6⟩, ⟨%f9, H9, %h9⟩, ⟨%f10, H10, %h10⟩⟩
    iapply (wp_wand_r Idealize.ShloMosaic.frame (wpE (defs₀ (F := F)) 𝒱 (c : Thread nD τ) bd) E)
    isplitl [H1 H2 H3 H4 H5 H6 H9 H10]
    · iapply ((trip1 (F := F) 𝒱 c bd i a1 p1 a2 p2 a3 p3 a4 p4 a5 p5 a6 p6 a7 p7 a8 p8 a9 p9 a10 p10 (p1.unread x1) (p2.unread x2) (p3.unread x3) (p4.unread x4) (p5.unread x5) k).2.2.2 E f6 f9 f10)
      isplitl [H1]; · iexact H1
      isplitl [H2]; · iexact H2
      isplitl [H3]; · iexact H3
      isplitl [H4]; · iexact H4
      isplitl [H5]; · iexact H5
      isplitl [H6]; · iexact H6
      isplitl [H9]; · iexact H9
      iexact H10
    · iintro %yld ⟨H1, H2, H3, H4, H5, H6, H9, H10⟩
      isplitl [H1]; · iexact H1
      isplitl [H2]; · iexact H2
      isplitl [H3]; · iexact H3
      isplitl [H4]; · iexact H4
      isplitl [H5]; · iexact H5
      simp only [st1_succ]
      isplitl [H6]
      · iexists _; isplitl [H6]; · iexact H6
        ipureintro; rw [h6, h9, h10, View.writes_append]
      isplitl [H9]
      · iexists _; isplitl [H9]; · iexact H9
        ipureintro; rw [h9, h10]
      · iexists _; isplitl [H10]; · iexact H10
        ipureintro; rw [h9, h10]

end

section
variable (𝒱 : Variants) (c : Dev nD) (bd : Option 𝒱.V) (i : grid0.Coords) (a1 : WB) (p1 : a1.IsWhole) (a2 : WB) (p2 : a2.IsWhole) (a3 : WB) (p3 : a3.IsWhole) (a4 : WB) (p4 : a4.IsWhole) (a5 : Memref sig .tc .vmem S1x2x4096x128 .f32) (p5 : a5.IsWhole) (a6 : WB) (p6 : a6.IsWhole) (a7 : WB) (p7 : a7.IsWhole) (a8 : WB) (p8 : a8.IsWhole) (a9 : WF) (p9 : a9.IsWhole) (a10 : WF) (p10 : a10.IsWhole)
variable (x1 : Vec F S4096x128 .bf16) (x2 : Vec F S4096x128 .bf16) (x3 : Vec F S4096x128 .bf16) (x4 : Vec F S4096x128 .bf16) (x5 : Vec F S1x2x4096x128 .f32)

/-- The queries' gradient a grid point leaves: the pieces of all query blocks. -/
def outQ : Vec F S4096x128 .bf16 := View.canon (st1 (F := F) 𝒱 c bd i a1 p1 a2 p2 a3 p3 a4 p4 a5 p5 a6 p6 a7 p7 a8 p8 a9 p9 a10 p10 x1 x2 x3 x4 x5 (p9.unread (k0_pay341 (F := F))) (p10.unread (k0_pay342 (F := F))) k0_t1_loop.trips).1

/-- The keys' gradient a grid point leaves. -/
def outK : Vec F S4096x128 .bf16 := k0_pay1 (a9.view.read (Elt F) (st1 (F := F) 𝒱 c bd i a1 p1 a2 p2 a3 p3 a4 p4 a5 p5 a6 p6 a7 p7 a8 p8 a9 p9 a10 p10 x1 x2 x3 x4 x5 (p9.unread (k0_pay341 (F := F))) (p10.unread (k0_pay342 (F := F))) k0_t1_loop.trips).2.1)

/-- The values' gradient a grid point leaves. -/
def outV : Vec F S4096x128 .bf16 := k0_pay2 (a10.view.read (Elt F) (st1 (F := F) 𝒱 c bd i a1 p1 a2 p2 a3 p3 a4 p4 a5 p5 a6 p6 a7 p7 a8 p8 a9 p9 a10 p10 x1 x2 x3 x4 x5 (p9.unread (k0_pay341 (F := F))) (p10.unread (k0_pay342 (F := F))) k0_t1_loop.trips).2.2)

/-- A whole-block store over anything is the block itself. -/
theorem zeroed {sp : Space} {s : Shape} {e : EltTy} {arg : Memref sig .tc sp s e} (harg : arg.IsWhole)
    (f : BufTy.Contents (Elt F) arg.view.ty) (off : Fin s.rank → ℕ) (h0 : off = fun _ => 0) (inb : ∀ a, off a + s.size a ≤ s.size a) (p : Vec F s e) :
    arg.view.writes (Elt F) f [⟨Rect.unit (s := s) off s.size inb, p⟩] = harg.unread p :=
  harg.eq_unread (by subst h0; exact View.read_writes_whole arg.view f p)

theorem zero2 : (![0, 0] : Fin 2 → ℕ) = fun _ => 0 := by funext a; fin_cases a <;> rfl

/-- Each query block's trip writes its rows of the queries' gradient, as one piece. -/
theorem trip1_piece (a : Fin k0_t1_loop.trips) (f9 : BufTy.Contents (Elt F) a9.view.ty) (f10 : BufTy.Contents (Elt F) a10.view.ty) :
    ∃ v, (trip1 (F := F) 𝒱 c bd i a1 p1 a2 p2 a3 p3 a4 p4 a5 p5 a6 p6 a7 p7 a8 p8 a9 p9 a10 p10 (p1.unread x1) (p2.unread x2) (p3.unread x3) (p4.unread x4) (p5.unread x5) a).1 f9 f10 = [⟨Rect.unit (s := S4096x128) (k0_off1 a) S512x128.size (k0_off1_inb a), v⟩] := by
  unfold trip1; exact ⟨_, rfl⟩

/-- Before query block `k` the pieces of all earlier ones are in place. -/
theorem st1_pieces (g9 : BufTy.Contents (Elt F) a9.view.ty) (g10 : BufTy.Contents (Elt F) a10.view.ty) (k : ℕ) : ∀ (a : Fin k0_t1_loop.trips), a.val < k →
    ∃ v, (⟨Rect.unit (s := S4096x128) (k0_off1 a) S512x128.size (k0_off1_inb a), v⟩ : View.Piece (Elt F) S4096x128 .bf16) ∈ (st1 (F := F) 𝒱 c bd i a1 p1 a2 p2 a3 p3 a4 p4 a5 p5 a6 p6 a7 p7 a8 p8 a9 p9 a10 p10 x1 x2 x3 x4 x5 g9 g10 k).1 := by
  induction k with
  | zero => exact fun a h => absurd h (Nat.not_lt_zero _)
  | succ k ih =>
    intro a h
    rw [st1]
    by_cases hk : k < k0_t1_loop.trips
    · rw [dif_pos hk]
      by_cases e : a.val = k
      · obtain ⟨v, hv⟩ := trip1_piece (F := F) 𝒱 c bd i a1 p1 a2 p2 a3 p3 a4 p4 a5 p5 a6 p6 a7 p7 a8 p8 a9 p9 a10 p10 x1 x2 x3 x4 x5 a (st1 (F := F) 𝒱 c bd i a1 p1 a2 p2 a3 p3 a4 p4 a5 p5 a6 p6 a7 p7 a8 p8 a9 p9 a10 p10 x1 x2 x3 x4 x5 g9 g10 k).2.1 (st1 (F := F) 𝒱 c bd i a1 p1 a2 p2 a3 p3 a4 p4 a5 p5 a6 p6 a7 p7 a8 p8 a9 p9 a10 p10 x1 x2 x3 x4 x5 g9 g10 k).2.2
        refine ⟨v, List.mem_append_left _ ?_⟩
        have ea : a = ⟨k, hk⟩ := Fin.ext e
        subst ea
        rw [hv]; exact List.mem_singleton.mpr rfl
      · obtain ⟨v, hv⟩ := ih a (by omega)
        exact ⟨v, List.mem_append_right _ hv⟩
    · rw [dif_neg hk]
      exact ih a (lt_of_lt_of_le a.isLt (not_lt.mp hk))

/-- The pieces of all query blocks cover the queries' gradient. -/
theorem coverQ (g9 : BufTy.Contents (Elt F) a9.view.ty) (g10 : BufTy.Contents (Elt F) a10.view.ty) (y : S4096x128.Idx) : ∃ pc ∈ (st1 (F := F) 𝒱 c bd i a1 p1 a2 p2 a3 p3 a4 p4 a5 p5 a6 p6 a7 p7 a8 p8 a9 p9 a10 p10 x1 x2 x3 x4 x5 g9 g10 k0_t1_loop.trips).1, y ∈ pc.1.set := by
  have hy : (y 0).val < 4096 := (y 0).isLt
  have hy1 : (y 1).val < 128 := (y 1).isLt
  have hb : (y 0).val / 512 < k0_t1_loop.trips := by rw [trips1]; omega
  obtain ⟨v, hv⟩ := st1_pieces (F := F) 𝒱 c bd i a1 p1 a2 p2 a3 p3 a4 p4 a5 p5 a6 p6 a7 p7 a8 p8 a9 p9 a10 p10 x1 x2 x3 x4 x5 g9 g10 k0_t1_loop.trips ⟨(y 0).val / 512, hb⟩ hb
  refine ⟨_, hv, ?_⟩
  refine (Rect.mem_set_unit (inb := k0_off1_inb ⟨(y 0).val / 512, hb⟩) (i := y)).mpr fun q => ?_
  rw [off1_eq]
  fin_cases q
  · show 512 * ((y 0).val / 512) ≤ (y 0).val ∧ (y 0).val < 512 * ((y 0).val / 512) + 512
    omega
  · show 0 ≤ (y 1).val ∧ (y 1).val < 0 + 128
    omega

set_option maxHeartbeats 8000000 in
/-- The kernel's body at one grid point. -/
theorem sound_kernel (E : Set ℕ) (K : PUnit → sProp 𝕄) :
    iprop(owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5
        ∗ (∃ d, owns (c : Thread nD τ) a6 fullShare d) ∗ (∃ d, owns (c : Thread nD τ) a7 fullShare d) ∗ (∃ d, owns (c : Thread nD τ) a8 fullShare d) ∗ (∃ d, owns (c : Thread nD τ) a9 fullShare d) ∗ (∃ d, owns (c : Thread nD τ) a10 fullShare d)
        ∗ (iprop(owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5
            ∗ owns (c : Thread nD τ) a6 fullShare (outQ (F := F) 𝒱 c bd i a1 p1 a2 p2 a3 p3 a4 p4 a5 p5 a6 p6 a7 p7 a8 p8 a9 p9 a10 p10 x1 x2 x3 x4 x5) ∗ owns (c : Thread nD τ) a7 fullShare (outK (F := F) 𝒱 c bd i a1 p1 a2 p2 a3 p3 a4 p4 a5 p5 a6 p6 a7 p7 a8 p8 a9 p9 a10 p10 x1 x2 x3 x4 x5) ∗ owns (c : Thread nD τ) a8 fullShare (outV (F := F) 𝒱 c bd i a1 p1 a2 p2 a3 p3 a4 p4 a5 p5 a6 p6 a7 p7 a8 p8 a9 p9 a10 p10 x1 x2 x3 x4 x5)
            ∗ (∃ d, owns (c : Thread nD τ) a9 fullShare d) ∗ (∃ d, owns (c : Thread nD τ) a10 fullShare d)) -∗ K ⟨⟩))
      ⊢ wp frame (wpE (defs₀ (F := F)) 𝒱 (c : Thread nD τ) bd) E (cc0_sb_bwd (F := F) i a1 p1 a2 p2 a3 p3 a4 p4 a5 p5 a6 p6 a7 p7 a8 p8 a9 p9 a10 p10) K := by
  simp only [cc0_sb_bwd_eq_skeleton]; unfold cc0_sb_bwd_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, Hk⟩
  obtain rfl := p1.eq_unread hf1
  obtain rfl := p2.eq_unread hf2
  obtain rfl := p3.eq_unread hf3
  obtain rfl := p4.eq_unread hf4
  obtain rfl := p5.eq_unread hf5
  sl_exec
  sl_for (inv1 (F := F) 𝒱 c bd i a1 p1 a2 p2 a3 p3 a4 p4 a5 p5 a6 p6 a7 p7 a8 p8 a9 p9 a10 p10 x1 x2 x3 x4 x5 (p9.unread (k0_pay341 (F := F))) (p10.unread (k0_pay342 (F := F))) f6) $$ [H1 H2 H3 H4 H5 H6 H9 H10]
  case region => intro k acc; exact step1 (F := F) 𝒱 c bd i a1 p1 a2 p2 a3 p3 a4 p4 a5 p5 a6 p6 a7 p7 a8 p8 a9 p9 a10 p10 x1 x2 x3 x4 x5 _ _ E f6 k acc
  · unfold inv1
    isplitl [H1]; · iexact H1
    isplitl [H2]; · iexact H2
    isplitl [H3]; · iexact H3
    isplitl [H4]; · iexact H4
    isplitl [H5]; · iexact H5
    isplitl [H6]
    · iexists _; isplitl [H6]; · iexact H6
      ipureintro; rfl
    isplitl [H9]
    · iexists _; isplitl [H9]; · iexact H9
      ipureintro; exact zeroed p9 _ _ zero2 _ _
    · iexists _; isplitl [H10]; · iexact H10
      ipureintro; exact zeroed p10 _ _ zero2 _ _
  unfold inv1
  iintro %_ ⟨H1, H2, H3, H4, H5, ⟨%e6, H6, %h6⟩, ⟨%e9, H9, %h9⟩, ⟨%e10, H10, %h10⟩⟩
  subst h6 h9 h10
  sl_exec
  sl_step
  iapply Hk
  isplitl [H1]; · iexists _; isplitr; · ipureintro; exact p1.read_unread _
                  iexact H1
  isplitl [H2]; · iexists _; isplitr; · ipureintro; exact p2.read_unread _
                  iexact H2
  isplitl [H3]; · iexists _; isplitr; · ipureintro; exact p3.read_unread _
                  iexact H3
  isplitl [H4]; · iexists _; isplitr; · ipureintro; exact p4.read_unread _
                  iexact H4
  isplitl [H5]; · iexists _; isplitr; · ipureintro; exact p5.read_unread _
                  iexact H5
  isplitl [H6]
  · iexists _; isplitr
    swap; · iexact H6
    ipureintro
    exact View.read_writes_eq_canon _ _ _ (coverQ (F := F) 𝒱 c bd i a1 p1 a2 p2 a3 p3 a4 p4 a5 p5 a6 p6 a7 p7 a8 p8 a9 p9 a10 p10 x1 x2 x3 x4 x5 _ _)
  isplitl [H7]
  · iexists _; isplitr
    swap; · iexact H7
    ipureintro
    rw [zeroed p7 _ _ zero2, p7.read_unread]
    exact congrArg k0_pay1 (View.readAt_full _ _ _)
  isplitl [H8]
  · iexists _; isplitr
    swap; · iexact H8
    ipureintro
    rw [zeroed p8 _ _ zero2, p8.read_unread]
    exact congrArg k0_pay2 (View.readAt_full _ _ _)
  isplitl [H9]
  · iexists _, _; isplitr
    swap; · iexact H9
    ipureintro; rfl
  · iexists _, _; isplitr
    swap; · iexact H10
    ipureintro; rfl
end

/-! ## The run over the grid -/

section
variable (m : (ℓ : Loc nD τ sig) → Buf (Elt F) ℓ) (ρ : Dev nD → PrngReg)

/-- What point `t` leaves of the queries' gradient, -/
def aftQ (c : Dev nD) (t : Fin cfg0.N) : Vec F S4096x128 .bf16 :=
  outQ (F := F) Variants.none c none (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) (iblk m c 0 t) (iblk m c 1 t) (iblk m c 2 t) (iblk m c 3 t) (iblk m c 4 t)
/-- of the keys', -/
def aftK (c : Dev nD) (t : Fin cfg0.N) : Vec F S4096x128 .bf16 :=
  outK (F := F) Variants.none c none (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) (iblk m c 0 t) (iblk m c 1 t) (iblk m c 2 t) (iblk m c 3 t) (iblk m c 4 t)
/-- and of the values'. -/
def aftV (c : Dev nD) (t : Fin cfg0.N) : Vec F S4096x128 .bf16 :=
  outV (F := F) Variants.none c none (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) (iblk m c 0 t) (iblk m c 1 t) (iblk m c 2 t) (iblk m c 3 t) (iblk m c 4 t)

/-- The run's data: inputs keep their blocks, the outputs hold what the point computes, and the two
    accumulators pass from point to point at anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => aftQ m c t
    | ⟨6, _⟩ => aftK m c t
    | ⟨7, _⟩ => aftV m c t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = aftQ m c t := by dsimp only [dats]
theorem after6 (c : Dev nD) (t : Fin cfg0.N) : (dats m 0 c).after 6 t = aftK m c t := by dsimp only [dats]
theorem after7 (c : Dev nD) (t : Fin cfg0.N) : (dats m 0 c).after 7 t = aftV m c t := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d

/-- What the body is given at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it gives back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The pipeline's invariant: the two accumulators at anything, and the generator register. -/
theorem Phi_eq (c : Dev nD) : (Pipeline.ΦA spec0 c : sProp 𝕄)
    = iprop(iprop((∃ d, owns (c : Thread nD τ) (Memref.whole cc0_scratch0) fullShare d) ∗ (∃ d, owns (c : Thread nD τ) (Memref.whole cc0_scratch1) fullShare d)) ∗ (∃ r, prngReg c r)) := by
  unfold Pipeline.ΦA
  rw [scopedRest0_eq]
  simp only [owns_whole]

set_option maxHeartbeats 8000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0, after1, after2, after3, after4, after5, after6, after7, Phi_eq]
  unfold aftQ aftK aftV
  iintro ⟨⟨⟨H8, H9⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel (F := F) Variants.none c none (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) (iblk m c 0 t) (iblk m c 1 t) (iblk m c 2 t) (iblk m c 3 t) (iblk m c 4 t) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexact H8
  isplitl [H9]; · iexact H9
  iintro ⟨H0, H1, H2, H3, H4, H5, H6, H7, H8, H9⟩
  isplitl [H8 H9 Hr]
  · isplitl [H8 H9]
    · isplitl [H8]; · iexact H8
      iexact H9
    · iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem defs₀_row (t : Fin cfg0.N) :
    defs₀ (F := F) .tc cfg0.body (cfg0.bodyArgs t (cfg0.slots t)) = bodyAt0 t := by
  unfold defs₀; rw [Defs.onTc_tc]

theorem body_obligation (c : Dev nD) : Pipeline.BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 8000000 in
/-- The run: every array ends at what the grid's points leave in it, and no counter is left over. -/
theorem run_main_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around_shared (Q' := _) cfgs (dats m) (0 : Fin 1) launch₀0 defs₀ Variants.none m ρ main
    (hbody := fun c => (body_obligation m c).loose) (hq := fun c w _ => by dsimp only [dats])
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- The frame: the arguments end as they began, every counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))
end

end Cert.Hand.Sb
-- ==== Proof.SbRead.lean ====
module

public import proofs.«01_k».proof.Proof.SbBlock
public import proofs.«01_k».proof.Proof.SbRun
import all proofs.«01_k».proof.Proof.SbTrip

/-!
What each trip of the stick-breaking kernel's loops leaves, by the blocks of `SbBlock`.
-/

@[expose] public section

set_option maxRecDepth 8192

noncomputable section

namespace Cert.Hand.Sb

open Cert.StickBwdIdeal Cert.StickBwdIdeal.Gen
open Idealize.ShloMosaic Idealize.ShloMosaic.TcCoe
open Idealize.SL Idealize.SL.Sem

theorem bfU : BF 512 512 256 := ⟨slices_S512x512_o0_0_S512x256, slices_S512x512_o0_256_S512x256, reduces_S512x256_S512,
  shapeCasts_S512_S512x1, broadcasts_S512x1_S512x256, broadcasts_S512x1_S512x512, concatenates_S512x256_S512x256_S512x512_d1⟩

theorem bfM : BF 512 256 128 := ⟨slices_S512x256_o0_0_S512x128, slices_S512x256_o0_128_S512x128, reduces_S512x128_S512,
  shapeCasts_S512_S512x1, broadcasts_S512x1_S512x128, broadcasts_S512x1_S512x256, concatenates_S512x128_S512x128_S512x256_d1⟩

theorem bfS : BF 256 256 128 := ⟨slices_S256x256_o0_0_S256x128, slices_S256x256_o0_128_S256x128, reduces_S256x128_S256,
  shapeCasts_S256_S256x1, broadcasts_S256x1_S256x128, broadcasts_S256x1_S256x256, concatenates_S256x128_S256x128_S256x256_d1⟩

theorem lt16 : FTy.bf16.bits < FTy.f32.bits := bitsLt_bf16_f32

/-- What one head carries: the sum of the gates' logarithms so far, that of the weights' gradients, the query's gradient. -/
abbrev Hd (Q : ℕ) : Type := FVec Ideal (Mat Q 1) .f32 × FVec Ideal (Mat Q 1) .f32 × FVec Ideal (Mat Q 128) .f32

/-- One head's block. -/
def hd {Q K H : ℕ} (bf : BF Q K H) (mk : FVec Ideal (Mat Q K) .f32 → FVec Ideal (Mat Q K) .f32) (t1 t2 : FVec Ideal (Mat H H) .bf16)
    (q g : FVec Ideal (Mat Q 128) .bf16) (k v kh : FVec Ideal (Mat K 128) .bf16) (tot : FVec Ideal (Mat Q 1) .f32) (p : Hd Q) : Hd Q :=
  (bcl bf mk q k p.1, bcd bf lt16 mk t1 q g k v tot p.1 p.2.1, bdq bf lt16 mk t1 t2 q g k v kh tot p.1 p.2.1 p.2.2)

/-- A key block's lanes of one head. -/
def pick {K : ℕ} (m : IVec (Mat K 128) 1) (k : FVec Ideal (Mat K 128) .bf16) : FVec Ideal (Mat K 128) .bf16 :=
  select m k (broadcast (Mat K 128) (Scalar.ofBits .bf16 0x0000#16 : Ideal .bf16))

/-- What two heads' gradients leave on top of `w`. -/
def addTo {K : ℕ} (w x y : FVec Ideal (Mat K 128) .f32) : FVec Ideal (Mat K 128) .f32 :=
  shapeCast (Mat K 128) (addf w (addf x y)) rfl

section
variable (𝒱 : Variants) (c : Dev nD) (bd : Option 𝒱.V) (i : grid0.Coords) (a1 : WB) (p1 : a1.IsWhole) (a2 : WB) (p2 : a2.IsWhole) (a3 : WB) (p3 : a3.IsWhole) (a4 : WB) (p4 : a4.IsWhole) (a5 : Memref sig .tc .vmem S1x2x4096x128 .f32) (p5 : a5.IsWhole) (a6 : WB) (p6 : a6.IsWhole) (a7 : WB) (p7 : a7.IsWhole) (a8 : WB) (p8 : a8.IsWhole) (a9 : Memref sig .tc .vmem S4096x128 .f32) (p9 : a9.IsWhole) (a10 : Memref sig .tc .vmem S4096x128 .f32) (p10 : a10.IsWhole)
variable (v5 v11 : FVec Ideal S256x256 .bf16) (v29 v31 : IVec S512x128 1) (a : Fin k0_t1_loop.trips) (a11 v48 : BitVec 32) (v56 v58 : FVec Ideal S512x128 .bf16) (v60 v62 : Vec Ideal S512x128 .bf16) (v65 v68 v69 : FVec Ideal S512x1 .f32) (v70 : FVec Ideal S512x128 .f32) (v71 : BitVec 32) (v82 : BitVec 1) (v83 c0 : BitVec 32)
variable (X2 : BufTy.Contents (Elt Ideal) a2.view.ty) (X3 : BufTy.Contents (Elt Ideal) a3.view.ty)

/-- The rows a trip's first block reads of a buffer. -/
abbrev rd4 {e : EltTy} (k : Fin (k0_t2_loop a).trips) (A : Memref sig .tc .vmem S4096x128 e) (X : BufTy.Contents (Elt Ideal) A.view.ty) :
    S512x128.Idx → Elt Ideal e :=
  View.readAt (Elt Ideal) A.view (Rect.unit (s := S4096x128) (k0_off4 a k) S512x128.size (k0_off4_inb a k)).toLoadRect X

/-- The rows its second block reads. -/
abbrev rd5 {e : EltTy} (k : Fin (k0_t2_loop a).trips) (A : Memref sig .tc .vmem S4096x128 e) (X : BufTy.Contents (Elt Ideal) A.view.ty) :
    S512x128.Idx → Elt Ideal e :=
  View.readAt (Elt Ideal) A.view (Rect.unit (s := S4096x128) (k0_off5 a k) S512x128.size (k0_off5_inb a k)).toLoadRect X

/-- A head against a whole block of keys. -/
abbrev hdU (t1 t2 : FVec Ideal (Mat 256 256) .bf16) (m : IVec (Mat 512 128) 1) (q g k v : FVec Ideal (Mat 512 128) .bf16) (tot : FVec Ideal (Mat 512 1) .f32) (p : Hd 512) : Hd 512 :=
  hd bfU (fun x => x) t1 t2 q g k v (pick m k) tot p

theorem trip2_a (k : Fin (k0_t2_loop a).trips) (acc : Acc Ideal) (f9 : BufTy.Contents (Elt Ideal) a9.view.ty) (f10 : BufTy.Contents (Elt Ideal) a10.view.ty) :
    let R := (trip2 (F := Ideal) 𝒱 c bd i a1 p1 a2 p2 a3 p3 a4 p4 a5 p5 a6 p6 a7 p7 a8 p8 a9 p9 a10 p10 v5 v11 v29 v31 a a11 v48 v56 v58 v60 v62 v65 v68 v69 v70 v71 v82 v83 c0 X2 X3 k).1 acc f9 f10
    (R.1, R.2.1, R.2.2.1) = hdU v5 v11 v29 v56 v60 (rd5 a k a2 X2) (rd5 a k a3 X3) v65
      (hdU v5 v11 v29 v56 v60 (rd4 a k a2 X2) (rd4 a k a3 X3) v65 (acc.1, acc.2.1, acc.2.2.1)) := by
  unfold trip2
  rfl

theorem trip2_b (k : Fin (k0_t2_loop a).trips) (acc : Acc Ideal) (f9 : BufTy.Contents (Elt Ideal) a9.view.ty) (f10 : BufTy.Contents (Elt Ideal) a10.view.ty) :
    let R := (trip2 (F := Ideal) 𝒱 c bd i a1 p1 a2 p2 a3 p3 a4 p4 a5 p5 a6 p6 a7 p7 a8 p8 a9 p9 a10 p10 v5 v11 v29 v31 a a11 v48 v56 v58 v60 v62 v65 v68 v69 v70 v71 v82 v83 c0 X2 X3 k).1 acc f9 f10
    R.2.2.2 = hdU v5 v11 v31 v58 v62 (rd5 a k a2 X2) (rd5 a k a3 X3) v68
      (hdU v5 v11 v31 v58 v62 (rd4 a k a2 X2) (rd4 a k a3 X3) v68 acc.2.2.2) := by
  unfold trip2
  rfl

theorem trip2_9 (k : Fin (k0_t2_loop a).trips) (acc : Acc Ideal) (f9 : BufTy.Contents (Elt Ideal) a9.view.ty) (f10 : BufTy.Contents (Elt Ideal) a10.view.ty) :
    (trip2 (F := Ideal) 𝒱 c bd i a1 p1 a2 p2 a3 p3 a4 p4 a5 p5 a6 p6 a7 p7 a8 p8 a9 p9 a10 p10 v5 v11 v29 v31 a a11 v48 v56 v58 v60 v62 v65 v68 v69 v70 v71 v82 v83 c0 X2 X3 k).2.1 acc f9 f10 = a9.view.writes (Elt Ideal) f9
      [⟨Rect.unit (s := S4096x128) (k0_off5 a k) S512x128.size (k0_off5_inb a k), addTo (rd5 a k a9 f9)
          (bdk bfU lt16 (fun x => x) v5 v11 v56 v60 (rd5 a k a2 X2) (rd5 a k a3 X3) v65 (hdU v5 v11 v29 v56 v60 (rd4 a k a2 X2) (rd4 a k a3 X3) v65 (acc.1, acc.2.1, acc.2.2.1)).1 (hdU v5 v11 v29 v56 v60 (rd4 a k a2 X2) (rd4 a k a3 X3) v65 (acc.1, acc.2.1, acc.2.2.1)).2.1)
          (bdk bfU lt16 (fun x => x) v5 v11 v58 v62 (rd5 a k a2 X2) (rd5 a k a3 X3) v68 (hdU v5 v11 v31 v58 v62 (rd4 a k a2 X2) (rd4 a k a3 X3) v68 acc.2.2.2).1 (hdU v5 v11 v31 v58 v62 (rd4 a k a2 X2) (rd4 a k a3 X3) v68 acc.2.2.2).2.1)⟩,
        ⟨Rect.unit (s := S4096x128) (k0_off4 a k) S512x128.size (k0_off4_inb a k), addTo (rd4 a k a9 f9)
          (bdk bfU lt16 (fun x => x) v5 v11 v56 v60 (rd4 a k a2 X2) (rd4 a k a3 X3) v65 (acc.1, acc.2.1, acc.2.2.1).1 (acc.1, acc.2.1, acc.2.2.1).2.1)
          (bdk bfU lt16 (fun x => x) v5 v11 v58 v62 (rd4 a k a2 X2) (rd4 a k a3 X3) v68 acc.2.2.2.1 acc.2.2.2.2.1)⟩] := by
  unfold trip2
  rfl

theorem trip2_10 (k : Fin (k0_t2_loop a).trips) (acc : Acc Ideal) (f9 : BufTy.Contents (Elt Ideal) a9.view.ty) (f10 : BufTy.Contents (Elt Ideal) a10.view.ty) :
    (trip2 (F := Ideal) 𝒱 c bd i a1 p1 a2 p2 a3 p3 a4 p4 a5 p5 a6 p6 a7 p7 a8 p8 a9 p9 a10 p10 v5 v11 v29 v31 a a11 v48 v56 v58 v60 v62 v65 v68 v69 v70 v71 v82 v83 c0 X2 X3 k).2.2.1 acc f9 f10 = a10.view.writes (Elt Ideal) f10
      [⟨Rect.unit (s := S4096x128) (k0_off5 a k) S512x128.size (k0_off5_inb a k), addTo (rd5 a k a10 f10)
          (bdv bfU lt16 (fun x => x) v5 v56 v60 (rd5 a k a2 X2) v65 (hdU v5 v11 v29 v56 v60 (rd4 a k a2 X2) (rd4 a k a3 X3) v65 (acc.1, acc.2.1, acc.2.2.1)).1)
          (bdv bfU lt16 (fun x => x) v5 v58 v62 (rd5 a k a2 X2) v68 (hdU v5 v11 v31 v58 v62 (rd4 a k a2 X2) (rd4 a k a3 X3) v68 acc.2.2.2).1)⟩,
        ⟨Rect.unit (s := S4096x128) (k0_off4 a k) S512x128.size (k0_off4_inb a k), addTo (rd4 a k a10 f10)
          (bdv bfU lt16 (fun x => x) v5 v56 v60 (rd4 a k a2 X2) v65 (acc.1, acc.2.1, acc.2.2.1).1)
          (bdv bfU lt16 (fun x => x) v5 v58 v62 (rd4 a k a2 X2) v68 acc.2.2.2.1)⟩] := by
  unfold trip2
  rfl

end

end Cert.Hand.Sb
-- ==== Proof.SbDiag.lean ====
module

public import proofs.«01_k».proof.Proof.SbRead
import all proofs.«01_k».proof.Proof.SbTrip
import all proofs.«01_k».proof.Proof.Gen.StickBwdIdeal.Loops

/-!
What one query block leaves, by the blocks of `SbBlock`.
-/

@[expose] public section

set_option maxRecDepth 8192

noncomputable section

namespace Cert.Hand.Sb

open Cert.StickBwdIdeal Cert.StickBwdIdeal.Gen
open Idealize.ShloMosaic Idealize.ShloMosaic.TcCoe
open Idealize.SL Idealize.SL.Sem Idealize.ShloMosaic.Tactic

section
variable (𝒱 : Variants) (c : Dev nD) (bd : Option 𝒱.V) (i : grid0.Coords) (a1 : WB) (p1 : a1.IsWhole) (a2 : WB) (p2 : a2.IsWhole) (a3 : WB) (p3 : a3.IsWhole) (a4 : WB) (p4 : a4.IsWhole) (a5 : Memref sig .tc .vmem S1x2x4096x128 .f32) (p5 : a5.IsWhole) (a6 : WB) (p6 : a6.IsWhole) (a7 : WB) (p7 : a7.IsWhole) (a8 : WB) (p8 : a8.IsWhole) (a9 : WF) (p9 : a9.IsWhole) (a10 : WF) (p10 : a10.IsWhole)
variable (v5 v11 : FVec Ideal S256x256 .bf16) (v29 v31 : IVec S512x128 1) (a : Fin k0_t1_loop.trips) (a11 v48 : BitVec 32) (v56 v58 : FVec Ideal S512x128 .bf16) (v60 v62 : Vec Ideal S512x128 .bf16) (v65 v68 v69 : FVec Ideal S512x1 .f32) (v70 : FVec Ideal S512x128 .f32) (v71 : BitVec 32) (v82 : BitVec 1) (v83 c0 : BitVec 32)
variable (X2 : BufTy.Contents (Elt Ideal) a2.view.ty) (X3 : BufTy.Contents (Elt Ideal) a3.view.ty)

/-- The rows a query block's odd key block reads. -/
abbrev rd8 {e : EltTy} (k : Fin (k0_t4_loop a).trips) (A : Memref sig .tc .vmem S4096x128 e) (X : BufTy.Contents (Elt Ideal) A.view.ty) :
    S512x128.Idx → Elt Ideal e :=
  View.readAt (Elt Ideal) A.view (Rect.unit (s := S4096x128) (k0_off8 a) S512x128.size (k0_off8_inb a k)).toLoadRect X

theorem trip4_a (k : Fin (k0_t4_loop a).trips) (acc : Acc Ideal) (f9 : BufTy.Contents (Elt Ideal) a9.view.ty) (f10 : BufTy.Contents (Elt Ideal) a10.view.ty) :
    let R := (trip_k0_t4 (F := Ideal) 𝒱 c bd i a1 p1 a2 p2 a3 p3 a4 p4 a5 p5 a6 p6 a7 p7 a8 p8 a9 p9 a10 p10 v5 v11 v29 v31 a a11 v48 v56 v58 v60 v62 v65 v68 v69 v70 v71 v82 v83 c0 X2 X3 k).1 acc f9 f10
    (R.1, R.2.1, R.2.2.1) = hdU v5 v11 v29 v56 v60 (rd8 a k a2 X2) (rd8 a k a3 X3) v65 (acc.1, acc.2.1, acc.2.2.1) := by
  unfold trip_k0_t4
  rfl

theorem trip4_b (k : Fin (k0_t4_loop a).trips) (acc : Acc Ideal) (f9 : BufTy.Contents (Elt Ideal) a9.view.ty) (f10 : BufTy.Contents (Elt Ideal) a10.view.ty) :
    let R := (trip_k0_t4 (F := Ideal) 𝒱 c bd i a1 p1 a2 p2 a3 p3 a4 p4 a5 p5 a6 p6 a7 p7 a8 p8 a9 p9 a10 p10 v5 v11 v29 v31 a a11 v48 v56 v58 v60 v62 v65 v68 v69 v70 v71 v82 v83 c0 X2 X3 k).1 acc f9 f10
    R.2.2.2 = hdU v5 v11 v31 v58 v62 (rd8 a k a2 X2) (rd8 a k a3 X3) v68 acc.2.2.2 := by
  unfold trip_k0_t4
  rfl

theorem trip4_9 (k : Fin (k0_t4_loop a).trips) (acc : Acc Ideal) (f9 : BufTy.Contents (Elt Ideal) a9.view.ty) (f10 : BufTy.Contents (Elt Ideal) a10.view.ty) :
    (trip_k0_t4 (F := Ideal) 𝒱 c bd i a1 p1 a2 p2 a3 p3 a4 p4 a5 p5 a6 p6 a7 p7 a8 p8 a9 p9 a10 p10 v5 v11 v29 v31 a a11 v48 v56 v58 v60 v62 v65 v68 v69 v70 v71 v82 v83 c0 X2 X3 k).2.1 acc f9 f10 =
      [⟨Rect.unit (s := S4096x128) (k0_off8 a) S512x128.size (k0_off8_inb a k), addTo (rd8 a k a9 f9)
          (bdk bfU lt16 (fun x => x) v5 v11 v56 v60 (rd8 a k a2 X2) (rd8 a k a3 X3) v65 acc.1 acc.2.1)
          (bdk bfU lt16 (fun x => x) v5 v11 v58 v62 (rd8 a k a2 X2) (rd8 a k a3 X3) v68 acc.2.2.2.1 acc.2.2.2.2.1)⟩] := by
  unfold trip_k0_t4
  rfl

theorem trip4_10 (k : Fin (k0_t4_loop a).trips) (acc : Acc Ideal) (f9 : BufTy.Contents (Elt Ideal) a9.view.ty) (f10 : BufTy.Contents (Elt Ideal) a10.view.ty) :
    (trip_k0_t4 (F := Ideal) 𝒱 c bd i a1 p1 a2 p2 a3 p3 a4 p4 a5 p5 a6 p6 a7 p7 a8 p8 a9 p9 a10 p10 v5 v11 v29 v31 a a11 v48 v56 v58 v60 v62 v65 v68 v69 v70 v71 v82 v83 c0 X2 X3 k).2.2.1 acc f9 f10 =
      [⟨Rect.unit (s := S4096x128) (k0_off8 a) S512x128.size (k0_off8_inb a k), addTo (rd8 a k a10 f10)
          (bdv bfU lt16 (fun x => x) v5 v56 v60 (rd8 a k a2 X2) v65 acc.1)
          (bdv bfU lt16 (fun x => x) v5 v58 v62 (rd8 a k a2 X2) v68 acc.2.2.2.1)⟩] := by
  unfold trip_k0_t4
  rfl

end

/-- The mask of a query block's own keys. -/
def mkD (x : FVec Ideal (Mat 512 256) .f32) : FVec Ideal (Mat 512 256) .f32 :=
  select k0_pay338 x (broadcast (Mat 512 256) (Scalar.ofBits .f32 0x00000000#32 : Ideal .f32))

/-- The same of its second half. -/
def mkL (x : FVec Ideal (Mat 256 256) .f32) : FVec Ideal (Mat 256 256) .f32 :=
  select (k0_pay301 k0_pay338) x (broadcast (Mat 256 256) (Scalar.ofBits .f32 0x00000000#32 : Ideal .f32))

/-- The lanes of a head over half a block. -/
def half (m : IVec (Mat 512 128) 1) : IVec (Mat 256 128) 1 :=
  extractStridedSlice S256x128 ![0, 0] m slices_S512x128_o0_0_S256x128

def lo1 (x : FVec Ideal (Mat 512 1) .f32) : FVec Ideal (Mat 256 1) .f32 := extractStridedSlice S256x1 ![256, 0] x slices_S512x1_o256_0_S256x1

def lo {φ : FTy} (x : FVec Ideal (Mat 512 128) φ) : FVec Ideal (Mat 256 128) φ :=
  extractStridedSlice S256x128 ![256, 0] x slices_S512x128_o256_0_S256x128

def up (x : FVec Ideal (Mat 512 128) .f32) : FVec Ideal (Mat 256 128) .f32 :=
  extractStridedSlice S256x128 ![0, 0] x slices_S512x128_o0_0_S256x128

/-- A head against the first half of its own keys. -/
abbrev hdM (m : IVec (Mat 512 128) 1) (q g : FVec Ideal (Mat 512 128) .bf16) (k v : FVec Ideal (Mat 256 128) .bf16)
    (tot : FVec Ideal (Mat 512 1) .f32) (p : Hd 512) : Hd 512 :=
  hd bfM mkD k0_pay336 k0_pay337 q g k v (pick (half m) k) tot p

/-- What the second half of the rows carries on. -/
abbrev loHd (p : Hd 512) : Hd 256 := (lo1 p.1, lo1 p.2.1, lo p.2.2)

/-- The second half of the rows against the second half of the keys. -/
abbrev hdS (m : IVec (Mat 512 128) 1) (q g : FVec Ideal (Mat 512 128) .bf16) (k v : FVec Ideal (Mat 256 128) .bf16)
    (tot : FVec Ideal (Mat 512 1) .f32) (p : Hd 256) : Hd 256 :=
  hd bfS mkL k0_pay336 k0_pay337 (lo q) (lo g) k v (pick (half m) k) (lo1 tot) p

/-- The queries' gradient of a block, from both heads' carried values. -/
def outDq (ma mb : Hd 512) (sa sb : Hd 256) : FVec Ideal (Mat 512 128) .bf16 :=
  truncf .bf16 (mulf (concatenate S512x128 0 [⟨S256x128, addf (up ma.2.2) (up mb.2.2)⟩, ⟨S256x128, addf sa.2.2 sb.2.2⟩] concatenates_S256x128_S256x128_S512x128_d0)
    (broadcast S512x128 (Scalar.ofBits .f32 0x3E000000#32 : Ideal .f32))) bitsLt_bf16_f32

section
variable (𝒱 : Variants) (c : Dev nD) (bd : Option 𝒱.V) (i : grid0.Coords) (a1 : WB) (p1 : a1.IsWhole) (a2 : WB) (p2 : a2.IsWhole) (a3 : WB) (p3 : a3.IsWhole) (a4 : WB) (p4 : a4.IsWhole) (a5 : Memref sig .tc .vmem S1x2x4096x128 .f32) (p5 : a5.IsWhole) (a6 : WB) (p6 : a6.IsWhole) (a7 : WB) (p7 : a7.IsWhole) (a8 : WB) (p8 : a8.IsWhole) (a9 : WF) (p9 : a9.IsWhole) (a10 : WF) (p10 : a10.IsWhole)
variable (X1 : BufTy.Contents (Elt Ideal) a1.view.ty) (X2 : BufTy.Contents (Elt Ideal) a2.view.ty) (X3 : BufTy.Contents (Elt Ideal) a3.view.ty) (X4 : BufTy.Contents (Elt Ideal) a4.view.ty) (X5 : BufTy.Contents (Elt Ideal) a5.view.ty)
variable (a : Fin k0_t1_loop.trips)

abbrev rd10 {e : EltTy} (A : Memref sig .tc .vmem S4096x128 e) (X : BufTy.Contents (Elt Ideal) A.view.ty) : S256x128.Idx → Elt Ideal e :=
  View.readAt (Elt Ideal) A.view (Rect.unit (s := S4096x128) (k0_off10 a) S256x128.size (k0_off10_inb a)).toLoadRect X

abbrev rd11 {e : EltTy} (A : Memref sig .tc .vmem S4096x128 e) (X : BufTy.Contents (Elt Ideal) A.view.ty) : S256x128.Idx → Elt Ideal e :=
  View.readAt (Elt Ideal) A.view (Rect.unit (s := S4096x128) (k0_off11 a) S256x128.size (k0_off11_inb a)).toLoadRect X

variable (q1 q2 g1 g2 : FVec Ideal (Mat 512 128) .bf16) (t1 t2 : FVec Ideal (Mat 512 1) .f32) (acc : Acc Ideal)

/-- What the first head carries past the first half of the block's own keys, -/
def midA : Hd 512 := hdM k0_pay339 q1 g1 (rd10 a a2 X2) (rd10 a a3 X3) t1 (acc.1, acc.2.1, acc.2.2.1)
/-- and the second. -/
def midB : Hd 512 := hdM k0_pay340 q2 g2 (rd10 a a2 X2) (rd10 a a3 X3) t2 acc.2.2.2

/-- The queries' gradient of the block. -/
def endQ : FVec Ideal (Mat 512 128) .bf16 :=
  outDq (midA a2 a3 X2 X3 a q1 g1 t1 acc) (midB a2 a3 X2 X3 a q2 g2 t2 acc)
    (hdS k0_pay339 q1 g1 (rd11 a a2 X2) (rd11 a a3 X3) t1 (loHd (midA a2 a3 X2 X3 a q1 g1 t1 acc)))
    (hdS k0_pay340 q2 g2 (rd11 a a2 X2) (rd11 a a3 X3) t2 (loHd (midB a2 a3 X2 X3 a q2 g2 t2 acc)))

/-- What the block's own keys add to the keys' gradient, -/
def mid9 (Y9 : BufTy.Contents (Elt Ideal) a9.view.ty) (L9 : List (View.Piece (Elt Ideal) S4096x128 .f32)) : List (View.Piece (Elt Ideal) S4096x128 .f32) :=
  ⟨Rect.unit (s := S4096x128) (k0_off10 a) S256x128.size (k0_off10_inb a), addTo (rd10 a a9 (a9.view.writes (Elt Ideal) Y9 L9))
    (bdk bfM lt16 mkD k0_pay336 k0_pay337 q1 g1 (rd10 a a2 X2) (rd10 a a3 X3) t1 acc.1 acc.2.1)
    (bdk bfM lt16 mkD k0_pay336 k0_pay337 q2 g2 (rd10 a a2 X2) (rd10 a a3 X3) t2 acc.2.2.2.1 acc.2.2.2.2.1)⟩ :: L9

def end9 (Y9 : BufTy.Contents (Elt Ideal) a9.view.ty) (L9 : List (View.Piece (Elt Ideal) S4096x128 .f32)) : BufTy.Contents (Elt Ideal) a9.view.ty :=
  a9.view.writes (Elt Ideal) Y9 (⟨Rect.unit (s := S4096x128) (k0_off11 a) S256x128.size (k0_off11_inb a),
    addTo (rd11 a a9 (a9.view.writes (Elt Ideal) Y9 (mid9 a2 a3 a9 X2 X3 a q1 q2 g1 g2 t1 t2 acc Y9 L9)))
      (bdk bfS lt16 mkL k0_pay336 k0_pay337 (lo q1) (lo g1) (rd11 a a2 X2) (rd11 a a3 X3) (lo1 t1)
        (lo1 (midA a2 a3 X2 X3 a q1 g1 t1 acc).1) (lo1 (midA a2 a3 X2 X3 a q1 g1 t1 acc).2.1))
      (bdk bfS lt16 mkL k0_pay336 k0_pay337 (lo q2) (lo g2) (rd11 a a2 X2) (rd11 a a3 X3) (lo1 t2)
        (lo1 (midB a2 a3 X2 X3 a q2 g2 t2 acc).1) (lo1 (midB a2 a3 X2 X3 a q2 g2 t2 acc).2.1))⟩ ::
    mid9 a2 a3 a9 X2 X3 a q1 q2 g1 g2 t1 t2 acc Y9 L9)

/-- and to the values' gradient. -/
def mid10 (Y10 : BufTy.Contents (Elt Ideal) a10.view.ty) (L10 : List (View.Piece (Elt Ideal) S4096x128 .f32)) : List (View.Piece (Elt Ideal) S4096x128 .f32) :=
  ⟨Rect.unit (s := S4096x128) (k0_off10 a) S256x128.size (k0_off10_inb a), addTo (rd10 a a10 (a10.view.writes (Elt Ideal) Y10 L10))
    (bdv bfM lt16 mkD k0_pay336 q1 g1 (rd10 a a2 X2) t1 acc.1)
    (bdv bfM lt16 mkD k0_pay336 q2 g2 (rd10 a a2 X2) t2 acc.2.2.2.1)⟩ :: L10

def end10 (Y10 : BufTy.Contents (Elt Ideal) a10.view.ty) (L10 : List (View.Piece (Elt Ideal) S4096x128 .f32)) : BufTy.Contents (Elt Ideal) a10.view.ty :=
  a10.view.writes (Elt Ideal) Y10 (⟨Rect.unit (s := S4096x128) (k0_off11 a) S256x128.size (k0_off11_inb a),
    addTo (rd11 a a10 (a10.view.writes (Elt Ideal) Y10 (mid10 a2 a10 X2 a q1 q2 g1 g2 t1 t2 acc Y10 L10)))
      (bdv bfS lt16 mkL k0_pay336 (lo q1) (lo g1) (rd11 a a2 X2) (lo1 t1) (lo1 (midA a2 a3 X2 X3 a q1 g1 t1 acc).1))
      (bdv bfS lt16 mkL k0_pay336 (lo q2) (lo g2) (rd11 a a2 X2) (lo1 t2) (lo1 (midB a2 a3 X2 X3 a q2 g2 t2 acc).1))⟩ ::
    mid10 a2 a10 X2 a q1 q2 g1 g2 t1 t2 acc Y10 L10)

theorem trip1_eq (f9 : BufTy.Contents (Elt Ideal) a9.view.ty) (f10 : BufTy.Contents (Elt Ideal) a10.view.ty) :
    ∃ (a11 v48 v71 : BitVec 32) (v82 : BitVec 1) (v83 c0 v109 : BitVec 32),
      let S2 := st2 (F := Ideal) 𝒱 c bd i a1 p1 a2 p2 a3 p3 a4 p4 a5 p5 a6 p6 a7 p7 a8 p8 a9 p9 a10 p10 k0_pay334 k0_pay335 k0_pay339 k0_pay340 a a11 v48 (trip1.sl.r a1 X1 a) (trip1.sl.r_1 a1 X1 a) (trip1.sl.r_2 a4 X4 a) (trip1.sl.r_3 a4 X4 a) (trip1.sl.r_4 a5 X5 a) (trip1.sl.r_5 a5 X5 a) k0_pay236 k0_pay237 v71 v82 v83 c0 X2 X3 f9 f10 (k0_pay236, k0_pay236, k0_pay237, k0_pay236, k0_pay236, k0_pay237) (k0_t2_loop a).trips
      let S4 := st_k0_t4 (F := Ideal) 𝒱 c bd i a1 p1 a2 p2 a3 p3 a4 p4 a5 p5 a6 p6 a7 p7 a8 p8 a9 p9 a10 p10 k0_pay334 k0_pay335 k0_pay339 k0_pay340 a a11 v48 (trip1.sl.r a1 X1 a) (trip1.sl.r_1 a1 X1 a) (trip1.sl.r_2 a4 X4 a) (trip1.sl.r_3 a4 X4 a) (trip1.sl.r_4 a5 X5 a) (trip1.sl.r_5 a5 X5 a) k0_pay236 k0_pay237 v71 v82 v83 c0 X2 X3 S2.2.1 S2.2.2 S2.1 (k0_t4_loop a).trips
      let S5 := st_k0_t5 (F := Ideal) 𝒱 c bd i a1 p1 a2 p2 a3 p3 a4 p4 a5 p5 a6 p6 a7 p7 a8 p8 a9 p9 a10 p10 k0_pay334 k0_pay335 k0_pay339 k0_pay340 a a11 v48 (trip1.sl.r a1 X1 a) (trip1.sl.r_1 a1 X1 a) (trip1.sl.r_2 a4 X4 a) (trip1.sl.r_3 a4 X4 a) (trip1.sl.r_4 a5 X5 a) (trip1.sl.r_5 a5 X5 a) k0_pay236 k0_pay237 v71 v82 v83 c0 v109 X2 X3 (a9.view.writes (Elt Ideal) S2.2.1 S4.2.1) (a10.view.writes (Elt Ideal) S2.2.2 S4.2.2) S4.1 (k0_t5_loop a).trips
      (trip1 (F := Ideal) 𝒱 c bd i a1 p1 a2 p2 a3 p3 a4 p4 a5 p5 a6 p6 a7 p7 a8 p8 a9 p9 a10 p10 X1 X2 X3 X4 X5 a).1 f9 f10 = [⟨Rect.unit (s := S4096x128) (k0_off1 a) S512x128.size (k0_off1_inb a), endQ a2 a3 X2 X3 a (trip1.sl.r a1 X1 a) (trip1.sl.r_1 a1 X1 a) (trip1.sl.r_2 a4 X4 a) (trip1.sl.r_3 a4 X4 a) (trip1.sl.r_4 a5 X5 a) (trip1.sl.r_5 a5 X5 a) S5.1⟩] ∧
      (trip1 (F := Ideal) 𝒱 c bd i a1 p1 a2 p2 a3 p3 a4 p4 a5 p5 a6 p6 a7 p7 a8 p8 a9 p9 a10 p10 X1 X2 X3 X4 X5 a).2.1 f9 f10 = end9 a2 a3 a9 X2 X3 a (trip1.sl.r a1 X1 a) (trip1.sl.r_1 a1 X1 a) (trip1.sl.r_2 a4 X4 a) (trip1.sl.r_3 a4 X4 a) (trip1.sl.r_4 a5 X5 a) (trip1.sl.r_5 a5 X5 a) S5.1 S2.2.1 (S5.2.1 ++ S4.2.1) ∧
      (trip1 (F := Ideal) 𝒱 c bd i a1 p1 a2 p2 a3 p3 a4 p4 a5 p5 a6 p6 a7 p7 a8 p8 a9 p9 a10 p10 X1 X2 X3 X4 X5 a).2.2.1 f9 f10 = end10 a2 a3 a10 X2 X3 a (trip1.sl.r a1 X1 a) (trip1.sl.r_1 a1 X1 a) (trip1.sl.r_2 a4 X4 a) (trip1.sl.r_3 a4 X4 a) (trip1.sl.r_4 a5 X5 a) (trip1.sl.r_5 a5 X5 a) S5.1 S2.2.2 (S5.2.2 ++ S4.2.2) := by
  refine ⟨trip1.sl.arg11 a, trip1.sl.v47 a, trip1.sl.v71 a, trip1.sl.v82 a, trip1.sl.v83 a, 0#32, trip1.sl.v109 a, ?_, ?_, ?_⟩
  · sl_kernel_rfl
  · sl_kernel_rfl
  · sl_kernel_rfl

end

end Cert.Hand.Sb
-- ==== Proof.SbReal.lean ====
module

public import proofs.«01_k».proof.Proof.SbDiag
public import Idealize.ShloMosaic.Lib.WritesUnit

/-!
The real numbers behind the masks, the buffers and one head's block of the stick-breaking kernel.
-/

@[expose] public section

set_option maxRecDepth 8192

noncomputable section

namespace Cert.Hand.Sb

open Cert.StickBwdIdeal Cert.StickBwdIdeal.Gen
open Idealize.ShloMosaic Idealize.ShloMosaic.TcCoe
open Idealize.SL Idealize.SL.Sem

/-! ## Rows of a buffer -/

section
variable {sg : RefSig} {M : ℕ} {e : EltTy} {A : Memref sg .tc .vmem S4096x128 e} {X : BufTy.Contents (Elt Ideal) A.view.ty}
  {L : List (View.Piece (Elt Ideal) S4096x128 e)} {off : Fin 2 → ℕ} {o : ℕ}

/-- Rows read of a whole buffer. -/
theorem read_rows (hoff : off = ![o, 0]) (inb : ∀ a : Fin 2, off a + (Mat M 128).size a ≤ S4096x128.size a) (r : Fin M) (c : Fin 128) (h : o + r.val < 4096) :
    View.readAt (Elt Ideal) A.view (Rect.unit (s := S4096x128) off (Mat M 128).size inb).toLoadRect X (ix2 r c) =
      A.view.read (Elt Ideal) X (ix2 (⟨o + r.val, h⟩ : Fin 4096) c) := by
  subst hoff
  refine congrArg (A.view.read (Elt Ideal) X) ?_
  funext b
  apply Fin.ext
  match b with
  | ⟨0, _⟩ => exact congrArg (o + ·) (Nat.one_mul _)
  | ⟨1, _⟩ => exact (Nat.zero_add _).trans (Nat.one_mul _)

/-- Rows written over a whole buffer, at one of them. -/
theorem write_rows_in (hoff : off = ![o, 0]) (inb : ∀ a : Fin 2, off a + (Mat M 128).size a ≤ S4096x128.size a)
    (w : (Mat M 128).Idx → Elt Ideal e) (j : Fin 4096) (c : Fin 128) (h1 : o ≤ j.val) (h2 : j.val - o < M) :
    A.view.read (Elt Ideal) (A.view.writes (Elt Ideal) X (⟨Rect.unit (s := S4096x128) off (Mat M 128).size inb, w⟩ :: L)) (ix2 j c) =
      w (ix2 (⟨j.val - o, h2⟩ : Fin M) c) :=
  View.read_writes_cons_rows_of_mem A.view X inb w L (ix2 j c) (ix2 (⟨j.val - o, h2⟩ : Fin M) c) hoff
    (show j.val = o + (j.val - o) by omega) rfl

/-- The same at another row. -/
theorem write_rows_out (hoff : off = ![o, 0]) (inb : ∀ a : Fin 2, off a + (Mat M 128).size a ≤ S4096x128.size a)
    (w : (Mat M 128).Idx → Elt Ideal e) (j : Fin 4096) (c : Fin 128) (h : j.val < o ∨ o + M ≤ j.val) :
    A.view.read (Elt Ideal) (A.view.writes (Elt Ideal) X (⟨Rect.unit (s := S4096x128) off (Mat M 128).size inb, w⟩ :: L)) (ix2 j c) =
      A.view.read (Elt Ideal) (A.view.writes (Elt Ideal) X L) (ix2 j c) :=
  View.read_writes_cons_rows_of_not_mem A.view X inb w L (ix2 j c) hoff rfl h

end

/-- Whether a buffer holds the reals `f`. -/
abbrev Is16 {sg : RefSig} (A : Memref sg .tc .vmem S4096x128 .bf16) (X : BufTy.Contents (Elt Ideal) A.view.ty) (f : ℕ → ℕ → ℝ) : Prop :=
  IsR (M := 4096) (N := 128) (A.view.read (Elt Ideal) X) f

abbrev Is32 {sg : RefSig} (A : Memref sg .tc .vmem S4096x128 .f32) (X : BufTy.Contents (Elt Ideal) A.view.ty) (f : ℕ → ℕ → ℝ) : Prop :=
  IsR (M := 4096) (N := 128) (A.view.read (Elt Ideal) X) f

section
variable {sg : RefSig} {M : ℕ} {A : Memref sg .tc .vmem S4096x128 .bf16} {X : BufTy.Contents (Elt Ideal) A.view.ty}
  {B : Memref sg .tc .vmem S4096x128 .f32} {Y : BufTy.Contents (Elt Ideal) B.view.ty}
  {LA : List (View.Piece (Elt Ideal) S4096x128 .bf16)} {LB : List (View.Piece (Elt Ideal) S4096x128 .f32)} {f g G : ℕ → ℕ → ℝ}
  {w : (Mat M 128).Idx → EReal} {off : Fin 2 → ℕ} {o : ℕ}

theorem isR_rd16 (h : Is16 A X f) (hoff : off = ![o, 0]) (inb : ∀ a : Fin 2, off a + (Mat M 128).size a ≤ S4096x128.size a) :
    IsR (M := M) (N := 128) (View.readAt (Elt Ideal) A.view (Rect.unit (s := S4096x128) off (Mat M 128).size inb).toLoadRect X) (fun r c => f (o + r) c) := by
  intro r c
  have hb : o + M ≤ 4096 := by subst hoff; exact inb 0
  exact (read_rows hoff inb r c (by omega)).trans (h _ _)

theorem isR_rd32 (h : Is32 B Y f) (hoff : off = ![o, 0]) (inb : ∀ a : Fin 2, off a + (Mat M 128).size a ≤ S4096x128.size a) :
    IsR (M := M) (N := 128) (View.readAt (Elt Ideal) B.view (Rect.unit (s := S4096x128) off (Mat M 128).size inb).toLoadRect Y) (fun r c => f (o + r) c) := by
  intro r c
  have hb : o + M ≤ 4096 := by subst hoff; exact inb 0
  exact (read_rows hoff inb r c (by omega)).trans (h _ _)

theorem isR_wr32 (h : Is32 B (B.view.writes (Elt Ideal) Y LB) f) (hw : IsR w g) (hoff : off = ![o, 0])
    (inb : ∀ a : Fin 2, off a + (Mat M 128).size a ≤ S4096x128.size a)
    (hin : ∀ r c, r < M → c < 128 → G (o + r) c = g r c) (hout : ∀ j c, j < 4096 → c < 128 → (j < o ∨ o + M ≤ j) → G j c = f j c) :
    Is32 B (B.view.writes (Elt Ideal) Y (⟨Rect.unit (s := S4096x128) off (Mat M 128).size inb, w⟩ :: LB)) G := by
  intro j c
  by_cases hj : j.val < o ∨ o + M ≤ j.val
  · rw [hout _ _ j.isLt c.isLt hj]
    exact (write_rows_out hoff inb w j c hj).trans (h j c)
  · have h1 : o ≤ j.val := by omega
    have h2 : j.val - o < M := by omega
    refine (write_rows_in (A := B) (X := Y) (L := LB) hoff inb w j c h1 h2).trans ((hw (⟨j.val - o, h2⟩ : Fin M) c).trans ?_)
    rw [← hin _ _ h2 c.isLt]
    show ((G (o + (j.val - o)) _ : ℝ) : EReal) = _
    rw [Nat.add_sub_cancel' h1]

theorem isR_addTo {x y v : FVec Ideal (Mat M 128) .f32} {f1 f2 f3 : ℕ → ℕ → ℝ} (h1 : IsR v f1) (h2 : IsR x f2) (h3 : IsR y f3) :
    IsR (addTo v x y) (fun r c => f1 r c + (f2 r c + f3 r c)) := by
  unfold addTo
  rw [shapeCast_id]
  exact isR_add h1 (isR_add h2 h3)

end

/-! ## Masks -/

theorem zero16 : (Scalar.ofBits .bf16 0x0000#16 : Ideal .bf16) = ((0 : ℝ) : EReal) := by
  rw [EReal.coe_zero]; exact Ideal.ofBits_zero_bf16

theorem isR_select {M N : ℕ} {m : IVec (Mat M N) 1} {p : ℕ → ℕ → Prop} [∀ r c, Decidable (p r c)]
    (hm : ∀ (r : Fin M) (c : Fin N), m (ix2 r c) = BitVec.ofBool (decide (p r.val c.val)))
    {x y : (Mat M N).Idx → EReal} {f g : ℕ → ℕ → ℝ} (hx : IsR x f) (hy : IsR y g) :
    IsR (select m x y) (fun r c => if p r c then f r c else g r c) := by
  intro r c
  show (if m (ix2 r c) = 1#1 then x (ix2 r c) else y (ix2 r c)) = _
  rw [hm]
  by_cases h : p r.val c.val
  · simp only [h, decide_true, if_true]; exact hx r c
  · simp only [h, decide_false, if_false]; exact hy r c

theorem slt_nat (a b : ℕ) (ha : a < 4096) (hb : b < 4096) : (BitVec.ofNat 32 a).slt (BitVec.ofNat 32 b) = decide (a < b) := by
  rw [BitVec.slt, BitVec.toInt_eq_toNat_of_lt (by simp; omega), BitVec.toInt_eq_toNat_of_lt (by simp; omega)]
  simp only [BitVec.toNat_ofNat]
  rw [Nat.mod_eq_of_lt (by omega), Nat.mod_eq_of_lt (by omega)]
  simp

theorem sle_nat (a b : ℕ) (ha : a < 4096) (hb : b < 4096) : (BitVec.ofNat 32 a).sle (BitVec.ofNat 32 b) = decide (a ≤ b) := by
  rw [BitVec.sle, BitVec.toInt_eq_toNat_of_lt (by simp; omega), BitVec.toInt_eq_toNat_of_lt (by simp; omega)]
  simp only [BitVec.toNat_ofNat]
  rw [Nat.mod_eq_of_lt (by omega), Nat.mod_eq_of_lt (by omega)]
  simp

theorem iota0 {M N : ℕ} (h : (Mat M N).Iotas .tc 32 [0]) (r : Fin M) (c : Fin N) :
    iota .tc (Mat M N) 32 [0] h (ix2 r c) = BitVec.ofNat 32 r.val :=
  congrArg (BitVec.ofNat 32) (by show 0 * _ + r.val = _; omega)

theorem iota1 {M N : ℕ} (h : (Mat M N).Iotas .tc 32 [1]) (r : Fin M) (c : Fin N) :
    iota .tc (Mat M N) 32 [1] h (ix2 r c) = BitVec.ofNat 32 c.val :=
  congrArg (BitVec.ofNat 32) (by show 0 * _ + c.val = _; omega)

/-- A comparison of places as a number. -/
theorem bit_num (b : Bool) : (FloatOps.sitofp (F := Ideal) .f32 ((BitVec.ofBool b).setWidth 32) : EReal) = (((if b then 1 else 0 : ℝ)) : EReal) := by
  have e : ((BitVec.ofBool b).setWidth 32).toInt = if b then 1 else 0 := by cases b <;> decide
  show ((((BitVec.ofBool b).setWidth 32).toInt : ℝ) : EReal) = _
  rw [e]
  cases b <;> simp

theorem isR_gt {H : ℕ} (hH : H ≤ 4096) (h0 : (Mat H H).Iotas .tc 32 [0]) (h1 : (Mat H H).Iotas .tc 32 [1]) :
    IsR (truncf (F := Ideal) .bf16 (sitofp .f32 (extui 32 (cmpi .sgt (iota .tc (Mat H H) 32 [0] h0) (iota .tc (Mat H H) 32 [1] h1)) natLt_1_32)) bitsLt_bf16_f32 : (Mat H H).Idx → EReal)
      (fun j s => if s < j then 1 else 0) := by
  intro r c
  have e : Scalar.cmpi .sgt (iota .tc (Mat H H) 32 [0] h0 (ix2 r c)) (iota .tc (Mat H H) 32 [1] h1 (ix2 r c)) = BitVec.ofBool (decide (c.val < r.val)) := by
    rw [iota0, iota1]
    exact congrArg BitVec.ofBool (slt_nat _ _ (by omega) (by omega))
  refine (congrArg (fun b : BitVec 1 => (FloatOps.sitofp (F := Ideal) .f32 (b.setWidth 32) : EReal)) e).trans ((bit_num _).trans ?_)
  simp

theorem isR_lt {H : ℕ} (hH : H ≤ 4096) (h0 : (Mat H H).Iotas .tc 32 [0]) (h1 : (Mat H H).Iotas .tc 32 [1]) :
    IsR (truncf (F := Ideal) .bf16 (sitofp .f32 (extui 32 (cmpi .slt (iota .tc (Mat H H) 32 [0] h0) (iota .tc (Mat H H) 32 [1] h1)) natLt_1_32)) bitsLt_bf16_f32 : (Mat H H).Idx → EReal)
      (fun j s => if j < s then 1 else 0) := by
  intro r c
  have e : Scalar.cmpi .slt (iota .tc (Mat H H) 32 [0] h0 (ix2 r c)) (iota .tc (Mat H H) 32 [1] h1 (ix2 r c)) = BitVec.ofBool (decide (r.val < c.val)) := by
    rw [iota0, iota1]
    exact congrArg BitVec.ofBool (slt_nat _ _ (by omega) (by omega))
  refine (congrArg (fun b : BitVec 1 => (FloatOps.sitofp (F := Ideal) .f32 (b.setWidth 32) : EReal)) e).trans ((bit_num _).trans ?_)
  simp

theorem tri334 : IsR (M := 256) (N := 256) (k0_pay334 (F := Ideal)) (fun j s => if s < j then 1 else 0) := isR_gt (by omega) _ _
theorem tri335 : IsR (M := 256) (N := 256) (k0_pay335 (F := Ideal)) (fun j s => if j < s then 1 else 0) := isR_lt (by omega) _ _
theorem tri336 : IsR (M := 128) (N := 128) (k0_pay336 (F := Ideal)) (fun j s => if s < j then 1 else 0) := isR_gt (by omega) _ _
theorem tri337 : IsR (M := 128) (N := 128) (k0_pay337 (F := Ideal)) (fun j s => if j < s then 1 else 0) := isR_lt (by omega) _ _

theorem seen_at (r : Fin 512) (c : Fin 256) : k0_pay338 (ix2 r c) = BitVec.ofBool (decide (c.val < r.val)) := by
  have e : Scalar.cmpi .slt (iota .tc S512x256 32 [1] iota_S512x256_d1_w32 (ix2 r c)) (iota .tc S512x256 32 [0] iota_S512x256_d0_w32 (ix2 r c)) = BitVec.ofBool (decide (c.val < r.val)) :=
    (congrArg₂ (Scalar.cmpi .slt) (iota1 _ r c) (iota0 _ r c)).trans (congrArg BitVec.ofBool (slt_nat _ _ (by omega) (by omega)))
  exact e

theorem laneA_at (r : Fin 512) (c : Fin 128) : k0_pay339 (ix2 r c) = BitVec.ofBool (decide (c.val < 64)) := by
  have e : Scalar.cmpi .slt (iota .tc S512x128 32 [1] iota_S512x128_d1_w32 (ix2 r c)) (64#32) = BitVec.ofBool (decide (c.val < 64)) :=
    (congrArg (Scalar.cmpi .slt · (64#32)) (iota1 _ r c)).trans (congrArg BitVec.ofBool (slt_nat _ 64 (by omega) (by omega)))
  exact e

theorem laneB_at (r : Fin 512) (c : Fin 128) : k0_pay340 (ix2 r c) = BitVec.ofBool (decide (64 ≤ c.val)) := by
  have e : Scalar.cmpi .sge (iota .tc S512x128 32 [1] iota_S512x128_d1_w32 (ix2 r c)) (64#32) = BitVec.ofBool (decide (64 ≤ c.val)) :=
    (congrArg (Scalar.cmpi .sge · (64#32)) (iota1 _ r c)).trans (congrArg BitVec.ofBool (sle_nat 64 _ (by omega) (by omega)))
  exact e

/-- A slice at the origin of a mask. -/
theorem slice0_at {M N M' N' w : ℕ} (o : ℕ) (a : IVec (Mat M N) w) (h : (Mat M N).Slices ![0, 0] (Mat M' N')) (r : Fin M') (c : Fin N')
    (hr : r.val < M) (hc : c.val < N) : extractStridedSlice (Mat M' N') ![0, 0] a h (ix2 r c) = a (ix2 (⟨r.val, hr⟩ : Fin M) (⟨c.val, hc⟩ : Fin N)) := by
  refine congrArg a ?_
  funext b
  apply Fin.ext
  match b with
  | ⟨0, _⟩ => exact Nat.zero_add _
  | ⟨1, _⟩ => exact Nat.zero_add _

end Cert.Hand.Sb
-- ==== Proof.SbSum.lean ====
module

public import proofs.«01_k».proof.Proof.SbReal
import all proofs.«01_k».proof.Proof.SbTrip

/-!
The sums a query block of the stick-breaking kernel has made before each of its key blocks.
-/

@[expose] public section

set_option maxRecDepth 8192

noncomputable section

namespace Cert.Hand.Sb

open Cert.StickBwdIdeal Cert.StickBwdIdeal.Gen
open Idealize.ShloMosaic Idealize.ShloMosaic.TcCoe
open Idealize.SL Idealize.SL.Sem

/-! ## One head -/

/-- What a head carries before key `n`. -/
structure HdIs (fq fg fk fv fh : ℕ → ℕ → ℝ) (q0 n : ℕ) {Q : ℕ} (p : Hd Q) : Prop where
  cl : IsR p.1 (fun r _ => ∑ j ∈ Finset.range n, LR fq fk (q0 + r) j)
  cd : IsR p.2.1 (fun r _ => ∑ j ∈ Finset.range n, eR fq fk fg fv (q0 + r) j)
  dq : IsR p.2.2 (fun r d => ∑ j ∈ Finset.range n, dzR fq fk fg fv (q0 + r) j * fh j d)

/-- All that one block of a head reads. -/
structure BlockIs (fq fg fk fv fh : ℕ → ℕ → ℝ) (q0 n : ℕ) {Q K H : ℕ} (mk : FVec Ideal (Mat Q K) .f32 → FVec Ideal (Mat Q K) .f32)
    (t1 t2 : FVec Ideal (Mat H H) .bf16) (q g : FVec Ideal (Mat Q 128) .bf16) (k v kh : FVec Ideal (Mat K 128) .bf16)
    (tot : FVec Ideal (Mat Q 1) .f32) (p : Hd Q) : Prop where
  hmk : ∀ x f, IsR x f → IsR (mk x) (fun r c => if n + c < q0 + r then f r c else 0)
  ht1 : IsR t1 (fun j s => if s < j then 1 else 0)
  ht2 : IsR t2 (fun j s => if j < s then 1 else 0)
  hq : IsR q (fun r d => fq (q0 + r) d)
  hg : IsR g (fun r d => fg (q0 + r) d)
  hk : IsR k (fun c d => fk (n + c) d)
  hv : IsR v (fun c d => fv (n + c) d)
  hh : IsR kh (fun c d => fh (n + c) d)
  htot : IsR tot (fun r _ => ∑ j ∈ Finset.range 4096, LR fq fk (q0 + r) j)
  hle : n + K ≤ 4096
  hp : HdIs fq fg fk fv fh q0 n p

section
variable {fq fg fk fv fh : ℕ → ℕ → ℝ} {q0 n : ℕ} {Q K H : ℕ} {mk : FVec Ideal (Mat Q K) .f32 → FVec Ideal (Mat Q K) .f32}
    {t1 t2 : FVec Ideal (Mat H H) .bf16} {q g : FVec Ideal (Mat Q 128) .bf16} {k v kh : FVec Ideal (Mat K 128) .bf16}
    {tot : FVec Ideal (Mat Q 1) .f32} {p : Hd Q}

theorem BlockIs.hd (bf : BF Q K H) (hK : H + H = K) (B : BlockIs fq fg fk fv fh q0 n mk t1 t2 q g k v kh tot p) :
    HdIs fq fg fk fv fh q0 (n + K) (hd bf mk t1 t2 q g k v kh tot p) where
  cl := isR_bcl bf hK B.hmk B.hq B.hk B.hp.cl
  cd := isR_bcd bf lt16 hK B.hmk B.ht1 B.hq B.hg B.hk B.hv B.hp.cl B.htot B.hp.cd B.hle
  dq := (isR_bdq bf lt16 hK B.hmk B.ht1 B.ht2 B.hq B.hg B.hk B.hv B.hh B.hp.cl B.htot B.hp.cd B.hp.dq B.hle).congr
    fun r d _ _ => (Finset.sum_range_add _ _ _).symm

theorem BlockIs.dk (bf : BF Q K H) (hK : H + H = K) (B : BlockIs fq fg fk fv fh q0 n mk t1 t2 q g k v kh tot p) :
    IsR (bdk bf lt16 mk t1 t2 q g k v tot p.1 p.2.1) (fun c d => ∑ r ∈ Finset.range Q, dzR fq fk fg fv (q0 + r) (n + c) * fq (q0 + r) d) :=
  isR_bdk bf lt16 hK B.hmk B.ht1 B.ht2 B.hq B.hg B.hk B.hv B.hp.cl B.htot B.hp.cd B.hle

theorem BlockIs.dv (bf : BF Q K H) (hK : H + H = K) (B : BlockIs fq fg fk fv fh q0 n mk t1 t2 q g k v kh tot p) :
    IsR (bdv bf lt16 mk t1 q g k tot p.1) (fun c d => ∑ r ∈ Finset.range Q, wR fq fk (q0 + r) (n + c) * fg (q0 + r) d) :=
  isR_bdv bf lt16 hK B.hmk B.ht1 B.hq B.hg B.hk B.hp.cl B.htot B.hle

end

theorem wR_zero {fq fk : ℕ → ℕ → ℝ} {i j : ℕ} (h : i ≤ j) : wR fq fk i j = 0 := if_neg (by omega)
theorem dzR_zero {fq fk fg fv : ℕ → ℕ → ℝ} {i j : ℕ} (h : i ≤ j) : dzR fq fk fg fv i j = 0 := if_neg (by omega)

/-- What a head reads for a query block. -/
structure HeadIs (fq fg fk fv fh : ℕ → ℕ → ℝ) (q0 : ℕ) (m : IVec (Mat 512 128) 1) (q g : FVec Ideal (Mat 512 128) .bf16)
    (tot : FVec Ideal (Mat 512 1) .f32) : Prop where
  hm : ∀ (o : ℕ) (x : FVec Ideal (Mat 512 128) .bf16), IsR x (fun c d => fk (o + c) d) → IsR (pick m x) (fun c d => fh (o + c) d)
  hm' : ∀ (o : ℕ) (x : FVec Ideal (Mat 256 128) .bf16), IsR x (fun c d => fk (o + c) d) → IsR (pick (half m) x) (fun c d => fh (o + c) d)
  hq : IsR q (fun r d => fq (q0 + r) d)
  hg : IsR g (fun r d => fg (q0 + r) d)
  htot : IsR tot (fun r _ => ∑ j ∈ Finset.range 4096, LR fq fk (q0 + r) j)

section
variable {fq fg fk fv fh : ℕ → ℕ → ℝ} {q0 n : ℕ} {m : IVec (Mat 512 128) 1} {q g : FVec Ideal (Mat 512 128) .bf16}
    {tot : FVec Ideal (Mat 512 1) .f32} {p : Hd 512}

theorem HeadIs.blockU {t1 t2 : FVec Ideal (Mat 256 256) .bf16} {k v : FVec Ideal (Mat 512 128) .bf16}
    (h : HeadIs fq fg fk fv fh q0 m q g tot) (ht1 : IsR t1 (fun j s => if s < j then 1 else 0)) (ht2 : IsR t2 (fun j s => if j < s then 1 else 0))
    (hn : n + 512 ≤ q0) (h4 : q0 ≤ 4096)
    (hk : IsR k (fun c d => fk (n + c) d)) (hv : IsR v (fun c d => fv (n + c) d)) (hp : HdIs fq fg fk fv fh q0 n p) :
    BlockIs fq fg fk fv fh q0 n (fun x => x) t1 t2 q g k v (pick m k) tot p where
  hmk := fun x f hx => hx.congr fun r c _ hc => (if_pos (by omega)).symm
  ht1 := ht1
  ht2 := ht2
  hq := h.hq
  hg := h.hg
  hk := hk
  hv := hv
  hh := h.hm n k hk
  htot := h.htot
  hle := by omega
  hp := hp

theorem HeadIs.blockM {k v : FVec Ideal (Mat 256 128) .bf16} (h : HeadIs fq fg fk fv fh q0 m q g tot) (h4 : q0 + 256 ≤ 4096)
    (hk : IsR k (fun c d => fk (q0 + c) d)) (hv : IsR v (fun c d => fv (q0 + c) d)) (hp : HdIs fq fg fk fv fh q0 q0 p) :
    BlockIs fq fg fk fv fh q0 q0 mkD k0_pay336 k0_pay337 q g k v (pick (half m) k) tot p where
  hmk := fun x f hx => (isR_select (p := fun r c => c < r) seen_at hx (isR_bc zero_bits)).congr fun r c _ _ => by simp only [Nat.add_lt_add_iff_left]
  ht1 := tri336
  ht2 := tri337
  hq := h.hq
  hg := h.hg
  hk := hk
  hv := hv
  hh := h.hm' q0 k hk
  htot := h.htot
  hle := h4
  hp := hp

theorem HdIs.low (hp : HdIs fq fg fk fv fh q0 n p) : HdIs fq fg fk fv fh (q0 + 256) n (loHd p) where
  cl := (isR_slice (φ := .f32) 256 0 hp.cl slices_S512x1_o256_0_S256x1).congr fun r c _ _ => by rw [Nat.add_assoc]
  cd := (isR_slice (φ := .f32) 256 0 hp.cd slices_S512x1_o256_0_S256x1).congr fun r c _ _ => by rw [Nat.add_assoc]
  dq := (isR_slice (φ := .f32) 256 0 hp.dq slices_S512x128_o256_0_S256x128).congr fun r c _ _ => by rw [Nat.add_assoc, Nat.zero_add]

theorem HeadIs.blockS {k v : FVec Ideal (Mat 256 128) .bf16} {p : Hd 256} (h : HeadIs fq fg fk fv fh q0 m q g tot) (h4 : q0 + 256 + 256 ≤ 4096)
    (hk : IsR k (fun c d => fk (q0 + 256 + c) d)) (hv : IsR v (fun c d => fv (q0 + 256 + c) d)) (hp : HdIs fq fg fk fv fh (q0 + 256) (q0 + 256) p) :
    BlockIs fq fg fk fv fh (q0 + 256) (q0 + 256) mkL k0_pay336 k0_pay337 (lo q) (lo g) k v (pick (half m) k) (lo1 tot) p where
  hmk := fun x f hx => (isR_select (p := fun r c => c < r)
    (fun r c => (slice0_at 0 k0_pay338 slices_S512x256_o0_0_S256x256 r c (by omega) c.isLt).trans (seen_at _ _)) hx (isR_bc zero_bits)).congr
      fun r c _ _ => by simp only [Nat.add_lt_add_iff_left]
  ht1 := tri336
  ht2 := tri337
  hq := (isR_slice (φ := .bf16) 256 0 h.hq slices_S512x128_o256_0_S256x128).congr fun r c _ _ => by rw [Nat.add_assoc, Nat.zero_add]
  hg := (isR_slice (φ := .bf16) 256 0 h.hg slices_S512x128_o256_0_S256x128).congr fun r c _ _ => by rw [Nat.add_assoc, Nat.zero_add]
  hk := hk
  hv := hv
  hh := h.hm' (q0 + 256) k hk
  htot := (isR_slice (φ := .f32) 256 0 h.htot slices_S512x1_o256_0_S256x1).congr fun r c _ _ => by rw [Nat.add_assoc]
  hle := h4
  hp := hp

end

/-- What the rows from `q0` on give the gradient of the keys. -/
def Dk (fq fg fk fv : ℕ → ℕ → ℝ) (q0 j d : ℕ) : ℝ := ∑ r ∈ Finset.range 512, dzR fq fk fg fv (q0 + r) j * fq (q0 + r) d
/-- What they give that of the values. -/
def Dv (fq fg fk : ℕ → ℕ → ℝ) (q0 j d : ℕ) : ℝ := ∑ r ∈ Finset.range 512, wR fq fk (q0 + r) j * fg (q0 + r) d

theorem half_sum (F : ℕ → ℝ) (q0 j : ℕ) (h : ∀ i, i ≤ j → F i = 0) (hj : q0 + 256 ≤ j) :
    ∑ r ∈ Finset.range 256, F (q0 + 256 + r) = ∑ r ∈ Finset.range 512, F (q0 + r) := by
  rw [show (512 : ℕ) = 256 + 256 from rfl, Finset.sum_range_add (fun r => F (q0 + r)) 256 256,
    Finset.sum_eq_zero (s := Finset.range 256) (f := fun r => F (q0 + r)) (fun r hr => h _ (by have := Finset.mem_range.1 hr; omega)), zero_add]
  exact Finset.sum_congr rfl fun r _ => by rw [Nat.add_assoc]

/-! ## The whole key blocks -/

section
variable (𝒱 : Variants) (c : Dev nD) (bd : Option 𝒱.V) (i : grid0.Coords) (a1 : WB) (p1 : a1.IsWhole) (a2 : WB) (p2 : a2.IsWhole) (a3 : WB) (p3 : a3.IsWhole) (a4 : WB) (p4 : a4.IsWhole) (a5 : Memref sig .tc .vmem S1x2x4096x128 .f32) (p5 : a5.IsWhole) (a6 : WB) (p6 : a6.IsWhole) (a7 : WB) (p7 : a7.IsWhole) (a8 : WB) (p8 : a8.IsWhole) (a9 : WF) (p9 : a9.IsWhole) (a10 : WF) (p10 : a10.IsWhole)
variable (v5 v11 : FVec Ideal S256x256 .bf16) (v29 v31 : IVec S512x128 1) (a : Fin k0_t1_loop.trips) (a11 v48 : BitVec 32) (v56 v58 : FVec Ideal S512x128 .bf16) (v60 v62 : Vec Ideal S512x128 .bf16) (v65 v68 v69 : FVec Ideal S512x1 .f32) (v70 : FVec Ideal S512x128 .f32) (v71 : BitVec 32) (v82 : BitVec 1) (v83 c0 : BitVec 32)
variable (X2 : BufTy.Contents (Elt Ideal) a2.view.ty) (X3 : BufTy.Contents (Elt Ideal) a3.view.ty)
variable {qa qb ga gb fk fv ha hb : ℕ → ℕ → ℝ}
  (HA : HeadIs qa ga fk fv ha (512 * a.val) v29 v56 v60 v65) (HB : HeadIs qb gb fk fv hb (512 * a.val) v31 v58 v62 v68)
  (h5 : IsR (M := 256) (N := 256) v5 (fun j s => if s < j then 1 else 0)) (h11 : IsR (M := 256) (N := 256) v11 (fun j s => if j < s then 1 else 0))
  (hK : Is16 a2 X2 fk) (hV : Is16 a3 X3 fv)

/-- The state before key `n`: both heads' carried values and the two accumulators. -/
structure StIs (qa qb ga gb fk fv ha hb : ℕ → ℕ → ℝ) (f9 f10 : ℕ → ℕ → ℝ) (q0 n : ℕ) {a9 a10 : WF} (acc : Acc Ideal)
    (Y9 : BufTy.Contents (Elt Ideal) a9.view.ty) (Y10 : BufTy.Contents (Elt Ideal) a10.view.ty) : Prop where
  a : HdIs qa ga fk fv ha q0 n ((acc.1, acc.2.1, acc.2.2.1) : Hd 512)
  b : HdIs qb gb fk fv hb q0 n (acc.2.2.2 : Hd 512)
  k : Is32 a9 Y9 (fun j d => f9 j d + if j < n then Dk qa ga fk fv q0 j d + Dk qb gb fk fv q0 j d else 0)
  v : Is32 a10 Y10 (fun j d => f10 j d + if j < n then Dv qa ga fk q0 j d + Dv qb gb fk q0 j d else 0)

include HA HB h5 h11 hK hV in
theorem trip2_is (f9 f10 : ℕ → ℕ → ℝ) (k : Fin (k0_t2_loop a).trips) (acc : Acc Ideal) (Y9 : BufTy.Contents (Elt Ideal) a9.view.ty) (Y10 : BufTy.Contents (Elt Ideal) a10.view.ty)
    (S : StIs qa qb ga gb fk fv ha hb f9 f10 (512 * a.val) (1024 * k.val) acc Y9 Y10) :
    let T := trip2 (F := Ideal) 𝒱 c bd i a1 p1 a2 p2 a3 p3 a4 p4 a5 p5 a6 p6 a7 p7 a8 p8 a9 p9 a10 p10 v5 v11 v29 v31 a a11 v48 v56 v58 v60 v62 v65 v68 v69 v70 v71 v82 v83 c0 X2 X3 k
    StIs qa qb ga gb fk fv ha hb f9 f10 (512 * a.val) (1024 * (k.val + 1)) (T.1 acc Y9 Y10) (T.2.1 acc Y9 Y10) (T.2.2.1 acc Y9 Y10) := by
  intro T
  have hk : k.val < a.val / 2 := lt_of_lt_of_eq k.isLt (trips2 a)
  have ha : a.val < 8 := lt_of_lt_of_eq a.isLt trips1
  have o4 := off4_eq a k
  have o5 := off5_eq a k
  have K4 := isR_rd16 (M := 512) hK o4 (k0_off4_inb a k)
  have K5 := isR_rd16 (M := 512) hK o5 (k0_off5_inb a k)
  have V4 := isR_rd16 (M := 512) hV o4 (k0_off4_inb a k)
  have V5 := isR_rd16 (M := 512) hV o5 (k0_off5_inb a k)
  have A4 := HA.blockU (n := 1024 * k.val) h5 h11 (by omega) (by omega) K4 V4 S.a
  have B4 := HB.blockU (n := 1024 * k.val) h5 h11 (by omega) (by omega) K4 V4 S.b
  have A5 := HA.blockU (n := 1024 * k.val + 512) h5 h11 (by omega) (by omega) K5 V5 (A4.hd bfU rfl)
  have B5 := HB.blockU (n := 1024 * k.val + 512) h5 h11 (by omega) (by omega) K5 V5 (B4.hd bfU rfl)
  refine ⟨?_, ?_, ?_, ?_⟩
  · exact (congrArg (HdIs qa ga fk fv _ (512 * a.val) (1024 * (k.val + 1))) (trip2_a 𝒱 c bd i a1 p1 a2 p2 a3 p3 a4 p4 a5 p5 a6 p6 a7 p7 a8 p8 a9 p9 a10 p10 v5 v11 v29 v31 a a11 v48 v56 v58 v60 v62 v65 v68 v69 v70 v71 v82 v83 c0 X2 X3 k acc Y9 Y10)).mpr (A5.hd bfU rfl)
  · exact (congrArg (HdIs qb gb fk fv _ (512 * a.val) (1024 * (k.val + 1))) (trip2_b 𝒱 c bd i a1 p1 a2 p2 a3 p3 a4 p4 a5 p5 a6 p6 a7 p7 a8 p8 a9 p9 a10 p10 v5 v11 v29 v31 a a11 v48 v56 v58 v60 v62 v65 v68 v69 v70 v71 v82 v83 c0 X2 X3 k acc Y9 Y10)).mpr (B5.hd bfU rfl)
  · refine (congrArg (fun Y => Is32 a9 Y _) (trip2_9 𝒱 c bd i a1 p1 a2 p2 a3 p3 a4 p4 a5 p5 a6 p6 a7 p7 a8 p8 a9 p9 a10 p10 v5 v11 v29 v31 a a11 v48 v56 v58 v60 v62 v65 v68 v69 v70 v71 v82 v83 c0 X2 X3 k acc Y9 Y10)).mpr ?_
    refine isR_wr32 (isR_wr32 (LB := []) S.k (isR_addTo (isR_rd32 S.k o4 (k0_off4_inb a k)) (A4.dk bfU rfl) (B4.dk bfU rfl)) o4 (k0_off4_inb a k)
      (G := fun j d => f9 j d + if j < 1024 * k.val + 512 then Dk qa ga fk fv (512 * a.val) j d + Dk qb gb fk fv (512 * a.val) j d else 0) ?_ ?_)
      (isR_addTo (isR_rd32 S.k o5 (k0_off5_inb a k)) (A5.dk bfU rfl) (B5.dk bfU rfl)) o5 (k0_off5_inb a k) ?_ ?_
    · intro r c hr _
      rw [if_pos (by omega), if_neg (by omega), add_zero]; rfl
    · intro j c _ _ hj
      congr 1
      exact if_congr (by omega) rfl rfl
    · intro r c hr _
      rw [if_pos (by omega), if_neg (by omega), add_zero]; rfl
    · intro j c _ _ hj
      congr 1
      exact if_congr (by omega) rfl rfl
  · refine (congrArg (fun Y => Is32 a10 Y _) (trip2_10 𝒱 c bd i a1 p1 a2 p2 a3 p3 a4 p4 a5 p5 a6 p6 a7 p7 a8 p8 a9 p9 a10 p10 v5 v11 v29 v31 a a11 v48 v56 v58 v60 v62 v65 v68 v69 v70 v71 v82 v83 c0 X2 X3 k acc Y9 Y10)).mpr ?_
    refine isR_wr32 (isR_wr32 (LB := []) S.v (isR_addTo (isR_rd32 S.v o4 (k0_off4_inb a k)) (A4.dv bfU rfl) (B4.dv bfU rfl)) o4 (k0_off4_inb a k)
      (G := fun j d => f10 j d + if j < 1024 * k.val + 512 then Dv qa ga fk (512 * a.val) j d + Dv qb gb fk (512 * a.val) j d else 0) ?_ ?_)
      (isR_addTo (isR_rd32 S.v o5 (k0_off5_inb a k)) (A5.dv bfU rfl) (B5.dv bfU rfl)) o5 (k0_off5_inb a k) ?_ ?_
    · intro r c hr _
      rw [if_pos (by omega), if_neg (by omega), add_zero]; rfl
    · intro j c _ _ hj
      congr 1
      exact if_congr (by omega) rfl rfl
    · intro r c hr _
      rw [if_pos (by omega), if_neg (by omega), add_zero]; rfl
    · intro j c _ _ hj
      congr 1
      exact if_congr (by omega) rfl rfl

include HA HB h5 h11 hK hV in
theorem st2_is (f9 f10 : ℕ → ℕ → ℝ) (acc : Acc Ideal) (Y9 : BufTy.Contents (Elt Ideal) a9.view.ty) (Y10 : BufTy.Contents (Elt Ideal) a10.view.ty)
    (S : StIs qa qb ga gb fk fv ha hb f9 f10 (512 * a.val) 0 acc Y9 Y10) (n : ℕ) (hn : n ≤ (k0_t2_loop a).trips) :
    let T := st2 (F := Ideal) 𝒱 c bd i a1 p1 a2 p2 a3 p3 a4 p4 a5 p5 a6 p6 a7 p7 a8 p8 a9 p9 a10 p10 v5 v11 v29 v31 a a11 v48 v56 v58 v60 v62 v65 v68 v69 v70 v71 v82 v83 c0 X2 X3 Y9 Y10 acc n
    StIs qa qb ga gb fk fv ha hb f9 f10 (512 * a.val) (1024 * n) T.1 T.2.1 T.2.2 := by
  induction n with
  | zero => exact S
  | succ n ih =>
    have e := st2_succ (F := Ideal) 𝒱 c bd i a1 p1 a2 p2 a3 p3 a4 p4 a5 p5 a6 p6 a7 p7 a8 p8 a9 p9 a10 p10 v5 v11 v29 v31 a a11 v48 v56 v58 v60 v62 v65 v68 v69 v70 v71 v82 v83 c0 X2 X3 Y9 Y10 acc ⟨n, hn⟩
    intro T
    exact (congrArg (fun T => StIs (a9 := a9) (a10 := a10) qa qb ga gb fk fv ha hb f9 f10 (512 * a.val) (1024 * (n + 1)) T.1 T.2.1 T.2.2) e).mpr
      (trip2_is 𝒱 c bd i a1 p1 a2 p2 a3 p3 a4 p4 a5 p5 a6 p6 a7 p7 a8 p8 a9 p9 a10 p10 v5 v11 v29 v31 a a11 v48 v56 v58 v60 v62 v65 v68 v69 v70 v71 v82 v83 c0 X2 X3 HA HB h5 h11 hK hV f9 f10 ⟨n, hn⟩ _ _ _ (ih (by omega)))

end

end Cert.Hand.Sb
-- ==== Proof.SbQ.lean ====
module

public import proofs.«01_k».proof.Proof.SbSum
import all proofs.«01_k».proof.Proof.SbTrip
import all proofs.«01_k».proof.Proof.Gen.StickBwdIdeal.Loops

/-!
What a query block of the stick-breaking kernel leaves.
-/

@[expose] public section

set_option maxRecDepth 8192

noncomputable section

namespace Cert.Hand.Sb

open Cert.StickBwdIdeal Cert.StickBwdIdeal.Gen
open Idealize.ShloMosaic Idealize.ShloMosaic.TcCoe
open Idealize.SL Idealize.SL.Sem

theorem isR_cat0 {M₁ M₂ M N : ℕ} {a : FVec Ideal (Mat M₁ N) .f32} {b : FVec Ideal (Mat M₂ N) .f32} {f g : ℕ → ℕ → ℝ}
    (ha : IsR a f) (hb : IsR b g) (h : Shape.Concatenates [Mat M₁ N, Mat M₂ N] (Mat M N) 0) (hM : M₁ + M₂ = M) :
    IsR (concatenate (α := EReal) (Mat M N) 0 [⟨Mat M₁ N, a⟩, ⟨Mat M₂ N, b⟩] h) (fun r c => if r < M₁ then f r c else g (r - M₁) c) := by
  intro r c
  by_cases hr : r.val < M₁
  · refine (concatenate_pair_apply_left (t := Mat M N) 0 a b h (ix2 r c) rfl (ix2 ⟨r.val, hr⟩ c) fun d => ?_).trans ?_
    · match d with
      | ⟨0, _⟩ => rfl
      | ⟨1, _⟩ => rfl
    · rw [ha]; show _ = ((if r.val < M₁ then _ else _ : ℝ) : EReal); rw [if_pos hr]
  · have hr' : r.val - M₁ < M₂ := by have := r.isLt; omega
    refine (concatenate_pair_apply_right (t := Mat M N) 0 a b h (ix2 r c) rfl rfl (ix2 ⟨r.val - M₁, hr'⟩ c) (fun d hd => ?_) ?_).trans ?_
    · match d with
      | ⟨0, _⟩ => exact absurd rfl hd
      | ⟨1, _⟩ => rfl
    · show r.val - M₁ + M₁ = r.val; omega
    · rw [hb]; show _ = ((if r.val < M₁ then _ else _ : ℝ) : EReal); rw [if_neg hr]

theorem eighth32 : (Scalar.ofBits .f32 0x3E000000#32 : Ideal .f32) = ((0.125 : ℝ) : EReal) := by
  show Ideal.ofBits .f32 0x3E000000#32 = _
  simp [Ideal.ofBits, Ideal.ieee]
  rw [← EReal.coe_mul]
  norm_num

section
variable (𝒱 : Variants) (c : Dev nD) (bd : Option 𝒱.V) (i : grid0.Coords) (a1 : WB) (p1 : a1.IsWhole) (a2 : WB) (p2 : a2.IsWhole) (a3 : WB) (p3 : a3.IsWhole) (a4 : WB) (p4 : a4.IsWhole) (a5 : Memref sig .tc .vmem S1x2x4096x128 .f32) (p5 : a5.IsWhole) (a6 : WB) (p6 : a6.IsWhole) (a7 : WB) (p7 : a7.IsWhole) (a8 : WB) (p8 : a8.IsWhole) (a9 : WF) (p9 : a9.IsWhole) (a10 : WF) (p10 : a10.IsWhole)
variable (v5 v11 : FVec Ideal S256x256 .bf16) (v29 v31 : IVec S512x128 1) (a : Fin k0_t1_loop.trips) (a11 v48 : BitVec 32) (v56 v58 : FVec Ideal S512x128 .bf16) (v60 v62 : Vec Ideal S512x128 .bf16) (v65 v68 v69 : FVec Ideal S512x1 .f32) (v70 : FVec Ideal S512x128 .f32) (v71 : BitVec 32) (v82 : BitVec 1) (v83 c0 : BitVec 32)
variable (X2 : BufTy.Contents (Elt Ideal) a2.view.ty) (X3 : BufTy.Contents (Elt Ideal) a3.view.ty)
variable {qa qb ga gb fk fv ha hb : ℕ → ℕ → ℝ}
  (HA : HeadIs qa ga fk fv ha (512 * a.val) v29 v56 v60 v65) (HB : HeadIs qb gb fk fv hb (512 * a.val) v31 v58 v62 v68)
  (h5 : IsR (M := 256) (N := 256) v5 (fun j s => if s < j then 1 else 0)) (h11 : IsR (M := 256) (N := 256) v11 (fun j s => if j < s then 1 else 0))
  (hK : Is16 a2 X2 fk) (hV : Is16 a3 X3 fv)

include HA HB h5 h11 hK hV in
theorem trip4_is (f9 f10 : ℕ → ℕ → ℝ) (k : Fin (k0_t4_loop a).trips) (acc : Acc Ideal) (Y9 : BufTy.Contents (Elt Ideal) a9.view.ty) (Y10 : BufTy.Contents (Elt Ideal) a10.view.ty)
    (S : StIs qa qb ga gb fk fv ha hb f9 f10 (512 * a.val) (512 * (a.val - 1)) acc Y9 Y10) :
    let T := trip_k0_t4 (F := Ideal) 𝒱 c bd i a1 p1 a2 p2 a3 p3 a4 p4 a5 p5 a6 p6 a7 p7 a8 p8 a9 p9 a10 p10 v5 v11 v29 v31 a a11 v48 v56 v58 v60 v62 v65 v68 v69 v70 v71 v82 v83 c0 X2 X3 k
    StIs qa qb ga gb fk fv ha hb f9 f10 (512 * a.val) (512 * a.val) (T.1 acc Y9 Y10) (a9.view.writes (Elt Ideal) Y9 (T.2.1 acc Y9 Y10))
      (a10.view.writes (Elt Ideal) Y10 (T.2.2.1 acc Y9 Y10)) := by
  intro T
  have hk : k.val < a.val % 2 := lt_of_lt_of_eq k.isLt (trips4 a)
  have ha' : a.val < 8 := lt_of_lt_of_eq a.isLt trips1
  have hn : 512 * (a.val - 1) + 512 = 512 * a.val := by omega
  have o8 := off8_eq a (by omega)
  have K8 := isR_rd16 (M := 512) hK o8 (k0_off8_inb a k)
  have V8 := isR_rd16 (M := 512) hV o8 (k0_off8_inb a k)
  have A8 := HA.blockU (n := 512 * (a.val - 1)) h5 h11 (by omega) (by omega) K8 V8 S.a
  have B8 := HB.blockU (n := 512 * (a.val - 1)) h5 h11 (by omega) (by omega) K8 V8 S.b
  have A9 := A8.hd bfU rfl
  have B9 := B8.hd bfU rfl
  rw [hn] at A9 B9
  refine ⟨?_, ?_, ?_, ?_⟩
  · exact (congrArg (HdIs qa ga fk fv _ (512 * a.val) (512 * a.val)) (trip4_a 𝒱 c bd i a1 p1 a2 p2 a3 p3 a4 p4 a5 p5 a6 p6 a7 p7 a8 p8 a9 p9 a10 p10 v5 v11 v29 v31 a a11 v48 v56 v58 v60 v62 v65 v68 v69 v70 v71 v82 v83 c0 X2 X3 k acc Y9 Y10)).mpr A9
  · exact (congrArg (HdIs qb gb fk fv _ (512 * a.val) (512 * a.val)) (trip4_b 𝒱 c bd i a1 p1 a2 p2 a3 p3 a4 p4 a5 p5 a6 p6 a7 p7 a8 p8 a9 p9 a10 p10 v5 v11 v29 v31 a a11 v48 v56 v58 v60 v62 v65 v68 v69 v70 v71 v82 v83 c0 X2 X3 k acc Y9 Y10)).mpr B9
  · refine (congrArg (fun L => Is32 a9 (a9.view.writes (Elt Ideal) Y9 L) _) (trip4_9 𝒱 c bd i a1 p1 a2 p2 a3 p3 a4 p4 a5 p5 a6 p6 a7 p7 a8 p8 a9 p9 a10 p10 v5 v11 v29 v31 a a11 v48 v56 v58 v60 v62 v65 v68 v69 v70 v71 v82 v83 c0 X2 X3 k acc Y9 Y10)).mpr ?_
    refine isR_wr32 (LB := []) S.k (isR_addTo (isR_rd32 S.k o8 (k0_off8_inb a k)) (A8.dk bfU rfl) (B8.dk bfU rfl)) o8 (k0_off8_inb a k) ?_ ?_
    · intro r c hr _
      rw [if_pos (by omega), if_neg (by omega), add_zero]; rfl
    · intro j c _ _ hj
      congr 1
      exact if_congr (by omega) rfl rfl
  · refine (congrArg (fun L => Is32 a10 (a10.view.writes (Elt Ideal) Y10 L) _) (trip4_10 𝒱 c bd i a1 p1 a2 p2 a3 p3 a4 p4 a5 p5 a6 p6 a7 p7 a8 p8 a9 p9 a10 p10 v5 v11 v29 v31 a a11 v48 v56 v58 v60 v62 v65 v68 v69 v70 v71 v82 v83 c0 X2 X3 k acc Y9 Y10)).mpr ?_
    refine isR_wr32 (LB := []) S.v (isR_addTo (isR_rd32 S.v o8 (k0_off8_inb a k)) (A8.dv bfU rfl) (B8.dv bfU rfl)) o8 (k0_off8_inb a k) ?_ ?_
    · intro r c hr _
      rw [if_pos (by omega), if_neg (by omega), add_zero]; rfl
    · intro j c _ _ hj
      congr 1
      exact if_congr (by omega) rfl rfl

include HA HB h5 h11 hK hV in
theorem st4_is (f9 f10 : ℕ → ℕ → ℝ) (acc : Acc Ideal) (Y9 : BufTy.Contents (Elt Ideal) a9.view.ty) (Y10 : BufTy.Contents (Elt Ideal) a10.view.ty)
    (S : StIs qa qb ga gb fk fv ha hb f9 f10 (512 * a.val) (1024 * (k0_t2_loop a).trips) acc Y9 Y10) :
    let T := st_k0_t4 (F := Ideal) 𝒱 c bd i a1 p1 a2 p2 a3 p3 a4 p4 a5 p5 a6 p6 a7 p7 a8 p8 a9 p9 a10 p10 v5 v11 v29 v31 a a11 v48 v56 v58 v60 v62 v65 v68 v69 v70 v71 v82 v83 c0 X2 X3 Y9 Y10 acc (k0_t4_loop a).trips
    StIs qa qb ga gb fk fv ha hb f9 f10 (512 * a.val) (512 * a.val) T.1 (a9.view.writes (Elt Ideal) Y9 T.2.1) (a10.view.writes (Elt Ideal) Y10 T.2.2) := by
  rw [trips2 a] at S
  have ht := trips4 a
  rcases Nat.mod_two_eq_zero_or_one a.val with h | h
  · rw [ht, h]
    rw [show 1024 * (a.val / 2) = 512 * a.val by omega] at S
    exact S
  · rw [show 1024 * (a.val / 2) = 512 * (a.val - 1) by omega] at S
    have hk : 0 < (k0_t4_loop a).trips := by rw [ht, h]; exact Nat.one_pos
    have e := st_k0_t4_succ (F := Ideal) 𝒱 c bd i a1 p1 a2 p2 a3 p3 a4 p4 a5 p5 a6 p6 a7 p7 a8 p8 a9 p9 a10 p10 v5 v11 v29 v31 a a11 v48 v56 v58 v60 v62 v65 v68 v69 v70 v71 v82 v83 c0 X2 X3 Y9 Y10 acc ⟨0, hk⟩
    rw [ht, h]
    intro T
    exact (congrArg (fun T => StIs (a9 := a9) (a10 := a10) qa qb ga gb fk fv ha hb f9 f10 (512 * a.val) (512 * a.val) T.1
      (a9.view.writes (Elt Ideal) Y9 T.2.1) (a10.view.writes (Elt Ideal) Y10 T.2.2)) e).mpr
      (by
        have R := trip4_is 𝒱 c bd i a1 p1 a2 p2 a3 p3 a4 p4 a5 p5 a6 p6 a7 p7 a8 p8 a9 p9 a10 p10 v5 v11 v29 v31 a a11 v48 v56 v58 v60 v62 v65 v68 v69 v70 v71 v82 v83 c0 X2 X3 HA HB h5 h11 hK hV f9 f10 ⟨0, hk⟩ acc Y9 Y10 S
        refine ⟨R.a, R.b, ?_, ?_⟩
        · exact (congrArg (fun L => Is32 a9 (a9.view.writes (Elt Ideal) Y9 L) _) (List.append_nil _)).mpr R.k
        · exact (congrArg (fun L => Is32 a10 (a10.view.writes (Elt Ideal) Y10 L) _) (List.append_nil _)).mpr R.v)

end

/-- The queries' gradient of one head. -/
def Dq (fq fg fk fv fh : ℕ → ℕ → ℝ) (i d : ℕ) : ℝ := ∑ j ∈ Finset.range 4096, dzR fq fk fg fv i j * fh j d

theorem Dq_eq {fq fg fk fv fh : ℕ → ℕ → ℝ} {i d n : ℕ} (hi : i ≤ n) (hn : n ≤ 4096) :
    ∑ j ∈ Finset.range n, dzR fq fk fg fv i j * fh j d = Dq fq fg fk fv fh i d := by
  obtain ⟨p, hp⟩ := Nat.exists_eq_add_of_le hn
  unfold Dq
  rw [hp, Finset.sum_range_add, Finset.sum_eq_zero (s := Finset.range p) (fun x _ => by rw [dzR_zero (by omega), zero_mul]), add_zero]

section
variable (𝒱 : Variants) (c : Dev nD) (bd : Option 𝒱.V) (i : grid0.Coords) (a1 : WB) (p1 : a1.IsWhole) (a2 : WB) (p2 : a2.IsWhole) (a3 : WB) (p3 : a3.IsWhole) (a4 : WB) (p4 : a4.IsWhole) (a5 : Memref sig .tc .vmem S1x2x4096x128 .f32) (p5 : a5.IsWhole) (a6 : WB) (p6 : a6.IsWhole) (a7 : WB) (p7 : a7.IsWhole) (a8 : WB) (p8 : a8.IsWhole) (a9 : WF) (p9 : a9.IsWhole) (a10 : WF) (p10 : a10.IsWhole)
variable (X1 : BufTy.Contents (Elt Ideal) a1.view.ty) (X2 : BufTy.Contents (Elt Ideal) a2.view.ty) (X3 : BufTy.Contents (Elt Ideal) a3.view.ty) (X4 : BufTy.Contents (Elt Ideal) a4.view.ty) (X5 : BufTy.Contents (Elt Ideal) a5.view.ty)
variable (a : Fin k0_t1_loop.trips)
variable {qa qb ga gb fk fv ha hb : ℕ → ℕ → ℝ} {q1 q2 g1 g2 : FVec Ideal (Mat 512 128) .bf16} {t1 t2 : FVec Ideal (Mat 512 1) .f32}
  (HA : HeadIs qa ga fk fv ha (512 * a.val) k0_pay339 q1 g1 t1) (HB : HeadIs qb gb fk fv hb (512 * a.val) k0_pay340 q2 g2 t2)
  (hK : Is16 a2 X2 fk) (hV : Is16 a3 X3 fv)

include HA HB hK hV in
theorem own_is (f9 f10 : ℕ → ℕ → ℝ) (acc : Acc Ideal) (Y9 : BufTy.Contents (Elt Ideal) a9.view.ty) (Y10 : BufTy.Contents (Elt Ideal) a10.view.ty)
    (L9 L10 : List (View.Piece (Elt Ideal) S4096x128 .f32))
    (S : StIs qa qb ga gb fk fv ha hb f9 f10 (512 * a.val) (512 * a.val) acc (a9.view.writes (Elt Ideal) Y9 L9) (a10.view.writes (Elt Ideal) Y10 L10)) :
    IsR (M := 512) (N := 128) (endQ a2 a3 X2 X3 a q1 q2 g1 g2 t1 t2 acc)
        (fun r d => (Dq qa ga fk fv ha (512 * a.val + r) d + Dq qb gb fk fv hb (512 * a.val + r) d) * 0.125) ∧
      Is32 a9 (end9 a2 a3 a9 X2 X3 a q1 q2 g1 g2 t1 t2 acc Y9 L9) (fun j d => f9 j d + (Dk qa ga fk fv (512 * a.val) j d + Dk qb gb fk fv (512 * a.val) j d)) ∧
      Is32 a10 (end10 a2 a3 a10 X2 X3 a q1 q2 g1 g2 t1 t2 acc Y10 L10) (fun j d => f10 j d + (Dv qa ga fk (512 * a.val) j d + Dv qb gb fk (512 * a.val) j d)) := by
  have ha' : a.val < 8 := lt_of_lt_of_eq a.isLt trips1
  have o10 := off10_eq a
  have o11 := off11_eq a
  have K10 := isR_rd16 (M := 256) hK o10 (k0_off10_inb a)
  have K11 := isR_rd16 (M := 256) hK o11 (k0_off11_inb a)
  have V10 := isR_rd16 (M := 256) hV o10 (k0_off10_inb a)
  have V11 := isR_rd16 (M := 256) hV o11 (k0_off11_inb a)
  have A0 := HA.blockM (by omega) K10 V10 S.a
  have B0 := HB.blockM (by omega) K10 V10 S.b
  have A1 := HA.blockS (by omega) K11 V11 (A0.hd bfM rfl).low
  have B1 := HB.blockS (by omega) K11 V11 (B0.hd bfM rfl).low
  refine ⟨?_, ?_, ?_⟩
  · refine IsR.congr (isR_mul (isR_cat0 (isR_add (isR_slice (φ := .f32) 0 0 (A0.hd bfM rfl).dq slices_S512x128_o0_0_S256x128)
      (isR_slice (φ := .f32) 0 0 (B0.hd bfM rfl).dq slices_S512x128_o0_0_S256x128))
      (isR_add (A1.hd bfS rfl).dq (B1.hd bfS rfl).dq) concatenates_S256x128_S256x128_S512x128_d0 rfl) (isR_bc eighth32)) fun r d hr _ => ?_
    congr 1
    by_cases h : r < 256
    · rw [if_pos h]
      simp only [Nat.zero_add]
      rw [Dq_eq (by omega) (by omega), Dq_eq (by omega) (by omega)]
    · rw [if_neg h, show 512 * a.val + 256 + (r - 256) = 512 * a.val + r by omega]
      rw [Dq_eq (by omega) (by omega), Dq_eq (by omega) (by omega)]
  · have R9 : Is32 a9 (a9.view.writes (Elt Ideal) Y9 (mid9 a2 a3 a9 X2 X3 a q1 q2 g1 g2 t1 t2 acc Y9 L9)) (fun j d => f9 j d + if j < 512 * a.val + 256 then Dk qa ga fk fv (512 * a.val) j d + Dk qb gb fk fv (512 * a.val) j d else 0) := by
      refine isR_wr32 S.k (isR_addTo (isR_rd32 S.k o10 (k0_off10_inb a)) (A0.dk bfM rfl) (B0.dk bfM rfl)) o10 (k0_off10_inb a) ?_ ?_
      · intro r c hr _
        rw [if_pos (by omega), if_neg (by omega), add_zero]; rfl
      · intro j c _ _ hj
        congr 1
        exact if_congr (by omega) rfl rfl
    refine isR_wr32 R9 (isR_addTo (isR_rd32 R9 o11 (k0_off11_inb a)) (A1.dk bfS rfl) (B1.dk bfS rfl)) o11 (k0_off11_inb a) ?_ ?_
    · intro r c hr _
      rw [if_neg (by omega), add_zero]
      refine congrArg _ (congrArg₂ (· + ·) ?_ ?_)
      · exact (half_sum (fun i => dzR qa fk ga fv i (512 * a.val + 256 + r) * qa i c) _ _ (fun i hi => by rw [dzR_zero hi, zero_mul]) (by omega)).symm
      · exact (half_sum (fun i => dzR qb fk gb fv i (512 * a.val + 256 + r) * qb i c) _ _ (fun i hi => by rw [dzR_zero hi, zero_mul]) (by omega)).symm
    · intro j c _ _ hj
      by_cases h : j < 512 * a.val + 256
      · rw [if_pos h]
      · rw [if_neg h]
        refine congrArg _ ?_
        unfold Dk
        rw [Finset.sum_eq_zero fun x hx => ?_, Finset.sum_eq_zero fun x hx => ?_, add_zero]
        · rw [dzR_zero (by have := Finset.mem_range.1 hx; omega), zero_mul]
        · rw [dzR_zero (by have := Finset.mem_range.1 hx; omega), zero_mul]
  · have R10 : Is32 a10 (a10.view.writes (Elt Ideal) Y10 (mid10 a2 a10 X2 a q1 q2 g1 g2 t1 t2 acc Y10 L10)) (fun j d => f10 j d + if j < 512 * a.val + 256 then Dv qa ga fk (512 * a.val) j d + Dv qb gb fk (512 * a.val) j d else 0) := by
      refine isR_wr32 S.v (isR_addTo (isR_rd32 S.v o10 (k0_off10_inb a)) (A0.dv bfM rfl) (B0.dv bfM rfl)) o10 (k0_off10_inb a) ?_ ?_
      · intro r c hr _
        rw [if_pos (by omega), if_neg (by omega), add_zero]; rfl
      · intro j c _ _ hj
        congr 1
        exact if_congr (by omega) rfl rfl
    refine isR_wr32 R10 (isR_addTo (isR_rd32 R10 o11 (k0_off11_inb a)) (A1.dv bfS rfl) (B1.dv bfS rfl)) o11 (k0_off11_inb a) ?_ ?_
    · intro r c hr _
      rw [if_neg (by omega), add_zero]
      refine congrArg _ (congrArg₂ (· + ·) ?_ ?_)
      · exact (half_sum (fun i => wR qa fk i (512 * a.val + 256 + r) * ga i c) _ _ (fun i hi => by rw [wR_zero hi, zero_mul]) (by omega)).symm
      · exact (half_sum (fun i => wR qb fk i (512 * a.val + 256 + r) * gb i c) _ _ (fun i hi => by rw [wR_zero hi, zero_mul]) (by omega)).symm
    · intro j c _ _ hj
      by_cases h : j < 512 * a.val + 256
      · rw [if_pos h]
      · rw [if_neg h]
        refine congrArg _ ?_
        unfold Dv
        rw [Finset.sum_eq_zero fun x hx => ?_, Finset.sum_eq_zero fun x hx => ?_, add_zero]
        · rw [wR_zero (by have := Finset.mem_range.1 hx; omega), zero_mul]
        · rw [wR_zero (by have := Finset.mem_range.1 hx; omega), zero_mul]

end

end Cert.Hand.Sb
-- ==== Proof.SbVal.lean ====
module

public import proofs.«01_k».proof.Proof.SbQ
import all proofs.«01_k».proof.Proof.SbTrip

/-!
What a grid point of the stick-breaking kernel leaves in its three results, as sums of reals.
-/

@[expose] public section

set_option maxRecDepth 8192

noncomputable section

namespace Cert.Hand.Sb

open Cert.StickBwdIdeal Cert.StickBwdIdeal.Gen
open Idealize.ShloMosaic Idealize.ShloMosaic.TcCoe
open Idealize.SL Idealize.SL.Sem

/-- The lanes of the first head, -/
def lanA (f : ℕ → ℕ → ℝ) (r d : ℕ) : ℝ := if d < 64 then f r d else 0
/-- and of the second. -/
def lanB (f : ℕ → ℕ → ℝ) (r d : ℕ) : ℝ := if 64 ≤ d then f r d else 0

theorem eighth16 : (Scalar.ofBits .bf16 0x3E00#16 : Ideal .bf16) = ((0.125 : ℝ) : EReal) := by
  show Ideal.ofBits .bf16 0x3E00#16 = _
  simp [Ideal.ofBits, Ideal.ieee]
  rw [← EReal.coe_mul]
  norm_num

theorem isR_pickA {x : FVec Ideal (Mat 512 128) .bf16} {f : ℕ → ℕ → ℝ} (h : IsR x f) : IsR (pick k0_pay339 x) (lanA f) :=
  isR_select (p := fun _ d => d < 64) laneA_at h (isR_bc zero16)

theorem isR_pickB {x : FVec Ideal (Mat 512 128) .bf16} {f : ℕ → ℕ → ℝ} (h : IsR x f) : IsR (pick k0_pay340 x) (lanB f) :=
  isR_select (p := fun _ d => 64 ≤ d) laneB_at h (isR_bc zero16)

theorem isR_halfA {x : FVec Ideal (Mat 256 128) .bf16} {f : ℕ → ℕ → ℝ} (h : IsR x f) : IsR (pick (half k0_pay339) x) (lanA f) :=
  isR_select (p := fun _ d => d < 64) (fun r c => (slice0_at 0 k0_pay339 slices_S512x128_o0_0_S256x128 r c (by omega) c.isLt).trans (laneA_at _ _)) h (isR_bc zero16)

theorem isR_halfB {x : FVec Ideal (Mat 256 128) .bf16} {f : ℕ → ℕ → ℝ} (h : IsR x f) : IsR (pick (half k0_pay340) x) (lanB f) :=
  isR_select (p := fun _ d => 64 ≤ d) (fun r c => (slice0_at 0 k0_pay340 slices_S512x128_o0_0_S256x128 r c (by omega) c.isLt).trans (laneB_at _ _)) h (isR_bc zero16)

/-- The column a block reads of a head's totals. -/
theorem isR_tot {A : Memref sig .tc .vmem S1x2x4096x128 .f32} {X : BufTy.Contents (Elt Ideal) A.view.ty} {h : Fin 2} {F : ℕ → ℝ}
    (hT : ∀ i : Fin 4096, (A.view.read (Elt Ideal) X (ix4 (0 : Fin 1) h i (0 : Fin 128)) : EReal) = ((F i.val : ℝ) : EReal))
    {off : Fin 4 → ℕ} {o : ℕ} (hoff : off = ![0, h.val, o, 0]) (inb : ∀ a : Fin 4, off a + S1x1x512x1.size a ≤ S1x2x4096x128.size a) :
    IsR (M := 512) (N := 1) (shapeCast S512x1 (View.readAt (Elt Ideal) A.view (Rect.unit (s := S1x2x4096x128) off S1x1x512x1.size inb).toLoadRect X)
      shapeCasts_S1x1x512x1_S512x1) (fun r _ => F (o + r)) := by
  subst hoff
  intro r c
  have hb : o + 512 ≤ 4096 := inb 2
  have hc : c = 0 := Subsingleton.elim _ _
  subst hc
  have hrm : (S1x1x512x1.rowMajor (ix4 (0 : Fin 1) (0 : Fin 1) r (0 : Fin 1))).val = (S512x1.rowMajor (ix2 r (0 : Fin 1))).val := by
    rw [rowMajor_val2 _ 1 rfl, rowMajor_val4 _ 512 512 1 rfl rfl rfl]
    show 0 * 512 + 0 * 512 + r.val * 1 + 0 = r.val * 1 + 0
    omega
  have e1 : shapeCast S512x1 (View.readAt (Elt Ideal) A.view (Rect.unit (s := S1x2x4096x128) ![0, h.val, o, 0] S1x1x512x1.size inb).toLoadRect X)
      shapeCasts_S1x1x512x1_S512x1 (ix2 r 0) =
      View.readAt (Elt Ideal) A.view (Rect.unit (s := S1x2x4096x128) ![0, h.val, o, 0] S1x1x512x1.size inb).toLoadRect X (ix4 (0 : Fin 1) (0 : Fin 1) r (0 : Fin 1)) :=
    shapeCast_apply _ _ _ _ hrm
  refine e1.trans ?_
  refine Eq.trans ?_ (hT ⟨o + r.val, by omega⟩)
  refine congrArg (A.view.read (Elt Ideal) X) ?_
  funext b
  apply Fin.ext
  match b with
  | ⟨0, _⟩ => rfl
  | ⟨1, _⟩ => exact (congrArg (h.val + ·) (Nat.one_mul _)).trans (Nat.add_zero _)
  | ⟨2, _⟩ => exact congrArg (o + ·) (Nat.one_mul _)
  | ⟨3, _⟩ => rfl

section
variable (𝒱 : Variants) (c : Dev nD) (bd : Option 𝒱.V) (i : grid0.Coords) (a1 : WB) (p1 : a1.IsWhole) (a2 : WB) (p2 : a2.IsWhole) (a3 : WB) (p3 : a3.IsWhole) (a4 : WB) (p4 : a4.IsWhole) (a5 : Memref sig .tc .vmem S1x2x4096x128 .f32) (p5 : a5.IsWhole) (a6 : WB) (p6 : a6.IsWhole) (a7 : WB) (p7 : a7.IsWhole) (a8 : WB) (p8 : a8.IsWhole) (a9 : WF) (p9 : a9.IsWhole) (a10 : WF) (p10 : a10.IsWhole)
variable (v5 v11 : FVec Ideal S256x256 .bf16) (v29 v31 : IVec S512x128 1) (a : Fin k0_t1_loop.trips) (a11 v48 : BitVec 32) (v56 v58 : FVec Ideal S512x128 .bf16) (v60 v62 : Vec Ideal S512x128 .bf16) (v65 v68 v69 : FVec Ideal S512x1 .f32) (v70 : FVec Ideal S512x128 .f32) (v71 : BitVec 32) (v82 : BitVec 1) (v83 c0 : BitVec 32)
variable (X2 : BufTy.Contents (Elt Ideal) a2.view.ty) (X3 : BufTy.Contents (Elt Ideal) a3.view.ty)
variable (v109 : BitVec 32)

theorem st5_is {qa qb ga gb fk fv ha hb f9 f10 : ℕ → ℕ → ℝ} {q0 : ℕ} (Y9 : BufTy.Contents (Elt Ideal) a9.view.ty) (Y10 : BufTy.Contents (Elt Ideal) a10.view.ty)
    (L9 L10 : List (View.Piece (Elt Ideal) S4096x128 .f32)) (acc : Acc Ideal) (n : ℕ) (hn : n = 0)
    (S : StIs qa qb ga gb fk fv ha hb f9 f10 q0 q0 acc (a9.view.writes (Elt Ideal) Y9 L9) (a10.view.writes (Elt Ideal) Y10 L10)) :
    let T := st_k0_t5 (F := Ideal) 𝒱 c bd i a1 p1 a2 p2 a3 p3 a4 p4 a5 p5 a6 p6 a7 p7 a8 p8 a9 p9 a10 p10 v5 v11 v29 v31 a a11 v48 v56 v58 v60 v62 v65 v68 v69 v70 v71 v82 v83 c0 v109 X2 X3 (a9.view.writes (Elt Ideal) Y9 L9) (a10.view.writes (Elt Ideal) Y10 L10) acc n
    StIs qa qb ga gb fk fv ha hb f9 f10 q0 q0 T.1 (a9.view.writes (Elt Ideal) Y9 (T.2.1 ++ L9)) (a10.view.writes (Elt Ideal) Y10 (T.2.2 ++ L10)) := by
  subst hn
  exact S

end

section
variable (𝒱 : Variants) (c : Dev nD) (bd : Option 𝒱.V) (i : grid0.Coords) (a1 : WB) (p1 : a1.IsWhole) (a2 : WB) (p2 : a2.IsWhole) (a3 : WB) (p3 : a3.IsWhole) (a4 : WB) (p4 : a4.IsWhole) (a5 : Memref sig .tc .vmem S1x2x4096x128 .f32) (p5 : a5.IsWhole) (a6 : WB) (p6 : a6.IsWhole) (a7 : WB) (p7 : a7.IsWhole) (a8 : WB) (p8 : a8.IsWhole) (a9 : WF) (p9 : a9.IsWhole) (a10 : WF) (p10 : a10.IsWhole)
variable (X1 : BufTy.Contents (Elt Ideal) a1.view.ty) (X2 : BufTy.Contents (Elt Ideal) a2.view.ty) (X3 : BufTy.Contents (Elt Ideal) a3.view.ty) (X4 : BufTy.Contents (Elt Ideal) a4.view.ty) (X5 : BufTy.Contents (Elt Ideal) a5.view.ty)
variable (a : Fin k0_t1_loop.trips)

/-- What the five buffers a grid point reads hold. -/
structure InIs (fQ fk fv fG : ℕ → ℕ → ℝ) : Prop where
  hQ : Is16 a1 X1 fQ
  hK : Is16 a2 X2 fk
  hV : Is16 a3 X3 fv
  hG : Is16 a4 X4 fG
  hA : ∀ i : Fin 4096, (a5.view.read (Elt Ideal) X5 (ix4 (0 : Fin 1) (0 : Fin 2) i (0 : Fin 128)) : EReal) =
    ((∑ j ∈ Finset.range 4096, LR (lanA fun i d => fQ i d * 0.125) fk i.val j : ℝ) : EReal)
  hB : ∀ i : Fin 4096, (a5.view.read (Elt Ideal) X5 (ix4 (0 : Fin 1) (1 : Fin 2) i (0 : Fin 128)) : EReal) =
    ((∑ j ∈ Finset.range 4096, LR (lanB fun i d => fQ i d * 0.125) fk i.val j : ℝ) : EReal)

variable {fQ fk fv fG : ℕ → ℕ → ℝ} (H : InIs a1 a2 a3 a4 a5 X1 X2 X3 X4 X5 fQ fk fv fG)

/-- The keys' gradient a block of rows gives, both heads together, -/
def DK (fQ fk fv fG : ℕ → ℕ → ℝ) (q0 j d : ℕ) : ℝ :=
  Dk (lanA fun i d => fQ i d * 0.125) (lanA fG) fk fv q0 j d + Dk (lanB fun i d => fQ i d * 0.125) (lanB fG) fk fv q0 j d
/-- the values' gradient, -/
def DV (fQ fk fG : ℕ → ℕ → ℝ) (q0 j d : ℕ) : ℝ :=
  Dv (lanA fun i d => fQ i d * 0.125) (lanA fG) fk q0 j d + Dv (lanB fun i d => fQ i d * 0.125) (lanB fG) fk q0 j d
/-- and the queries' gradient. -/
def DQ (fQ fk fv fG : ℕ → ℕ → ℝ) (i d : ℕ) : ℝ :=
  (Dq (lanA fun i d => fQ i d * 0.125) (lanA fG) fk fv (lanA fk) i d + Dq (lanB fun i d => fQ i d * 0.125) (lanB fG) fk fv (lanB fk) i d) * 0.125

include H in
theorem headA : HeadIs (lanA fun i d => fQ i d * 0.125) (lanA fG) fk fv (lanA fk) (512 * a.val) k0_pay339 (trip1.sl.r a1 X1 a) (trip1.sl.r_2 a4 X4 a) (trip1.sl.r_4 a5 X5 a) where
  hm := fun o x hx => isR_pickA hx
  hm' := fun o x hx => isR_halfA hx
  hq := isR_pickA (isR_mul (φ := .bf16) (isR_rd16 (M := 512) H.hQ (off1_eq a) (k0_off1_inb a)) (isR_bc eighth16))
  hg := isR_pickA (isR_rd16 (M := 512) H.hG (off1_eq a) (k0_off1_inb a))
  htot := isR_tot (h := 0) (F := fun i => ∑ j ∈ Finset.range 4096, LR (lanA fun i d => fQ i d * 0.125) fk i j) H.hA (off2_eq a) (k0_off2_inb a)

include H in
theorem headB : HeadIs (lanB fun i d => fQ i d * 0.125) (lanB fG) fk fv (lanB fk) (512 * a.val) k0_pay340 (trip1.sl.r_1 a1 X1 a) (trip1.sl.r_3 a4 X4 a) (trip1.sl.r_5 a5 X5 a) where
  hm := fun o x hx => isR_pickB hx
  hm' := fun o x hx => isR_halfB hx
  hq := isR_pickB (isR_mul (φ := .bf16) (isR_rd16 (M := 512) H.hQ (off1_eq a) (k0_off1_inb a)) (isR_bc eighth16))
  hg := isR_pickB (isR_rd16 (M := 512) H.hG (off1_eq a) (k0_off1_inb a))
  htot := isR_tot (h := 1) (F := fun i => ∑ j ∈ Finset.range 4096, LR (lanB fun i d => fQ i d * 0.125) fk i j) H.hB (off3_eq a) (k0_off3_inb a)

theorem start_is (fq fg fk fv fh : ℕ → ℕ → ℝ) (q0 : ℕ) : HdIs fq fg fk fv fh q0 0 ((k0_pay236 (F := Ideal), k0_pay236 (F := Ideal), k0_pay237 (F := Ideal)) : Hd 512) where
  cl := (isR_bc (M := 512) (N := 1) zero_bits).congr fun r c _ _ => by simp
  cd := (isR_bc (M := 512) (N := 1) zero_bits).congr fun r c _ _ => by simp
  dq := (isR_bc (M := 512) (N := 128) zero_bits).congr fun r c _ _ => by simp

include H in
theorem trip1_is (f9 f10 : ℕ → ℕ → ℝ) (Y9 : BufTy.Contents (Elt Ideal) a9.view.ty) (Y10 : BufTy.Contents (Elt Ideal) a10.view.ty)
    (h9 : Is32 a9 Y9 f9) (h10 : Is32 a10 Y10 f10) :
    let T := trip1 (F := Ideal) 𝒱 c bd i a1 p1 a2 p2 a3 p3 a4 p4 a5 p5 a6 p6 a7 p7 a8 p8 a9 p9 a10 p10 X1 X2 X3 X4 X5 a
    (∃ w : (Mat 512 128).Idx → EReal, T.1 Y9 Y10 = [⟨Rect.unit (s := S4096x128) (k0_off1 a) S512x128.size (k0_off1_inb a), w⟩] ∧
        IsR w (fun r d => DQ fQ fk fv fG (512 * a.val + r) d)) ∧
      Is32 a9 (T.2.1 Y9 Y10) (fun j d => f9 j d + DK fQ fk fv fG (512 * a.val) j d) ∧
      Is32 a10 (T.2.2.1 Y9 Y10) (fun j d => f10 j d + DV fQ fk fG (512 * a.val) j d) := by
  intro T
  obtain ⟨a11, v48, v71, v82, v83, c0, v109, e1, e9, e10⟩ := trip1_eq 𝒱 c bd i a1 p1 a2 p2 a3 p3 a4 p4 a5 p5 a6 p6 a7 p7 a8 p8 a9 p9 a10 p10 X1 X2 X3 X4 X5 a Y9 Y10
  have HA := headA _ _ _ _ _ _ _ _ _ _ a H
  have HB := headB _ _ _ _ _ _ _ _ _ _ a H
  have S2 := st2_is 𝒱 c bd i a1 p1 a2 p2 a3 p3 a4 p4 a5 p5 a6 p6 a7 p7 a8 p8 a9 p9 a10 p10 k0_pay334 k0_pay335 k0_pay339 k0_pay340 a a11 v48 (trip1.sl.r a1 X1 a) (trip1.sl.r_1 a1 X1 a) (trip1.sl.r_2 a4 X4 a) (trip1.sl.r_3 a4 X4 a) (trip1.sl.r_4 a5 X5 a) (trip1.sl.r_5 a5 X5 a) k0_pay236 k0_pay237 v71 v82 v83 c0 X2 X3
    HA HB tri334 tri335 H.hK H.hV f9 f10 (k0_pay236, k0_pay236, k0_pay237, k0_pay236, k0_pay236, k0_pay237) Y9 Y10
    ⟨start_is _ _ _ _ _ _, start_is _ _ _ _ _ _, h9.congr fun j d _ _ => by rw [if_neg (Nat.not_lt_zero _), add_zero],
      h10.congr fun j d _ _ => by rw [if_neg (Nat.not_lt_zero _), add_zero]⟩ _ le_rfl
  have S4 := st4_is 𝒱 c bd i a1 p1 a2 p2 a3 p3 a4 p4 a5 p5 a6 p6 a7 p7 a8 p8 a9 p9 a10 p10 k0_pay334 k0_pay335 k0_pay339 k0_pay340 a a11 v48 (trip1.sl.r a1 X1 a) (trip1.sl.r_1 a1 X1 a) (trip1.sl.r_2 a4 X4 a) (trip1.sl.r_3 a4 X4 a) (trip1.sl.r_4 a5 X5 a) (trip1.sl.r_5 a5 X5 a) k0_pay236 k0_pay237 v71 v82 v83 c0 X2 X3
    HA HB tri334 tri335 H.hK H.hV f9 f10 _ _ _ S2
  have S5 := st5_is 𝒱 c bd i a1 p1 a2 p2 a3 p3 a4 p4 a5 p5 a6 p6 a7 p7 a8 p8 a9 p9 a10 p10 k0_pay334 k0_pay335 k0_pay339 k0_pay340 a a11 v48 (trip1.sl.r a1 X1 a) (trip1.sl.r_1 a1 X1 a) (trip1.sl.r_2 a4 X4 a) (trip1.sl.r_3 a4 X4 a) (trip1.sl.r_4 a5 X5 a) (trip1.sl.r_5 a5 X5 a) k0_pay236 k0_pay237 v71 v82 v83 c0 X2 X3 v109
    _ _ _ _ _ _ (trips5 a) S4
  have O := own_is a2 a3 a9 a10 X2 X3 a HA HB H.hK H.hV f9 f10 _ _ _ _ _ S5
  obtain ⟨O1, O2, O3⟩ := O
  clear S5 S4 S2
  have w9 := (congrArg (fun Y => Is32 a9 Y fun j d => f9 j d + DK fQ fk fv fG (512 * a.val) j d) e9).mpr O2
  have w10 := (congrArg (fun Y => Is32 a10 Y fun j d => f10 j d + DV fQ fk fG (512 * a.val) j d) e10).mpr O3
  exact ⟨⟨_, e1, O1⟩, w9, w10⟩

end

end Cert.Hand.Sb
-- ==== Proof.SbOut.lean ====
module

public import proofs.«01_k».proof.Proof.SbVal
import all proofs.«01_k».proof.Proof.SbRun

/-!
The three results of a grid point of the stick-breaking kernel.
-/

@[expose] public section

set_option maxRecDepth 8192

noncomputable section

namespace Cert.Hand.Sb

open Cert.StickBwdIdeal Cert.StickBwdIdeal.Gen
open Idealize.ShloMosaic Idealize.ShloMosaic.TcCoe
open Idealize.SL Idealize.SL.Sem

theorem block_sum (F : ℕ → ℝ) (n : ℕ) : ∑ a ∈ Finset.range n, ∑ r ∈ Finset.range 512, F (512 * a + r) = ∑ i ∈ Finset.range (512 * n), F i := by
  induction n with
  | zero => rfl
  | succ n ih => rw [Finset.sum_range_succ, ih, Nat.mul_succ, Finset.sum_range_add]

/-- The keys' gradient of all rows, -/
def TK (fQ fk fv fG : ℕ → ℕ → ℝ) (j d : ℕ) : ℝ :=
  (∑ i ∈ Finset.range 4096, dzR (lanA fun i d => fQ i d * 0.125) fk (lanA fG) fv i j * lanA (fun i d => fQ i d * 0.125) i d) +
  ∑ i ∈ Finset.range 4096, dzR (lanB fun i d => fQ i d * 0.125) fk (lanB fG) fv i j * lanB (fun i d => fQ i d * 0.125) i d
/-- and the values'. -/
def TV (fQ fk fG : ℕ → ℕ → ℝ) (j d : ℕ) : ℝ :=
  (∑ i ∈ Finset.range 4096, wR (lanA fun i d => fQ i d * 0.125) fk i j * lanA fG i d) +
  ∑ i ∈ Finset.range 4096, wR (lanB fun i d => fQ i d * 0.125) fk i j * lanB fG i d

theorem sumK (fQ fk fv fG : ℕ → ℕ → ℝ) (j d : ℕ) : ∑ a ∈ Finset.range 8, DK fQ fk fv fG (512 * a) j d = TK fQ fk fv fG j d := by
  unfold DK Dk TK
  rw [Finset.sum_add_distrib, block_sum (fun i => dzR (lanA fun i d => fQ i d * 0.125) fk (lanA fG) fv i j * lanA (fun i d => fQ i d * 0.125) i d),
    block_sum (fun i => dzR (lanB fun i d => fQ i d * 0.125) fk (lanB fG) fv i j * lanB (fun i d => fQ i d * 0.125) i d)]

theorem sumV (fQ fk fG : ℕ → ℕ → ℝ) (j d : ℕ) : ∑ a ∈ Finset.range 8, DV fQ fk fG (512 * a) j d = TV fQ fk fG j d := by
  unfold DV Dv TV
  rw [Finset.sum_add_distrib, block_sum (fun i => wR (lanA fun i d => fQ i d * 0.125) fk i j * lanA fG i d),
    block_sum (fun i => wR (lanB fun i d => fQ i d * 0.125) fk i j * lanB fG i d)]

/-- A block of rows written after the rows before it. -/
theorem piece_step {A : WB} {Z : BufTy.Contents (Elt Ideal) A.view.ty} {F : ℕ → ℕ → ℝ} (a : Fin k0_t1_loop.trips)
    {P L : List (View.Piece (Elt Ideal) S4096x128 .bf16)} {w : (Mat 512 128).Idx → EReal}
    (hP : P = [⟨Rect.unit (s := S4096x128) (k0_off1 a) S512x128.size (k0_off1_inb a), w⟩]) (hw : IsR w (fun r d => F (512 * a.val + r) d))
    (old : ∀ (j : Fin 4096) (d : Fin 128), j.val < 512 * a.val → (A.view.read (Elt Ideal) (A.view.writes (Elt Ideal) Z L) (ix2 j d) : EReal) = ((F j.val d.val : ℝ) : EReal))
    (j : Fin 4096) (d : Fin 128) (hj : j.val < 512 * (a.val + 1)) :
    (A.view.read (Elt Ideal) (A.view.writes (Elt Ideal) Z (P ++ L)) (ix2 j d) : EReal) = ((F j.val d.val : ℝ) : EReal) := by
  subst hP
  rw [List.singleton_append]
  by_cases h : j.val < 512 * a.val
  · exact (write_rows_out (M := 512) (A := A) (X := Z) (L := L) (off1_eq a) (k0_off1_inb a) w j d (Or.inl h)).trans (old j d h)
  · have h1 : 512 * a.val ≤ j.val := by omega
    have h2 : j.val - 512 * a.val < 512 := by omega
    refine (write_rows_in (M := 512) (A := A) (X := Z) (L := L) (off1_eq a) (k0_off1_inb a) w j d h1 h2).trans ((hw ⟨j.val - 512 * a.val, h2⟩ d).trans ?_)
    show ((F (512 * a.val + (j.val - 512 * a.val)) d.val : ℝ) : EReal) = _
    rw [Nat.add_sub_cancel' h1]

section
variable (𝒱 : Variants) (c : Dev nD) (bd : Option 𝒱.V) (i : grid0.Coords) (a1 : WB) (p1 : a1.IsWhole) (a2 : WB) (p2 : a2.IsWhole) (a3 : WB) (p3 : a3.IsWhole) (a4 : WB) (p4 : a4.IsWhole) (a5 : Memref sig .tc .vmem S1x2x4096x128 .f32) (p5 : a5.IsWhole) (a6 : WB) (p6 : a6.IsWhole) (a7 : WB) (p7 : a7.IsWhole) (a8 : WB) (p8 : a8.IsWhole) (a9 : Memref sig .tc .vmem S4096x128 .f32) (p9 : a9.IsWhole) (a10 : Memref sig .tc .vmem S4096x128 .f32) (p10 : a10.IsWhole)
variable (x1 : Vec Ideal S4096x128 .bf16) (x2 : Vec Ideal S4096x128 .bf16) (x3 : Vec Ideal S4096x128 .bf16) (x4 : Vec Ideal S4096x128 .bf16) (x5 : Vec Ideal S1x2x4096x128 .f32)
variable {fQ fk fv fG : ℕ → ℕ → ℝ} (H : InIs a1 a2 a3 a4 a5 (p1.unread x1) (p2.unread x2) (p3.unread x3) (p4.unread x4) (p5.unread x5) fQ fk fv fG)

include H in
theorem st1_is (g9 : BufTy.Contents (Elt Ideal) a9.view.ty) (g10 : BufTy.Contents (Elt Ideal) a10.view.ty)
    (h9 : Is32 a9 g9 (fun _ _ => 0)) (h10 : Is32 a10 g10 (fun _ _ => 0)) (n : ℕ) (hn : n ≤ k0_t1_loop.trips) :
    (∀ (Z : BufTy.Contents (Elt Ideal) a6.view.ty) (j : Fin 4096) (d : Fin 128), j.val < 512 * n →
        (a6.view.read (Elt Ideal) (a6.view.writes (Elt Ideal) Z (st1 (F := Ideal) 𝒱 c bd i a1 p1 a2 p2 a3 p3 a4 p4 a5 p5 a6 p6 a7 p7 a8 p8 a9 p9 a10 p10 x1 x2 x3 x4 x5 g9 g10 n).1) (ix2 j d) : EReal) = ((DQ fQ fk fv fG j.val d.val : ℝ) : EReal)) ∧
      Is32 a9 (st1 (F := Ideal) 𝒱 c bd i a1 p1 a2 p2 a3 p3 a4 p4 a5 p5 a6 p6 a7 p7 a8 p8 a9 p9 a10 p10 x1 x2 x3 x4 x5 g9 g10 n).2.1 (fun j d => ∑ a ∈ Finset.range n, DK fQ fk fv fG (512 * a) j d) ∧
      Is32 a10 (st1 (F := Ideal) 𝒱 c bd i a1 p1 a2 p2 a3 p3 a4 p4 a5 p5 a6 p6 a7 p7 a8 p8 a9 p9 a10 p10 x1 x2 x3 x4 x5 g9 g10 n).2.2 (fun j d => ∑ a ∈ Finset.range n, DV fQ fk fG (512 * a) j d) := by
  induction n with
  | zero => exact ⟨fun Z j d h => absurd h (Nat.not_lt_zero _), h9, h10⟩
  | succ n ih =>
    obtain ⟨i1, i2, i3⟩ := ih (by omega)
    obtain ⟨⟨w, hw, hw'⟩, t2, t3⟩ := trip1_is 𝒱 c bd i a1 p1 a2 p2 a3 p3 a4 p4 a5 p5 a6 p6 a7 p7 a8 p8 a9 p9 a10 p10 (p1.unread x1) (p2.unread x2) (p3.unread x3) (p4.unread x4) (p5.unread x5) ⟨n, hn⟩ H _ _ _ _ i2 i3
    rw [st1_succ (F := Ideal) 𝒱 c bd i a1 p1 a2 p2 a3 p3 a4 p4 a5 p5 a6 p6 a7 p7 a8 p8 a9 p9 a10 p10 x1 x2 x3 x4 x5 g9 g10 ⟨n, hn⟩]
    refine ⟨fun Z => piece_step ⟨n, hn⟩ hw hw' (i1 Z), ?_, ?_⟩
    · exact t2.congr fun j d _ _ => (Finset.sum_range_succ _ _).symm
    · exact t3.congr fun j d _ _ => (Finset.sum_range_succ _ _).symm

theorem zero9 : Is32 a9 (p9.unread (k0_pay341 (F := Ideal))) (fun _ _ => 0) := by
  intro j d
  rw [p9.read_unread]
  unfold k0_pay341
  rw [shapeCast_id]
  exact zero_bits

theorem zero10 : Is32 a10 (p10.unread (k0_pay342 (F := Ideal))) (fun _ _ => 0) := by
  intro j d
  rw [p10.read_unread]
  unfold k0_pay342
  rw [shapeCast_id]
  exact zero_bits

include H in
theorem outQ_is : IsR (M := 4096) (N := 128) (outQ (F := Ideal) 𝒱 c bd i a1 p1 a2 p2 a3 p3 a4 p4 a5 p5 a6 p6 a7 p7 a8 p8 a9 p9 a10 p10 x1 x2 x3 x4 x5) (DQ fQ fk fv fG) := by
  intro j d
  have h := (st1_is 𝒱 c bd i a1 p1 a2 p2 a3 p3 a4 p4 a5 p5 a6 p6 a7 p7 a8 p8 a9 p9 a10 p10 x1 x2 x3 x4 x5 H _ _ (zero9 a9 p9) (zero10 a10 p10) k0_t1_loop.trips le_rfl).1
    (p6.unread (fun _ => (0 : EReal))) j d (by rw [trips1]; omega)
  exact (congrFun (View.read_writes_eq_canon a6.view (p6.unread (fun _ => (0 : EReal))) _ (coverQ (F := Ideal) 𝒱 c bd i a1 p1 a2 p2 a3 p3 a4 p4 a5 p5 a6 p6 a7 p7 a8 p8 a9 p9 a10 p10 x1 x2 x3 x4 x5 (p9.unread (k0_pay341 (F := Ideal))) (p10.unread (k0_pay342 (F := Ideal))))) (ix2 j d)).symm.trans h

include H in
theorem outK_is : IsR (M := 4096) (N := 128) (outK (F := Ideal) 𝒱 c bd i a1 p1 a2 p2 a3 p3 a4 p4 a5 p5 a6 p6 a7 p7 a8 p8 a9 p9 a10 p10 x1 x2 x3 x4 x5) (TK fQ fk fv fG) := by
  have h := (st1_is 𝒱 c bd i a1 p1 a2 p2 a3 p3 a4 p4 a5 p5 a6 p6 a7 p7 a8 p8 a9 p9 a10 p10 x1 x2 x3 x4 x5 H _ _ (zero9 a9 p9) (zero10 a10 p10) k0_t1_loop.trips le_rfl).2.1
  refine IsR.congr h fun j d _ _ => ?_
  rw [trips1]
  exact sumK fQ fk fv fG j d

include H in
theorem outV_is : IsR (M := 4096) (N := 128) (outV (F := Ideal) 𝒱 c bd i a1 p1 a2 p2 a3 p3 a4 p4 a5 p5 a6 p6 a7 p7 a8 p8 a9 p9 a10 p10 x1 x2 x3 x4 x5) (TV fQ fk fG) := by
  have h := (st1_is 𝒱 c bd i a1 p1 a2 p2 a3 p3 a4 p4 a5 p5 a6 p6 a7 p7 a8 p8 a9 p9 a10 p10 x1 x2 x3 x4 x5 H _ _ (zero9 a9 p9) (zero10 a10 p10) k0_t1_loop.trips le_rfl).2.2
  refine IsR.congr h fun j d _ _ => ?_
  rw [trips1]
  exact sumV fQ fk fG j d

end

end Cert.Hand.Sb
-- ==== Proof.SbSpec.lean ====
module

public import proofs.«01_k».proof.Proof.SbOut

/-!
The gradients of stick-breaking attention as real sums, and a grid point's pair of heads among them.
-/

@[expose] public section

noncomputable section

namespace Cert.Hand.Sb

/-- The logarithm of what a key leaves of the stick, from the logits. -/
def Lz (z : ℕ → ℕ → ℝ) (i j : ℕ) : ℝ := if j < i then lnR (z i j) else 0
/-- The weight of key `j` in query `i`. -/
def wz (z : ℕ → ℕ → ℝ) (i j : ℕ) : ℝ :=
  if j < i then Real.exp (z i j + lnR (z i j) + ∑ s ∈ Finset.range 4096, if j < s then Lz z i s else 0) else 0
/-- The gradient of the weight's logarithm, the weights' gradient being `a`. -/
def ez (z a : ℕ → ℕ → ℝ) (i j : ℕ) : ℝ := a i j * wz z i j
/-- The gradient of the logits. -/
def dzz (z a : ℕ → ℕ → ℝ) (i j : ℕ) : ℝ :=
  if j < i then ez z a i j * Real.exp (lnR (z i j)) - (∑ s ∈ Finset.range j, ez z a i s) * Real.exp (z i j + lnR (z i j)) else 0

/-- Head `h`'s products of two arrays' rows. -/
def Zh (x y : ℕ → ℕ → ℝ) (h i j : ℕ) : ℝ := ∑ d ∈ Finset.range 64, x i (64 * h + d) * y j (64 * h + d)
/-- Head `h`'s logits. -/
def Zq (Q K : ℕ → ℕ → ℝ) (h i j : ℕ) : ℝ := Zh (fun i d => Q i d * 0.125) K h i j

/-- The queries' gradient, -/
def GQ (Q K V G : ℕ → ℕ → ℝ) (i c : ℕ) : ℝ :=
  (∑ j ∈ Finset.range 4096, dzz (Zq Q K (c / 64)) (Zh G V (c / 64)) i j * K j c) * 0.125
/-- the keys', -/
def GK (Q K V G : ℕ → ℕ → ℝ) (j c : ℕ) : ℝ :=
  ∑ i ∈ Finset.range 4096, dzz (Zq Q K (c / 64)) (Zh G V (c / 64)) i j * (Q i c * 0.125)
/-- and the values'. -/
def GV (Q K G : ℕ → ℕ → ℝ) (j c : ℕ) : ℝ :=
  ∑ i ∈ Finset.range 4096, wz (Zq Q K (c / 64)) i j * G i c

theorem wR_eq (q k : ℕ → ℕ → ℝ) : wR q k = wz (zR q k) := rfl
theorem LR_eq (q k : ℕ → ℕ → ℝ) : LR q k = Lz (zR q k) := rfl
theorem dzR_eq (q k g v : ℕ → ℕ → ℝ) : dzR q k g v = dzz (zR q k) (zR g v) := rfl

/-- Columns `128 * t` on. -/
def cols (t : ℕ) (X : ℕ → ℕ → ℝ) (r d : ℕ) : ℝ := X r (128 * t + d)

theorem zR_lanA (x y : ℕ → ℕ → ℝ) (t : ℕ) : zR (lanA (cols t x)) (cols t y) = Zh x y (2 * t) := by
  funext i j
  unfold zR Zh
  rw [show (128 : ℕ) = 64 + 64 from rfl, Finset.sum_range_add]
  rw [Finset.sum_eq_zero (s := Finset.range 64) (f := fun d => lanA (cols t x) i (64 + d) * cols t y j (64 + d)), add_zero]
  · refine Finset.sum_congr rfl fun d hd => ?_
    rw [lanA, if_pos (Finset.mem_range.mp hd)]
    unfold cols
    rw [show 64 * (2 * t) + d = 128 * t + d by omega]
  · intro d _
    rw [lanA, if_neg (by omega), zero_mul]

theorem zR_lanB (x y : ℕ → ℕ → ℝ) (t : ℕ) : zR (lanB (cols t x)) (cols t y) = Zh x y (2 * t + 1) := by
  funext i j
  unfold zR Zh
  rw [show (128 : ℕ) = 64 + 64 from rfl, Finset.sum_range_add]
  rw [Finset.sum_eq_zero (s := Finset.range 64) (f := fun d => lanB (cols t x) i d * cols t y j d), zero_add]
  · refine Finset.sum_congr rfl fun d hd => ?_
    rw [lanB, if_pos (by omega)]
    unfold cols
    rw [show 64 * (2 * t + 1) + d = 128 * t + (64 + d) by omega]
  · intro d hd
    have := Finset.mem_range.mp hd
    rw [lanB, if_neg (by omega), zero_mul]

theorem headLo {t d : ℕ} (h : d < 64) : (128 * t + d) / 64 = 2 * t := by omega
theorem headHi {t d : ℕ} (h : ¬d < 64) (h' : d < 128) : (128 * t + d) / 64 = 2 * t + 1 := by omega

/-- A sum over both heads with one masked away: the lower lanes. -/
theorem two_lo {n t d : ℕ} (hd : d < 128) (a b : ℕ → ℝ) (f : ℕ → ℕ → ℝ) (c : ℕ → ℕ → ℝ)
    (ha : ∀ i, a i = c (2 * t) i) (hb : ∀ i, b i = c (2 * t + 1) i) :
    (∑ i ∈ Finset.range n, a i * lanA f i d) + ∑ i ∈ Finset.range n, b i * lanB f i d
      = ∑ i ∈ Finset.range n, c ((128 * t + d) / 64) i * f i d := by
  by_cases h : d < 64
  · rw [headLo h, Finset.sum_eq_zero (f := fun i => b i * lanB f i d), add_zero]
    · refine Finset.sum_congr rfl fun i _ => ?_
      rw [lanA, if_pos h, ha]
    · intro i _
      rw [lanB, if_neg (by omega), mul_zero]
  · rw [headHi h hd, Finset.sum_eq_zero (f := fun i => a i * lanA f i d), zero_add]
    · refine Finset.sum_congr rfl fun i _ => ?_
      rw [lanB, if_pos (by omega), hb]
    · intro i _
      rw [lanA, if_neg h, mul_zero]

variable (Q K V G : ℕ → ℕ → ℝ) (t : ℕ)

theorem zqA : zR (lanA fun i d => cols t Q i d * 0.125) (cols t K) = Zq Q K (2 * t) := zR_lanA (fun i d => Q i d * 0.125) K t
theorem zqB : zR (lanB fun i d => cols t Q i d * 0.125) (cols t K) = Zq Q K (2 * t + 1) := zR_lanB (fun i d => Q i d * 0.125) K t

theorem DQ_cols {d : ℕ} (hd : d < 128) (i : ℕ) : DQ (cols t Q) (cols t K) (cols t V) (cols t G) i d = GQ Q K V G i (128 * t + d) := by
  unfold DQ GQ Dq
  rw [dzR_eq, dzR_eq, zqA, zqB, zR_lanA, zR_lanB]
  rw [two_lo hd (f := cols t K) (c := fun h j => dzz (Zq Q K h) (Zh G V h) i j) _ _ (fun _ => rfl) (fun _ => rfl)]
  rfl

theorem TK_cols {d : ℕ} (hd : d < 128) (j : ℕ) : TK (cols t Q) (cols t K) (cols t V) (cols t G) j d = GK Q K V G j (128 * t + d) := by
  unfold TK GK
  rw [dzR_eq, dzR_eq, zqA, zqB, zR_lanA, zR_lanB]
  rw [two_lo hd (f := fun i d => cols t Q i d * 0.125) (c := fun h i => dzz (Zq Q K h) (Zh G V h) i j) _ _ (fun _ => rfl) (fun _ => rfl)]
  rfl

theorem TV_cols {d : ℕ} (hd : d < 128) (j : ℕ) : TV (cols t Q) (cols t K) (cols t G) j d = GV Q K G j (128 * t + d) := by
  unfold TV GV
  rw [wR_eq, wR_eq, zqA, zqB]
  rw [two_lo hd (f := cols t G) (c := fun h i => wz (Zq Q K h) i j) _ _ (fun _ => rfl) (fun _ => rfl)]
  rfl

end Cert.Hand.Sb
-- ==== Proof.SbRef.lean ====
module

public import proofs.«01_k».proof.Proof.SbSpec
public import proofs.«01_k».proof.Proof.Gen.StickBwdRefIdeal.Read
public import Idealize.ShloMosaic.Lib.KernelVsHost

/-!
The plain program's stages of the stick-breaking attention's gradient, read as real sums.
-/

@[expose] public section

set_option maxRecDepth 8192

noncomputable section

namespace Cert.Hand.Sb.Ref

open Cert.StickBwdRefIdeal Cert.StickBwdRefIdeal.Gen Cert.StickBwdRefIdeal.Read
open Idealize.ShloMosaic Idealize.ShloMosaic.TcCoe

/-- A stage over heads, rows and columns holds reals. -/
def Is4 {n1 n2 n3 : ℕ} (v : (⟨4, ![1, n1, n2, n3]⟩ : Shape).Idx → EReal) (f : ℕ → ℕ → ℕ → ℝ) : Prop :=
  ∀ i, v i = ((f (i 1).val (i 2).val (i 3).val : ℝ) : EReal)

theorem zero_c : Ideal.ofBits .f32 0x00000000#32 = 0 := by simp [Ideal.ofBits, Ideal.ieee]

theorem coe_max (a b : ℝ) : ((max a b : ℝ) : EReal) = max (a : EReal) (b : EReal) := EReal.coe_strictMono.monotone.map_max

/-- The softplus as the program writes it, -/
def spE (x : EReal) : EReal :=
  Scalar.select (Ideal.cmp .une (x - Ideal.ofBits .f32 0x00000000#32) (x - Ideal.ofBits .f32 0x00000000#32)) (x + Ideal.ofBits .f32 0x00000000#32)
    (max x (Ideal.ofBits .f32 0x00000000#32)
      + Ideal.log1p (Ideal.exp (-(max (x - Ideal.ofBits .f32 0x00000000#32) (-(x - Ideal.ofBits .f32 0x00000000#32))))))
/-- and its derivative. -/
def gtE (x : EReal) : EReal :=
  Ideal.exp (Scalar.select (Ideal.cmp .oeq x (Ideal.ofBits .f32 0x7F800000#32)) (Ideal.ofBits .f32 0x00000000#32) x
    - Scalar.select (Ideal.cmp .oeq (spE x) (Ideal.ofBits .f32 0x7F800000#32)) (Ideal.ofBits .f32 0x00000000#32) (spE x))

theorem spE_real (x : ℝ) : spE (x : EReal) = ((-lnR x : ℝ) : EReal) := by
  unfold spE
  rw [zero_c, sub_zero]
  have h1 : Ideal.cmp .une (x : EReal) (x : EReal) = 0#1 := by simp [Ideal.cmp]
  rw [h1]
  show max (x : EReal) 0 + Ideal.log (1 + Ideal.exp (-(max (x : EReal) (-(x : EReal))))) = _
  have h2 : -(max (x : EReal) (-(x : EReal))) = ((-(max x (-x)) : ℝ) : EReal) := by
    rw [← EReal.coe_neg, ← coe_max, EReal.coe_neg]
  have h3 : Ideal.exp (-(max (x : EReal) (-(x : EReal)))) = ((Real.exp (-(max x (-x))) : ℝ) : EReal) := by rw [h2]; rfl
  rw [h3, ← EReal.coe_one, ← EReal.coe_add, logPos (by positivity), ← EReal.coe_zero, ← coe_max, ← EReal.coe_add]
  refine congrArg _ ?_
  unfold lnR
  rw [neg_neg]
  rcases le_total x 0 with h | h
  · rw [max_eq_right h, max_eq_right (by linarith), neg_neg, zero_add]
  · rw [max_eq_left h, max_eq_left (by linarith)]
    rw [show 1 + Real.exp x = Real.exp x * (1 + Real.exp (-x)) by rw [mul_add, ← Real.exp_add]; simp; ring,
      Real.log_mul (by positivity) (by positivity), Real.log_exp]

theorem gtE_real (x : ℝ) : gtE (x : EReal) = ((Real.exp (x + lnR x) : ℝ) : EReal) := by
  unfold gtE
  rw [spE_real, inf_bits]
  have h1 : ∀ y : ℝ, Ideal.cmp .oeq (y : EReal) ⊤ = 0#1 := fun y => by simp [Ideal.cmp]
  rw [h1, h1]
  show Ideal.exp ((x : EReal) - ((-lnR x : ℝ) : EReal)) = _
  rw [← EReal.coe_sub, sub_neg_eq_add]
  rfl

theorem lnR_neg (x : ℝ) : lnR (-x) = x + lnR x := by
  unfold lnR
  rw [show 1 + Real.exp x = Real.exp x * (1 + Real.exp (-x)) by rw [mul_add, ← Real.exp_add]; simp; ring,
    Real.log_mul (by positivity) (by positivity), Real.log_exp]
  ring

theorem head_row {a b c d : ℕ} (ha : a < 1) (hc : c < 12) (hd : d < 64) : (((a * 4096 + b) * 12 + c) * 64 + d) / 768 = b := by omega
theorem head_col {a b c d : ℕ} (ha : a < 1) (hc : c < 12) (hd : d < 64) : (((a * 4096 + b) * 12 + c) * 64 + d) % 768 = 64 * c + d := by omega

variable {x0 : (⟨S4096x1024, .bf16⟩ : BufTy).Contents (Elt Ideal)} {x1 : (⟨S4096x1536, .bf16⟩ : BufTy).Contents (Elt Ideal)}
  {x2 : (⟨S4096x1024, .bf16⟩ : BufTy).Contents (Elt Ideal)} {Q K V G : ℕ → ℕ → ℝ}
  (h0 : ∀ i : S4096x1024.Idx, x0 i = ((Q (i 0).val (i 1).val : ℝ) : EReal))
  (hk : ∀ i : S4096x1536.Idx, x1 i = ((K (i 0).val (i 1).val : ℝ) : EReal))
  (hv : ∀ r c : ℕ, V r c = K r (768 + c))
  (h2 : ∀ i : S4096x1024.Idx, x2 i = ((G (i 0).val (i 1).val : ℝ) : EReal))

include h0 in
theorem r5 : Is4 (val_main_v5 x0) (fun h i d => Q i (64 * h + d)) := fun i => by
  rw [val_main_v5_apply, val_main_v4_apply, val_main_v3_apply, val_main_v0_apply]
  refine (h0 (idx_main_v3 (idx_main_v4 (idx_main_v5 i)))).trans (congrArg _ (congrArg₂ Q ?_ ?_))
  · exact head_row (i 0).isLt (i 1).isLt (i 3).isLt
  · exact head_col (i 0).isLt (i 1).isLt (i 3).isLt

include hk in
theorem r8 : Is4 (val_main_v8 x1) (fun h i d => K i (64 * h + d)) := fun i => by
  rw [val_main_v8_apply, val_main_v7_apply, val_main_v6_apply, val_main_v1_apply]
  refine (hk (idx_main_v6 (idx_main_v7 (idx_main_v8 i)))).trans (congrArg _ (congrArg₂ K ?_ ?_))
  · exact head_row (i 0).isLt (i 1).isLt (i 3).isLt
  · exact head_col (i 0).isLt (i 1).isLt (i 3).isLt

include hk hv in
theorem r11 : Is4 (val_main_v11 x1) (fun h i d => V i (64 * h + d)) := fun i => by
  rw [val_main_v11_apply, val_main_v10_apply, val_main_v9_apply, val_main_v1_apply]
  refine (hk (idx_main_v9 (idx_main_v10 (idx_main_v11 i)))).trans (congrArg _ ((congrArg₂ K ?_ ?_).trans (hv _ _).symm))
  · exact head_row (i 0).isLt (i 1).isLt (i 3).isLt
  · exact congrArg (768 + ·) (head_col (i 0).isLt (i 1).isLt (i 3).isLt)

include h2 in
theorem r35 : Is4 (val_main_v35 x2) (fun h i d => G i (64 * h + d)) := fun i => by
  rw [val_main_v35_apply, val_main_v34_apply, val_main_v33_apply, val_main_v2_apply]
  refine (h2 (idx_main_v33 (idx_main_v34 (idx_main_v35 i)))).trans (congrArg _ (congrArg₂ G ?_ ?_))
  · exact head_row (i 0).isLt (i 1).isLt (i 3).isLt
  · exact head_col (i 0).isLt (i 1).isLt (i 3).isLt

theorem eighth (i) : val_main_v13 (F := Ideal) i = ((0.125 : ℝ) : EReal) := by
  rw [val_main_v13_apply, val_main_cst_apply]
  exact eighth32

/-- A sum of products of reals. -/
theorem sum_mul_real {n : ℕ} {a b : Fin n → EReal} {f g : ℕ → ℝ} (ha : ∀ k, a k = ((f k.val : ℝ) : EReal)) (hb : ∀ k, b k = ((g k.val : ℝ) : EReal)) :
    ∑ k, a k * b k = ((∑ k ∈ Finset.range n, f k * g k : ℝ) : EReal) := by
  rw [sumR]
  refine Finset.sum_congr rfl fun k _ => ?_
  rw [ha, hb, ← EReal.coe_mul]

include h0 hk in
theorem r14 : Is4 (val_main_v14 x0 x1) (Zq Q K) := fun i => by
  rw [val_main_v14_apply, eighth, val_main_v12_apply,
    sum_mul_real (f := fun d => Q (i 2).val (64 * (i 1).val + d)) (g := fun d => K (i 3).val (64 * (i 1).val + d)) (fun d => r5 h0 _) (fun d => r8 hk _)]
  refine (EReal.coe_mul _ _).symm.trans (congrArg _ ?_)
  unfold Zq Zh
  rw [Finset.sum_mul]
  exact Finset.sum_congr rfl fun d _ => by ring

theorem sp0 (i) : val_main_call0_v1_0 (F := Ideal) x0 x1 i = spE (val_main_call0_v0 (F := Ideal) x0 x1 i) := rfl
theorem sp3 (i) : val_main_call3_v1_0 (F := Ideal) x0 x1 i = spE (val_main_call3_v0 (F := Ideal) x0 x1 i) := rfl
theorem gt0 (i) : val_main_v22_1 (F := Ideal) x0 x1 i = gtE (val_main_call0_v0 (F := Ideal) x0 x1 i) := rfl
theorem gt3 (i) : val_main_v26_1 (F := Ideal) x0 x1 i = gtE (val_main_call3_v0 (F := Ideal) x0 x1 i) := rfl

theorem mask (i : S1x12x4096x4096.Idx) : val_main_v23_1 (F := Ideal) i = BitVec.ofBool (decide ((i 3).val < (i 2).val)) := by
  rw [val_main_v23_1_apply, val_main_v20_apply]
  exact congrArg BitVec.ofBool (slt_nat _ _ (i 3).isLt (i 2).isLt)

theorem sel_real {p : Prop} [Decidable p] {a b : EReal} {x : ℝ} (ha : a = (x : EReal)) (hb : b = 0) :
    Scalar.select (BitVec.ofBool (decide p)) a b = ((if p then x else 0 : ℝ) : EReal) := by
  subst ha hb
  by_cases h : p <;> simp [Scalar.select, h]

section
include h0 hk

theorem rc0 : Is4 (val_main_call0_v0 x0 x1) (Zq Q K) := fun i => by
  rw [val_main_call0_v0_apply, val_main_v21_apply, r14 h0 hk]
  exact neg_neg _

theorem rc3 : Is4 (val_main_call3_v0 x0 x1) (fun h i j => -Zq Q K h i j) := fun i => by
  rw [val_main_call3_v0_apply, r14 h0 hk]
  exact (EReal.coe_neg _).symm

theorem r22_1 : Is4 (val_main_v22_1 x0 x1) (fun h i j => Real.exp (Zq Q K h i j + lnR (Zq Q K h i j))) := fun i => by
  rw [gt0, rc0 h0 hk, gtE_real]

theorem r26_1 : Is4 (val_main_v26_1 x0 x1) (fun h i j => Real.exp (lnR (Zq Q K h i j))) := fun i => by
  rw [gt3, rc3 h0 hk, gtE_real, lnR_neg]
  refine congrArg (fun x : ℝ => ((Real.exp x : ℝ) : EReal)) (by ring)

theorem r26_0 : Is4 (val_main_v26_0 x0 x1) (fun h i j => Zq Q K h i j + lnR (Zq Q K h i j)) := fun i => by
  rw [val_main_v26_0_apply, sp3, rc3 h0 hk, spE_real, lnR_neg]
  refine (EReal.coe_neg _).symm.trans (congrArg _ (neg_neg _))

theorem r23 : Is4 (val_main_v23_0 x0 x1) (fun h => Lz (Zq Q K h)) := fun i => by
  rw [val_main_v23_0_apply, mask, val_main_v22_0_apply, sp0, rc0 h0 hk, spE_real]
  exact sel_real ((EReal.coe_neg _).symm.trans (congrArg _ (neg_neg _))) zero_c

end

/-! ## The running sums -/

theorem sum_last {n : ℕ} (F : (⟨4, ![1, 1, 1, n]⟩ : Shape).Idx → EReal) :
    ∑ k, F k = ∑ k : Fin n, F (ix4 (0 : Fin 1) (0 : Fin 1) (0 : Fin 1) k) := by
  refine (Fintype.sum_equiv ⟨fun k => ix4 (0 : Fin 1) (0 : Fin 1) (0 : Fin 1) k, fun i => i 3, fun _ => rfl, fun i => ?_⟩ _ _ fun _ => rfl).symm
  refine Eq.trans ?_ (eq_ix4 i).symm
  refine congrArg₂ (fun (a b : Fin 1) => ix4 a b (0 : Fin 1) (i 3)) ?_ ?_ |>.trans (congrArg (fun c : Fin 1 => ix4 (i 0) (i 1) c (i 3)) ?_)
  all_goals exact Subsingleton.elim (α := Fin 1) _ _

/-- A window of 4096 entries from `lo` before the entry's own. -/
def winR (f : ℕ → ℝ) (lo j : ℕ) : ℝ := ∑ k ∈ Finset.range 4096, if lo ≤ j + k ∧ j + k - lo < 4096 then f (j + k - lo) else 0

theorem window4 {lo hi : ℕ} {x : S1x12x4096x4096.Idx → EReal} {f : ℕ → ℕ → ℕ → ℝ} (hx : Is4 (n1 := 12) (n2 := 4096) (n3 := 4096) x f)
    (h : S1x12x4096x4096.ReduceWindows (![1, 1, 1, 4096] : Fin 4 → Nat) ![1, 1, 1, 1] ![0, 0, 0, lo] ![0, 0, 0, hi] S1x12x4096x4096)
    (i : S1x12x4096x4096.Idx) :
    Ideal.hostReduceWindowAdd (s := S1x12x4096x4096) ![1, 1, 1, 4096] ![1, 1, 1, 1] ![0, 0, 0, lo] ![0, 0, 0, hi] h x 0 i
      = ((winR (f (i 1).val (i 2).val) lo (i 3).val : ℝ) : EReal) := by
  unfold winR
  rw [windowSum_eq, zero_add]
  refine (sum_last (n := 4096) _).trans ?_
  rw [sumR]
  refine Finset.sum_congr rfl fun k _ => ?_
  by_cases hk : lo ≤ (i 3).val + k.val ∧ (i 3).val + k.val - lo < 4096
  · rw [if_pos hk, dif_pos (fun a => by
      match a with
      | ⟨0, _⟩ => exact ⟨Nat.zero_le _, by show (i 0).val * 1 + 0 - 0 < 1; have : (i 0).val < 1 := (i 0).isLt; omega⟩
      | ⟨1, _⟩ => exact ⟨Nat.zero_le _, by show (i 1).val * 1 + 0 - 0 < 12; have : (i 1).val < 12 := (i 1).isLt; omega⟩
      | ⟨2, _⟩ => exact ⟨Nat.zero_le _, by show (i 2).val * 1 + 0 - 0 < 4096; have : (i 2).val < 4096 := (i 2).isLt; omega⟩
      | ⟨3, _⟩ => show lo ≤ (i 3).val * 1 + k.val ∧ (i 3).val * 1 + k.val - lo < 4096; rw [mul_one]; exact hk)]
    refine (hx _).trans (congrArg _ ?_)
    show f ((i 1).val * 1 + 0 - 0) ((i 2).val * 1 + 0 - 0) ((i 3).val * 1 + k.val - lo) = _
    simp only [mul_one, add_zero, Nat.sub_zero]
  · rw [if_neg hk, dif_neg (fun hall => hk (by
      have h1 := hall 3
      change lo ≤ (i 3).val * 1 + k.val ∧ (i 3).val * 1 + k.val - lo < 4096 at h1
      rwa [mul_one] at h1))]
    rfl

theorem suffix_real (g : ℕ → ℝ) {j : ℕ} (hj : j < 4096) :
    winR g 0 j - g j = ∑ s ∈ Finset.range 4096, if j < s then g s else 0 := by
  unfold winR
  obtain ⟨p, hp⟩ := Nat.exists_eq_add_of_le hj
  have e1 : ∑ s ∈ Finset.range 4096, (if j < s then g s else 0) = ∑ k ∈ Finset.range p, g (j.succ + k) := by
    rw [hp, Finset.sum_range_add, Finset.sum_eq_zero, zero_add]
    · exact Finset.sum_congr rfl fun k _ => if_pos (by omega)
    · intro s hs
      have := Finset.mem_range.mp hs
      exact if_neg (by omega)
  have e2 : (∑ k ∈ Finset.range 4096, if 0 ≤ j + k ∧ j + k - 0 < 4096 then g (j + k - 0) else 0) = ∑ k ∈ Finset.range (p + 1), g (j + k) := by
    rw [show Finset.range 4096 = Finset.range ((p + 1) + j) by congr 1; omega, Finset.sum_range_add,
      Finset.sum_eq_zero (s := Finset.range j) fun s _ => if_neg (by omega), add_zero]
    refine Finset.sum_congr rfl fun k hk => ?_
    have := Finset.mem_range.mp hk
    rw [if_pos (by omega), Nat.sub_zero]
  rw [e1, e2, Finset.sum_range_succ', add_zero, add_sub_cancel_right]
  exact Finset.sum_congr rfl fun k _ => congrArg g (by omega)

theorem prefix_real (g : ℕ → ℝ) {j : ℕ} (hj : j < 4096) :
    -g j + winR g 4095 j = ∑ s ∈ Finset.range j, g s := by
  unfold winR
  have e : (∑ k ∈ Finset.range 4096, if 4095 ≤ j + k ∧ j + k - 4095 < 4096 then g (j + k - 4095) else 0) = ∑ s ∈ Finset.range (j + 1), g s := by
    rw [show Finset.range 4096 = Finset.range ((4095 - j) + (j + 1)) by congr 1; omega, Finset.sum_range_add, Finset.sum_eq_zero, zero_add]
    · refine Finset.sum_congr rfl fun k hk => ?_
      have := Finset.mem_range.mp hk
      rw [if_pos (by omega)]
      exact congrArg g (by omega)
    · intro s hs
      have := Finset.mem_range.mp hs
      exact if_neg (by omega)
  rw [e, Finset.sum_range_succ]
  ring

theorem addR (a b : ℝ) : FloatOps.addf (F := Ideal) (φ := .f32) (a : EReal) (b : EReal) = ((a + b : ℝ) : EReal) := (EReal.coe_add _ _).symm
theorem expR (a : ℝ) : FloatOps.hostUnary (F := Ideal) (φ := .f32) .exp (a : EReal) = ((Real.exp a : ℝ) : EReal) := rfl

section
include h0 hk

theorem r25 : Is4 (val_main_v25 x0 x1) (fun h i j => ∑ s ∈ Finset.range 4096, if j < s then Lz (Zq Q K h) i s else 0) := fun i => by
  rw [val_main_v25_apply, r23 h0 hk]
  have e : val_main_v24 (F := Ideal) x0 x1 i = ((winR (Lz (Zq Q K (i 1).val) (i 2).val) 0 (i 3).val : ℝ) : EReal) := by
    unfold val_main_v24
    have hx := r23 h0 hk
    generalize val_main_v23_0 (F := Ideal) x0 x1 = x at hx ⊢
    have hz : ∀ i, (val_main_call2_v0 (F := Ideal)) i = 0 := fun i => zero_c
    unfold Host.reduceWindowAdd
    rw [hz]
    exact window4 hx _ i
  rw [e]
  exact (EReal.coe_sub _ _).symm.trans (congrArg _ (suffix_real _ (i 3).isLt))

/-- The weights before the mask. -/
theorem r28 : Is4 (val_main_v28 x0 x1) (fun h i j => Real.exp (Zq Q K h i j + lnR (Zq Q K h i j) + ∑ s ∈ Finset.range 4096, if j < s then Lz (Zq Q K h) i s else 0)) := fun i => by
  rw [val_main_v28_apply, val_main_v27_apply, r26_0 h0 hk, r25 h0 hk]
  rw [addR, expR]

theorem r29 : Is4 (val_main_v29_0 x0 x1) (fun h => wz (Zq Q K h)) := fun i => by
  rw [val_main_v29_0_apply, r28 h0 hk]
  exact (congrArg (fun b => Scalar.select b _ _) (mask i)).trans (sel_real rfl zero_c)

end

theorem at_flat (f : ℕ → ℕ → ℕ → ℝ) {r c : ℕ} (hr : r < 4096) (hc : c < 768) :
    f ((r * 768 + c) / 64 % 12) ((r * 768 + c) / 768 % 4096) ((r * 768 + c) % 64) = f (c / 64) r (c % 64) := by
  rw [show (r * 768 + c) / 64 % 12 = c / 64 by omega, show (r * 768 + c) / 768 % 4096 = r by omega, show (r * 768 + c) % 64 = c % 64 by omega]

section
include h0 hk hv h2

theorem r40 : Is4 (val_main_v40 x0 x1 x2) (fun h => ez (Zq Q K h) (Zh G V h)) := fun i => by
  rw [val_main_v40_apply, val_main_v39_apply, r28 h0 hk, val_main_v38_apply,
    sum_mul_real (f := fun d => G (i 2).val (64 * (i 1).val + d)) (g := fun d => V (i 3).val (64 * (i 1).val + d)) (fun d => r35 h2 _) (fun d => r11 hk hv _)]
  refine (congrArg (FloatOps.mulf (F := Ideal) (φ := .f32) · _) ((congrArg (fun b => Scalar.select b _ _) (mask i)).trans (sel_real rfl zero_c))).trans ?_
  refine (EReal.coe_mul _ _).symm.trans (congrArg _ ?_)
  unfold ez wz
  beta_reduce
  by_cases h : (i 3).val < (i 2).val
  · rw [if_pos h, if_pos h]; rfl
  · rw [if_neg h, if_neg h, zero_mul, mul_zero]

theorem r44 : Is4 (val_main_v44 x0 x1 x2) (fun h i j => ∑ s ∈ Finset.range j, ez (Zq Q K h) (Zh G V h) i s) := fun i => by
  rw [val_main_v44_apply, val_main_v42_apply, r40 h0 hk hv h2]
  have e : val_main_v43 (F := Ideal) x0 x1 x2 i = ((winR (ez (Zq Q K (i 1).val) (Zh G V (i 1).val) (i 2).val) 4095 (i 3).val : ℝ) : EReal) := by
    unfold val_main_v43
    have hx := r40 h0 hk hv h2
    generalize val_main_v40 (F := Ideal) x0 x1 x2 = x at hx ⊢
    have hz : ∀ i, (val_main_call7_v0 (F := Ideal)) i = 0 := fun i => zero_c
    unfold Host.reduceWindowAdd
    rw [hz]
    exact window4 hx _ i
  rw [e]
  refine (congrArg (· + _) (EReal.coe_neg _).symm).trans ?_
  exact (EReal.coe_add _ _).symm.trans (congrArg _ (prefix_real _ (i 3).isLt))

theorem r48 : Is4 (val_main_v48 x0 x1 x2) (fun h => dzz (Zq Q K h) (Zh G V h)) := fun i => by
  rw [val_main_v48_apply, val_main_v41_apply, val_main_call6_v1_apply, val_main_call6_v0_apply, r40 h0 hk hv h2, r26_1 h0 hk,
    val_main_v47_apply, val_main_v46_apply, val_main_call9_v1_apply, val_main_call9_v0_apply, val_main_v45_apply, mask, r44 h0 hk hv h2, r22_1 h0 hk]
  have e := sel_real (p := (i 3).val < (i 2).val) (a := ((∑ s ∈ Finset.range (i 3).val, ez (Zq Q K (i 1).val) (Zh G V (i 1).val) (i 2).val s : ℝ) : EReal)) (b := val_main_call8_v0 (F := Ideal) i) rfl zero_c
  rw [e]
  show -(-(_ : EReal) * _) + -(-(-(_ : EReal) * _)) = _
  rw [← EReal.coe_neg, ← EReal.coe_neg, ← EReal.coe_mul, ← EReal.coe_mul, ← EReal.coe_neg, ← EReal.coe_neg, ← EReal.coe_neg, ← EReal.coe_add]
  refine congrArg _ ?_
  unfold dzz
  beta_reduce
  by_cases h : (i 3).val < (i 2).val
  · rw [if_pos h, if_pos h]; ring
  · rw [if_neg h, if_neg h]
    have : ez (Zq Q K (i 1).val) (Zh G V (i 1).val) (i 2).val (i 3).val = 0 := by unfold ez wz; rw [if_neg h, mul_zero]
    rw [this]; ring

theorem r50 : Is4 (val_main_v50 x0 x1 x2) (fun h i j => dzz (Zq Q K h) (Zh G V h) i j * 0.125) := fun i => by
  rw [val_main_v50_apply, r48 h0 hk hv h2]
  refine (congrArg (FloatOps.mulf (F := Ideal) (φ := .f32) _) eighth32).trans ?_
  exact (EReal.coe_mul _ _).symm

/-! ## The results -/

/-- The queries' gradient over heads, -/
theorem r52 : Is4 (val_main_v52 x0 x1 x2) (fun h i d => ∑ j ∈ Finset.range 4096, dzz (Zq Q K h) (Zh G V h) i j * 0.125 * K j (64 * h + d)) := fun i => by
  rw [val_main_v52_apply]
  exact sum_mul_real (f := fun j => dzz (Zq Q K (i 1).val) (Zh G V (i 1).val) (i 2).val j * 0.125) (g := fun j => K j (64 * (i 1).val + (i 3).val))
    (fun d => r50 h0 hk hv h2 _) (fun d => r8 hk _)

/-- the keys', -/
theorem r51 : Is4 (val_main_v51 x0 x1 x2) (fun h j d => ∑ i ∈ Finset.range 4096, dzz (Zq Q K h) (Zh G V h) i j * 0.125 * Q i (64 * h + d)) := fun i => by
  rw [val_main_v51_apply]
  exact sum_mul_real (f := fun r => dzz (Zq Q K (i 1).val) (Zh G V (i 1).val) r (i 2).val * 0.125) (g := fun r => Q r (64 * (i 1).val + (i 3).val))
    (fun d => r50 h0 hk hv h2 _) (fun d => r5 h0 _)

omit hv in
/-- and the values'. -/
theorem r37 : Is4 (val_main_v37 x0 x1 x2) (fun h j d => ∑ i ∈ Finset.range 4096, G i (64 * h + d) * wz (Zq Q K h) i j) := fun i => by
  rw [val_main_v37_apply, val_main_v36_apply]
  exact sum_mul_real (f := fun r => G r (64 * (i 1).val + (i 3).val)) (g := fun r => wz (Zq Q K (i 1).val) r (i 2).val)
    (fun d => r35 h2 _) (fun d => r29 h0 hk _)

theorem dq_apply (i : S4096x768.Idx) : val_main_v62 (F := Ideal) x0 x1 x2 i = ((GQ Q K V G (i 0).val (i 1).val : ℝ) : EReal) := by
  rw [val_main_v62_apply, val_main_v61_apply, val_main_v60_apply]
  refine (r52 h0 hk hv h2 _).trans (congrArg _ ?_)
  refine (at_flat (fun h i d => ∑ j ∈ Finset.range 4096, dzz (Zq Q K h) (Zh G V h) i j * 0.125 * K j (64 * h + d)) (i 0).isLt (i 1).isLt).trans ?_
  beta_reduce
  rw [Nat.div_add_mod]
  unfold GQ
  rw [Finset.sum_mul]
  exact Finset.sum_congr rfl fun j _ => by ring

theorem dk_apply (i : S4096x768.Idx) : val_main_v57 (F := Ideal) x0 x1 x2 i = ((GK Q K V G (i 0).val (i 1).val : ℝ) : EReal) := by
  rw [val_main_v57_apply, val_main_v56_apply]
  refine (r51 h0 hk hv h2 _).trans (congrArg _ ?_)
  refine (at_flat (fun h j d => ∑ i ∈ Finset.range 4096, dzz (Zq Q K h) (Zh G V h) i j * 0.125 * Q i (64 * h + d)) (i 0).isLt (i 1).isLt).trans ?_
  beta_reduce
  rw [Nat.div_add_mod]
  exact Finset.sum_congr rfl fun j _ => by ring

omit hv in
theorem dv_apply (i : S4096x768.Idx) : val_main_v54 (F := Ideal) x0 x1 x2 i = ((GV Q K G (i 0).val (i 1).val : ℝ) : EReal) := by
  rw [val_main_v54_apply, val_main_v53_apply]
  refine (r37 h0 hk h2 _).trans (congrArg _ ?_)
  refine (at_flat (fun h j d => ∑ i ∈ Finset.range 4096, G i (64 * h + d) * wz (Zq Q K h) i j) (i 0).isLt (i 1).isLt).trans ?_
  beta_reduce
  rw [Nat.div_add_mod]
  exact Finset.sum_congr rfl fun j _ => by ring

theorem dkv_apply (i : S4096x1536.Idx) : val_main_v63 (F := Ideal) x0 x1 x2 i
    = ((if (i 1).val < 768 then GK Q K V G (i 0).val (i 1).val else GV Q K G (i 0).val ((i 1).val - 768) : ℝ) : EReal) := by
  rw [val_main_v63_apply, val_main_v59_apply]
  have hi : (i 1).val < 1536 := (i 1).isLt
  by_cases h : (i 1).val < 768
  · rw [if_pos h]
    have e1 : val_main_v55 (F := Ideal) x0 x1 x2 i = 0 :=
      (pad_apply_of_not_inside _ _ _ _ _ _ _ i (1 : Fin 2) (fun hh => absurd hh.1 (by show ¬768 ≤ (i 1).val; omega))).trans zero_c
    have e2 : val_main_v58 (F := Ideal) x0 x1 x2 i = val_main_v57 (F := Ideal) x0 x1 x2 (ix2 (i 0) (⟨(i 1).val, h⟩ : Fin 768)) :=
      pad_apply_of_inside _ _ _ _ _ _ _ i _ fun a => match a with
        | ⟨0, _⟩ => by show (i 0).val = 0 + (i 0).val * (0 + 1); omega
        | ⟨1, _⟩ => by show (i 1).val = 0 + (i 1).val * (0 + 1); omega
    rw [e1, e2, dk_apply h0 hk hv h2]
    exact zero_add _
  · rw [if_neg h]
    have e1 : val_main_v58 (F := Ideal) x0 x1 x2 i = 0 :=
      (pad_apply_of_not_inside _ _ _ _ _ _ _ i (1 : Fin 2) (fun hh => absurd hh.2.2 (by show ¬((i 1).val - 0) / (0 + 1) < 768; omega))).trans zero_c
    have e2 : val_main_v55 (F := Ideal) x0 x1 x2 i = val_main_v54 (F := Ideal) x0 x1 x2 (ix2 (i 0) (⟨(i 1).val - 768, by omega⟩ : Fin 768)) :=
      pad_apply_of_inside _ _ _ _ _ _ _ i _ fun a => match a with
        | ⟨0, _⟩ => by show (i 0).val = 0 + (i 0).val * (0 + 1); omega
        | ⟨1, _⟩ => by show (i 1).val = 768 + ((i 1).val - 768) * (0 + 1); omega
    rw [e1, e2, dv_apply h0 hk h2]
    exact add_zero _

end

end Cert.Hand.Sb.Ref
-- ==== Proof.SbHost.lean ====
module

public import proofs.«01_k».proof.Proof.SbRef
public import Idealize.ShloMosaic.Lib.StableHlo.Run

/-!
What the kernel's host lines leave in the totals' array: each query's sum of the masked logarithms.
-/

@[expose] public section

set_option maxRecDepth 8192

noncomputable section

namespace Cert.Hand.Sb

open Cert.StickBwdIdeal Cert.StickBwdIdeal.Gen
open Idealize.ShloMosaic Idealize.ShloMosaic.TcCoe Idealize.ShloMosaic.StableHlo
open Idealize.SL Idealize.SL.Sem

/-- The logarithm of the logistic function, as the program writes it. -/
def lsE (x : EReal) : EReal := -(Ref.spE (-x))

variable (W : Valuation τ sig (Elt Ideal))

set_option maxHeartbeats 1000000 in
theorem tail_v21 : after hostOps0_4 W (Proc.devRef .tc main_v21)
    = broadcastInDim S6x2x4096x128 ![0, 1, 2, 3] bcast_S6x2x4096x1_S6x2x4096x128_0_1_2_3
        (shapeCast S6x2x4096x1 (Host.reduceAdd (W (Proc.devRef .tc main_v18)) (constant S_ .f32 0x00000000#32) reducesTo_S1x12x4096x4096_S1x12x4096_d3 h_S_ : FVec Ideal S1x12x4096 .f32) shapeCasts_S1x12x4096_S6x2x4096x1) := by
  simp only [hostOps0_4, TRef.binary, TRef.nullary, TRef.unary, TRef.toBuf, TRef.ofBuf, cast_eq]
  after_results_simp
  rfl

set_option maxHeartbeats 1000000 in
theorem tail_v18 : after hostOps0_3 W (Proc.devRef .tc main_v18)
    = fun i : S1x12x4096x4096.Idx => Scalar.select ((broadcastInDim S1x12x4096x4096 ![2, 3] bcast_S4096x4096_S1x12x4096x4096_2_3 (W (Proc.devRef .tc main_v15)) : S1x12x4096x4096.Idx → BitVec 1) i)
        ((W (Proc.devRef .tc main_v17) : S1x12x4096x4096.Idx → EReal) i)
        ((broadcastInDim S1x12x4096x4096 ![] bcast_S_S1x12x4096x4096 (W (Proc.devRef .tc main_cst_0)) : S1x12x4096x4096.Idx → EReal) i) := by
  simp only [hostOps0_3, TRef.binary, TRef.nullary, TRef.unary, TRef.ternary, TRef.toBuf, TRef.ofBuf, cast_eq]
  after_results_simp
  rfl

set_option maxHeartbeats 1000000 in
theorem tail_cst : after hostOps0_2 W (Proc.devRef .tc main_cst_0) = constant (F := Ideal) S_ .f32 0x00000000#32 := by
  simp only [hostOps0_2]
  after_results_simp

set_option maxHeartbeats 1000000 in
theorem tail_v17 : after hostOps0_1 W (Proc.devRef .tc main_v17)
    = fun i : S1x12x4096x4096.Idx => lsE ((W (Proc.devRef .tc main_v16) : S1x12x4096x4096.Idx → EReal) i) := by
  simp only [hostOps0_1, TRef.binary, TRef.nullary, TRef.unary, TRef.ternary, TRef.toBuf, TRef.ofBuf, cast_eq]
  after_results_simp
  rfl

set_option maxHeartbeats 1000000 in
theorem tail_v16 : after hostOps0 W (Proc.devRef .tc main_v16)
    = Cert.StickBwdRefIdeal.Read.val_main_v21 (F := Ideal) (W (Proc.devRef .tc main_arg0)) (W (Proc.devRef .tc main_arg1)) := by
  simp only [hostOps0]
  after_results_simp
  rfl

set_option maxHeartbeats 1000000 in
theorem tail_v15 : after hostOps0 W (Proc.devRef .tc main_v15) = Cert.StickBwdRefIdeal.Read.val_main_v20 (F := Ideal) := by
  simp only [hostOps0]
  after_results_simp
  rfl

variable (m : (ℓ : Loc nD τ sig) → Buf (Elt Ideal) ℓ) (c : Dev nD)

omit m c in
theorem keep_v15 : after hostOps0_2 (after hostOps0_1 W) (Proc.devRef .tc main_v15) = W (Proc.devRef .tc main_v15) := by
  simp only [hostOps0_2, hostOps0_1, TRef.binary, TRef.nullary, TRef.unary, TRef.ternary, TRef.toBuf, TRef.ofBuf, cast_eq]
  after_results_simp

omit m c in
theorem keep_v17 : after hostOps0_2 W (Proc.devRef .tc main_v17) = W (Proc.devRef .tc main_v17) := by
  simp only [hostOps0_2, TRef.binary, TRef.nullary, TRef.unary, TRef.ternary, TRef.toBuf, TRef.ofBuf, cast_eq]
  after_results_simp

/-- The masked logarithms the totals sum, as the plain program has them. -/
theorem v18_eq : after hostOps0_3 (after hostOps0_2 (after hostOps0_1 (after hostOps0 (fun b => m (c, b))))) (Proc.devRef .tc main_v18)
    = Cert.StickBwdRefIdeal.Read.val_main_v23_0 (F := Ideal) (m ((c : Thread nD τ).loc main_arg0)) (m ((c : Thread nD τ).loc main_arg1)) := by
  rw [tail_v18, keep_v15, keep_v17, tail_v17, tail_v16, tail_v15, tail_cst]
  rfl

theorem total_apply (x : S1x12x4096x4096.Idx → EReal) (t : Fin 6) (e : Fin 2) (i : Fin 4096) (l : Fin 128) :
    broadcastInDim S6x2x4096x128 ![0, 1, 2, 3] bcast_S6x2x4096x1_S6x2x4096x128_0_1_2_3
        (shapeCast S6x2x4096x1 (Host.reduceAdd x (constant S_ .f32 0x00000000#32) reducesTo_S1x12x4096x4096_S1x12x4096_d3 h_S_ : FVec Ideal S1x12x4096 .f32) shapeCasts_S1x12x4096_S6x2x4096x1)
        (ix4 t e i l)
      = ∑ k : Fin 4096, x (ix4 (0 : Fin 1) (⟨2 * t.val + e.val, by omega⟩ : Fin 12) i k) := by
  pointwise
  refine Finset.sum_congr rfl fun k _ => congrArg x ?_
  congr 2
  omega

end Cert.Hand.Sb
-- ==== Proof.SbArr.lean ====
module

public import proofs.«01_k».proof.Proof.SbHost
public import Idealize.ShloMosaic.Lib.Pipeline.ValueKit
import all proofs.«01_k».proof.Proof.SbRun

/-!
The arrays the stick-breaking kernel leaves, from what each grid point leaves of its columns.
-/

@[expose] public section

set_option maxRecDepth 16384

noncomputable section

namespace Cert.Hand.Sb

open Cert.StickBwdIdeal Cert.StickBwdIdeal.Gen
open Idealize.ShloMosaic Idealize.ShloMosaic.TcCoe Idealize.ShloMosaic.StableHlo
open Idealize.SL Idealize.SL.Sem

theorem idxs : ∀ t : Fin cfg0.N, t.val < 6 ∧ win0_0.index t 0 = 0 ∧ win0_0.index t 1 = t.val ∧ win0_1.index t 0 = 0 ∧ win0_1.index t 1 = t.val
    ∧ win0_2.index t 0 = 0 ∧ win0_2.index t 1 = 6 + t.val ∧ win0_3.index t 0 = 0 ∧ win0_3.index t 1 = t.val
    ∧ win0_4.index t 0 = t.val ∧ win0_4.index t 1 = 0 ∧ win0_4.index t 2 = 0 ∧ win0_4.index t 3 = 0
    ∧ win0_5.index t 0 = 0 ∧ win0_5.index t 1 = t.val ∧ win0_6.index t 0 = 0 ∧ win0_6.index t 1 = t.val
    ∧ win0_7.index t 0 = 0 ∧ win0_7.index t 1 = t.val := by
  decide +kernel

variable (m : (ℓ : Loc nD τ sig) → Buf (Elt Ideal) ℓ) (c : Dev nD)

theorem V0_v21 : V m c main_v21 = broadcastInDim S6x2x4096x128 ![0, 1, 2, 3] bcast_S6x2x4096x1_S6x2x4096x128_0_1_2_3
    (shapeCast S6x2x4096x1 (Host.reduceAdd (Cert.StickBwdRefIdeal.Read.val_main_v23_0 (F := Ideal) (m ((c : Thread nD τ).loc main_arg0)) (m ((c : Thread nD τ).loc main_arg1)))
      (constant S_ .f32 0x00000000#32) reducesTo_S1x12x4096x4096_S1x12x4096_d3 h_S_ : FVec Ideal S1x12x4096 .f32) shapeCasts_S1x12x4096_S6x2x4096x1) := by
  show StableHlo.after (List.flatten [hostOps0, hostOps0_1, hostOps0_2, hostOps0_3, hostOps0_4]) (fun b => m (c, b)) (Proc.devRef .tc main_v21) = _
  rw [List.flatten_cons, List.flatten_cons, List.flatten_cons, List.flatten_cons, List.flatten_cons, List.flatten_nil, List.append_nil,
    StableHlo.after_append, StableHlo.after_append, StableHlo.after_append, StableHlo.after_append, tail_v21, v18_eq]

variable {Q K V' G : ℕ → ℕ → ℝ}
  (h0 : ∀ i : S4096x1024.Idx, (m ((c : Thread nD τ).loc main_arg0) : S4096x1024.Idx → EReal) i = ((Q (i 0).val (i 1).val : ℝ) : EReal))
  (hk : ∀ i : S4096x1536.Idx, (m ((c : Thread nD τ).loc main_arg1) : S4096x1536.Idx → EReal) i = ((K (i 0).val (i 1).val : ℝ) : EReal))
  (hv : ∀ r c, V' r c = K r (768 + c))
  (h2 : ∀ i : S4096x1024.Idx, (m ((c : Thread nD τ).loc main_arg2) : S4096x1024.Idx → EReal) i = ((G (i 0).val (i 1).val : ℝ) : EReal))

include h0 in
theorem blk0 (t : Fin cfg0.N) : IsR (M := 4096) (N := 128) (iblk m c 0 t) (cols t.val Q) := by
  obtain ⟨ht, e00, e01, e10, e11, e20, e21, e30, e31, e40, e41, e42, e43, e50, e51, e60, e61, e70, e71⟩ := idxs t
  intro r d
  show (V m c main_arg0 : S4096x1024.Idx → EReal) ((win0_0.blk t).view.emb (ix2 r d)) = _
  have hd := d.isLt
  have hy : (win0_0.blk t).view.emb (ix2 r d) = (ix2 r ⟨128 * t.val + d.val, by omega⟩ : S4096x1024.Idx) := by
    blk_ext [e00, e01]
  rw [hy]
  rw [V_main_arg0, h0]
  rfl

include hk in
theorem blk1 (t : Fin cfg0.N) : IsR (M := 4096) (N := 128) (iblk m c 1 t) (cols t.val K) := by
  obtain ⟨ht, e00, e01, e10, e11, e20, e21, e30, e31, e40, e41, e42, e43, e50, e51, e60, e61, e70, e71⟩ := idxs t
  intro r d
  show (V m c main_arg1 : S4096x1536.Idx → EReal) ((win0_1.blk t).view.emb (ix2 r d)) = _
  have hd := d.isLt
  have hy : (win0_1.blk t).view.emb (ix2 r d) = (ix2 r ⟨128 * t.val + d.val, by omega⟩ : S4096x1536.Idx) := by
    blk_ext [e10, e11]
  rw [hy]
  rw [V_main_arg1, hk]
  rfl

include hk hv in
theorem blk2 (t : Fin cfg0.N) : IsR (M := 4096) (N := 128) (iblk m c 2 t) (cols t.val V') := by
  obtain ⟨ht, e00, e01, e10, e11, e20, e21, e30, e31, e40, e41, e42, e43, e50, e51, e60, e61, e70, e71⟩ := idxs t
  intro r d
  show (V m c main_arg1 : S4096x1536.Idx → EReal) ((win0_2.blk t).view.emb (ix2 r d)) = ((V' r.val (128 * t.val + d.val) : ℝ) : EReal)
  have hd := d.isLt
  have hy : (win0_2.blk t).view.emb (ix2 r d) = (ix2 r ⟨768 + (128 * t.val + d.val), by omega⟩ : S4096x1536.Idx) := by
    blk_ext [e20, e21]
  rw [hy]
  rw [V_main_arg1, hk, hv]
  rfl

include h2 in
theorem blk3 (t : Fin cfg0.N) : IsR (M := 4096) (N := 128) (iblk m c 3 t) (cols t.val G) := by
  obtain ⟨ht, e00, e01, e10, e11, e20, e21, e30, e31, e40, e41, e42, e43, e50, e51, e60, e61, e70, e71⟩ := idxs t
  intro r d
  show (V m c main_arg2 : S4096x1024.Idx → EReal) ((win0_3.blk t).view.emb (ix2 r d)) = _
  have hd := d.isLt
  have hy : (win0_3.blk t).view.emb (ix2 r d) = (ix2 r ⟨128 * t.val + d.val, by omega⟩ : S4096x1024.Idx) := by
    blk_ext [e30, e31]
  rw [hy]
  rw [V_main_arg2, h2]
  rfl

include h0 hk in
theorem blk4 (t : Fin cfg0.N) (e : Fin 2) (i : Fin 4096) :
    (iblk m c 4 t : S1x2x4096x128.Idx → EReal) (ix4 (0 : Fin 1) e i (0 : Fin 128)) = ((∑ j ∈ Finset.range 4096, Lz (Zq Q K (2 * t.val + e.val)) i.val j : ℝ) : EReal) := by
  obtain ⟨ht, e00, e01, e10, e11, e20, e21, e30, e31, e40, e41, e42, e43, e50, e51, e60, e61, e70, e71⟩ := idxs t
  show (V m c main_v21 : S6x2x4096x128.Idx → EReal) ((win0_4.blk t).view.emb (ix4 (0 : Fin 1) e i (0 : Fin 128))) = _
  have hy : (win0_4.blk t).view.emb (ix4 (0 : Fin 1) e i (0 : Fin 128)) = (ix4 (⟨t.val, ht⟩ : Fin 6) e i (0 : Fin 128) : S6x2x4096x128.Idx) := by
    blk_ext [e40, e41, e42, e43]
  rw [hy, V0_v21]
  refine (total_apply _ _ e i 0).trans ?_
  rw [sumR]
  exact Finset.sum_congr rfl fun k _ => Ref.r23 h0 hk _

include h0 hk hv h2 in
/-- At each point the body's inputs are the columns of its two heads. -/
theorem point_in (t : Fin cfg0.N) :
    InIs (win0_0.stage (cfg0.slots t 0)) (win0_1.stage (cfg0.slots t 1)) (win0_2.stage (cfg0.slots t 2)) (win0_3.stage (cfg0.slots t 3)) (win0_4.stage (cfg0.slots t 4))
      ((hstage0_0 ((cfg0.slots t 0).cast nbuf0_0)).unread (iblk m c 0 t)) ((hstage0_1 ((cfg0.slots t 1).cast nbuf0_1)).unread (iblk m c 1 t))
      ((hstage0_2 ((cfg0.slots t 2).cast nbuf0_2)).unread (iblk m c 2 t)) ((hstage0_3 ((cfg0.slots t 3).cast nbuf0_3)).unread (iblk m c 3 t))
      ((hstage0_4 ((cfg0.slots t 4).cast nbuf0_4)).unread (iblk m c 4 t)) (cols t.val Q) (cols t.val K) (cols t.val V') (cols t.val G) where
  hQ := fun r d => (congrFun ((hstage0_0 ((cfg0.slots t 0).cast nbuf0_0)).read_unread (iblk m c 0 t)) (ix2 r d)).trans (blk0 m c h0 t r d)
  hK := fun r d => (congrFun ((hstage0_1 ((cfg0.slots t 1).cast nbuf0_1)).read_unread (iblk m c 1 t)) (ix2 r d)).trans (blk1 m c hk t r d)
  hV := fun r d => (congrFun ((hstage0_2 ((cfg0.slots t 2).cast nbuf0_2)).read_unread (iblk m c 2 t)) (ix2 r d)).trans (blk2 m c hk hv t r d)
  hG := fun r d => (congrFun ((hstage0_3 ((cfg0.slots t 3).cast nbuf0_3)).read_unread (iblk m c 3 t)) (ix2 r d)).trans (blk3 m c h2 t r d)
  hA := fun i => by
    refine ((congrFun ((hstage0_4 ((cfg0.slots t 4).cast nbuf0_4)).read_unread (iblk m c 4 t)) (ix4 (0 : Fin 1) (0 : Fin 2) i (0 : Fin 128))).trans (blk4 m c h0 hk t 0 i)).trans ?_
    rw [LR_eq, zqA]
    rfl
  hB := fun i => by
    refine ((congrFun ((hstage0_4 ((cfg0.slots t 4).cast nbuf0_4)).read_unread (iblk m c 4 t)) (ix4 (0 : Fin 1) (1 : Fin 2) i (0 : Fin 128))).trans (blk4 m c h0 hk t 1 i)).trans ?_
    rw [LR_eq, zqB]
    rfl

include h0 hk hv h2 in
theorem aftQ_is (t : Fin cfg0.N) (r : Fin 4096) (d : Fin 128) :
    (aftQ m c t : S4096x128.Idx → EReal) (ix2 r d) = ((GQ Q K V' G r.val (128 * t.val + d.val) : ℝ) : EReal) := by
  unfold aftQ
  refine (outQ_is Variants.none c none (grid0.coords t) (win0_0.stage (cfg0.slots t 0)) _ (win0_1.stage (cfg0.slots t 1)) _ (win0_2.stage (cfg0.slots t 2)) _ (win0_3.stage (cfg0.slots t 3)) _ (win0_4.stage (cfg0.slots t 4)) _ (win0_5.stage (cfg0.slots t 5)) _ (win0_6.stage (cfg0.slots t 6)) _ (win0_7.stage (cfg0.slots t 7)) _ (Memref.whole cc0_scratch0) _ (Memref.whole cc0_scratch1) _
    (iblk m c 0 t) (iblk m c 1 t) (iblk m c 2 t) (iblk m c 3 t) (iblk m c 4 t) (point_in m c h0 hk hv h2 t) r d).trans ?_
  rw [DQ_cols Q K V' G t.val d.isLt]

include h0 hk hv h2 in
theorem aftK_is (t : Fin cfg0.N) (r : Fin 4096) (d : Fin 128) :
    (aftK m c t : S4096x128.Idx → EReal) (ix2 r d) = ((GK Q K V' G r.val (128 * t.val + d.val) : ℝ) : EReal) := by
  unfold aftK
  refine (outK_is Variants.none c none (grid0.coords t) (win0_0.stage (cfg0.slots t 0)) _ (win0_1.stage (cfg0.slots t 1)) _ (win0_2.stage (cfg0.slots t 2)) _ (win0_3.stage (cfg0.slots t 3)) _ (win0_4.stage (cfg0.slots t 4)) _ (win0_5.stage (cfg0.slots t 5)) _ (win0_6.stage (cfg0.slots t 6)) _ (win0_7.stage (cfg0.slots t 7)) _ (Memref.whole cc0_scratch0) _ (Memref.whole cc0_scratch1) _
    (iblk m c 0 t) (iblk m c 1 t) (iblk m c 2 t) (iblk m c 3 t) (iblk m c 4 t) (point_in m c h0 hk hv h2 t) r d).trans ?_
  rw [TK_cols Q K V' G t.val d.isLt]

include h0 hk hv h2 in
theorem aftV_is (t : Fin cfg0.N) (r : Fin 4096) (d : Fin 128) :
    (aftV m c t : S4096x128.Idx → EReal) (ix2 r d) = ((GV Q K G r.val (128 * t.val + d.val) : ℝ) : EReal) := by
  unfold aftV
  refine (outV_is Variants.none c none (grid0.coords t) (win0_0.stage (cfg0.slots t 0)) _ (win0_1.stage (cfg0.slots t 1)) _ (win0_2.stage (cfg0.slots t 2)) _ (win0_3.stage (cfg0.slots t 3)) _ (win0_4.stage (cfg0.slots t 4)) _ (win0_5.stage (cfg0.slots t 5)) _ (win0_6.stage (cfg0.slots t 6)) _ (win0_7.stage (cfg0.slots t 7)) _ (Memref.whole cc0_scratch0) _ (Memref.whole cc0_scratch1) _
    (iblk m c 0 t) (iblk m c 1 t) (iblk m c 2 t) (iblk m c 3 t) (iblk m c 4 t) (point_in m c h0 hk hv h2 t) r d).trans ?_
  rw [TV_cols Q K G t.val d.isLt]

include h0 hk hv h2 in
theorem arr5 : (dats m 0 c).arrAt 5 cfg0.N = mat (M := 4096) (N := 768) (GQ Q K V' G) := by
  refine (dats m 0 c).arrAt_eq_of_covers 5 _ (by decide +kernel) fun t hf y => ?_
  obtain ⟨ht, e00, e01, e10, e11, e20, e21, e30, e31, e40, e41, e42, e43, e50, e51, e60, e61, e70, e71⟩ := idxs t
  have hd : (y 1).val < 128 := (y 1).isLt
  have hy : (win0_5.blk t).view.emb (ix2 (y 0) (y 1)) = (ix2 (y 0) ⟨128 * t.val + (y 1).val, by omega⟩ : (⟨2, ![4096, 768]⟩ : Shape).Idx) := by
    blk_ext [e50, e51]
  blk_simp
  rw [after5, eq_ix2 y]
  refine (aftQ_is m c h0 hk hv h2 t (y 0) (y 1)).trans ?_
  exact (congrArg (mat (M := 4096) (N := 768) (GQ Q K V' G)) hy).symm

include h0 hk hv h2 in
theorem arr6 : (dats m 0 c).arrAt 6 cfg0.N = mat (M := 4096) (N := 768) (GK Q K V' G) := by
  refine (dats m 0 c).arrAt_eq_of_covers 6 _ (by decide +kernel) fun t hf y => ?_
  obtain ⟨ht, e00, e01, e10, e11, e20, e21, e30, e31, e40, e41, e42, e43, e50, e51, e60, e61, e70, e71⟩ := idxs t
  have hd : (y 1).val < 128 := (y 1).isLt
  have hy : (win0_6.blk t).view.emb (ix2 (y 0) (y 1)) = (ix2 (y 0) ⟨128 * t.val + (y 1).val, by omega⟩ : (⟨2, ![4096, 768]⟩ : Shape).Idx) := by
    blk_ext [e60, e61]
  blk_simp
  rw [after6, eq_ix2 y]
  refine (aftK_is m c h0 hk hv h2 t (y 0) (y 1)).trans ?_
  exact (congrArg (mat (M := 4096) (N := 768) (GK Q K V' G)) hy).symm

include h0 hk hv h2 in
theorem arr7 : (dats m 0 c).arrAt 7 cfg0.N = mat (M := 4096) (N := 768) (GV Q K G) := by
  refine (dats m 0 c).arrAt_eq_of_covers 7 _ (by decide +kernel) fun t hf y => ?_
  obtain ⟨ht, e00, e01, e10, e11, e20, e21, e30, e31, e40, e41, e42, e43, e50, e51, e60, e61, e70, e71⟩ := idxs t
  have hd : (y 1).val < 128 := (y 1).isLt
  have hy : (win0_7.blk t).view.emb (ix2 (y 0) (y 1)) = (ix2 (y 0) ⟨128 * t.val + (y 1).val, by omega⟩ : (⟨2, ![4096, 768]⟩ : Shape).Idx) := by
    blk_ext [e70, e71]
  blk_simp
  rw [after7, eq_ix2 y]
  refine (aftV_is m c h0 hk hv h2 t (y 0) (y 1)).trans ?_
  exact (congrArg (mat (M := 4096) (N := 768) (GV Q K G)) hy).symm

end Cert.Hand.Sb
-- ==== Proof.Sb.lean ====
module

public import proofs.«01_k».proof.Proof.SbArr
public import proofs.«01_k».proof.Proof.Gen.StickBwdRefIdeal.Run
public import proofs.«01_k».proof.Proof.Gen.StickBwd
public import proofs.«01_k».proof.Proof.Gen.Pre_stick_bwd_finite
public import proofs.«01_k».proof.Defs

/-!
The stick-breaking attention's gradient: the kernel's blocks against the plain program.
-/

@[expose] public section

set_option maxRecDepth 16384

noncomputable section

namespace Cert.Hand.Sb

open Cert.StickBwdIdeal Cert.StickBwdIdeal.Gen
open Idealize.ShloMosaic Idealize.ShloMosaic.TcCoe Idealize.ShloMosaic.StableHlo Idealize.ShloMosaic.Tactic
open Idealize.SL Idealize.SL.Sem

section
variable (m : (ℓ : Loc nD τ sig) → Buf (Elt Ideal) ℓ)
  (hp : Cert.Pre_StickBwdIdeal_stick_bwd_finite (hPre_stick_bwd_finite := Cert.Pre_stick_bwd_finite.Gen.facts) m) (c : Dev nD)

include hp in
theorem fin0 (x : (⟨2, ![4096, 1024]⟩ : Shape).Idx → EReal) (hx : m ((c : Thread nD τ).loc main_arg0) = x) (i : (⟨2, ![4096, 1024]⟩ : Shape).Idx) :
    max (x i) (-(x i)) < ⊤ := by
  subst hx
  refine lt_top_of_cmp ?_
  have e := congrFun (hp c).1 i
  unfold Cert.Pre_stick_bwd_finite.fn at e
  exact e

include hp in
theorem fin1 (x : (⟨2, ![4096, 1536]⟩ : Shape).Idx → EReal) (hx : m ((c : Thread nD τ).loc main_arg1) = x) (i : (⟨2, ![4096, 1536]⟩ : Shape).Idx) :
    max (x i) (-(x i)) < ⊤ := by
  subst hx
  refine lt_top_of_cmp ?_
  have e := congrFun (hp c).2.1 i
  unfold Cert.Pre_stick_bwd_finite.fn at e
  exact e

include hp in
theorem fin2 (x : (⟨2, ![4096, 1024]⟩ : Shape).Idx → EReal) (hx : m ((c : Thread nD τ).loc main_arg2) = x) (i : (⟨2, ![4096, 1024]⟩ : Shape).Idx) :
    max (x i) (-(x i)) < ⊤ := by
  subst hx
  refine lt_top_of_cmp ?_
  have e := congrFun (hp c).2.2 i
  unfold Cert.Pre_stick_bwd_finite.fn at e
  exact e

/-- The projected queries, -/
def rQ : ℕ → ℕ → ℝ := re (M := 4096) (N := 1024) (m ((c : Thread nD τ).loc main_arg0))
/-- keys and values, -/
def rK : ℕ → ℕ → ℝ := re (M := 4096) (N := 1536) (m ((c : Thread nD τ).loc main_arg1))
/-- values alone, -/
def rV : ℕ → ℕ → ℝ := fun r k => rK m c r (768 + k)
/-- and the cotangent, as real numbers. -/
def rG : ℕ → ℕ → ℝ := re (M := 4096) (N := 1024) (m ((c : Thread nD τ).loc main_arg2))

/-- The queries' gradient, -/
def gQ : (⟨2, ![4096, 768]⟩ : Shape).Idx → EReal := mat (GQ (rQ m c) (rK m c) (rV m c) (rG m c))
/-- and the keys' beside the values'. -/
def gKV : (⟨2, ![4096, 1536]⟩ : Shape).Idx → EReal := mat fun r k =>
  if k < 768 then GK (rQ m c) (rK m c) (rV m c) (rG m c) r k else GV (rQ m c) (rK m c) (rG m c) r (k - 768)

include hp in
theorem real0 (i : S4096x1024.Idx) : (m ((c : Thread nD τ).loc main_arg0) : S4096x1024.Idx → EReal) i = ((rQ m c (i 0).val (i 1).val : ℝ) : EReal) :=
  re_eq (fin0 m hp c _ rfl) i
include hp in
theorem real1 (i : S4096x1536.Idx) : (m ((c : Thread nD τ).loc main_arg1) : S4096x1536.Idx → EReal) i = ((rK m c (i 0).val (i 1).val : ℝ) : EReal) :=
  re_eq (fin1 m hp c _ rfl) i
include hp in
theorem real2 (i : S4096x1024.Idx) : (m ((c : Thread nD τ).loc main_arg2) : S4096x1024.Idx → EReal) i = ((rG m c (i 0).val (i 1).val : ℝ) : EReal) :=
  re_eq (fin2 m hp c _ rfl) i

theorem cat_eq (f g : ℕ → ℕ → ℝ) : concatenate S4096x1536 1 [⟨S4096x768, mat (M := 4096) (N := 768) f⟩, ⟨S4096x768, mat (M := 4096) (N := 768) g⟩] concatenates_S4096x768_S4096x768_S4096x1536_d1
    = mat (M := 4096) (N := 1536) fun r k => if k < 768 then f r k else g r (k - 768) := by
  funext j
  by_cases h : (j 1).val < 768
  · refine (concatenate_pair_apply_left (t := S4096x1536) (s₁ := S4096x768) (s₂ := S4096x768) (1 : Fin 2) _ _ _ j rfl (ix2 (j 0) ⟨(j 1).val, h⟩) fun b => ?_).trans ?_
    · fin_cases b <;> rfl
    · show _ = ((if (j 1).val < 768 then f (j 0).val (j 1).val else g (j 0).val ((j 1).val - 768) : ℝ) : EReal)
      rw [if_pos h]
      rfl
  · have hj : (j 1).val < 1536 := (j 1).isLt
    refine (concatenate_pair_apply_right (t := S4096x1536) (s₁ := S4096x768) (s₂ := S4096x768) (1 : Fin 2) _ _ _ j rfl rfl (ix2 (j 0) ⟨(j 1).val - 768, by omega⟩) (fun b hb => ?_) ?_).trans ?_
    · fin_cases b
      · rfl
      · exact absurd rfl hb
    · show (j 1).val - 768 + 768 = (j 1).val
      omega
    · show _ = ((if (j 1).val < 768 then f (j 0).val (j 1).val else g (j 0).val ((j 1).val - 768) : ℝ) : EReal)
      rw [if_neg h]
      rfl

include hp in
theorem tail23 : Pipeline.afterTail₀ cfgs (dats m) 0 (V0 m) [hostOps1] c main_v23 = gKV m c := by
  show StableHlo.after (List.flatten [hostOps1]) _ (Proc.devRef .tc main_v23) = _
  simp only [List.flatten_cons, List.flatten_nil, List.append_nil, hostOps1, TRef.binary, TRef.toBuf, TRef.ofBuf, cast_eq]
  after_results_simp
  have hs : ∀ w w', w ≠ w' → Pipeline.arrRef spec0 w = Pipeline.arrRef spec0 w' → (dats m 0 c).arrAt w cfg0.N = V0 m c (Proc.devRef .tc (Pipeline.arrRef spec0 w)) :=
    (dats m 0 c).arrAt_sharedIn sharedIn0 (V0 m c) (A_eq m c) cfg0.N
  have e6 := Pipeline.withArrays_arr_shared spec0 c (V0 m c) (fun w => (dats m 0 c).arrAt w cfg0.N) hs 6
  have e7 := Pipeline.withArrays_arr_shared spec0 c (V0 m c) (fun w => (dats m 0 c).arrAt w cfg0.N) hs 7
  rw [arr6 m c (real0 m hp c) (real1 m hp c) (fun _ _ => rfl) (real2 m hp c)] at e6
  rw [arr7 m c (real0 m hp c) (real1 m hp c) (fun _ _ => rfl) (real2 m hp c)] at e7
  refine Eq.trans ?_ (cat_eq (GK (rQ m c) (rK m c) (rV m c) (rG m c)) (GV (rQ m c) (rK m c) (rG m c)))
  exact congrArg₂ (fun (a b : S4096x768.Idx → EReal) => concatenate S4096x1536 1 [⟨S4096x768, a⟩, ⟨S4096x768, b⟩] concatenates_S4096x768_S4096x768_S4096x1536_d1) e6 e7

include hp in
theorem run_value (ρ : Dev nD → PrngReg) : θ_run defs (onTc (τ := τ) (main (F := Ideal))) ⟨m, fun _ => 0, ρ⟩ (fun r => ∀ c : Dev nD,
      r.2.mem ((c : Thread nD τ).loc main_v22_0) = gQ m c
      ∧ r.2.mem ((c : Thread nD τ).loc main_v23) = gKV m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) := by
  refine (θ_run defs _ _).mono (fun r h c => ?_) (θ_run_and (run_main (F := Ideal) m ρ) (frame_run (F := Ideal) m ρ))
  refine ⟨((h.1 c).1 5).trans (arr5 m c (real0 m hp c) (real1 m hp c) (fun _ _ => rfl) (real2 m hp c)), ((h.1 c).2 main_v23 (by decide)).trans (tail23 m hp c), h.2.1 c⟩
end

theorem frame_bits (m : (ℓ : Loc Cert.StickBwd.nD Cert.StickBwd.τ Cert.StickBwd.sig) → Buf (Elt Bits) ℓ) (ρ : Dev Cert.StickBwd.nD → PrngReg) :
    θ_run Cert.StickBwd.defs (onTc (τ := Cert.StickBwd.τ) (Cert.StickBwd.main (F := Bits))) ⟨m, fun _ => 0, ρ⟩ (fun r => (∀ c : Dev Cert.StickBwd.nD,
      r.2.mem ((c : Thread Cert.StickBwd.nD Cert.StickBwd.τ).loc Cert.StickBwd.main_arg0) = m ((c : Thread Cert.StickBwd.nD Cert.StickBwd.τ).loc Cert.StickBwd.main_arg0)
      ∧ r.2.mem ((c : Thread Cert.StickBwd.nD Cert.StickBwd.τ).loc Cert.StickBwd.main_arg1) = m ((c : Thread Cert.StickBwd.nD Cert.StickBwd.τ).loc Cert.StickBwd.main_arg1)
      ∧ r.2.mem ((c : Thread Cert.StickBwd.nD Cert.StickBwd.τ).loc Cert.StickBwd.main_arg2) = m ((c : Thread Cert.StickBwd.nD Cert.StickBwd.τ).loc Cert.StickBwd.main_arg2))
      ∧ r.2.sem = fun _ => 0) :=
  Eq.mp (by sl_kernel_rfl) (frame_run (F := Bits) m ρ)

theorem frame_ref : Cert.quiescent_StickBwdRefIdeal (hStickBwdRefIdeal := Cert.StickBwdRefIdeal.Gen.facts) := fun m ρ _ =>
  (θ_run _ _ _).mono (fun r h => ⟨fun c => (h c).2.2, sem_eq_zero_of_no_sems (by decide) r.2⟩) (Cert.StickBwdRefIdeal.Value.run m ρ)

theorem alg : Cert.algebraic_StickBwdIdeal_StickBwdRefIdeal_pre_stick_bwd_finite (hStickBwdIdeal := Cert.StickBwdIdeal.Gen.facts)
    (hStickBwdRefIdeal := Cert.StickBwdRefIdeal.Gen.facts) (hPre_stick_bwd_finite := Cert.Pre_stick_bwd_finite.Gen.facts) := by
  intro m g m' g' hp hag
  refine ⟨gQ m, gKV m, run_value m hp g, ?_⟩
  refine (θ_run Cert.StickBwdRefIdeal.defs _ _).mono (fun r h c => ⟨(h c).1.trans ?_, (h c).2.1.trans ?_, (h c).2.2⟩) (Cert.StickBwdRefIdeal.Value.run m' g')
  · refine (Cert.StickBwdRefIdeal.Read.val_main_v62_eq _).trans ?_
    rw [show launchContents m' c (Proc.devRef .tc Cert.StickBwdRefIdeal.main_arg0) = _ from (hag c).1, show launchContents m' c (Proc.devRef .tc Cert.StickBwdRefIdeal.main_arg1) = _ from (hag c).2.1,
      show launchContents m' c (Proc.devRef .tc Cert.StickBwdRefIdeal.main_arg2) = _ from (hag c).2.2]
    funext j
    exact Ref.dq_apply (real0 m hp c) (real1 m hp c) (fun _ _ => rfl) (real2 m hp c) j
  · refine (Cert.StickBwdRefIdeal.Read.val_main_v63_eq _).trans ?_
    rw [show launchContents m' c (Proc.devRef .tc Cert.StickBwdRefIdeal.main_arg0) = _ from (hag c).1, show launchContents m' c (Proc.devRef .tc Cert.StickBwdRefIdeal.main_arg1) = _ from (hag c).2.1,
      show launchContents m' c (Proc.devRef .tc Cert.StickBwdRefIdeal.main_arg2) = _ from (hag c).2.2]
    funext j
    exact Ref.dkv_apply (real0 m hp c) (real1 m hp c) (fun _ _ => rfl) (real2 m hp c) j

end Cert.Hand.Sb
-- ==== Proof.Scale.lean ====
/- The gradient of the attention output's per-channel scale: the kernel's row blocks, whose column sums accumulate over the grid,
   against the reference's product and its sum over all the rows. -/
module

public import proofs.«01_k».proof.Proof.Sums
public import proofs.«01_k».proof.Proof.Gen.ScaleBwdIdeal.Value
public import proofs.«01_k».proof.Proof.Gen.ScaleBwdRefIdeal.Read
public import proofs.«01_k».proof.Proof.Gen.ScaleBwdRefIdeal.Run
public import proofs.«01_k».proof.Defs
public import Idealize.ShloMosaic.Lib.Pipeline.ValueKit

@[expose] public section

set_option maxRecDepth 16384

noncomputable section

namespace Cert.Hand.Scale

open Idealize.ShloMosaic Idealize.ShloMosaic.TcCoe Idealize.SL.Sem
open Cert.ScaleBwdIdeal Cert.ScaleBwdIdeal.Gen

theorem hz : (![0, 0] : Fin 2 → Nat) = fun _ => 0 := funext fun a => by fin_cases a <;> rfl

/-- The gradient with respect to the grouped attention output. -/
def gX (x : S4096x1024.Idx → EReal) (s : S1x768.Idx → EReal) (j : S4096x768.Idx) : EReal :=
  x (ix2 (j 0) ⟨(j 1).val, by have := (j 1).isLt; change (j 1).val < 768 at this; omega⟩) * s (ix2 (0 : Fin 1) (j 1))

/-- One row's part of the gradient with respect to the scale. -/
def part (x : S4096x1024.Idx → EReal) (g : S4096x768.Idx → EReal) (l : Fin 768) (n : ℕ) : EReal :=
  if h : n < 4096 then x (ix2 ⟨n, h⟩ ⟨l.val, by omega⟩) * g (ix2 ⟨n, h⟩ l) else 0

/-- The gradient with respect to the scale. -/
def gS (x : S4096x1024.Idx → EReal) (g : S4096x768.Idx → EReal) (j : S1x768.Idx) : EReal :=
  ∑ n ∈ Finset.range 4096, part x g (j 1) n

section Body

variable (c : Dev nD) (i : grid0.Coords) (a1 : Memref sig .tc .vmem S512x768 .bf16) (h1 : a1.IsWhole)
  (a2 : Memref sig .tc .vmem S512x768 .bf16) (h2 : a2.IsWhole) (a3 : Memref sig .tc .vmem S1x768 .f32) (h3 : a3.IsWhole)
  (a4 : Memref sig .tc .vmem S512x768 .bf16) (h4 : a4.IsWhole) (a5 : Memref sig .tc .vmem S1x768 .f32) (h5 : a5.IsWhole)
  (x0 x1 : Vec Ideal S512x768 .bf16) (x2 xo : Vec Ideal S1x768 .f32)

theorem out_A3 (hc : cond0_0 i) : out0_A_3 c i a1 h1 a2 h2 a3 h3 a4 h4 a5 h5 hc x0 x1 x2 = k0_pay2 x0 x2 := by
  unfold out0_A_3
  rw [View.read_writes_eq_canon _ _ _ (cover0_A_3 c i a1 h1 a2 h2 a3 h3 a4 h4 a5 h5 hc x0 x1 x2)]
  unfold kernelRun0_A
  dsimp only
  rw [View.canon_unit_zero hz]
  simp only [View.readAt_eq_ld, h1.read_unread, h3.read_unread, View.ld_unit_zero (S := S512x768) hz, View.ld_unit_zero (S := S1x768) hz]

theorem out_B3 (hc : ¬cond0_0 i) : out0_B_3 c i a1 h1 a2 h2 a3 h3 a4 h4 a5 h5 hc x0 x1 x2 xo = k0_pay2 x0 x2 := by
  unfold out0_B_3
  rw [View.read_writes_eq_canon _ _ _ (cover0_B_3 c i a1 h1 a2 h2 a3 h3 a4 h4 a5 h5 hc x0 x1 x2 xo)]
  unfold kernelRun0_B
  dsimp only
  rw [View.canon_unit_zero hz]
  simp only [View.readAt_eq_ld, h1.read_unread, h3.read_unread, View.ld_unit_zero (S := S512x768) hz, View.ld_unit_zero (S := S1x768) hz]

theorem out_A4 (hc : cond0_0 i) : out0_A_4 c i a1 h1 a2 h2 a3 h3 a4 h4 a5 h5 hc x0 x1 x2 = k0_pay4 x0 x1 (k0_pay3 (F := Ideal)) := by
  unfold out0_A_4
  rw [View.read_writes_eq_canon _ _ _ (cover0_A_4 c i a1 h1 a2 h2 a3 h3 a4 h4 a5 h5 hc x0 x1 x2)]
  unfold kernelRun0_A
  dsimp only
  sl_unfold_words
  rw [View.canon_cons_unit_zero (S := S1x768) hz, View.readCov_unit_zero (S := S1x768) _ hz]
  simp only [View.readAt_eq_ld, h1.read_unread, h2.read_unread, View.ld_unit_zero (S := S512x768) hz]

theorem out_B4 (hc : ¬cond0_0 i) : out0_B_4 c i a1 h1 a2 h2 a3 h3 a4 h4 a5 h5 hc x0 x1 x2 xo = k0_pay4 x0 x1 xo := by
  unfold out0_B_4
  rw [View.read_writes_eq_canon _ _ _ (cover0_B_4 c i a1 h1 a2 h2 a3 h3 a4 h4 a5 h5 hc x0 x1 x2 xo)]
  unfold kernelRun0_B
  dsimp only
  rw [View.canon_unit_zero hz]
  simp only [View.readAt_eq_ld, h1.read_unread, h2.read_unread, h5.read_unread, View.ld_unit_zero (S := S512x768) hz, View.ld_unit_zero (S := S1x768) hz]

theorem pay2_apply (r : Fin 512) (l : Fin 768) : k0_pay2 x0 x2 (ix2 r l) = (x0 (ix2 r l) : EReal) * (x2 (ix2 (0 : Fin 1) l) : EReal) := by
  pointwise [k0_pay2, k0_pay1]

theorem pay3_apply (l : Fin 768) : k0_pay3 (F := Ideal) (ix2 (0 : Fin 1) l) = (0 : EReal) := by
  pointwise [k0_pay3]

theorem pay4_apply (l : Fin 768) : k0_pay4 x0 x1 xo (ix2 (0 : Fin 1) l) = (xo (ix2 (0 : Fin 1) l) : EReal) + ∑ r : Fin 512, (x0 (ix2 r l) : EReal) * (x1 (ix2 r l) : EReal) := by
  pointwise [k0_pay4, k0_pay1]

end Body

theorem idx : ∀ t : Fin cfg0.N, win0_0.index t 0 = t.val ∧ win0_0.index t 1 = 0 ∧ win0_1.index t 0 = t.val ∧ win0_1.index t 1 = 0
    ∧ win0_2.index t 0 = 0 ∧ win0_2.index t 1 = 0 ∧ win0_3.index t 0 = t.val ∧ win0_3.index t 1 = 0 ∧ win0_4.index t 0 = 0 ∧ win0_4.index t 1 = 0 := by
  decide +kernel

variable (m : (ℓ : Loc nD τ sig) → Buf (Elt Ideal) ℓ) (c : Dev nD)

theorem in0 (t : Fin cfg0.N) (r : Fin 512) (l : Fin 768) :
    X0_0 m c t (ix2 r l) = m ((c : Thread nD τ).loc main_arg0) (ix2 (⟨512 * t.val + r.val, by have : t.val < 8 := t.isLt; omega⟩ : Fin 4096) (⟨l.val, by omega⟩ : Fin 1024)) := by
  obtain ⟨e0, e1, -⟩ := idx t
  unfold X0_0 Pipeline.Window.fill
  rw [dif_pos (moved0_0 t _)]
  blk_ext [iblk, V, e0, e1]

theorem in1 (t : Fin cfg0.N) (r : Fin 512) (l : Fin 768) :
    iblk m c 1 t (ix2 r l) = m ((c : Thread nD τ).loc main_arg1) (ix2 (⟨512 * t.val + r.val, by have : t.val < 8 := t.isLt; omega⟩ : Fin 4096) l) := by
  obtain ⟨-, -, e0, e1, -⟩ := idx t
  blk_ext [iblk, V, e0, e1]

theorem in2 (t : Fin cfg0.N) (l : Fin 768) :
    iblk m c 2 t (ix2 (0 : Fin 1) l) = m ((c : Thread nD τ).loc main_arg2) (ix2 (0 : Fin 1) l) := by
  obtain ⟨-, -, -, -, e0, e1, -⟩ := idx t
  blk_ext [iblk, V, e0, e1]

theorem part_block (t : Fin cfg0.N) (l : Fin 768) (r : Fin 512) (a b : S512x768.Idx → EReal) (ha : a = X0_0 m c t) (hb : b = iblk m c 1 t) :
    a (ix2 r l) * b (ix2 r l)
      = part (m ((c : Thread nD τ).loc main_arg0)) (m ((c : Thread nD τ).loc main_arg1)) l (512 * t.val + r.val) := by
  have ht : t.val < 8 := t.isLt
  have hr := r.isLt
  subst ha hb
  unfold part
  rw [in0, in1, dif_pos (by omega)]

/-- The running sum the scale's staging block holds after a point. -/
theorem acc_eq (l : Fin 768) : ∀ (n : ℕ) (h : n < cfg0.N), (outsAt0 m c n h).2 (ix2 (0 : Fin 1) l)
    = ∑ k ∈ Finset.range (512 * (n + 1)), part (m ((c : Thread nD τ).loc main_arg0)) (m ((c : Thread nD τ).loc main_arg1)) l k
  | 0, h => by
    rw [outsAt0_A m c ⟨0, h⟩ rfl]
    dsimp only
    rw [out_A4, pay4_apply, Finset.sum_congr rfl fun r _ => part_block m c ⟨0, h⟩ l r _ _ rfl rfl, Fin.sum_univ_eq_sum_range (fun r => part _ _ l (512 * 0 + r)) 512]
    simp only [Nat.mul_zero, Nat.zero_add, Nat.mul_one]
    rw [pay3_apply]
    exact zero_add (M := EReal) _
  | n + 1, h => by
    have hN : cfg0.N = 8 := N_0
    have hB : ¬(⟨n + 1, h⟩ : Fin cfg0.N).val % 8 = 0 := by dsimp only; omega
    rw [outsAt0_B m c ⟨n + 1, h⟩ hB]
    dsimp only
    rw [out_B4, pay4_apply, Finset.sum_congr rfl fun r _ => part_block m c ⟨n + 1, h⟩ l r _ _ rfl rfl, Fin.sum_univ_eq_sum_range (fun r => part _ _ l (512 * (n + 1) + r)) 512]
    rw [Nat.mul_add 512 (n + 1) 1, Finset.sum_range_add]
    exact congrArg (· + _) (acc_eq l n _)

theorem first_eq (t : Fin cfg0.N) : (outsAt0 m c t.val t.isLt).1 = k0_pay2 (X0_0 m c t) (iblk m c 2 t) := by
  by_cases h0 : t.val % 8 = 0
  · rw [outsAt0_A m c t h0]
    dsimp only
    rw [out_A3]
  · rw [outsAt0_B m c t h0]
    dsimp only
    rw [out_B3]

theorem block_eq (t : Fin cfg0.N) (r : Fin 512) (l : Fin 768) :
    (outsAt0 m c t.val t.isLt).1 (ix2 r l)
      = gX (m ((c : Thread nD τ).loc main_arg0)) (m ((c : Thread nD τ).loc main_arg2)) ((win0_3.blk t).view.emb (ix2 r l)) := by
  have ht : t.val < 8 := t.isLt
  have hr := r.isLt
  obtain ⟨-, -, -, -, -, -, e0, e1, -⟩ := idx t
  have hy : (win0_3.blk t).view.emb (ix2 r l) = (ix2 ⟨512 * t.val + r.val, by omega⟩ l : S4096x768.Idx) := by
    blk_ext [e0, e1]
  rw [hy, first_eq, pay2_apply, in0, in2]
  rfl

theorem arr3_eq : (dats m 0 c).arrAt 3 cfg0.N = gX (m ((c : Thread nD τ).loc main_arg0)) (m ((c : Thread nD τ).loc main_arg2)) := by
  refine (dats m 0 c).arrAt_eq_of_covers 3 _ (by decide +kernel) fun t hf y => ?_
  blk_simp
  rw [after0_3, eq_ix2 y]
  exact block_eq m c t (y 0) (y 1)

theorem arr4_eq : (dats m 0 c).arrAt 4 cfg0.N = gS (m ((c : Thread nD τ).loc main_arg0)) (m ((c : Thread nD τ).loc main_arg1)) := by
  refine (dats m 0 c).arrAt_eq_of_covers 4 _ (by decide +kernel) fun t hf y => ?_
  have h7 : t.val = 7 := by have := (flush0_4 t).mp hf; have : t.val < 8 := t.isLt; omega
  obtain ⟨-, -, -, -, -, -, -, -, e0, e1⟩ := idx t
  blk_simp
  rw [after0_4, eq_row0 (n := 768) y]
  have hy : (win0_4.blk t).view.emb (ix2 (0 : Fin 1) (y 1)) = (ix2 (0 : Fin 1) (y 1) : S1x768.Idx) := by
    blk_ext [e0, e1]
  refine Eq.trans ?_ (congrArg _ hy.symm)
  refine (acc_eq m c (y 1) t.val t.isLt).trans ?_
  rw [h7]
  rfl

open Cert.ScaleBwdRefIdeal.Read in
theorem ref_x (x : S4096x1024.Idx → EReal) (s : S1x768.Idx → EReal) (r : Fin 4096) (l : Fin 768) :
    val_main_v13 (F := Ideal) x s (ix2 r l) = gX x s (ix2 r l) := by
  pointwise [val_main_v13, val_main_v12, val_main_v11, val_main_v6, val_main_v0]
  rfl

open Cert.ScaleBwdRefIdeal.Read in
theorem ref_s (x : S4096x1024.Idx → EReal) (g : S4096x768.Idx → EReal) (l : Fin 768) :
    val_main_v10 (F := Ideal) x g (ix2 (0 : Fin 1) l) = gS x g (ix2 (0 : Fin 1) l) := by
  show _ = ∑ n ∈ Finset.range 4096, part x g l n
  rw [← Fin.sum_univ_eq_sum_range (fun n => part x g l n) 4096]
  pointwise [val_main_v10, val_main_v9, val_main_v8, val_main_v6, val_main_v1, val_main_v0, val_main_cst_0]
  refine Finset.sum_congr rfl fun n _ => ?_
  unfold part
  rw [dif_pos n.isLt]
  exact mul_comm _ _

theorem frame_ref : Cert.quiescent_ScaleBwdRefIdeal (hScaleBwdRefIdeal := Cert.ScaleBwdRefIdeal.Gen.facts) := fun m ρ _ =>
  (θ_run _ _ _).mono (fun r h => ⟨fun c => (h c).2.2, sem_eq_zero_of_no_sems (by decide) r.2⟩) (Cert.ScaleBwdRefIdeal.Value.run m ρ)

theorem alg : Cert.algebraic_ScaleBwdIdeal_ScaleBwdRefIdeal (hScaleBwdIdeal := Cert.ScaleBwdIdeal.Gen.facts)
    (hScaleBwdRefIdeal := Cert.ScaleBwdRefIdeal.Gen.facts) := by
  intro m g m' g' hpre hag
  refine ⟨fun c => gX (m ((c : Thread nD τ).loc main_arg0)) (m ((c : Thread nD τ).loc main_arg2)),
    fun c => gS (m ((c : Thread nD τ).loc main_arg0)) (m ((c : Thread nD τ).loc main_arg1)), ?_, ?_⟩
  · refine (θ_run defs _ _).mono (fun r h c => ⟨(h c).1.trans (arr3_eq m c), (h c).2.1.trans (arr4_eq m c), (h c).2.2⟩)
      (Cert.ScaleBwdIdeal.Value.run_blocks m g)
  · refine (θ_run Cert.ScaleBwdRefIdeal.defs _ _).mono (fun r h c => ⟨(h c).1.trans ?_, (h c).2.1.trans ?_, (h c).2.2⟩) (Cert.ScaleBwdRefIdeal.Value.run m' g')
    · rw [Cert.ScaleBwdRefIdeal.Read.val_main_v13_eq, (hag c).1, (hag c).2.2]
      funext j
      rw [eq_ix2 j]
      exact ref_x _ _ (j 0) (j 1)
    · rw [Cert.ScaleBwdRefIdeal.Read.val_main_v10_eq, (hag c).1, (hag c).2.1]
      funext j
      rw [eq_row0 (n := 768) j]
      exact ref_s _ _ (j 1)

end Cert.Hand.Scale

end
-- ==== Proof.Reals.lean ====
module

public import proofs.«01_k».proof.Proof.SbOps

/-!
More operations on vectors whose entries are real numbers: those of the gate and of the normalisations, in a kernel and in
a host program.
-/

@[expose] public section

namespace Cert.Hand.Sb

open Idealize.ShloMosaic Idealize.ShloMosaic.TcCoe

variable {M N K : ℕ} {φ : FTy}

/-- The logistic function of a real. -/
noncomputable def sig (x : ℝ) : ℝ := 1 / (1 + Real.exp (-x))

theorem exp_pos' (x : ℝ) : (1 : ℝ) + Real.exp (-x) ≠ 0 := by have := Real.exp_pos (-x); positivity

theorem coe_div {y : ℝ} (h : y ≠ 0) (x : ℝ) : Ideal.div (x : EReal) (y : EReal) = ((x / y : ℝ) : EReal) := by
  rw [Ideal.div_coe h, ← EReal.coe_mul, mul_one_div]

theorem isR_logistic {a : FVec Ideal ⟨2, ![M, N]⟩ φ} {f : ℕ → ℕ → ℝ} (ha : IsR a f) :
    IsR (logistic a) (fun r c => sig (f r c)) := fun r c => by
  show Ideal.logistic (a (ix2 r c)) = _
  rw [ha r c]
  show Ideal.div (1 : EReal) ((1 : EReal) + Ideal.exp (-((f r.val c.val : ℝ) : EReal))) = _
  rw [← EReal.coe_neg, show Ideal.exp ((-(f r.val c.val) : ℝ) : EReal) = ((Real.exp (-(f r.val c.val)) : ℝ) : EReal) from rfl,
    ← EReal.coe_one, ← EReal.coe_add, coe_div (exp_pos' _)]
  rfl

theorem isR_neg {a : FVec Ideal ⟨2, ![M, N]⟩ φ} {f : ℕ → ℕ → ℝ} (ha : IsR a f) :
    IsR (Host.negf a) (fun r c => -(f r c)) := fun r c =>
  (congrArg (fun z : EReal => -z) (ha r c)).trans (EReal.coe_neg _).symm

theorem isR_hexp {a : FVec Ideal ⟨2, ![M, N]⟩ φ} {f : ℕ → ℕ → ℝ} (ha : IsR a f) :
    IsR (Host.exp a) (fun r c => Real.exp (f r c)) := fun r c =>
  (congrArg Ideal.exp (ha r c)).trans (by rfl)

theorem isR_div {a b : FVec Ideal ⟨2, ![M, N]⟩ φ} {f g : ℕ → ℕ → ℝ} (ha : IsR a f) (hb : IsR b g) (hg : ∀ r c, g r c ≠ 0) :
    IsR (divf a b) (fun r c => f r c / g r c) := fun r c =>
  (congrArg₂ Ideal.div (ha r c) (hb r c)).trans (coe_div (hg _ _) _)

theorem isR_hdiv {a b : FVec Ideal ⟨2, ![M, N]⟩ φ} {f g : ℕ → ℕ → ℝ} (ha : IsR a f) (hb : IsR b g) (hg : ∀ r c, g r c ≠ 0) :
    IsR (Host.divf a b) (fun r c => f r c / g r c) := fun r c =>
  (congrArg₂ Ideal.div (ha r c) (hb r c)).trans (coe_div (hg _ _) _)

theorem coe_rsqrt {x : ℝ} (h : 0 < x) : Ideal.rsqrt (x : EReal) = (((Real.sqrt x)⁻¹ : ℝ) : EReal) := by
  show (if x < 0 then (⊥ : EReal) else if x = 0 then ⊤ else (((Real.sqrt x)⁻¹ : ℝ) : EReal)) = _
  rw [if_neg (not_lt.mpr h.le), if_neg h.ne']

theorem isR_rsqrt {a : FVec Ideal ⟨2, ![M, N]⟩ φ} {f : ℕ → ℕ → ℝ} (ha : IsR a f) (hf : ∀ r c, 0 < f r c) :
    IsR (rsqrt a) (fun r c => (Real.sqrt (f r c))⁻¹) := fun r c =>
  (congrArg Ideal.rsqrt (ha r c)).trans (coe_rsqrt (hf _ _))

theorem isR_hrsqrt {a : FVec Ideal ⟨2, ![M, N]⟩ φ} {f : ℕ → ℕ → ℝ} (ha : IsR a f) (hf : ∀ r c, 0 < f r c) :
    IsR (Host.rsqrt a) (fun r c => (Real.sqrt (f r c))⁻¹) := fun r c =>
  (congrArg Ideal.rsqrt (ha r c)).trans (coe_rsqrt (hf _ _))

theorem isR_row {a : FVec Ideal ⟨2, ![1, N]⟩ φ} {f : ℕ → ℕ → ℝ} (ha : IsR a f) (h : (⟨2, ![1, N]⟩ : Shape).Broadcasts ⟨2, ![M, N]⟩) :
    IsR (broadcastTo ⟨2, ![M, N]⟩ a h) (fun _ c => f 0 c) := by
  intro r c
  have e : broadcastTo ⟨2, ![M, N]⟩ a h (ix2 r c) = a (ix2 0 c) := by
    rw [Pointwise.broadcastTo_apply, Shape.Idx.norm_def]
    refine congrArg a ?_
    funext b; apply Fin.ext
    match b with
    | ⟨0, _⟩ => rfl
    | ⟨1, _⟩ =>
      show (if h1 : N = 1 then (⟨0, _⟩ : Fin N) else ⟨c.val, _⟩).val = c.val
      split
      · have := c.isLt; show 0 = c.val; omega
      · rfl
  rw [e]; exact ha 0 c

theorem isR_colSum {a : FVec Ideal ⟨2, ![M, N]⟩ .f32} {f : ℕ → ℕ → ℝ} (ha : IsR a f) (h : (⟨2, ![M, N]⟩ : Shape).Reduces [0] ⟨1, ![N]⟩)
    (p q) (hc : (⟨1, ![N]⟩ : Shape).ShapeCasts ⟨2, ![1, N]⟩) :
    IsR (shapeCast ⟨2, ![1, N]⟩ (multiReduction (F := Ideal) .add [0] ⟨1, ![N]⟩ a 0x00000000#32 h p q) hc)
      (fun _ c => ∑ k ∈ Finset.range M, f k c) := by
  intro r c
  have e : shapeCast ⟨2, ![1, N]⟩ (multiReduction (F := Ideal) .add [0] ⟨1, ![N]⟩ a 0x00000000#32 h p q) hc (ix2 r c)
      = ∑ k : Fin M, a (ix2 k c) := by
    have e1 : Shape.reshapeEquiv hc (ix2 r c) = ix1 c := by
      refine Shape.reshapeEquiv_eq_of_rowMajor _ ?_
      rw [rowMajor_val1, rowMajor_val2 _ N rfl]
      show c.val = r.val * N + c.val
      have : r.val = 0 := by have := r.isLt; omega
      rw [this]; omega
    pointwise []
    rw [e1]; rfl
  rw [e]
  refine Eq.trans ?_ (sumR M fun k => f k c).symm
  exact Finset.sum_congr rfl fun k _ => ha k c

/-- The entries of a product of rows against rows, in a host program. -/
theorem sum_mul {a b : Fin K → EReal} {f g : ℕ → ℝ} (ha : ∀ k, a k = ((f k.val : ℝ) : EReal)) (hb : ∀ k, b k = ((g k.val : ℝ) : EReal)) :
    ∑ k, a k * b k = ((∑ k ∈ Finset.range K, f k * g k : ℝ) : EReal) := by
  refine Eq.trans ?_ (sumR K fun k => f k * g k).symm
  exact Finset.sum_congr rfl fun k _ => by rw [ha, hb, EReal.coe_mul]

theorem sum_one {a : Fin K → EReal} {f : ℕ → ℝ} (ha : ∀ k, a k = ((f k.val : ℝ) : EReal)) :
    ∑ k, a k = ((∑ k ∈ Finset.range K, f k : ℝ) : EReal) := by
  refine Eq.trans ?_ (sumR K fun k => f k).symm
  exact Finset.sum_congr rfl fun k _ => ha k

/-- An array of numbers below infinity in absolute value has real entries. -/
theorem isR_re {x : (⟨2, ![M, N]⟩ : Shape).Idx → EReal}
    (hx : ∀ i, FloatOps.cmpf (F := Ideal) (φ := .f32) .olt (max (x i) (-(x i))) (FloatOps.ofBits .f32 0x7F800000#32) = 1) : IsR x (re x) :=
  fun r c => re_eq (fun i => lt_top_of_cmp (hx i)) (ix2 r c)

/-- Rows of an array with real entries. -/
theorem IsR.rows {v : (⟨2, ![K, N]⟩ : Shape).Idx → EReal} {f : ℕ → ℕ → ℝ} (h : IsR v f) {w : (⟨2, ![M, N]⟩ : Shape).Idx → EReal} (o : ℕ)
    (ho : o + M ≤ K) (hw : ∀ (r : Fin M) (c : Fin N), w (ix2 r c) = v (ix2 ⟨o + r.val, by have := r.isLt; omega⟩ c)) :
    IsR w (fun r c => f (o + r) c) := fun r c => (hw r c).trans (h _ c)

/-- The whole of an array with real entries. -/
theorem IsR.whole {v : (⟨2, ![M, N]⟩ : Shape).Idx → EReal} {f : ℕ → ℕ → ℝ} (h : IsR v f) {w : (⟨2, ![M, N]⟩ : Shape).Idx → EReal}
    (hw : ∀ (r : Fin M) (c : Fin N), w (ix2 r c) = v (ix2 r c)) : IsR w f := fun r c => (hw r c).trans (h r c)

theorem IsR.eq_mat {v : (⟨2, ![M, N]⟩ : Shape).Idx → EReal} {f : ℕ → ℕ → ℝ} (h : IsR v f) : v = mat f := by
  funext j
  rw [eq_ix2 j]
  exact h (j 0) (j 1)

end Cert.Hand.Sb
-- ==== Proof.Swiglu.lean ====
module

public import proofs.«01_k».proof.Proof.Reals
public import proofs.«01_k».proof.Proof.SbBlock
public import proofs.«01_k».proof.Proof.Gen.SwigluBwdIdeal.Value
public import proofs.«01_k».proof.Proof.Gen.SwigluBwdRefIdeal.Read
public import proofs.«01_k».proof.Proof.Gen.SwigluBwdRefIdeal.Run
public import proofs.«01_k».proof.Proof.Gen.Pre_swiglu_bwd_finite
public import proofs.«01_k».proof.Defs
public import Idealize.ShloMosaic.Lib.Pipeline.ValueKit
public meta import Idealize.ShloMosaic.Lib.Pointwise
public meta import Idealize.ShloMosaic.Lib.Pipeline.ValueKit

/-!
The gated feed-forward layer's gradient through its last product and its gate: what the kernel leaves, what the reference
computes, and that the two agree on real arguments.
-/

set_option maxRecDepth 16384

noncomputable section

@[expose] public section

namespace Cert.Hand.Swiglu

open Idealize.ShloMosaic Idealize.ShloMosaic.TcCoe Idealize.SL.Sem
open Cert.SwigluBwdIdeal Cert.SwigluBwdIdeal.Gen
open Cert.Hand.Sb

/-- The cotangent of the gated value, -/
def H (a w : ℕ → ℕ → ℝ) (r k : ℕ) : ℝ := ∑ i ∈ Finset.range 1024, a r i * w k i
/-- of the gate's argument, -/
def DG (a w g u : ℕ → ℕ → ℝ) (r k : ℕ) : ℝ := H a w r k * u r k * (sig (g r k) + g r k * sig (g r k) * (1 - sig (g r k)))
/-- and of the factor beside it. -/
def DU (a w g : ℕ → ℕ → ℝ) (r k : ℕ) : ℝ := H a w r k * (g r k * sig (g r k))
/-- The two side by side. -/
def D (a w g u : ℕ → ℕ → ℝ) (r k : ℕ) : ℝ := if k < 2816 then DG a w g u r k else DU a w g r (k - 2816)

section Block
variable {x0 : FVec Ideal S256x1024 .bf16} {x1 : FVec Ideal S2816x1024 .bf16} {x2 x3 : FVec Ideal S256x2816 .bf16}
  {a w g u : ℕ → ℕ → ℝ} (h0 : IsR x0 a) (h1 : IsR x1 w) (h2 : IsR x2 g) (h3 : IsR x3 u)

include h0 h1 in
theorem pay1_isR : IsR (M := 256) (N := 2816) (k0_pay1 (F := Ideal) x0 x1) (H a w) := isR_matmul_nt h0 h1

include h2 in
theorem pay3_isR : IsR (M := 256) (N := 2816) (k0_pay3 (F := Ideal) x2) (fun r k => sig (g r k)) := isR_logistic (φ := .f32) h2

include h2 in
theorem pay4_isR : IsR (M := 256) (N := 2816) (k0_pay4 (F := Ideal) x2) (fun r k => g r k * sig (g r k)) := isR_mul (φ := .f32) h2 (pay3_isR h2)

include h0 h1 h2 h3 in
theorem pay5_isR : IsR (M := 256) (N := 2816) (k0_pay5 (F := Ideal) x0 x1 x2 x3) (DG a w g u) :=
  isR_mul (φ := .f32) (isR_mul (φ := .f32) (pay1_isR h0 h1) h3)
    (isR_add (φ := .f32) (pay3_isR h2) (isR_mul (φ := .f32) (pay4_isR h2) (isR_sub (φ := .f32) (isR_bc one_bits) (pay3_isR h2))))

include h0 h1 h2 in
theorem pay6_isR : IsR (M := 256) (N := 2816) (k0_pay6 (F := Ideal) x0 x1 x2) (DU a w g) := isR_mul (φ := .f32) (pay1_isR h0 h1) (pay4_isR h2)

theorem hz : (![0, 0] : Fin 2 → Nat) = fun _ => 0 := funext fun a => by fin_cases a <;> rfl

include h0 h1 h2 h3 in
theorem out_isR : IsR (M := 256) (N := 5632) (out0_4 (F := Ideal) x0 x1 x2 x3) (D a w g u) := by
  intro r k
  unfold out0_4
  rw [View.ld_unit_zero (S := S256x1024) hz, View.ld_unit_zero (S := S2816x1024) hz, View.ld_unit_zero (S := S256x2816) hz,
    View.ld_unit_zero (S := S256x2816) hz]
  refine View.canon_apply_of_pieces (Val := Elt Ideal) (e := .bf16) (mat (D a w g u)) _ (fun p hp x => ?_) (ix2 r k) (cover0_4 _ _ _)
  rcases List.mem_cons.mp hp with rfl | hp
  · rw [eq_ix2 x]
    refine (pay6_isR h0 h1 h2 (x 0) (x 1)).trans ?_
    have e : (r0_4.emb (ix2 (x 0) (x 1)) : S256x5632.Idx) = ix2 (x 0) ⟨2816 + (x 1).val, by have : (x 1).val < 2816 := (x 1).isLt; omega⟩ := by
      blk_ext []
    refine Eq.trans ?_ (congrArg (mat (D a w g u)) e.symm)
    show _ = ((D a w g u (x 0).val (2816 + (x 1).val) : ℝ) : EReal)
    unfold D
    rw [if_neg (by omega), Nat.add_sub_cancel_left]
  · obtain rfl := List.mem_singleton.mp hp
    rw [eq_ix2 x]
    refine (pay5_isR h0 h1 h2 h3 (x 0) (x 1)).trans ?_
    have hx : (x 1).val < 2816 := (x 1).isLt
    have e : (r0_3.emb (ix2 (x 0) (x 1)) : S256x5632.Idx) = ix2 (x 0) ⟨(x 1).val, by omega⟩ := by
      blk_ext []
    refine Eq.trans ?_ (congrArg (mat (D a w g u)) e.symm)
    show _ = ((D a w g u (x 0).val (x 1).val : ℝ) : EReal)
    unfold D
    rw [if_pos hx]

end Block

theorem idx : ∀ t : Fin cfg0.N, win0_0.index t 0 = t.val ∧ win0_0.index t 1 = 0 ∧ win0_1.index t 0 = 0 ∧ win0_1.index t 1 = 0
    ∧ win0_2.index t 0 = t.val ∧ win0_2.index t 1 = 0 ∧ win0_3.index t 0 = t.val ∧ win0_3.index t 1 = 0
    ∧ win0_4.index t 0 = t.val ∧ win0_4.index t 1 = 0 := by
  decide +kernel

section Arr
variable (m : (ℓ : Loc nD τ sig) → Buf (Elt Ideal) ℓ) (c : Dev nD)

/-- The four arguments as real numbers. -/
def rA : ℕ → ℕ → ℝ := re (M := 4096) (N := 1024) (m ((c : Thread nD τ).loc main_arg0))
def rW : ℕ → ℕ → ℝ := re (M := 2816) (N := 1024) (m ((c : Thread nD τ).loc main_arg1))
def rG : ℕ → ℕ → ℝ := re (M := 4096) (N := 2816) (m ((c : Thread nD τ).loc main_arg2))
def rU : ℕ → ℕ → ℝ := re (M := 4096) (N := 2816) (m ((c : Thread nD τ).loc main_arg3))

variable (hp : Cert.Pre_SwigluBwdIdeal_swiglu_bwd_finite (hPre_swiglu_bwd_finite := Cert.Pre_swiglu_bwd_finite.Gen.facts) m)

include hp in
theorem args : IsR (M := 4096) (N := 1024) (m ((c : Thread nD τ).loc main_arg0)) (rA m c)
    ∧ IsR (M := 2816) (N := 1024) (m ((c : Thread nD τ).loc main_arg1)) (rW m c)
    ∧ IsR (M := 4096) (N := 2816) (m ((c : Thread nD τ).loc main_arg2)) (rG m c)
    ∧ IsR (M := 4096) (N := 2816) (m ((c : Thread nD τ).loc main_arg3)) (rU m c) := by
  have e := hp c
  unfold Cert.Pre_swiglu_bwd_finite.fn at e
  exact ⟨isR_re (congrFun e.1), isR_re (congrFun e.2.1), isR_re (congrFun e.2.2.1), isR_re (congrFun e.2.2.2)⟩

include hp in
theorem arr_eq : (dats m 0 c).arrAt 4 cfg0.N = mat (M := 4096) (N := 5632) (D (rA m c) (rW m c) (rG m c) (rU m c)) := by
  obtain ⟨hA, hW, hG, hU⟩ := args m c hp
  refine (dats m 0 c).arrAt_eq_of_covers 4 _ (by decide +kernel) fun t hf y => ?_
  obtain ⟨e00, e01, e10, e11, e20, e21, e30, e31, e40, e41⟩ := idx t
  have ht : t.val < 16 := t.isLt
  blk_simp
  rw [after0_4, eq_ix2 y]
  have b0 : IsR (M := 256) (N := 1024) (iblk m c 0 t) _ := hA.rows (256 * t.val) (by omega) fun r k => by blk_ext [iblk, V, e00, e01]
  have b1 : IsR (M := 2816) (N := 1024) (iblk m c 1 t) _ := hW.rows 0 (by omega) fun r k => by blk_ext [iblk, V, e10, e11]
  have b2 : IsR (M := 256) (N := 2816) (iblk m c 2 t) _ := hG.rows (256 * t.val) (by omega) fun r k => by blk_ext [iblk, V, e20, e21]
  have b3 : IsR (M := 256) (N := 2816) (iblk m c 3 t) _ := hU.rows (256 * t.val) (by omega) fun r k => by blk_ext [iblk, V, e30, e31]
  refine (out_isR b0 b1 b2 b3 (y 0) (y 1)).trans ?_
  have hy0 : (y 0).val < 256 := (y 0).isLt
  have hy : (win0_4.blk t).view.emb (ix2 (y 0) (y 1)) = (ix2 ⟨256 * t.val + (y 0).val, by omega⟩ (y 1) : (⟨2, ![4096, 5632]⟩ : Shape).Idx) := by
    blk_ext [e40, e41]
  refine Eq.trans ?_ (congrArg _ hy.symm)
  show _ = ((D (rA m c) (rW m c) (rG m c) (rU m c) (256 * t.val + (y 0).val) (y 1).val : ℝ) : EReal)
  unfold D DG DU H
  simp only [Nat.zero_add]

end Arr

section Ref
open Cert.SwigluBwdRefIdeal.Read
variable {x0 : FVec Ideal S4096x1024 .bf16} {x1 : FVec Ideal S2816x1024 .bf16} {x2 x3 : FVec Ideal S4096x2816 .bf16}
  {a w g u : ℕ → ℕ → ℝ} (h0 : IsR x0 a) (h1 : IsR x1 w) (h2 : IsR x2 g) (h3 : IsR x3 u)

include h2 h3 in
theorem v4_isR : IsR (val_main_v4 (F := Ideal) x2 x3) (fun r k => if k < 2816 then g r k else u r (k - 2816)) :=
  isR_cat (φ := .f32) h2 h3 _ rfl

include h2 h3 in
theorem v5_isR : IsR (val_main_v5 (F := Ideal) x2 x3) g := by
  refine (isR_slice (φ := .f32) 0 0 (v4_isR h2 h3) _).congr fun r k _ hk => ?_
  rw [Nat.zero_add, Nat.zero_add, if_pos hk]

include h2 h3 in
theorem v6_isR : IsR (val_main_v6 (F := Ideal) x2 x3) u := by
  refine (isR_slice (φ := .f32) 0 2816 (v4_isR h2 h3) _).congr fun r k _ hk => ?_
  rw [Nat.zero_add, if_neg (by omega), Nat.add_sub_cancel_left]

theorem one_isR : IsR (val_main_call0_v2 (F := Ideal)) (fun _ _ => 1) := fun _ _ => one_bits

include h2 h3 in
theorem v7_isR : IsR (val_main_v7_2 (F := Ideal) x2 x3) (fun r k => sig (g r k)) :=
  isR_hdiv (φ := .f32) one_isR (isR_add (φ := .f32) one_isR (isR_hexp (φ := .f32) (isR_neg (φ := .f32) (v5_isR h2 h3))))
    fun _ _ => exp_pos' _

include h0 h1 in
theorem v10_isR : IsR (val_main_v10 (F := Ideal) x0 x1) (H a w) := by
  intro r k
  pointwise [val_main_v10]
  exact sum_mul (fun i => h0 r i) fun i => h1 k i

include h0 h1 h2 h3 in
theorem v12_isR : IsR (val_main_v12 (F := Ideal) x0 x1 x2 x3) (fun r k => H a w r k * u r k) :=
  isR_mul (φ := .f32) (v10_isR h0 h1) (v6_isR h2 h3)

include h0 h1 h2 h3 in
theorem v13_isR : IsR (val_main_v13 (F := Ideal) x0 x1 x2 x3) (DG a w g u) := by
  refine (isR_add (φ := .f32) (isR_mul (φ := .f32) (v12_isR h0 h1 h2 h3) (v7_isR h2 h3))
    (isR_mul (φ := .f32) (isR_mul (φ := .f32) (v5_isR h2 h3) (v12_isR h0 h1 h2 h3))
      (isR_mul (φ := .f32) (v7_isR h2 h3) (isR_sub (φ := .f32) one_isR (v7_isR h2 h3))))).congr fun r k _ _ => ?_
  unfold DG
  ring

include h0 h1 h2 h3 in
theorem v11_isR : IsR (val_main_v11 (F := Ideal) x0 x1 x2 x3) (DU a w g) := by
  refine (isR_mul (φ := .f32) (isR_mul (φ := .f32) (v5_isR h2 h3) (v7_isR h2 h3)) (v10_isR h0 h1)).congr fun r k _ _ => ?_
  unfold DU
  ring

include h0 h1 h2 h3 in
theorem ref_eq : val_main_v15 (F := Ideal) x0 x1 x2 x3 = mat (M := 4096) (N := 5632) (D a w g u) :=
  IsR.eq_mat (isR_cat (φ := .f32) (v13_isR h0 h1 h2 h3) (v11_isR h0 h1 h2 h3) Cert.SwigluBwdRefIdeal.Gen.concatenates_S4096x2816_S4096x2816_S4096x5632_d1 rfl)

end Ref

theorem frame_ref : Cert.quiescent_SwigluBwdRefIdeal (hSwigluBwdRefIdeal := Cert.SwigluBwdRefIdeal.Gen.facts) := fun m ρ _ =>
  (θ_run _ _ _).mono (fun r h => ⟨fun c => (h c).2, sem_eq_zero_of_no_sems (by decide) r.2⟩) (Cert.SwigluBwdRefIdeal.Value.run m ρ)

theorem alg : Cert.algebraic_SwigluBwdIdeal_SwigluBwdRefIdeal_pre_swiglu_bwd_finite (hSwigluBwdIdeal := Cert.SwigluBwdIdeal.Gen.facts)
    (hSwigluBwdRefIdeal := Cert.SwigluBwdRefIdeal.Gen.facts) (hPre_swiglu_bwd_finite := Cert.Pre_swiglu_bwd_finite.Gen.facts) := by
  intro m g m' g' hpre hag
  refine ⟨fun c => mat (M := 4096) (N := 5632) (D (rA m c) (rW m c) (rG m c) (rU m c)), ?_, ?_⟩
  · exact (θ_run defs _ _).mono (fun r h c => ⟨(h c).1.trans (arr_eq m c hpre), (h c).2⟩) (Cert.SwigluBwdIdeal.Value.run_blocks m g)
  · refine (θ_run Cert.SwigluBwdRefIdeal.defs _ _).mono (fun r h c => ⟨(h c).1.trans ?_, (h c).2⟩) (Cert.SwigluBwdRefIdeal.Value.run m' g')
    rw [Cert.SwigluBwdRefIdeal.Read.val_main_v15_eq, (hag c).1, (hag c).2.1, (hag c).2.2.1, (hag c).2.2.2]
    obtain ⟨hA, hW, hG, hU⟩ := args m c hpre
    exact ref_eq hA hW hG hU

end Cert.Hand.Swiglu

end
-- ==== Proof.Norm.lean ====
module

public import proofs.«01_k».proof.Proof.Reals
public import proofs.«01_k».proof.Proof.SbBlock
public meta import Idealize.ShloMosaic.Lib.Pointwise

/-!
The root-mean-square normalisation of a row of real numbers and its gradient: in a kernel, and as the host program the
derivative of the forward lines gives.
-/

@[expose] public section

namespace Cert.Hand.Norm

open Idealize.ShloMosaic Idealize.ShloMosaic.TcCoe Cert.Hand.Sb

/-- The normalisation's small constant. -/
noncomputable def eps : ℝ := (Ideal.ofBits .f32 0x358637BD#32).toReal

theorem eps_val : ∃ e : ℝ, 0 < e ∧ Ideal.ofBits .f32 0x358637BD#32 = (e : EReal) := by
  refine ⟨_, ?_, by simp [Ideal.ofBits, Ideal.ieee, -EReal.coe_mul]; rfl⟩
  positivity

theorem eps_bits : (Scalar.ofBits .f32 0x358637BD#32 : Ideal .f32) = (eps : EReal) := by
  obtain ⟨e, -, h⟩ := eps_val
  show Ideal.ofBits .f32 0x358637BD#32 = _
  unfold eps
  rw [h, EReal.toReal_coe]

theorem eps_pos : 0 < eps := by
  obtain ⟨e, he, h⟩ := eps_val
  unfold eps
  rw [h, EReal.toReal_coe]
  exact he

theorem width_bits : (Scalar.ofBits .f32 0x44800000#32 : Ideal .f32) = ((1024 : ℝ) : EReal) := by
  show Ideal.ofBits .f32 0x44800000#32 = _
  simp [Ideal.ofBits, Ideal.ieee, -EReal.coe_mul]; norm_num

theorem half_bits : (Scalar.ofBits .f32 0x3F000000#32 : Ideal .f32) = ((1 / 2 : ℝ) : EReal) := by
  show Ideal.ofBits .f32 0x3F000000#32 = _
  simp [Ideal.ofBits, Ideal.ieee, -EReal.coe_mul]; norm_num

theorem two_bits : (Scalar.ofBits .f32 0x40000000#32 : Ideal .f32) = ((2 : ℝ) : EReal) := by
  show Ideal.ofBits .f32 0x40000000#32 = _
  simp [Ideal.ofBits, Ideal.ieee, -EReal.coe_mul]; norm_num

theorem neg_half_bits : (Scalar.ofBits .f32 0xBF000000#32 : Ideal .f32) = ((-(1 / 2) : ℝ) : EReal) := by
  show Ideal.ofBits .f32 0xBF000000#32 = _
  simp [Ideal.ofBits, Ideal.ieee, -EReal.coe_mul, -EReal.coe_neg]; norm_num

/-- A row's mean square, -/
noncomputable def dn (x : ℕ → ℝ) : ℝ := (∑ k ∈ Finset.range 1024, x k * x k) / 1024 + eps
/-- the factor it is multiplied by, -/
noncomputable def iv (x : ℕ → ℝ) : ℝ := (Real.sqrt (dn x))⁻¹
/-- the normalised row, -/
noncomputable def xh (x : ℕ → ℝ) (k : ℕ) : ℝ := x k * iv x
/-- and the gradient of the row under a cotangent `y` of the normalised one. -/
noncomputable def dx (x y : ℕ → ℝ) (k : ℕ) : ℝ := iv x * (y k - xh x k * ((∑ i ∈ Finset.range 1024, y i * xh x i) / 1024))
/-- The factor by which the row itself enters the derivative. -/
noncomputable def tf (x y : ℕ → ℝ) : ℝ := (∑ i ∈ Finset.range 1024, x i * y i) * (-(1 / 2) * (iv x / dn x)) / 1024

/-- A product against rows. -/
def pr (K : ℕ) (a b : ℕ → ℕ → ℝ) (r k : ℕ) : ℝ := ∑ i ∈ Finset.range K, a r i * b k i

theorem dx_add (x y z : ℕ → ℝ) (k : ℕ) : dx x (fun k => y k + z k) k = dx x y k + dx x z k := by
  unfold dx
  simp only [add_mul, Finset.sum_add_distrib, add_div]
  ring

theorem dn_pos (x : ℕ → ℝ) : 0 < dn x := by
  have : 0 ≤ ∑ k ∈ Finset.range 1024, x k * x k := Finset.sum_nonneg fun k _ => mul_self_nonneg (x k)
  have := eps_pos
  unfold dn
  positivity

/-- The derivative's two terms in the row and its term in the cotangent make the gradient. -/
theorem dx_ref (x y : ℕ → ℝ) (k : ℕ) : y k * iv x + x k * tf x y + tf x y * x k = dx x y k := by
  have h := dn_pos x
  have hs : Real.sqrt (dn x) ≠ 0 := (Real.sqrt_pos.mpr h).ne'
  have e : dn x = Real.sqrt (dn x) * Real.sqrt (dn x) := (Real.mul_self_sqrt h.le).symm
  have e2 : (∑ i ∈ Finset.range 1024, y i * xh x i) = (∑ i ∈ Finset.range 1024, x i * y i) * iv x := by
    rw [Finset.sum_mul]
    refine Finset.sum_congr rfl fun i _ => ?_
    unfold xh
    ring
  unfold dx
  rw [e2]
  unfold tf xh iv
  generalize (∑ i ∈ Finset.range 1024, x i * y i) = S
  generalize Real.sqrt (dn x) = s at e hs ⊢
  rw [e]
  field_simp
  ring

section Kernel
variable {M : ℕ} {x y : FVec Ideal ⟨2, ![M, 1024]⟩ .f32} {f g : ℕ → ℕ → ℝ} (hx : IsR x f) (hy : IsR y g)
  (hr : (⟨2, ![M, 1024]⟩ : Shape).Reduces [1] ⟨1, ![M]⟩) (p q) (hc : (⟨1, ![M]⟩ : Shape).ShapeCasts ⟨2, ![M, 1]⟩)
  (hb : (⟨2, ![M, 1]⟩ : Shape).Broadcasts ⟨2, ![M, 1024]⟩)

theorem width_ne (_ _ : ℕ) : (1024 : ℝ) ≠ 0 := by norm_num

include hx in
theorem isR_mean : IsR (divf (shapeCast ⟨2, ![M, 1]⟩ (multiReduction (F := Ideal) .add [1] ⟨1, ![M]⟩ x 0x00000000#32 hr p q) hc)
    (broadcast ⟨2, ![M, 1]⟩ (Scalar.ofBits .f32 0x44800000#32 : Ideal .f32))) (fun r _ => (∑ k ∈ Finset.range 1024, f r k) / 1024) :=
  isR_div (φ := .f32) (isR_rowSum hx hr p q hc) (isR_bc width_bits) width_ne

include hx in
theorem isR_iv : IsR (rsqrt (addf (divf (shapeCast ⟨2, ![M, 1]⟩ (multiReduction (F := Ideal) .add [1] ⟨1, ![M]⟩ (mulf x x) 0x00000000#32 hr p q) hc)
    (broadcast ⟨2, ![M, 1]⟩ (Scalar.ofBits .f32 0x44800000#32 : Ideal .f32)))
    (broadcast ⟨2, ![M, 1]⟩ (Scalar.ofBits .f32 0x358637BD#32 : Ideal .f32)))) (fun r _ => iv (f r)) :=
  isR_rsqrt (φ := .f32) (isR_add (φ := .f32) (isR_mean (isR_mul (φ := .f32) hx hx) hr p q hc) (isR_bc eps_bits)) fun r _ => dn_pos (f r)

include hx in
theorem isR_xh {v : FVec Ideal ⟨2, ![M, 1]⟩ .f32} (hv : IsR v (fun r _ => iv (f r))) :
    IsR (mulf x (broadcastTo ⟨2, ![M, 1024]⟩ v hb)) (fun r k => xh (f r) k) :=
  isR_mul (φ := .f32) hx (isR_col (φ := .f32) hv hb)

include hy in
theorem isR_dx {v : FVec Ideal ⟨2, ![M, 1]⟩ .f32} (hv : IsR v (fun r _ => iv (f r)))
    {n : FVec Ideal ⟨2, ![M, 1024]⟩ .f32} (hn : IsR n (fun r k => xh (f r) k)) :
    IsR (mulf (broadcastTo ⟨2, ![M, 1024]⟩ v hb) (subf y (mulf n (broadcastTo ⟨2, ![M, 1024]⟩
      (divf (shapeCast ⟨2, ![M, 1]⟩ (multiReduction (F := Ideal) .add [1] ⟨1, ![M]⟩ (mulf y n) 0x00000000#32 hr p q) hc)
        (broadcast ⟨2, ![M, 1]⟩ (Scalar.ofBits .f32 0x44800000#32 : Ideal .f32))) hb)))) (fun r k => dx (f r) (g r) k) :=
  isR_mul (φ := .f32) (isR_col (φ := .f32) hv hb) (isR_sub (φ := .f32) hy (isR_mul (φ := .f32) hn
    (isR_col (φ := .f32) (isR_mean (isR_mul (φ := .f32) hy hn) hr p q hc) hb)))

end Kernel

section Acc
variable {N : ℕ}

theorem isR_self {M : ℕ} {a : FVec Ideal ⟨2, ![M, N]⟩ .f32} {f : ℕ → ℕ → ℝ} (ha : IsR a f) (hc : (⟨2, ![M, N]⟩ : Shape).ShapeCasts ⟨2, ![M, N]⟩) :
    IsR (shapeCast ⟨2, ![M, N]⟩ a hc) f := fun r c =>
  (congrArg a (Shape.reshapeEquiv_eq_of_rowMajor _ rfl)).trans (ha r c)

/-- A running column sum and a block's column sum added to it. -/
theorem isR_acc {B n : ℕ} {a b : FVec Ideal ⟨2, ![1, N]⟩ .f32} {p : ℕ → ℕ → ℝ} (ha : IsR a (fun _ k => ∑ i ∈ Finset.range (B * n), p i k))
    (hb : IsR b (fun _ k => ∑ i ∈ Finset.range B, p (B * n + i) k)) (hc : (⟨2, ![1, N]⟩ : Shape).ShapeCasts ⟨2, ![1, N]⟩) :
    IsR (addf (shapeCast ⟨2, ![1, N]⟩ a hc) b) (fun _ k => ∑ i ∈ Finset.range (B * (n + 1)), p i k) := by
  refine (isR_add (φ := .f32) (isR_self ha hc) hb).congr fun r k _ _ => ?_
  rw [Nat.mul_add B n 1, Nat.mul_one, Finset.sum_range_add]

theorem isR_zero : IsR (M := 1) (N := N) (broadcast (α := Ideal .f32) ⟨2, ![1, N]⟩ (Scalar.ofBits .f32 0x00000000#32 : Ideal .f32)) (fun _ _ => 0) :=
  isR_bc zero_bits

end Acc

section Host
variable {M N : ℕ} {x y : FVec Ideal ⟨2, ![M, N]⟩ .f32} {f g : ℕ → ℕ → ℝ} (hx : IsR x f)
  (hu : 0 < (⟨0, ![]⟩ : Shape).numel)

/-- A host constant spread over an array. -/
theorem isR_hconst {b : BitVec 32} {z : ℝ} (h : (Scalar.ofBits .f32 b : Ideal .f32) = (z : EReal))
    (hb : (⟨0, ![]⟩ : Shape).BroadcastsInDim ⟨2, ![M, N]⟩ (![] : Fin 0 → Fin 2)) :
    IsR (broadcastInDim (α := Ideal .f32) ⟨2, ![M, N]⟩ ![] hb (constant (F := Ideal) ⟨0, ![]⟩ .f32 b)) (fun _ _ => z) := fun _ _ => h

theorem hvec_apply (v : FVec Ideal ⟨1, ![M]⟩ .f32) (hb : (⟨1, ![M]⟩ : Shape).BroadcastsInDim ⟨2, ![M, N]⟩ (![0] : Fin 1 → Fin 2)) (r : Fin M)
    (c : Fin N) : broadcastInDim (α := Ideal .f32) ⟨2, ![M, N]⟩ ![0] hb v (ix2 r c) = v (ix1 r) := by
  rw [Pointwise.broadcastInDim_apply, Shape.Idx.norm_def]
  refine congrArg v ?_
  funext b; apply Fin.ext
  match b with
  | ⟨0, _⟩ =>
    show (if h1 : M = 1 then (⟨0, _⟩ : Fin M) else ⟨r.val, _⟩).val = r.val
    split
    · have := r.isLt; show 0 = r.val; omega
    · rfl

theorem cast_col (v : FVec Ideal ⟨1, ![M]⟩ .f32) (hc : (⟨1, ![M]⟩ : Shape).ShapeCasts ⟨2, ![M, 1]⟩) (r : Fin M) (c : Fin 1) :
    shapeCast ⟨2, ![M, 1]⟩ v hc (ix2 r c) = v (ix1 r) := by
  refine congrArg v (Shape.reshapeEquiv_eq_of_rowMajor _ ?_)
  rw [rowMajor_val1, rowMajor_val2 _ 1 rfl]
  show r.val = r.val * 1 + c.val
  have := c.isLt; omega

theorem cast_row (v : FVec Ideal ⟨1, ![N]⟩ .f32) (hc : (⟨1, ![N]⟩ : Shape).ShapeCasts ⟨2, ![1, N]⟩) (r : Fin 1) (c : Fin N) :
    shapeCast ⟨2, ![1, N]⟩ v hc (ix2 r c) = v (ix1 c) := by
  refine congrArg v (Shape.reshapeEquiv_eq_of_rowMajor _ ?_)
  rw [rowMajor_val1, rowMajor_val2 _ N rfl]
  show c.val = r.val * N + c.val
  have : r.val = 0 := by have := r.isLt; omega
  rw [this]; omega

include hx in
theorem isR_hrowSum (hr : (⟨2, ![M, N]⟩ : Shape).ReducesTo [1] ⟨1, ![M]⟩)
    (hb : (⟨1, ![M]⟩ : Shape).BroadcastsInDim ⟨2, ![M, 1]⟩ (![0] : Fin 1 → Fin 2)) :
    IsR (broadcastInDim (α := Ideal .f32) ⟨2, ![M, 1]⟩ ![0] hb (Host.reduceAdd x (constant (F := Ideal) ⟨0, ![]⟩ .f32 0x00000000#32) hr hu))
      (fun r _ => ∑ k ∈ Finset.range N, f r k) := by
  intro r c
  rw [hvec_apply]
  pointwise []
  exact sum_one fun k => hx r k

include hx in
theorem isR_hrowSum' (hr : (⟨2, ![M, N]⟩ : Shape).ReducesTo [1] ⟨1, ![M]⟩) (hc : (⟨1, ![M]⟩ : Shape).ShapeCasts ⟨2, ![M, 1]⟩) :
    IsR (shapeCast ⟨2, ![M, 1]⟩ (Host.reduceAdd x (constant (F := Ideal) ⟨0, ![]⟩ .f32 0x00000000#32) hr hu) hc)
      (fun r _ => ∑ k ∈ Finset.range N, f r k) := by
  intro r c
  rw [cast_col]
  pointwise []
  exact sum_one fun k => hx r k

include hx in
theorem isR_hcolSum (hr : (⟨2, ![M, N]⟩ : Shape).ReducesTo [0] ⟨1, ![N]⟩) (hc : (⟨1, ![N]⟩ : Shape).ShapeCasts ⟨2, ![1, N]⟩) :
    IsR (shapeCast ⟨2, ![1, N]⟩ (Host.reduceAdd x (constant (F := Ideal) ⟨0, ![]⟩ .f32 0x00000000#32) hr hu) hc)
      (fun _ c => ∑ k ∈ Finset.range M, f k c) := by
  intro r c
  rw [cast_row]
  pointwise []
  exact sum_one fun k => hx k c

theorem isR_hspread {v : FVec Ideal ⟨2, ![M, 1]⟩ .f32} (hv : IsR v f) (hr : (⟨2, ![M, 1]⟩ : Shape).ReducesTo [1] ⟨1, ![M]⟩)
    (hb : (⟨1, ![M]⟩ : Shape).BroadcastsInDim ⟨2, ![M, N]⟩ (![0] : Fin 1 → Fin 2)) :
    IsR (broadcastInDim (α := Ideal .f32) ⟨2, ![M, N]⟩ ![0] hb (Host.reduceAdd v (constant (F := Ideal) ⟨0, ![]⟩ .f32 0x00000000#32) hr hu))
      (fun r _ => f r 0) := by
  intro r c
  rw [hvec_apply]
  pointwise []
  rw [Fin.sum_univ_one]
  exact hv r 0

theorem isR_hcol {v : FVec Ideal ⟨2, ![M, 1]⟩ .f32} (hv : IsR v f)
    (hb : (⟨2, ![M, 1]⟩ : Shape).BroadcastsInDim ⟨2, ![M, N]⟩ (![0, 1] : Fin 2 → Fin 2)) :
    IsR (broadcastInDim (α := Ideal .f32) ⟨2, ![M, N]⟩ ![0, 1] hb v) (fun r _ => f r 0) := by
  intro r c
  rw [Pointwise.broadcastInDim_apply, Shape.Idx.norm_def]
  refine Eq.trans (congrArg v ?_) (hv r 0)
  funext b; apply Fin.ext
  match b with
  | ⟨0, _⟩ =>
    show (if h1 : M = 1 then (⟨0, _⟩ : Fin M) else ⟨r.val, _⟩).val = r.val
    split
    · have := r.isLt; show 0 = r.val; omega
    · rfl
  | ⟨1, _⟩ => rfl

theorem isR_hrow {v : FVec Ideal ⟨2, ![1, N]⟩ .f32} (hv : IsR v f)
    (hb : (⟨2, ![1, N]⟩ : Shape).BroadcastsInDim ⟨2, ![M, N]⟩ (![0, 1] : Fin 2 → Fin 2)) :
    IsR (broadcastInDim (α := Ideal .f32) ⟨2, ![M, N]⟩ ![0, 1] hb v) (fun _ c => f 0 c) := by
  intro r c
  rw [Pointwise.broadcastInDim_apply, Shape.Idx.norm_def]
  refine Eq.trans (congrArg v ?_) (hv 0 c)
  funext b; apply Fin.ext
  match b with
  | ⟨0, _⟩ => rfl
  | ⟨1, _⟩ =>
    show (if h1 : N = 1 then (⟨0, _⟩ : Fin N) else ⟨c.val, _⟩).val = c.val
    split
    · have := c.isLt; show 0 = c.val; omega
    · rfl

end Host

section HostNorm
variable {M : ℕ} {x y : FVec Ideal ⟨2, ![M, 1024]⟩ .f32} {f g : ℕ → ℕ → ℝ} (hx : IsR x f) (hy : IsR y g)
  (hu : 0 < (⟨0, ![]⟩ : Shape).numel) (hr : (⟨2, ![M, 1024]⟩ : Shape).ReducesTo [1] ⟨1, ![M]⟩)
  (hb : (⟨1, ![M]⟩ : Shape).BroadcastsInDim ⟨2, ![M, 1]⟩ (![0] : Fin 1 → Fin 2))
  (h0 : (⟨0, ![]⟩ : Shape).BroadcastsInDim ⟨2, ![M, 1]⟩ (![] : Fin 0 → Fin 2))
  (hc : (⟨1, ![M]⟩ : Shape).ShapeCasts ⟨2, ![M, 1]⟩)
  (h1 : (⟨2, ![M, 1]⟩ : Shape).ReducesTo [1] ⟨1, ![M]⟩)
  (hs : (⟨1, ![M]⟩ : Shape).BroadcastsInDim ⟨2, ![M, 1024]⟩ (![0] : Fin 1 → Fin 2))

include hx in
theorem isR_hdn : IsR (addf (Host.divf
      (broadcastInDim (α := Ideal .f32) ⟨2, ![M, 1]⟩ ![0] hb (Host.reduceAdd (mulf x x) (constant (F := Ideal) ⟨0, ![]⟩ .f32 0x00000000#32) hr hu))
      (broadcastInDim (α := Ideal .f32) ⟨2, ![M, 1]⟩ ![] h0 (constant (F := Ideal) ⟨0, ![]⟩ .f32 0x44800000#32)))
    (broadcastInDim (α := Ideal .f32) ⟨2, ![M, 1]⟩ ![] h0 (constant (F := Ideal) ⟨0, ![]⟩ .f32 0x358637BD#32))) (fun r _ => dn (f r)) :=
  isR_add (φ := .f32) (isR_hdiv (φ := .f32) (isR_hrowSum (isR_mul (φ := .f32) hx hx) hu hr hb) (isR_hconst width_bits h0) width_ne)
    (isR_hconst eps_bits h0)

include hx hy in
theorem isR_htf {d v : FVec Ideal ⟨2, ![M, 1]⟩ .f32} (hd : IsR d (fun r _ => dn (f r))) (hv : IsR v (fun r _ => iv (f r))) :
    IsR (broadcastInDim (α := Ideal .f32) ⟨2, ![M, 1024]⟩ ![0] hs (Host.reduceAdd (Host.divf
        (mulf (shapeCast ⟨2, ![M, 1]⟩ (Host.reduceAdd (mulf x y) (constant (F := Ideal) ⟨0, ![]⟩ .f32 0x00000000#32) hr hu) hc)
          (mulf (broadcastInDim (α := Ideal .f32) ⟨2, ![M, 1]⟩ ![] h0 (constant (F := Ideal) ⟨0, ![]⟩ .f32 0xBF000000#32)) (Host.divf v d)))
        (broadcastInDim (α := Ideal .f32) ⟨2, ![M, 1]⟩ ![] h0 (constant (F := Ideal) ⟨0, ![]⟩ .f32 0x44800000#32)))
      (constant (F := Ideal) ⟨0, ![]⟩ .f32 0x00000000#32) h1 hu)) (fun r _ => tf (f r) (g r)) :=
  isR_hspread hu (isR_hdiv (φ := .f32) (isR_mul (φ := .f32) (isR_hrowSum' (isR_mul (φ := .f32) hx hy) hu hr hc)
    (isR_mul (φ := .f32) (isR_hconst neg_half_bits h0) (isR_hdiv (φ := .f32) hv hd fun r _ => (dn_pos (f r)).ne')))
    (isR_hconst width_bits h0) width_ne) h1 hs

/-- The derivative the host program assembles, beside a residual `z`. -/
theorem isR_hdx {v : FVec Ideal ⟨2, ![M, 1]⟩ .f32} (hv : IsR v (fun r _ => iv (f r))) {z t : FVec Ideal ⟨2, ![M, 1024]⟩ .f32}
    {e : ℕ → ℕ → ℝ} (hx : IsR x f) (hy : IsR y g) (hz : IsR z e) (ht : IsR t (fun r _ => tf (f r) (g r)))
    (hb : (⟨2, ![M, 1]⟩ : Shape).BroadcastsInDim ⟨2, ![M, 1024]⟩ (![0, 1] : Fin 2 → Fin 2)) :
    IsR (addf (addf (addf z (mulf y (broadcastInDim (α := Ideal .f32) ⟨2, ![M, 1024]⟩ ![0, 1] hb v))) (mulf x t)) (mulf t x))
      (fun r k => e r k + dx (f r) (g r) k) := by
  refine (isR_add (φ := .f32) (isR_add (φ := .f32) (isR_add (φ := .f32) hz (isR_mul (φ := .f32) hy (isR_hcol hv hb)))
    (isR_mul (φ := .f32) hx ht)) (isR_mul (φ := .f32) ht hx)).congr fun r k _ _ => ?_
  rw [← dx_ref]
  ring

end HostNorm

end Cert.Hand.Norm
-- ==== Proof.MemNorm.lean ====
module

public import proofs.«01_k».proof.Proof.Norm
public import proofs.«01_k».proof.Proof.Gen.MemNormBwdIdeal.Value
public import proofs.«01_k».proof.Proof.Gen.MemNormBwdRefIdeal.Read
public import proofs.«01_k».proof.Proof.Gen.MemNormBwdRefIdeal.Run
public import proofs.«01_k».proof.Proof.Gen.Pre_mem_norm_bwd_finite
public import proofs.«01_k».proof.Defs
public import Idealize.ShloMosaic.Lib.Pipeline.ValueKit
public meta import Idealize.ShloMosaic.Lib.Pointwise
public meta import Idealize.ShloMosaic.Lib.Pipeline.ValueKit

/-!
The memory's normalisation: the gradient of its gain, in the kernel and in the reference.
-/

set_option maxRecDepth 16384

noncomputable section

@[expose] public section

namespace Cert.Hand.MemNorm

open Idealize.ShloMosaic Idealize.ShloMosaic.TcCoe Idealize.SL.Sem
open Cert.MemNormBwdIdeal Cert.MemNormBwdIdeal.Gen
open Cert.Hand.Sb Cert.Hand.Norm

theorem hz : (![0, 0] : Fin 2 → Nat) = fun _ => 0 := funext fun a => by fin_cases a <;> rfl

/-- The gain's gradient. -/
def DG (x y : ℕ → ℕ → ℝ) (k : ℕ) : ℝ := ∑ i ∈ Finset.range 256, y i k * xh (x i) k

section Body
variable (c : Dev nD) (i : grid0.Coords) (a1 : Memref sig .tc .vmem S256x1024 .f32) (h1 : a1.IsWhole)
  (a2 : Memref sig .tc .vmem S256x1024 .f32) (h2 : a2.IsWhole) (a3 : Memref sig .tc .vmem S1x1024 .f32) (h3 : a3.IsWhole)
  (a4 : Memref sig .tc .vmem S1x1024 .f32) (h4 : a4.IsWhole)
  (x0 x1 : Vec Ideal S256x1024 .f32) (x2 : Vec Ideal S1x1024 .f32)

theorem out_A3 (hc : cond0_0 i) : out0_A_3 c i a1 h1 a2 h2 a3 h3 a4 h4 hc x0 x1 x2 = k0_pay2 x0 x1 (k0_pay1 (F := Ideal)) := by
  unfold out0_A_3
  rw [View.read_writes_eq_canon _ _ _ (cover0_A_3 c i a1 h1 a2 h2 a3 h3 a4 h4 hc x0 x1 x2)]
  unfold kernelRun0_A
  dsimp only
  sl_unfold_words
  rw [View.canon_cons_unit_zero (S := S1x1024) hz, View.readCov_unit_zero (S := S1x1024) _ hz]
  simp only [View.readAt_eq_ld, h1.read_unread, h2.read_unread, View.ld_unit_zero (S := S256x1024) hz]

theorem pay2_isR {x0 x1 : FVec Ideal S256x1024 .f32} {f g : ℕ → ℕ → ℝ} (h0 : IsR x0 f) (h1 : IsR x1 g) :
    IsR (M := 1) (N := 1024) (k0_pay2 (F := Ideal) x0 x1 (k0_pay1 (F := Ideal))) (fun _ k => DG f g k) := by
  refine (isR_acc (B := 256) (n := 0) (p := fun i k => g i k * xh (f i) k) (isR_zero.congr fun r k _ _ => ?_)
    ((isR_colSum (isR_mul (φ := .f32) h1 (isR_xh h0 broadcasts_S256x1_S256x1024
      (isR_iv h0 reduces_S256x1024_S256 (.inl rfl) rfl shapeCasts_S256_S256x1))) reduces_S256x1024_S1024 (.inl rfl) rfl shapeCasts_S1024_S1x1024).congr fun r k _ _ => ?_)
    shapeCasts_S1x1024_S1x1024)
  · rw [Nat.mul_zero, Finset.sum_range_zero]
  · simp only [Nat.mul_zero, Nat.zero_add]

end Body

theorem idx : ∀ t : Fin cfg0.N, win0_0.index t 0 = 0 ∧ win0_0.index t 1 = 0 ∧ win0_1.index t 0 = 0 ∧ win0_1.index t 1 = 0
    ∧ win0_3.index t 0 = 0 ∧ win0_3.index t 1 = 0 := by
  decide +kernel

section Arr
variable (m : (ℓ : Loc nD τ sig) → Buf (Elt Ideal) ℓ) (c : Dev nD)

/-- The rows and their cotangent as real numbers. -/
def rX : ℕ → ℕ → ℝ := re (M := 256) (N := 1024) (m ((c : Thread nD τ).loc main_arg0))
def rY : ℕ → ℕ → ℝ := re (M := 256) (N := 1024) (m ((c : Thread nD τ).loc main_arg2))

variable (hp : Cert.Pre_MemNormBwdIdeal_mem_norm_bwd_finite (hPre_mem_norm_bwd_finite := Cert.Pre_mem_norm_bwd_finite.Gen.facts) m)

include hp in
theorem args : IsR (M := 256) (N := 1024) (m ((c : Thread nD τ).loc main_arg0)) (rX m c)
    ∧ IsR (M := 256) (N := 1024) (m ((c : Thread nD τ).loc main_arg2)) (rY m c) := by
  have e := hp c
  unfold Cert.Pre_mem_norm_bwd_finite.fn at e
  exact ⟨isR_re (congrFun e.1), isR_re (congrFun e.2)⟩

include hp in
theorem arr_eq : (dats m 0 c).arrAt 3 cfg0.N = mat (M := 1) (N := 1024) (fun _ k => DG (rX m c) (rY m c) k) := by
  obtain ⟨hX, hY⟩ := args m c hp
  refine (dats m 0 c).arrAt_eq_of_covers 3 _ (by decide +kernel) fun t hf y => ?_
  obtain ⟨e00, e01, e10, e11, e30, e31⟩ := idx t
  blk_simp
  rw [after0_3, eq_row0 (n := 1024) y]
  unfold outsAt0
  rw [out_A3]
  have b0 : IsR (M := 256) (N := 1024) (iblk m c 0 t) _ := hX.rows 0 (by omega) fun r k => by blk_ext [iblk, V, e00, e01]
  have b1 : IsR (M := 256) (N := 1024) (iblk m c 1 t) _ := hY.rows 0 (by omega) fun r k => by blk_ext [iblk, V, e10, e11]
  have hy : (win0_3.blk t).view.emb (ix2 (0 : Fin 1) (y 1)) = (ix2 0 (y 1) : (⟨2, ![1, 1024]⟩ : Shape).Idx) := by blk_ext [e30, e31]
  refine ((pay2_isR b0 b1) 0 (y 1)).trans ?_
  refine Eq.trans ?_ (congrArg _ hy.symm)
  show _ = ((DG (rX m c) (rY m c) (y 1).val : ℝ) : EReal)
  simp only [Nat.zero_add]

end Arr

theorem ref_eq {x0 x2 : FVec Ideal S256x1024 .f32} {f g : ℕ → ℕ → ℝ} (h0 : IsR x0 f) (h2 : IsR x2 g) :
    Cert.MemNormBwdRefIdeal.Read.val_main_v14 (F := Ideal) x0 x2 = mat (M := 1) (N := 1024) (fun _ k => DG f g k) := by
  refine IsR.eq_mat ((isR_hcolSum (isR_mul (φ := .f32) (isR_mul (φ := .f32) h0 (isR_hcol (isR_hrsqrt (φ := .f32)
    (isR_hdn h0 Cert.MemNormBwdRefIdeal.Gen.h_S_ Cert.MemNormBwdRefIdeal.Gen.reducesTo_S256x1024_S256_d1
      Cert.MemNormBwdRefIdeal.Gen.bcast_S256_S256x1_0 Cert.MemNormBwdRefIdeal.Gen.bcast_S_S256x1) fun r _ => dn_pos (f r))
    Cert.MemNormBwdRefIdeal.Gen.bcast_S256x1_S256x1024_0_1)) h2) Cert.MemNormBwdRefIdeal.Gen.h_S_
    Cert.MemNormBwdRefIdeal.Gen.reducesTo_S256x1024_S1024_d0 Cert.MemNormBwdRefIdeal.Gen.shapeCasts_S1024_S1x1024).congr fun r k _ _ => ?_)
  unfold DG xh iv
  exact Finset.sum_congr rfl fun i _ => mul_comm _ _

theorem frame_ref : Cert.quiescent_MemNormBwdRefIdeal (hMemNormBwdRefIdeal := Cert.MemNormBwdRefIdeal.Gen.facts) := fun m ρ _ =>
  (θ_run _ _ _).mono (fun r h => ⟨fun c => (h c).2, sem_eq_zero_of_no_sems (by decide) r.2⟩) (Cert.MemNormBwdRefIdeal.Value.run m ρ)

theorem alg : Cert.algebraic_MemNormBwdIdeal_MemNormBwdRefIdeal_pre_mem_norm_bwd_finite (hMemNormBwdIdeal := Cert.MemNormBwdIdeal.Gen.facts)
    (hMemNormBwdRefIdeal := Cert.MemNormBwdRefIdeal.Gen.facts) (hPre_mem_norm_bwd_finite := Cert.Pre_mem_norm_bwd_finite.Gen.facts) := by
  intro m g m' g' hpre hag
  refine ⟨fun c => mat (M := 1) (N := 1024) (fun _ k => DG (rX m c) (rY m c) k), ?_, ?_⟩
  · exact (θ_run defs _ _).mono (fun r h c => ⟨(h c).1.trans (arr_eq m c hpre), (h c).2⟩) (Cert.MemNormBwdIdeal.Value.run_blocks m g)
  · refine (θ_run Cert.MemNormBwdRefIdeal.defs _ _).mono (fun r h c => ⟨(h c).1.trans ?_, (h c).2⟩) (Cert.MemNormBwdRefIdeal.Value.run m' g')
    rw [Cert.MemNormBwdRefIdeal.Read.val_main_v14_eq, (hag c).1, (hag c).2.2]
    obtain ⟨hX, hY⟩ := args m c hpre
    exact ref_eq hX hY

end Cert.Hand.MemNorm

end
-- ==== Proof.Head.lean ====
module

public import proofs.«01_k».proof.Proof.Norm
public import proofs.«01_k».proof.Proof.Gen.LossHeadIdeal.Value
public import proofs.«01_k».proof.Proof.Gen.LossHeadRefIdeal.Read
public import proofs.«01_k».proof.Proof.Gen.LossHeadRefIdeal.Run
public import proofs.«01_k».proof.Proof.Gen.Pre_loss_head_finite
public import proofs.«01_k».proof.Defs
public import Idealize.ShloMosaic.Lib.Pipeline.ValueKit
public meta import Idealize.ShloMosaic.Lib.Pointwise
public meta import Idealize.ShloMosaic.Lib.Pipeline.ValueKit

/-!
The loss at the head of the backward pass and its gradients through the last normalisation: what the kernel leaves in its
four results, what the reference computes, and that the two agree on real arguments.
-/

set_option maxRecDepth 16384

noncomputable section

@[expose] public section

namespace Cert.Hand.Head

open Idealize.ShloMosaic Idealize.ShloMosaic.TcCoe Idealize.SL.Sem
open Cert.LossHeadIdeal Cert.LossHeadIdeal.Gen
open Cert.Hand.Sb Cert.Hand.Norm

theorem hz : (![0, 0] : Fin 2 → Nat) = fun _ => 0 := funext fun a => by fin_cases a <;> rfl

/-- The error of a row, -/
def er (x t g : ℕ → ℕ → ℝ) (r k : ℕ) : ℝ := xh (x r) k * g 0 k - t r k
/-- its share of the loss, -/
def PL (x t g : ℕ → ℕ → ℝ) (r _k : ℕ) : ℝ := (1 / 2 * ∑ k ∈ Finset.range 1024, er x t g r k * er x t g r k) / 1024
/-- the row's gradient, -/
def DX (x t g : ℕ → ℕ → ℝ) (r k : ℕ) : ℝ := dx (x r) (fun k => er x t g r k / 1024 * g 0 k) k
/-- and its share of the gain's. -/
def PG (x t g : ℕ → ℕ → ℝ) (r k : ℕ) : ℝ := er x t g r k / 1024 * xh (x r) k
/-- The gain's gradient and the loss. -/
def DG (x t g : ℕ → ℕ → ℝ) (_ k : ℕ) : ℝ := ∑ i ∈ Finset.range 4096, PG x t g i k
def LS (x t g : ℕ → ℕ → ℝ) (_ k : ℕ) : ℝ := ∑ i ∈ Finset.range 4096, PL x t g i k

section Pay
variable {x0 x1 : FVec Ideal S512x1024 .f32} {x2 xo : FVec Ideal S1x1024 .f32} {xp : FVec Ideal S1x128 .f32}
  {x t g : ℕ → ℕ → ℝ} (h0 : IsR x0 x) (h1 : IsR x1 t) (h2 : IsR x2 g)

include h0 in
theorem pay6_isR : IsR (M := 512) (N := 1) (k0_pay6 (F := Ideal) x0) (fun r _ => iv (x r)) :=
  isR_iv h0 reduces_S512x1024_S512 (.inl rfl) rfl shapeCasts_S512_S512x1

include h0 in
theorem pay7_isR : IsR (M := 512) (N := 1024) (k0_pay7 (F := Ideal) x0) (fun r k => xh (x r) k) := isR_xh h0 broadcasts_S512x1_S512x1024 (pay6_isR h0)

include h0 h1 h2 in
theorem pay8_isR : IsR (M := 512) (N := 1024) (k0_pay8 (F := Ideal) x0 x1 x2) (er x t g) :=
  isR_sub (φ := .f32) (isR_mul (φ := .f32) (pay7_isR h0) (isR_row (φ := .f32) h2 broadcasts_S1x1024_S512x1024)) h1

include h0 h1 h2 in
theorem pay9_isR : IsR (M := 1) (N := 1) (k0_pay9 (F := Ideal) x0 x1 x2) (fun _ k => ∑ i ∈ Finset.range 512, PL x t g i k) :=
  (isR_div (φ := .f32) (isR_mul (φ := .f32) (isR_bc half_bits) (isR_colSum (isR_rowSum (isR_mul (φ := .f32) (pay8_isR h0 h1 h2) (pay8_isR h0 h1 h2))
    reduces_S512x1024_S512 (.inl rfl) rfl shapeCasts_S512_S512x1) reduces_S512x1_S1 (.inl rfl) rfl shapeCasts_S1_S1x1))
    (isR_bc width_bits) width_ne).congr fun r k _ _ => by rw [Finset.mul_sum, Finset.sum_div]; rfl

include h0 h1 h2 in
theorem pay10_isR : IsR (M := 512) (N := 1024) (k0_pay10 (F := Ideal) x0 x1 x2) (fun r k => er x t g r k / 1024) :=
  isR_div (φ := .f32) (pay8_isR h0 h1 h2) (isR_bc width_bits) width_ne

include h0 h1 h2 in
theorem pay11_isR : IsR (M := 512) (N := 1024) (k0_pay11 (F := Ideal) x0 x1 x2) (DX x t g) :=
  isR_dx (isR_mul (φ := .f32) (pay10_isR h0 h1 h2) (isR_row (φ := .f32) h2 broadcasts_S1x1024_S512x1024))
    reduces_S512x1024_S512 (.inl rfl) rfl shapeCasts_S512_S512x1 broadcasts_S512x1_S512x1024 (pay6_isR h0) (pay7_isR h0)

include h0 h1 h2 in
theorem pay1_isR : IsR (M := 512) (N := 1024) (k0_pay1 (F := Ideal) (k0_pay11 x0 x1 x2)) (DX x t g) := pay11_isR h0 h1 h2

theorem pay3_isR {n : ℕ} (h0 : IsR x0 (fun r k => x (512 * n + r) k)) (h1 : IsR x1 (fun r k => t (512 * n + r) k)) (h2 : IsR x2 g)
    (ho : IsR xo (fun _ k => ∑ i ∈ Finset.range (512 * n), PG x t g i k)) :
    IsR (M := 1) (N := 1024) (k0_pay3 (F := Ideal) (k0_pay12 x0 x1 x2) xo) (fun _ k => ∑ i ∈ Finset.range (512 * (n + 1)), PG x t g i k) :=
  isR_acc ho (isR_colSum (isR_mul (φ := .f32) (pay10_isR h0 h1 h2) (pay7_isR h0)) reduces_S512x1024_S1024 (.inl rfl) rfl shapeCasts_S1024_S1x1024)
    shapeCasts_S1x1024_S1x1024

theorem pay5_isR {n : ℕ} (h0 : IsR x0 (fun r k => x (512 * n + r) k)) (h1 : IsR x1 (fun r k => t (512 * n + r) k)) (h2 : IsR x2 g)
    (ho : IsR xp (fun _ k => ∑ i ∈ Finset.range (512 * n), PL x t g i k)) :
    IsR (M := 1) (N := 128) (k0_pay5 (F := Ideal) (k0_pay9 x0 x1 x2) xp) (fun _ k => ∑ i ∈ Finset.range (512 * (n + 1)), PL x t g i k) :=
  isR_acc ho (isR_col (φ := .f32) (isR_self (pay9_isR h0 h1 h2) shapeCasts_S1x1_S1x1) broadcasts_S1x1_S1x128) shapeCasts_S1x128_S1x128

end Pay

section Body
variable (c : Dev nD) (i : grid0.Coords)
  (a1 : Memref sig .tc .vmem S512x1024 .f32) (h1 : a1.IsWhole)
  (a2 : Memref sig .tc .vmem S512x1024 .f32) (h2 : a2.IsWhole)
  (a3 : Memref sig .tc .vmem S1x1024 .f32) (h3 : a3.IsWhole)
  (a4 : Memref sig .tc .vmem S512x1024 .f32) (h4 : a4.IsWhole)
  (a5 : Memref sig .tc .vmem S512x1024 .bf16) (h5 : a5.IsWhole)
  (a6 : Memref sig .tc .vmem S1x1024 .f32) (h6 : a6.IsWhole)
  (a7 : Memref sig .tc .vmem S1x128 .f32) (h7 : a7.IsWhole)
  (x0 x1 : Vec Ideal S512x1024 .f32) (x2 xo : Vec Ideal S1x1024 .f32) (xp : Vec Ideal S1x128 .f32)

theorem out_A3 (hc : cond0_0 i) (hd : cond0_1 i) : out0_A_3 c i a1 h1 a2 h2 a3 h3 a4 h4 a5 h5 a6 h6 a7 h7 hc hd x0 x1 x2 = k0_pay11 x0 x1 x2 := by
  unfold out0_A_3
  rw [View.read_writes_eq_canon _ _ _ (cover0_A_3 c i a1 h1 a2 h2 a3 h3 a4 h4 a5 h5 a6 h6 a7 h7 hc hd x0 x1 x2)]
  unfold kernelRun0_A
  dsimp only
  sl_unfold_words
  rw [View.canon_unit_zero hz]
  simp only [View.readAt_eq_ld, h1.read_unread, h2.read_unread, h3.read_unread, View.ld_unit_zero (S := S512x1024) hz, View.ld_unit_zero (S := S1x1024) hz]

theorem out_A4 (hc : cond0_0 i) (hd : cond0_1 i) : out0_A_4 c i a1 h1 a2 h2 a3 h3 a4 h4 a5 h5 a6 h6 a7 h7 hc hd x0 x1 x2 = k0_pay1 (k0_pay11 x0 x1 x2) := by
  unfold out0_A_4
  rw [View.read_writes_eq_canon _ _ _ (cover0_A_4 c i a1 h1 a2 h2 a3 h3 a4 h4 a5 h5 a6 h6 a7 h7 hc hd x0 x1 x2)]
  unfold kernelRun0_A
  dsimp only
  sl_unfold_words
  rw [View.canon_unit_zero hz]
  simp only [View.readAt_eq_ld, h1.read_unread, h2.read_unread, h3.read_unread, View.ld_unit_zero (S := S512x1024) hz, View.ld_unit_zero (S := S1x1024) hz]

theorem out_A5 (hc : cond0_0 i) (hd : cond0_1 i) : out0_A_5 c i a1 h1 a2 h2 a3 h3 a4 h4 a5 h5 a6 h6 a7 h7 hc hd x0 x1 x2 = k0_pay3 (k0_pay12 x0 x1 x2) (k0_pay2 (F := Ideal)) := by
  unfold out0_A_5
  rw [View.read_writes_eq_canon _ _ _ (cover0_A_5 c i a1 h1 a2 h2 a3 h3 a4 h4 a5 h5 a6 h6 a7 h7 hc hd x0 x1 x2)]
  unfold kernelRun0_A
  dsimp only
  sl_unfold_words
  rw [View.canon_cons_unit_zero (S := S1x1024) hz, View.readCov_unit_zero (S := S1x1024) _ hz]
  simp only [View.readAt_eq_ld, h1.read_unread, h2.read_unread, h3.read_unread, View.ld_unit_zero (S := S512x1024) hz, View.ld_unit_zero (S := S1x1024) hz]

theorem out_A6 (hc : cond0_0 i) (hd : cond0_1 i) : out0_A_6 c i a1 h1 a2 h2 a3 h3 a4 h4 a5 h5 a6 h6 a7 h7 hc hd x0 x1 x2 = k0_pay5 (k0_pay9 x0 x1 x2) (k0_pay4 (F := Ideal)) := by
  unfold out0_A_6
  rw [View.read_writes_eq_canon _ _ _ (cover0_A_6 c i a1 h1 a2 h2 a3 h3 a4 h4 a5 h5 a6 h6 a7 h7 hc hd x0 x1 x2)]
  unfold kernelRun0_A
  dsimp only
  sl_unfold_words
  rw [View.canon_cons_unit_zero (S := S1x128) hz, View.readCov_unit_zero (S := S1x128) _ hz]
  simp only [View.readAt_eq_ld, h1.read_unread, h2.read_unread, h3.read_unread, View.ld_unit_zero (S := S512x1024) hz, View.ld_unit_zero (S := S1x1024) hz]

theorem out_B3 (hc : ¬cond0_0 i) (hd : ¬cond0_1 i) : out0_B_3 c i a1 h1 a2 h2 a3 h3 a4 h4 a5 h5 a6 h6 a7 h7 hc hd x0 x1 x2 xo xp = k0_pay11 x0 x1 x2 := by
  unfold out0_B_3
  rw [View.read_writes_eq_canon _ _ _ (cover0_B_3 c i a1 h1 a2 h2 a3 h3 a4 h4 a5 h5 a6 h6 a7 h7 hc hd x0 x1 x2 xo xp)]
  unfold kernelRun0_B
  dsimp only
  sl_unfold_words
  rw [View.canon_unit_zero hz]
  simp only [View.readAt_eq_ld, h1.read_unread, h2.read_unread, h3.read_unread, View.ld_unit_zero (S := S512x1024) hz, View.ld_unit_zero (S := S1x1024) hz]

theorem out_B4 (hc : ¬cond0_0 i) (hd : ¬cond0_1 i) : out0_B_4 c i a1 h1 a2 h2 a3 h3 a4 h4 a5 h5 a6 h6 a7 h7 hc hd x0 x1 x2 xo xp = k0_pay1 (k0_pay11 x0 x1 x2) := by
  unfold out0_B_4
  rw [View.read_writes_eq_canon _ _ _ (cover0_B_4 c i a1 h1 a2 h2 a3 h3 a4 h4 a5 h5 a6 h6 a7 h7 hc hd x0 x1 x2 xo xp)]
  unfold kernelRun0_B
  dsimp only
  sl_unfold_words
  rw [View.canon_unit_zero hz]
  simp only [View.readAt_eq_ld, h1.read_unread, h2.read_unread, h3.read_unread, View.ld_unit_zero (S := S512x1024) hz, View.ld_unit_zero (S := S1x1024) hz]

theorem out_B5 (hc : ¬cond0_0 i) (hd : ¬cond0_1 i) : out0_B_5 c i a1 h1 a2 h2 a3 h3 a4 h4 a5 h5 a6 h6 a7 h7 hc hd x0 x1 x2 xo xp = k0_pay3 (k0_pay12 x0 x1 x2) xo := by
  unfold out0_B_5
  rw [View.read_writes_eq_canon _ _ _ (cover0_B_5 c i a1 h1 a2 h2 a3 h3 a4 h4 a5 h5 a6 h6 a7 h7 hc hd x0 x1 x2 xo xp)]
  unfold kernelRun0_B
  dsimp only
  sl_unfold_words
  rw [View.canon_unit_zero hz]
  simp only [View.readAt_eq_ld, h1.read_unread, h2.read_unread, h3.read_unread, h6.read_unread, View.ld_unit_zero (S := S512x1024) hz, View.ld_unit_zero (S := S1x1024) hz]

theorem out_B6 (hc : ¬cond0_0 i) (hd : ¬cond0_1 i) : out0_B_6 c i a1 h1 a2 h2 a3 h3 a4 h4 a5 h5 a6 h6 a7 h7 hc hd x0 x1 x2 xo xp = k0_pay5 (k0_pay9 x0 x1 x2) xp := by
  unfold out0_B_6
  rw [View.read_writes_eq_canon _ _ _ (cover0_B_6 c i a1 h1 a2 h2 a3 h3 a4 h4 a5 h5 a6 h6 a7 h7 hc hd x0 x1 x2 xo xp)]
  unfold kernelRun0_B
  dsimp only
  sl_unfold_words
  rw [View.canon_unit_zero hz]
  simp only [View.readAt_eq_ld, h1.read_unread, h2.read_unread, h3.read_unread, h7.read_unread, View.ld_unit_zero (S := S512x1024) hz, View.ld_unit_zero (S := S1x1024) hz, View.ld_unit_zero (S := S1x128) hz]

end Body

theorem idx : ∀ t : Fin cfg0.N, win0_0.index t 0 = t.val ∧ win0_0.index t 1 = 0 ∧ win0_1.index t 0 = t.val ∧ win0_1.index t 1 = 0 ∧ win0_2.index t 0 = 0 ∧ win0_2.index t 1 = 0 ∧ win0_3.index t 0 = t.val ∧ win0_3.index t 1 = 0 ∧
    win0_4.index t 0 = t.val ∧
    win0_4.index t 1 = 0 ∧ win0_5.index t 0 = 0 ∧ win0_5.index t 1 = 0 ∧ win0_6.index t 0 = 0 ∧ win0_6.index t 1 = 0 := by
  decide +kernel

section Arr
variable (m : (ℓ : Loc nD τ sig) → Buf (Elt Ideal) ℓ) (c : Dev nD)

/-- The three arguments as real numbers. -/
def rX : ℕ → ℕ → ℝ := re (M := 4096) (N := 1024) (m ((c : Thread nD τ).loc main_arg0))
def rT : ℕ → ℕ → ℝ := re (M := 4096) (N := 1024) (m ((c : Thread nD τ).loc main_arg1))
def rG : ℕ → ℕ → ℝ := re (M := 1) (N := 1024) (m ((c : Thread nD τ).loc main_arg2))

variable (hp : Cert.Pre_LossHeadIdeal_loss_head_finite (hPre_loss_head_finite := Cert.Pre_loss_head_finite.Gen.facts) m)

include hp in
theorem args : IsR (M := 4096) (N := 1024) (m ((c : Thread nD τ).loc main_arg0)) (rX m c)
    ∧ IsR (M := 4096) (N := 1024) (m ((c : Thread nD τ).loc main_arg1)) (rT m c)
    ∧ IsR (M := 1) (N := 1024) (m ((c : Thread nD τ).loc main_arg2)) (rG m c) := by
  have e := hp c
  unfold Cert.Pre_loss_head_finite.fn at e
  exact ⟨isR_re (congrFun e.1), isR_re (congrFun e.2.1), isR_re (congrFun e.2.2)⟩

include hp in
theorem blocks (t : Fin cfg0.N) : IsR (M := 512) (N := 1024) (iblk m c 0 t) (fun r k => rX m c (512 * t.val + r) k)
    ∧ IsR (M := 512) (N := 1024) (iblk m c 1 t) (fun r k => rT m c (512 * t.val + r) k)
    ∧ IsR (M := 1) (N := 1024) (iblk m c 2 t) (rG m c) := by
  obtain ⟨hX, hT, hG⟩ := args m c hp
  obtain ⟨e00, e01, e10, e11, e20, e21, e30, e31, e40, e41, e50, e51, e60, e61⟩ := idx t
  have ht : t.val < 8 := t.isLt
  exact ⟨hX.rows _ (by omega) fun r k => by blk_ext [iblk, V, e00, e01], hT.rows _ (by omega) fun r k => by blk_ext [iblk, V, e10, e11],
    hG.whole fun r k => by blk_ext [iblk, V, e20, e21]⟩

include hp in
/-- The running sums the gain's and the loss's staging blocks hold after a point. -/
theorem acc_eq : ∀ (n : ℕ) (h : n < cfg0.N), IsR (M := 1) (N := 1024) (outsAt0 m c n h).2.2.1
    (fun _ k => ∑ i ∈ Finset.range (512 * (n + 1)), PG (rX m c) (rT m c) (rG m c) i k)
    ∧ IsR (M := 1) (N := 128) (outsAt0 m c n h).2.2.2 (fun _ k => ∑ i ∈ Finset.range (512 * (n + 1)), PL (rX m c) (rT m c) (rG m c) i k)
  | 0, h => by
    obtain ⟨b0, b1, b2⟩ := blocks m c hp ⟨0, h⟩
    rw [outsAt0_A m c ⟨0, h⟩ rfl rfl]
    dsimp only
    rw [out_A5, out_A6]
    exact ⟨pay3_isR (n := 0) b0 b1 b2 (isR_zero.congr fun r k _ _ => by rw [Nat.mul_zero, Finset.sum_range_zero]),
      pay5_isR (n := 0) b0 b1 b2 (isR_zero.congr fun r k _ _ => by rw [Nat.mul_zero, Finset.sum_range_zero])⟩
  | n + 1, h => by
    obtain ⟨b0, b1, b2⟩ := blocks m c hp ⟨n + 1, h⟩
    have hN : cfg0.N = 8 := N_0
    have hB : ¬(⟨n + 1, h⟩ : Fin cfg0.N).val % 8 = 0 := by dsimp only; omega
    rw [outsAt0_B m c ⟨n + 1, h⟩ hB hB]
    dsimp only
    rw [out_B5, out_B6]
    exact ⟨pay3_isR (n := n + 1) b0 b1 b2 (acc_eq n _).1, pay5_isR (n := n + 1) b0 b1 b2 (acc_eq n _).2⟩

include hp in
theorem rows_eq (t : Fin cfg0.N) : IsR (M := 512) (N := 1024) (outsAt0 m c t.val t.isLt).1
      (fun r k => DX (rX m c) (rT m c) (rG m c) (512 * t.val + r) k)
    ∧ IsR (M := 512) (N := 1024) (outsAt0 m c t.val t.isLt).2.1
      (fun r k => DX (rX m c) (rT m c) (rG m c) (512 * t.val + r) k) := by
  obtain ⟨b0, b1, b2⟩ := blocks m c hp t
  by_cases h0 : t.val % 8 = 0
  · rw [outsAt0_A m c t h0 h0]
    dsimp only
    rw [out_A3, out_A4]
    exact ⟨pay11_isR b0 b1 b2, pay1_isR b0 b1 b2⟩
  · rw [outsAt0_B m c t h0 h0]
    dsimp only
    rw [out_B3, out_B4]
    exact ⟨pay11_isR b0 b1 b2, pay1_isR b0 b1 b2⟩

include hp in
theorem arr3_eq : (dats m 0 c).arrAt 3 cfg0.N = mat (M := 4096) (N := 1024) (DX (rX m c) (rT m c) (rG m c)) := by
  refine (dats m 0 c).arrAt_eq_of_covers 3 _ (by decide +kernel) fun t hf y => ?_
  obtain ⟨e00, e01, e10, e11, e20, e21, e30, e31, e40, e41, e50, e51, e60, e61⟩ := idx t
  have ht : t.val < 8 := t.isLt
  have hy0 : (y 0).val < 512 := (y 0).isLt
  blk_simp
  rw [after0_3, eq_ix2 y]
  have hy : (win0_3.blk t).view.emb (ix2 (y 0) (y 1)) = (ix2 ⟨512 * t.val + (y 0).val, by omega⟩ (y 1) : (⟨2, ![4096, 1024]⟩ : Shape).Idx) := by
    blk_ext [e30, e31]
  refine ((rows_eq m c hp t).1 (y 0) (y 1)).trans (Eq.trans ?_ (congrArg _ hy.symm))
  rfl

include hp in
theorem arr4_eq : (dats m 0 c).arrAt 4 cfg0.N = mat (M := 4096) (N := 1024) (DX (rX m c) (rT m c) (rG m c)) := by
  refine (dats m 0 c).arrAt_eq_of_covers 4 _ (by decide +kernel) fun t hf y => ?_
  obtain ⟨e00, e01, e10, e11, e20, e21, e30, e31, e40, e41, e50, e51, e60, e61⟩ := idx t
  have ht : t.val < 8 := t.isLt
  have hy0 : (y 0).val < 512 := (y 0).isLt
  blk_simp
  rw [after0_4, eq_ix2 y]
  have hy : (win0_4.blk t).view.emb (ix2 (y 0) (y 1)) = (ix2 ⟨512 * t.val + (y 0).val, by omega⟩ (y 1) : (⟨2, ![4096, 1024]⟩ : Shape).Idx) := by
    blk_ext [e40, e41]
  refine ((rows_eq m c hp t).2 (y 0) (y 1)).trans (Eq.trans ?_ (congrArg _ hy.symm))
  rfl

include hp in
theorem arr5_eq : (dats m 0 c).arrAt 5 cfg0.N = mat (M := 1) (N := 1024) (DG (rX m c) (rT m c) (rG m c)) := by
  refine (dats m 0 c).arrAt_eq_of_covers 5 _ (by decide +kernel) fun t hf y => ?_
  have h7 : t.val = 7 := by have := (flush0_5 t).mp hf; have : t.val < 8 := t.isLt; omega
  obtain ⟨e00, e01, e10, e11, e20, e21, e30, e31, e40, e41, e50, e51, e60, e61⟩ := idx t
  blk_simp
  rw [after0_5, eq_row0 (n := 1024) y]
  have hy : (win0_5.blk t).view.emb (ix2 (0 : Fin 1) (y 1)) = (ix2 0 (y 1) : (⟨2, ![1, 1024]⟩ : Shape).Idx) := by
    blk_ext [e50, e51]
  refine ((acc_eq m c hp t.val t.isLt).1 0 (y 1)).trans (Eq.trans ?_ (congrArg _ hy.symm))
  rw [h7]
  rfl

include hp in
theorem arr6_eq : (dats m 0 c).arrAt 6 cfg0.N = mat (M := 1) (N := 128) (LS (rX m c) (rT m c) (rG m c)) := by
  refine (dats m 0 c).arrAt_eq_of_covers 6 _ (by decide +kernel) fun t hf y => ?_
  have h7 : t.val = 7 := by have := (flush0_6 t).mp hf; have : t.val < 8 := t.isLt; omega
  obtain ⟨e00, e01, e10, e11, e20, e21, e30, e31, e40, e41, e50, e51, e60, e61⟩ := idx t
  blk_simp
  rw [after0_6, eq_row0 (n := 128) y]
  have hy : (win0_6.blk t).view.emb (ix2 (0 : Fin 1) (y 1)) = (ix2 0 (y 1) : (⟨2, ![1, 128]⟩ : Shape).Idx) := by
    blk_ext [e60, e61]
  refine ((acc_eq m c hp t.val t.isLt).2 0 (y 1)).trans (Eq.trans ?_ (congrArg _ hy.symm))
  rw [h7]
  rfl

end Arr

section Ref
open Cert.LossHeadRefIdeal.Read
variable {x0 x1 : FVec Ideal S4096x1024 .f32} {x2 : FVec Ideal S1x1024 .f32}
  {x t g : ℕ → ℕ → ℝ} (h0 : IsR x0 x) (h1 : IsR x1 t) (h2 : IsR x2 g)

include h0 in
theorem v6_isR : IsR (M := 4096) (N := 1) (val_main_v6 (F := Ideal) x0) (fun r _ => dn (x r)) :=
  isR_hdn h0 Cert.LossHeadRefIdeal.Gen.h_S_ Cert.LossHeadRefIdeal.Gen.reducesTo_S4096x1024_S4096_d1 Cert.LossHeadRefIdeal.Gen.bcast_S4096_S4096x1_0 Cert.LossHeadRefIdeal.Gen.bcast_S_S4096x1

include h0 in
theorem v7_isR : IsR (M := 4096) (N := 1) (val_main_v7 (F := Ideal) x0) (fun r _ => iv (x r)) :=
  isR_hrsqrt (φ := .f32) (v6_isR h0) fun r _ => dn_pos (x r)

include h0 in
theorem v12_isR : IsR (M := 4096) (N := 1024) (val_main_v12 (F := Ideal) x0) (fun r k => xh (x r) k) :=
  isR_mul (φ := .f32) h0 (isR_hcol (v7_isR h0) Cert.LossHeadRefIdeal.Gen.bcast_S4096x1_S4096x1024_0_1)

include h0 h1 h2 in
theorem v15_isR : IsR (M := 4096) (N := 1024) (val_main_v15 (F := Ideal) x0 x1 x2) (er x t g) :=
  isR_sub (φ := .f32) (isR_mul (φ := .f32) (v12_isR h0) (isR_hrow h2 Cert.LossHeadRefIdeal.Gen.bcast_S1x1024_S4096x1024_0_1)) h1

/-- The weight of a row's mean in the loss. -/
theorem v28_isR : IsR (M := 4096) (N := 1024) (val_main_v28 (F := Ideal)) (fun _ _ => 1 / 2 * 1 / 1024) := fun r c => by
  refine (hvec_apply _ _ r c).trans ?_
  show Ideal.div ((Scalar.ofBits .f32 0x3F000000#32 : Ideal .f32) * (Scalar.ofBits .f32 0x3F800000#32 : Ideal .f32) : EReal)
    (Scalar.ofBits .f32 0x44800000#32 : Ideal .f32) = _
  rw [half_bits, one_bits, width_bits, ← EReal.coe_mul]
  exact coe_div (by norm_num) _

include h0 h1 h2 in
theorem v29_isR : IsR (M := 4096) (N := 1024) (val_main_v29 (F := Ideal) x0 x1 x2) (fun r k => er x t g r k / 1024) :=
  (isR_mul (φ := .f32) v28_isR (isR_mul (φ := .f32) (isR_hconst two_bits Cert.LossHeadRefIdeal.Gen.bcast_S_S4096x1024) (v15_isR h0 h1 h2))).congr
    fun r k _ _ => by ring

include h0 h1 h2 in
theorem v34_isR : IsR (M := 4096) (N := 1024) (val_main_v34 (F := Ideal) x0 x1 x2) (fun r k => er x t g r k / 1024 * g 0 k) :=
  isR_mul (φ := .f32) (v29_isR h0 h1 h2) (isR_hrow h2 Cert.LossHeadRefIdeal.Gen.bcast_S1x1024_S4096x1024_0_1)

include h0 h1 h2 in
theorem v48_isR : IsR (M := 4096) (N := 1024) (val_main_v48 (F := Ideal) x0 x1 x2) (DX x t g) :=
  have ht : IsR (M := 4096) (N := 1024) (val_main_v44 (F := Ideal) x0 x1 x2) (fun r _ => tf (x r) (fun k => er x t g r k / 1024 * g 0 k)) :=
    isR_htf h0 (v34_isR h0 h1 h2) Cert.LossHeadRefIdeal.Gen.h_S_ Cert.LossHeadRefIdeal.Gen.reducesTo_S4096x1024_S4096_d1 Cert.LossHeadRefIdeal.Gen.bcast_S_S4096x1
      Cert.LossHeadRefIdeal.Gen.shapeCasts_S4096_S4096x1 Cert.LossHeadRefIdeal.Gen.reducesTo_S4096x1_S4096_d1 Cert.LossHeadRefIdeal.Gen.bcast_S4096_S4096x1024_0 (v6_isR h0) (v7_isR h0)
  (isR_add (φ := .f32) (isR_add (φ := .f32) (isR_mul (φ := .f32) (v34_isR h0 h1 h2) (isR_hcol (v7_isR h0) Cert.LossHeadRefIdeal.Gen.bcast_S4096x1_S4096x1024_0_1))
    (isR_mul (φ := .f32) h0 ht)) (isR_mul (φ := .f32) ht h0)).congr fun r k _ _ => dx_ref (x r) (fun k => er x t g r k / 1024 * g 0 k) k

include h0 h1 h2 in
theorem v32_isR : IsR (M := 1) (N := 1024) (val_main_v32 (F := Ideal) x0 x1 x2) (DG x t g) :=
  (isR_hcolSum (isR_mul (φ := .f32) (v12_isR h0) (v29_isR h0 h1 h2)) Cert.LossHeadRefIdeal.Gen.h_S_ Cert.LossHeadRefIdeal.Gen.reducesTo_S4096x1024_S1024_d0
    Cert.LossHeadRefIdeal.Gen.shapeCasts_S1024_S1x1024).congr fun r k _ _ => Finset.sum_congr rfl fun i _ => mul_comm _ _

include h0 h1 h2 in
theorem v50_isR : IsR (M := 1) (N := 128) (val_main_v50 (F := Ideal) x0 x1 x2) (LS x t g) := by
  intro r c
  pointwise [val_main_v50, val_main_v23, val_main_v22, val_main_v21, val_main_v19, val_main_v20]
  show (Scalar.ofBits .f32 0x3F000000#32 : Ideal .f32) * ((Scalar.ofBits .f32 0x00000000#32 : Ideal .f32) + ∑ i : Fin 4096,
    Ideal.div ((Scalar.ofBits .f32 0x00000000#32 : Ideal .f32) + ∑ k : Fin 1024, val_main_v16 (F := Ideal) x0 x1 x2 (ix2 i k))
      (Scalar.ofBits .f32 0x44800000#32 : Ideal .f32) : EReal) = _
  rw [half_bits, zero_bits, width_bits, EReal.coe_zero, zero_add (M := EReal)]
  have e : ∀ i : Fin 4096, Ideal.div ((0 : EReal) + ∑ k : Fin 1024, val_main_v16 (F := Ideal) x0 x1 x2 (ix2 i k)) ((1024 : ℝ) : EReal)
      = (((∑ k ∈ Finset.range 1024, er x t g i.val k * er x t g i.val k) / 1024 : ℝ) : EReal) := fun i => by
    rw [zero_add (M := EReal), sum_one (a := fun k => val_main_v16 (F := Ideal) x0 x1 x2 (ix2 i k)) (f := fun k => er x t g i.val k * er x t g i.val k) fun k => isR_mul (φ := .f32) (v15_isR h0 h1 h2) (v15_isR h0 h1 h2) i k]
    exact coe_div (by norm_num) _
  rw [sum_one (f := fun i => (∑ k ∈ Finset.range 1024, er x t g i k * er x t g i k) / 1024) e, ← EReal.coe_mul]
  refine congrArg _ ?_
  rw [Finset.mul_sum]
  exact Finset.sum_congr rfl fun i _ => by unfold PL; ring

end Ref

theorem frame_ref : Cert.quiescent_LossHeadRefIdeal (hLossHeadRefIdeal := Cert.LossHeadRefIdeal.Gen.facts) := fun m ρ _ =>
  (θ_run _ _ _).mono (fun r h => ⟨fun c => (h c).2.2.2.2, sem_eq_zero_of_no_sems (by decide) r.2⟩) (Cert.LossHeadRefIdeal.Value.run m ρ)

theorem alg : Cert.algebraic_LossHeadIdeal_LossHeadRefIdeal_pre_loss_head_finite (hLossHeadIdeal := Cert.LossHeadIdeal.Gen.facts)
    (hLossHeadRefIdeal := Cert.LossHeadRefIdeal.Gen.facts) (hPre_loss_head_finite := Cert.Pre_loss_head_finite.Gen.facts) := by
  intro m g m' g' hpre hag
  refine ⟨fun c => mat (M := 4096) (N := 1024) (DX (rX m c) (rT m c) (rG m c)), fun c => mat (M := 4096) (N := 1024) (DX (rX m c) (rT m c) (rG m c)),
    fun c => mat (M := 1) (N := 1024) (DG (rX m c) (rT m c) (rG m c)), fun c => mat (M := 1) (N := 128) (LS (rX m c) (rT m c) (rG m c)), ?_, ?_⟩
  · exact (θ_run defs _ _).mono (fun r h c => ⟨(h c).1.trans (arr3_eq m c hpre), (h c).2.1.trans (arr4_eq m c hpre),
      (h c).2.2.1.trans (arr5_eq m c hpre), (h c).2.2.2.1.trans (arr6_eq m c hpre), (h c).2.2.2.2⟩) (Cert.LossHeadIdeal.Value.run_blocks m g)
  · refine (θ_run Cert.LossHeadRefIdeal.defs _ _).mono (fun r h c => ?_) (Cert.LossHeadRefIdeal.Value.run m' g')
    obtain ⟨hX, hT, hG⟩ := args m c hpre
    refine ⟨(h c).1.trans ?_, (h c).2.1.trans ?_, (h c).2.2.1.trans ?_, (h c).2.2.2.1.trans ?_, (h c).2.2.2.2⟩
    · rw [Cert.LossHeadRefIdeal.Read.val_main_v48_eq, (hag c).1, (hag c).2.1, (hag c).2.2]
      exact IsR.eq_mat (v48_isR hX hT hG)
    · rw [Cert.LossHeadRefIdeal.Read.val_main_v49_eq, (hag c).1, (hag c).2.1, (hag c).2.2]
      exact IsR.eq_mat (v48_isR hX hT hG)
    · rw [Cert.LossHeadRefIdeal.Read.val_main_v32_eq, (hag c).1, (hag c).2.1, (hag c).2.2]
      exact IsR.eq_mat (v32_isR hX hT hG)
    · rw [Cert.LossHeadRefIdeal.Read.val_main_v50_eq, (hag c).1, (hag c).2.1, (hag c).2.2]
      exact IsR.eq_mat (v50_isR hX hT hG)

end Cert.Hand.Head

end
-- ==== Proof.GuNorm.lean ====
module

public import proofs.«01_k».proof.Proof.Norm
public import proofs.«01_k».proof.Proof.Gen.GuNormBwdIdeal.Value
public import proofs.«01_k».proof.Proof.Gen.GuNormBwdRefIdeal.Read
public import proofs.«01_k».proof.Proof.Gen.GuNormBwdRefIdeal.Run
public import proofs.«01_k».proof.Proof.Gen.Pre_gu_norm_bwd_finite
public import proofs.«01_k».proof.Defs
public import Idealize.ShloMosaic.Lib.Pipeline.ValueKit
public meta import Idealize.ShloMosaic.Lib.Pointwise
public meta import Idealize.ShloMosaic.Lib.Pipeline.ValueKit

/-!
The gradient of a normalisation fused with the product before it and the residual: what the kernel leaves in its three
results, what the reference computes, and that the two agree on real arguments.
-/

set_option maxRecDepth 16384

noncomputable section

@[expose] public section

namespace Cert.Hand.GuNorm

open Idealize.ShloMosaic Idealize.ShloMosaic.TcCoe Idealize.SL.Sem
open Cert.GuNormBwdIdeal Cert.GuNormBwdIdeal.Gen
open Cert.Hand.Sb Cert.Hand.Norm

theorem hz : (![0, 0] : Fin 2 → Nat) = fun _ => 0 := funext fun a => by fin_cases a <;> rfl

/-- The row's gradient, with the residual's, -/
def DX (p x g z : ℕ → ℕ → ℝ) (r k : ℕ) : ℝ := dx (x r) (fun k => p r k * g 0 k) k + z r k
/-- and one row's share of the gain's. -/
def PG (p x : ℕ → ℕ → ℝ) (r k : ℕ) : ℝ := p r k * xh (x r) k
/-- The gain's gradient. -/
def DG (p x : ℕ → ℕ → ℝ) (_ k : ℕ) : ℝ := ∑ i ∈ Finset.range 4096, PG p x i k

section Pay
variable {x0 : FVec Ideal S256x5632 .bf16} {x1 : FVec Ideal S1024x5632 .bf16} {x2 x3 : FVec Ideal S256x1024 .f32} {x4 xo : FVec Ideal S1x1024 .f32}
  {a b x g z : ℕ → ℕ → ℝ} (h0 : IsR x0 a) (h1 : IsR x1 b) (h2 : IsR x2 x) (h3 : IsR x3 z) (h4 : IsR x4 g)

include h0 h1 in
theorem pay3_isR : IsR (M := 256) (N := 1024) (k0_pay3 (F := Ideal) x0 x1) (pr 5632 a b) := isR_matmul_nt h0 h1

include h2 in
theorem pay4_isR : IsR (M := 256) (N := 1) (k0_pay4 (F := Ideal) x2) (fun r _ => iv (x r)) :=
  isR_iv h2 reduces_S256x1024_S256 (.inl rfl) rfl shapeCasts_S256_S256x1

include h2 in
theorem pay5_isR : IsR (M := 256) (N := 1024) (k0_pay5 (F := Ideal) x2) (fun r k => xh (x r) k) := isR_xh h2 broadcasts_S256x1_S256x1024 (pay4_isR h2)

include h0 h1 h2 h3 h4 in
theorem pay6_isR : IsR (M := 256) (N := 1024) (k0_pay6 (F := Ideal) x0 x1 x2 x4 x3) (DX (pr 5632 a b) x g z) :=
  isR_add (φ := .f32) (isR_dx (isR_mul (φ := .f32) (pay3_isR h0 h1) (isR_row (φ := .f32) h4 broadcasts_S1x1024_S256x1024))
    reduces_S256x1024_S256 (.inl rfl) rfl shapeCasts_S256_S256x1 broadcasts_S256x1_S256x1024 (pay4_isR h2) (pay5_isR h2)) h3

include h0 h1 h2 h3 h4 in
theorem pay7_isR : IsR (M := 256) (N := 1024) (k0_pay7 (F := Ideal) x0 x1 x2 x4 x3) (DX (pr 5632 a b) x g z) := pay6_isR h0 h1 h2 h3 h4

theorem pay2_isR {n : ℕ} (h0 : IsR x0 (fun r k => a (256 * n + r) k)) (h1 : IsR x1 b) (h2 : IsR x2 (fun r k => x (256 * n + r) k))
    (ho : IsR xo (fun _ k => ∑ i ∈ Finset.range (256 * n), PG (pr 5632 a b) x i k)) :
    IsR (M := 1) (N := 1024) (k0_pay2 (F := Ideal) (k0_pay3 x0 x1) (k0_pay5 x2) xo) (fun _ k => ∑ i ∈ Finset.range (256 * (n + 1)), PG (pr 5632 a b) x i k) :=
  isR_acc ho (isR_colSum (isR_mul (φ := .f32) (pay3_isR h0 h1) (pay5_isR h2)) reduces_S256x1024_S1024 (.inl rfl) rfl shapeCasts_S1024_S1x1024)
    shapeCasts_S1x1024_S1x1024

end Pay

section Body
variable (c : Dev nD) (i : grid0.Coords)
  (a1 : Memref sig .tc .vmem S256x5632 .bf16) (h1 : a1.IsWhole)
  (a2 : Memref sig .tc .vmem S1024x5632 .bf16) (h2 : a2.IsWhole)
  (a3 : Memref sig .tc .vmem S256x1024 .f32) (h3 : a3.IsWhole)
  (a4 : Memref sig .tc .vmem S256x1024 .f32) (h4 : a4.IsWhole)
  (a5 : Memref sig .tc .vmem S1x1024 .f32) (h5 : a5.IsWhole)
  (a6 : Memref sig .tc .vmem S256x1024 .f32) (h6 : a6.IsWhole)
  (a7 : Memref sig .tc .vmem S256x1024 .bf16) (h7 : a7.IsWhole)
  (a8 : Memref sig .tc .vmem S1x1024 .f32) (h8 : a8.IsWhole)
  (x0 : Vec Ideal S256x5632 .bf16) (x1 : Vec Ideal S1024x5632 .bf16) (x2 x3 : Vec Ideal S256x1024 .f32) (x4 xo : Vec Ideal S1x1024 .f32)

theorem out_A5 (hc : cond0_0 i) : out0_A_5 c i a1 h1 a2 h2 a3 h3 a4 h4 a5 h5 a6 h6 a7 h7 a8 h8 hc x0 x1 x2 x3 x4 = k0_pay6 x0 x1 x2 x4 x3 := by
  unfold out0_A_5
  rw [View.read_writes_eq_canon _ _ _ (cover0_A_5 c i a1 h1 a2 h2 a3 h3 a4 h4 a5 h5 a6 h6 a7 h7 a8 h8 hc x0 x1 x2 x3 x4)]
  unfold kernelRun0_A
  dsimp only
  rw [View.canon_unit_zero hz]
  simp only [View.readAt_eq_ld, h1.read_unread, h2.read_unread, h3.read_unread, h4.read_unread, h5.read_unread, View.ld_unit_zero (S := S256x5632) hz, View.ld_unit_zero (S := S1024x5632) hz, View.ld_unit_zero (S := S256x1024) hz, View.ld_unit_zero (S := S1x1024) hz]

theorem out_A6 (hc : cond0_0 i) : out0_A_6 c i a1 h1 a2 h2 a3 h3 a4 h4 a5 h5 a6 h6 a7 h7 a8 h8 hc x0 x1 x2 x3 x4 = k0_pay7 x0 x1 x2 x4 x3 := by
  unfold out0_A_6
  rw [View.read_writes_eq_canon _ _ _ (cover0_A_6 c i a1 h1 a2 h2 a3 h3 a4 h4 a5 h5 a6 h6 a7 h7 a8 h8 hc x0 x1 x2 x3 x4)]
  unfold kernelRun0_A
  dsimp only
  rw [View.canon_unit_zero hz]
  simp only [View.readAt_eq_ld, h1.read_unread, h2.read_unread, h3.read_unread, h4.read_unread, h5.read_unread, View.ld_unit_zero (S := S256x5632) hz, View.ld_unit_zero (S := S1024x5632) hz, View.ld_unit_zero (S := S256x1024) hz, View.ld_unit_zero (S := S1x1024) hz]

theorem out_A7 (hc : cond0_0 i) : out0_A_7 c i a1 h1 a2 h2 a3 h3 a4 h4 a5 h5 a6 h6 a7 h7 a8 h8 hc x0 x1 x2 x3 x4 = k0_pay2 (k0_pay3 x0 x1) (k0_pay5 x2) (k0_pay1 (F := Ideal)) := by
  unfold out0_A_7
  rw [View.read_writes_eq_canon _ _ _ (cover0_A_7 c i a1 h1 a2 h2 a3 h3 a4 h4 a5 h5 a6 h6 a7 h7 a8 h8 hc x0 x1 x2 x3 x4)]
  unfold kernelRun0_A
  dsimp only
  sl_unfold_words
  rw [View.canon_cons_unit_zero (S := S1x1024) hz, View.readCov_unit_zero (S := S1x1024) _ hz]
  simp only [View.readAt_eq_ld, h1.read_unread, h2.read_unread, h3.read_unread, View.ld_unit_zero (S := S256x5632) hz, View.ld_unit_zero (S := S1024x5632) hz, View.ld_unit_zero (S := S256x1024) hz]

theorem out_B5 (hc : ¬cond0_0 i) : out0_B_5 c i a1 h1 a2 h2 a3 h3 a4 h4 a5 h5 a6 h6 a7 h7 a8 h8 hc x0 x1 x2 x3 x4 xo = k0_pay6 x0 x1 x2 x4 x3 := by
  unfold out0_B_5
  rw [View.read_writes_eq_canon _ _ _ (cover0_B_5 c i a1 h1 a2 h2 a3 h3 a4 h4 a5 h5 a6 h6 a7 h7 a8 h8 hc x0 x1 x2 x3 x4 xo)]
  unfold kernelRun0_B
  dsimp only
  rw [View.canon_unit_zero hz]
  simp only [View.readAt_eq_ld, h1.read_unread, h2.read_unread, h3.read_unread, h4.read_unread, h5.read_unread, View.ld_unit_zero (S := S256x5632) hz, View.ld_unit_zero (S := S1024x5632) hz, View.ld_unit_zero (S := S256x1024) hz, View.ld_unit_zero (S := S1x1024) hz]

theorem out_B6 (hc : ¬cond0_0 i) : out0_B_6 c i a1 h1 a2 h2 a3 h3 a4 h4 a5 h5 a6 h6 a7 h7 a8 h8 hc x0 x1 x2 x3 x4 xo = k0_pay7 x0 x1 x2 x4 x3 := by
  unfold out0_B_6
  rw [View.read_writes_eq_canon _ _ _ (cover0_B_6 c i a1 h1 a2 h2 a3 h3 a4 h4 a5 h5 a6 h6 a7 h7 a8 h8 hc x0 x1 x2 x3 x4 xo)]
  unfold kernelRun0_B
  dsimp only
  rw [View.canon_unit_zero hz]
  simp only [View.readAt_eq_ld, h1.read_unread, h2.read_unread, h3.read_unread, h4.read_unread, h5.read_unread, View.ld_unit_zero (S := S256x5632) hz, View.ld_unit_zero (S := S1024x5632) hz, View.ld_unit_zero (S := S256x1024) hz, View.ld_unit_zero (S := S1x1024) hz]

theorem out_B7 (hc : ¬cond0_0 i) : out0_B_7 c i a1 h1 a2 h2 a3 h3 a4 h4 a5 h5 a6 h6 a7 h7 a8 h8 hc x0 x1 x2 x3 x4 xo = k0_pay2 (k0_pay3 x0 x1) (k0_pay5 x2) xo := by
  unfold out0_B_7
  rw [View.read_writes_eq_canon _ _ _ (cover0_B_7 c i a1 h1 a2 h2 a3 h3 a4 h4 a5 h5 a6 h6 a7 h7 a8 h8 hc x0 x1 x2 x3 x4 xo)]
  unfold kernelRun0_B
  dsimp only
  sl_unfold_words
  rw [View.canon_unit_zero hz]
  simp only [View.readAt_eq_ld, h1.read_unread, h2.read_unread, h3.read_unread, h8.read_unread, View.ld_unit_zero (S := S256x5632) hz, View.ld_unit_zero (S := S1024x5632) hz, View.ld_unit_zero (S := S256x1024) hz, View.ld_unit_zero (S := S1x1024) hz]

end Body

theorem idx : ∀ t : Fin cfg0.N, win0_0.index t 0 = t.val ∧ win0_0.index t 1 = 0 ∧ win0_1.index t 0 = 0 ∧ win0_1.index t 1 = 0 ∧ win0_2.index t 0 = t.val ∧ win0_2.index t 1 = 0 ∧ win0_3.index t 0 = t.val ∧ win0_3.index t 1 = 0 ∧
    win0_4.index t 0 = 0 ∧
    win0_4.index t 1 = 0 ∧ win0_5.index t 0 = t.val ∧ win0_5.index t 1 = 0 ∧ win0_6.index t 0 = t.val ∧ win0_6.index t 1 = 0 ∧ win0_7.index t 0 = 0 ∧ win0_7.index t 1 = 0 := by
  decide +kernel

section Arr
variable (m : (ℓ : Loc nD τ sig) → Buf (Elt Ideal) ℓ) (c : Dev nD)

/-- The five arguments as real numbers. -/
def rA : ℕ → ℕ → ℝ := re (M := 4096) (N := 5632) (m ((c : Thread nD τ).loc main_arg0))
def rB : ℕ → ℕ → ℝ := re (M := 1024) (N := 5632) (m ((c : Thread nD τ).loc main_arg1))
def rX : ℕ → ℕ → ℝ := re (M := 4096) (N := 1024) (m ((c : Thread nD τ).loc main_arg2))
def rG : ℕ → ℕ → ℝ := re (M := 1) (N := 1024) (m ((c : Thread nD τ).loc main_arg3))
def rZ : ℕ → ℕ → ℝ := re (M := 4096) (N := 1024) (m ((c : Thread nD τ).loc main_arg4))
/-- The product. -/
def rP : ℕ → ℕ → ℝ := pr 5632 (rA m c) (rB m c)

variable (hp : Cert.Pre_GuNormBwdIdeal_gu_norm_bwd_finite (hPre_gu_norm_bwd_finite := Cert.Pre_gu_norm_bwd_finite.Gen.facts) m)

include hp in
theorem args : IsR (M := 4096) (N := 5632) (m ((c : Thread nD τ).loc main_arg0)) (rA m c)
    ∧ IsR (M := 1024) (N := 5632) (m ((c : Thread nD τ).loc main_arg1)) (rB m c)
    ∧ IsR (M := 4096) (N := 1024) (m ((c : Thread nD τ).loc main_arg2)) (rX m c)
    ∧ IsR (M := 1) (N := 1024) (m ((c : Thread nD τ).loc main_arg3)) (rG m c)
    ∧ IsR (M := 4096) (N := 1024) (m ((c : Thread nD τ).loc main_arg4)) (rZ m c) := by
  have e := hp c
  unfold Cert.Pre_gu_norm_bwd_finite.fn at e
  exact ⟨isR_re (congrFun e.1), isR_re (congrFun e.2.1), isR_re (congrFun e.2.2.1), isR_re (congrFun e.2.2.2.1), isR_re (congrFun e.2.2.2.2)⟩

include hp in
theorem blocks (t : Fin cfg0.N) : IsR (M := 256) (N := 5632) (iblk m c 0 t) (fun r k => rA m c (256 * t.val + r) k)
    ∧ IsR (M := 1024) (N := 5632) (iblk m c 1 t) (rB m c)
    ∧ IsR (M := 256) (N := 1024) (iblk m c 2 t) (fun r k => rX m c (256 * t.val + r) k)
    ∧ IsR (M := 256) (N := 1024) (iblk m c 3 t) (fun r k => rZ m c (256 * t.val + r) k)
    ∧ IsR (M := 1) (N := 1024) (iblk m c 4 t) (rG m c) := by
  obtain ⟨hA, hB, hX, hG, hZ⟩ := args m c hp
  obtain ⟨e00, e01, e10, e11, e20, e21, e30, e31, e40, e41, e50, e51, e60, e61, e70, e71⟩ := idx t
  have ht : t.val < 16 := t.isLt
  exact ⟨hA.rows _ (by omega) fun r k => by blk_ext [iblk, V, e00, e01], hB.whole fun r k => by blk_ext [iblk, V, e10, e11],
    hX.rows _ (by omega) fun r k => by blk_ext [iblk, V, e20, e21], hZ.rows _ (by omega) fun r k => by blk_ext [iblk, V, e30, e31],
    hG.whole fun r k => by blk_ext [iblk, V, e40, e41]⟩

include hp in
/-- The running sum the gain's staging block holds after a point. -/
theorem acc_eq : ∀ (n : ℕ) (h : n < cfg0.N), IsR (M := 1) (N := 1024) (outsAt0 m c n h).2.2
    (fun _ k => ∑ i ∈ Finset.range (256 * (n + 1)), PG (rP m c) (rX m c) i k)
  | 0, h => by
    obtain ⟨b0, b1, b2, -, -⟩ := blocks m c hp ⟨0, h⟩
    rw [outsAt0_A m c ⟨0, h⟩ rfl]
    dsimp only
    rw [out_A7]
    exact pay2_isR (n := 0) b0 b1 b2 (isR_zero.congr fun r k _ _ => by rw [Nat.mul_zero, Finset.sum_range_zero])
  | n + 1, h => by
    obtain ⟨b0, b1, b2, -, -⟩ := blocks m c hp ⟨n + 1, h⟩
    have hN : cfg0.N = 16 := N_0
    have hB : ¬(⟨n + 1, h⟩ : Fin cfg0.N).val % 16 = 0 := by dsimp only; omega
    rw [outsAt0_B m c ⟨n + 1, h⟩ hB]
    dsimp only
    rw [out_B7]
    exact pay2_isR (n := n + 1) b0 b1 b2 (acc_eq n _)

include hp in
theorem rows_eq (t : Fin cfg0.N) : IsR (M := 256) (N := 1024) (outsAt0 m c t.val t.isLt).1
      (fun r k => DX (rP m c) (rX m c) (rG m c) (rZ m c) (256 * t.val + r) k)
    ∧ IsR (M := 256) (N := 1024) (outsAt0 m c t.val t.isLt).2.1
      (fun r k => DX (rP m c) (rX m c) (rG m c) (rZ m c) (256 * t.val + r) k) := by
  obtain ⟨b0, b1, b2, b3, b4⟩ := blocks m c hp t
  by_cases h0 : t.val % 16 = 0
  · rw [outsAt0_A m c t h0]
    dsimp only
    rw [out_A5, out_A6]
    exact ⟨pay6_isR b0 b1 b2 b3 b4, pay7_isR b0 b1 b2 b3 b4⟩
  · rw [outsAt0_B m c t h0]
    dsimp only
    rw [out_B5, out_B6]
    exact ⟨pay6_isR b0 b1 b2 b3 b4, pay7_isR b0 b1 b2 b3 b4⟩

include hp in
theorem arr5_eq : (dats m 0 c).arrAt 5 cfg0.N = mat (M := 4096) (N := 1024) (DX (rP m c) (rX m c) (rG m c) (rZ m c)) := by
  refine (dats m 0 c).arrAt_eq_of_covers 5 _ (by decide +kernel) fun t hf y => ?_
  obtain ⟨e00, e01, e10, e11, e20, e21, e30, e31, e40, e41, e50, e51, e60, e61, e70, e71⟩ := idx t
  have ht : t.val < 16 := t.isLt
  have hy0 : (y 0).val < 256 := (y 0).isLt
  blk_simp
  rw [after0_5, eq_ix2 y]
  have hy : (win0_5.blk t).view.emb (ix2 (y 0) (y 1)) = (ix2 ⟨256 * t.val + (y 0).val, by omega⟩ (y 1) : (⟨2, ![4096, 1024]⟩ : Shape).Idx) := by
    blk_ext [e50, e51]
  refine ((rows_eq m c hp t).1 (y 0) (y 1)).trans (Eq.trans ?_ (congrArg _ hy.symm))
  rfl

include hp in
theorem arr6_eq : (dats m 0 c).arrAt 6 cfg0.N = mat (M := 4096) (N := 1024) (DX (rP m c) (rX m c) (rG m c) (rZ m c)) := by
  refine (dats m 0 c).arrAt_eq_of_covers 6 _ (by decide +kernel) fun t hf y => ?_
  obtain ⟨e00, e01, e10, e11, e20, e21, e30, e31, e40, e41, e50, e51, e60, e61, e70, e71⟩ := idx t
  have ht : t.val < 16 := t.isLt
  have hy0 : (y 0).val < 256 := (y 0).isLt
  blk_simp
  rw [after0_6, eq_ix2 y]
  have hy : (win0_6.blk t).view.emb (ix2 (y 0) (y 1)) = (ix2 ⟨256 * t.val + (y 0).val, by omega⟩ (y 1) : (⟨2, ![4096, 1024]⟩ : Shape).Idx) := by
    blk_ext [e60, e61]
  refine ((rows_eq m c hp t).2 (y 0) (y 1)).trans (Eq.trans ?_ (congrArg _ hy.symm))
  rfl

include hp in
theorem arr7_eq : (dats m 0 c).arrAt 7 cfg0.N = mat (M := 1) (N := 1024) (DG (rP m c) (rX m c)) := by
  refine (dats m 0 c).arrAt_eq_of_covers 7 _ (by decide +kernel) fun t hf y => ?_
  have h15 : t.val = 15 := by have := (flush0_7 t).mp hf; have : t.val < 16 := t.isLt; omega
  obtain ⟨e00, e01, e10, e11, e20, e21, e30, e31, e40, e41, e50, e51, e60, e61, e70, e71⟩ := idx t
  blk_simp
  rw [after0_7, eq_row0 (n := 1024) y]
  have hy : (win0_7.blk t).view.emb (ix2 (0 : Fin 1) (y 1)) = (ix2 0 (y 1) : (⟨2, ![1, 1024]⟩ : Shape).Idx) := by
    blk_ext [e70, e71]
  refine (acc_eq m c hp t.val t.isLt 0 (y 1)).trans (Eq.trans ?_ (congrArg _ hy.symm))
  rw [h15]
  rfl

end Arr

section Ref
open Cert.GuNormBwdRefIdeal.Read
variable {x0 : FVec Ideal S4096x5632 .bf16} {x1 : FVec Ideal S1024x5632 .bf16} {x2 x4 : FVec Ideal S4096x1024 .f32} {x3 : FVec Ideal S1x1024 .f32}
  {a b x g z : ℕ → ℕ → ℝ} (h0 : IsR x0 a) (h1 : IsR x1 b) (h2 : IsR x2 x) (h3 : IsR x3 g) (h4 : IsR x4 z)

include h2 in
theorem v8_isR : IsR (M := 4096) (N := 1) (val_main_v8 (F := Ideal) x2) (fun r _ => dn (x r)) :=
  isR_hdn h2 Cert.GuNormBwdRefIdeal.Gen.h_S_ Cert.GuNormBwdRefIdeal.Gen.reducesTo_S4096x1024_S4096_d1
    Cert.GuNormBwdRefIdeal.Gen.bcast_S4096_S4096x1_0 Cert.GuNormBwdRefIdeal.Gen.bcast_S_S4096x1

include h2 in
theorem v9_isR : IsR (M := 4096) (N := 1) (val_main_v9 (F := Ideal) x2) (fun r _ => iv (x r)) :=
  isR_hrsqrt (φ := .f32) (v8_isR h2) fun r _ => dn_pos (x r)

include h0 h1 in
theorem v18_isR : IsR (M := 4096) (N := 1024) (val_main_v18 (F := Ideal) x0 x1) (pr 5632 a b) := by
  intro r k
  pointwise [val_main_v18]
  exact sum_mul (fun i => h0 r i) fun i => h1 k i

include h0 h1 h2 in
theorem v21_isR : IsR (M := 1) (N := 1024) (val_main_v21 (F := Ideal) x0 x1 x2) (DG (pr 5632 a b) x) :=
  (isR_hcolSum (isR_mul (φ := .f32) (isR_mul (φ := .f32) h2 (isR_hcol (v9_isR h2) Cert.GuNormBwdRefIdeal.Gen.bcast_S4096x1_S4096x1024_0_1)) (v18_isR h0 h1))
    Cert.GuNormBwdRefIdeal.Gen.h_S_ Cert.GuNormBwdRefIdeal.Gen.reducesTo_S4096x1024_S1024_d0
    Cert.GuNormBwdRefIdeal.Gen.shapeCasts_S1024_S1x1024).congr fun r k _ _ => Finset.sum_congr rfl fun i _ => mul_comm _ _

include h0 h1 h3 in
theorem v23_isR : IsR (M := 4096) (N := 1024) (val_main_v23 (F := Ideal) x0 x1 x3) (fun r k => pr 5632 a b r k * g 0 k) :=
  isR_mul (φ := .f32) (v18_isR h0 h1) (isR_hrow h3 Cert.GuNormBwdRefIdeal.Gen.bcast_S1x1024_S4096x1024_0_1)

include h0 h1 h2 h3 h4 in
theorem v38_isR : IsR (M := 4096) (N := 1024) (val_main_v38 (F := Ideal) x0 x1 x2 x3 x4) (DX (pr 5632 a b) x g z) :=
  (isR_hdx (v9_isR h2) h2 (v23_isR h0 h1 h3) h4 (isR_htf h2 (v23_isR h0 h1 h3) Cert.GuNormBwdRefIdeal.Gen.h_S_
    Cert.GuNormBwdRefIdeal.Gen.reducesTo_S4096x1024_S4096_d1 Cert.GuNormBwdRefIdeal.Gen.bcast_S_S4096x1
    Cert.GuNormBwdRefIdeal.Gen.shapeCasts_S4096_S4096x1 Cert.GuNormBwdRefIdeal.Gen.reducesTo_S4096x1_S4096_d1
    Cert.GuNormBwdRefIdeal.Gen.bcast_S4096_S4096x1024_0 (v8_isR h2) (v9_isR h2))
    Cert.GuNormBwdRefIdeal.Gen.bcast_S4096x1_S4096x1024_0_1).congr fun r k _ _ => add_comm _ _

end Ref

theorem frame_ref : Cert.quiescent_GuNormBwdRefIdeal (hGuNormBwdRefIdeal := Cert.GuNormBwdRefIdeal.Gen.facts) := fun m ρ _ =>
  (θ_run _ _ _).mono (fun r h => ⟨fun c => (h c).2.2.2, sem_eq_zero_of_no_sems (by decide) r.2⟩) (Cert.GuNormBwdRefIdeal.Value.run m ρ)

theorem alg : Cert.algebraic_GuNormBwdIdeal_GuNormBwdRefIdeal_pre_gu_norm_bwd_finite (hGuNormBwdIdeal := Cert.GuNormBwdIdeal.Gen.facts)
    (hGuNormBwdRefIdeal := Cert.GuNormBwdRefIdeal.Gen.facts) (hPre_gu_norm_bwd_finite := Cert.Pre_gu_norm_bwd_finite.Gen.facts) := by
  intro m g m' g' hpre hag
  refine ⟨fun c => mat (M := 4096) (N := 1024) (DX (rP m c) (rX m c) (rG m c) (rZ m c)),
    fun c => mat (M := 4096) (N := 1024) (DX (rP m c) (rX m c) (rG m c) (rZ m c)),
    fun c => mat (M := 1) (N := 1024) (DG (rP m c) (rX m c)), ?_, ?_⟩
  · exact (θ_run defs _ _).mono (fun r h c => ⟨(h c).1.trans (arr5_eq m c hpre), (h c).2.1.trans (arr6_eq m c hpre),
      (h c).2.2.1.trans (arr7_eq m c hpre), (h c).2.2.2⟩) (Cert.GuNormBwdIdeal.Value.run_blocks m g)
  · refine (θ_run Cert.GuNormBwdRefIdeal.defs _ _).mono (fun r h c => ?_) (Cert.GuNormBwdRefIdeal.Value.run m' g')
    obtain ⟨hA, hB, hX, hG, hZ⟩ := args m c hpre
    refine ⟨(h c).1.trans ?_, (h c).2.1.trans ?_, (h c).2.2.1.trans ?_, (h c).2.2.2⟩
    · rw [Cert.GuNormBwdRefIdeal.Read.val_main_v38_eq, (hag c).1, (hag c).2.1, (hag c).2.2.1, (hag c).2.2.2.1, (hag c).2.2.2.2]
      exact IsR.eq_mat (v38_isR hA hB hX hG hZ)
    · rw [Cert.GuNormBwdRefIdeal.Read.val_main_v39_eq, (hag c).1, (hag c).2.1, (hag c).2.2.1, (hag c).2.2.2.1, (hag c).2.2.2.2]
      exact IsR.eq_mat (v38_isR hA hB hX hG hZ)
    · rw [Cert.GuNormBwdRefIdeal.Read.val_main_v21_eq, (hag c).1, (hag c).2.1, (hag c).2.2.1]
      exact IsR.eq_mat (v21_isR hA hB hX)

end Cert.Hand.GuNorm

end
-- ==== Proof.KvNorm.lean ====
module

public import proofs.«01_k».proof.Proof.Norm
public import proofs.«01_k».proof.Proof.Gen.KvNormBwdIdeal.Value
public import proofs.«01_k».proof.Proof.Gen.KvNormBwdRefIdeal.Read
public import proofs.«01_k».proof.Proof.Gen.KvNormBwdRefIdeal.Run
public import proofs.«01_k».proof.Proof.Gen.Pre_kv_norm_bwd_finite
public import proofs.«01_k».proof.Defs
public import Idealize.ShloMosaic.Lib.Pipeline.ValueKit
public meta import Idealize.ShloMosaic.Lib.Pointwise
public meta import Idealize.ShloMosaic.Lib.Pipeline.ValueKit

/-!
The gradient of two normalisations of one array, the first fused with the product before it, and the residual: what the
kernel leaves in its four results, what the reference computes, and that the two agree on real arguments.
-/

set_option maxRecDepth 16384

noncomputable section

@[expose] public section

namespace Cert.Hand.KvNorm

open Idealize.ShloMosaic Idealize.ShloMosaic.TcCoe Idealize.SL.Sem
open Cert.KvNormBwdIdeal Cert.KvNormBwdIdeal.Gen
open Cert.Hand.Sb Cert.Hand.Norm

theorem hz : (![0, 0] : Fin 2 → Nat) = fun _ => 0 := funext fun a => by fin_cases a <;> rfl

/-- The row's gradient, with the residual's, -/
def DX (a b x g z u d : ℕ → ℕ → ℝ) (r k : ℕ) : ℝ := dx (x r) (fun k => pr 1536 a b r k * g 0 k + d r k * u 0 k) k + z r k
/-- and one row's share of each gain's. -/
def PG (a b x : ℕ → ℕ → ℝ) (r k : ℕ) : ℝ := pr 1536 a b r k * xh (x r) k
def PU (x d : ℕ → ℕ → ℝ) (r k : ℕ) : ℝ := d r k * xh (x r) k
/-- The gains' gradients. -/
def DG (a b x : ℕ → ℕ → ℝ) (_ k : ℕ) : ℝ := ∑ i ∈ Finset.range 4096, PG a b x i k
def DU (x d : ℕ → ℕ → ℝ) (_ k : ℕ) : ℝ := ∑ i ∈ Finset.range 4096, PU x d i k

section Pay
variable {x0 : FVec Ideal S256x1536 .bf16} {x1 : FVec Ideal S1024x1536 .bf16} {x2 x3 x6 : FVec Ideal S256x1024 .f32} {x4 x5 xo : FVec Ideal S1x1024 .f32}
  {a b x g z u d : ℕ → ℕ → ℝ} (h0 : IsR x0 a) (h1 : IsR x1 b) (h2 : IsR x2 x) (h3 : IsR x3 z) (h4 : IsR x4 g) (h5 : IsR x5 u) (h6 : IsR x6 d)

include h0 h1 in
theorem pay5_isR : IsR (M := 256) (N := 1024) (k0_pay5 (F := Ideal) x0 x1) (pr 1536 a b) := isR_matmul_nt h0 h1

include h2 in
theorem pay6_isR : IsR (M := 256) (N := 1) (k0_pay6 (F := Ideal) x2) (fun r _ => iv (x r)) :=
  isR_iv h2 reduces_S256x1024_S256 (.inl rfl) rfl shapeCasts_S256_S256x1

include h2 in
theorem pay7_isR : IsR (M := 256) (N := 1024) (k0_pay7 (F := Ideal) x2) (fun r k => xh (x r) k) := isR_xh h2 broadcasts_S256x1_S256x1024 (pay6_isR h2)

include h0 h1 h2 h3 h4 h5 h6 in
theorem pay8_isR : IsR (M := 256) (N := 1024) (k0_pay8 (F := Ideal) x0 x1 x2 x4 x6 x5 x3) (DX a b x g z u d) :=
  isR_add (φ := .f32) (isR_dx (isR_add (φ := .f32) (isR_mul (φ := .f32) (pay5_isR h0 h1) (isR_row (φ := .f32) h4 broadcasts_S1x1024_S256x1024))
      (isR_mul (φ := .f32) h6 (isR_row (φ := .f32) h5 broadcasts_S1x1024_S256x1024)))
    reduces_S256x1024_S256 (.inl rfl) rfl shapeCasts_S256_S256x1 broadcasts_S256x1_S256x1024 (pay6_isR h2) (pay7_isR h2)) h3

include h0 h1 h2 h3 h4 h5 h6 in
theorem pay9_isR : IsR (M := 256) (N := 1024) (k0_pay9 (F := Ideal) x0 x1 x2 x4 x6 x5 x3) (DX a b x g z u d) := pay8_isR h0 h1 h2 h3 h4 h5 h6

theorem pay3_isR {n : ℕ} (h0 : IsR x0 (fun r k => a (256 * n + r) k)) (h1 : IsR x1 b) (h2 : IsR x2 (fun r k => x (256 * n + r) k))
    (ho : IsR xo (fun _ k => ∑ i ∈ Finset.range (256 * n), PG a b x i k)) :
    IsR (M := 1) (N := 1024) (k0_pay3 (F := Ideal) (k0_pay5 x0 x1) (k0_pay7 x2) xo) (fun _ k => ∑ i ∈ Finset.range (256 * (n + 1)), PG a b x i k) :=
  isR_acc ho (isR_colSum (isR_mul (φ := .f32) (pay5_isR h0 h1) (pay7_isR h2)) reduces_S256x1024_S1024 (.inl rfl) rfl shapeCasts_S1024_S1x1024)
    shapeCasts_S1x1024_S1x1024

theorem pay4_isR {n : ℕ} (h2 : IsR x2 (fun r k => x (256 * n + r) k)) (h6 : IsR x6 (fun r k => d (256 * n + r) k))
    (ho : IsR xo (fun _ k => ∑ i ∈ Finset.range (256 * n), PU x d i k)) :
    IsR (M := 1) (N := 1024) (k0_pay4 (F := Ideal) (k0_pay7 x2) x6 xo) (fun _ k => ∑ i ∈ Finset.range (256 * (n + 1)), PU x d i k) :=
  isR_acc ho (isR_colSum (isR_mul (φ := .f32) h6 (pay7_isR h2)) reduces_S256x1024_S1024 (.inl rfl) rfl shapeCasts_S1024_S1x1024)
    shapeCasts_S1x1024_S1x1024

end Pay

section Body
variable (c : Dev nD) (i : grid0.Coords)
  (a1 : Memref sig .tc .vmem S256x1536 .bf16) (h1 : a1.IsWhole)
  (a2 : Memref sig .tc .vmem S1024x1536 .bf16) (h2 : a2.IsWhole)
  (a3 : Memref sig .tc .vmem S256x1024 .f32) (h3 : a3.IsWhole)
  (a4 : Memref sig .tc .vmem S256x1024 .f32) (h4 : a4.IsWhole)
  (a5 : Memref sig .tc .vmem S1x1024 .f32) (h5 : a5.IsWhole)
  (a6 : Memref sig .tc .vmem S1x1024 .f32) (h6 : a6.IsWhole)
  (a7 : Memref sig .tc .vmem S256x1024 .f32) (h7 : a7.IsWhole)
  (a8 : Memref sig .tc .vmem S256x1024 .f32) (h8 : a8.IsWhole)
  (a9 : Memref sig .tc .vmem S256x1024 .bf16) (h9 : a9.IsWhole)
  (a10 : Memref sig .tc .vmem S1x1024 .f32) (h10 : a10.IsWhole)
  (a11 : Memref sig .tc .vmem S1x1024 .f32) (h11 : a11.IsWhole)
  (x0 : Vec Ideal S256x1536 .bf16) (x1 : Vec Ideal S1024x1536 .bf16) (x2 x3 x6 : Vec Ideal S256x1024 .f32) (x4 x5 xo xp : Vec Ideal S1x1024 .f32)

theorem out_A7 (hc : cond0_0 i) : out0_A_7 c i a1 h1 a2 h2 a3 h3 a4 h4 a5 h5 a6 h6 a7 h7 a8 h8 a9 h9 a10 h10 a11 h11 hc x0 x1 x2 x3 x4 x5 x6 = k0_pay8 x0 x1 x2 x4 x6 x5 x3 := by
  unfold out0_A_7
  rw [View.read_writes_eq_canon _ _ _ (cover0_A_7 c i a1 h1 a2 h2 a3 h3 a4 h4 a5 h5 a6 h6 a7 h7 a8 h8 a9 h9 a10 h10 a11 h11 hc x0 x1 x2 x3 x4 x5 x6)]
  unfold kernelRun0_A
  dsimp only
  rw [View.canon_unit_zero hz]
  simp only [View.readAt_eq_ld, h1.read_unread, h2.read_unread, h3.read_unread, h4.read_unread, h5.read_unread, h6.read_unread, h7.read_unread, View.ld_unit_zero (S := S256x1536) hz, View.ld_unit_zero (S := S1024x1536) hz, View.ld_unit_zero (S := S256x1024) hz, View.ld_unit_zero (S := S1x1024) hz]

theorem out_A8 (hc : cond0_0 i) : out0_A_8 c i a1 h1 a2 h2 a3 h3 a4 h4 a5 h5 a6 h6 a7 h7 a8 h8 a9 h9 a10 h10 a11 h11 hc x0 x1 x2 x3 x4 x5 x6 = k0_pay9 x0 x1 x2 x4 x6 x5 x3 := by
  unfold out0_A_8
  rw [View.read_writes_eq_canon _ _ _ (cover0_A_8 c i a1 h1 a2 h2 a3 h3 a4 h4 a5 h5 a6 h6 a7 h7 a8 h8 a9 h9 a10 h10 a11 h11 hc x0 x1 x2 x3 x4 x5 x6)]
  unfold kernelRun0_A
  dsimp only
  sl_unfold_words
  rw [View.canon_unit_zero hz]
  simp only [View.readAt_eq_ld, h1.read_unread, h2.read_unread, h3.read_unread, h4.read_unread, h5.read_unread, h6.read_unread, h7.read_unread, View.ld_unit_zero (S := S256x1536) hz, View.ld_unit_zero (S := S1024x1536) hz, View.ld_unit_zero (S := S256x1024) hz, View.ld_unit_zero (S := S1x1024) hz]

theorem out_A9 (hc : cond0_0 i) : out0_A_9 c i a1 h1 a2 h2 a3 h3 a4 h4 a5 h5 a6 h6 a7 h7 a8 h8 a9 h9 a10 h10 a11 h11 hc x0 x1 x2 x3 x4 x5 x6 = k0_pay3 (k0_pay5 x0 x1) (k0_pay7 x2) (k0_pay1 (F := Ideal)) := by
  unfold out0_A_9
  rw [View.read_writes_eq_canon _ _ _ (cover0_A_9 c i a1 h1 a2 h2 a3 h3 a4 h4 a5 h5 a6 h6 a7 h7 a8 h8 a9 h9 a10 h10 a11 h11 hc x0 x1 x2 x3 x4 x5 x6)]
  unfold kernelRun0_A
  dsimp only
  sl_unfold_words
  rw [View.canon_cons_unit_zero (S := S1x1024) hz, View.readCov_unit_zero (S := S1x1024) _ hz]
  simp only [View.readAt_eq_ld, h1.read_unread, h2.read_unread, h3.read_unread, View.ld_unit_zero (S := S256x1536) hz, View.ld_unit_zero (S := S1024x1536) hz, View.ld_unit_zero (S := S256x1024) hz]

theorem out_A10 (hc : cond0_0 i) : out0_A_10 c i a1 h1 a2 h2 a3 h3 a4 h4 a5 h5 a6 h6 a7 h7 a8 h8 a9 h9 a10 h10 a11 h11 hc x0 x1 x2 x3 x4 x5 x6 = k0_pay4 (k0_pay7 x2) x6 (k0_pay2 (F := Ideal)) := by
  unfold out0_A_10
  rw [View.read_writes_eq_canon _ _ _ (cover0_A_10 c i a1 h1 a2 h2 a3 h3 a4 h4 a5 h5 a6 h6 a7 h7 a8 h8 a9 h9 a10 h10 a11 h11 hc x0 x1 x2 x3 x4 x5 x6)]
  unfold kernelRun0_A
  dsimp only
  sl_unfold_words
  rw [View.canon_cons_unit_zero (S := S1x1024) hz, View.readCov_unit_zero (S := S1x1024) _ hz]
  simp only [View.readAt_eq_ld, h3.read_unread, h7.read_unread, View.ld_unit_zero (S := S256x1024) hz]

theorem out_B7 (hc : ¬cond0_0 i) : out0_B_7 c i a1 h1 a2 h2 a3 h3 a4 h4 a5 h5 a6 h6 a7 h7 a8 h8 a9 h9 a10 h10 a11 h11 hc x0 x1 x2 x3 x4 x5 x6 xo xp = k0_pay8 x0 x1 x2 x4 x6 x5 x3 := by
  unfold out0_B_7
  rw [View.read_writes_eq_canon _ _ _ (cover0_B_7 c i a1 h1 a2 h2 a3 h3 a4 h4 a5 h5 a6 h6 a7 h7 a8 h8 a9 h9 a10 h10 a11 h11 hc x0 x1 x2 x3 x4 x5 x6 xo xp)]
  unfold kernelRun0_B
  dsimp only
  rw [View.canon_unit_zero hz]
  simp only [View.readAt_eq_ld, h1.read_unread, h2.read_unread, h3.read_unread, h4.read_unread, h5.read_unread, h6.read_unread, h7.read_unread, View.ld_unit_zero (S := S256x1536) hz, View.ld_unit_zero (S := S1024x1536) hz, View.ld_unit_zero (S := S256x1024) hz, View.ld_unit_zero (S := S1x1024) hz]

theorem out_B8 (hc : ¬cond0_0 i) : out0_B_8 c i a1 h1 a2 h2 a3 h3 a4 h4 a5 h5 a6 h6 a7 h7 a8 h8 a9 h9 a10 h10 a11 h11 hc x0 x1 x2 x3 x4 x5 x6 xo xp = k0_pay9 x0 x1 x2 x4 x6 x5 x3 := by
  unfold out0_B_8
  rw [View.read_writes_eq_canon _ _ _ (cover0_B_8 c i a1 h1 a2 h2 a3 h3 a4 h4 a5 h5 a6 h6 a7 h7 a8 h8 a9 h9 a10 h10 a11 h11 hc x0 x1 x2 x3 x4 x5 x6 xo xp)]
  unfold kernelRun0_B
  dsimp only
  sl_unfold_words
  rw [View.canon_unit_zero hz]
  simp only [View.readAt_eq_ld, h1.read_unread, h2.read_unread, h3.read_unread, h4.read_unread, h5.read_unread, h6.read_unread, h7.read_unread, View.ld_unit_zero (S := S256x1536) hz, View.ld_unit_zero (S := S1024x1536) hz, View.ld_unit_zero (S := S256x1024) hz, View.ld_unit_zero (S := S1x1024) hz]

theorem out_B9 (hc : ¬cond0_0 i) : out0_B_9 c i a1 h1 a2 h2 a3 h3 a4 h4 a5 h5 a6 h6 a7 h7 a8 h8 a9 h9 a10 h10 a11 h11 hc x0 x1 x2 x3 x4 x5 x6 xo xp = k0_pay3 (k0_pay5 x0 x1) (k0_pay7 x2) xo := by
  unfold out0_B_9
  rw [View.read_writes_eq_canon _ _ _ (cover0_B_9 c i a1 h1 a2 h2 a3 h3 a4 h4 a5 h5 a6 h6 a7 h7 a8 h8 a9 h9 a10 h10 a11 h11 hc x0 x1 x2 x3 x4 x5 x6 xo xp)]
  unfold kernelRun0_B
  dsimp only
  sl_unfold_words
  rw [View.canon_unit_zero hz]
  simp only [View.readAt_eq_ld, h1.read_unread, h2.read_unread, h3.read_unread, h10.read_unread, View.ld_unit_zero (S := S256x1536) hz, View.ld_unit_zero (S := S1024x1536) hz, View.ld_unit_zero (S := S256x1024) hz, View.ld_unit_zero (S := S1x1024) hz]

theorem out_B10 (hc : ¬cond0_0 i) : out0_B_10 c i a1 h1 a2 h2 a3 h3 a4 h4 a5 h5 a6 h6 a7 h7 a8 h8 a9 h9 a10 h10 a11 h11 hc x0 x1 x2 x3 x4 x5 x6 xo xp = k0_pay4 (k0_pay7 x2) x6 xp := by
  unfold out0_B_10
  rw [View.read_writes_eq_canon _ _ _ (cover0_B_10 c i a1 h1 a2 h2 a3 h3 a4 h4 a5 h5 a6 h6 a7 h7 a8 h8 a9 h9 a10 h10 a11 h11 hc x0 x1 x2 x3 x4 x5 x6 xo xp)]
  unfold kernelRun0_B
  dsimp only
  sl_unfold_words
  rw [View.canon_unit_zero hz]
  simp only [View.readAt_eq_ld, h3.read_unread, h7.read_unread, h11.read_unread, View.ld_unit_zero (S := S256x1024) hz, View.ld_unit_zero (S := S1x1024) hz]

end Body

theorem idx : ∀ t : Fin cfg0.N, win0_0.index t 0 = t.val ∧ win0_0.index t 1 = 0 ∧ win0_1.index t 0 = 0 ∧ win0_1.index t 1 = 0 ∧ win0_2.index t 0 = t.val ∧ win0_2.index t 1 = 0 ∧ win0_3.index t 0 = t.val ∧ win0_3.index t 1 = 0 ∧
    win0_4.index t 0 = 0 ∧
    win0_4.index t 1 = 0 ∧ win0_5.index t 0 = 0 ∧ win0_5.index t 1 = 0 ∧ win0_6.index t 0 = t.val ∧ win0_6.index t 1 = 0 ∧ win0_7.index t 0 = t.val ∧ win0_7.index t 1 = 0 ∧
    win0_8.index t 0 = t.val ∧
    win0_8.index t 1 = 0 ∧ win0_9.index t 0 = 0 ∧ win0_9.index t 1 = 0 ∧ win0_10.index t 0 = 0 ∧ win0_10.index t 1 = 0 := by
  decide +kernel

section Arr
variable (m : (ℓ : Loc nD τ sig) → Buf (Elt Ideal) ℓ) (c : Dev nD)

/-- The seven arguments as real numbers. -/
def rA : ℕ → ℕ → ℝ := re (M := 4096) (N := 1536) (m ((c : Thread nD τ).loc main_arg0))
def rB : ℕ → ℕ → ℝ := re (M := 1024) (N := 1536) (m ((c : Thread nD τ).loc main_arg1))
def rX : ℕ → ℕ → ℝ := re (M := 4096) (N := 1024) (m ((c : Thread nD τ).loc main_arg2))
def rG : ℕ → ℕ → ℝ := re (M := 1) (N := 1024) (m ((c : Thread nD τ).loc main_arg3))
def rZ : ℕ → ℕ → ℝ := re (M := 4096) (N := 1024) (m ((c : Thread nD τ).loc main_arg4))
def rU : ℕ → ℕ → ℝ := re (M := 1) (N := 1024) (m ((c : Thread nD τ).loc main_arg5))
def rD : ℕ → ℕ → ℝ := re (M := 4096) (N := 1024) (m ((c : Thread nD τ).loc main_arg6))

variable (hp : Cert.Pre_KvNormBwdIdeal_kv_norm_bwd_finite (hPre_kv_norm_bwd_finite := Cert.Pre_kv_norm_bwd_finite.Gen.facts) m)

include hp in
theorem args : IsR (M := 4096) (N := 1536) (m ((c : Thread nD τ).loc main_arg0)) (rA m c)
    ∧ IsR (M := 1024) (N := 1536) (m ((c : Thread nD τ).loc main_arg1)) (rB m c)
    ∧ IsR (M := 4096) (N := 1024) (m ((c : Thread nD τ).loc main_arg2)) (rX m c)
    ∧ IsR (M := 1) (N := 1024) (m ((c : Thread nD τ).loc main_arg3)) (rG m c)
    ∧ IsR (M := 4096) (N := 1024) (m ((c : Thread nD τ).loc main_arg4)) (rZ m c)
    ∧ IsR (M := 1) (N := 1024) (m ((c : Thread nD τ).loc main_arg5)) (rU m c)
    ∧ IsR (M := 4096) (N := 1024) (m ((c : Thread nD τ).loc main_arg6)) (rD m c) := by
  have e := hp c
  unfold Cert.Pre_kv_norm_bwd_finite.fn Cert.Pre_kv_norm_bwd_finite.fn_part1 at e
  exact ⟨isR_re (congrFun e.1), isR_re (congrFun e.2.1), isR_re (congrFun e.2.2.1), isR_re (congrFun e.2.2.2.1), isR_re (congrFun e.2.2.2.2.1),
    isR_re (congrFun e.2.2.2.2.2.1), isR_re (congrFun e.2.2.2.2.2.2)⟩

include hp in
theorem blocks (t : Fin cfg0.N) : IsR (M := 256) (N := 1536) (iblk m c 0 t) (fun r k => rA m c (256 * t.val + r) k)
    ∧ IsR (M := 1024) (N := 1536) (iblk m c 1 t) (rB m c)
    ∧ IsR (M := 256) (N := 1024) (iblk m c 2 t) (fun r k => rX m c (256 * t.val + r) k)
    ∧ IsR (M := 256) (N := 1024) (iblk m c 3 t) (fun r k => rZ m c (256 * t.val + r) k)
    ∧ IsR (M := 1) (N := 1024) (iblk m c 4 t) (rG m c) ∧ IsR (M := 1) (N := 1024) (iblk m c 5 t) (rU m c)
    ∧ IsR (M := 256) (N := 1024) (iblk m c 6 t) (fun r k => rD m c (256 * t.val + r) k) := by
  obtain ⟨hA, hB, hX, hG, hZ, hU, hD⟩ := args m c hp
  obtain ⟨e00, e01, e10, e11, e20, e21, e30, e31, e40, e41, e50, e51, e60, e61, e70, e71, e80, e81, e90, e91, e100, e101⟩ := idx t
  have ht : t.val < 16 := t.isLt
  exact ⟨hA.rows _ (by omega) fun r k => by blk_ext [iblk, V, e00, e01], hB.whole fun r k => by blk_ext [iblk, V, e10, e11],
    hX.rows _ (by omega) fun r k => by blk_ext [iblk, V, e20, e21], hZ.rows _ (by omega) fun r k => by blk_ext [iblk, V, e30, e31],
    hG.whole fun r k => by blk_ext [iblk, V, e40, e41], hU.whole fun r k => by blk_ext [iblk, V, e50, e51],
    hD.rows _ (by omega) fun r k => by blk_ext [iblk, V, e60, e61]⟩

include hp in
/-- The running sums the gains' staging blocks hold after a point. -/
theorem acc_eq : ∀ (n : ℕ) (h : n < cfg0.N), IsR (M := 1) (N := 1024) (outsAt0 m c n h).2.2.1
    (fun _ k => ∑ i ∈ Finset.range (256 * (n + 1)), PG (rA m c) (rB m c) (rX m c) i k)
    ∧ IsR (M := 1) (N := 1024) (outsAt0 m c n h).2.2.2 (fun _ k => ∑ i ∈ Finset.range (256 * (n + 1)), PU (rX m c) (rD m c) i k)
  | 0, h => by
    obtain ⟨b0, b1, b2, -, -, -, b6⟩ := blocks m c hp ⟨0, h⟩
    rw [outsAt0_A m c ⟨0, h⟩ rfl]
    dsimp only
    rw [out_A9, out_A10]
    exact ⟨pay3_isR (n := 0) b0 b1 b2 (isR_zero.congr fun r k _ _ => by rw [Nat.mul_zero, Finset.sum_range_zero]),
      pay4_isR (n := 0) b2 b6 (isR_zero.congr fun r k _ _ => by rw [Nat.mul_zero, Finset.sum_range_zero])⟩
  | n + 1, h => by
    obtain ⟨b0, b1, b2, -, -, -, b6⟩ := blocks m c hp ⟨n + 1, h⟩
    have hN : cfg0.N = 16 := N_0
    have hB : ¬(⟨n + 1, h⟩ : Fin cfg0.N).val % 16 = 0 := by dsimp only; omega
    rw [outsAt0_B m c ⟨n + 1, h⟩ hB]
    dsimp only
    rw [out_B9, out_B10]
    exact ⟨pay3_isR (n := n + 1) b0 b1 b2 (acc_eq n _).1, pay4_isR (n := n + 1) b2 b6 (acc_eq n _).2⟩

include hp in
theorem rows_eq (t : Fin cfg0.N) : IsR (M := 256) (N := 1024) (outsAt0 m c t.val t.isLt).1
      (fun r k => DX (rA m c) (rB m c) (rX m c) (rG m c) (rZ m c) (rU m c) (rD m c) (256 * t.val + r) k)
    ∧ IsR (M := 256) (N := 1024) (outsAt0 m c t.val t.isLt).2.1
      (fun r k => DX (rA m c) (rB m c) (rX m c) (rG m c) (rZ m c) (rU m c) (rD m c) (256 * t.val + r) k) := by
  obtain ⟨b0, b1, b2, b3, b4, b5, b6⟩ := blocks m c hp t
  by_cases h0 : t.val % 16 = 0
  · rw [outsAt0_A m c t h0]
    dsimp only
    rw [out_A7, out_A8]
    exact ⟨pay8_isR b0 b1 b2 b3 b4 b5 b6, pay9_isR b0 b1 b2 b3 b4 b5 b6⟩
  · rw [outsAt0_B m c t h0]
    dsimp only
    rw [out_B7, out_B8]
    exact ⟨pay8_isR b0 b1 b2 b3 b4 b5 b6, pay9_isR b0 b1 b2 b3 b4 b5 b6⟩

include hp in
theorem arr7_eq : (dats m 0 c).arrAt 7 cfg0.N = mat (M := 4096) (N := 1024) (DX (rA m c) (rB m c) (rX m c) (rG m c) (rZ m c) (rU m c) (rD m c)) := by
  refine (dats m 0 c).arrAt_eq_of_covers 7 _ (by decide +kernel) fun t hf y => ?_
  obtain ⟨e00, e01, e10, e11, e20, e21, e30, e31, e40, e41, e50, e51, e60, e61, e70, e71, e80, e81, e90, e91, e100, e101⟩ := idx t
  have ht : t.val < 16 := t.isLt
  have hy0 : (y 0).val < 256 := (y 0).isLt
  blk_simp
  rw [after0_7, eq_ix2 y]
  have hy : (win0_7.blk t).view.emb (ix2 (y 0) (y 1)) = (ix2 ⟨256 * t.val + (y 0).val, by omega⟩ (y 1) : (⟨2, ![4096, 1024]⟩ : Shape).Idx) := by
    blk_ext [e70, e71]
  refine ((rows_eq m c hp t).1 (y 0) (y 1)).trans (Eq.trans ?_ (congrArg _ hy.symm))
  rfl

include hp in
theorem arr8_eq : (dats m 0 c).arrAt 8 cfg0.N = mat (M := 4096) (N := 1024) (DX (rA m c) (rB m c) (rX m c) (rG m c) (rZ m c) (rU m c) (rD m c)) := by
  refine (dats m 0 c).arrAt_eq_of_covers 8 _ (by decide +kernel) fun t hf y => ?_
  obtain ⟨e00, e01, e10, e11, e20, e21, e30, e31, e40, e41, e50, e51, e60, e61, e70, e71, e80, e81, e90, e91, e100, e101⟩ := idx t
  have ht : t.val < 16 := t.isLt
  have hy0 : (y 0).val < 256 := (y 0).isLt
  blk_simp
  rw [after0_8, eq_ix2 y]
  have hy : (win0_8.blk t).view.emb (ix2 (y 0) (y 1)) = (ix2 ⟨256 * t.val + (y 0).val, by omega⟩ (y 1) : (⟨2, ![4096, 1024]⟩ : Shape).Idx) := by
    blk_ext [e80, e81]
  refine ((rows_eq m c hp t).2 (y 0) (y 1)).trans (Eq.trans ?_ (congrArg _ hy.symm))
  rfl

include hp in
theorem arr9_eq : (dats m 0 c).arrAt 9 cfg0.N = mat (M := 1) (N := 1024) (DG (rA m c) (rB m c) (rX m c)) := by
  refine (dats m 0 c).arrAt_eq_of_covers 9 _ (by decide +kernel) fun t hf y => ?_
  have h15 : t.val = 15 := by have := (flush0_9 t).mp hf; have : t.val < 16 := t.isLt; omega
  obtain ⟨e00, e01, e10, e11, e20, e21, e30, e31, e40, e41, e50, e51, e60, e61, e70, e71, e80, e81, e90, e91, e100, e101⟩ := idx t
  blk_simp
  rw [after0_9, eq_row0 (n := 1024) y]
  have hy : (win0_9.blk t).view.emb (ix2 (0 : Fin 1) (y 1)) = (ix2 0 (y 1) : (⟨2, ![1, 1024]⟩ : Shape).Idx) := by
    blk_ext [e90, e91]
  refine ((acc_eq m c hp t.val t.isLt).1 0 (y 1)).trans (Eq.trans ?_ (congrArg _ hy.symm))
  rw [h15]
  rfl

include hp in
theorem arr10_eq : (dats m 0 c).arrAt 10 cfg0.N = mat (M := 1) (N := 1024) (DU (rX m c) (rD m c)) := by
  refine (dats m 0 c).arrAt_eq_of_covers 10 _ (by decide +kernel) fun t hf y => ?_
  have h15 : t.val = 15 := by have := (flush0_10 t).mp hf; have : t.val < 16 := t.isLt; omega
  obtain ⟨e00, e01, e10, e11, e20, e21, e30, e31, e40, e41, e50, e51, e60, e61, e70, e71, e80, e81, e90, e91, e100, e101⟩ := idx t
  blk_simp
  rw [after0_10, eq_row0 (n := 1024) y]
  have hy : (win0_10.blk t).view.emb (ix2 (0 : Fin 1) (y 1)) = (ix2 0 (y 1) : (⟨2, ![1, 1024]⟩ : Shape).Idx) := by
    blk_ext [e100, e101]
  refine ((acc_eq m c hp t.val t.isLt).2 0 (y 1)).trans (Eq.trans ?_ (congrArg _ hy.symm))
  rw [h15]
  rfl

end Arr

section Ref
open Cert.KvNormBwdRefIdeal.Read
variable {x0 : FVec Ideal S4096x1536 .bf16} {x1 : FVec Ideal S1024x1536 .bf16} {x2 x4 x6 : FVec Ideal S4096x1024 .f32} {x3 x5 : FVec Ideal S1x1024 .f32}
  {a b x g z u d : ℕ → ℕ → ℝ} (h0 : IsR x0 a) (h1 : IsR x1 b) (h2 : IsR x2 x) (h3 : IsR x3 g) (h4 : IsR x4 z) (h5 : IsR x5 u) (h6 : IsR x6 d)

include h2 in
theorem v8_isR : IsR (M := 4096) (N := 1) (val_main_v8 (F := Ideal) x2) (fun r _ => dn (x r)) :=
  isR_hdn h2 Cert.KvNormBwdRefIdeal.Gen.h_S_ Cert.KvNormBwdRefIdeal.Gen.reducesTo_S4096x1024_S4096_d1
    Cert.KvNormBwdRefIdeal.Gen.bcast_S4096_S4096x1_0 Cert.KvNormBwdRefIdeal.Gen.bcast_S_S4096x1

include h2 in
theorem v9_isR : IsR (M := 4096) (N := 1) (val_main_v9 (F := Ideal) x2) (fun r _ => iv (x r)) :=
  isR_hrsqrt (φ := .f32) (v8_isR h2) fun r _ => dn_pos (x r)

include h0 h1 in
theorem v53_isR : IsR (M := 4096) (N := 1024) (val_main_v53 (F := Ideal) x0 x1) (pr 1536 a b) := by
  intro r k
  pointwise [val_main_v53]
  exact sum_mul (fun i => h0 r i) fun i => h1 k i

include h0 h1 h2 in
theorem v56_isR : IsR (M := 1) (N := 1024) (val_main_v56 (F := Ideal) x0 x1 x2) (DG a b x) :=
  (isR_hcolSum (isR_mul (φ := .f32) (isR_mul (φ := .f32) h2 (isR_hcol (v9_isR h2) Cert.KvNormBwdRefIdeal.Gen.bcast_S4096x1_S4096x1024_0_1)) (v53_isR h0 h1))
    Cert.KvNormBwdRefIdeal.Gen.h_S_ Cert.KvNormBwdRefIdeal.Gen.reducesTo_S4096x1024_S1024_d0
    Cert.KvNormBwdRefIdeal.Gen.shapeCasts_S1024_S1x1024).congr fun r k _ _ => Finset.sum_congr rfl fun i _ => mul_comm _ _

include h0 h1 h3 in
theorem v58_isR : IsR (M := 4096) (N := 1024) (val_main_v58 (F := Ideal) x0 x1 x3) (fun r k => pr 1536 a b r k * g 0 k) :=
  isR_mul (φ := .f32) (v53_isR h0 h1) (isR_hrow h3 Cert.KvNormBwdRefIdeal.Gen.bcast_S1x1024_S4096x1024_0_1)

include h2 h6 in
theorem v35_isR : IsR (M := 1) (N := 1024) (val_main_v35 (F := Ideal) x2 x6) (DU x d) :=
  (isR_hcolSum (isR_mul (φ := .f32) (isR_mul (φ := .f32) h2 (isR_hcol (v9_isR h2) Cert.KvNormBwdRefIdeal.Gen.bcast_S4096x1_S4096x1024_0_1)) h6)
    Cert.KvNormBwdRefIdeal.Gen.h_S_ Cert.KvNormBwdRefIdeal.Gen.reducesTo_S4096x1024_S1024_d0
    Cert.KvNormBwdRefIdeal.Gen.shapeCasts_S1024_S1x1024).congr fun r k _ _ => Finset.sum_congr rfl fun i _ => mul_comm _ _

include h5 h6 in
theorem v37_isR : IsR (M := 4096) (N := 1024) (val_main_v37 (F := Ideal) x5 x6) (fun r k => d r k * u 0 k) :=
  isR_mul (φ := .f32) h6 (isR_hrow h5 Cert.KvNormBwdRefIdeal.Gen.bcast_S1x1024_S4096x1024_0_1)

include h2 h4 h5 h6 in
theorem v52_isR : IsR (M := 4096) (N := 1024) (val_main_v52 (F := Ideal) x2 x4 x5 x6) (fun r k => z r k + dx (x r) (fun k => d r k * u 0 k) k) :=
  isR_hdx (v9_isR h2) h2 (v37_isR h5 h6) h4 (isR_htf h2 (v37_isR h5 h6) Cert.KvNormBwdRefIdeal.Gen.h_S_
    Cert.KvNormBwdRefIdeal.Gen.reducesTo_S4096x1024_S4096_d1 Cert.KvNormBwdRefIdeal.Gen.bcast_S_S4096x1 Cert.KvNormBwdRefIdeal.Gen.shapeCasts_S4096_S4096x1 Cert.KvNormBwdRefIdeal.Gen.reducesTo_S4096x1_S4096_d1
    Cert.KvNormBwdRefIdeal.Gen.bcast_S4096_S4096x1024_0 (v8_isR h2) (v9_isR h2)) Cert.KvNormBwdRefIdeal.Gen.bcast_S4096x1_S4096x1024_0_1

include h0 h1 h2 h3 h4 h5 h6 in
theorem v73_isR : IsR (M := 4096) (N := 1024) (val_main_v73 (F := Ideal) x0 x1 x2 x3 x4 x5 x6) (DX a b x g z u d) := by
  refine (isR_hdx (v9_isR h2) h2 (v58_isR h0 h1 h3) (v52_isR h2 h4 h5 h6) (isR_htf h2 (v58_isR h0 h1 h3) Cert.KvNormBwdRefIdeal.Gen.h_S_
    Cert.KvNormBwdRefIdeal.Gen.reducesTo_S4096x1024_S4096_d1 Cert.KvNormBwdRefIdeal.Gen.bcast_S_S4096x1 Cert.KvNormBwdRefIdeal.Gen.shapeCasts_S4096_S4096x1 Cert.KvNormBwdRefIdeal.Gen.reducesTo_S4096x1_S4096_d1
    Cert.KvNormBwdRefIdeal.Gen.bcast_S4096_S4096x1024_0 (v8_isR h2) (v9_isR h2)) Cert.KvNormBwdRefIdeal.Gen.bcast_S4096x1_S4096x1024_0_1).congr fun r k _ _ => ?_
  unfold DX
  rw [dx_add]
  ring

end Ref

theorem frame_ref : Cert.quiescent_KvNormBwdRefIdeal (hKvNormBwdRefIdeal := Cert.KvNormBwdRefIdeal.Gen.facts) := fun m ρ _ =>
  (θ_run _ _ _).mono (fun r h => ⟨fun c => (h c).2.2.2.2, sem_eq_zero_of_no_sems (by decide) r.2⟩) (Cert.KvNormBwdRefIdeal.Value.run m ρ)

theorem alg : Cert.algebraic_KvNormBwdIdeal_KvNormBwdRefIdeal_pre_kv_norm_bwd_finite (hKvNormBwdIdeal := Cert.KvNormBwdIdeal.Gen.facts)
    (hKvNormBwdRefIdeal := Cert.KvNormBwdRefIdeal.Gen.facts) (hPre_kv_norm_bwd_finite := Cert.Pre_kv_norm_bwd_finite.Gen.facts) := by
  intro m g m' g' hpre hag
  refine ⟨fun c => mat (M := 4096) (N := 1024) (DX (rA m c) (rB m c) (rX m c) (rG m c) (rZ m c) (rU m c) (rD m c)),
    fun c => mat (M := 4096) (N := 1024) (DX (rA m c) (rB m c) (rX m c) (rG m c) (rZ m c) (rU m c) (rD m c)),
    fun c => mat (M := 1) (N := 1024) (DG (rA m c) (rB m c) (rX m c)),
    fun c => mat (M := 1) (N := 1024) (DU (rX m c) (rD m c)), ?_, ?_⟩
  · exact (θ_run defs _ _).mono (fun r h c => ⟨(h c).1.trans (arr7_eq m c hpre), (h c).2.1.trans (arr8_eq m c hpre),
      (h c).2.2.1.trans (arr9_eq m c hpre), (h c).2.2.2.1.trans (arr10_eq m c hpre), (h c).2.2.2.2⟩) (Cert.KvNormBwdIdeal.Value.run_blocks m g)
  · refine (θ_run Cert.KvNormBwdRefIdeal.defs _ _).mono (fun r h c => ?_) (Cert.KvNormBwdRefIdeal.Value.run m' g')
    obtain ⟨hA, hB, hX, hG, hZ, hU, hD⟩ := args m c hpre
    refine ⟨(h c).1.trans ?_, (h c).2.1.trans ?_, (h c).2.2.1.trans ?_, (h c).2.2.2.1.trans ?_, (h c).2.2.2.2⟩
    · rw [Cert.KvNormBwdRefIdeal.Read.val_main_v73_eq, (hag c).1, (hag c).2.1, (hag c).2.2.1, (hag c).2.2.2.1, (hag c).2.2.2.2.1,
        (hag c).2.2.2.2.2.1, (hag c).2.2.2.2.2.2]
      exact IsR.eq_mat (v73_isR hA hB hX hG hZ hU hD)
    · rw [Cert.KvNormBwdRefIdeal.Read.val_main_v74_eq, (hag c).1, (hag c).2.1, (hag c).2.2.1, (hag c).2.2.2.1, (hag c).2.2.2.2.1,
        (hag c).2.2.2.2.2.1, (hag c).2.2.2.2.2.2]
      exact IsR.eq_mat (v73_isR hA hB hX hG hZ hU hD)
    · rw [Cert.KvNormBwdRefIdeal.Read.val_main_v56_eq, (hag c).1, (hag c).2.1, (hag c).2.2.1]
      exact IsR.eq_mat (v56_isR hA hB hX)
    · rw [Cert.KvNormBwdRefIdeal.Read.val_main_v35_eq, (hag c).2.2.1, (hag c).2.2.2.2.2.2]
      exact IsR.eq_mat (v35_isR hX hD)

end Cert.Hand.KvNorm

end
-- ==== Proof.Softmax.lean ====
module

public import proofs.«01_k».proof.Proof.Reals
public import proofs.«01_k».proof.Proof.SbSpec
public import Idealize.ShloMosaic.Lib.Pipeline.ValueKit
public meta import Idealize.ShloMosaic.Lib.Pointwise

/-!
The softmax of rows of real scores and its gradient, in a kernel, and the memory attention's gradients as real sums.
-/

@[expose] public section

noncomputable section

namespace Cert.Hand.Attn

open Idealize.ShloMosaic Idealize.ShloMosaic.TcCoe Cert.Hand.Sb

/-- The softmax of a row of scores, -/
def pP (s : ℕ → ℕ → ℝ) (r j : ℕ) : ℝ := Real.exp (s r j) / ∑ l ∈ Finset.range 256, Real.exp (s r l)
/-- and the gradient of the scores before their factor, the weights' being `d`. -/
def pD (s d : ℕ → ℕ → ℝ) (r j : ℕ) : ℝ := pP s r j * (d r j - ∑ l ∈ Finset.range 256, d r l * pP s r l) * (1 / 8)

/-- Head `h`'s scores, -/
def S (Q K : ℕ → ℕ → ℝ) (h r j : ℕ) : ℝ := Zh Q K h r j * (1 / 8)
/-- its weights, -/
def W (Q K : ℕ → ℕ → ℝ) (h r j : ℕ) : ℝ := pP (S Q K h) r j
/-- and the gradient of its products. -/
def T (Q K V G : ℕ → ℕ → ℝ) (h r j : ℕ) : ℝ := pD (S Q K h) (Zh G V h) r j

/-- The queries' gradient, -/
def MQ (Q K V G : ℕ → ℕ → ℝ) (r c : ℕ) : ℝ := ∑ j ∈ Finset.range 256, T Q K V G (c / 64) r j * K j c
/-- a query's part of the keys', -/
def MK (Q K V G : ℕ → ℕ → ℝ) (j c r : ℕ) : ℝ := T Q K V G (c / 64) r j * Q r c
/-- and of the values'. -/
def MV (Q K G : ℕ → ℕ → ℝ) (j c r : ℕ) : ℝ := W Q K (c / 64) r j * G r c

theorem sum_exp_pos {n : ℕ} (hn : 0 < n) (f : ℕ → ℝ) : 0 < ∑ l ∈ Finset.range n, Real.exp (f l) :=
  Finset.sum_pos (fun _ _ => Real.exp_pos _) ⟨0, Finset.mem_range.mpr hn⟩

theorem sum_exp_ne (f : ℕ → ℝ) : ∑ l ∈ Finset.range 256, Real.exp (f l) ≠ 0 := (sum_exp_pos (by omega) f).ne'

/-- Taking a number off a whole row of scores leaves the weights. -/
theorem pP_shift (s : ℕ → ℕ → ℝ) (m : ℕ → ℝ) (r j : ℕ) :
    Real.exp (s r j - m r) / (∑ l ∈ Finset.range 256, Real.exp (s r l - m r)) = pP s r j := by
  unfold pP
  simp only [Real.exp_sub, ← Finset.sum_div]
  exact div_div_div_cancel_right₀ (Real.exp_ne_zero _) _ _

theorem eighth_bits : (Scalar.ofBits .f32 0x3E000000#32 : Ideal .f32) = ((1 / 8 : ℝ) : EReal) := by
  show Ideal.ofBits .f32 0x3E000000#32 = _
  simp [Ideal.ofBits, Ideal.ieee, -EReal.coe_mul]; norm_num

theorem low_bits : Ideal.ofBits .f32 0xFF800000#32 = (⊥ : EReal) := by simp [Ideal.ofBits, Ideal.ieee]

/-- The greatest of real numbers is real. -/
theorem max_real {n : ℕ} (hn : 0 < n) (f : Fin n → EReal) (g : ℕ → ℝ) (hf : ∀ k, f k = ((g k.val : ℝ) : EReal)) :
    ∃ y : ℝ, Finset.univ.fold (max : EReal → EReal → EReal) (Ideal.ofBits .f32 0xFF800000#32) f = (y : EReal) := by
  obtain ⟨k, -, hk⟩ := Finset.exists_mem_eq_sup Finset.univ ⟨(⟨0, hn⟩ : Fin n), Finset.mem_univ _⟩ f
  rw [low_bits]
  exact ⟨_, hk.trans (hf k)⟩

theorem isR_rowMax {M N : ℕ} {a : FVec Ideal ⟨2, ![M, N]⟩ .f32} {f : ℕ → ℕ → ℝ} (ha : IsR a f) (hN : 0 < N)
    (h : (⟨2, ![M, N]⟩ : Shape).Reduces [1] ⟨1, ![M]⟩) (p q) (hc : (⟨1, ![M]⟩ : Shape).ShapeCasts ⟨2, ![M, 1]⟩) :
    ∃ g : ℕ → ℝ, IsR (shapeCast ⟨2, ![M, 1]⟩ (multiReduction (F := Ideal) .maximumf [1] ⟨1, ![M]⟩ a 0xFF800000#32 h p q) hc) (fun r _ => g r) := by
  have e : ∀ r : Fin M, ∃ y : ℝ, ∀ c : Fin 1,
      shapeCast ⟨2, ![M, 1]⟩ (multiReduction (F := Ideal) .maximumf [1] ⟨1, ![M]⟩ a 0xFF800000#32 h p q) hc (ix2 r c) = (y : EReal) := by
    intro r
    obtain ⟨y, hy⟩ := max_real hN (fun k => a (ix2 r k)) (f r.val) (fun k => ha r k)
    refine ⟨y, fun c => ?_⟩
    have e1 : Shape.reshapeEquiv hc (ix2 r c) = ix1 r := by
      refine Shape.reshapeEquiv_eq_of_rowMajor _ ?_
      rw [rowMajor_val1, rowMajor_val2 _ 1 rfl]
      show r.val = r.val * 1 + c.val
      have := c.isLt; omega
    pointwise []
    rw [e1]
    exact hy
  choose g hg using e
  refine ⟨fun r => if hr : r < M then g ⟨r, hr⟩ else 0, fun r c => ?_⟩
  have e : (if hr : r.val < M then g ⟨r.val, hr⟩ else 0) = g r := dif_pos r.isLt
  exact (hg r c).trans (congrArg _ e.symm)

section Soft
variable {M : ℕ} {s d w : FVec Ideal ⟨2, ![M, 256]⟩ .f32} {f g : ℕ → ℕ → ℝ}
  (hr : (⟨2, ![M, 256]⟩ : Shape).Reduces [1] ⟨1, ![M]⟩) (p q p' q') (hc : (⟨1, ![M]⟩ : Shape).ShapeCasts ⟨2, ![M, 1]⟩)
  (hb : (⟨2, ![M, 1]⟩ : Shape).Broadcasts ⟨2, ![M, 256]⟩)

theorem isR_soft (hs : IsR s f) :
    IsR (divf
      (exp (subf s (broadcastTo ⟨2, ![M, 256]⟩ (shapeCast ⟨2, ![M, 1]⟩ (multiReduction (F := Ideal) .maximumf [1] ⟨1, ![M]⟩ s 0xFF800000#32 hr p q) hc) hb)))
      (broadcastTo ⟨2, ![M, 256]⟩ (shapeCast ⟨2, ![M, 1]⟩ (multiReduction (F := Ideal) .add [1] ⟨1, ![M]⟩
        (exp (subf s (broadcastTo ⟨2, ![M, 256]⟩ (shapeCast ⟨2, ![M, 1]⟩ (multiReduction (F := Ideal) .maximumf [1] ⟨1, ![M]⟩ s 0xFF800000#32 hr p q) hc) hb)))
        0x00000000#32 hr p' q') hc) hb)) (pP f) := by
  obtain ⟨m, hm⟩ := isR_rowMax hs (by omega) hr p q hc
  have he := isR_exp (φ := .f32) (isR_sub (φ := .f32) hs (isR_col (φ := .f32) hm hb))
  exact (isR_div (φ := .f32) he (isR_col (φ := .f32) (isR_rowSum he hr p' q' hc) hb) fun r _ => sum_exp_ne _).congr
    fun r j _ _ => pP_shift f m r j

theorem isR_softGrad (hd : IsR d g) (hw : IsR w (pP f)) :
    IsR (mulf (mulf w (subf d (broadcastTo ⟨2, ![M, 256]⟩ (shapeCast ⟨2, ![M, 1]⟩ (multiReduction (F := Ideal) .add [1] ⟨1, ![M]⟩
      (mulf d w) 0x00000000#32 hr p q) hc) hb))) (broadcast ⟨2, ![M, 256]⟩ (Scalar.ofBits .f32 0x3E000000#32 : Ideal .f32))) (pD f g) :=
  isR_mul (φ := .f32) (isR_mul (φ := .f32) hw (isR_sub (φ := .f32) hd (isR_col (φ := .f32)
    (isR_rowSum (isR_mul (φ := .f32) hd hw) hr p q hc) hb))) (isR_bc eighth_bits)

end Soft

section Lanes
variable {M : ℕ} {x : FVec Ideal ⟨2, ![M, 128]⟩ .bf16} {f : ℕ → ℕ → ℝ}

theorem isR_lo (hx : IsR x f) (h) : IsR (M := M) (N := 128) (select (cmpi .slt (iota .tc ⟨2, ![M, 128]⟩ 32 [1] h) (broadcast ⟨2, ![M, 128]⟩ 64#32)) x
    (broadcast ⟨2, ![M, 128]⟩ (Scalar.ofBits .bf16 0x0000#16 : Ideal .bf16))) (lanA f) :=
  isR_select (p := fun _ d => d < 64) (fun r c => (congrArg (Scalar.cmpi .slt · (64#32)) (iota1 h r c)).trans
    (congrArg BitVec.ofBool (slt_nat _ 64 (by omega) (by omega)))) hx (isR_bc zero16)

theorem isR_hi (hx : IsR x f) (h) : IsR (M := M) (N := 128) (select (cmpi .sge (iota .tc ⟨2, ![M, 128]⟩ 32 [1] h) (broadcast ⟨2, ![M, 128]⟩ 64#32)) x
    (broadcast ⟨2, ![M, 128]⟩ (Scalar.ofBits .bf16 0x0000#16 : Ideal .bf16))) (lanB f) :=
  isR_select (p := fun _ d => 64 ≤ d) (fun r c => (congrArg (Scalar.cmpi .sge · (64#32)) (iota1 h r c)).trans
    (congrArg BitVec.ofBool (sle_nat 64 _ (by omega) (by omega)))) hx (isR_bc zero16)

/-- A load of a rectangle. -/
theorem isR_ld {M N M' N' : ℕ} {e : EltTy} (o p : ℕ) {a : (⟨2, ![M, N]⟩ : Shape).Idx → EReal} {f : ℕ → ℕ → ℝ} (ha : IsR a f) (inb) :
    IsR (M := M') (N := N') (View.ld (Val := fun _ => EReal) (e' := e) (S := ⟨2, ![M, N]⟩) a (Rect.unit ![o, p] ![M', N'] inb)) (fun r c => f (o + r) (p + c)) := by
  rw [View.ld_unit]
  exact isR_slice (φ := .f32) o p ha _

end Lanes

section Pair
variable (Q K : ℕ → ℕ → ℝ) (t : ℕ)

theorem lane_sum {n d : ℕ} (hd : d < 128) (c : ℕ → ℕ → ℝ) (f : ℕ → ℕ → ℝ) :
    (0 + ∑ i ∈ Finset.range n, c (2 * t) i * lanA f i d) + ∑ i ∈ Finset.range n, c (2 * t + 1) i * lanB f i d
      = ∑ i ∈ Finset.range n, c ((128 * t + d) / 64) i * f i d := by
  rw [zero_add]
  exact two_lo hd _ _ f c (fun _ => rfl) fun _ => rfl

variable {Q K} {t} {φ : FTy}

/-- A product over both heads' lanes, the first head's kept, -/
theorem isR_prodLo {M N : ℕ} {φ₁ φ₂ : FTy} {x : FVec Ideal ⟨2, ![M, 128]⟩ φ₁} {y : FVec Ideal ⟨2, ![N, 128]⟩ φ₂} (hx : IsR x (lanA (cols t Q)))
    (hy : IsR y (cols t K)) : IsR (matmul (dotT M N 128) none x y (constant (F := Ideal) ⟨2, ![M, N]⟩ .f32 0x00000000#32)) (Zh Q K (2 * t)) :=
  (isR_matmul_nt hx hy).congr fun r j _ _ => congrFun (congrFun (zR_lanA Q K t) r) j

/-- and the second's. -/
theorem isR_prodHi {M N : ℕ} {φ₁ φ₂ : FTy} {x : FVec Ideal ⟨2, ![M, 128]⟩ φ₁} {y : FVec Ideal ⟨2, ![N, 128]⟩ φ₂} (hx : IsR x (lanB (cols t Q)))
    (hy : IsR y (cols t K)) : IsR (matmul (dotT M N 128) none x y (constant (F := Ideal) ⟨2, ![M, N]⟩ .f32 0x00000000#32)) (Zh Q K (2 * t + 1)) :=
  (isR_matmul_nt hx hy).congr fun r j _ _ => congrFun (congrFun (zR_lanB Q K t) r) j

/-- Both heads' products added up. -/
theorem isR_two {M n : ℕ} {z x y : FVec Ideal ⟨2, ![M, 128]⟩ φ} {f : ℕ → ℕ → ℝ} (c : ℕ → ℕ → ℕ → ℝ) (hz : IsR z (fun _ _ => 0))
    (hx : IsR x (fun r d => ∑ i ∈ Finset.range n, c (2 * t) r i * lanA f i d))
    (hy : IsR y (fun r d => ∑ i ∈ Finset.range n, c (2 * t + 1) r i * lanB f i d)) :
    IsR (addf (addf z x) y) (fun r d => ∑ i ∈ Finset.range n, c ((128 * t + d) / 64) r i * f i d) :=
  (isR_add (isR_add hz hx) hy).congr fun r d _ hd => lane_sum t hd (fun h i => c h r i) f

end Pair

end Cert.Hand.Attn
-- ==== Proof.MemRef.lean ====
module

public import proofs.«01_k».proof.Proof.Softmax
public import proofs.«01_k».proof.Proof.SbRef
public import proofs.«01_k».proof.Proof.Gen.MemAttnBwdRefIdeal.Read

/-!
The plain program's stages of the memory attention's gradient, read as real sums.
-/

@[expose] public section

set_option maxRecDepth 8192

noncomputable section

namespace Cert.Hand.Attn.Ref

open Cert.MemAttnBwdRefIdeal Cert.MemAttnBwdRefIdeal.Gen Cert.MemAttnBwdRefIdeal.Read
open Idealize.ShloMosaic Idealize.ShloMosaic.TcCoe Cert.Hand.Sb Cert.Hand.Attn
open Cert.Hand.Sb.Ref (Is4 sum_mul_real zero_c addR expR)

/-- A stage over heads and rows holds reals. -/
def Is3 {n1 n2 : ℕ} (v : (⟨3, ![1, n1, n2]⟩ : Shape).Idx → EReal) (f : ℕ → ℕ → ℝ) : Prop :=
  ∀ i, v i = ((f (i 1).val (i 2).val : ℝ) : EReal)

theorem mulR (a b : ℝ) : FloatOps.mulf (F := Ideal) (φ := .f32) (a : EReal) (b : EReal) = ((a * b : ℝ) : EReal) := (EReal.coe_mul _ _).symm
theorem subR (a b : ℝ) : FloatOps.subf (F := Ideal) (φ := .f32) (a : EReal) (b : EReal) = ((a - b : ℝ) : EReal) := (EReal.coe_sub _ _).symm
theorem negR (a : ℝ) : FloatOps.hostNegf (F := Ideal) (φ := .f32) (a : EReal) = ((-a : ℝ) : EReal) := (EReal.coe_neg _).symm

/-- A sum of reals. -/
theorem sum_real {n : ℕ} {a : Fin n → EReal} {f : ℕ → ℝ} (ha : ∀ k, a k = ((f k.val : ℝ) : EReal)) :
    ∑ k, a k = ((∑ k ∈ Finset.range n, f k : ℝ) : EReal) := by
  rw [sumR]
  exact Finset.sum_congr rfl fun k _ => ha k

theorem flat_row {a b c d n : ℕ} (ha : a < 1) (hb : b < n) (hc : c < 4) (hd : d < 64) : (((a * n + b) * 4 + c) * 64 + d) / 256 % n = b := by
  rw [show (((a * n + b) * 4 + c) * 64 + d) / 256 = a * n + b by omega, show a = 0 by omega, Nat.zero_mul, Nat.zero_add, Nat.mod_eq_of_lt hb]
theorem flat_col {a b c d n : ℕ} (hc : c < 4) (hd : d < 64) : (((a * n + b) * 4 + c) * 64 + d) % 256 = 64 * c + d := by omega

variable {x0 : (⟨S4096x1024, .f32⟩ : BufTy).Contents (Elt Ideal)} {x1 : (⟨S256x512, .bf16⟩ : BufTy).Contents (Elt Ideal)}
  {x2 : (⟨S4096x1024, .bf16⟩ : BufTy).Contents (Elt Ideal)} {X Y Z Q K V G : ℕ → ℕ → ℝ}
  (h0 : ∀ i : S4096x1024.Idx, x0 i = ((X (i 0).val (i 1).val : ℝ) : EReal))
  (h1 : ∀ i : S256x512.Idx, x1 i = ((K (i 0).val (i 1).val : ℝ) : EReal))
  (h2 : ∀ i : S4096x1024.Idx, x2 i = ((Z (i 0).val (i 1).val : ℝ) : EReal))
  (hq : ∀ r c, Q r c = X r (768 + c)) (hv : ∀ j c, V j c = K j (256 + c)) (hg : ∀ r c, G r c = Z r (768 + c))

include h0 hq in
theorem r9 : Is4 (val_main_v9 x0) (fun r h d => Q r (64 * h + d)) := fun i => by
  rw [val_main_v9_apply, val_main_v3_apply, val_main_v2_apply]
  refine (h0 (idx_main_v2 (idx_main_v3 (idx_main_v9 i)))).trans (congrArg _ ((congrArg₂ X ?_ ?_).trans (hq _ _).symm))
  · exact flat_row (i 0).isLt (i 1).isLt (i 2).isLt (i 3).isLt
  · exact congrArg (768 + ·) (flat_col (i 2).isLt (i 3).isLt)

include h1 in
theorem r7 : Is4 (val_main_v7 x1) (fun j h d => K j (64 * h + d)) := fun i => by
  rw [val_main_v7_apply, val_main_v5_apply, val_main_v4_apply, val_main_v0_apply]
  refine (h1 (idx_main_v4 (idx_main_v5 (idx_main_v7 i)))).trans (congrArg _ (congrArg₂ K ?_ ?_))
  · exact flat_row (i 0).isLt (i 1).isLt (i 2).isLt (i 3).isLt
  · exact flat_col (i 2).isLt (i 3).isLt

include h1 hv in
theorem r8 : Is4 (val_main_v8 x1) (fun j h d => V j (64 * h + d)) := fun i => by
  rw [val_main_v8_apply, val_main_v6_apply, val_main_v4_apply, val_main_v0_apply]
  refine (h1 (idx_main_v4 (idx_main_v6 (idx_main_v8 i)))).trans (congrArg _ ((congrArg₂ K ?_ ?_).trans (hv _ _).symm))
  · exact flat_row (i 0).isLt (i 1).isLt (i 2).isLt (i 3).isLt
  · exact congrArg (256 + ·) (flat_col (i 2).isLt (i 3).isLt)

include h2 hg in
theorem r47 : Is4 (val_main_v47 x2) (fun h d r => G r (64 * h + d)) := fun i => by
  rw [val_main_v47_apply, val_main_v46_apply, val_main_v45_apply, val_main_v44_apply, val_main_v1_apply]
  refine (h2 (idx_main_v44 (idx_main_v45 (idx_main_v46 (idx_main_v47 i))))).trans (congrArg _ ((congrArg₂ Z ?_ ?_).trans (hg _ _).symm))
  · exact flat_row (i 0).isLt (i 3).isLt (i 1).isLt (i 2).isLt
  · exact congrArg (768 + ·) (flat_col (i 1).isLt (i 2).isLt)

theorem eighth (i) : val_main_v11 (F := Ideal) i = ((1 / 8 : ℝ) : EReal) := eighth_bits

include h0 h1 hq in
/-- The scores. -/
theorem r12 : Is4 (val_main_v12 x0 x1) (S Q K) := fun i => by
  rw [val_main_v12_apply, eighth, val_main_v10_apply,
    sum_mul_real (f := fun d => Q (i 2).val (64 * (i 1).val + d)) (g := fun d => K (i 3).val (64 * (i 1).val + d)) (fun d => r9 h0 hq _) (fun d => r7 h1 _)]
  exact mulR _ _

include h0 h1 hq in
/-- Their rows' maxima are real. -/
theorem r20 : ∃ m : ℕ → ℕ → ℝ, Is3 (val_main_v20 x0 x1) m := by
  have e : ∀ (a : Fin 4) (b : Fin 4096), ∃ y : ℝ, val_main_v20 (F := Ideal) x0 x1 (ix3 (0 : Fin 1) a b) = (y : EReal) := by
    intro a b
    obtain ⟨y, hy⟩ := max_real (n := 256) (by omega) (fun k => val_main_v12 (F := Ideal) x0 x1 (ix4 (0 : Fin 1) a b k)) (S Q K a.val b.val)
      (fun k => r12 h0 h1 hq _)
    refine ⟨y, ?_⟩
    have e2 : val_main_v13 (F := Ideal) x0 x1 (ix3 (0 : Fin 1) a b) = (y : EReal) := by
      rw [← hy]
      pointwise [val_main_v13]
      rfl
    rw [val_main_v20_apply, e2]
    show max (Ideal.ofBits .f32 0xFF800000#32) (y : EReal) = _
    rw [low_bits]
    exact max_eq_right bot_le
  choose g hgg using e
  refine ⟨fun a b => if h : a < 4 ∧ b < 4096 then g ⟨a, h.1⟩ ⟨b, h.2⟩ else 0, fun i => ?_⟩
  have e3 : (if h : (i 1).val < 4 ∧ (i 2).val < 4096 then g ⟨(i 1).val, h.1⟩ ⟨(i 2).val, h.2⟩ else 0) = g (i 1) (i 2) :=
    dif_pos ⟨(i 1).isLt, (i 2).isLt⟩
  refine Eq.trans (congrArg _ ?_) ((hgg (i 1) (i 2)).trans (congrArg _ e3.symm))
  refine (eq_ix3 i).trans (congrArg (fun a : Fin 1 => ix3 a (i 1) (i 2)) (Subsingleton.elim (α := Fin 1) _ _))

section
variable {m : ℕ → ℕ → ℝ} (hm : Is3 (val_main_v20 x0 x1) m)

/-- The sums of the shifted scores' exponentials. -/
def Sm (Q K : ℕ → ℕ → ℝ) (m : ℕ → ℕ → ℝ) (h r : ℕ) : ℝ := ∑ l ∈ Finset.range 256, Real.exp (S Q K h r l - m h r)

theorem Sm_ne (Q K : ℕ → ℕ → ℝ) (m : ℕ → ℕ → ℝ) (h r : ℕ) : Sm Q K m h r ≠ 0 := sum_exp_ne _

include h0 h1 hq hm

theorem r33 : Is4 (val_main_v33 x0 x1) (fun h r j => Real.exp (S Q K h r j - m h r)) := fun i => by
  rw [val_main_v33_apply, val_main_v32_apply, r12 h0 h1 hq, val_main_v31_apply, val_main_v30_apply, hm]
  exact (congrArg _ (subR _ _)).trans (expR _)

theorem r34 : Is3 (val_main_v34 x0 x1) (Sm Q K m) := fun i => by
  rw [val_main_v34_apply]
  rw [sum_real (f := fun l => Real.exp (S Q K (i 1).val (i 2).val l - m (i 1).val (i 2).val)) (fun k => r33 h0 h1 hq hm (idx_main_v34 i k))]
  exact (congrArg (· + _) zero_c).trans (zero_add _)

theorem r35 : Is4 (val_main_v35 x0 x1) (fun h r _ => Sm Q K m h r) := fun i => by
  rw [val_main_v35_apply, r34 h0 h1 hq hm]

theorem r37 : Is4 (val_main_v37 x0 x1) (W Q K) := fun i => by
  rw [val_main_v37_apply, val_main_v36_apply, r33 h0 h1 hq hm, r35 h0 h1 hq hm]
  exact (coe_div (Sm_ne Q K m _ _) _).trans (congrArg _ (pP_shift (S Q K (i 1).val) (m (i 1).val) _ _))

theorem r40 : Is4 (val_main_v40 x0 x1) (fun h r _ => 1 / (Sm Q K m h r * Sm Q K m h r)) := fun i => by
  rw [val_main_v40_apply, val_main_v38_apply, r35 h0 h1 hq hm]
  have e : val_main_v39 (F := Ideal) i = ((1 : ℝ) : EReal) := one_bits
  rw [e, mulR]
  exact coe_div (mul_ne_zero (Sm_ne Q K m _ _) (Sm_ne Q K m _ _)) _

include h2 hg in
theorem r49 : Is4 (val_main_v49 x0 x1 x2) (fun h d j => ∑ r ∈ Finset.range 4096, G r (64 * h + d) * W Q K h r j) := fun i => by
  rw [val_main_v49_apply]
  exact sum_mul_real (f := fun r => G r (64 * (i 1).val + (i 2).val)) (g := fun r => W Q K (i 1).val r (i 3).val)
    (fun k => r47 h2 hg _) (fun k => r37 h0 h1 hq hm _)

end

include h1 hv h2 hg in
theorem r48 : Is4 (val_main_v48 x1 x2) (Zh G V) := fun i => by
  rw [val_main_v48_apply]
  exact sum_mul_real (f := fun d => G (i 2).val (64 * (i 1).val + d)) (g := fun d => V (i 3).val (64 * (i 1).val + d))
    (fun k => r47 h2 hg _) (fun k => r8 h1 hv _)

/-- The gradient of a row of weights that are a quotient by their sum. -/
theorem quot_grad (d e : ℕ → ℝ) {s : ℝ} (hs : s ≠ 0) (x : ℝ) (j : ℕ) :
    (d j / s + -(∑ l ∈ Finset.range 256, d l * (1 / (s * s)) * e l)) * e j * x
      = e j / s * (d j - ∑ l ∈ Finset.range 256, d l * (e l / s)) * x := by
  have h : ∑ l ∈ Finset.range 256, d l * (1 / (s * s)) * e l = (∑ l ∈ Finset.range 256, d l * (e l / s)) / s := by
    rw [Finset.sum_div]
    exact Finset.sum_congr rfl fun l _ => by field_simp
  rw [h]
  generalize ∑ l ∈ Finset.range 256, d l * (e l / s) = y
  field_simp
  ring

/-- A sum over the entries that lie over an index, where there is one. -/
theorem sum_single {s t : Shape} {axes : List (Fin s.rank)} (h : s.ReducesTo axes t) (v : s.Idx → EReal) (x : EReal) (j : t.Idx) (k : s.Idx)
    (hk : ∀ i, h.drop i = j ↔ i = k) : Ideal.hostReduceAdd h v x j = x + v k :=
  congrArg (x + ·) ((Finset.sum_filter_eq_sum_of_fiber _ (fun _ : Fin 1 => k) (fun a b _ => Subsingleton.elim a b)
    (fun i => (hk i).trans ⟨fun e => ⟨0, e.symm⟩, fun ⟨_, e⟩ => e.symm⟩) v).trans (Fin.sum_univ_one _))

theorem drop_mid (h : S1x4x4096x1.ReducesTo [0, 3] S4x4096) (j : S4x4096.Idx) (i : S1x4x4096x1.Idx) :
    h.drop i = j ↔ i = @ix4 1 4 4096 1 0 (j 0) (j 1) 0 := by
  refine ⟨fun e => ?_, fun e => ?_⟩
  · subst e
    refine funext fun a => ?_
    fin_cases a
    · exact Subsingleton.elim (α := Fin 1) _ _
    · rfl
    · rfl
    · exact Subsingleton.elim (α := Fin 1) _ _
  · subst e
    exact funext fun a => by fin_cases a <;> rfl

section
variable {m : ℕ → ℕ → ℝ} (hm : Is3 (val_main_v20 x0 x1) m)
include h0 h1 h2 hq hv hg hm

theorem r54 : Is3 (val_main_v54 x0 x1 x2) (fun h r => ∑ l ∈ Finset.range 256,
    Zh G V h r l * (1 / (Sm Q K m h r * Sm Q K m h r)) * Real.exp (S Q K h r l - m h r)) := fun i => by
  rw [val_main_v54_apply]
  rw [sum_real (f := fun l => Zh G V (i 1).val (i 2).val l * (1 / (Sm Q K m (i 1).val (i 2).val * Sm Q K m (i 1).val (i 2).val))
    * Real.exp (S Q K (i 1).val (i 2).val l - m (i 1).val (i 2).val)) (fun k => by
      rw [val_main_v53_apply, val_main_v52_apply, val_main_v51_apply, r48 h1 h2 hv hg, r40 h0 h1 hq hm, r33 h0 h1 hq hm, mulR, mulR])]
  exact (congrArg (· + _) zero_c).trans (zero_add _)

theorem r59 (j : S4x4096.Idx) : val_main_v59 (F := Ideal) x0 x1 x2 j = ((-(∑ l ∈ Finset.range 256,
    Zh G V (j 0).val (j 1).val l * (1 / (Sm Q K m (j 0).val (j 1).val * Sm Q K m (j 0).val (j 1).val)) * Real.exp (S Q K (j 0).val (j 1).val l - m (j 0).val (j 1).val)) : ℝ) : EReal) := by
  unfold val_main_v59
  refine (sum_single _ _ _ j _ (drop_mid _ j)).trans ?_
  rw [val_main_v56_apply, val_main_v55_apply, r54 h0 h1 h2 hq hv hg hm, negR]
  have hj0 : (j 0).val < 4 := (j 0).isLt
  have hj1 : (j 1).val < 4096 := (j 1).isLt
  have e1 : (idx_main_v55 (@ix4 1 4 4096 1 0 (j 0) (j 1) 0) 1).val = (j 0).val := by
    show (((0 * 4 + (j 0).val) * 4096 + (j 1).val) * 1 + 0) / 4096 % 4 = _
    omega
  have e2 : (idx_main_v55 (@ix4 1 4 4096 1 0 (j 0) (j 1) 0) 2).val = (j 1).val := by
    show (((0 * 4 + (j 0).val) * 4096 + (j 1).val) * 1 + 0) % 4096 = _
    omega
  rw [e1, e2]
  exact (congrArg (· + _) zero_c).trans (zero_add (M := EReal) _)

theorem r65 : Is4 (val_main_v65 x0 x1 x2) (T Q K V G) := fun i => by
  have e : val_main_v64 (F := Ideal) i = ((1 / 8 : ℝ) : EReal) := eighth_bits
  rw [val_main_v65_apply, val_main_v63_apply, val_main_v62_apply, val_main_v58_apply, val_main_v57_apply, r48 h1 h2 hv hg, r35 h0 h1 hq hm,
    r33 h0 h1 hq hm, val_main_v61_apply, val_main_v60_apply, r59 h0 h1 h2 hq hv hg hm, e]
  have e2 := coe_div (Sm_ne Q K m (i 1).val (i 2).val) (Zh G V (i 1).val (i 2).val (i 3).val)
  refine (congrArg (fun x => FloatOps.mulf (F := Ideal) (φ := .f32) (FloatOps.mulf (F := Ideal) (φ := .f32) (FloatOps.addf (F := Ideal) (φ := .f32) x _) _) _) e2).trans ?_
  refine (congrArg (fun x => FloatOps.mulf (F := Ideal) (φ := .f32) (FloatOps.mulf (F := Ideal) (φ := .f32) x _) _) (addR _ _)).trans ?_
  refine (congrArg (fun x => FloatOps.mulf (F := Ideal) (φ := .f32) x _) (mulR _ _)).trans ((mulR _ _).trans (congrArg _ ?_))
  refine (quot_grad (Zh G V (i 1).val (i 2).val) (fun l => Real.exp (S Q K (i 1).val (i 2).val l - m (i 1).val (i 2).val)) (Sm_ne Q K m (i 1).val (i 2).val) (1 / 8) (i 3).val).trans ?_
  have e4 : ∀ l, Real.exp (S Q K (i 1).val (i 2).val l - m (i 1).val (i 2).val) / Sm Q K m (i 1).val (i 2).val = pP (S Q K (i 1).val) (i 2).val l :=
    fun l => pP_shift (S Q K (i 1).val) (m (i 1).val) (i 2).val l
  simp only [e4]
  rfl

/-! ## The results -/

theorem r67 : Is4 (val_main_v67 x0 x1 x2) (fun j h d => ∑ r ∈ Finset.range 4096, T Q K V G h r j * Q r (64 * h + d)) := fun i => by
  rw [val_main_v67_apply, val_main_v66_apply]
  exact sum_mul_real (f := fun r => T Q K V G (i 2).val r (i 1).val) (g := fun r => Q r (64 * (i 2).val + (i 3).val))
    (fun k => r65 h0 h1 h2 hq hv hg hm _) (fun k => r9 h0 hq _)

theorem r69 : Is4 (val_main_v69 x0 x1 x2) (fun r h d => ∑ j ∈ Finset.range 256, T Q K V G h r j * K j (64 * h + d)) := fun i => by
  rw [val_main_v69_apply, val_main_v68_apply]
  exact sum_mul_real (f := fun j => T Q K V G (i 2).val (i 1).val j) (g := fun j => K j (64 * (i 2).val + (i 3).val))
    (fun k => r65 h0 h1 h2 hq hv hg hm _) (fun k => r7 h1 _)

end

theorem at_flat {n : ℕ} (f : ℕ → ℕ → ℕ → ℝ) {a r c : ℕ} (ha : a < 1) (hr : r < n) (hc : c < 256) :
    f (((a * n + r) * 256 + c) / 256 % n) (((a * n + r) * 256 + c) / 64 % 4) (((a * n + r) * 256 + c) % 64) = f r (c / 64) (c % 64) := by
  rw [show a = 0 by omega, Nat.zero_mul, Nat.zero_add, show (r * 256 + c) / 256 = r by omega, Nat.mod_eq_of_lt hr,
    show (r * 256 + c) / 64 % 4 = c / 64 by omega, show (r * 256 + c) % 64 = c % 64 by omega]

include h0 h1 h2 hq hv hg in
theorem r75 (i : S4096x256.Idx) : val_main_v75 (F := Ideal) x0 x1 x2 i = ((MQ Q K V G (i 0).val (i 1).val : ℝ) : EReal) := by
  obtain ⟨m, hm⟩ := r20 h0 h1 hq
  rw [val_main_v75_apply, val_main_v74_apply, val_main_v70_apply]
  refine (r69 h0 h1 h2 hq hv hg hm _).trans (congrArg _ ?_)
  have hi0 : (i 0).val < 4096 := (i 0).isLt
  have hi1 : (i 1).val < 256 := (i 1).isLt
  refine (at_flat (n := 4096) (fun r h d => ∑ j ∈ Finset.range 256, T Q K V G h r j * K j (64 * h + d)) (a := 0) (by omega)
    (r := ((i 0).val * 256 + (i 1).val) / 256 % 4096) (c := ((i 0).val * 256 + (i 1).val) % 256) (Nat.mod_lt _ (by omega)) (Nat.mod_lt _ (by omega))).trans ?_
  rw [show ((i 0).val * 256 + (i 1).val) / 256 % 4096 = (i 0).val by omega, show ((i 0).val * 256 + (i 1).val) % 256 = (i 1).val by omega]
  beta_reduce
  rw [Nat.div_add_mod]
  rfl

include h0 h1 h2 hq hv hg in
theorem r72 (i : S1x256x256.Idx) : val_main_v72 (F := Ideal) x0 x1 x2 i
    = ((∑ r ∈ Finset.range 4096, MK Q K V G (i 1).val (i 2).val r : ℝ) : EReal) := by
  obtain ⟨m, hm⟩ := r20 h0 h1 hq
  rw [val_main_v72_apply]
  refine (r67 h0 h1 h2 hq hv hg hm _).trans (congrArg _ ?_)
  refine (at_flat (n := 256) (fun j h d => ∑ r ∈ Finset.range 4096, T Q K V G h r j * Q r (64 * h + d)) (i 0).isLt (i 1).isLt (i 2).isLt).trans ?_
  beta_reduce
  rw [Nat.div_add_mod]
  rfl

include h0 h1 h2 hq hg in
theorem r71 (i : S1x256x256.Idx) : val_main_v71 (F := Ideal) x0 x1 x2 i
    = ((∑ r ∈ Finset.range 4096, MV Q K G (i 1).val (i 2).val r : ℝ) : EReal) := by
  obtain ⟨m, hm⟩ := r20 h0 h1 hq
  rw [val_main_v71_apply, val_main_v50_apply]
  refine (r49 h0 h1 h2 hq hg hm _).trans (congrArg _ ?_)
  refine (at_flat (n := 256) (fun j h d => ∑ r ∈ Finset.range 4096, G r (64 * h + d) * W Q K h r j) (i 0).isLt (i 1).isLt (i 2).isLt).trans ?_
  beta_reduce
  rw [Nat.div_add_mod]
  exact Finset.sum_congr rfl fun r _ => mul_comm _ _

/-- The keys' and the values' gradients side by side. -/
def KV (Q K V G : ℕ → ℕ → ℝ) (j c r : ℕ) : ℝ := if c < 256 then MK Q K V G j c r else MV Q K G j (c - 256) r

include h0 h1 h2 hq hv hg in
theorem r76 (i : S256x512.Idx) : val_main_v76 (F := Ideal) x0 x1 x2 i
    = ((∑ r ∈ Finset.range 4096, KV Q K V G (i 0).val (i 1).val r : ℝ) : EReal) := by
  have hi0 : (i 0).val < 256 := (i 0).isLt
  have hi1 : (i 1).val < 512 := (i 1).isLt
  have hj : (ix3 (0 : Fin 1) (i 0) (i 1) : S1x256x512.Idx) = idx_main_v76 i := by
    refine funext fun a => ?_
    fin_cases a
    · rfl
    · refine Fin.ext ?_
      show (i 0).val = ((i 0).val * 512 + (i 1).val) / 512 % 256
      omega
    · refine Fin.ext ?_
      show (i 1).val = ((i 0).val * 512 + (i 1).val) % 512
      omega
  rw [val_main_v76_apply, ← hj]
  unfold val_main_v73
  by_cases h : (i 1).val < 256
  · refine (concatenate_pair_apply_left (t := S1x256x512) (s₁ := S1x256x256) (s₂ := S1x256x256) (2 : Fin 3) _ _ _ _ rfl (ix3 (0 : Fin 1) (i 0) ⟨(i 1).val, h⟩) fun b => ?_).trans ?_
    · fin_cases b <;> rfl
    · refine (r72 h0 h1 h2 hq hv hg _).trans (congrArg _ (Finset.sum_congr rfl fun r _ => ?_))
      exact (if_pos h).symm
  · refine (concatenate_pair_apply_right (t := S1x256x512) (s₁ := S1x256x256) (s₂ := S1x256x256) (2 : Fin 3) _ _ _ _ rfl rfl (ix3 (0 : Fin 1) (i 0) ⟨(i 1).val - 256, by omega⟩) (fun b hb => ?_) ?_).trans ?_
    · fin_cases b
      · rfl
      · rfl
      · exact absurd rfl hb
    · show (i 1).val - 256 + 256 = (i 1).val
      omega
    · refine (r71 h0 h1 h2 hq hg _).trans (congrArg _ (Finset.sum_congr rfl fun r _ => ?_))
      exact (if_neg h).symm

end Cert.Hand.Attn.Ref
-- ==== Proof.Cols.lean ====
module

public import proofs.«01_k».proof.Proof.Softmax
public import Idealize.ShloMosaic.Lib.Pipeline.ReadBack
public import Idealize.ShloMosaic.Lib.Writes

/-!
Stores and loads of blocks of whole columns.
-/

@[expose] public section

noncomputable section

namespace Cert.Hand.Cols

open Idealize.ShloMosaic Idealize.ShloMosaic.TcCoe Cert.Hand.Sb

variable {M N : ℕ} {f : ℕ → ℕ → ℝ}

section Stores
variable {Val : EltTy → Type} [∀ e, Nonempty (Val e)] {e : EltTy} {cv : Val e → EReal}

/-- The stores `L` leave `f` in the columns `p`. -/
def Holds (cv : Val e → EReal) (L : List (View.Piece Val (⟨2, ![M, N]⟩ : Shape) e)) (p : ℕ → Prop) (f : ℕ → ℕ → ℝ) : Prop :=
  ∀ (r : Fin M) (k : Fin N), p k.val → cv (View.canon L (ix2 r k)) = ((f r.val k.val : ℝ) : EReal)

theorem Holds.cons {L : List (View.Piece Val (⟨2, ![M, N]⟩ : Shape) e)} {p : ℕ → Prop} (o n : ℕ) {inb}
    {w : (⟨2, ![M, n]⟩ : Shape).Idx → Val e} (hw : IsR (M := M) (N := n) (fun y => cv (w y)) (fun r d => f r (o + d)))
    (hL : Holds cv L (fun k => p k ∧ ¬(o ≤ k ∧ k < o + n)) f) :
    Holds cv (⟨Rect.unit ![0, o] ![M, n] inb, w⟩ :: L) p f := by
  intro r k hp
  by_cases h : o ≤ k.val ∧ k.val < o + n
  · have e1 : (Rect.unit (s := ⟨2, ![M, N]⟩) ![0, o] ![M, n] inb).emb (ix2 r (⟨k.val - o, by omega⟩ : Fin n)) = ix2 r k := by
      refine Rect.emb_eq_of_coords _ _ _ fun a => ?_
      match a with
      | ⟨0, _⟩ => show r.val = 0 + 1 * r.val; omega
      | ⟨1, _⟩ => show k.val = o + 1 * (k.val - o); omega
    rw [← e1, View.canon_cons_emb]
    refine (hw r _).trans ?_
    show ((f r.val (o + (k.val - o)) : ℝ) : EReal) = _
    rw [Nat.add_sub_cancel' h.1]
  · rw [View.canon_cons_of_not_mem]
    · exact hL r k ⟨hp, h⟩
    · exact Rect.not_mem_set_of_axis _ _ (1 : Fin 2) o n rfl rfl rfl (by show k.val < o ∨ o + n ≤ k.val; omega)

theorem Holds.last {L : List (View.Piece Val (⟨2, ![M, N]⟩ : Shape) e)} {p : ℕ → Prop} (hp : ∀ k < N, ¬p k) : Holds cv L p f :=
  fun _ k h => absurd h (hp _ k.isLt)

end Stores

/-- A load of a block of columns. -/
theorem ld_colsAt {a : (⟨2, ![M, N]⟩ : Shape).Idx → EReal} (n o : ℕ) (ha : IsR a f) {inb} :
    IsR (M := M) (N := n) (View.ld (Val := fun _ => EReal) (e' := .f32) (S := ⟨2, ![M, N]⟩) a (Rect.unit ![0, o] ![M, n] inb)) (fun r c => f r (o + c)) :=
  (Attn.isR_ld (e := .f32) 0 o ha inb).congr fun r c _ _ => by rw [Nat.zero_add]

/-- The same of 128 columns, counted in blocks of as many, -/
theorem ld_block {a : (⟨2, ![M, N]⟩ : Shape).Idx → EReal} (t o : ℕ) (ha : IsR a f) {inb} (ho : o = 128 * t := by rfl) :
    IsR (M := M) (N := 128) (View.ld (Val := fun _ => EReal) (e' := .f32) (S := ⟨2, ![M, N]⟩) a (Rect.unit ![0, o] ![M, 128] inb)) (cols t f) :=
  (ld_colsAt 128 o ha).congr fun r c _ _ => by
    rw [ho]
    rfl

/-- and counted from a column on. -/
theorem ld_cols {a : (⟨2, ![M, N]⟩ : Shape).Idx → EReal} (t b o : ℕ) (ha : IsR a f) {inb} (ho : o = b + 128 * t := by rfl) :
    IsR (M := M) (N := 128) (View.ld (Val := fun _ => EReal) (e' := .f32) (S := ⟨2, ![M, N]⟩) a (Rect.unit ![0, o] ![M, 128] inb)) (cols t fun r c => f r (b + c)) :=
  (ld_colsAt 128 o ha).congr fun r c _ _ => by
    rw [ho, Nat.add_assoc]
    rfl

end Cert.Hand.Cols
-- ==== Proof.MemAttn.lean ====
module

public import proofs.«01_k».proof.Proof.Norm
public import proofs.«01_k».proof.Proof.MemRef
public import proofs.«01_k».proof.Proof.Cols
public import proofs.«01_k».proof.Proof.Gen.MemAttnBwdIdeal.Value
public import proofs.«01_k».proof.Proof.Gen.MemAttnBwdRefIdeal.Run
public import proofs.«01_k».proof.Proof.Gen.Pre_mem_attn_bwd_finite
public import proofs.«01_k».proof.Defs
public meta import Idealize.ShloMosaic.Lib.Pointwise
public meta import Idealize.ShloMosaic.Lib.Pipeline.ValueKit

/-!
The memory attention's gradient: what the kernel leaves in its two results and that they are the plain program's on real
arguments.
-/

set_option maxRecDepth 16384

noncomputable section

@[expose] public section

namespace Cert.Hand.MemAttn

open Idealize.ShloMosaic Idealize.ShloMosaic.TcCoe Idealize.SL.Sem
open Cert.MemAttnBwdIdeal Cert.MemAttnBwdIdeal.Gen
open Cert.Hand.Sb Cert.Hand.Norm Cert.Hand.Attn Cert.Hand.Attn.Ref Cert.Hand.Cols

theorem hz : (![0, 0] : Fin 2 → Nat) = fun _ => 0 := funext fun a => by fin_cases a <;> rfl

section Pay
variable {q : FVec Ideal S512x128 .f32} {k v : FVec Ideal S256x128 .bf16} {g : FVec Ideal S512x128 .bf16} {a : FVec Ideal S256x128 .f32}
  {Q K V G A : ℕ → ℕ → ℝ} {t : ℕ} (hq : IsR q (cols t Q)) (hk : IsR k (cols t K)) (hv : IsR v (cols t V)) (hg : IsR g (cols t G))
  (ha : IsR a A)

include hq in
theorem pay10_isR : IsR (M := 512) (N := 128) (k0_pay10 (F := Ideal) q) (lanA (cols t Q)) := isR_lo (x := k0_pay4 (F := Ideal) q) hq _

include hg in
theorem pay11_isR : IsR (M := 512) (N := 128) (k0_pay11 (F := Ideal) g) (lanA (cols t G)) := isR_lo hg _

include hq in
theorem pay19_isR : IsR (M := 512) (N := 128) (k0_pay19 (F := Ideal) k0_pay3 (k0_pay4 q)) (lanB (cols t Q)) := isR_hi (x := k0_pay4 (F := Ideal) q) hq _

include hg in
theorem pay20_isR : IsR (M := 512) (N := 128) (k0_pay20 (F := Ideal) k0_pay3 g) (lanB (cols t G)) := isR_hi hg _

include hq hk in
theorem pay14_isR : IsR (M := 512) (N := 256) (k0_pay14 (F := Ideal) (k0_pay12 q k) (k0_pay13 q k)) (W Q K (2 * t)) :=
  isR_soft reduces_S512x256_S512 (.inl rfl) rfl (.inl rfl) rfl shapeCasts_S512_S512x1 broadcasts_S512x1_S512x256
    (isR_mul (φ := .f32) (isR_prodLo (pay10_isR hq) hk) (isR_bc eighth_bits))

include hq hk in
theorem pay21_isR : IsR (M := 512) (N := 256) (k0_pay21 (F := Ideal) k0_pay3 (k0_pay4 q) k) (W Q K (2 * t + 1)) :=
  isR_soft reduces_S512x256_S512 (.inl rfl) rfl (.inl rfl) rfl shapeCasts_S512_S512x1 broadcasts_S512x1_S512x256
    (isR_mul (φ := .f32) (isR_prodHi (pay19_isR hq) hk) (isR_bc eighth_bits))

include hq hk hv hg in
theorem pay15_isR : IsR (M := 512) (N := 256) (k0_pay15 (F := Ideal) v (k0_pay11 g) (k0_pay12 q k) (k0_pay13 q k)) (T Q K V G (2 * t)) :=
  isR_softGrad reduces_S512x256_S512 (.inl rfl) rfl shapeCasts_S512_S512x1 broadcasts_S512x1_S512x256
    (isR_prodLo (pay11_isR hg) hv) (pay14_isR hq hk)

include hq hk hv hg in
theorem pay23_isR : IsR (M := 512) (N := 256) (k0_pay23 (F := Ideal) (k0_pay22 k0_pay3 (k0_pay4 q) g k v) (Scalar.ofBits .f32 0x3E000000#32))
    (T Q K V G (2 * t + 1)) :=
  isR_softGrad reduces_S512x256_S512 (.inl rfl) rfl shapeCasts_S512_S512x1 broadcasts_S512x1_S512x256
    (isR_prodHi (pay20_isR hg) hv) (pay21_isR hq hk)

include hq hk hv hg in
theorem pay24_isR : IsR (M := 512) (N := 128) (k0_pay24 (F := Ideal) k k0_pay6
      (k0_pay16 k v k0_pay5 k0_pay7 (k0_pay11 g) (k0_pay12 q k) (k0_pay13 q k)) (k0_pay22 k0_pay3 (k0_pay4 q) g k v) (Scalar.ofBits .f32 0x3E000000#32))
    (fun r d => MQ Q K V G r (128 * t + d)) :=
  isR_two (φ := .f32) (n := 256) (fun h r j => T Q K V G h r j) (isR_bc zero_bits)
    (isR_matmul_nn (pay15_isR hq hk hv hg) (isR_lo hk _)) (isR_matmul_nn (pay23_isR hq hk hv hg) (isR_hi hk _))

include hq hk hv hg ha in
theorem pay25_isR : IsR (M := 256) (N := 128) (k0_pay25 (F := Ideal)
      (k0_pay17 v k0_pay8 (k0_pay10 q) (k0_pay11 g) (k0_pay12 q k) (k0_pay13 q k)) (k0_pay19 k0_pay3 (k0_pay4 q))
      (k0_pay22 k0_pay3 (k0_pay4 q) g k v) (Scalar.ofBits .f32 0x3E000000#32) a)
    (fun j d => A j d + ∑ r ∈ Finset.range 512, MK Q K V G j (128 * t + d) r) :=
  isR_add (φ := .f32) (isR_self ha _) (isR_two (φ := .f32) (n := 512) (fun h j r => T Q K V G h r j) (isR_bc zero_bits)
    (isR_matmul_tn (pay15_isR hq hk hv hg) (pay10_isR hq)) (isR_matmul_tn (pay23_isR hq hk hv hg) (pay19_isR hq)))

include hq hk hg ha in
theorem pay26_isR : IsR (M := 256) (N := 128) (k0_pay26 (F := Ideal)
      (k0_pay18 k0_pay9 (k0_pay11 g) (k0_pay12 q k) (k0_pay13 q k)) (k0_pay20 k0_pay3 g) (k0_pay21 k0_pay3 (k0_pay4 q) k) a)
    (fun j d => A j d + ∑ r ∈ Finset.range 512, MV Q K G j (128 * t + d) r) :=
  isR_add (φ := .f32) (isR_self ha _) (isR_two (φ := .f32) (n := 512) (fun h j r => W Q K h r j) (isR_bc zero_bits)
    (isR_matmul_tn (pay14_isR hq hk) (pay11_isR hg)) (isR_matmul_tn (pay21_isR hq hk) (pay20_isR hg)))

include hq in
theorem pay30_isR : IsR (M := 512) (N := 128) (k0_pay30 (F := Ideal) k0_pay2 (k0_pay27 q)) (lanA (cols t Q)) := isR_lo (x := k0_pay27 (F := Ideal) q) hq _

include hg in
theorem pay31_isR : IsR (M := 512) (N := 128) (k0_pay31 (F := Ideal) k0_pay2 g) (lanA (cols t G)) := isR_lo hg _

include hq in
theorem pay37_isR : IsR (M := 512) (N := 128) (k0_pay37 (F := Ideal) k0_pay3 (k0_pay27 q)) (lanB (cols t Q)) := isR_hi (x := k0_pay27 (F := Ideal) q) hq _

include hg in
theorem pay38_isR : IsR (M := 512) (N := 128) (k0_pay38 (F := Ideal) k0_pay3 g) (lanB (cols t G)) := isR_hi hg _

include hq hk in
theorem pay32_isR : IsR (M := 512) (N := 256) (k0_pay32 (F := Ideal) k0_pay2 (k0_pay27 q) k) (W Q K (2 * t)) :=
  isR_soft reduces_S512x256_S512 (.inl rfl) rfl (.inl rfl) rfl shapeCasts_S512_S512x1 broadcasts_S512x1_S512x256
    (isR_mul (φ := .f32) (isR_prodLo (pay30_isR hq) hk) (isR_bc eighth_bits))

include hq hk in
theorem pay39_isR : IsR (M := 512) (N := 256) (k0_pay39 (F := Ideal) k (k0_pay37 k0_pay3 (k0_pay27 q)) (constant (F := Ideal) S512x256 .f32 0x00000000#32)) (W Q K (2 * t + 1)) :=
  isR_soft reduces_S512x256_S512 (.inl rfl) rfl (.inl rfl) rfl shapeCasts_S512_S512x1 broadcasts_S512x1_S512x256
    (isR_mul (φ := .f32) (isR_prodHi (pay37_isR hq) hk) (isR_bc eighth_bits))

include hq hk hv hg in
theorem pay33_isR : IsR (M := 512) (N := 256) (k0_pay33 (F := Ideal) k0_pay2 (k0_pay27 q) g k v) (T Q K V G (2 * t)) :=
  isR_softGrad reduces_S512x256_S512 (.inl rfl) rfl shapeCasts_S512_S512x1 broadcasts_S512x1_S512x256
    (isR_prodLo (pay31_isR hg) hv) (pay32_isR hq hk)

include hq hk hv hg in
theorem pay40_isR : IsR (M := 512) (N := 256) (k0_pay40 (F := Ideal) k v (k0_pay37 k0_pay3 (k0_pay27 q)) (k0_pay38 k0_pay3 g) (constant (F := Ideal) S512x256 .f32 0x00000000#32))
    (T Q K V G (2 * t + 1)) :=
  isR_softGrad reduces_S512x256_S512 (.inl rfl) rfl shapeCasts_S512_S512x1 broadcasts_S512x1_S512x256
    (isR_prodHi (pay38_isR hg) hv) (pay39_isR hq hk)

include hq hk hv hg in
theorem pay41_isR : IsR (M := 512) (N := 128) (k0_pay41 (F := Ideal) k v k0_pay29
      (k0_pay34 k0_pay2 (k0_pay27 q) g k v k0_pay28 (Scalar.ofBits .f32 0x00000000#32)) (k0_pay37 k0_pay3 (k0_pay27 q)) (k0_pay38 k0_pay3 g) (constant (F := Ideal) S512x256 .f32 0x00000000#32))
    (fun r d => MQ Q K V G r (128 * t + d)) :=
  isR_two (φ := .f32) (n := 256) (fun h r j => T Q K V G h r j) (isR_bc zero_bits)
    (isR_matmul_nn (pay33_isR hq hk hv hg) (isR_lo hk _)) (isR_matmul_nn (pay40_isR hq hk hv hg) (isR_hi hk _))

include hq hk hv hg ha in
theorem pay42_isR : IsR (M := 256) (N := 128) (k0_pay42 (F := Ideal) k v (k0_pay35 k0_pay2 (k0_pay27 q) g k v)
      (k0_pay37 k0_pay3 (k0_pay27 q)) (k0_pay38 k0_pay3 g) (constant (F := Ideal) S512x256 .f32 0x00000000#32) a)
    (fun j d => A j d + ∑ r ∈ Finset.range 512, MK Q K V G j (128 * t + d) r) :=
  isR_add (φ := .f32) (isR_self ha _) (isR_two (φ := .f32) (n := 512) (fun h j r => T Q K V G h r j) (isR_bc zero_bits)
    (isR_matmul_tn (pay33_isR hq hk hv hg) (pay30_isR hq)) (isR_matmul_tn (pay40_isR hq hk hv hg) (pay37_isR hq)))

include hq hk hg ha in
theorem pay43_isR : IsR (M := 256) (N := 128) (k0_pay43 (F := Ideal) k (k0_pay36 k0_pay2 (k0_pay27 q) g k)
      (k0_pay37 k0_pay3 (k0_pay27 q)) (k0_pay38 k0_pay3 g) (constant (F := Ideal) S512x256 .f32 0x00000000#32) a)
    (fun j d => A j d + ∑ r ∈ Finset.range 512, MV Q K G j (128 * t + d) r) :=
  isR_add (φ := .f32) (isR_self ha _) (isR_two (φ := .f32) (n := 512) (fun h j r => W Q K h r j) (isR_bc zero_bits)
    (isR_matmul_tn (pay32_isR hq hk) (pay31_isR hg)) (isR_matmul_tn (pay39_isR hq hk) (pay38_isR hg)))

end Pay

/-- One point's share of the second result over what it held. -/
def KA (Q K V G A : ℕ → ℕ → ℝ) (n : ℕ) (j c : ℕ) : ℝ := A j c + ∑ r ∈ Finset.range n, KV Q K V G j c r

section Join
variable {Q K V G A : ℕ → ℕ → ℝ} {w : S256x128.Idx → EReal} (t : ℕ)

theorem join_k (h2 : 128 * t + 128 ≤ 256) (hw : IsR (M := 256) (N := 128) w (fun j d => A j (128 * t + d) + ∑ r ∈ Finset.range 512, MK Q K V G j (128 * t + d) r)) :
    IsR (M := 256) (N := 128) w (fun j d => KA Q K V G A 512 j (128 * t + d)) :=
  hw.congr fun j d _ hd => by
    unfold KA KV
    rw [Finset.sum_congr rfl fun r _ => if_pos (show 128 * t + d < 256 by omega)]

theorem join_v (hw : IsR (M := 256) (N := 128) w (fun j d => A j (256 + 128 * t + d) + ∑ r ∈ Finset.range 512, MV Q K G j (128 * t + d) r)) :
    IsR (M := 256) (N := 128) w (fun j d => KA Q K V G A 512 j (256 + 128 * t + d)) :=
  hw.congr fun j d _ hd => by
    unfold KA KV
    rw [Finset.sum_congr rfl fun r _ => if_neg (show ¬256 + 128 * t + d < 256 by omega)]
    rw [Nat.add_assoc, Nat.add_sub_cancel_left]

end Join

section Fill
variable {sg : RefSig} {sp : Space} {v : View sg .tc sp S256x512 .f32} {f : ℕ → ℕ → ℝ} {o : ℕ}
  {inb : ∀ a : Fin 2, (![0, o] : Fin 2 → ℕ) a + (![256, 128] : Fin 2 → ℕ) a ≤ S256x512.size a}

/-- A load of columns from the cleared block, -/
theorem fill_isR {inb' : ∀ a : Fin 2, (![0, 0] : Fin 2 → ℕ) a + S256x512.size a ≤ S256x512.size a} :
    IsR (M := 256) (N := 128) (v.readCov (Val := Elt Ideal) [⟨Rect.unit (s := S256x512) ![0, 0] S256x512.size inb', k0_pay1 (F := Ideal)⟩]
      (Rect.unit (s := S256x512) ![0, o] ![256, 128] inb).toLoadRect) (fun _ _ => 0) := by
  intro r d
  exact (congrFun (View.readCov_fill (Val := Elt Ideal) v inb' (k0_pay1 (F := Ideal)) [] (Rect.unit (s := S256x512) ![0, o] ![256, 128] inb)
    fun a : Fin 2 => by fin_cases a <;> rfl) (ix2 r d)).trans (ld_colsAt (inb := inb) 128 o (isR_bc (M := 256) (N := 512) zero_bits) r d)

/-- and one past a store beside them. -/
theorem skip_isR {p : Rect S256x512} {w} {L : List (View.Piece (Elt Ideal) S256x512 .f32)}
    (hw : IsR (M := 256) (N := 128) (v.readCov L (Rect.unit (s := S256x512) ![0, o] ![256, 128] inb).toLoadRect) f)
    (h : LoadRect.disj p (Rect.unit (s := S256x512) ![0, o] ![256, 128] inb).toLoadRect = true := by decide) :
    IsR (M := 256) (N := 128) (v.readCov (⟨p, w⟩ :: L) (Rect.unit (s := S256x512) ![0, o] ![256, 128] inb).toLoadRect) f := by
  rw [View.readCov_skip _ _ _ _ _ h]
  exact hw

end Fill

section Body
variable {c : Dev nD} {i : grid0.Coords}
  {a1 : Memref sig .tc .vmem S512x256 .f32} {h1 : a1.IsWhole}
  {a2 : Memref sig .tc .vmem S256x512 .bf16} {h2 : a2.IsWhole}
  {a3 : Memref sig .tc .vmem S512x256 .bf16} {h3 : a3.IsWhole}
  {a4 : Memref sig .tc .vmem S512x256 .bf16} {h4 : a4.IsWhole}
  {a5 : Memref sig .tc .vmem S256x512 .f32} {h5 : a5.IsWhole}
  {x0 : Vec Ideal S512x256 .f32} {x1 : Vec Ideal S256x512 .bf16} {x2 : Vec Ideal S512x256 .bf16} {xo : Vec Ideal S256x512 .f32}
  {Q Y G A : ℕ → ℕ → ℝ} (e0 : IsR x0 Q) (e1 : IsR x1 Y) (e2 : IsR x2 G) (eo : IsR xo A)

include e0 e1 e2 in
theorem out_A3 (hc : cond0_0 i) : IsR (M := 512) (N := 256) (out0_A_3 c i a1 h1 a2 h2 a3 h3 a4 h4 a5 h5 hc x0 x1 x2) (MQ Q Y (fun j c => Y j (256 + c)) G) := by
  unfold out0_A_3
  rw [View.read_writes_eq_canon _ _ _ (cover0_A_3 c i a1 h1 a2 h2 a3 h3 a4 h4 a5 h5 hc x0 x1 x2)]
  unfold kernelRun0_A
  dsimp only
  sl_unfold_words
  simp only [View.readAt_eq_ld, h1.read_unread, h2.read_unread, h3.read_unread]
  intro r k
  refine Holds.cons (Val := Elt Ideal) (e := .bf16) (cv := fun x => x) (f := MQ Q Y (fun j c => Y j (256 + c)) G) (p := fun _ => True) 128 128 ?_ (Holds.cons 0 128 ?_ (Holds.last fun k hk h => by omega)) r k trivial
  · exact pay41_isR (t := 1) (ld_block 1 128 e0) (ld_block 1 128 e1) (ld_cols 1 256 384 e1) (ld_block 1 128 e2)
  · exact pay24_isR (t := 0) (ld_block 0 0 e0) (ld_block 0 0 e1) (ld_cols 0 256 256 e1) (ld_block 0 0 e2)

include e0 e1 e2 in
theorem out_A4 (hc : cond0_0 i) : IsR (M := 256) (N := 512) (out0_A_4 c i a1 h1 a2 h2 a3 h3 a4 h4 a5 h5 hc x0 x1 x2) (KA Q Y (fun j c => Y j (256 + c)) G (fun _ _ => 0) 512) := by
  unfold out0_A_4
  rw [View.read_writes_eq_canon _ _ _ (cover0_A_4 c i a1 h1 a2 h2 a3 h3 a4 h4 a5 h5 hc x0 x1 x2)]
  unfold kernelRun0_A
  dsimp only
  sl_unfold_words
  simp only [View.readAt_eq_ld, h1.read_unread, h2.read_unread, h3.read_unread]
  intro r k
  refine Holds.cons (Val := Elt Ideal) (e := .f32) (cv := fun x => x) (f := KA Q Y (fun j c => Y j (256 + c)) G (fun _ _ => 0) 512) (p := fun _ => True) 384 128 ?_ (Holds.cons 128 128 ?_ (Holds.cons 256 128 ?_ (Holds.cons 0 128 ?_
    (Holds.last fun k hk h => by omega)))) r k trivial
  · exact join_v 1 (pay43_isR (t := 1) (A := fun _ _ => 0) (ld_block 1 128 e0) (ld_block 1 128 e1) (ld_block 1 128 e2) (skip_isR (skip_isR (skip_isR fill_isR))))
  · exact join_k 1 (by omega) (pay42_isR (t := 1) (A := fun _ _ => 0) (ld_block 1 128 e0) (ld_block 1 128 e1) (ld_cols 1 256 384 e1) (ld_block 1 128 e2) (skip_isR (skip_isR fill_isR)))
  · exact join_v 0 (pay26_isR (t := 0) (A := fun _ _ => 0) (ld_block 0 0 e0) (ld_block 0 0 e1) (ld_block 0 0 e2) (skip_isR fill_isR))
  · exact join_k 0 (by omega) (pay25_isR (t := 0) (A := fun _ _ => 0) (ld_block 0 0 e0) (ld_block 0 0 e1) (ld_cols 0 256 256 e1) (ld_block 0 0 e2) fill_isR)

include e0 e1 e2 in
theorem out_B3 (hc : ¬cond0_0 i) : IsR (M := 512) (N := 256) (out0_B_3 c i a1 h1 a2 h2 a3 h3 a4 h4 a5 h5 hc x0 x1 x2 xo) (MQ Q Y (fun j c => Y j (256 + c)) G) := by
  unfold out0_B_3
  rw [View.read_writes_eq_canon _ _ _ (cover0_B_3 c i a1 h1 a2 h2 a3 h3 a4 h4 a5 h5 hc x0 x1 x2 xo)]
  unfold kernelRun0_B
  dsimp only
  sl_unfold_words
  simp only [View.readAt_eq_ld, h1.read_unread, h2.read_unread, h3.read_unread]
  intro r k
  refine Holds.cons (Val := Elt Ideal) (e := .bf16) (cv := fun x => x) (f := MQ Q Y (fun j c => Y j (256 + c)) G) (p := fun _ => True) 128 128 ?_ (Holds.cons 0 128 ?_ (Holds.last fun k hk h => by omega)) r k trivial
  · exact pay41_isR (t := 1) (ld_block 1 128 e0) (ld_block 1 128 e1) (ld_cols 1 256 384 e1) (ld_block 1 128 e2)
  · exact pay24_isR (t := 0) (ld_block 0 0 e0) (ld_block 0 0 e1) (ld_cols 0 256 256 e1) (ld_block 0 0 e2)

include e0 e1 e2 eo in
theorem out_B4 (hc : ¬cond0_0 i) : IsR (M := 256) (N := 512) (out0_B_4 c i a1 h1 a2 h2 a3 h3 a4 h4 a5 h5 hc x0 x1 x2 xo) (KA Q Y (fun j c => Y j (256 + c)) G A 512) := by
  unfold out0_B_4
  rw [View.read_writes_eq_canon _ _ _ (cover0_B_4 c i a1 h1 a2 h2 a3 h3 a4 h4 a5 h5 hc x0 x1 x2 xo)]
  unfold kernelRun0_B
  dsimp only
  sl_unfold_words
  simp only [View.readAt_eq_ld, h1.read_unread, h2.read_unread, h3.read_unread, h5.read_unread]
  intro r k
  refine Holds.cons (Val := Elt Ideal) (e := .f32) (cv := fun x => x) (f := KA Q Y (fun j c => Y j (256 + c)) G A 512) (p := fun _ => True) 384 128 ?_ (Holds.cons 128 128 ?_ (Holds.cons 256 128 ?_ (Holds.cons 0 128 ?_
    (Holds.last fun k hk h => by omega)))) r k trivial
  · exact join_v 1 (pay43_isR (t := 1) (ld_block 1 128 e0) (ld_block 1 128 e1) (ld_block 1 128 e2) (ld_colsAt 128 384 eo))
  · exact join_k 1 (by omega) (pay42_isR (t := 1) (ld_block 1 128 e0) (ld_block 1 128 e1) (ld_cols 1 256 384 e1) (ld_block 1 128 e2) (ld_colsAt 128 128 eo))
  · exact join_v 0 (pay26_isR (t := 0) (ld_block 0 0 e0) (ld_block 0 0 e1) (ld_block 0 0 e2) (ld_colsAt 128 256 eo))
  · exact join_k 0 (by omega) (pay25_isR (t := 0) (ld_block 0 0 e0) (ld_block 0 0 e1) (ld_cols 0 256 256 e1) (ld_block 0 0 e2) (ld_colsAt 128 0 eo))

end Body

theorem idx : ∀ t : Fin cfg0.N, win0_0.index t 0 = t.val ∧ win0_0.index t 1 = 3 ∧ win0_1.index t 0 = 0 ∧ win0_1.index t 1 = 0
    ∧ win0_2.index t 0 = t.val ∧ win0_2.index t 1 = 3 ∧ win0_3.index t 0 = t.val ∧ win0_3.index t 1 = 0
    ∧ win0_4.index t 0 = 0 ∧ win0_4.index t 1 = 0 := by
  decide +kernel

/-- A point's share of the second result, over all queries' rows. -/
theorem share {Q K V G : ℕ → ℕ → ℝ} (n j c : ℕ) :
    KA (fun r k => Q (512 * n + r) k) K V (fun r k => G (512 * n + r) k) (fun j c => ∑ r ∈ Finset.range (512 * n), KV Q K V G j c r) 512 j c
      = ∑ r ∈ Finset.range (512 * (n + 1)), KV Q K V G j c r := by
  rw [Nat.mul_add 512 n 1, Nat.mul_one, Finset.sum_range_add]
  rfl

theorem share_zero {Q K V G : ℕ → ℕ → ℝ} (j c : ℕ) :
    KA (fun r k => Q (512 * 0 + r) k) K V (fun r k => G (512 * 0 + r) k) (fun _ _ => 0) 512 j c = ∑ r ∈ Finset.range (512 * (0 + 1)), KV Q K V G j c r := by
  refine (congrArg (· + _) ?_).trans (share 0 j c)
  show 0 = ∑ r ∈ Finset.range (512 * 0), KV Q K V G j c r
  rw [Nat.mul_zero, Finset.sum_range_zero]

attribute [local irreducible] out0_A_3 out0_A_4 out0_B_3 out0_B_4 KA KV

section Arr
variable (m : (ℓ : Loc nD τ sig) → Buf (Elt Ideal) ℓ) (c : Dev nD)

/-- The three arguments as real numbers, -/
def rX : ℕ → ℕ → ℝ := re (M := 4096) (N := 1024) (m ((c : Thread nD τ).loc main_arg0))
def rY : ℕ → ℕ → ℝ := re (M := 256) (N := 512) (m ((c : Thread nD τ).loc main_arg1))
def rZ : ℕ → ℕ → ℝ := re (M := 4096) (N := 1024) (m ((c : Thread nD τ).loc main_arg2))
/-- and the two results. -/
def rQ : ℕ → ℕ → ℝ := MQ (fun r k => rX m c r (768 + k)) (rY m c) (fun j k => rY m c j (256 + k)) (fun r k => rZ m c r (768 + k))
def rM (j k : ℕ) (n : ℕ) : ℝ := ∑ r ∈ Finset.range n, KV (fun r k => rX m c r (768 + k)) (rY m c) (fun j k => rY m c j (256 + k)) (fun r k => rZ m c r (768 + k)) j k r

variable (hp : Cert.Pre_MemAttnBwdIdeal_mem_attn_bwd_finite (hPre_mem_attn_bwd_finite := Cert.Pre_mem_attn_bwd_finite.Gen.facts) m)

include hp in
theorem args : IsR (M := 4096) (N := 1024) (m ((c : Thread nD τ).loc main_arg0)) (rX m c)
    ∧ IsR (M := 256) (N := 512) (m ((c : Thread nD τ).loc main_arg1)) (rY m c)
    ∧ IsR (M := 4096) (N := 1024) (m ((c : Thread nD τ).loc main_arg2)) (rZ m c) := by
  have e := hp c
  unfold Cert.Pre_mem_attn_bwd_finite.fn at e
  exact ⟨isR_re (congrFun e.1), isR_re (congrFun e.2.1), isR_re (congrFun e.2.2)⟩

include hp in
theorem blocks (t : Fin cfg0.N) : IsR (M := 512) (N := 256) (iblk m c 0 t) (fun r k => rX m c (512 * t.val + r) (768 + k))
    ∧ IsR (M := 256) (N := 512) (iblk m c 1 t) (rY m c)
    ∧ IsR (M := 512) (N := 256) (iblk m c 2 t) (fun r k => rZ m c (512 * t.val + r) (768 + k)) := by
  obtain ⟨hX, hY, hZ⟩ := args m c hp
  obtain ⟨e00, e01, e10, e11, e20, e21, e30, e31, e40, e41⟩ := idx t
  have ht : t.val < 8 := t.isLt
  refine ⟨fun r k => ?_, hY.whole fun r k => by blk_ext [iblk, V, e10, e11], fun r k => ?_⟩
  · exact Eq.trans (by blk_ext [iblk, V, e00, e01]) (hX (⟨512 * t.val + r.val, by omega⟩ : Fin 4096) (⟨768 + k.val, by omega⟩ : Fin 1024))
  · exact Eq.trans (by blk_ext [iblk, V, e20, e21]) (hZ (⟨512 * t.val + r.val, by omega⟩ : Fin 4096) (⟨768 + k.val, by omega⟩ : Fin 1024))

include hp in
/-- The running sum the second result's staging block holds after a point. -/
theorem acc_eq : ∀ (n : ℕ) (h : n < cfg0.N), IsR (M := 256) (N := 512) (outsAt0 m c n h).2 (fun j k => rM m c j k (512 * (n + 1)))
  | 0, h => by
    obtain ⟨b0, b1, b2⟩ := blocks m c hp ⟨0, h⟩
    rw [outsAt0_A m c ⟨0, h⟩ rfl]
    dsimp only
    exact IsR.congr (out_A4 b0 b1 b2 _) fun j k _ _ => share_zero
      (Q := fun r k => rX m c r (768 + k)) (K := rY m c) (V := fun j k => rY m c j (256 + k)) (G := fun r k => rZ m c r (768 + k)) j k
  | n + 1, h => by
    obtain ⟨b0, b1, b2⟩ := blocks m c hp ⟨n + 1, h⟩
    have hN : cfg0.N = 8 := N_0
    have hB : ¬(⟨n + 1, h⟩ : Fin cfg0.N).val % 8 = 0 := by dsimp only; omega
    rw [outsAt0_B m c ⟨n + 1, h⟩ hB]
    dsimp only
    exact IsR.congr (out_B4 b0 b1 b2 (acc_eq n _) _) fun j k _ _ => share
      (Q := fun r k => rX m c r (768 + k)) (K := rY m c) (V := fun j k => rY m c j (256 + k)) (G := fun r k => rZ m c r (768 + k)) (n + 1) j k

include hp in
theorem rows_eq (t : Fin cfg0.N) : IsR (M := 512) (N := 256) (outsAt0 m c t.val t.isLt).1 (fun r k => rQ m c (512 * t.val + r) k) := by
  obtain ⟨b0, b1, b2⟩ := blocks m c hp t
  by_cases h0 : t.val % 8 = 0
  · rw [outsAt0_A m c t h0]
    dsimp only
    exact IsR.congr (out_A3 b0 b1 b2 _) fun r k _ _ => rfl
  · rw [outsAt0_B m c t h0]
    dsimp only
    exact IsR.congr (out_B3 b0 b1 b2 _) fun r k _ _ => rfl

include hp in
theorem arr3_eq : (dats m 0 c).arrAt 3 cfg0.N = mat (M := 4096) (N := 256) (rQ m c) := by
  refine (dats m 0 c).arrAt_eq_of_covers 3 _ (by decide +kernel) fun t hf y => ?_
  obtain ⟨e00, e01, e10, e11, e20, e21, e30, e31, e40, e41⟩ := idx t
  have ht : t.val < 8 := t.isLt
  have hy0 : (y 0).val < 512 := (y 0).isLt
  blk_simp
  rw [after0_3, eq_ix2 y]
  have hy : (win0_3.blk t).view.emb (ix2 (y 0) (y 1)) = (ix2 ⟨512 * t.val + (y 0).val, by omega⟩ (y 1) : (⟨2, ![4096, 256]⟩ : Shape).Idx) := by
    blk_ext [e30, e31]
  refine (rows_eq m c hp t (y 0) (y 1)).trans (Eq.trans ?_ (congrArg _ hy.symm))
  rfl

include hp in
theorem arr4_eq : (dats m 0 c).arrAt 4 cfg0.N = mat (M := 256) (N := 512) (fun j k => rM m c j k 4096) := by
  refine (dats m 0 c).arrAt_eq_of_covers 4 _ (by decide +kernel) fun t hf y => ?_
  have h7 : t.val = 7 := by have := (flush0_4 t).mp hf; have : t.val < 8 := t.isLt; omega
  obtain ⟨e00, e01, e10, e11, e20, e21, e30, e31, e40, e41⟩ := idx t
  blk_simp
  rw [after0_4, eq_ix2 y]
  have hy : (win0_4.blk t).view.emb (ix2 (y 0) (y 1)) = (ix2 (y 0) (y 1) : (⟨2, ![256, 512]⟩ : Shape).Idx) := by
    blk_ext [e40, e41]
  refine (acc_eq m c hp t.val t.isLt (y 0) (y 1)).trans (Eq.trans ?_ (congrArg _ hy.symm))
  rw [h7]
  rfl

end Arr

theorem frame_ref : Cert.quiescent_MemAttnBwdRefIdeal (hMemAttnBwdRefIdeal := Cert.MemAttnBwdRefIdeal.Gen.facts) := fun m ρ _ =>
  (θ_run _ _ _).mono (fun r h => ⟨fun c => (h c).2.2, sem_eq_zero_of_no_sems (by decide) r.2⟩) (Cert.MemAttnBwdRefIdeal.Value.run m ρ)

theorem alg : Cert.algebraic_MemAttnBwdIdeal_MemAttnBwdRefIdeal_pre_mem_attn_bwd_finite (hMemAttnBwdIdeal := Cert.MemAttnBwdIdeal.Gen.facts)
    (hMemAttnBwdRefIdeal := Cert.MemAttnBwdRefIdeal.Gen.facts) (hPre_mem_attn_bwd_finite := Cert.Pre_mem_attn_bwd_finite.Gen.facts) := by
  intro m g m' g' hpre hag
  refine ⟨fun c => mat (M := 4096) (N := 256) (rQ m c), fun c => mat (M := 256) (N := 512) (fun j k => rM m c j k 4096), ?_, ?_⟩
  · exact (θ_run defs _ _).mono (fun r h c => ⟨(h c).1.trans (arr3_eq m c hpre), (h c).2.1.trans (arr4_eq m c hpre), (h c).2.2⟩)
      (Cert.MemAttnBwdIdeal.Value.run_blocks m g)
  · refine (θ_run Cert.MemAttnBwdRefIdeal.defs _ _).mono (fun r h c => ?_) (Cert.MemAttnBwdRefIdeal.Value.run m' g')
    obtain ⟨hX, hY, hZ⟩ := args m c hpre
    have iX := congrFun hX.eq_mat
    have iY := congrFun hY.eq_mat
    have iZ := congrFun hZ.eq_mat
    refine ⟨(h c).1.trans ?_, (h c).2.1.trans ?_, (h c).2.2⟩
    · rw [Cert.MemAttnBwdRefIdeal.Read.val_main_v75_eq, (hag c).1, (hag c).2.1, (hag c).2.2]
      exact funext fun i => r75 iX iY iZ (fun _ _ => rfl) (fun _ _ => rfl) (fun _ _ => rfl) i
    · rw [Cert.MemAttnBwdRefIdeal.Read.val_main_v76_eq, (hag c).1, (hag c).2.1, (hag c).2.2]
      exact funext fun i => r76 iX iY iZ (fun _ _ => rfl) (fun _ _ => rfl) (fun _ _ => rfl) i

end Cert.Hand.MemAttn

end
-- ==== Proof.SbFwdBlock.lean ====
module

public import proofs.«01_k».proof.Proof.SbVal

/-!
The real numbers behind one block of the attention's forward kernel: the blocks go from a query's last key
to its first, and each carries the sum of the logarithms of the gates not taken of the keys after it.
-/

@[expose] public section

set_option maxRecDepth 8192

noncomputable section

namespace Cert.Hand.SbFwd

open Cert.Hand.Sb
open Idealize.ShloMosaic Idealize.ShloMosaic.TcCoe
open Idealize.SL Idealize.SL.Sem

/-- The sum over the keys from `n` on. -/
def rest (n : ℕ) (F : ℕ → ℝ) : ℝ := ∑ j ∈ Finset.range 4096, F j - ∑ j ∈ Finset.range n, F j

theorem rest_split (F : ℕ → ℝ) (n K : ℕ) : rest n F = rest (n + K) F + ∑ c ∈ Finset.range K, F (n + c) := by
  unfold rest
  rw [Finset.sum_range_add F n K]
  ring

theorem rest_all (F : ℕ → ℝ) : rest 0 F = ∑ j ∈ Finset.range 4096, F j := by
  unfold rest
  rw [Finset.sum_range_zero, sub_zero]

theorem rest_none {F : ℕ → ℝ} {n : ℕ} (hn : n ≤ 4096) (h : ∀ j, n ≤ j → F j = 0) : rest n F = 0 := by
  unfold rest
  obtain ⟨p, hp⟩ := Nat.exists_eq_add_of_le hn
  rw [hp, Finset.sum_range_add F n p, Finset.sum_eq_zero (s := Finset.range p) fun c _ => h (n + c) (Nat.le_add_right _ _)]
  ring

theorem tail_sum {F : ℕ → ℝ} {n K c : ℕ} (hc : c < K) (hle : n + K ≤ 4096) :
    rest (n + K) F + ∑ s ∈ Finset.range K, F (n + s) * (if c < s then 1 else 0) = ∑ s ∈ Finset.range 4096, if n + c < s then F s else 0 := by
  simp only [mul_ite, mul_one, mul_zero]
  exact rest_sum F n c K hc hle

/-- The side conditions of a block's operations. -/
structure FB (Q K : ℕ) : Prop where
  rd : (Mat Q K).Reduces [1] ⟨1, ![Q]⟩
  sc : (⟨1, ![Q]⟩ : Shape).ShapeCasts (Mat Q 1)
  bb : (Mat Q 1).Broadcasts (Mat Q 128)

/-- What the blocks carry: both heads' sums, and the attention's result so far. -/
abbrev Fwd (Q : ℕ) : Type := FVec Ideal (Mat Q 1) .f32 × FVec Ideal (Mat Q 1) .f32 × FVec Ideal (Mat Q 128) .f32

section
variable {Q K : ℕ} (sd : FB Q K) (mk : FVec Ideal (Mat Q K) .f32 → FVec Ideal (Mat Q K) .f32) (t : FVec Ideal (Mat K K) .bf16)

/-- A block's weights, of its scores, but for the keys after it. -/
def fw (z : FVec Ideal (Mat Q K) .f32) : FVec Ideal (Mat Q K) .f32 :=
  mk (exp (addf (addf z (bl z)) (matmul (DotDims.plain Q K K) none (truncf .bf16 (mk (bl z)) lt16) t (zm Q K))))

include sd in
def fcar (cy : FVec Ideal (Mat Q 1) .f32) (x : FVec Ideal (Mat Q K) .f32) : FVec Ideal (Mat Q 1) .f32 :=
  addf cy (shapeCast (Mat Q 1) (multiReduction (F := Ideal) .add [1] ⟨1, ![Q]⟩ x 0x00000000#32 sd.rd (.inl rfl) rfl) sd.sc)

include sd in
def facc (cy : FVec Ideal (Mat Q 1) .f32) (w : FVec Ideal (Mat Q K) .f32) (v : FVec Ideal (Mat K 128) .bf16) (acc : FVec Ideal (Mat Q 128) .f32) :
    FVec Ideal (Mat Q 128) .f32 :=
  addf acc (mulf (broadcastTo (Mat Q 128) (exp cy) sd.bb) (matmul (DotDims.plain Q K 128) none (truncf .bf16 w lt16) v (zm Q 128)))

/-- One block, both heads. -/
def fblk (qa qb : FVec Ideal (Mat Q 128) .bf16) (k va vb : FVec Ideal (Mat K 128) .bf16) (p : Fwd Q) : Fwd Q :=
  (fcar sd p.1 (mk (bl (bz qa k))), fcar sd p.2.1 (mk (bl (bz qb k))),
    facc sd p.2.1 (fw mk t (bz qb k)) vb (facc sd p.1 (fw mk t (bz qa k)) va p.2.2))

end

/-- What is carried past the keys from `n` on, of the queries from `q0` on. -/
structure FIs (fa fb fk fv : ℕ → ℕ → ℝ) (q0 n : ℕ) {Q : ℕ} (p : Fwd Q) : Prop where
  ca : IsR p.1 (fun r _ => rest n (LR fa fk (q0 + r)))
  cb : IsR p.2.1 (fun r _ => rest n (LR fb fk (q0 + r)))
  acc : IsR p.2.2 (fun r d => rest n (fun j => wR fa fk (q0 + r) j * lanA fv j d + wR fb fk (q0 + r) j * lanB fv j d))

section
variable {Q K : ℕ} (sd : FB Q K) {mk : FVec Ideal (Mat Q K) .f32 → FVec Ideal (Mat Q K) .f32} {t : FVec Ideal (Mat K K) .bf16}
  {q qa qb : FVec Ideal (Mat Q 128) .bf16} {k v va vb : FVec Ideal (Mat K 128) .bf16} {cy : FVec Ideal (Mat Q 1) .f32} {acc : FVec Ideal (Mat Q 128) .f32}
  {fq fa fb fk fv D : ℕ → ℕ → ℝ} {q0 n : ℕ} {p : Fwd Q}
  (hmk : ∀ x f, IsR x f → IsR (mk x) (fun r c => if n + c < q0 + r then f r c else 0))
  (ht : IsR t (fun j s => if s < j then 1 else 0)) (hle : n + K ≤ 4096)
  (hk : IsR k (fun c d => fk (n + c) d))

include hmk ht hk in
theorem isR_fw (hq : IsR q (fun r d => fq (q0 + r) d)) : IsR (fw mk t (bz q k)) (fun r c => if n + c < q0 + r then
    Real.exp (zR fq fk (q0 + r) (n + c) + lnR (zR fq fk (q0 + r) (n + c)) + ∑ s ∈ Finset.range K, LR fq fk (q0 + r) (n + s) * (if c < s then 1 else 0)) else 0) := by
  have hz : IsR (bz q k) (fun r c => zR fq fk (q0 + r) (n + c)) := isR_matmul_nt hq hk
  have hL : IsR (truncf .bf16 (mk (bl (bz q k))) lt16 : FVec Ideal (Mat Q K) .bf16) (fun r c => LR fq fk (q0 + r) (n + c)) := isR_L hmk hq hk
  exact hmk _ _ (isR_exp (isR_add (isR_add hz (isR_bl hz)) (isR_matmul_nn (φ₁ := .bf16) (φ₂ := .bf16) hL ht)))

include hmk hk in
theorem isR_fcar (hq : IsR q (fun r d => fq (q0 + r) d)) (hcy : IsR cy (fun r _ => rest (n + K) (LR fq fk (q0 + r)))) :
    IsR (fcar sd cy (mk (bl (bz q k)))) (fun r _ => rest n (LR fq fk (q0 + r))) :=
  (isR_add hcy (isR_rowSum (isR_L hmk hq hk) sd.rd (.inl rfl) rfl sd.sc)).congr fun r _ _ _ => (rest_split _ _ _).symm

include hmk ht hle hk in
theorem isR_facc (hq : IsR q (fun r d => fq (q0 + r) d)) (hv : IsR v (fun c d => fv (n + c) d))
    (hcy : IsR cy (fun r _ => rest (n + K) (LR fq fk (q0 + r)))) (hacc : IsR acc D) :
    IsR (facc sd cy (fw mk t (bz q k)) v acc) (fun r d => D r d + ∑ c ∈ Finset.range K, wR fq fk (q0 + r) (n + c) * fv (n + c) d) := by
  have hw := isR_fw hmk ht hk hq
  refine (isR_add hacc (isR_mul (isR_col (φ := .f32) (isR_exp hcy) sd.bb) (isR_matmul_nn (φ₁ := .bf16) (φ₂ := .bf16)
    (show IsR (truncf .bf16 (fw mk t (bz q k)) lt16 : FVec Ideal (Mat Q K) .bf16) _ from hw) hv))).congr fun r d _ _ => ?_
  refine congrArg (D r d + ·) ?_
  rw [Finset.mul_sum]
  refine Finset.sum_congr rfl fun c hc => ?_
  rw [← mul_assoc]
  refine congrArg (· * fv (n + c) d) ?_
  unfold wR
  by_cases h : n + c < q0 + r
  · rw [if_pos h, if_pos h, ← Real.exp_add, ← tail_sum (Finset.mem_range.1 hc) hle]
    exact congrArg Real.exp (by ring)
  · rw [if_neg h, if_neg h, mul_zero]

include hmk ht hle hk in
theorem fblk_is (ha : IsR qa (fun r d => fa (q0 + r) d)) (hb : IsR qb (fun r d => fb (q0 + r) d))
    (hva : IsR va (fun c d => lanA fv (n + c) d)) (hvb : IsR vb (fun c d => lanB fv (n + c) d)) (hp : FIs fa fb fk fv q0 (n + K) p) :
    FIs fa fb fk fv q0 n (fblk sd mk t qa qb k va vb p) where
  ca := isR_fcar sd hmk hk ha hp.ca
  cb := isR_fcar sd hmk hk hb hp.cb
  acc := (isR_facc sd hmk ht hle hk hb hvb hp.cb (isR_facc sd hmk ht hle hk ha hva hp.ca hp.acc)).congr fun r d _ _ => by
    rw [rest_split _ n K, Finset.sum_add_distrib]
    exact add_assoc _ _ _

end

end Cert.Hand.SbFwd
-- ==== Proof.SbFwdTrip.lean ====
/-
The run of the attention's forward kernel: its offsets and trip counts, and the trip of one
block of queries. Stated at any floats, so that both frames and the value read it.
-/
module

public import proofs.«01_k».proof.Proof.Gen.StickFwdIdeal.Frame
public import proofs.«01_k».proof.Proof.Gen.StickFwdIdeal.Loops
public import Idealize.ShloMosaic.Lib.Exec
public import Idealize.ShloMosaic.Lib.Ring
public import Idealize.ShloMosaic.Lib.VecWindow
public import Idealize.ShloMosaic.Lib.Claim
public import Idealize.ShloMosaic.Lib.Pipeline.FrameBody
public import Idealize.ShloMosaic.Lib.Pipeline.FrameSuffix
public import Idealize.ShloMosaic.Lib.Tactic
public import Idealize.ShloMosaic.Lib.Pipeline.Kit

@[expose] public section

set_option maxRecDepth 8192
set_option maxHeartbeats 4000000

noncomputable section

namespace Cert.Hand.SbFwd

open Cert.StickFwdIdeal Cert.StickFwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat)

abbrev WB := Memref sig .tc .vmem S4096x128 .bf16

variable {F : FTy → Type} [FloatOps F]
local notation "𝕄" => MT nD τ sig Unit (Elt F) ℕ (UR sig nD τ) ℕ

theorem trips1 : k0_t1_loop.trips = 8 := by decide +kernel
theorem trips2 : ∀ a : Fin k0_t1_loop.trips, (k0_t2_loop a).trips = a.val / 2 := by decide +kernel
theorem trips3 : ∀ a : Fin k0_t1_loop.trips, (k0_t3_loop a).trips = 0 := by decide +kernel
theorem trips4 : ∀ a : Fin k0_t1_loop.trips, (k0_t4_loop a).trips = a.val % 2 := by decide +kernel
theorem trips5 : ∀ a : Fin k0_t1_loop.trips, (k0_t5_loop a).trips = 0 := by decide +kernel

theorem off1_eq : ∀ a, k0_off1 a = ![512 * a.val, 0] := by decide +kernel
theorem off2_eq : ∀ a, k0_off2 a = ![512 * a.val + 256, 0] := by decide +kernel
theorem off3_eq : ∀ a, k0_off3 a = ![512 * a.val, 0] := by decide +kernel
theorem off4_eq : ∀ a b, k0_off4 a b = ![512 * a.val - 1024 * b.val - 512, 0] := by decide +kernel
theorem off5_eq : ∀ a b, k0_off5 a b = ![512 * a.val - 1024 * b.val - 1024, 0] := by decide +kernel
theorem off8_eq : ∀ a, k0_off8 a = ![0, 0, 512 * a.val, 0] := by decide +kernel
theorem off9_eq : ∀ a, k0_off9 a = ![0, 1, 512 * a.val, 0] := by decide +kernel

instance (a : Fin k0_t1_loop.trips) : ClosedOff (k0_off1 a) := ⟨_, off1_eq a⟩
instance (a : Fin k0_t1_loop.trips) : ClosedOff (k0_off8 a) := ⟨_, off8_eq a⟩
instance (a : Fin k0_t1_loop.trips) : ClosedOff (k0_off9 a) := ⟨_, off9_eq a⟩

section
variable (𝒱 : Variants) (c : Dev nD) (bd : Option 𝒱.V) (i : grid0.Coords) (a1 : WB) (p1 : a1.IsWhole) (a2 : WB) (p2 : a2.IsWhole) (a3 : WB) (p3 : a3.IsWhole) (a4 : WB) (p4 : a4.IsWhole) (a5 : Memref sig .tc .vmem S1x2x4096x128 .f32) (p5 : a5.IsWhole)
variable (X1 : BufTy.Contents (Elt F) a1.view.ty) (X2 : BufTy.Contents (Elt F) a2.view.ty) (X3 : BufTy.Contents (Elt F) a3.view.ty)

/-- What a trip reads: queries, keys and values; and the two results it writes. -/
abbrev TripQ (f4 : BufTy.Contents (Elt F) a4.view.ty) (f5 : BufTy.Contents (Elt F) a5.view.ty) : sProp 𝕄 :=
  iprop((a1.view.loc (c : Thread nD τ) ↦[a1.view.set]{fullShare} X1) ∗ (a2.view.loc (c : Thread nD τ) ↦[a2.view.set]{fullShare} X2) ∗ (a3.view.loc (c : Thread nD τ) ↦[a3.view.set]{fullShare} X3) ∗ (a4.view.loc (c : Thread nD τ) ↦[a4.view.set]{fullShare} f4) ∗ (a5.view.loc (c : Thread nD τ) ↦[a5.view.set]{fullShare} f5))

/-- The pieces one block of queries writes: of the attention's result, and of the sums of the gates. -/
@[irreducible] def trip1 (a : Fin k0_t1_loop.trips) :
    Σ' (L4 : List (View.Piece (Elt F) S4096x128 .bf16)), { L5 : List (View.Piece (Elt F) S1x2x4096x128 .f32) //
        ∀ (E : Set ℕ) (f4 : BufTy.Contents (Elt F) a4.view.ty) (f5 : BufTy.Contents (Elt F) a5.view.ty),
          TripQ (F := F) c a1 a2 a3 a4 a5 X1 X2 X3 f4 f5
          ⊢ wp frame (wpE (defs₀ (F := F)) 𝒱 (c : Thread nD τ) bd) E (k0_t1_body (F := F) i a1 p1 a2 p2 a3 p3 a4 p4 a5 p5 a ())
            (fun _ => TripQ (F := F) c a1 a2 a3 a4 a5 X1 X2 X3 (a4.view.writes (Elt F) f4 L4) (a5.view.writes (Elt F) f5 L5)) } := by
  refine ⟨?_, ?_, fun E f4 f5 => ?run⟩
  case run =>
    unfold k0_t1_body
    iintro ⟨H1, H2, H3, H4, H5⟩
    sl_exec
    sl_step
    sl_close

/-- The pieces of the query blocks before `k`, last first. -/
def st1 : ℕ → List (View.Piece (Elt F) S4096x128 .bf16) × List (View.Piece (Elt F) S1x2x4096x128 .f32)
  | 0 => ([], [])
  | k + 1 =>
    if h : k < k0_t1_loop.trips then
      ((trip1 (F := F) 𝒱 c bd i a1 p1 a2 p2 a3 p3 a4 p4 a5 p5 X1 X2 X3 ⟨k, h⟩).1 ++ (st1 k).1, (trip1 (F := F) 𝒱 c bd i a1 p1 a2 p2 a3 p3 a4 p4 a5 p5 X1 X2 X3 ⟨k, h⟩).2.1 ++ (st1 k).2)
    else st1 k

theorem st1_succ (k : Fin k0_t1_loop.trips) : st1 (F := F) 𝒱 c bd i a1 p1 a2 p2 a3 p3 a4 p4 a5 p5 X1 X2 X3 (k.val + 1) =
    ((trip1 (F := F) 𝒱 c bd i a1 p1 a2 p2 a3 p3 a4 p4 a5 p5 X1 X2 X3 k).1 ++ (st1 (F := F) 𝒱 c bd i a1 p1 a2 p2 a3 p3 a4 p4 a5 p5 X1 X2 X3 k).1,
      (trip1 (F := F) 𝒱 c bd i a1 p1 a2 p2 a3 p3 a4 p4 a5 p5 X1 X2 X3 k).2.1 ++ (st1 (F := F) 𝒱 c bd i a1 p1 a2 p2 a3 p3 a4 p4 a5 p5 X1 X2 X3 k).2) := by
  rw [st1]; exact dif_pos k.isLt

/-- What holds before query block `k`. -/
def inv1 (g4 : BufTy.Contents (Elt F) a4.view.ty) (g5 : BufTy.Contents (Elt F) a5.view.ty) (k : ℕ) (_ : PUnit) : sProp 𝕄 :=
  iprop((a1.view.loc (c : Thread nD τ) ↦[a1.view.set]{fullShare} X1) ∗ (a2.view.loc (c : Thread nD τ) ↦[a2.view.set]{fullShare} X2) ∗ (a3.view.loc (c : Thread nD τ) ↦[a3.view.set]{fullShare} X3)
    ∗ (∃ f, (a4.view.loc (c : Thread nD τ) ↦[a4.view.set]{fullShare} f) ∗ ⌜f = a4.view.writes (Elt F) g4 (st1 (F := F) 𝒱 c bd i a1 p1 a2 p2 a3 p3 a4 p4 a5 p5 X1 X2 X3 k).1⌝)
    ∗ (∃ f, (a5.view.loc (c : Thread nD τ) ↦[a5.view.set]{fullShare} f) ∗ ⌜f = a5.view.writes (Elt F) g5 (st1 (F := F) 𝒱 c bd i a1 p1 a2 p2 a3 p3 a4 p4 a5 p5 X1 X2 X3 k).2⌝))

theorem step1 (E : Set ℕ) (g4 : BufTy.Contents (Elt F) a4.view.ty) (g5 : BufTy.Contents (Elt F) a5.view.ty) (k : Fin k0_t1_loop.trips) (acc : PUnit) :
    inv1 (F := F) 𝒱 c bd i a1 p1 a2 p2 a3 p3 a4 p4 a5 p5 X1 X2 X3 g4 g5 k.val acc
    ⊢ wp frame (wpE (defs₀ (F := F)) 𝒱 (c : Thread nD τ) bd) E (k0_t1_body (F := F) i a1 p1 a2 p2 a3 p3 a4 p4 a5 p5 k acc)
      (fun acc => inv1 (F := F) 𝒱 c bd i a1 p1 a2 p2 a3 p3 a4 p4 a5 p5 X1 X2 X3 g4 g5 (k.val + 1) acc) := by
  unfold inv1
  iintro ⟨H1, H2, H3, ⟨%f4, H4, %h4⟩, ⟨%f5, H5, %h5⟩⟩
  iapply (wp_wand_r Idealize.ShloMosaic.frame (wpE (defs₀ (F := F)) 𝒱 (c : Thread nD τ) bd) E)
  isplitl [H1 H2 H3 H4 H5]
  · iapply ((trip1 (F := F) 𝒱 c bd i a1 p1 a2 p2 a3 p3 a4 p4 a5 p5 X1 X2 X3 k).2.2 E f4 f5)
    isplitl [H1]; · iexact H1
    isplitl [H2]; · iexact H2
    isplitl [H3]; · iexact H3
    isplitl [H4]; · iexact H4
    iexact H5
  · iintro %yld ⟨H1, H2, H3, H4, H5⟩
    isplitl [H1]; · iexact H1
    isplitl [H2]; · iexact H2
    isplitl [H3]; · iexact H3
    simp only [st1_succ]
    isplitl [H4]
    · iexists _; isplitl [H4]; · iexact H4
      ipureintro; rw [h4, View.writes_append]
    · iexists _; isplitl [H5]; · iexact H5
      ipureintro; rw [h5, View.writes_append]

/-- A block's rows of the attention's result, and of the two heads' sums. -/
def pO (a : Fin k0_t1_loop.trips) (w : S512x128.Idx → Elt F .bf16) : View.Piece (Elt F) S4096x128 .bf16 := ⟨Rect.unit (s := S4096x128) (k0_off1 a) S512x128.size (k0_off1_inb a), w⟩
def pA (a : Fin k0_t1_loop.trips) (w : S1x1x512x128.Idx → Elt F .f32) : View.Piece (Elt F) S1x2x4096x128 .f32 := ⟨Rect.unit (s := S1x2x4096x128) (k0_off8 a) S1x1x512x128.size (k0_off8_inb a), w⟩
def pB (a : Fin k0_t1_loop.trips) (w : S1x1x512x128.Idx → Elt F .f32) : View.Piece (Elt F) S1x2x4096x128 .f32 := ⟨Rect.unit (s := S1x2x4096x128) (k0_off9 a) S1x1x512x128.size (k0_off9_inb a), w⟩

theorem trip1_piece (a : Fin k0_t1_loop.trips) :
    (∃ v, (trip1 (F := F) 𝒱 c bd i a1 p1 a2 p2 a3 p3 a4 p4 a5 p5 X1 X2 X3 a).1 = [pO a v]) ∧ ∃ x y, (trip1 (F := F) 𝒱 c bd i a1 p1 a2 p2 a3 p3 a4 p4 a5 p5 X1 X2 X3 a).2.1 = [pB a y, pA a x] := by
  unfold trip1; exact ⟨⟨_, rfl⟩, _, _, rfl⟩

end

end Cert.Hand.SbFwd
-- ==== Proof.SbFwdVal.lean ====
module

public import proofs.«01_k».proof.Proof.SbFwdBlock
public import proofs.«01_k».proof.Proof.SbFwdTrip
import all proofs.«01_k».proof.Proof.SbFwdTrip
import all proofs.«01_k».proof.Proof.Gen.StickFwdIdeal.Loops

/-!
The trips of the attention's forward kernel as blocks.
-/

@[expose] public section

set_option maxRecDepth 65536

noncomputable section

namespace Cert.Hand.SbFwd

open Cert.StickFwdIdeal Cert.StickFwdIdeal.Gen
open Cert.Hand.Sb (Mat IsR cm pick half lo mkD mkL)
open Idealize.ShloMosaic Idealize.ShloMosaic.TcCoe
open Idealize.SL Idealize.SL.Sem Idealize.ShloMosaic.Tactic

theorem sdU : FB 512 512 := ⟨reduces_S512x512_S512, shapeCasts_S512_S512x1, broadcasts_S512x1_S512x128⟩
theorem sdD : FB 512 256 := ⟨reduces_S512x256_S512, shapeCasts_S512_S512x1, broadcasts_S512x1_S512x128⟩
theorem sdL : FB 256 256 := ⟨reduces_S256x256_S256, shapeCasts_S256_S256x1, broadcasts_S256x1_S256x128⟩

/-- A whole block of keys, all of them seen. -/
abbrev blkU (v5 : FVec Ideal S512x512 .bf16) (v17 v19 : IVec S512x128 1) (qa qb k v : FVec Ideal S512x128 .bf16) (p : Fwd 512) : Fwd 512 :=
  fblk sdU (fun x => x) v5 qa qb k (pick v17 v) (pick v19 v) p

/-- The queries' own keys: the second half of the rows against the second half of the keys, then all rows against the first. -/
def blkD (v11 : FVec Ideal S256x256 .bf16) (v17 v19 : IVec S512x128 1) (qa qb : FVec Ideal S512x128 .bf16) (k2 v2 k1 v1 : FVec Ideal S256x128 .bf16) : Fwd 512 :=
  let p : Fwd 256 := fblk sdL mkL v11 (lo qa) (lo qb) k2 (pick (half v17) v2) (pick (half v19) v2)
    (cm 256 1 0x00000000#32, cm 256 1 0x00000000#32, cm 256 128 0x00000000#32)
  fblk sdD mkD v11 qa qb k1 (pick (half v17) v1) (pick (half v19) v1)
    (concatenate S512x1 0 [⟨S256x1, cm 256 1 0x00000000#32⟩, ⟨S256x1, p.1⟩] concatenates_S256x1_S256x1_S512x1_d0,
      concatenate S512x1 0 [⟨S256x1, cm 256 1 0x00000000#32⟩, ⟨S256x1, p.2.1⟩] concatenates_S256x1_S256x1_S512x1_d0,
      concatenate S512x128 0 [⟨S256x128, cm 256 128 0x00000000#32⟩, ⟨S256x128, p.2.2⟩] concatenates_S256x128_S256x128_S512x128_d0)

section
variable (𝒱 : Variants) (c : Dev nD) (bd : Option 𝒱.V) (i : grid0.Coords) (a1 : WB) (p1 : a1.IsWhole) (a2 : WB) (p2 : a2.IsWhole) (a3 : WB) (p3 : a3.IsWhole) (a4 : WB) (p4 : a4.IsWhole) (a5 : Memref sig .tc .vmem S1x2x4096x128 .f32) (p5 : a5.IsWhole)
variable (X1 : BufTy.Contents (Elt Ideal) a1.view.ty) (X2 : BufTy.Contents (Elt Ideal) a2.view.ty) (X3 : BufTy.Contents (Elt Ideal) a3.view.ty)
variable (a : Fin k0_t1_loop.trips)

abbrev rd1 (A : WB) (X : BufTy.Contents (Elt Ideal) A.view.ty) : S512x128.Idx → Elt Ideal .bf16 :=
  View.readAt (Elt Ideal) A.view (Rect.unit (s := S4096x128) (k0_off1 a) S512x128.size (k0_off1_inb a)).toLoadRect X
abbrev rd2 (A : WB) (X : BufTy.Contents (Elt Ideal) A.view.ty) : S256x128.Idx → Elt Ideal .bf16 :=
  View.readAt (Elt Ideal) A.view (Rect.unit (s := S4096x128) (k0_off2 a) S256x128.size (k0_off2_inb a)).toLoadRect X
abbrev rd3 (A : WB) (X : BufTy.Contents (Elt Ideal) A.view.ty) : S256x128.Idx → Elt Ideal .bf16 :=
  View.readAt (Elt Ideal) A.view (Rect.unit (s := S4096x128) (k0_off3 a) S256x128.size (k0_off3_inb a)).toLoadRect X
abbrev rd4 (b : Fin (k0_t2_loop a).trips) (A : WB) (X : BufTy.Contents (Elt Ideal) A.view.ty) : S512x128.Idx → Elt Ideal .bf16 :=
  View.readAt (Elt Ideal) A.view (Rect.unit (s := S4096x128) (k0_off4 a b) S512x128.size (k0_off4_inb a b)).toLoadRect X
abbrev rd5 (b : Fin (k0_t2_loop a).trips) (A : WB) (X : BufTy.Contents (Elt Ideal) A.view.ty) : S512x128.Idx → Elt Ideal .bf16 :=
  View.readAt (Elt Ideal) A.view (Rect.unit (s := S4096x128) (k0_off5 a b) S512x128.size (k0_off5_inb a b)).toLoadRect X
abbrev rd0 (A : WB) (X : BufTy.Contents (Elt Ideal) A.view.ty) : S512x128.Idx → Elt Ideal .bf16 :=
  View.readAt (Elt Ideal) A.view (Rect.unit (s := S4096x128) ![0, 0] S512x128.size inb_S4096x128_S512x128_0_0).toLoadRect X

section
variable (v5 : FVec Ideal S512x512 .bf16) (v11 : FVec Ideal S256x256 .bf16) (v14 : IVec S512x256 1) (v17 v19 : IVec S512x128 1) (c0_i32 c1_i32 : BitVec 32)
variable (w : BitVec 32) (v28 v30 : FVec Ideal S512x128 .bf16) (w2 : BitVec 32)

theorem trip2_eq (b : Fin (k0_t2_loop a).trips) (p : Fwd 512) :
    (trip_k0_t2 (F := Ideal) 𝒱 c bd i a1 p1 a2 p2 a3 p3 a4 p4 a5 p5 v5 v11 v14 v17 v19 c0_i32 c1_i32 a w v28 v30 w2 X2 X3 b).1 p = blkU v5 v17 v19 v28 v30 (rd5 a b a2 X2) (rd5 a b a3 X3) (blkU v5 v17 v19 v28 v30 (rd4 a b a2 X2) (rd4 a b a3 X3) p) := by
  unfold trip_k0_t2
  sl_kernel_rfl

theorem trip4_eq (b : Fin (k0_t4_loop a).trips) (p : Fwd 512) :
    (trip_k0_t4 (F := Ideal) 𝒱 c bd i a1 p1 a2 p2 a3 p3 a4 p4 a5 p5 v5 v11 v14 v17 v19 c0_i32 c1_i32 a v28 v30 X2 X3 b).1 p = blkU v5 v17 v19 v28 v30 (rd0 a2 X2) (rd0 a3 X3) p := by
  unfold trip_k0_t4
  sl_kernel_rfl
end

/-- The first head's queries, -/
abbrev qa : FVec Ideal S512x128 .bf16 := k0_pay51 k0_pay4 (rd1 a a1 X1)
/-- and the second's. -/
abbrev qb : FVec Ideal S512x128 .bf16 := k0_pay52 k0_pay5 (rd1 a a1 X1)

/-- What is carried past a block's own keys. -/
abbrev ownP : Fwd 512 := blkD k0_pay2 k0_pay4 k0_pay5 (qa a1 X1 a) (qb a1 X1 a) (rd2 a a2 X2) (rd2 a a3 X3) (rd3 a a2 X2) (rd3 a a3 X3)

theorem trip1_eq : ∃ c0_i32 c1_i32 w w2 w3 w5 : BitVec 32,
    let S2 := st_k0_t2 (F := Ideal) 𝒱 c bd i a1 p1 a2 p2 a3 p3 a4 p4 a5 p5 k0_pay1 k0_pay2 k0_pay3 k0_pay4 k0_pay5 c0_i32 c1_i32 a w (qa a1 X1 a) (qb a1 X1 a) w2 X2 X3 (ownP a1 a2 a3 X1 X2 X3 a) (k0_t2_loop a).trips
    let S3 := st_k0_t3 (F := Ideal) 𝒱 c bd i a1 p1 a2 p2 a3 p3 a4 p4 a5 p5 k0_pay1 k0_pay2 k0_pay3 k0_pay4 k0_pay5 c0_i32 c1_i32 a w (qa a1 X1 a) (qb a1 X1 a) w3 X2 X3 S2 (k0_t3_loop a).trips
    let S4 := st_k0_t4 (F := Ideal) 𝒱 c bd i a1 p1 a2 p2 a3 p3 a4 p4 a5 p5 k0_pay1 k0_pay2 k0_pay3 k0_pay4 k0_pay5 c0_i32 c1_i32 a (qa a1 X1 a) (qb a1 X1 a) X2 X3 S3 (k0_t4_loop a).trips
    let S5 := st_k0_t5 (F := Ideal) 𝒱 c bd i a1 p1 a2 p2 a3 p3 a4 p4 a5 p5 k0_pay1 k0_pay2 k0_pay3 k0_pay4 k0_pay5 c0_i32 c1_i32 a (qa a1 X1 a) (qb a1 X1 a) w5 X2 X3 S4 (k0_t5_loop a).trips
    (trip1 (F := Ideal) 𝒱 c bd i a1 p1 a2 p2 a3 p3 a4 p4 a5 p5 X1 X2 X3 a).1 = [pO a (k0_pay95 S5.2.2)] ∧
      (trip1 (F := Ideal) 𝒱 c bd i a1 p1 a2 p2 a3 p3 a4 p4 a5 p5 X1 X2 X3 a).2.1 = [pB a (k0_pay97 S5.2.1), pA a (k0_pay96 S5.1)] := by
  refine ⟨0#32, 1#32, trip1.sl.v21 a, 0#32, trip1.sl.v198 a, trip1.sl.v215 a, ?_, ?_⟩
  · sl_kernel_rfl
  · sl_kernel_rfl

end

end Cert.Hand.SbFwd
-- ==== Proof.SbFwdRun.lean ====
/-
The run of the attention's forward kernel: one grid point, and the run over the grid.
-/
module

public import proofs.«01_k».proof.Proof.SbFwdTrip

@[expose] public section

set_option maxRecDepth 8192
set_option maxHeartbeats 4000000

noncomputable section

namespace Cert.Hand.SbFwd

open Cert.StickFwdIdeal Cert.StickFwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat)

variable {F : FTy → Type} [FloatOps F]
local notation "𝕄" => MT nD τ sig Unit (Elt F) ℕ (UR sig nD τ) ℕ

theorem mem_of_eq {α : Type} {L L' : List α} {x : α} (h : L = L') (hx : x ∈ L') : x ∈ L := h ▸ hx

section
variable (𝒱 : Variants) (c : Dev nD) (bd : Option 𝒱.V) (i : grid0.Coords) (a1 : WB) (p1 : a1.IsWhole) (a2 : WB) (p2 : a2.IsWhole) (a3 : WB) (p3 : a3.IsWhole) (a4 : WB) (p4 : a4.IsWhole) (a5 : Memref sig .tc .vmem S1x2x4096x128 .f32) (p5 : a5.IsWhole)
variable (X1 : BufTy.Contents (Elt F) a1.view.ty) (X2 : BufTy.Contents (Elt F) a2.view.ty) (X3 : BufTy.Contents (Elt F) a3.view.ty)

theorem st1_pieces (k : ℕ) : ∀ (a : Fin k0_t1_loop.trips), a.val < k →
    (∃ v, pO (F := F) a v ∈ (st1 (F := F) 𝒱 c bd i a1 p1 a2 p2 a3 p3 a4 p4 a5 p5 X1 X2 X3 k).1) ∧
      (∃ v, pA (F := F) a v ∈ (st1 (F := F) 𝒱 c bd i a1 p1 a2 p2 a3 p3 a4 p4 a5 p5 X1 X2 X3 k).2) ∧ ∃ v, pB (F := F) a v ∈ (st1 (F := F) 𝒱 c bd i a1 p1 a2 p2 a3 p3 a4 p4 a5 p5 X1 X2 X3 k).2 := by
  induction k with
  | zero => exact fun a h => absurd h (Nat.not_lt_zero _)
  | succ k ih =>
    intro a h
    by_cases hk : k < k0_t1_loop.trips
    · rw [show k + 1 = (⟨k, hk⟩ : Fin k0_t1_loop.trips).val + 1 from rfl, st1_succ]
      by_cases e : a.val = k
      · obtain ⟨⟨v, hv⟩, x, y, hxy⟩ := trip1_piece (F := F) 𝒱 c bd i a1 p1 a2 p2 a3 p3 a4 p4 a5 p5 X1 X2 X3 a
        have ea : a = ⟨k, hk⟩ := Fin.ext e
        subst ea
        exact ⟨⟨v, List.mem_append_left _ (mem_of_eq hv List.mem_cons_self)⟩,
          ⟨x, List.mem_append_left _ (mem_of_eq hxy (List.mem_cons_of_mem _ List.mem_cons_self))⟩, y, List.mem_append_left _ (mem_of_eq hxy List.mem_cons_self)⟩
      · obtain ⟨⟨v, hv⟩, ⟨x, hx⟩, y, hy⟩ := ih a (by omega)
        exact ⟨⟨v, List.mem_append_right _ hv⟩, ⟨x, List.mem_append_right _ hx⟩, y, List.mem_append_right _ hy⟩
    · rw [st1, dif_neg hk]
      exact ih a (lt_of_lt_of_le a.isLt (not_lt.mp hk))

theorem cover4 (y : S4096x128.Idx) : ∃ pc ∈ (st1 (F := F) 𝒱 c bd i a1 p1 a2 p2 a3 p3 a4 p4 a5 p5 X1 X2 X3 k0_t1_loop.trips).1, y ∈ pc.1.set := by
  have hy : (y 0).val < 4096 := (y 0).isLt
  have hy1 : (y 1).val < 128 := (y 1).isLt
  have hb : (y 0).val / 512 < k0_t1_loop.trips := by rw [trips1]; omega
  obtain ⟨v, hv⟩ := (st1_pieces (F := F) 𝒱 c bd i a1 p1 a2 p2 a3 p3 a4 p4 a5 p5 X1 X2 X3 k0_t1_loop.trips ⟨(y 0).val / 512, hb⟩ hb).1
  refine ⟨_, hv, (Rect.mem_set_unit (inb := k0_off1_inb ⟨(y 0).val / 512, hb⟩) (i := y)).mpr fun q => ?_⟩
  rw [off1_eq]
  fin_cases q
  · show 512 * ((y 0).val / 512) ≤ (y 0).val ∧ (y 0).val < 512 * ((y 0).val / 512) + 512
    omega
  · show 0 ≤ (y 1).val ∧ (y 1).val < 0 + 128
    omega

theorem cover5 (y : S1x2x4096x128.Idx) : ∃ pc ∈ (st1 (F := F) 𝒱 c bd i a1 p1 a2 p2 a3 p3 a4 p4 a5 p5 X1 X2 X3 k0_t1_loop.trips).2, y ∈ pc.1.set := by
  have hy0 : (y 0).val < 1 := (y 0).isLt
  have hy1 : (y 1).val < 2 := (y 1).isLt
  have hy : (y 2).val < 4096 := (y 2).isLt
  have hy3 : (y 3).val < 128 := (y 3).isLt
  have hb : (y 2).val / 512 < k0_t1_loop.trips := by rw [trips1]; omega
  obtain ⟨⟨v, hv⟩, w, hw⟩ := (st1_pieces (F := F) 𝒱 c bd i a1 p1 a2 p2 a3 p3 a4 p4 a5 p5 X1 X2 X3 k0_t1_loop.trips ⟨(y 2).val / 512, hb⟩ hb).2
  have key : 512 * ((y 2).val / 512) ≤ (y 2).val ∧ (y 2).val < 512 * ((y 2).val / 512) + 512 := by omega
  by_cases h : (y 1).val = 0
  · refine ⟨_, hv, (Rect.mem_set_unit (inb := k0_off8_inb ⟨(y 2).val / 512, hb⟩) (i := y)).mpr fun q => ?_⟩
    rw [off8_eq]
    fin_cases q
    · show 0 ≤ (y 0).val ∧ (y 0).val < 0 + 1
      omega
    · show 0 ≤ (y 1).val ∧ (y 1).val < 0 + 1
      omega
    · exact key
    · show 0 ≤ (y 3).val ∧ (y 3).val < 0 + 128
      omega
  · refine ⟨_, hw, (Rect.mem_set_unit (inb := k0_off9_inb ⟨(y 2).val / 512, hb⟩) (i := y)).mpr fun q => ?_⟩
    rw [off9_eq]
    fin_cases q
    · show 0 ≤ (y 0).val ∧ (y 0).val < 0 + 1
      omega
    · show 1 ≤ (y 1).val ∧ (y 1).val < 1 + 1
      omega
    · exact key
    · show 0 ≤ (y 3).val ∧ (y 3).val < 0 + 128
      omega

end

section
variable (𝒱 : Variants) (c : Dev nD) (bd : Option 𝒱.V) (i : grid0.Coords) (a1 : WB) (p1 : a1.IsWhole) (a2 : WB) (p2 : a2.IsWhole) (a3 : WB) (p3 : a3.IsWhole) (a4 : WB) (p4 : a4.IsWhole) (a5 : Memref sig .tc .vmem S1x2x4096x128 .f32) (p5 : a5.IsWhole)
variable (x1 x2 x3 : Vec F S4096x128 .bf16)

/-- What a grid point leaves of the attention's result, -/
def out4 : Vec F S4096x128 .bf16 := View.canon (st1 (F := F) 𝒱 c bd i a1 p1 a2 p2 a3 p3 a4 p4 a5 p5 (p1.unread x1) (p2.unread x2) (p3.unread x3) k0_t1_loop.trips).1
/-- and of the sums of the gates. -/
def out5 : Vec F S1x2x4096x128 .f32 := View.canon (st1 (F := F) 𝒱 c bd i a1 p1 a2 p2 a3 p3 a4 p4 a5 p5 (p1.unread x1) (p2.unread x2) (p3.unread x3) k0_t1_loop.trips).2

/-- The kernel's body at one grid point. -/
theorem sound_kernel (E : Set ℕ) (K : PUnit → sProp 𝕄) :
    iprop(owns (c : Thread nD τ) a1 fullShare x1 ∗ owns (c : Thread nD τ) a2 fullShare x2 ∗ owns (c : Thread nD τ) a3 fullShare x3
        ∗ (∃ d, owns (c : Thread nD τ) a4 fullShare d) ∗ (∃ d, owns (c : Thread nD τ) a5 fullShare d)
        ∗ (iprop(owns (c : Thread nD τ) a1 fullShare x1 ∗ owns (c : Thread nD τ) a2 fullShare x2 ∗ owns (c : Thread nD τ) a3 fullShare x3
            ∗ owns (c : Thread nD τ) a4 fullShare (out4 (F := F) 𝒱 c bd i a1 p1 a2 p2 a3 p3 a4 p4 a5 p5 x1 x2 x3) ∗ owns (c : Thread nD τ) a5 fullShare (out5 (F := F) 𝒱 c bd i a1 p1 a2 p2 a3 p3 a4 p4 a5 p5 x1 x2 x3)) -∗ K ⟨⟩))
      ⊢ wp frame (wpE (defs₀ (F := F)) 𝒱 (c : Thread nD τ) bd) E (cc0_sb_fwd (F := F) i a1 p1 a2 p2 a3 p3 a4 p4 a5 p5) K := by
  simp only [cc0_sb_fwd_eq_skeleton]; unfold cc0_sb_fwd_skel
  unfold owns
  iintro ⟨⟨%f1, %hf1, H1⟩, ⟨%f2, %hf2, H2⟩, ⟨%f3, %hf3, H3⟩, ⟨%d4, %f4, -, H4⟩, ⟨%d5, %f5, -, H5⟩, Hk⟩
  obtain rfl := p1.eq_unread hf1
  obtain rfl := p2.eq_unread hf2
  obtain rfl := p3.eq_unread hf3
  sl_exec
  sl_for (inv1 (F := F) 𝒱 c bd i a1 p1 a2 p2 a3 p3 a4 p4 a5 p5 (p1.unread x1) (p2.unread x2) (p3.unread x3) f4 f5) $$ [H1 H2 H3 H4 H5]
  case region => intro k acc; exact step1 (F := F) 𝒱 c bd i a1 p1 a2 p2 a3 p3 a4 p4 a5 p5 _ _ _ E f4 f5 k acc
  · unfold inv1
    isplitl [H1]; · iexact H1
    isplitl [H2]; · iexact H2
    isplitl [H3]; · iexact H3
    isplitl [H4]
    · iexists _; isplitl [H4]; · iexact H4
      ipureintro; rfl
    · iexists _; isplitl [H5]; · iexact H5
      ipureintro; rfl
  unfold inv1
  iintro %_ ⟨H1, H2, H3, ⟨%e4, H4, %h4⟩, ⟨%e5, H5, %h5⟩⟩
  subst h4 h5
  sl_exec
  sl_step
  iapply Hk
  isplitl [H1]; · iexists _; isplitr; · ipureintro; exact p1.read_unread _
                  iexact H1
  isplitl [H2]; · iexists _; isplitr; · ipureintro; exact p2.read_unread _
                  iexact H2
  isplitl [H3]; · iexists _; isplitr; · ipureintro; exact p3.read_unread _
                  iexact H3
  isplitl [H4]
  · iexists _; isplitr
    swap; · iexact H4
    ipureintro
    exact View.read_writes_eq_canon _ _ _ (cover4 (F := F) 𝒱 c bd i a1 p1 a2 p2 a3 p3 a4 p4 a5 p5 _ _ _)
  · iexists _; isplitr
    swap; · iexact H5
    ipureintro
    exact View.read_writes_eq_canon _ _ _ (cover5 (F := F) 𝒱 c bd i a1 p1 a2 p2 a3 p3 a4 p4 a5 p5 _ _ _)
end

/-! ## The run over the grid -/

section
variable (m : (ℓ : Loc nD τ sig) → Buf (Elt F) ℓ) (ρ : Dev nD → PrngReg)

/-- What point `t` leaves of the attention's result, -/
def aft3 (c : Dev nD) (t : Fin cfg0.N) : Vec F S4096x128 .bf16 :=
  out4 (F := F) Variants.none c none (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (iblk m c 0 t) (iblk m c 1 t) (iblk m c 2 t)
/-- and of the sums of the gates. -/
def aft4 (c : Dev nD) (t : Fin cfg0.N) : Vec F S1x2x4096x128 .f32 :=
  out5 (F := F) Variants.none c none (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (iblk m c 0 t) (iblk m c 1 t) (iblk m c 2 t)

/-- The run's data: inputs keep their blocks, the outputs hold what the point computes. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => aft3 m c t
    | ⟨4, _⟩ => aft4 m c t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = aft3 m c t := by dsimp only [dats]
theorem after4 (c : Dev nD) (t : Fin cfg0.N) : (dats m 0 c).after 4 t = aft4 m c t := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

/-- What the body is given at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it gives back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl,
    after0, after1, after2, after3, after4]
  unfold aft3 aft4
  iintro ⟨HΦ, Ho, ⟨%d0, H0⟩, ⟨%d1, H1⟩, ⟨%d2, H2⟩, ⟨%d3, H3⟩, ⟨%d4, H4⟩⟩
  iapply (sound_kernel (F := F) Variants.none c none (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (iblk m c 0 t) (iblk m c 1 t) (iblk m c 2 t) Set.univ _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : Pipeline.BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The run: every array ends at what the grid's points leave in it, and no counter is left over. -/
theorem run_main_quiescent : θ_run defs (onTc (τ := τ) (main (F := F))) (s₀ m ρ)
    (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun c w _ => by dsimp only [dats])
    (howed := fun _ _ => rfl) (V := V m)
    (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end as they began, every counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) (run_main m ρ)) ((θ_run defs _ _).mono (fun _ h => h.2) (run_main_quiescent m ρ))
end

end Cert.Hand.SbFwd
-- ==== Proof.SbFwdOut.lean ====
module

public import proofs.«01_k».proof.Proof.SbFwdVal
public import proofs.«01_k».proof.Proof.SbFwdRun
import all proofs.«01_k».proof.Proof.Gen.StickFwdIdeal.Loops

/-!
What a trip over the queries of the attention's forward kernel leaves.
-/

@[expose] public section

set_option maxRecDepth 65536

noncomputable section

namespace Cert.Hand.SbFwd

open Cert.StickFwdIdeal Cert.StickFwdIdeal.Gen
open Cert.Hand.Sb
open Idealize.ShloMosaic Idealize.ShloMosaic.TcCoe
open Idealize.SL Idealize.SL.Sem Idealize.ShloMosaic.Tactic

theorem tri1 : IsR (M := 512) (N := 512) (k0_pay1 (F := Ideal)) (fun j s => if s < j then 1 else 0) := isR_gt (by omega) _ _
theorem tri2 : IsR (M := 256) (N := 256) (k0_pay2 (F := Ideal)) (fun j s => if s < j then 1 else 0) := isR_gt (by omega) _ _
theorem laneA_fwd : (k0_pay4 : IVec (Mat 512 128) 1) = Cert.StickBwdIdeal.Gen.k0_pay339 := rfl
theorem laneB_fwd : (k0_pay5 : IVec (Mat 512 128) 1) = Cert.StickBwdIdeal.Gen.k0_pay340 := rfl

/-- No keys. -/
theorem none_is {fa fb fk fv : ℕ → ℕ → ℝ} {q0 n Q : ℕ} (hn : n ≤ 4096) (h : q0 + Q ≤ n + 1) :
    FIs fa fb fk fv q0 n (Q := Q) (cm Q 1 0x00000000#32, cm Q 1 0x00000000#32, cm Q 128 0x00000000#32) where
  ca := (isR_bc zero_bits).congr fun r _ hr _ => (rest_none hn fun j hj => if_neg (by omega)).symm
  cb := (isR_bc zero_bits).congr fun r _ hr _ => (rest_none hn fun j hj => if_neg (by omega)).symm
  acc := (isR_bc zero_bits).congr fun r _ hr _ => (rest_none hn fun j hj => by
    unfold wR
    rw [if_neg (by omega), if_neg (by omega), zero_mul, zero_mul, add_zero]).symm

section
variable (𝒱 : Variants) (c : Dev nD) (bd : Option 𝒱.V) (i : grid0.Coords) (a1 : WB) (p1 : a1.IsWhole) (a2 : WB) (p2 : a2.IsWhole) (a3 : WB) (p3 : a3.IsWhole) (a4 : WB) (p4 : a4.IsWhole) (a5 : Memref sig .tc .vmem S1x2x4096x128 .f32) (p5 : a5.IsWhole)
variable (X1 : BufTy.Contents (Elt Ideal) a1.view.ty) (X2 : BufTy.Contents (Elt Ideal) a2.view.ty) (X3 : BufTy.Contents (Elt Ideal) a3.view.ty)
variable (a : Fin k0_t1_loop.trips)
variable {fQ fk fv : ℕ → ℕ → ℝ} (hQ : Is16 a1 X1 fQ) (hK : Is16 a2 X2 fk) (hV : Is16 a3 X3 fv)

/-- The scaled queries of the first head, -/
abbrev sA (fQ : ℕ → ℕ → ℝ) : ℕ → ℕ → ℝ := lanA fun i d => fQ i d * 0.125
/-- and of the second. -/
abbrev sB (fQ : ℕ → ℕ → ℝ) : ℕ → ℕ → ℝ := lanB fun i d => fQ i d * 0.125

include hQ in
theorem qa_is : IsR (M := 512) (N := 128) (qa a1 X1 a) (fun r d => sA fQ (512 * a.val + r) d) := by
  show IsR (pick k0_pay4 (mulf (rd1 a a1 X1 : FVec Ideal (Mat 512 128) .bf16) (broadcast (Mat 512 128) (Scalar.ofBits .bf16 0x3E00#16 : Ideal .bf16)))) _
  rw [laneA_fwd]
  exact isR_pickA (isR_mul (isR_rd16 (M := 512) hQ (off1_eq a) (k0_off1_inb a)) (isR_bc eighth16))

include hQ in
theorem qb_is : IsR (M := 512) (N := 128) (qb a1 X1 a) (fun r d => sB fQ (512 * a.val + r) d) := by
  show IsR (pick k0_pay5 (mulf (rd1 a a1 X1 : FVec Ideal (Mat 512 128) .bf16) (broadcast (Mat 512 128) (Scalar.ofBits .bf16 0x3E00#16 : Ideal .bf16)))) _
  rw [laneB_fwd]
  exact isR_pickB (isR_mul (isR_rd16 (M := 512) hQ (off1_eq a) (k0_off1_inb a)) (isR_bc eighth16))

include hQ hK hV in
/-- A whole block of keys below the queries. -/
theorem blkU_is {n m : ℕ} {k v : FVec Ideal S512x128 .bf16} {p : Fwd 512} (hk : IsR (M := 512) (N := 128) k (fun c d => fk (n + c) d)) (hv : IsR (M := 512) (N := 128) v (fun c d => fv (n + c) d))
    (hm : m = n + 512) (hle : m ≤ 512 * a.val) (hp : FIs (sA fQ) (sB fQ) fk fv (512 * a.val) m p) :
    FIs (sA fQ) (sB fQ) fk fv (512 * a.val) n (blkU k0_pay1 k0_pay4 k0_pay5 (qa a1 X1 a) (qb a1 X1 a) k v p) := by
  subst hm
  have ha : a.val < 8 := lt_of_lt_of_eq a.isLt trips1
  refine fblk_is sdU (fun x f hx => hx.congr fun r c hr hc => (if_pos (by omega)).symm) tri1 (by omega) hk (qa_is a1 X1 a hQ) (qb_is a1 X1 a hQ) ?_ ?_ hp
  · rw [laneA_fwd]; exact isR_pickA hv
  · rw [laneB_fwd]; exact isR_pickB hv

include hQ hK hV in
/-- The queries' own keys. -/
theorem ownP_is : FIs (sA fQ) (sB fQ) fk fv (512 * a.val) (512 * a.val) (ownP a1 a2 a3 X1 X2 X3 a) := by
  have ha : a.val < 8 := lt_of_lt_of_eq a.isLt trips1
  have K2 := isR_rd16 (M := 256) hK (off2_eq a) (k0_off2_inb a)
  have V2 := isR_rd16 (M := 256) hV (off2_eq a) (k0_off2_inb a)
  have K3 := isR_rd16 (M := 256) hK (off3_eq a) (k0_off3_inb a)
  have V3 := isR_rd16 (M := 256) hV (off3_eq a) (k0_off3_inb a)
  have QA := qa_is a1 X1 a hQ
  have QB := qb_is a1 X1 a hQ
  have low : FIs (sA fQ) (sB fQ) fk fv (512 * a.val + 256) (512 * a.val + 256) (fblk sdL mkL k0_pay2 (lo (qa a1 X1 a)) (lo (qb a1 X1 a)) (rd2 a a2 X2)
      (pick (half k0_pay4) (rd2 a a3 X3)) (pick (half k0_pay5) (rd2 a a3 X3)) (cm 256 1 0x00000000#32, cm 256 1 0x00000000#32, cm 256 128 0x00000000#32)) := by
    refine fblk_is (K := 256) sdL (fun x f hx => ?_) tri2 (by omega) K2 ?_ ?_ ?_ ?_ (none_is (by omega) (by omega))
    · exact (isR_select (p := fun r c => c < r) (fun r c => (slice0_at 0 Cert.StickBwdIdeal.Gen.k0_pay338 Cert.StickBwdIdeal.Gen.slices_S512x256_o0_0_S256x256 r c (by omega) c.isLt).trans (seen_at _ _)) hx (isR_bc zero_bits)).congr
        fun r c _ _ => by simp only [Nat.add_lt_add_iff_left]
    · exact (isR_slice (φ := .bf16) 256 0 QA _).congr fun r d _ _ => by rw [Nat.zero_add, Nat.add_assoc]
    · exact (isR_slice (φ := .bf16) 256 0 QB _).congr fun r d _ _ => by rw [Nat.zero_add, Nat.add_assoc]
    · rw [laneA_fwd]; exact isR_halfA V2
    · rw [laneB_fwd]; exact isR_halfB V2
  refine fblk_is (K := 256) sdD (fun x f hx => ?_) tri2 (by omega) K3 QA QB ?_ ?_ ⟨?_, ?_, ?_⟩
  · exact (isR_select (p := fun r c => c < r) seen_at hx (isR_bc zero_bits)).congr fun r c _ _ => by simp only [Nat.add_lt_add_iff_left]
  · rw [laneA_fwd]; exact isR_halfA V3
  · rw [laneB_fwd]; exact isR_halfB V3
  · refine (isR_cat0 (isR_bc zero_bits) low.ca concatenates_S256x1_S256x1_S512x1_d0 rfl).congr fun r c hr hc => ?_
    by_cases h : r < 256
    · rw [if_pos h]
      exact (rest_none (by omega) fun j hj => if_neg (by omega)).symm
    · rw [if_neg h, show 512 * a.val + 256 + (r - 256) = 512 * a.val + r by omega]
  · refine (isR_cat0 (isR_bc zero_bits) low.cb concatenates_S256x1_S256x1_S512x1_d0 rfl).congr fun r c hr hc => ?_
    by_cases h : r < 256
    · rw [if_pos h]
      exact (rest_none (by omega) fun j hj => if_neg (by omega)).symm
    · rw [if_neg h, show 512 * a.val + 256 + (r - 256) = 512 * a.val + r by omega]
  · refine (isR_cat0 (isR_bc zero_bits) low.acc concatenates_S256x128_S256x128_S512x128_d0 rfl).congr fun r c hr hc => ?_
    by_cases h : r < 256
    · rw [if_pos h]
      refine (rest_none (by omega) fun j hj => ?_).symm
      unfold wR
      rw [if_neg (by omega), if_neg (by omega), zero_mul, zero_mul, add_zero]
    · rw [if_neg h, show 512 * a.val + 256 + (r - 256) = 512 * a.val + r by omega]

section
variable (c0_i32 c1_i32 w w2 w3 w5 : BitVec 32)

include hQ hK hV in
theorem st2_is (n : ℕ) (hn : n ≤ (k0_t2_loop a).trips) :
    FIs (sA fQ) (sB fQ) fk fv (512 * a.val) (512 * a.val - 1024 * n) (st_k0_t2 (F := Ideal) 𝒱 c bd i a1 p1 a2 p2 a3 p3 a4 p4 a5 p5 k0_pay1 k0_pay2 k0_pay3 k0_pay4 k0_pay5 c0_i32 c1_i32 a w (qa a1 X1 a) (qb a1 X1 a) w2 X2 X3 (ownP a1 a2 a3 X1 X2 X3 a) n) := by
  induction n with
  | zero => exact ownP_is a1 a2 a3 X1 X2 X3 a hQ hK hV
  | succ n ih =>
    have hb : n + 1 ≤ a.val / 2 := by rw [← trips2 a]; exact hn
    have e := st_k0_t2_succ (F := Ideal) 𝒱 c bd i a1 p1 a2 p2 a3 p3 a4 p4 a5 p5 k0_pay1 k0_pay2 k0_pay3 k0_pay4 k0_pay5 c0_i32 c1_i32 a w (qa a1 X1 a) (qb a1 X1 a) w2 X2 X3 (ownP a1 a2 a3 X1 X2 X3 a) ⟨n, hn⟩
    refine (congrArg (FIs (sA fQ) (sB fQ) fk fv (512 * a.val) (512 * a.val - 1024 * (n + 1))) (e.trans (trip2_eq 𝒱 c bd i a1 p1 a2 p2 a3 p3 a4 p4 a5 p5 X2 X3 a k0_pay1 k0_pay2 k0_pay3 k0_pay4 k0_pay5 c0_i32 c1_i32 w (qa a1 X1 a) (qb a1 X1 a) w2 ⟨n, hn⟩ _))).mpr ?_
    have r5 := off5_eq a ⟨n, hn⟩
    have r4 := off4_eq a ⟨n, hn⟩
    rw [show 512 * a.val - 1024 * (n + 1) = 512 * a.val - 1024 * n - 1024 by omega]
    exact blkU_is a1 a2 a3 X1 X2 X3 a hQ hK hV (isR_rd16 (M := 512) hK r5 (k0_off5_inb a ⟨n, hn⟩)) (isR_rd16 (M := 512) hV r5 (k0_off5_inb a ⟨n, hn⟩))
      (m := 512 * a.val - 1024 * n - 512) (by omega) (by omega)
      (blkU_is a1 a2 a3 X1 X2 X3 a hQ hK hV (isR_rd16 (M := 512) hK r4 (k0_off4_inb a ⟨n, hn⟩)) (isR_rd16 (M := 512) hV r4 (k0_off4_inb a ⟨n, hn⟩))
        (m := 512 * a.val - 1024 * n) (by omega) (by omega) (ih (by omega)))

include hQ hK hV in
theorem st4_is (p : Fwd 512) (hp : FIs (sA fQ) (sB fQ) fk fv (512 * a.val) (512 * (a.val % 2)) p) :
    FIs (sA fQ) (sB fQ) fk fv (512 * a.val) 0 (st_k0_t4 (F := Ideal) 𝒱 c bd i a1 p1 a2 p2 a3 p3 a4 p4 a5 p5 k0_pay1 k0_pay2 k0_pay3 k0_pay4 k0_pay5 c0_i32 c1_i32 a (qa a1 X1 a) (qb a1 X1 a) X2 X3 p (k0_t4_loop a).trips) := by
  have h4 := trips4 a
  by_cases h : a.val % 2 = 0
  · rw [h] at h4 hp
    rw [h4]
    exact hp
  · have h1 : a.val % 2 = 1 := by omega
    rw [h1] at h4 hp
    have hl : 0 < (k0_t4_loop a).trips := by omega
    rw [h4]
    have e := st_k0_t4_succ (F := Ideal) 𝒱 c bd i a1 p1 a2 p2 a3 p3 a4 p4 a5 p5 k0_pay1 k0_pay2 k0_pay3 k0_pay4 k0_pay5 c0_i32 c1_i32 a (qa a1 X1 a) (qb a1 X1 a) X2 X3 p ⟨0, hl⟩
    refine (congrArg (FIs (sA fQ) (sB fQ) fk fv (512 * a.val) 0) (e.trans (trip4_eq 𝒱 c bd i a1 p1 a2 p2 a3 p3 a4 p4 a5 p5 X2 X3 a k0_pay1 k0_pay2 k0_pay3 k0_pay4 k0_pay5 c0_i32 c1_i32 (qa a1 X1 a) (qb a1 X1 a) ⟨0, hl⟩ _))).mpr ?_
    exact blkU_is a1 a2 a3 X1 X2 X3 a hQ hK hV (isR_rd16 (M := 512) hK rfl inb_S4096x128_S512x128_0_0) (isR_rd16 (M := 512) hV rfl inb_S4096x128_S512x128_0_0)
      (m := 512) (by omega) (by omega) hp
end

/-- The attention of a row, -/
def OR (fQ fk fv : ℕ → ℕ → ℝ) (i d : ℕ) : ℝ := ∑ j ∈ Finset.range 4096, (wR (sA fQ) fk i j * lanA fv j d + wR (sB fQ) fk i j * lanB fv j d)
/-- and the sum of a head's gates. -/
def TR (q fk : ℕ → ℕ → ℝ) (i : ℕ) : ℝ := ∑ j ∈ Finset.range 4096, LR q fk i j

/-- A column spread over the lanes of a four-dimensional block. -/
theorem spread_at {x : FVec Ideal (Mat 512 1) .f32} {f : ℕ → ℕ → ℝ} (h : IsR x f) (g : S512x1.ShapeCasts S512x1) (b : S512x1.Broadcasts S512x128) (s : S512x128.ShapeCasts S1x1x512x128)
    (r : Fin 512) (l : Fin 128) :
    (shapeCast S1x1x512x128 (broadcastTo S512x128 (shapeCast S512x1 x g) b) s : S1x1x512x128.Idx → EReal) (ix4 (0 : Fin 1) (0 : Fin 1) r l) = ((f r.val 0 : ℝ) : EReal) := by
  have hrm : (S512x128.rowMajor (ix2 r l)).val = (S1x1x512x128.rowMajor (ix4 (0 : Fin 1) (0 : Fin 1) r l)).val := by
    rw [rowMajor_val2 _ 128 rfl, rowMajor_val4 _ 65536 65536 128 rfl rfl rfl]
    show r.val * 128 + l.val = 0 * 65536 + 0 * 65536 + r.val * 128 + l.val
    omega
  refine (shapeCast_apply _ _ _ _ hrm).trans ?_
  rw [shapeCast_id]
  exact isR_col (φ := .f32) h b r l

include hQ hK hV in
theorem trip1_is : (∃ w, (trip1 (F := Ideal) 𝒱 c bd i a1 p1 a2 p2 a3 p3 a4 p4 a5 p5 X1 X2 X3 a).1 = [pO a w] ∧ IsR (M := 512) (N := 128) w (fun r d => OR fQ fk fv (512 * a.val + r) d)) ∧
    ∃ x y, (trip1 (F := Ideal) 𝒱 c bd i a1 p1 a2 p2 a3 p3 a4 p4 a5 p5 X1 X2 X3 a).2.1 = [pB a y, pA a x] ∧
      (∀ (r : Fin 512) (l : Fin 128), (x (ix4 (0 : Fin 1) (0 : Fin 1) r l) : EReal) = ((TR (sA fQ) fk (512 * a.val + r.val) : ℝ) : EReal)) ∧
      ∀ (r : Fin 512) (l : Fin 128), (y (ix4 (0 : Fin 1) (0 : Fin 1) r l) : EReal) = ((TR (sB fQ) fk (512 * a.val + r.val) : ℝ) : EReal) := by
  obtain ⟨c0_i32, c1_i32, w, w2, w3, w5, e1, e2⟩ := trip1_eq 𝒱 c bd i a1 p1 a2 p2 a3 p3 a4 p4 a5 p5 X1 X2 X3 a
  have s2 := st2_is 𝒱 c bd i a1 p1 a2 p2 a3 p3 a4 p4 a5 p5 X1 X2 X3 a hQ hK hV c0_i32 c1_i32 w w2 (k0_t2_loop a).trips le_rfl
  rw [show 512 * a.val - 1024 * (k0_t2_loop a).trips = 512 * (a.val % 2) by rw [trips2 a]; omega] at s2
  rw [trips3 a, trips5 a] at e1 e2
  have s4 := st4_is 𝒱 c bd i a1 p1 a2 p2 a3 p3 a4 p4 a5 p5 X1 X2 X3 a hQ hK hV c0_i32 c1_i32 _ s2
  refine ⟨⟨_, e1, s4.acc.congr fun r d _ _ => rest_all _⟩, _, _, e2, fun r l => ?_, fun r l => ?_⟩
  · exact spread_at (s4.ca.congr fun r d _ _ => rest_all _) _ _ _ r l
  · exact spread_at (s4.cb.congr fun r d _ _ => rest_all _) _ _ _ r l

end

/-- A block of rows written after the rows before it. -/
theorem row_step {A : WB} {Z : BufTy.Contents (Elt Ideal) A.view.ty} {F : ℕ → ℕ → ℝ} (a : Fin k0_t1_loop.trips)
    {P L : List (View.Piece (Elt Ideal) S4096x128 .bf16)} {w : (Mat 512 128).Idx → EReal}
    (hP : P = [pO a w]) (hw : IsR w (fun r d => F (512 * a.val + r) d))
    (old : ∀ (j : Fin 4096) (d : Fin 128), j.val < 512 * a.val → (A.view.read (Elt Ideal) (A.view.writes (Elt Ideal) Z L) (ix2 j d) : EReal) = ((F j.val d.val : ℝ) : EReal))
    (j : Fin 4096) (d : Fin 128) (hj : j.val < 512 * (a.val + 1)) :
    (A.view.read (Elt Ideal) (A.view.writes (Elt Ideal) Z (P ++ L)) (ix2 j d) : EReal) = ((F j.val d.val : ℝ) : EReal) := by
  subst hP
  rw [List.singleton_append]
  by_cases h : j.val < 512 * a.val
  · exact (View.read_writes_cons_unit_of_not_mem A.view Z (k0_off1_inb a) w L (ix2 j d) (off1_eq a) 0 (Or.inl h)).trans (old j d h)
  · have h1 : 512 * a.val + (j.val - 512 * a.val) = j.val := by omega
    refine (View.read_writes_cons_unit_of_mem A.view Z (k0_off1_inb a) w L (ix2 j d) (ix2 (⟨j.val - 512 * a.val, by omega⟩ : Fin 512) d) (off1_eq a) fun b => ?_).trans ((hw _ d).trans ?_)
    · match b with
      | ⟨0, _⟩ => exact h1.symm
      | ⟨1, _⟩ => exact (Nat.zero_add _).symm
    · show ((F (512 * a.val + (j.val - 512 * a.val)) d.val : ℝ) : EReal) = _
      rw [h1]

/-- A block of both heads' sums written after the blocks before it. -/
theorem sum_step {A : Memref sig .tc .vmem S1x2x4096x128 .f32} {Z : BufTy.Contents (Elt Ideal) A.view.ty} {F : ℕ → ℕ → ℝ} (a : Fin k0_t1_loop.trips)
    {P L : List (View.Piece (Elt Ideal) S1x2x4096x128 .f32)} {x y : S1x1x512x128.Idx → EReal} (hP : P = [pB a y, pA a x])
    (hx : ∀ (r : Fin 512) (l : Fin 128), x (ix4 (0 : Fin 1) (0 : Fin 1) r l) = ((F 0 (512 * a.val + r.val) : ℝ) : EReal))
    (hy : ∀ (r : Fin 512) (l : Fin 128), y (ix4 (0 : Fin 1) (0 : Fin 1) r l) = ((F 1 (512 * a.val + r.val) : ℝ) : EReal))
    (old : ∀ (h : Fin 2) (j : Fin 4096) (l : Fin 128), j.val < 512 * a.val → (A.view.read (Elt Ideal) (A.view.writes (Elt Ideal) Z L) (ix4 (0 : Fin 1) h j l) : EReal) = ((F h.val j.val : ℝ) : EReal))
    (h : Fin 2) (j : Fin 4096) (l : Fin 128) (hj : j.val < 512 * (a.val + 1)) :
    (A.view.read (Elt Ideal) (A.view.writes (Elt Ideal) Z (P ++ L)) (ix4 (0 : Fin 1) h j l) : EReal) = ((F h.val j.val : ℝ) : EReal) := by
  subst hP
  show (A.view.read (Elt Ideal) (A.view.writes (Elt Ideal) Z (pB a y :: (pA a x :: L))) (ix4 (0 : Fin 1) h j l) : EReal) = _
  by_cases hb : j.val < 512 * a.val
  · exact (View.read_writes_cons_unit_of_not_mem A.view Z (k0_off9_inb a) y (pA a x :: L) (ix4 (0 : Fin 1) h j l) (off9_eq a) 2 (Or.inl hb)).trans
      ((View.read_writes_cons_unit_of_not_mem A.view Z (k0_off8_inb a) x L (ix4 (0 : Fin 1) h j l) (off8_eq a) 2 (Or.inl hb)).trans (old h j l hb))
  · have h1 : 512 * a.val + (j.val - 512 * a.val) = j.val := by omega
    have hlt : j.val - 512 * a.val < 512 := by omega
    match h with
    | ⟨0, _⟩ =>
      refine (View.read_writes_cons_unit_of_not_mem A.view Z (k0_off9_inb a) y (pA a x :: L) (ix4 (0 : Fin 1) (0 : Fin 2) j l) (off9_eq a) 1 (Or.inl Nat.zero_lt_one)).trans ?_
      refine (View.read_writes_cons_unit_of_mem A.view Z (k0_off8_inb a) x L (ix4 (0 : Fin 1) (0 : Fin 2) j l) (ix4 (0 : Fin 1) (0 : Fin 1) (⟨j.val - 512 * a.val, hlt⟩ : Fin 512) l) (off8_eq a) fun b => ?_).trans ((hx _ l).trans ?_)
      · match b with
        | ⟨0, _⟩ => rfl
        | ⟨1, _⟩ => rfl
        | ⟨2, _⟩ => exact h1.symm
        | ⟨3, _⟩ => exact (Nat.zero_add _).symm
      · show ((F 0 (512 * a.val + (j.val - 512 * a.val)) : ℝ) : EReal) = _
        rw [h1]
    | ⟨1, _⟩ =>
      refine (View.read_writes_cons_unit_of_mem A.view Z (k0_off9_inb a) y (pA a x :: L) (ix4 (0 : Fin 1) (1 : Fin 2) j l) (ix4 (0 : Fin 1) (0 : Fin 1) (⟨j.val - 512 * a.val, hlt⟩ : Fin 512) l) (off9_eq a) fun b => ?_).trans ((hy _ l).trans ?_)
      · match b with
        | ⟨0, _⟩ => rfl
        | ⟨1, _⟩ => rfl
        | ⟨2, _⟩ => exact h1.symm
        | ⟨3, _⟩ => exact (Nat.zero_add _).symm
      · show ((F 1 (512 * a.val + (j.val - 512 * a.val)) : ℝ) : EReal) = _
        rw [h1]

section
variable (𝒱 : Variants) (c : Dev nD) (bd : Option 𝒱.V) (i : grid0.Coords) (a1 : WB) (p1 : a1.IsWhole) (a2 : WB) (p2 : a2.IsWhole) (a3 : WB) (p3 : a3.IsWhole) (a4 : WB) (p4 : a4.IsWhole) (a5 : Memref sig .tc .vmem S1x2x4096x128 .f32) (p5 : a5.IsWhole)
variable (x1 : Vec Ideal S4096x128 .bf16) (x2 : Vec Ideal S4096x128 .bf16) (x3 : Vec Ideal S4096x128 .bf16)
variable {fQ fk fv : ℕ → ℕ → ℝ} (hQ : Is16 a1 (p1.unread x1) fQ) (hK : Is16 a2 (p2.unread x2) fk) (hV : Is16 a3 (p3.unread x3) fv)

/-- A head's sums. -/
abbrev TH (fQ fk : ℕ → ℕ → ℝ) (h : ℕ) : ℕ → ℝ := TR (if h = 0 then sA fQ else sB fQ) fk

include hQ hK hV in
theorem st1_is (n : ℕ) (hn : n ≤ k0_t1_loop.trips) :
    (∀ (Z : BufTy.Contents (Elt Ideal) a4.view.ty) (j : Fin 4096) (d : Fin 128), j.val < 512 * n →
        (a4.view.read (Elt Ideal) (a4.view.writes (Elt Ideal) Z (st1 (F := Ideal) 𝒱 c bd i a1 p1 a2 p2 a3 p3 a4 p4 a5 p5 (p1.unread x1) (p2.unread x2) (p3.unread x3) n).1) (ix2 j d) : EReal) = ((OR fQ fk fv j.val d.val : ℝ) : EReal)) ∧
    ∀ (Z : BufTy.Contents (Elt Ideal) a5.view.ty) (h : Fin 2) (j : Fin 4096) (l : Fin 128), j.val < 512 * n →
        (a5.view.read (Elt Ideal) (a5.view.writes (Elt Ideal) Z (st1 (F := Ideal) 𝒱 c bd i a1 p1 a2 p2 a3 p3 a4 p4 a5 p5 (p1.unread x1) (p2.unread x2) (p3.unread x3) n).2) (ix4 (0 : Fin 1) h j l) : EReal) = ((TH fQ fk h.val j.val : ℝ) : EReal) := by
  induction n with
  | zero => exact ⟨fun Z j d h => absurd h (Nat.not_lt_zero _), fun Z h j l hj => absurd hj (Nat.not_lt_zero _)⟩
  | succ n ih =>
    obtain ⟨i1, i2⟩ := ih (by omega)
    obtain ⟨⟨w, hw, hw'⟩, x, y, hp, hx, hy⟩ := trip1_is 𝒱 c bd i a1 p1 a2 p2 a3 p3 a4 p4 a5 p5 (p1.unread x1) (p2.unread x2) (p3.unread x3) ⟨n, hn⟩ hQ hK hV
    rw [st1_succ (F := Ideal) 𝒱 c bd i a1 p1 a2 p2 a3 p3 a4 p4 a5 p5 (p1.unread x1) (p2.unread x2) (p3.unread x3) ⟨n, hn⟩]
    exact ⟨fun Z => row_step ⟨n, hn⟩ hw hw' (i1 Z), fun Z => sum_step (F := TH fQ fk) ⟨n, hn⟩ hp hx hy (i2 Z)⟩

include hQ hK hV in
theorem out4_is (j : Fin 4096) (d : Fin 128) : (out4 (F := Ideal) 𝒱 c bd i a1 p1 a2 p2 a3 p3 a4 p4 a5 p5 x1 x2 x3 (ix2 j d) : EReal) = ((OR fQ fk fv j.val d.val : ℝ) : EReal) :=
  (congrFun (View.read_writes_eq_canon a4.view (p4.unread (fun _ => (0 : EReal))) _ (cover4 (F := Ideal) 𝒱 c bd i a1 p1 a2 p2 a3 p3 a4 p4 a5 p5 (p1.unread x1) (p2.unread x2) (p3.unread x3))) (ix2 j d)).symm.trans
    ((st1_is 𝒱 c bd i a1 p1 a2 p2 a3 p3 a4 p4 a5 p5 x1 x2 x3 hQ hK hV k0_t1_loop.trips le_rfl).1 (p4.unread (fun _ => (0 : EReal))) j d (by rw [trips1]; omega))

include hQ hK hV in
theorem out5_is (h : Fin 2) (j : Fin 4096) (l : Fin 128) : (out5 (F := Ideal) 𝒱 c bd i a1 p1 a2 p2 a3 p3 a4 p4 a5 p5 x1 x2 x3 (ix4 (0 : Fin 1) h j l) : EReal) = ((TH fQ fk h.val j.val : ℝ) : EReal) :=
  (congrFun (View.read_writes_eq_canon a5.view (p5.unread (fun _ => (0 : EReal))) _ (cover5 (F := Ideal) 𝒱 c bd i a1 p1 a2 p2 a3 p3 a4 p4 a5 p5 (p1.unread x1) (p2.unread x2) (p3.unread x3))) (ix4 (0 : Fin 1) h j l)).symm.trans
    ((st1_is 𝒱 c bd i a1 p1 a2 p2 a3 p3 a4 p4 a5 p5 x1 x2 x3 hQ hK hV k0_t1_loop.trips le_rfl).2 (p5.unread (fun _ => (0 : EReal))) h j l (by rw [trips1]; omega))

end

end Cert.Hand.SbFwd
-- ==== Proof.SbFwdRef.lean ====
module

public import proofs.«01_k».proof.Proof.SbHost
public import proofs.«01_k».proof.Proof.Gen.StickFwdRefIdeal.Read

/-!
The plain program's stages of the stick-breaking attention, read as real sums.
-/

@[expose] public section

set_option maxRecDepth 8192

noncomputable section

namespace Cert.Hand.SbFwd

open Cert.Hand.Sb (Lz wz Zq)

/-- The attention, -/
def OG (Q K V : ℕ → ℕ → ℝ) (i c : ℕ) : ℝ := ∑ j ∈ Finset.range 4096, wz (Zq Q K (c / 64)) i j * V j c
/-- and the sums of head `h`'s gates. -/
def TG (Q K : ℕ → ℕ → ℝ) (h i : ℕ) : ℝ := ∑ j ∈ Finset.range 4096, Lz (Zq Q K h) i j

end Cert.Hand.SbFwd

namespace Cert.Hand.SbFwd.Ref

open Cert.StickFwdRefIdeal Cert.StickFwdRefIdeal.Gen Cert.StickFwdRefIdeal.Read
open Cert.Hand.Sb (Lz wz Zq sumR)
open Cert.Hand.Sb.Ref (Is4 sum_mul_real at_flat)
open Idealize.ShloMosaic Idealize.ShloMosaic.TcCoe

variable {x0 : (⟨S4096x1024, .bf16⟩ : BufTy).Contents (Elt Ideal)} {x1 : (⟨S4096x1536, .bf16⟩ : BufTy).Contents (Elt Ideal)} {Q K V : ℕ → ℕ → ℝ}
  (h0 : ∀ i : S4096x1024.Idx, x0 i = ((Q (i 0).val (i 1).val : ℝ) : EReal))
  (hk : ∀ i : S4096x1536.Idx, x1 i = ((K (i 0).val (i 1).val : ℝ) : EReal))
  (hv : ∀ r c : ℕ, V r c = K r (768 + c))

/-- The weights are those the gradient's program computes, -/
theorem v28_eq : val_main_v28 (F := Ideal) x0 x1 = Cert.StickBwdRefIdeal.Read.val_main_v29_0 (F := Ideal) x0 x1 := rfl
/-- and so are the values, -/
theorem v10_eq : val_main_v10 (F := Ideal) x1 = Cert.StickBwdRefIdeal.Read.val_main_v11 (F := Ideal) x1 := rfl
/-- and the gates. -/
theorem v43_eq : val_main_v43 (F := Ideal) x0 x1 = Cert.StickBwdRefIdeal.Read.val_main_v23_0 (F := Ideal) x0 x1 := rfl

include h0 hk hv in
theorem r29 : Is4 (val_main_v29 x0 x1) (fun h i d => ∑ j ∈ Finset.range 4096, wz (Zq Q K h) i j * V j (64 * h + d)) := fun i => by
  rw [val_main_v29_apply, v28_eq, v10_eq]
  exact sum_mul_real (f := fun j => wz (Zq Q K (i 1).val) (i 2).val j) (g := fun j => V j (64 * (i 1).val + (i 3).val))
    (fun d => Sb.Ref.r29 h0 hk _) (fun d => Sb.Ref.r11 hk hv _)

include h0 hk hv in
theorem o_apply (i : S4096x768.Idx) : val_main_v47 (F := Ideal) x0 x1 i = ((OG Q K V (i 0).val (i 1).val : ℝ) : EReal) := by
  rw [val_main_v47_apply]
  show val_main_v31 (F := Ideal) x0 x1 i = _
  rw [val_main_v31_apply, val_main_v30_apply]
  refine (r29 h0 hk hv _).trans (congrArg _ ?_)
  refine (at_flat (fun h i d => ∑ j ∈ Finset.range 4096, wz (Zq Q K h) i j * V j (64 * h + d)) (i 0).isLt (i 1).isLt).trans ?_
  beta_reduce
  rw [Nat.div_add_mod]
  rfl

include h0 hk in
theorem tot_apply (t : Fin 6) (e : Fin 2) (r : Fin 4096) (l : Fin 128) :
    val_main_v46 (F := Ideal) x0 x1 (ix4 t e r l) = ((TG Q K (2 * t.val + e.val) r.val : ℝ) : EReal) := by
  unfold val_main_v46 val_main_v45 val_main_v44
  rw [v43_eq]
  refine (Sb.total_apply _ t e r l).trans ?_
  unfold TG
  rw [sumR]
  exact Finset.sum_congr rfl fun k _ => Sb.Ref.r23 h0 hk _

end Cert.Hand.SbFwd.Ref
-- ==== Proof.SbFwdArr.lean ====
module

public import proofs.«01_k».proof.Proof.SbFwdOut
public import proofs.«01_k».proof.Proof.SbFwdRef
public import Idealize.ShloMosaic.Lib.Pipeline.ValueKit
import all proofs.«01_k».proof.Proof.SbFwdRun

/-!
The arrays the attention's forward kernel leaves.
-/

@[expose] public section

set_option maxRecDepth 16384

noncomputable section

namespace Cert.Hand.SbFwd

open Cert.StickFwdIdeal Cert.StickFwdIdeal.Gen
open Cert.Hand.Sb
open Idealize.ShloMosaic Idealize.ShloMosaic.TcCoe Idealize.ShloMosaic.StableHlo
open Idealize.SL Idealize.SL.Sem

theorem OR_cols (Q K V : ℕ → ℕ → ℝ) (t : ℕ) {d : ℕ} (hd : d < 128) (i : ℕ) : OR (cols t Q) (cols t K) (cols t V) i d = OG Q K V i (128 * t + d) := by
  unfold OR OG
  rw [Finset.sum_add_distrib, wR_eq, wR_eq, zqA, zqB]
  rw [two_lo hd (f := cols t V) (c := fun h j => wz (Zq Q K h) i j) _ _ (fun _ => rfl) (fun _ => rfl)]
  rfl

theorem TH_cols (Q K : ℕ → ℕ → ℝ) (t i : ℕ) (e : Fin 2) : TH (cols t Q) (cols t K) e.val i = TG Q K (2 * t + e.val) i := by
  match e with
  | ⟨0, _⟩ =>
    show TR (sA (cols t Q)) (cols t K) i = _
    unfold TR TG
    rw [LR_eq, zqA]
    rfl
  | ⟨1, _⟩ =>
    show TR (sB (cols t Q)) (cols t K) i = _
    unfold TR TG
    rw [LR_eq, zqB]

theorem idxs : ∀ t : Fin cfg0.N, t.val < 6 ∧ win0_0.index t 0 = 0 ∧ win0_0.index t 1 = t.val ∧ win0_1.index t 0 = 0 ∧ win0_1.index t 1 = t.val
    ∧ win0_2.index t 0 = 0 ∧ win0_2.index t 1 = 6 + t.val ∧ win0_3.index t 0 = 0 ∧ win0_3.index t 1 = t.val
    ∧ win0_4.index t 0 = t.val ∧ win0_4.index t 1 = 0 ∧ win0_4.index t 2 = 0 ∧ win0_4.index t 3 = 0 := by
  decide +kernel

variable (m : (ℓ : Loc nD τ sig) → Buf (Elt Ideal) ℓ) (c : Dev nD)

variable {Q K W : ℕ → ℕ → ℝ}
  (h0 : ∀ i : S4096x1024.Idx, (m ((c : Thread nD τ).loc main_arg0) : S4096x1024.Idx → EReal) i = ((Q (i 0).val (i 1).val : ℝ) : EReal))
  (hk : ∀ i : S4096x1536.Idx, (m ((c : Thread nD τ).loc main_arg1) : S4096x1536.Idx → EReal) i = ((K (i 0).val (i 1).val : ℝ) : EReal))
  (hv : ∀ r c, W r c = K r (768 + c))

include h0 in
theorem blk0 (t : Fin cfg0.N) : IsR (M := 4096) (N := 128) (iblk m c 0 t) (cols t.val Q) := by
  obtain ⟨ht, e00, e01, e10, e11, e20, e21, e30, e31, e40, e41, e42, e43⟩ := idxs t
  intro r d
  show (V m c main_arg0 : S4096x1024.Idx → EReal) ((win0_0.blk t).view.emb (ix2 r d)) = _
  have hd := d.isLt
  have hy : (win0_0.blk t).view.emb (ix2 r d) = (ix2 r ⟨128 * t.val + d.val, by omega⟩ : S4096x1024.Idx) := by
    blk_ext [e00, e01]
  rw [hy]
  exact h0 _

include hk in
theorem blk1 (t : Fin cfg0.N) : IsR (M := 4096) (N := 128) (iblk m c 1 t) (cols t.val K) := by
  obtain ⟨ht, e00, e01, e10, e11, e20, e21, e30, e31, e40, e41, e42, e43⟩ := idxs t
  intro r d
  show (V m c main_arg1 : S4096x1536.Idx → EReal) ((win0_1.blk t).view.emb (ix2 r d)) = _
  have hd := d.isLt
  have hy : (win0_1.blk t).view.emb (ix2 r d) = (ix2 r ⟨128 * t.val + d.val, by omega⟩ : S4096x1536.Idx) := by
    blk_ext [e10, e11]
  rw [hy]
  exact hk _

include hk hv in
theorem blk2 (t : Fin cfg0.N) : IsR (M := 4096) (N := 128) (iblk m c 2 t) (cols t.val W) := by
  obtain ⟨ht, e00, e01, e10, e11, e20, e21, e30, e31, e40, e41, e42, e43⟩ := idxs t
  intro r d
  show (V m c main_arg1 : S4096x1536.Idx → EReal) ((win0_2.blk t).view.emb (ix2 r d)) = ((W r.val (128 * t.val + d.val) : ℝ) : EReal)
  have hd := d.isLt
  have hy : (win0_2.blk t).view.emb (ix2 r d) = (ix2 r ⟨768 + (128 * t.val + d.val), by omega⟩ : S4096x1536.Idx) := by
    blk_ext [e20, e21]
  rw [hy, hv]
  exact hk _

include h0 in
theorem in0 (t : Fin cfg0.N) : Is16 (win0_0.stage (cfg0.slots t 0)) ((hstage0_0 ((cfg0.slots t 0).cast nbuf0_0)).unread (iblk m c 0 t)) (cols t.val Q) :=
  fun r d => (congrFun ((hstage0_0 ((cfg0.slots t 0).cast nbuf0_0)).read_unread (iblk m c 0 t)) (ix2 r d)).trans (blk0 m c h0 t r d)
include hk in
theorem in1 (t : Fin cfg0.N) : Is16 (win0_1.stage (cfg0.slots t 1)) ((hstage0_1 ((cfg0.slots t 1).cast nbuf0_1)).unread (iblk m c 1 t)) (cols t.val K) :=
  fun r d => (congrFun ((hstage0_1 ((cfg0.slots t 1).cast nbuf0_1)).read_unread (iblk m c 1 t)) (ix2 r d)).trans (blk1 m c hk t r d)
include hk hv in
theorem in2 (t : Fin cfg0.N) : Is16 (win0_2.stage (cfg0.slots t 2)) ((hstage0_2 ((cfg0.slots t 2).cast nbuf0_2)).unread (iblk m c 2 t)) (cols t.val W) :=
  fun r d => (congrFun ((hstage0_2 ((cfg0.slots t 2).cast nbuf0_2)).read_unread (iblk m c 2 t)) (ix2 r d)).trans (blk2 m c hk hv t r d)

include h0 hk hv in
theorem aft3_is (t : Fin cfg0.N) (r : Fin 4096) (d : Fin 128) :
    (aft3 (F := Ideal) m c t : S4096x128.Idx → EReal) (ix2 r d) = ((OG Q K W r.val (128 * t.val + d.val) : ℝ) : EReal) := by
  unfold aft3
  refine (out4_is Variants.none c none (grid0.coords t) (win0_0.stage (cfg0.slots t 0)) _ (win0_1.stage (cfg0.slots t 1)) _ (win0_2.stage (cfg0.slots t 2)) _ (win0_3.stage (cfg0.slots t 3)) _ (win0_4.stage (cfg0.slots t 4)) _
    (iblk m c 0 t) (iblk m c 1 t) (iblk m c 2 t) (in0 m c h0 t) (in1 m c hk t) (in2 m c hk hv t) r d).trans ?_
  rw [OR_cols Q K W t.val d.isLt]

include h0 hk hv in
theorem aft4_is (t : Fin cfg0.N) (e : Fin 2) (r : Fin 4096) (l : Fin 128) :
    (aft4 (F := Ideal) m c t : S1x2x4096x128.Idx → EReal) (ix4 (0 : Fin 1) e r l) = ((TG Q K (2 * t.val + e.val) r.val : ℝ) : EReal) := by
  unfold aft4
  refine (out5_is Variants.none c none (grid0.coords t) (win0_0.stage (cfg0.slots t 0)) _ (win0_1.stage (cfg0.slots t 1)) _ (win0_2.stage (cfg0.slots t 2)) _ (win0_3.stage (cfg0.slots t 3)) _ (win0_4.stage (cfg0.slots t 4)) _
    (iblk m c 0 t) (iblk m c 1 t) (iblk m c 2 t) (in0 m c h0 t) (in1 m c hk t) (in2 m c hk hv t) e r l).trans ?_
  rw [TH_cols Q K t.val]

/-- The array of the sums. -/
def totA (Q K : ℕ → ℕ → ℝ) (i : S6x2x4096x128.Idx) : EReal := ((TG Q K (2 * (i 0).val + (i 1).val) (i 2).val : ℝ) : EReal)

include h0 hk hv in
theorem arr3 : (dats m 0 c).arrAt 3 cfg0.N = mat (M := 4096) (N := 768) (OG Q K W) := by
  refine (dats m 0 c).arrAt_eq_of_covers 3 _ (by decide +kernel) fun t hf y => ?_
  obtain ⟨ht, e00, e01, e10, e11, e20, e21, e30, e31, e40, e41, e42, e43⟩ := idxs t
  have hd : (y 1).val < 128 := (y 1).isLt
  have hy : (win0_3.blk t).view.emb (ix2 (y 0) (y 1)) = (ix2 (y 0) ⟨128 * t.val + (y 1).val, by omega⟩ : (⟨2, ![4096, 768]⟩ : Shape).Idx) := by
    blk_ext [e30, e31]
  blk_simp
  rw [after3, eq_ix2 y]
  refine (aft3_is m c h0 hk hv t (y 0) (y 1)).trans ?_
  exact (congrArg (mat (M := 4096) (N := 768) (OG Q K W)) hy).symm

include h0 hk hv in
theorem arr4 : (dats m 0 c).arrAt 4 cfg0.N = totA Q K := by
  refine (dats m 0 c).arrAt_eq_of_covers 4 _ (by decide +kernel) fun t hf y => ?_
  obtain ⟨ht, e00, e01, e10, e11, e20, e21, e30, e31, e40, e41, e42, e43⟩ := idxs t
  have y0 : (y 0).val < 1 := (y 0).isLt
  have h00 : y 0 = (0 : Fin 1) := Fin.ext (Nat.lt_one_iff.mp y0)
  have hy : (win0_4.blk t).view.emb (ix4 (0 : Fin 1) (y 1) (y 2) (y 3)) = (ix4 (⟨t.val, ht⟩ : Fin 6) (y 1) (y 2) (y 3) : S6x2x4096x128.Idx) := by
    blk_ext [e40, e41, e42, e43]
  have e : y = ix4 (0 : Fin 1) (y 1) (y 2) (y 3) := by
    funext b
    match b with
    | ⟨0, _⟩ => exact h00
    | ⟨1, _⟩ => rfl
    | ⟨2, _⟩ => rfl
    | ⟨3, _⟩ => rfl
  blk_simp
  rw [after4, e]
  refine (aft4_is m c h0 hk hv t (y 1) (y 2) (y 3)).trans ?_
  exact (congrArg (totA Q K) hy).symm

end Cert.Hand.SbFwd
-- ==== Proof.SbFwd.lean ====
module

public import proofs.«01_k».proof.Proof.SbFwdArr
public import proofs.«01_k».proof.Proof.Gen.StickFwdRefIdeal.Run
public import proofs.«01_k».proof.Proof.Gen.StickFwd
public import proofs.«01_k».proof.Proof.Gen.StickFwd.Frame
public import proofs.«01_k».proof.Proof.Gen.Pre_stick_fwd_finite
public import proofs.«01_k».proof.Defs

/-!
The stick-breaking attention: the kernel's blocks against the plain program.
-/

@[expose] public section

set_option maxRecDepth 16384

noncomputable section

namespace Cert.Hand.SbFwd

open Cert.StickFwdIdeal Cert.StickFwdIdeal.Gen
open Cert.Hand.Sb
open Idealize.ShloMosaic Idealize.ShloMosaic.TcCoe Idealize.ShloMosaic.StableHlo Idealize.ShloMosaic.Tactic
open Idealize.SL Idealize.SL.Sem

section
variable (m : (ℓ : Loc nD τ sig) → Buf (Elt Ideal) ℓ)
  (hp : Cert.Pre_StickFwdIdeal_stick_fwd_finite (hPre_stick_fwd_finite := Cert.Pre_stick_fwd_finite.Gen.facts) m) (c : Dev nD)

include hp in
theorem fin0 (x : (⟨2, ![4096, 1024]⟩ : Shape).Idx → EReal) (hx : m ((c : Thread nD τ).loc main_arg0) = x) (i : (⟨2, ![4096, 1024]⟩ : Shape).Idx) :
    max (x i) (-(x i)) < ⊤ := by
  subst hx
  refine lt_top_of_cmp ?_
  have e := congrFun (hp c).1 i
  unfold Cert.Pre_stick_fwd_finite.fn at e
  exact e

include hp in
theorem fin1 (x : (⟨2, ![4096, 1536]⟩ : Shape).Idx → EReal) (hx : m ((c : Thread nD τ).loc main_arg1) = x) (i : (⟨2, ![4096, 1536]⟩ : Shape).Idx) :
    max (x i) (-(x i)) < ⊤ := by
  subst hx
  refine lt_top_of_cmp ?_
  have e := congrFun (hp c).2 i
  unfold Cert.Pre_stick_fwd_finite.fn at e
  exact e

/-- The projected queries, -/
def rQ : ℕ → ℕ → ℝ := re (M := 4096) (N := 1024) (m ((c : Thread nD τ).loc main_arg0))
/-- keys and values, -/
def rK : ℕ → ℕ → ℝ := re (M := 4096) (N := 1536) (m ((c : Thread nD τ).loc main_arg1))
/-- and values alone, as real numbers. -/
def rV : ℕ → ℕ → ℝ := fun r k => rK m c r (768 + k)

/-- The attention, -/
def gO : (⟨2, ![4096, 768]⟩ : Shape).Idx → EReal := mat (OG (rQ m c) (rK m c) (rV m c))
/-- and the sums of the gates. -/
def gT : S6x2x4096x128.Idx → EReal := totA (rQ m c) (rK m c)

include hp in
theorem real0 (i : S4096x1024.Idx) : (m ((c : Thread nD τ).loc main_arg0) : S4096x1024.Idx → EReal) i = ((rQ m c (i 0).val (i 1).val : ℝ) : EReal) :=
  re_eq (fin0 m hp c _ rfl) i
include hp in
theorem real1 (i : S4096x1536.Idx) : (m ((c : Thread nD τ).loc main_arg1) : S4096x1536.Idx → EReal) i = ((rK m c (i 0).val (i 1).val : ℝ) : EReal) :=
  re_eq (fin1 m hp c _ rfl) i

include hp in
theorem run_value (ρ : Dev nD → PrngReg) : θ_run defs (onTc (τ := τ) (main (F := Ideal))) ⟨m, fun _ => 0, ρ⟩ (fun r => ∀ c : Dev nD,
      r.2.mem ((c : Thread nD τ).loc main_v0_0) = gO m c
      ∧ r.2.mem ((c : Thread nD τ).loc main_v0_1) = gT m c
      ∧ r.2.mem ((c : Thread nD τ).loc main_arg0) = m ((c : Thread nD τ).loc main_arg0)
      ∧ r.2.mem ((c : Thread nD τ).loc main_arg1) = m ((c : Thread nD τ).loc main_arg1)) := by
  refine (θ_run defs _ _).mono (fun r h c => ?_) (θ_run_and (run_main (F := Ideal) m ρ) (frame_run (F := Ideal) m ρ))
  exact ⟨((h.1 c).1 3).trans (arr3 m c (real0 m hp c) (real1 m hp c) (fun _ _ => rfl)), ((h.1 c).1 4).trans (arr4 m c (real0 m hp c) (real1 m hp c) (fun _ _ => rfl)), h.2.1 c⟩
end

theorem frame_bits (m : (ℓ : Loc Cert.StickFwd.nD Cert.StickFwd.τ Cert.StickFwd.sig) → Buf (Elt Bits) ℓ) (ρ : Dev Cert.StickFwd.nD → PrngReg) :
    θ_run Cert.StickFwd.defs (onTc (τ := Cert.StickFwd.τ) (Cert.StickFwd.main (F := Bits))) ⟨m, fun _ => 0, ρ⟩ (fun r => (∀ c : Dev Cert.StickFwd.nD,
      r.2.mem ((c : Thread Cert.StickFwd.nD Cert.StickFwd.τ).loc Cert.StickFwd.main_arg0) = m ((c : Thread Cert.StickFwd.nD Cert.StickFwd.τ).loc Cert.StickFwd.main_arg0)
      ∧ r.2.mem ((c : Thread Cert.StickFwd.nD Cert.StickFwd.τ).loc Cert.StickFwd.main_arg1) = m ((c : Thread Cert.StickFwd.nD Cert.StickFwd.τ).loc Cert.StickFwd.main_arg1))
      ∧ r.2.sem = fun _ => 0) :=
  Eq.mp (by sl_kernel_rfl) (frame_run (F := Bits) m ρ)

theorem frame_ref : Cert.quiescent_StickFwdRefIdeal (hStickFwdRefIdeal := Cert.StickFwdRefIdeal.Gen.facts) := fun m ρ _ =>
  (θ_run _ _ _).mono (fun r h => ⟨fun c => (h c).2.2, sem_eq_zero_of_no_sems (by decide) r.2⟩) (Cert.StickFwdRefIdeal.Value.run m ρ)

theorem alg : Cert.algebraic_StickFwdIdeal_StickFwdRefIdeal_pre_stick_fwd_finite (hStickFwdIdeal := Cert.StickFwdIdeal.Gen.facts)
    (hStickFwdRefIdeal := Cert.StickFwdRefIdeal.Gen.facts) (hPre_stick_fwd_finite := Cert.Pre_stick_fwd_finite.Gen.facts) := by
  intro m g m' g' hp hag
  refine ⟨gO m, gT m, run_value m hp g, ?_⟩
  refine (θ_run Cert.StickFwdRefIdeal.defs _ _).mono (fun r h c => ⟨(h c).1.trans ?_, (h c).2.1.trans ?_, (h c).2.2⟩) (Cert.StickFwdRefIdeal.Value.run m' g')
  · refine (Cert.StickFwdRefIdeal.Read.val_main_v47_eq _ _).trans ?_
    rw [show m' ((c.tc : Thread Cert.StickFwdRefIdeal.nD Cert.StickFwdRefIdeal.τ).loc Cert.StickFwdRefIdeal.main_arg0) = _ from (hag c).1, show m' ((c.tc : Thread Cert.StickFwdRefIdeal.nD Cert.StickFwdRefIdeal.τ).loc Cert.StickFwdRefIdeal.main_arg1) = _ from (hag c).2]
    funext j
    exact Ref.o_apply (real0 m hp c) (real1 m hp c) (fun _ _ => rfl) j
  · refine (Cert.StickFwdRefIdeal.Read.val_main_v46_eq _ _).trans ?_
    rw [show m' ((c.tc : Thread Cert.StickFwdRefIdeal.nD Cert.StickFwdRefIdeal.τ).loc Cert.StickFwdRefIdeal.main_arg0) = _ from (hag c).1, show m' ((c.tc : Thread Cert.StickFwdRefIdeal.nD Cert.StickFwdRefIdeal.τ).loc Cert.StickFwdRefIdeal.main_arg1) = _ from (hag c).2]
    funext j
    rw [eq_ix4 j]
    exact Ref.tot_apply (real0 m hp c) (real1 m hp c) (j 0) (j 1) (j 2) (j 3)

end Cert.Hand.SbFwd
-- ==== Proof.InNorm.lean ====
module

public import proofs.«01_k».proof.Proof.GuNorm
public import proofs.«01_k».proof.Proof.Gen.InNormBwdIdeal.Value
public import proofs.«01_k».proof.Proof.Gen.InNormBwdRefIdeal.Read
public import proofs.«01_k».proof.Proof.Gen.InNormBwdRefIdeal.Run
public import proofs.«01_k».proof.Proof.Gen.Pre_in_norm_bwd_finite
public meta import Idealize.ShloMosaic.Lib.Pointwise
public meta import Idealize.ShloMosaic.Lib.Pipeline.ValueKit

/-!
The same at the input product: what the kernel leaves in its three
results, what the reference computes, and that the two agree on real arguments.
-/

set_option maxRecDepth 16384

noncomputable section

@[expose] public section

namespace Cert.Hand.InNorm

open Idealize.ShloMosaic Idealize.ShloMosaic.TcCoe Idealize.SL.Sem
open Cert.InNormBwdIdeal Cert.InNormBwdIdeal.Gen
open Cert.Hand.Sb Cert.Hand.Norm
open Cert.Hand.GuNorm (DX PG DG)

section Pay
variable {x0 : FVec Ideal S256x1024 .bf16} {x1 : FVec Ideal S1024x1024 .bf16} {x2 x3 : FVec Ideal S256x1024 .f32} {x4 xo : FVec Ideal S1x1024 .f32}
  {a b x g z : ℕ → ℕ → ℝ} (h0 : IsR x0 a) (h1 : IsR x1 b) (h2 : IsR x2 x) (h3 : IsR x3 z) (h4 : IsR x4 g)

include h0 h1 in
theorem pay3_isR : IsR (M := 256) (N := 1024) (k0_pay3 (F := Ideal) x0 x1) (pr 1024 a b) := isR_matmul_nt h0 h1

include h2 in
theorem pay4_isR : IsR (M := 256) (N := 1) (k0_pay4 (F := Ideal) x2) (fun r _ => iv (x r)) := GuNorm.pay4_isR h2

include h2 in
theorem pay5_isR : IsR (M := 256) (N := 1024) (k0_pay5 (F := Ideal) x2) (fun r k => xh (x r) k) := GuNorm.pay5_isR h2

include h0 h1 h2 h3 h4 in
theorem pay6_isR : IsR (M := 256) (N := 1024) (k0_pay6 (F := Ideal) x0 x1 x2 x4 x3) (DX (pr 1024 a b) x g z) :=
  isR_add (φ := .f32) (isR_dx (isR_mul (φ := .f32) (pay3_isR h0 h1) (isR_row (φ := .f32) h4 broadcasts_S1x1024_S256x1024))
    reduces_S256x1024_S256 (.inl rfl) rfl shapeCasts_S256_S256x1 broadcasts_S256x1_S256x1024 (pay4_isR h2) (pay5_isR h2)) h3

include h0 h1 h2 h3 h4 in
theorem pay7_isR : IsR (M := 256) (N := 1024) (k0_pay7 (F := Ideal) x0 x1 x2 x4 x3) (DX (pr 1024 a b) x g z) := pay6_isR h0 h1 h2 h3 h4

theorem pay2_isR {n : ℕ} (h0 : IsR x0 (fun r k => a (256 * n + r) k)) (h1 : IsR x1 b) (h2 : IsR x2 (fun r k => x (256 * n + r) k))
    (ho : IsR xo (fun _ k => ∑ i ∈ Finset.range (256 * n), PG (pr 1024 a b) x i k)) :
    IsR (M := 1) (N := 1024) (k0_pay2 (F := Ideal) (k0_pay3 x0 x1) (k0_pay5 x2) xo) (fun _ k => ∑ i ∈ Finset.range (256 * (n + 1)), PG (pr 1024 a b) x i k) :=
  isR_acc ho (isR_colSum (isR_mul (φ := .f32) (pay3_isR h0 h1) (pay5_isR h2)) reduces_S256x1024_S1024 (.inl rfl) rfl shapeCasts_S1024_S1x1024)
    shapeCasts_S1x1024_S1x1024

end Pay

section Body
variable (c : Dev nD) (i : grid0.Coords)
  (a1 : Memref sig .tc .vmem S256x1024 .bf16) (h1 : a1.IsWhole)
  (a2 : Memref sig .tc .vmem S1024x1024 .bf16) (h2 : a2.IsWhole)
  (a3 : Memref sig .tc .vmem S256x1024 .f32) (h3 : a3.IsWhole)
  (a4 : Memref sig .tc .vmem S256x1024 .f32) (h4 : a4.IsWhole)
  (a5 : Memref sig .tc .vmem S1x1024 .f32) (h5 : a5.IsWhole)
  (a6 : Memref sig .tc .vmem S256x1024 .f32) (h6 : a6.IsWhole)
  (a7 : Memref sig .tc .vmem S256x1024 .bf16) (h7 : a7.IsWhole)
  (a8 : Memref sig .tc .vmem S1x1024 .f32) (h8 : a8.IsWhole)
  (x0 : Vec Ideal S256x1024 .bf16) (x1 : Vec Ideal S1024x1024 .bf16) (x2 x3 : Vec Ideal S256x1024 .f32) (x4 xo : Vec Ideal S1x1024 .f32)

theorem out_A5 (hc : cond0_0 i) : out0_A_5 c i a1 h1 a2 h2 a3 h3 a4 h4 a5 h5 a6 h6 a7 h7 a8 h8 hc x0 x1 x2 x3 x4 = k0_pay6 x0 x1 x2 x4 x3 := by
  unfold out0_A_5
  rw [View.read_writes_eq_canon _ _ _ (cover0_A_5 c i a1 h1 a2 h2 a3 h3 a4 h4 a5 h5 a6 h6 a7 h7 a8 h8 hc x0 x1 x2 x3 x4)]
  unfold kernelRun0_A
  dsimp only
  rw [View.canon_unit_zero GuNorm.hz]
  simp only [View.readAt_eq_ld, h1.read_unread, h2.read_unread, h3.read_unread, h4.read_unread, h5.read_unread, View.ld_unit_zero (S := S256x1024) GuNorm.hz, View.ld_unit_zero (S := S1024x1024) GuNorm.hz, View.ld_unit_zero (S := S256x1024) GuNorm.hz, View.ld_unit_zero (S := S1x1024) GuNorm.hz]

theorem out_A6 (hc : cond0_0 i) : out0_A_6 c i a1 h1 a2 h2 a3 h3 a4 h4 a5 h5 a6 h6 a7 h7 a8 h8 hc x0 x1 x2 x3 x4 = k0_pay7 x0 x1 x2 x4 x3 := by
  unfold out0_A_6
  rw [View.read_writes_eq_canon _ _ _ (cover0_A_6 c i a1 h1 a2 h2 a3 h3 a4 h4 a5 h5 a6 h6 a7 h7 a8 h8 hc x0 x1 x2 x3 x4)]
  unfold kernelRun0_A
  dsimp only
  rw [View.canon_unit_zero GuNorm.hz]
  simp only [View.readAt_eq_ld, h1.read_unread, h2.read_unread, h3.read_unread, h4.read_unread, h5.read_unread, View.ld_unit_zero (S := S256x1024) GuNorm.hz, View.ld_unit_zero (S := S1024x1024) GuNorm.hz, View.ld_unit_zero (S := S256x1024) GuNorm.hz, View.ld_unit_zero (S := S1x1024) GuNorm.hz]

theorem out_A7 (hc : cond0_0 i) : out0_A_7 c i a1 h1 a2 h2 a3 h3 a4 h4 a5 h5 a6 h6 a7 h7 a8 h8 hc x0 x1 x2 x3 x4 = k0_pay2 (k0_pay3 x0 x1) (k0_pay5 x2) (k0_pay1 (F := Ideal)) := by
  unfold out0_A_7
  rw [View.read_writes_eq_canon _ _ _ (cover0_A_7 c i a1 h1 a2 h2 a3 h3 a4 h4 a5 h5 a6 h6 a7 h7 a8 h8 hc x0 x1 x2 x3 x4)]
  unfold kernelRun0_A
  dsimp only
  sl_unfold_words
  rw [View.canon_cons_unit_zero (S := S1x1024) GuNorm.hz, View.readCov_unit_zero (S := S1x1024) _ GuNorm.hz]
  simp only [View.readAt_eq_ld, h1.read_unread, h2.read_unread, h3.read_unread, View.ld_unit_zero (S := S256x1024) GuNorm.hz, View.ld_unit_zero (S := S1024x1024) GuNorm.hz, View.ld_unit_zero (S := S256x1024) GuNorm.hz]

theorem out_B5 (hc : ¬cond0_0 i) : out0_B_5 c i a1 h1 a2 h2 a3 h3 a4 h4 a5 h5 a6 h6 a7 h7 a8 h8 hc x0 x1 x2 x3 x4 xo = k0_pay6 x0 x1 x2 x4 x3 := by
  unfold out0_B_5
  rw [View.read_writes_eq_canon _ _ _ (cover0_B_5 c i a1 h1 a2 h2 a3 h3 a4 h4 a5 h5 a6 h6 a7 h7 a8 h8 hc x0 x1 x2 x3 x4 xo)]
  unfold kernelRun0_B
  dsimp only
  rw [View.canon_unit_zero GuNorm.hz]
  simp only [View.readAt_eq_ld, h1.read_unread, h2.read_unread, h3.read_unread, h4.read_unread, h5.read_unread, View.ld_unit_zero (S := S256x1024) GuNorm.hz, View.ld_unit_zero (S := S1024x1024) GuNorm.hz, View.ld_unit_zero (S := S256x1024) GuNorm.hz, View.ld_unit_zero (S := S1x1024) GuNorm.hz]

theorem out_B6 (hc : ¬cond0_0 i) : out0_B_6 c i a1 h1 a2 h2 a3 h3 a4 h4 a5 h5 a6 h6 a7 h7 a8 h8 hc x0 x1 x2 x3 x4 xo = k0_pay7 x0 x1 x2 x4 x3 := by
  unfold out0_B_6
  rw [View.read_writes_eq_canon _ _ _ (cover0_B_6 c i a1 h1 a2 h2 a3 h3 a4 h4 a5 h5 a6 h6 a7 h7 a8 h8 hc x0 x1 x2 x3 x4 xo)]
  unfold kernelRun0_B
  dsimp only
  rw [View.canon_unit_zero GuNorm.hz]
  simp only [View.readAt_eq_ld, h1.read_unread, h2.read_unread, h3.read_unread, h4.read_unread, h5.read_unread, View.ld_unit_zero (S := S256x1024) GuNorm.hz, View.ld_unit_zero (S := S1024x1024) GuNorm.hz, View.ld_unit_zero (S := S256x1024) GuNorm.hz, View.ld_unit_zero (S := S1x1024) GuNorm.hz]

theorem out_B7 (hc : ¬cond0_0 i) : out0_B_7 c i a1 h1 a2 h2 a3 h3 a4 h4 a5 h5 a6 h6 a7 h7 a8 h8 hc x0 x1 x2 x3 x4 xo = k0_pay2 (k0_pay3 x0 x1) (k0_pay5 x2) xo := by
  unfold out0_B_7
  rw [View.read_writes_eq_canon _ _ _ (cover0_B_7 c i a1 h1 a2 h2 a3 h3 a4 h4 a5 h5 a6 h6 a7 h7 a8 h8 hc x0 x1 x2 x3 x4 xo)]
  unfold kernelRun0_B
  dsimp only
  sl_unfold_words
  rw [View.canon_unit_zero GuNorm.hz]
  simp only [View.readAt_eq_ld, h1.read_unread, h2.read_unread, h3.read_unread, h8.read_unread, View.ld_unit_zero (S := S256x1024) GuNorm.hz, View.ld_unit_zero (S := S1024x1024) GuNorm.hz, View.ld_unit_zero (S := S256x1024) GuNorm.hz, View.ld_unit_zero (S := S1x1024) GuNorm.hz]

end Body

theorem idx : ∀ t : Fin cfg0.N, win0_0.index t 0 = t.val ∧ win0_0.index t 1 = 0 ∧ win0_1.index t 0 = 0 ∧ win0_1.index t 1 = 0 ∧ win0_2.index t 0 = t.val ∧ win0_2.index t 1 = 0 ∧ win0_3.index t 0 = t.val ∧ win0_3.index t 1 = 0 ∧
    win0_4.index t 0 = 0 ∧
    win0_4.index t 1 = 0 ∧ win0_5.index t 0 = t.val ∧ win0_5.index t 1 = 0 ∧ win0_6.index t 0 = t.val ∧ win0_6.index t 1 = 0 ∧ win0_7.index t 0 = 0 ∧ win0_7.index t 1 = 0 := by
  decide +kernel

section Arr
variable (m : (ℓ : Loc nD τ sig) → Buf (Elt Ideal) ℓ) (c : Dev nD)

/-- The five arguments as real numbers. -/
def rA : ℕ → ℕ → ℝ := re (M := 4096) (N := 1024) (m ((c : Thread nD τ).loc main_arg0))
def rB : ℕ → ℕ → ℝ := re (M := 1024) (N := 1024) (m ((c : Thread nD τ).loc main_arg1))
def rX : ℕ → ℕ → ℝ := re (M := 4096) (N := 1024) (m ((c : Thread nD τ).loc main_arg2))
def rG : ℕ → ℕ → ℝ := re (M := 1) (N := 1024) (m ((c : Thread nD τ).loc main_arg3))
def rZ : ℕ → ℕ → ℝ := re (M := 4096) (N := 1024) (m ((c : Thread nD τ).loc main_arg4))
/-- The product. -/
def rP : ℕ → ℕ → ℝ := pr 1024 (rA m c) (rB m c)

variable (hp : Cert.Pre_InNormBwdIdeal_in_norm_bwd_finite (hPre_in_norm_bwd_finite := Cert.Pre_in_norm_bwd_finite.Gen.facts) m)

include hp in
theorem args : IsR (M := 4096) (N := 1024) (m ((c : Thread nD τ).loc main_arg0)) (rA m c)
    ∧ IsR (M := 1024) (N := 1024) (m ((c : Thread nD τ).loc main_arg1)) (rB m c)
    ∧ IsR (M := 4096) (N := 1024) (m ((c : Thread nD τ).loc main_arg2)) (rX m c)
    ∧ IsR (M := 1) (N := 1024) (m ((c : Thread nD τ).loc main_arg3)) (rG m c)
    ∧ IsR (M := 4096) (N := 1024) (m ((c : Thread nD τ).loc main_arg4)) (rZ m c) := by
  have e := hp c
  unfold Cert.Pre_in_norm_bwd_finite.fn at e
  exact ⟨isR_re (congrFun e.1), isR_re (congrFun e.2.1), isR_re (congrFun e.2.2.1), isR_re (congrFun e.2.2.2.1), isR_re (congrFun e.2.2.2.2)⟩

include hp in
theorem blocks (t : Fin cfg0.N) : IsR (M := 256) (N := 1024) (iblk m c 0 t) (fun r k => rA m c (256 * t.val + r) k)
    ∧ IsR (M := 1024) (N := 1024) (iblk m c 1 t) (rB m c)
    ∧ IsR (M := 256) (N := 1024) (iblk m c 2 t) (fun r k => rX m c (256 * t.val + r) k)
    ∧ IsR (M := 256) (N := 1024) (iblk m c 3 t) (fun r k => rZ m c (256 * t.val + r) k)
    ∧ IsR (M := 1) (N := 1024) (iblk m c 4 t) (rG m c) := by
  obtain ⟨hA, hB, hX, hG, hZ⟩ := args m c hp
  obtain ⟨e00, e01, e10, e11, e20, e21, e30, e31, e40, e41, e50, e51, e60, e61, e70, e71⟩ := idx t
  have ht : t.val < 16 := t.isLt
  exact ⟨hA.rows _ (by omega) fun r k => by blk_ext [iblk, V, e00, e01], hB.whole fun r k => by blk_ext [iblk, V, e10, e11],
    hX.rows _ (by omega) fun r k => by blk_ext [iblk, V, e20, e21], hZ.rows _ (by omega) fun r k => by blk_ext [iblk, V, e30, e31],
    hG.whole fun r k => by blk_ext [iblk, V, e40, e41]⟩

include hp in
/-- The running sum the gain's staging block holds after a point. -/
theorem acc_eq : ∀ (n : ℕ) (h : n < cfg0.N), IsR (M := 1) (N := 1024) (outsAt0 m c n h).2.2
    (fun _ k => ∑ i ∈ Finset.range (256 * (n + 1)), PG (rP m c) (rX m c) i k)
  | 0, h => by
    obtain ⟨b0, b1, b2, -, -⟩ := blocks m c hp ⟨0, h⟩
    rw [outsAt0_A m c ⟨0, h⟩ rfl]
    dsimp only
    rw [out_A7]
    exact pay2_isR (n := 0) b0 b1 b2 (isR_zero.congr fun r k _ _ => by rw [Nat.mul_zero, Finset.sum_range_zero])
  | n + 1, h => by
    obtain ⟨b0, b1, b2, -, -⟩ := blocks m c hp ⟨n + 1, h⟩
    have hN : cfg0.N = 16 := N_0
    have hB : ¬(⟨n + 1, h⟩ : Fin cfg0.N).val % 16 = 0 := by dsimp only; omega
    rw [outsAt0_B m c ⟨n + 1, h⟩ hB]
    dsimp only
    rw [out_B7]
    exact pay2_isR (n := n + 1) b0 b1 b2 (acc_eq n _)

include hp in
theorem rows_eq (t : Fin cfg0.N) : IsR (M := 256) (N := 1024) (outsAt0 m c t.val t.isLt).1
      (fun r k => DX (rP m c) (rX m c) (rG m c) (rZ m c) (256 * t.val + r) k)
    ∧ IsR (M := 256) (N := 1024) (outsAt0 m c t.val t.isLt).2.1
      (fun r k => DX (rP m c) (rX m c) (rG m c) (rZ m c) (256 * t.val + r) k) := by
  obtain ⟨b0, b1, b2, b3, b4⟩ := blocks m c hp t
  by_cases h0 : t.val % 16 = 0
  · rw [outsAt0_A m c t h0]
    dsimp only
    rw [out_A5, out_A6]
    exact ⟨pay6_isR b0 b1 b2 b3 b4, pay7_isR b0 b1 b2 b3 b4⟩
  · rw [outsAt0_B m c t h0]
    dsimp only
    rw [out_B5, out_B6]
    exact ⟨pay6_isR b0 b1 b2 b3 b4, pay7_isR b0 b1 b2 b3 b4⟩

include hp in
theorem arr5_eq : (dats m 0 c).arrAt 5 cfg0.N = mat (M := 4096) (N := 1024) (DX (rP m c) (rX m c) (rG m c) (rZ m c)) := by
  refine (dats m 0 c).arrAt_eq_of_covers 5 _ (by decide +kernel) fun t hf y => ?_
  obtain ⟨e00, e01, e10, e11, e20, e21, e30, e31, e40, e41, e50, e51, e60, e61, e70, e71⟩ := idx t
  have ht : t.val < 16 := t.isLt
  have hy0 : (y 0).val < 256 := (y 0).isLt
  blk_simp
  rw [after0_5, eq_ix2 y]
  have hy : (win0_5.blk t).view.emb (ix2 (y 0) (y 1)) = (ix2 ⟨256 * t.val + (y 0).val, by omega⟩ (y 1) : (⟨2, ![4096, 1024]⟩ : Shape).Idx) := by
    blk_ext [e50, e51]
  refine ((rows_eq m c hp t).1 (y 0) (y 1)).trans (Eq.trans ?_ (congrArg _ hy.symm))
  rfl

include hp in
theorem arr6_eq : (dats m 0 c).arrAt 6 cfg0.N = mat (M := 4096) (N := 1024) (DX (rP m c) (rX m c) (rG m c) (rZ m c)) := by
  refine (dats m 0 c).arrAt_eq_of_covers 6 _ (by decide +kernel) fun t hf y => ?_
  obtain ⟨e00, e01, e10, e11, e20, e21, e30, e31, e40, e41, e50, e51, e60, e61, e70, e71⟩ := idx t
  have ht : t.val < 16 := t.isLt
  have hy0 : (y 0).val < 256 := (y 0).isLt
  blk_simp
  rw [after0_6, eq_ix2 y]
  have hy : (win0_6.blk t).view.emb (ix2 (y 0) (y 1)) = (ix2 ⟨256 * t.val + (y 0).val, by omega⟩ (y 1) : (⟨2, ![4096, 1024]⟩ : Shape).Idx) := by
    blk_ext [e60, e61]
  refine ((rows_eq m c hp t).2 (y 0) (y 1)).trans (Eq.trans ?_ (congrArg _ hy.symm))
  rfl

include hp in
theorem arr7_eq : (dats m 0 c).arrAt 7 cfg0.N = mat (M := 1) (N := 1024) (DG (rP m c) (rX m c)) := by
  refine (dats m 0 c).arrAt_eq_of_covers 7 _ (by decide +kernel) fun t hf y => ?_
  have h15 : t.val = 15 := by have := (flush0_7 t).mp hf; have : t.val < 16 := t.isLt; omega
  obtain ⟨e00, e01, e10, e11, e20, e21, e30, e31, e40, e41, e50, e51, e60, e61, e70, e71⟩ := idx t
  blk_simp
  rw [after0_7, eq_row0 (n := 1024) y]
  have hy : (win0_7.blk t).view.emb (ix2 (0 : Fin 1) (y 1)) = (ix2 0 (y 1) : (⟨2, ![1, 1024]⟩ : Shape).Idx) := by
    blk_ext [e70, e71]
  refine (acc_eq m c hp t.val t.isLt 0 (y 1)).trans (Eq.trans ?_ (congrArg _ hy.symm))
  rw [h15]
  rfl

end Arr

section Ref
open Cert.InNormBwdRefIdeal.Read
variable {x0 : FVec Ideal S4096x1024 .bf16} {x1 : FVec Ideal S1024x1024 .bf16} {x2 x4 : FVec Ideal S4096x1024 .f32} {x3 : FVec Ideal S1x1024 .f32}
  {a b x g z : ℕ → ℕ → ℝ} (h0 : IsR x0 a) (h1 : IsR x1 b) (h2 : IsR x2 x) (h3 : IsR x3 g) (h4 : IsR x4 z)

include h2 in
theorem v8_isR : IsR (M := 4096) (N := 1) (val_main_v8 (F := Ideal) x2) (fun r _ => dn (x r)) := GuNorm.v8_isR h2

include h2 in
theorem v9_isR : IsR (M := 4096) (N := 1) (val_main_v9 (F := Ideal) x2) (fun r _ => iv (x r)) := GuNorm.v9_isR h2

include h0 h1 in
theorem v18_isR : IsR (M := 4096) (N := 1024) (val_main_v18 (F := Ideal) x0 x1) (pr 1024 a b) := by
  intro r k
  pointwise [val_main_v18]
  exact sum_mul (fun i => h0 r i) fun i => h1 k i

include h0 h1 h2 in
theorem v21_isR : IsR (M := 1) (N := 1024) (val_main_v21 (F := Ideal) x0 x1 x2) (DG (pr 1024 a b) x) :=
  (isR_hcolSum (isR_mul (φ := .f32) (isR_mul (φ := .f32) h2 (isR_hcol (v9_isR h2) Cert.InNormBwdRefIdeal.Gen.bcast_S4096x1_S4096x1024_0_1)) (v18_isR h0 h1))
    Cert.InNormBwdRefIdeal.Gen.h_S_ Cert.InNormBwdRefIdeal.Gen.reducesTo_S4096x1024_S1024_d0
    Cert.InNormBwdRefIdeal.Gen.shapeCasts_S1024_S1x1024).congr fun r k _ _ => Finset.sum_congr rfl fun i _ => mul_comm _ _

include h0 h1 h3 in
theorem v23_isR : IsR (M := 4096) (N := 1024) (val_main_v23 (F := Ideal) x0 x1 x3) (fun r k => pr 1024 a b r k * g 0 k) :=
  isR_mul (φ := .f32) (v18_isR h0 h1) (isR_hrow h3 Cert.InNormBwdRefIdeal.Gen.bcast_S1x1024_S4096x1024_0_1)

include h0 h1 h2 h3 h4 in
theorem v38_isR : IsR (M := 4096) (N := 1024) (val_main_v38 (F := Ideal) x0 x1 x2 x3 x4) (DX (pr 1024 a b) x g z) :=
  (isR_hdx (v9_isR h2) h2 (v23_isR h0 h1 h3) h4 (isR_htf h2 (v23_isR h0 h1 h3) Cert.InNormBwdRefIdeal.Gen.h_S_
    Cert.InNormBwdRefIdeal.Gen.reducesTo_S4096x1024_S4096_d1 Cert.InNormBwdRefIdeal.Gen.bcast_S_S4096x1
    Cert.InNormBwdRefIdeal.Gen.shapeCasts_S4096_S4096x1 Cert.InNormBwdRefIdeal.Gen.reducesTo_S4096x1_S4096_d1
    Cert.InNormBwdRefIdeal.Gen.bcast_S4096_S4096x1024_0 (v8_isR h2) (v9_isR h2))
    Cert.InNormBwdRefIdeal.Gen.bcast_S4096x1_S4096x1024_0_1).congr fun r k _ _ => add_comm _ _

end Ref

theorem frame_ref : Cert.quiescent_InNormBwdRefIdeal (hInNormBwdRefIdeal := Cert.InNormBwdRefIdeal.Gen.facts) := fun m ρ _ =>
  (θ_run _ _ _).mono (fun r h => ⟨fun c => (h c).2.2.2, sem_eq_zero_of_no_sems (by decide) r.2⟩) (Cert.InNormBwdRefIdeal.Value.run m ρ)

theorem alg : Cert.algebraic_InNormBwdIdeal_InNormBwdRefIdeal_pre_in_norm_bwd_finite (hInNormBwdIdeal := Cert.InNormBwdIdeal.Gen.facts)
    (hInNormBwdRefIdeal := Cert.InNormBwdRefIdeal.Gen.facts) (hPre_in_norm_bwd_finite := Cert.Pre_in_norm_bwd_finite.Gen.facts) := by
  intro m g m' g' hpre hag
  refine ⟨fun c => mat (M := 4096) (N := 1024) (DX (rP m c) (rX m c) (rG m c) (rZ m c)),
    fun c => mat (M := 4096) (N := 1024) (DX (rP m c) (rX m c) (rG m c) (rZ m c)),
    fun c => mat (M := 1) (N := 1024) (DG (rP m c) (rX m c)), ?_, ?_⟩
  · exact (θ_run defs _ _).mono (fun r h c => ⟨(h c).1.trans (arr5_eq m c hpre), (h c).2.1.trans (arr6_eq m c hpre),
      (h c).2.2.1.trans (arr7_eq m c hpre), (h c).2.2.2⟩) (Cert.InNormBwdIdeal.Value.run_blocks m g)
  · refine (θ_run Cert.InNormBwdRefIdeal.defs _ _).mono (fun r h c => ?_) (Cert.InNormBwdRefIdeal.Value.run m' g')
    obtain ⟨hA, hB, hX, hG, hZ⟩ := args m c hpre
    refine ⟨(h c).1.trans ?_, (h c).2.1.trans ?_, (h c).2.2.1.trans ?_, (h c).2.2.2⟩
    · rw [Cert.InNormBwdRefIdeal.Read.val_main_v38_eq, (hag c).1, (hag c).2.1, (hag c).2.2.1, (hag c).2.2.2.1, (hag c).2.2.2.2]
      exact IsR.eq_mat (v38_isR hA hB hX hG hZ)
    · rw [Cert.InNormBwdRefIdeal.Read.val_main_v39_eq, (hag c).1, (hag c).2.1, (hag c).2.2.1, (hag c).2.2.2.1, (hag c).2.2.2.2]
      exact IsR.eq_mat (v38_isR hA hB hX hG hZ)
    · rw [Cert.InNormBwdRefIdeal.Read.val_main_v21_eq, (hag c).1, (hag c).2.1, (hag c).2.2.1]
      exact IsR.eq_mat (v21_isR hA hB hX)

end Cert.Hand.InNorm

end
-- ==== Proof.MemAttnB.lean ====
module

public import proofs.«01_k».proof.Proof.MemAttn
public import proofs.«01_k».proof.Proof.Gen.MemAttnBwdBIdeal.Value
public import proofs.«01_k».proof.Proof.Gen.MemAttnBwdBRefIdeal.Read
public import proofs.«01_k».proof.Proof.Gen.MemAttnBwdBRefIdeal.Run
public import proofs.«01_k».proof.Proof.Gen.Pre_mem_attn_bwd_b_finite
public meta import Idealize.ShloMosaic.Lib.Pointwise
public meta import Idealize.ShloMosaic.Lib.Pipeline.ValueKit

/-!
The memory attention's gradient at a bf16 projection: what the kernel leaves in its two results and that they are the plain program's on real
arguments.
-/

set_option maxRecDepth 16384

noncomputable section

@[expose] public section

namespace Cert.Hand.MemAttnB

open Idealize.ShloMosaic Idealize.ShloMosaic.TcCoe Idealize.SL.Sem
open Cert.MemAttnBwdBIdeal Cert.MemAttnBwdBIdeal.Gen
open Cert.Hand.Sb Cert.Hand.Norm Cert.Hand.Attn Cert.Hand.Attn.Ref Cert.Hand.Cols
open Cert.Hand.MemAttn (KA join_k join_v fill_isR skip_isR share share_zero)

section Body
variable {c : Dev nD} {i : grid0.Coords}
  {a1 : Memref sig .tc .vmem S512x256 .bf16} {h1 : a1.IsWhole}
  {a2 : Memref sig .tc .vmem S256x512 .bf16} {h2 : a2.IsWhole}
  {a3 : Memref sig .tc .vmem S512x256 .bf16} {h3 : a3.IsWhole}
  {a4 : Memref sig .tc .vmem S512x256 .bf16} {h4 : a4.IsWhole}
  {a5 : Memref sig .tc .vmem S256x512 .f32} {h5 : a5.IsWhole}
  {x0 : Vec Ideal S512x256 .bf16} {x1 : Vec Ideal S256x512 .bf16} {x2 : Vec Ideal S512x256 .bf16} {xo : Vec Ideal S256x512 .f32}
  {Q Y G A : ℕ → ℕ → ℝ} (e0 : IsR x0 Q) (e1 : IsR x1 Y) (e2 : IsR x2 G) (eo : IsR xo A)

include e0 e1 e2 in
theorem out_A3 (hc : cond0_0 i) : IsR (M := 512) (N := 256) (out0_A_3 c i a1 h1 a2 h2 a3 h3 a4 h4 a5 h5 hc x0 x1 x2) (MQ Q Y (fun j c => Y j (256 + c)) G) := by
  unfold out0_A_3
  rw [View.read_writes_eq_canon _ _ _ (cover0_A_3 c i a1 h1 a2 h2 a3 h3 a4 h4 a5 h5 hc x0 x1 x2)]
  unfold kernelRun0_A
  dsimp only
  sl_unfold_words
  simp only [View.readAt_eq_ld, h1.read_unread, h2.read_unread, h3.read_unread]
  intro r k
  refine Holds.cons (Val := Elt Ideal) (e := .bf16) (cv := fun x => x) (f := MQ Q Y (fun j c => Y j (256 + c)) G) (p := fun _ => True) 128 128 ?_ (Holds.cons 0 128 ?_ (Holds.last fun k hk h => by omega)) r k trivial
  · exact MemAttn.pay41_isR (t := 1) (ld_block 1 128 e0) (ld_block 1 128 e1) (ld_cols 1 256 384 e1) (ld_block 1 128 e2)
  · exact MemAttn.pay24_isR (t := 0) (ld_block 0 0 e0) (ld_block 0 0 e1) (ld_cols 0 256 256 e1) (ld_block 0 0 e2)

include e0 e1 e2 in
theorem out_A4 (hc : cond0_0 i) : IsR (M := 256) (N := 512) (out0_A_4 c i a1 h1 a2 h2 a3 h3 a4 h4 a5 h5 hc x0 x1 x2) (KA Q Y (fun j c => Y j (256 + c)) G (fun _ _ => 0) 512) := by
  unfold out0_A_4
  rw [View.read_writes_eq_canon _ _ _ (cover0_A_4 c i a1 h1 a2 h2 a3 h3 a4 h4 a5 h5 hc x0 x1 x2)]
  unfold kernelRun0_A
  dsimp only
  sl_unfold_words
  simp only [View.readAt_eq_ld, h1.read_unread, h2.read_unread, h3.read_unread]
  intro r k
  refine Holds.cons (Val := Elt Ideal) (e := .f32) (cv := fun x => x) (f := KA Q Y (fun j c => Y j (256 + c)) G (fun _ _ => 0) 512) (p := fun _ => True) 384 128 ?_ (Holds.cons 128 128 ?_ (Holds.cons 256 128 ?_ (Holds.cons 0 128 ?_
    (Holds.last fun k hk h => by omega)))) r k trivial
  · exact join_v 1 (MemAttn.pay43_isR (t := 1) (A := fun _ _ => 0) (ld_block 1 128 e0) (ld_block 1 128 e1) (ld_block 1 128 e2) (skip_isR (skip_isR (skip_isR fill_isR))))
  · exact join_k 1 (by omega) (MemAttn.pay42_isR (t := 1) (A := fun _ _ => 0) (ld_block 1 128 e0) (ld_block 1 128 e1) (ld_cols 1 256 384 e1) (ld_block 1 128 e2) (skip_isR (skip_isR fill_isR)))
  · exact join_v 0 (MemAttn.pay26_isR (t := 0) (A := fun _ _ => 0) (ld_block 0 0 e0) (ld_block 0 0 e1) (ld_block 0 0 e2) (skip_isR fill_isR))
  · exact join_k 0 (by omega) (MemAttn.pay25_isR (t := 0) (A := fun _ _ => 0) (ld_block 0 0 e0) (ld_block 0 0 e1) (ld_cols 0 256 256 e1) (ld_block 0 0 e2) fill_isR)

include e0 e1 e2 in
theorem out_B3 (hc : ¬cond0_0 i) : IsR (M := 512) (N := 256) (out0_B_3 c i a1 h1 a2 h2 a3 h3 a4 h4 a5 h5 hc x0 x1 x2 xo) (MQ Q Y (fun j c => Y j (256 + c)) G) := by
  unfold out0_B_3
  rw [View.read_writes_eq_canon _ _ _ (cover0_B_3 c i a1 h1 a2 h2 a3 h3 a4 h4 a5 h5 hc x0 x1 x2 xo)]
  unfold kernelRun0_B
  dsimp only
  sl_unfold_words
  simp only [View.readAt_eq_ld, h1.read_unread, h2.read_unread, h3.read_unread]
  intro r k
  refine Holds.cons (Val := Elt Ideal) (e := .bf16) (cv := fun x => x) (f := MQ Q Y (fun j c => Y j (256 + c)) G) (p := fun _ => True) 128 128 ?_ (Holds.cons 0 128 ?_ (Holds.last fun k hk h => by omega)) r k trivial
  · exact MemAttn.pay41_isR (t := 1) (ld_block 1 128 e0) (ld_block 1 128 e1) (ld_cols 1 256 384 e1) (ld_block 1 128 e2)
  · exact MemAttn.pay24_isR (t := 0) (ld_block 0 0 e0) (ld_block 0 0 e1) (ld_cols 0 256 256 e1) (ld_block 0 0 e2)

include e0 e1 e2 eo in
theorem out_B4 (hc : ¬cond0_0 i) : IsR (M := 256) (N := 512) (out0_B_4 c i a1 h1 a2 h2 a3 h3 a4 h4 a5 h5 hc x0 x1 x2 xo) (KA Q Y (fun j c => Y j (256 + c)) G A 512) := by
  unfold out0_B_4
  rw [View.read_writes_eq_canon _ _ _ (cover0_B_4 c i a1 h1 a2 h2 a3 h3 a4 h4 a5 h5 hc x0 x1 x2 xo)]
  unfold kernelRun0_B
  dsimp only
  sl_unfold_words
  simp only [View.readAt_eq_ld, h1.read_unread, h2.read_unread, h3.read_unread, h5.read_unread]
  intro r k
  refine Holds.cons (Val := Elt Ideal) (e := .f32) (cv := fun x => x) (f := KA Q Y (fun j c => Y j (256 + c)) G A 512) (p := fun _ => True) 384 128 ?_ (Holds.cons 128 128 ?_ (Holds.cons 256 128 ?_ (Holds.cons 0 128 ?_
    (Holds.last fun k hk h => by omega)))) r k trivial
  · exact join_v 1 (MemAttn.pay43_isR (t := 1) (ld_block 1 128 e0) (ld_block 1 128 e1) (ld_block 1 128 e2) (ld_colsAt 128 384 eo))
  · exact join_k 1 (by omega) (MemAttn.pay42_isR (t := 1) (ld_block 1 128 e0) (ld_block 1 128 e1) (ld_cols 1 256 384 e1) (ld_block 1 128 e2) (ld_colsAt 128 128 eo))
  · exact join_v 0 (MemAttn.pay26_isR (t := 0) (ld_block 0 0 e0) (ld_block 0 0 e1) (ld_block 0 0 e2) (ld_colsAt 128 256 eo))
  · exact join_k 0 (by omega) (MemAttn.pay25_isR (t := 0) (ld_block 0 0 e0) (ld_block 0 0 e1) (ld_cols 0 256 256 e1) (ld_block 0 0 e2) (ld_colsAt 128 0 eo))

end Body

theorem idx : ∀ t : Fin cfg0.N, win0_0.index t 0 = t.val ∧ win0_0.index t 1 = 3 ∧ win0_1.index t 0 = 0 ∧ win0_1.index t 1 = 0
    ∧ win0_2.index t 0 = t.val ∧ win0_2.index t 1 = 3 ∧ win0_3.index t 0 = t.val ∧ win0_3.index t 1 = 0
    ∧ win0_4.index t 0 = 0 ∧ win0_4.index t 1 = 0 := by
  decide +kernel

attribute [local irreducible] out0_A_3 out0_A_4 out0_B_3 out0_B_4 KA KV

section Arr
variable (m : (ℓ : Loc nD τ sig) → Buf (Elt Ideal) ℓ) (c : Dev nD)

/-- The three arguments as real numbers, -/
def rX : ℕ → ℕ → ℝ := re (M := 4096) (N := 1024) (m ((c : Thread nD τ).loc main_arg0))
def rY : ℕ → ℕ → ℝ := re (M := 256) (N := 512) (m ((c : Thread nD τ).loc main_arg1))
def rZ : ℕ → ℕ → ℝ := re (M := 4096) (N := 1024) (m ((c : Thread nD τ).loc main_arg2))
/-- and the two results. -/
def rQ : ℕ → ℕ → ℝ := MQ (fun r k => rX m c r (768 + k)) (rY m c) (fun j k => rY m c j (256 + k)) (fun r k => rZ m c r (768 + k))
def rM (j k : ℕ) (n : ℕ) : ℝ := ∑ r ∈ Finset.range n, KV (fun r k => rX m c r (768 + k)) (rY m c) (fun j k => rY m c j (256 + k)) (fun r k => rZ m c r (768 + k)) j k r

variable (hp : Cert.Pre_MemAttnBwdBIdeal_mem_attn_bwd_b_finite (hPre_mem_attn_bwd_b_finite := Cert.Pre_mem_attn_bwd_b_finite.Gen.facts) m)

include hp in
theorem args : IsR (M := 4096) (N := 1024) (m ((c : Thread nD τ).loc main_arg0)) (rX m c)
    ∧ IsR (M := 256) (N := 512) (m ((c : Thread nD τ).loc main_arg1)) (rY m c)
    ∧ IsR (M := 4096) (N := 1024) (m ((c : Thread nD τ).loc main_arg2)) (rZ m c) := by
  have e := hp c
  unfold Cert.Pre_mem_attn_bwd_b_finite.fn at e
  exact ⟨isR_re (congrFun e.1), isR_re (congrFun e.2.1), isR_re (congrFun e.2.2)⟩

include hp in
theorem blocks (t : Fin cfg0.N) : IsR (M := 512) (N := 256) (iblk m c 0 t) (fun r k => rX m c (512 * t.val + r) (768 + k))
    ∧ IsR (M := 256) (N := 512) (iblk m c 1 t) (rY m c)
    ∧ IsR (M := 512) (N := 256) (iblk m c 2 t) (fun r k => rZ m c (512 * t.val + r) (768 + k)) := by
  obtain ⟨hX, hY, hZ⟩ := args m c hp
  obtain ⟨e00, e01, e10, e11, e20, e21, e30, e31, e40, e41⟩ := idx t
  have ht : t.val < 8 := t.isLt
  refine ⟨fun r k => ?_, hY.whole fun r k => by blk_ext [iblk, V, e10, e11], fun r k => ?_⟩
  · exact Eq.trans (by blk_ext [iblk, V, e00, e01]) (hX (⟨512 * t.val + r.val, by omega⟩ : Fin 4096) (⟨768 + k.val, by omega⟩ : Fin 1024))
  · exact Eq.trans (by blk_ext [iblk, V, e20, e21]) (hZ (⟨512 * t.val + r.val, by omega⟩ : Fin 4096) (⟨768 + k.val, by omega⟩ : Fin 1024))

include hp in
/-- The running sum the second result's staging block holds after a point. -/
theorem acc_eq : ∀ (n : ℕ) (h : n < cfg0.N), IsR (M := 256) (N := 512) (outsAt0 m c n h).2 (fun j k => rM m c j k (512 * (n + 1)))
  | 0, h => by
    obtain ⟨b0, b1, b2⟩ := blocks m c hp ⟨0, h⟩
    rw [outsAt0_A m c ⟨0, h⟩ rfl]
    dsimp only
    exact IsR.congr (out_A4 b0 b1 b2 _) fun j k _ _ => share_zero
      (Q := fun r k => rX m c r (768 + k)) (K := rY m c) (V := fun j k => rY m c j (256 + k)) (G := fun r k => rZ m c r (768 + k)) j k
  | n + 1, h => by
    obtain ⟨b0, b1, b2⟩ := blocks m c hp ⟨n + 1, h⟩
    have hN : cfg0.N = 8 := N_0
    have hB : ¬(⟨n + 1, h⟩ : Fin cfg0.N).val % 8 = 0 := by dsimp only; omega
    rw [outsAt0_B m c ⟨n + 1, h⟩ hB]
    dsimp only
    exact IsR.congr (out_B4 b0 b1 b2 (acc_eq n _) _) fun j k _ _ => share
      (Q := fun r k => rX m c r (768 + k)) (K := rY m c) (V := fun j k => rY m c j (256 + k)) (G := fun r k => rZ m c r (768 + k)) (n + 1) j k

include hp in
theorem rows_eq (t : Fin cfg0.N) : IsR (M := 512) (N := 256) (outsAt0 m c t.val t.isLt).1 (fun r k => rQ m c (512 * t.val + r) k) := by
  obtain ⟨b0, b1, b2⟩ := blocks m c hp t
  by_cases h0 : t.val % 8 = 0
  · rw [outsAt0_A m c t h0]
    dsimp only
    exact IsR.congr (out_A3 b0 b1 b2 _) fun r k _ _ => rfl
  · rw [outsAt0_B m c t h0]
    dsimp only
    exact IsR.congr (out_B3 b0 b1 b2 _) fun r k _ _ => rfl

include hp in
theorem arr3_eq : (dats m 0 c).arrAt 3 cfg0.N = mat (M := 4096) (N := 256) (rQ m c) := by
  refine (dats m 0 c).arrAt_eq_of_covers 3 _ (by decide +kernel) fun t hf y => ?_
  obtain ⟨e00, e01, e10, e11, e20, e21, e30, e31, e40, e41⟩ := idx t
  have ht : t.val < 8 := t.isLt
  have hy0 : (y 0).val < 512 := (y 0).isLt
  blk_simp
  rw [after0_3, eq_ix2 y]
  have hy : (win0_3.blk t).view.emb (ix2 (y 0) (y 1)) = (ix2 ⟨512 * t.val + (y 0).val, by omega⟩ (y 1) : (⟨2, ![4096, 256]⟩ : Shape).Idx) := by
    blk_ext [e30, e31]
  refine (rows_eq m c hp t (y 0) (y 1)).trans (Eq.trans ?_ (congrArg _ hy.symm))
  rfl

include hp in
theorem arr4_eq : (dats m 0 c).arrAt 4 cfg0.N = mat (M := 256) (N := 512) (fun j k => rM m c j k 4096) := by
  refine (dats m 0 c).arrAt_eq_of_covers 4 _ (by decide +kernel) fun t hf y => ?_
  have h7 : t.val = 7 := by have := (flush0_4 t).mp hf; have : t.val < 8 := t.isLt; omega
  obtain ⟨e00, e01, e10, e11, e20, e21, e30, e31, e40, e41⟩ := idx t
  blk_simp
  rw [after0_4, eq_ix2 y]
  have hy : (win0_4.blk t).view.emb (ix2 (y 0) (y 1)) = (ix2 (y 0) (y 1) : (⟨2, ![256, 512]⟩ : Shape).Idx) := by
    blk_ext [e40, e41]
  refine (acc_eq m c hp t.val t.isLt (y 0) (y 1)).trans (Eq.trans ?_ (congrArg _ hy.symm))
  rw [h7]
  rfl

end Arr

theorem frame_ref : Cert.quiescent_MemAttnBwdBRefIdeal (hMemAttnBwdBRefIdeal := Cert.MemAttnBwdBRefIdeal.Gen.facts) := fun m ρ _ =>
  (θ_run _ _ _).mono (fun r h => ⟨fun c => (h c).2.2, sem_eq_zero_of_no_sems (by decide) r.2⟩) (Cert.MemAttnBwdBRefIdeal.Value.run m ρ)

theorem alg : Cert.algebraic_MemAttnBwdBIdeal_MemAttnBwdBRefIdeal_pre_mem_attn_bwd_b_finite (hMemAttnBwdBIdeal := Cert.MemAttnBwdBIdeal.Gen.facts)
    (hMemAttnBwdBRefIdeal := Cert.MemAttnBwdBRefIdeal.Gen.facts) (hPre_mem_attn_bwd_b_finite := Cert.Pre_mem_attn_bwd_b_finite.Gen.facts) := by
  intro m g m' g' hpre hag
  refine ⟨fun c => mat (M := 4096) (N := 256) (rQ m c), fun c => mat (M := 256) (N := 512) (fun j k => rM m c j k 4096), ?_, ?_⟩
  · exact (θ_run defs _ _).mono (fun r h c => ⟨(h c).1.trans (arr3_eq m c hpre), (h c).2.1.trans (arr4_eq m c hpre), (h c).2.2⟩)
      (Cert.MemAttnBwdBIdeal.Value.run_blocks m g)
  · refine (θ_run Cert.MemAttnBwdBRefIdeal.defs _ _).mono (fun r h c => ?_) (Cert.MemAttnBwdBRefIdeal.Value.run m' g')
    obtain ⟨hX, hY, hZ⟩ := args m c hpre
    have iX := congrFun hX.eq_mat
    have iY := congrFun hY.eq_mat
    have iZ := congrFun hZ.eq_mat
    refine ⟨(h c).1.trans ?_, (h c).2.1.trans ?_, (h c).2.2⟩
    · rw [Cert.MemAttnBwdBRefIdeal.Read.val_main_v76_eq, (hag c).1, (hag c).2.1, (hag c).2.2]
      exact funext fun i => r75 iX iY iZ (fun _ _ => rfl) (fun _ _ => rfl) (fun _ _ => rfl) i
    · rw [Cert.MemAttnBwdBRefIdeal.Read.val_main_v77_eq, (hag c).1, (hag c).2.1, (hag c).2.2]
      exact funext fun i => r76 iX iY iZ (fun _ _ => rfl) (fun _ _ => rfl) (fun _ _ => rfl) i

end Cert.Hand.MemAttnB

end
-- ==== Proof.MemFwd.lean ====
module

public import proofs.«01_k».proof.Proof.Softmax
public import proofs.«01_k».proof.Proof.Gen.MemAttnFwdIdeal.Value
public import proofs.«01_k».proof.Proof.Gen.MemAttnFwdRefIdeal.Read
public import proofs.«01_k».proof.Proof.Gen.MemAttnFwdRefIdeal.Run
public import proofs.«01_k».proof.Defs

/-!
The memory attention: the kernel's blocks of two heads against the plain program's four heads, for every input (a lane that the
kernel masks adds zero to a sum).
-/

@[expose] public section

set_option maxRecDepth 16384

noncomputable section

namespace Cert.Hand.MemFwd

open Idealize.ShloMosaic Idealize.ShloMosaic.TcCoe Idealize.SL.Sem
open Cert.MemAttnFwdIdeal Cert.MemAttnFwdIdeal.Gen
open Cert.Hand.Sb

theorem hz : (![0, 0] : Fin 2 → Nat) = fun _ => 0 := funext fun a => by fin_cases a <;> rfl

/-- The greatest of a row of scores, -/
def top (s : Fin 256 → EReal) : EReal := Finset.univ.fold (max : EReal → EReal → EReal) (Ideal.ofBits .f32 0xFF800000#32) s
/-- a row's weights, -/
def soft (s : Fin 256 → EReal) (j : Fin 256) : EReal := Ideal.div (Ideal.exp (s j - top s)) (∑ l, Ideal.exp (s l - top s))
/-- a query's score of a key, -/
def score (q k : Fin 64 → EReal) : EReal := (∑ d, q d * k d) * Ideal.ofBits .f32 0x3E000000#32
/-- and one entry of the attention of one head. -/
def att (q : Fin 64 → EReal) (k : Fin 256 → Fin 64 → EReal) (v : Fin 256 → EReal) : EReal :=
  ∑ j, soft (fun l => score q (k l)) j * v j

theorem att_congr {q q' : Fin 64 → EReal} {k k' : Fin 256 → Fin 64 → EReal} {v v' : Fin 256 → EReal} (hq : ∀ d, q d = q' d)
    (hk : ∀ j d, k j d = k' j d) (hv : ∀ j, v j = v' j) : att q k v = att q' k' v' := by
  rw [funext hq, funext fun j => funext (hk j), funext hv]

section Parts
variable {M : ℕ} {x : FVec Ideal ⟨2, ![M, 128]⟩ .bf16}

/-- The first head's lanes, -/
abbrev lo (x : FVec Ideal ⟨2, ![M, 128]⟩ .bf16) (h : (Mat M 128).Iotas .tc 32 [1]) : FVec Ideal ⟨2, ![M, 128]⟩ .bf16 :=
  select (cmpi .slt (iota .tc ⟨2, ![M, 128]⟩ 32 [1] h) (broadcast ⟨2, ![M, 128]⟩ 64#32)) x (broadcast ⟨2, ![M, 128]⟩ (Scalar.ofBits .bf16 0x0000#16 : Ideal .bf16))
/-- and the second's. -/
abbrev hi (x : FVec Ideal ⟨2, ![M, 128]⟩ .bf16) (h : (Mat M 128).Iotas .tc 32 [1]) : FVec Ideal ⟨2, ![M, 128]⟩ .bf16 :=
  select (cmpi .sge (iota .tc ⟨2, ![M, 128]⟩ 32 [1] h) (broadcast ⟨2, ![M, 128]⟩ 64#32)) x (broadcast ⟨2, ![M, 128]⟩ (Scalar.ofBits .bf16 0x0000#16 : Ideal .bf16))

theorem zero_bf : (Scalar.ofBits .bf16 0x0000#16 : Ideal .bf16) = (0 : EReal) := zero16.trans EReal.coe_zero

theorem lo_apply (h) (r : Fin M) (c : Fin 128) : lo x h (ix2 r c) = if c.val < 64 then (x (ix2 r c) : EReal) else 0 := by
  have e : cmpi .slt (iota .tc ⟨2, ![M, 128]⟩ 32 [1] h) (broadcast ⟨2, ![M, 128]⟩ 64#32) (ix2 r c) = BitVec.ofBool (decide (c.val < 64)) :=
    (congrArg (Scalar.cmpi .slt · (64#32)) (iota1 h r c)).trans (congrArg BitVec.ofBool (slt_nat _ 64 (by omega) (by omega)))
  show (if _ = 1#1 then x (ix2 r c) else (Scalar.ofBits .bf16 0x0000#16 : Ideal .bf16)) = _
  rw [e, zero_bf]
  by_cases hc : c.val < 64 <;> simp [hc]

theorem hi_apply (h) (r : Fin M) (c : Fin 128) : hi x h (ix2 r c) = if 64 ≤ c.val then (x (ix2 r c) : EReal) else 0 := by
  have e : cmpi .sge (iota .tc ⟨2, ![M, 128]⟩ 32 [1] h) (broadcast ⟨2, ![M, 128]⟩ 64#32) (ix2 r c) = BitVec.ofBool (decide (64 ≤ c.val)) :=
    (congrArg (Scalar.cmpi .sge · (64#32)) (iota1 h r c)).trans (congrArg BitVec.ofBool (sle_nat 64 _ (by omega) (by omega)))
  show (if _ = 1#1 then x (ix2 r c) else (Scalar.ofBits .bf16 0x0000#16 : Ideal .bf16)) = _
  rw [e, zero_bf]
  by_cases hc : 64 ≤ c.val <;> simp [hc]

end Parts

/-- A head's lane, of two heads' lanes. -/
def lane (h : ℕ) (hh : h < 2) (e : Fin 64) : Fin 128 := ⟨64 * h + e.val, by omega⟩

theorem sum_lanes (f : Fin 128 → EReal) : ∑ i, f i = (∑ e, f (lane 0 (by omega) e)) + ∑ e, f (lane 1 (by omega) e) := by
  refine (Fin.sum_univ_add (a := 64) (b := 64) f).trans (congrArg₂ (· + ·) ?_ ?_) <;> refine Finset.sum_congr rfl fun e _ => congrArg f (Fin.ext ?_)
  · show e.val = 64 * 0 + e.val; omega
  · show 64 + e.val = 64 * 1 + e.val; omega

theorem sum_lo (a b : Fin 128 → EReal) : ∑ i : Fin 128, (if i.val < 64 then a i else 0) * b i = ∑ e, a (lane 0 (by omega) e) * b (lane 0 (by omega) e) := by
  rw [sum_lanes]
  refine (congrArg₂ (· + ·) (Finset.sum_congr rfl fun e _ => ?_) (Finset.sum_eq_zero fun e _ => ?_)).trans (add_zero _)
  · rw [if_pos (by show 64 * 0 + e.val < 64; omega)]
  · rw [if_neg (by show ¬64 * 1 + e.val < 64; omega), zero_mul]

theorem sum_hi (a b : Fin 128 → EReal) : ∑ i : Fin 128, (if 64 ≤ i.val then a i else 0) * b i = ∑ e, a (lane 1 (by omega) e) * b (lane 1 (by omega) e) := by
  rw [sum_lanes]
  refine (congrArg₂ (· + ·) (Finset.sum_eq_zero fun e _ => ?_) (Finset.sum_congr rfl fun e _ => ?_)).trans (zero_add _)
  · rw [if_neg (by show ¬64 ≤ 64 * 0 + e.val; omega), zero_mul]
  · rw [if_pos (by show 64 ≤ 64 * 1 + e.val; omega)]

/-- A block of scores' weights. -/
abbrev softV (s : FVec Ideal S512x256 .f32) : FVec Ideal S512x256 .f32 :=
  divf (exp (subf s (broadcastTo S512x256 (shapeCast S512x1 (multiReduction (F := Ideal) .maximumf [1] S512 s 0xFF800000#32 reduces_S512x256_S512 (.inl rfl) rfl) shapeCasts_S512_S512x1) broadcasts_S512x1_S512x256)))
    (broadcastTo S512x256 (shapeCast S512x1 (multiReduction (F := Ideal) .add [1] S512
      (exp (subf s (broadcastTo S512x256 (shapeCast S512x1 (multiReduction (F := Ideal) .maximumf [1] S512 s 0xFF800000#32 reduces_S512x256_S512 (.inl rfl) rfl) shapeCasts_S512_S512x1) broadcasts_S512x1_S512x256)))
      0x00000000#32 reduces_S512x256_S512 (.inl rfl) rfl) shapeCasts_S512_S512x1) broadcasts_S512x1_S512x256)

/-- A block of scores of the lanes `x`. -/
abbrev scoreV (x : FVec Ideal S512x128 .bf16) (k : FVec Ideal S256x128 .bf16) : FVec Ideal S512x256 .f32 :=
  mulf (matmul dot_S512x128_S256x128_S512x256_1_1_0_0_n_n none x k (constant S512x256 .f32 0x00000000#32)) (broadcast S512x256 (Scalar.ofBits .f32 0x3E000000#32 : Ideal .f32))

/-- One head's part of a block, of the lanes `x` and `y`. -/
abbrev headV (x : FVec Ideal S512x128 .bf16) (k y : FVec Ideal S256x128 .bf16) : FVec Ideal S512x128 .f32 :=
  matmul dot_S512x256_S256x128_S512x128_1_0_0_1_n_n none (truncf .bf16 (softV (scoreV x k)) bitsLt_bf16_f32) y (constant S512x128 .f32 0x00000000#32)

theorem headV_apply (x : FVec Ideal S512x128 .bf16) (k y : FVec Ideal S256x128 .bf16) (r : Fin 512) (d : Fin 128) :
    headV x k y (ix2 r d) = ∑ j, soft (fun l => (∑ i, (x (ix2 r i) : EReal) * k (ix2 l i)) * Ideal.ofBits .f32 0x3E000000#32) j * y (ix2 j d) := by
  pointwise []
  rfl

/-- A block: both heads' parts. -/
abbrev blockV (q : FVec Ideal S512x128 .bf16) (k v : FVec Ideal S256x128 .bf16) : FVec Ideal S512x128 .f32 :=
  addf (addf (broadcast S512x128 (Scalar.ofBits .f32 0x00000000#32 : Ideal .f32)) (headV (lo q iota_S512x128_d1_w32) k (lo v iota_S256x128_d1_w32)))
    (headV (hi q iota_S512x128_d1_w32) k (hi v iota_S256x128_d1_w32))

theorem blockV_apply (q : FVec Ideal S512x128 .bf16) (k v : FVec Ideal S256x128 .bf16) (r : Fin 512) (d : Fin 128) (h : ℕ) (hh : h < 2) (hd : d.val / 64 = h) :
    blockV q k v (ix2 r d) = att (fun e => q (ix2 r (lane h hh e))) (fun j e => k (ix2 j (lane h hh e))) (fun j => v (ix2 j d)) := by
  have e : blockV q k v (ix2 r d) = (0 + headV (lo q iota_S512x128_d1_w32) k (lo v iota_S256x128_d1_w32) (ix2 r d) : EReal)
      + headV (hi q iota_S512x128_d1_w32) k (hi v iota_S256x128_d1_w32) (ix2 r d) := by
    show ((Scalar.ofBits .f32 0x00000000#32 : Ideal .f32) + _ : EReal) + _ = _
    rw [show (Scalar.ofBits .f32 0x00000000#32 : Ideal .f32) = (0 : EReal) from zero_bits.trans EReal.coe_zero]
  rw [e, headV_apply, headV_apply, zero_add]
  simp only [lo_apply, hi_apply, sum_lo, sum_hi]
  have hd2 : d.val < 128 := d.isLt
  by_cases h0 : d.val < 64
  · obtain rfl : h = 0 := by omega
    simp only [h0, if_true, if_neg (show ¬64 ≤ d.val by omega), mul_zero, Finset.sum_const_zero, add_zero]
    rfl
  · obtain rfl : h = 1 := by omega
    simp only [h0, if_false, if_pos (show 64 ≤ d.val by omega), mul_zero, Finset.sum_const_zero, zero_add]
    rfl

theorem first_eq (q : Vec Ideal S512x128 .f32) (k v : Vec Ideal S256x128 .bf16) :
    k0_pay10 k0_pay5 v (k0_pay7 q k v) (k0_pay8 q k) (k0_pay9 (F := Ideal)) = blockV q k v := rfl

theorem second_eq (q : Vec Ideal S512x128 .f32) (k v : Vec Ideal S256x128 .bf16) :
    k0_pay1 k0_pay3 k0_pay5 (k0_pay11 q) k v (k0_pay12 (F := Ideal)) (k0_pay13 k0_pay2 q k) (k0_pay14 k0_pay4 v) (constant S512x128 .f32 0x00000000#32) = blockV q k v := rfl

/-- Two stores of a block's halves. -/
theorem halves {w0 w1 : S512x128.Idx → EReal} {i0 i1} {r : Fin 512} {c : Fin 256} {z : EReal}
    (h0 : ∀ d : Fin 128, d.val = c.val → w0 (ix2 r d) = z) (h1 : ∀ d : Fin 128, 128 + d.val = c.val → w1 (ix2 r d) = z) :
    View.canon (Val := fun _ => EReal) (e := .bf16) [⟨Rect.unit (s := S512x256) ![0, 128] S512x128.size i1, w1⟩, ⟨Rect.unit (s := S512x256) ![0, 0] S512x128.size i0, w0⟩] (ix2 r c) = z := by
  have hc : c.val < 256 := c.isLt
  by_cases h : c.val < 128
  · rw [View.canon_cons_of_not_mem]
    · have e : (Rect.unit (s := S512x256) ![0, 0] S512x128.size i0).emb (ix2 r (⟨c.val, h⟩ : Fin 128)) = ix2 r c := by
        refine Rect.emb_eq_of_coords _ _ _ fun a => ?_
        match a with
        | ⟨0, _⟩ => show r.val = 0 + 1 * r.val; omega
        | ⟨1, _⟩ => show c.val = 0 + 1 * c.val; omega
      rw [← e, View.canon_cons_emb]
      exact h0 _ rfl
    · exact Rect.not_mem_set_of_axis _ _ (1 : Fin 2) 128 128 rfl rfl rfl (by show c.val < 128 ∨ 128 + 128 ≤ c.val; omega)
  · have e : (Rect.unit (s := S512x256) ![0, 128] S512x128.size i1).emb (ix2 r (⟨c.val - 128, by omega⟩ : Fin 128)) = ix2 r c := by
      refine Rect.emb_eq_of_coords _ _ _ fun a => ?_
      match a with
      | ⟨0, _⟩ => show r.val = 0 + 1 * r.val; omega
      | ⟨1, _⟩ => show c.val = 128 + 1 * (c.val - 128); omega
    rw [← e, View.canon_cons_emb]
    exact h1 _ (by show 128 + (c.val - 128) = c.val; omega)

theorem eq_of {n1 n2 : ℕ} {i : (⟨2, ![n1, n2]⟩ : Shape).Idx} {r : Fin n1} {c : Fin n2} (h0 : (i 0).val = r.val) (h1 : (i 1).val = c.val) : i = ix2 r c :=
  (eq_ix2 i).trans (congrArg₂ ix2 (Fin.ext h0) (Fin.ext h1))

/-- A load of 128 columns from the `o`th on. -/
theorem ld_at {M N o : ℕ} {e : EltTy} (a : (⟨2, ![M, N]⟩ : Shape).Idx → EReal) (inb) (r : Fin M) (d : Fin 128) (k : Fin N) (hk : k.val = o + d.val) :
    View.ld (Val := fun _ => EReal) (e' := e) (S := ⟨2, ![M, N]⟩) a (Rect.unit ![0, o] ![M, 128] inb) (ix2 r d) = a (ix2 r k) := by
  refine congrArg a (eq_of ?_ ?_)
  · show 0 + 1 * r.val = r.val; omega
  · show o + 1 * d.val = k.val; omega

/-- The attention of a block of queries: 256 columns, four heads. -/
def B {M : ℕ} (x : (⟨2, ![M, 256]⟩ : Shape).Idx → EReal) (y : (⟨2, ![256, 512]⟩ : Shape).Idx → EReal) (r : Fin M) (c : Fin 256) : EReal :=
  att (fun e => x (ix2 r (⟨64 * (c.val / 64) + e.val, by omega⟩ : Fin 256))) (fun j e => y (ix2 j (⟨64 * (c.val / 64) + e.val, by omega⟩ : Fin 512)))
    (fun j => y (ix2 j (⟨256 + c.val, by omega⟩ : Fin 512)))

theorem out_apply (x0 : Vec Ideal S512x256 .f32) (x1 : Vec Ideal S256x512 .bf16) (r : Fin 512) (c : Fin 256) : out0_2 x0 x1 (ix2 r c) = B x0 x1 r c := by
  unfold_out out0_2
  have hc : c.val < 256 := c.isLt
  refine halves (fun d hd => ?_) fun d hd => ?_
  · refine (congrFun (first_eq _ _ _) (ix2 r d)).trans ((blockV_apply _ _ _ r d (d.val / 64) (by omega) rfl).trans (att_congr (fun e => ?_) (fun j e => ?_) fun j => ?_))
    · exact ld_at (e := .f32) x0 _ r _ _ (by show 64 * (c.val / 64) + e.val = 0 + (64 * (d.val / 64) + e.val); omega)
    · exact ld_at (e := .bf16) x1 _ j _ _ (by show 64 * (c.val / 64) + e.val = 0 + (64 * (d.val / 64) + e.val); omega)
    · exact ld_at (e := .bf16) x1 _ j _ _ (by show 256 + c.val = 256 + d.val; omega)
  · refine (congrFun (second_eq _ _ _) (ix2 r d)).trans ((blockV_apply _ _ _ r d (d.val / 64) (by omega) rfl).trans (att_congr (fun e => ?_) (fun j e => ?_) fun j => ?_))
    · exact ld_at (e := .f32) x0 _ r _ _ (by show 64 * (c.val / 64) + e.val = 128 + (64 * (d.val / 64) + e.val); omega)
    · exact ld_at (e := .bf16) x1 _ j _ _ (by show 64 * (c.val / 64) + e.val = 128 + (64 * (d.val / 64) + e.val); omega)
    · exact ld_at (e := .bf16) x1 _ j _ _ (by show 256 + c.val = 384 + d.val; omega)

/-- The attention of all the queries: the last 256 columns of the projection. -/
def AT (x : S4096x1024.Idx → EReal) (y : S256x512.Idx → EReal) (j : S4096x256.Idx) : EReal :=
  B (M := 4096) (fun i => x (ix2 (i 0) (⟨768 + (i 1).val, Nat.add_lt_add_left (m := 256) (i 1).isLt 768⟩ : Fin 1024))) y (j 0) (j 1)

theorem idx : ∀ t : Fin cfg0.N, win0_0.index t 0 = t.val ∧ win0_0.index t 1 = 3 ∧ win0_1.index t 0 = 0 ∧ win0_1.index t 1 = 0
    ∧ win0_2.index t 0 = t.val ∧ win0_2.index t 1 = 0 := by
  decide +kernel

section Arr
variable (m : (ℓ : Loc nD τ sig) → Buf (Elt Ideal) ℓ) (c : Dev nD)

theorem in0 (t : Fin cfg0.N) (r : Fin 512) (k : Fin 256) :
    iblk m c 0 t (ix2 r k) = m ((c : Thread nD τ).loc main_arg0) (ix2 (⟨512 * t.val + r.val, by have : t.val < 8 := t.isLt; omega⟩ : Fin 4096) (⟨768 + k.val, by omega⟩ : Fin 1024)) := by
  obtain ⟨e0, e1, -⟩ := idx t
  blk_ext [iblk, V, e0, e1]

theorem in1 (t : Fin cfg0.N) (r : Fin 256) (k : Fin 512) : iblk m c 1 t (ix2 r k) = m ((c : Thread nD τ).loc main_arg1) (ix2 r k) := by
  obtain ⟨-, -, e0, e1, -⟩ := idx t
  blk_ext [iblk, V, e0, e1]

theorem arr_eq : (dats m 0 c).arrAt 2 cfg0.N = AT (m ((c : Thread nD τ).loc main_arg0)) (m ((c : Thread nD τ).loc main_arg1)) := by
  refine (dats m 0 c).arrAt_eq_of_covers 2 _ (by decide +kernel) fun t hf y => ?_
  obtain ⟨-, -, -, -, e0, e1⟩ := idx t
  have ht : t.val < 8 := t.isLt
  blk_simp
  rw [after0_2, eq_ix2 y]
  have hr : (y 0).val < 512 := (y 0).isLt
  have hy : (win0_2.blk t).view.emb (ix2 (y 0) (y 1)) = (ix2 ⟨512 * t.val + (y 0).val, by omega⟩ (y 1) : S4096x256.Idx) := by
    blk_ext [e0, e1]
  refine (out_apply _ _ (y 0) (y 1)).trans (Eq.trans ?_ (congrArg _ hy.symm))
  exact att_congr (fun e => in0 m c t (y 0) _) (fun j e => in1 m c t j _) fun j => in1 m c t j _

end Arr

section Ref
open Cert.MemAttnFwdRefIdeal.Read
variable (x : S4096x1024.Idx → EReal) (y : S256x512.Idx → EReal)

theorem ref8 (r : Fin 4096) (h : Fin 4) (d : Fin 64) :
    val_main_v8 (F := Ideal) x (ix4 (0 : Fin 1) r h d) = x (ix2 r (⟨768 + (64 * h.val + d.val), by omega⟩ : Fin 1024)) := by
  rw [val_main_v8_apply, val_main_v7_apply, val_main_v6_apply]
  refine congrArg x (eq_of ?_ ?_)
  · show (((0 * 4096 + r.val) * 4 + h.val) * 64 + d.val) / 256 % 4096 = r.val; omega
  · show 768 + (((0 * 4096 + r.val) * 4 + h.val) * 64 + d.val) % 256 = 768 + (64 * h.val + d.val); omega

theorem ref4 (j : Fin 256) (h : Fin 4) (d : Fin 64) :
    val_main_v4 (F := Ideal) y (ix4 (0 : Fin 1) j h d) = y (ix2 j (⟨64 * h.val + d.val, by omega⟩ : Fin 512)) := by
  rw [val_main_v4_apply, val_main_v2_apply, val_main_v1_apply]
  refine congrArg y (eq_of ?_ ?_)
  · show (((0 * 256 + j.val) * 4 + h.val) * 64 + d.val) / 256 % 256 = j.val; omega
  · show (((0 * 256 + j.val) * 4 + h.val) * 64 + d.val) % 256 = 64 * h.val + d.val; omega

theorem ref5 (j : Fin 256) (h : Fin 4) (d : Fin 64) :
    val_main_v5 (F := Ideal) y (ix4 (0 : Fin 1) j h d) = y (ix2 j (⟨256 + (64 * h.val + d.val), by omega⟩ : Fin 512)) := by
  rw [val_main_v5_apply, val_main_v3_apply, val_main_v1_apply]
  refine congrArg y (eq_of ?_ ?_)
  · show (((0 * 256 + j.val) * 4 + h.val) * 64 + d.val) / 256 % 256 = j.val; omega
  · show 256 + (((0 * 256 + j.val) * 4 + h.val) * 64 + d.val) % 256 = 256 + (64 * h.val + d.val); omega

theorem ref11 (h : Fin 4) (r : Fin 4096) (j : Fin 256) : val_main_v11 (F := Ideal) x y (ix4 (0 : Fin 1) h r j)
    = score (fun d => x (ix2 r (⟨768 + (64 * h.val + d.val), by omega⟩ : Fin 1024))) (fun d => y (ix2 j (⟨64 * h.val + d.val, by omega⟩ : Fin 512))) := by
  rw [val_main_v11_apply, val_main_v9_apply]
  refine congrArg (· * Ideal.ofBits .f32 0x3E000000#32) (Finset.sum_congr rfl fun d _ => ?_)
  exact congrArg₂ (· * ·) (ref8 x r h d) (ref4 y j h d)

theorem ref14 (h : Fin 4) (r : Fin 4096) : val_main_v14 (F := Ideal) x y (ix3 (0 : Fin 1) h r) = top (fun l => val_main_v11 (F := Ideal) x y (ix4 (0 : Fin 1) h r l)) := by
  have e : val_main_v12 (F := Ideal) x y (ix3 (0 : Fin 1) h r) = top (fun l => val_main_v11 (F := Ideal) x y (ix4 (0 : Fin 1) h r l)) := by
    pointwise [val_main_v12]
    rfl
  rw [val_main_v14_apply, e]
  show max (Ideal.ofBits .f32 0xFF800000#32) _ = _
  rw [Attn.low_bits]
  exact max_eq_right bot_le

theorem ref18 (h : Fin 4) (r : Fin 4096) (j : Fin 256) : val_main_v18 (F := Ideal) x y (ix4 (0 : Fin 1) h r j)
    = Ideal.exp (val_main_v11 (F := Ideal) x y (ix4 (0 : Fin 1) h r j) - top (fun l => val_main_v11 (F := Ideal) x y (ix4 (0 : Fin 1) h r l))) := by
  rw [val_main_v18_apply, val_main_v17_apply, val_main_v16_apply, val_main_v15_apply]
  have e : idx_main_v15 (idx_main_v16 (ix4 (0 : Fin 1) h r j)) = ix3 (0 : Fin 1) h r := funext fun a => match a with
    | ⟨0, _⟩ => rfl
    | ⟨1, _⟩ => rfl
    | ⟨2, _⟩ => rfl
  rw [e, ref14]
  rfl

theorem ref22 (h : Fin 4) (r : Fin 4096) (j : Fin 256) : val_main_v22 (F := Ideal) x y (ix4 (0 : Fin 1) h r j)
    = soft (fun l => val_main_v11 (F := Ideal) x y (ix4 (0 : Fin 1) h r l)) j := by
  have e : val_main_v19 (F := Ideal) x y (ix3 (0 : Fin 1) h r) = ∑ l, val_main_v18 (F := Ideal) x y (ix4 (0 : Fin 1) h r l) := by
    pointwise [val_main_v19, val_main_cst_2]
  have e' : idx_main_v20 (idx_main_v21 (ix4 (0 : Fin 1) h r j)) = ix3 (0 : Fin 1) h r := funext fun a => match a with
    | ⟨0, _⟩ => rfl
    | ⟨1, _⟩ => rfl
    | ⟨2, _⟩ => rfl
  rw [val_main_v22_apply, val_main_v21_apply, val_main_v20_apply, e', e, ref18]
  exact congrArg (Ideal.div _) (Finset.sum_congr rfl fun l _ => ref18 x y h r l)

theorem ref_eq : val_main_v27 (F := Ideal) x y = AT x y := by
  funext i
  obtain ⟨r, c, rfl⟩ : ∃ r c, i = ix2 r c := ⟨_, _, eq_ix2 i⟩
  have hr : r.val < 4096 := r.isLt
  have hc : c.val < 256 := c.isLt
  show val_main_v26 (F := Ideal) x y (ix2 r c) = _
  rw [val_main_v26_apply, val_main_v25_apply, val_main_v24_apply]
  have e : idx_main_v24 (idx_main_v25 (idx_main_v26 (ix2 r c))) = ix4 (0 : Fin 1) (⟨c.val / 64, by omega⟩ : Fin 4) (⟨c.val % 64, by omega⟩ : Fin 64) r := by
    refine (eq_ix4 _).trans ?_
    congr 1 <;> refine Fin.ext ?_
    · show ((0 * 4096 + (r.val * 256 + c.val) / 256 % 4096) * 256 + (r.val * 256 + c.val) % 256) / 64 % 4 = c.val / 64; omega
    · show ((0 * 4096 + (r.val * 256 + c.val) / 256 % 4096) * 256 + (r.val * 256 + c.val) % 256) % 64 = c.val % 64; omega
    · show ((0 * 4096 + (r.val * 256 + c.val) / 256 % 4096) * 256 + (r.val * 256 + c.val) % 256) / 256 % 4096 = r.val; omega
  rw [e, val_main_v23_apply]
  unfold AT B att
  refine Finset.sum_congr rfl fun j _ => ?_
  have hd : 256 + (64 * (c.val / 64) + c.val % 64) = 256 + c.val := by omega
  have e5 := ref5 y j (⟨c.val / 64, by omega⟩ : Fin 4) (⟨c.val % 64, by omega⟩ : Fin 64)
  have e22 := ref22 x y (⟨c.val / 64, by omega⟩ : Fin 4) r j
  rw [funext fun l => ref11 x y (⟨c.val / 64, by omega⟩ : Fin 4) r l] at e22
  have el : lidx_main_v23 (ix4 (0 : Fin 1) (⟨c.val / 64, by omega⟩ : Fin 4) (⟨c.val % 64, by omega⟩ : Fin 64) r) j
      = ix4 (0 : Fin 1) j (⟨c.val / 64, by omega⟩ : Fin 4) (⟨c.val % 64, by omega⟩ : Fin 64) := funext fun a => match a with
    | ⟨0, _⟩ => rfl
    | ⟨1, _⟩ => rfl
    | ⟨2, _⟩ => rfl
    | ⟨3, _⟩ => rfl
  have er : ridx_main_v23 (ix4 (0 : Fin 1) (⟨c.val / 64, by omega⟩ : Fin 4) (⟨c.val % 64, by omega⟩ : Fin 64) r) j
      = ix4 (0 : Fin 1) (⟨c.val / 64, by omega⟩ : Fin 4) r j := funext fun a => match a with
    | ⟨0, _⟩ => rfl
    | ⟨1, _⟩ => rfl
    | ⟨2, _⟩ => rfl
    | ⟨3, _⟩ => rfl
  rw [el, er, e5, e22, mul_comm]
  have e6 : (⟨256 + (64 * (c.val / 64) + c.val % 64), by omega⟩ : Fin 512) = ⟨256 + c.val, by omega⟩ := Fin.ext hd
  rw [e6]
  rfl

end Ref

theorem frame_ref : Cert.quiescent_MemAttnFwdRefIdeal (hMemAttnFwdRefIdeal := Cert.MemAttnFwdRefIdeal.Gen.facts) := fun m ρ _ =>
  (θ_run _ _ _).mono (fun r h => ⟨fun c => (h c).2, sem_eq_zero_of_no_sems (by decide) r.2⟩) (Cert.MemAttnFwdRefIdeal.Value.run m ρ)

theorem alg : Cert.algebraic_MemAttnFwdIdeal_MemAttnFwdRefIdeal (hMemAttnFwdIdeal := Cert.MemAttnFwdIdeal.Gen.facts) (hMemAttnFwdRefIdeal := Cert.MemAttnFwdRefIdeal.Gen.facts) := by
  intro m g m' g' _ hag
  refine ⟨_, (θ_run defs _ _).mono (fun r h c => ⟨(h c).1.trans (arr_eq m c), (h c).2⟩) (Cert.MemAttnFwdIdeal.Value.run_blocks m g), ?_⟩
  refine (θ_run Cert.MemAttnFwdRefIdeal.defs _ _).mono (fun r h c => ⟨(h c).1.trans ?_, (h c).2⟩) (Cert.MemAttnFwdRefIdeal.Value.run m' g')
  rw [Cert.MemAttnFwdRefIdeal.Read.val_main_v27_eq, (hag c).1, (hag c).2]
  exact ref_eq _ _

end Cert.Hand.MemFwd

end
-- ==== Proof.MemFwdB.lean ====
module

public import proofs.«01_k».proof.Proof.MemFwd
public import proofs.«01_k».proof.Proof.Gen.MemAttnFwdBIdeal.Value
public import proofs.«01_k».proof.Proof.Gen.MemAttnFwdBRefIdeal.Read
public import proofs.«01_k».proof.Proof.Gen.MemAttnFwdBRefIdeal.Run

/-!
The memory attention of the second branch: the projection comes in half precision, and the values are those of the first branch.
-/

@[expose] public section

set_option maxRecDepth 16384

noncomputable section

namespace Cert.Hand.MemFwdB

open Idealize.ShloMosaic Idealize.ShloMosaic.TcCoe Idealize.SL.Sem
open Cert.MemAttnFwdBIdeal Cert.MemAttnFwdBIdeal.Gen
open Cert.Hand.Sb

theorem out_same (x0 : S512x256.Idx → EReal) (x1 : S256x512.Idx → EReal) : out0_2 (F := Ideal) x0 x1 = Cert.MemAttnFwdIdeal.Gen.out0_2 (F := Ideal) x0 x1 := rfl

theorem ref_same (x : S4096x1024.Idx → EReal) (y : S256x512.Idx → EReal) :
    Cert.MemAttnFwdBRefIdeal.Read.val_main_v28 (F := Ideal) x y = Cert.MemAttnFwdRefIdeal.Read.val_main_v27 (F := Ideal) x y := rfl

theorem idx : ∀ t : Fin cfg0.N, win0_0.index t 0 = t.val ∧ win0_0.index t 1 = 3 ∧ win0_1.index t 0 = 0 ∧ win0_1.index t 1 = 0
    ∧ win0_2.index t 0 = t.val ∧ win0_2.index t 1 = 0 := by
  decide +kernel

section Arr
variable (m : (ℓ : Loc nD τ sig) → Buf (Elt Ideal) ℓ) (c : Dev nD)

theorem in0 (t : Fin cfg0.N) (r : Fin 512) (k : Fin 256) :
    iblk m c 0 t (ix2 r k) = m ((c : Thread nD τ).loc main_arg0) (ix2 (⟨512 * t.val + r.val, by have : t.val < 8 := t.isLt; omega⟩ : Fin 4096) (⟨768 + k.val, by omega⟩ : Fin 1024)) := by
  obtain ⟨e0, e1, -⟩ := idx t
  blk_ext [iblk, V, e0, e1]

theorem in1 (t : Fin cfg0.N) (r : Fin 256) (k : Fin 512) : iblk m c 1 t (ix2 r k) = m ((c : Thread nD τ).loc main_arg1) (ix2 r k) := by
  obtain ⟨-, -, e0, e1, -⟩ := idx t
  blk_ext [iblk, V, e0, e1]

theorem arr_eq : (dats m 0 c).arrAt 2 cfg0.N = MemFwd.AT (m ((c : Thread nD τ).loc main_arg0)) (m ((c : Thread nD τ).loc main_arg1)) := by
  refine (dats m 0 c).arrAt_eq_of_covers 2 _ (by decide +kernel) fun t hf y => ?_
  obtain ⟨-, -, -, -, e0, e1⟩ := idx t
  have ht : t.val < 8 := t.isLt
  blk_simp
  rw [after0_2, eq_ix2 y]
  have hr : (y 0).val < 512 := (y 0).isLt
  have hy : (win0_2.blk t).view.emb (ix2 (y 0) (y 1)) = (ix2 ⟨512 * t.val + (y 0).val, by omega⟩ (y 1) : S4096x256.Idx) := by
    blk_ext [e0, e1]
  refine (congrFun (out_same _ _) _).trans ((MemFwd.out_apply _ _ (y 0) (y 1)).trans (Eq.trans ?_ (congrArg _ hy.symm)))
  exact MemFwd.att_congr (fun e => in0 m c t (y 0) _) (fun j e => in1 m c t j _) fun j => in1 m c t j _

end Arr

theorem frame_ref : Cert.quiescent_MemAttnFwdBRefIdeal (hMemAttnFwdBRefIdeal := Cert.MemAttnFwdBRefIdeal.Gen.facts) := fun m ρ _ =>
  (θ_run _ _ _).mono (fun r h => ⟨fun c => (h c).2, sem_eq_zero_of_no_sems (by decide) r.2⟩) (Cert.MemAttnFwdBRefIdeal.Value.run m ρ)

theorem alg : Cert.algebraic_MemAttnFwdBIdeal_MemAttnFwdBRefIdeal (hMemAttnFwdBIdeal := Cert.MemAttnFwdBIdeal.Gen.facts) (hMemAttnFwdBRefIdeal := Cert.MemAttnFwdBRefIdeal.Gen.facts) := by
  intro m g m' g' _ hag
  refine ⟨_, (θ_run defs _ _).mono (fun r h c => ⟨(h c).1.trans (arr_eq m c), (h c).2⟩) (Cert.MemAttnFwdBIdeal.Value.run_blocks m g), ?_⟩
  refine (θ_run Cert.MemAttnFwdBRefIdeal.defs _ _).mono (fun r h c => ⟨(h c).1.trans ?_, (h c).2⟩) (Cert.MemAttnFwdBRefIdeal.Value.run m' g')
  rw [Cert.MemAttnFwdBRefIdeal.Read.val_main_v28_eq, (hag c).1, (hag c).2]
  exact (ref_same _ _).trans (MemFwd.ref_eq _ _)

end Cert.Hand.MemFwdB

end
-- ==== Proof.GateFwd.lean ====
module

public import proofs.«01_k».proof.Proof.Gen.GateFwdIdeal.Value
public import proofs.«01_k».proof.Proof.Gen.GateFwdRefIdeal.Read
public import proofs.«01_k».proof.Proof.Gen.GateFwdRefIdeal.Run
public import proofs.«01_k».proof.Defs
public import Idealize.ShloMosaic.Lib.Pointwise
public import Idealize.ShloMosaic.Lib.Pipeline.ValueKit

/-!
The feed-forward's gate: the kernel's column blocks of the two products and of the gated product, against the plain program's whole
arrays, for every input.
-/

@[expose] public section

set_option maxRecDepth 16384

noncomputable section

namespace Cert.Hand.GateFwd

open Idealize.ShloMosaic Idealize.ShloMosaic.TcCoe Idealize.SL.Sem
open Cert.GateFwdIdeal Cert.GateFwdIdeal.Gen

theorem hz : (![0, 0] : Fin 2 → Nat) = fun _ => 0 := funext fun a => by fin_cases a <;> rfl

theorem frame_ref : Cert.quiescent_GateFwdRefIdeal (hGateFwdRefIdeal := Cert.GateFwdRefIdeal.Gen.facts) := fun m ρ _ =>
  (θ_run _ _ _).mono (fun r h => ⟨fun c => (h c).2.2.2, sem_eq_zero_of_no_sems (by decide) r.2⟩) (Cert.GateFwdRefIdeal.Value.run m ρ)

/-- One entry of a product. -/
def dot (x w : Fin 1024 → EReal) : EReal := ∑ i, x i * w i

/-- The gated product of two entries. -/
def act (g u : EReal) : EReal := g * Ideal.logistic g * u

theorem dot_congr {x x' w w' : Fin 1024 → EReal} (hx : ∀ i, x i = x' i) (hw : ∀ i, w i = w' i) : dot x w = dot x' w' := by
  rw [funext hx, funext hw]

/-- The gate's and the other product's entries: the weight's left half and its right half. -/
def G (x : S4096x1024.Idx → EReal) (w : S1024x5632.Idx → EReal) (j : S4096x2816.Idx) : EReal :=
  dot (fun i => x (ix2 (j 0) i)) (fun i => w (ix2 i (⟨(j 1).val, Nat.lt_of_lt_of_le (j 1).isLt (by decide)⟩ : Fin 5632)))
def U (x : S4096x1024.Idx → EReal) (w : S1024x5632.Idx → EReal) (j : S4096x2816.Idx) : EReal :=
  dot (fun i => x (ix2 (j 0) i)) (fun i => w (ix2 i (⟨2816 + (j 1).val, Nat.add_lt_add_left (m := 2816) (j 1).isLt 2816⟩ : Fin 5632)))
def A (x : S4096x1024.Idx → EReal) (w : S1024x5632.Idx → EReal) (j : S4096x2816.Idx) : EReal := act (G x w j) (U x w j)

theorem pay1_apply (x0 : Vec Ideal S4096x1024 .bf16) (x1 : Vec Ideal S1024x256 .bf16) (r : Fin 4096) (k : Fin 256) :
    k0_pay1 x0 x1 (ix2 r k) = dot (fun i => x0 (ix2 r i)) (fun i => x1 (ix2 i k)) := by
  pointwise [k0_pay1]
  rfl

theorem pay2_apply (x0 : Vec Ideal S4096x1024 .bf16) (x1 : Vec Ideal S1024x256 .bf16) (r : Fin 4096) (k : Fin 256) :
    k0_pay2 x0 x1 (ix2 r k) = dot (fun i => x0 (ix2 r i)) (fun i => x1 (ix2 i k)) := pay1_apply x0 x1 r k

theorem pay5_apply (x0 : Vec Ideal S4096x1024 .bf16) (x1 x2 : Vec Ideal S1024x256 .bf16) (r : Fin 4096) (k : Fin 256) :
    k0_pay5 x0 x1 x2 (ix2 r k) = act (k0_pay1 x0 x1 (ix2 r k)) (k0_pay2 x0 x2 (ix2 r k)) := by
  pointwise [k0_pay5]
  rfl

theorem idx : ∀ t : Fin cfg0.N, win0_0.index t 0 = 0 ∧ win0_0.index t 1 = 0 ∧ win0_1.index t 0 = 0 ∧ win0_1.index t 1 = t.val
    ∧ win0_2.index t 0 = 0 ∧ win0_2.index t 1 = t.val + 11 ∧ win0_3.index t 0 = 0 ∧ win0_3.index t 1 = t.val
    ∧ win0_4.index t 0 = 0 ∧ win0_4.index t 1 = t.val ∧ win0_5.index t 0 = 0 ∧ win0_5.index t 1 = t.val := by
  decide +kernel

variable (m : (ℓ : Loc nD τ sig) → Buf (Elt Ideal) ℓ) (c : Dev nD)

theorem in0 (t : Fin cfg0.N) (r : Fin 4096) (k : Fin 1024) :
    iblk m c 0 t (ix2 r k) = m ((c : Thread nD τ).loc main_arg0) (ix2 r k) := by
  obtain ⟨e0, e1, -⟩ := idx t
  blk_ext [iblk, V, e0, e1]

theorem in1 (t : Fin cfg0.N) (r : Fin 1024) (k : Fin 256) :
    iblk m c 1 t (ix2 r k) = m ((c : Thread nD τ).loc main_arg1) (ix2 r (⟨256 * t.val + k.val, by have : t.val < 11 := t.isLt; omega⟩ : Fin 5632)) := by
  obtain ⟨-, -, e0, e1, -⟩ := idx t
  blk_ext [iblk, V, e0, e1]

theorem in2 (t : Fin cfg0.N) (r : Fin 1024) (k : Fin 256) :
    iblk m c 2 t (ix2 r k) = m ((c : Thread nD τ).loc main_arg1) (ix2 r (⟨2816 + (256 * t.val + k.val), by have : t.val < 11 := t.isLt; omega⟩ : Fin 5632)) := by
  obtain ⟨-, -, -, -, e0, e1, -⟩ := idx t
  blk_ext [iblk, V, e0, e1]

theorem gate_block (t : Fin cfg0.N) (r : Fin 4096) (k : Fin 256) (h : 256 * t.val + k.val < 2816) :
    k0_pay1 (iblk m c 0 t) (iblk m c 1 t) (ix2 r k)
      = G (m ((c : Thread nD τ).loc main_arg0)) (m ((c : Thread nD τ).loc main_arg1)) (ix2 r ⟨256 * t.val + k.val, h⟩) :=
  (pay1_apply _ _ r k).trans (dot_congr (fun i => in0 m c t r i) (fun i => in1 m c t i k))

theorem up_block (t : Fin cfg0.N) (r : Fin 4096) (k : Fin 256) (h : 256 * t.val + k.val < 2816) :
    k0_pay2 (iblk m c 0 t) (iblk m c 2 t) (ix2 r k)
      = U (m ((c : Thread nD τ).loc main_arg0)) (m ((c : Thread nD τ).loc main_arg1)) (ix2 r ⟨256 * t.val + k.val, h⟩) :=
  (pay2_apply _ _ r k).trans (dot_congr (fun i => in0 m c t r i) (fun i => in2 m c t i k))

theorem act_block (t : Fin cfg0.N) (r : Fin 4096) (k : Fin 256) (h : 256 * t.val + k.val < 2816) :
    k0_pay5 (iblk m c 0 t) (iblk m c 1 t) (iblk m c 2 t) (ix2 r k)
      = A (m ((c : Thread nD τ).loc main_arg0)) (m ((c : Thread nD τ).loc main_arg1)) (ix2 r ⟨256 * t.val + k.val, h⟩) := by
  rw [pay5_apply, gate_block m c t r k h, up_block m c t r k h]
  rfl

theorem lt_of (t : Fin cfg0.N) (k : Fin 256) : 256 * t.val + k.val < 2816 := by
  have : t.val < 11 := t.isLt
  omega

theorem arr3_eq : (dats m 0 c).arrAt 3 cfg0.N = G (m ((c : Thread nD τ).loc main_arg0)) (m ((c : Thread nD τ).loc main_arg1)) := by
  refine (dats m 0 c).arrAt_eq_of_covers 3 _ (by decide +kernel) fun t hf y => ?_
  obtain ⟨-, -, -, -, -, -, e0, e1, -⟩ := idx t
  blk_simp
  rw [after0_3, eq_ix2 y]
  have hy : (win0_3.blk t).view.emb (ix2 (y 0) (y 1)) = (ix2 (y 0) ⟨256 * t.val + (y 1).val, lt_of t (y 1)⟩ : S4096x2816.Idx) := by
    blk_ext [e0, e1]
  unfold out0_3
  rw [View.canon_unit_zero hz, View.ld_unit_zero (S := S4096x1024) hz, View.ld_unit_zero (S := S1024x256) hz]
  exact (gate_block m c t (y 0) (y 1) _).trans (congrArg _ hy.symm)

theorem arr4_eq : (dats m 0 c).arrAt 4 cfg0.N = U (m ((c : Thread nD τ).loc main_arg0)) (m ((c : Thread nD τ).loc main_arg1)) := by
  refine (dats m 0 c).arrAt_eq_of_covers 4 _ (by decide +kernel) fun t hf y => ?_
  obtain ⟨-, -, -, -, -, -, -, -, e0, e1, -⟩ := idx t
  blk_simp
  rw [after0_4, eq_ix2 y]
  have hy : (win0_4.blk t).view.emb (ix2 (y 0) (y 1)) = (ix2 (y 0) ⟨256 * t.val + (y 1).val, lt_of t (y 1)⟩ : S4096x2816.Idx) := by
    blk_ext [e0, e1]
  unfold out0_4
  rw [View.canon_unit_zero hz, View.ld_unit_zero (S := S4096x1024) hz, View.ld_unit_zero (S := S1024x256) hz]
  exact (up_block m c t (y 0) (y 1) _).trans (congrArg _ hy.symm)

theorem arr5_eq : (dats m 0 c).arrAt 5 cfg0.N = A (m ((c : Thread nD τ).loc main_arg0)) (m ((c : Thread nD τ).loc main_arg1)) := by
  refine (dats m 0 c).arrAt_eq_of_covers 5 _ (by decide +kernel) fun t hf y => ?_
  obtain ⟨-, -, -, -, -, -, -, -, -, -, e0, e1⟩ := idx t
  blk_simp
  rw [after0_5, eq_ix2 y]
  have hy : (win0_5.blk t).view.emb (ix2 (y 0) (y 1)) = (ix2 (y 0) ⟨256 * t.val + (y 1).val, lt_of t (y 1)⟩ : S4096x2816.Idx) := by
    blk_ext [e0, e1]
  unfold out0_5
  rw [View.canon_unit_zero hz, View.ld_unit_zero (S := S4096x1024) hz, View.ld_unit_zero (S := S1024x256) hz, View.ld_unit_zero (S := S1024x256) hz]
  exact (act_block m c t (y 0) (y 1) _).trans (congrArg _ hy.symm)

section Ref
open Cert.GateFwdRefIdeal.Read
variable (x : S4096x1024.Idx → EReal) (w : S1024x5632.Idx → EReal)

theorem ref3 (r : Fin 4096) (k : Fin 2816) : val_main_v3 (F := Ideal) x w (ix2 r k) = G x w (ix2 r k) := by
  pointwise [val_main_v3, val_main_v2, val_main_v1, val_main_v0]
  rfl

theorem ref4 (r : Fin 4096) (k : Fin 2816) : val_main_v4 (F := Ideal) x w (ix2 r k) = U x w (ix2 r k) := by
  pointwise [val_main_v4, val_main_v2, val_main_v1, val_main_v0]
  rfl

theorem ref_act (r : Fin 4096) (k : Fin 2816) : val_main_v9 (F := Ideal) x w (ix2 r k) = act (val_main_v3 (F := Ideal) x w (ix2 r k)) (val_main_v4 (F := Ideal) x w (ix2 r k)) := by
  pointwise [val_main_v9, val_main_v8, val_main_v7, val_main_call0_v5, val_main_call0_v4, val_main_call0_v3, val_main_call0_v2, val_main_call0_v1,
    val_main_call0_v0, val_main_call0_cst, val_main_call0_cst_0]
  rfl

theorem ref_eq : val_main_v5 (F := Ideal) x w = G x w ∧ val_main_v6 (F := Ideal) x w = U x w ∧ val_main_v9 (F := Ideal) x w = A x w := by
  refine ⟨?_, ?_, ?_⟩ <;> funext j <;> obtain ⟨r, k, rfl⟩ : ∃ r k, j = ix2 r k := ⟨_, _, eq_ix2 j⟩
  · exact ref3 x w r k
  · exact ref4 x w r k
  · rw [ref_act, ref3, ref4]
    rfl

end Ref

theorem alg : Cert.algebraic_GateFwdIdeal_GateFwdRefIdeal (hGateFwdIdeal := Cert.GateFwdIdeal.Gen.facts) (hGateFwdRefIdeal := Cert.GateFwdRefIdeal.Gen.facts) := by
  intro m g m' g' _ hag
  refine ⟨_, _, _, (θ_run defs _ _).mono (fun r h c => ⟨(h c).1.trans (arr3_eq m c), (h c).2.1.trans (arr4_eq m c), (h c).2.2.1.trans (arr5_eq m c), (h c).2.2.2⟩)
    (Cert.GateFwdIdeal.Value.run_blocks m g), ?_⟩
  refine (θ_run Cert.GateFwdRefIdeal.defs _ _).mono (fun r h c => ⟨(h c).1.trans ?_, (h c).2.1.trans ?_, (h c).2.2.1.trans ?_, (h c).2.2.2⟩)
    (Cert.GateFwdRefIdeal.Value.run m' g')
  · rw [Cert.GateFwdRefIdeal.Read.val_main_v5_eq, (hag c).1, (hag c).2]
    exact (ref_eq _ _).1
  · rw [Cert.GateFwdRefIdeal.Read.val_main_v6_eq, (hag c).1, (hag c).2]
    exact (ref_eq _ _).2.1
  · rw [Cert.GateFwdRefIdeal.Read.val_main_v9_eq, (hag c).1, (hag c).2]
    exact (ref_eq _ _).2.2

end Cert.Hand.GateFwd

end
-- ==== Proof.NormFwd.lean ====
module

public import proofs.«01_k».proof.Proof.Gen.NormFwdIdeal.Value
public import proofs.«01_k».proof.Proof.Gen.NormFwdRefIdeal.Read
public import proofs.«01_k».proof.Proof.Gen.NormFwdRefIdeal.Run
public import proofs.«01_k».proof.Proof.Gen.MemNormFwdIdeal.Value
public import proofs.«01_k».proof.Proof.Gen.MemNormFwdRefIdeal.Read
public import proofs.«01_k».proof.Proof.Gen.MemNormFwdRefIdeal.Run
public import proofs.«01_k».proof.Proof.Gen.NormsFwdIdeal.Value
public import proofs.«01_k».proof.Proof.Gen.NormsFwdRefIdeal.Read
public import proofs.«01_k».proof.Proof.Gen.NormsFwdRefIdeal.Run
public import proofs.«01_k».proof.Defs
public import Idealize.ShloMosaic.Lib.Pointwise
public import Idealize.ShloMosaic.Lib.Pipeline.ValueKit

/-!
The norms of the rows: the kernel's row blocks against the plain program's whole array, for every input (the sums run over the
same entries, so nothing need be finite).
-/

@[expose] public section

set_option maxRecDepth 16384

noncomputable section

open Idealize.ShloMosaic Idealize.ShloMosaic.TcCoe Idealize.SL.Sem

namespace Cert.Hand.NormFwd

theorem hz : (![0, 0] : Fin 2 → Nat) = fun _ => 0 := funext fun a => by fin_cases a <;> rfl

/-- One row's norm, times the gain. -/
def nrm (x w : Fin 1024 → EReal) (k : Fin 1024) : EReal :=
  x k * Ideal.rsqrt (Ideal.div (∑ i, x i * x i) (Ideal.ofBits FTy.f32 0x44800000#32) + Ideal.ofBits FTy.f32 0x358637BD#32) * w k

/-- The norm of every row of an array of `M` rows. -/
def N {M : ℕ} (x : (⟨2, ![M, 1024]⟩ : Shape).Idx → EReal) (w : (⟨2, ![1, 1024]⟩ : Shape).Idx → EReal)
    (j : (⟨2, ![M, 1024]⟩ : Shape).Idx) : EReal :=
  nrm (fun i => x (ix2 (j 0) i)) (fun i => w (ix2 (0 : Fin 1) i)) (j 1)

/-- Equal rows have equal norms. -/
theorem nrm_congr {x x' w w' : Fin 1024 → EReal} (hx : ∀ i, x i = x' i) (hw : ∀ i, w i = w' i) (k : Fin 1024) : nrm x w k = nrm x' w' k := by
  rw [funext hx, funext hw]

section
open Cert.NormFwdIdeal Cert.NormFwdIdeal.Gen

theorem frame_ref : Cert.quiescent_NormFwdRefIdeal (hNormFwdRefIdeal := Cert.NormFwdRefIdeal.Gen.facts) := fun m ρ _ =>
  (θ_run _ _ _).mono (fun r h => ⟨fun c => (h c).2, sem_eq_zero_of_no_sems (by decide) r.2⟩) (Cert.NormFwdRefIdeal.Value.run m ρ)

theorem pay_apply (x0 : Vec Ideal S512x1024 .f32) (x1 : Vec Ideal S1x1024 .f32) (r : Fin 512) (k : Fin 1024) :
    k0_pay1 x0 x1 (ix2 r k) = nrm (fun i => x0 (ix2 r i)) (fun i => x1 (ix2 (0 : Fin 1) i)) k := by
  pointwise [k0_pay1]
  rfl

theorem idx : ∀ t : Fin cfg0.N, win0_0.index t 0 = t.val ∧ win0_0.index t 1 = 0 ∧ win0_1.index t 0 = 0 ∧ win0_1.index t 1 = 0
    ∧ win0_2.index t 0 = t.val ∧ win0_2.index t 1 = 0 := by
  decide +kernel

variable (m : (ℓ : Loc nD τ sig) → Buf (Elt Ideal) ℓ) (c : Dev nD)

theorem in0 (t : Fin cfg0.N) (r : Fin 512) (k : Fin 1024) :
    iblk m c 0 t (ix2 r k) = m ((c : Thread nD τ).loc main_arg0) (ix2 (⟨512 * t.val + r.val, by have : t.val < 8 := t.isLt; omega⟩ : Fin 4096) k) := by
  obtain ⟨e0, e1, -⟩ := idx t
  blk_ext [iblk, V, e0, e1]

theorem in1 (t : Fin cfg0.N) (k : Fin 1024) :
    iblk m c 1 t (ix2 (0 : Fin 1) k) = m ((c : Thread nD τ).loc main_arg1) (ix2 (0 : Fin 1) k) := by
  obtain ⟨-, -, e0, e1, -⟩ := idx t
  blk_ext [iblk, V, e0, e1]

theorem arr_eq : (dats m 0 c).arrAt 2 cfg0.N = N (M := 4096) (m ((c : Thread nD τ).loc main_arg0)) (m ((c : Thread nD τ).loc main_arg1)) := by
  refine (dats m 0 c).arrAt_eq_of_covers 2 _ (by decide +kernel) fun t hf y => ?_
  obtain ⟨-, -, -, -, e0, e1⟩ := idx t
  have ht : t.val < 8 := t.isLt
  blk_simp
  rw [after0_2, eq_ix2 y]
  have hr : (y 0).val < 512 := (y 0).isLt
  have hy : (win0_2.blk t).view.emb (ix2 (y 0) (y 1)) = (ix2 ⟨512 * t.val + (y 0).val, by omega⟩ (y 1) : S4096x1024.Idx) := by
    blk_ext [e0, e1]
  unfold out0_2
  rw [View.canon_unit_zero hz, View.ld_unit_zero (S := S512x1024) hz, View.ld_unit_zero (S := S1x1024) hz]
  refine (pay_apply _ _ (y 0) (y 1)).trans (Eq.trans ?_ (congrArg _ hy.symm))
  exact nrm_congr (fun i => in0 m c t (y 0) i) (fun i => in1 m c t i) _

open Cert.NormFwdRefIdeal.Read in
theorem ref_eq (x : S4096x1024.Idx → EReal) (w : S1x1024.Idx → EReal) : val_main_v12 (F := Ideal) x w = N (M := 4096) x w := by
  funext j
  obtain ⟨r, k, rfl⟩ : ∃ r k, j = ix2 r k := ⟨_, _, eq_ix2 j⟩
  pointwise [val_main_v12, val_main_v11, val_main_v10, val_main_v9, val_main_v8, val_main_v7, val_main_v6, val_main_v5, val_main_v4,
    val_main_v3, val_main_v2, val_main_v1, val_main_v0, val_main_cst, val_main_cst_0, val_main_cst_1]
  rfl

theorem alg : Cert.algebraic_NormFwdIdeal_NormFwdRefIdeal (hNormFwdIdeal := Cert.NormFwdIdeal.Gen.facts) (hNormFwdRefIdeal := Cert.NormFwdRefIdeal.Gen.facts) := by
  intro m g m' g' _ hag
  refine ⟨_, (θ_run defs _ _).mono (fun r h c => ⟨(h c).1.trans (arr_eq m c), (h c).2⟩) (Cert.NormFwdIdeal.Value.run_blocks m g), ?_⟩
  refine (θ_run Cert.NormFwdRefIdeal.defs _ _).mono (fun r h c => ⟨(h c).1.trans ?_, (h c).2⟩) (Cert.NormFwdRefIdeal.Value.run m' g')
  rw [Cert.NormFwdRefIdeal.Read.val_main_v12_eq, (hag c).1, (hag c).2]
  exact ref_eq _ _

end

end Cert.Hand.NormFwd

/-! The memory's norm: one block. -/
namespace Cert.Hand.MemNormFwd

open Cert.Hand.NormFwd
section
open Cert.MemNormFwdIdeal Cert.MemNormFwdIdeal.Gen

theorem frame_ref : Cert.quiescent_MemNormFwdRefIdeal (hMemNormFwdRefIdeal := Cert.MemNormFwdRefIdeal.Gen.facts) := fun m ρ _ =>
  (θ_run _ _ _).mono (fun r h => ⟨fun c => (h c).2, sem_eq_zero_of_no_sems (by decide) r.2⟩) (Cert.MemNormFwdRefIdeal.Value.run m ρ)

theorem pay_eq (x0 : Vec Ideal S256x1024 .f32) (x1 : Vec Ideal S1x1024 .f32) : k0_pay1 x0 x1 = N (M := 256) x0 x1 := by
  funext j
  obtain ⟨r, k, rfl⟩ : ∃ r k, j = ix2 r k := ⟨_, _, eq_ix2 j⟩
  pointwise [k0_pay1]
  rfl

open Cert.MemNormFwdRefIdeal.Read in
theorem ref_eq (x : S256x1024.Idx → EReal) (w : S1x1024.Idx → EReal) : val_main_v12 (F := Ideal) x w = N (M := 256) x w := by
  funext j
  obtain ⟨r, k, rfl⟩ : ∃ r k, j = ix2 r k := ⟨_, _, eq_ix2 j⟩
  pointwise [val_main_v12, val_main_v11, val_main_v10, val_main_v9, val_main_v8, val_main_v7, val_main_v6, val_main_v5, val_main_v4,
    val_main_v3, val_main_v2, val_main_v1, val_main_v0, val_main_cst, val_main_cst_0, val_main_cst_1]
  rfl

theorem alg : Cert.algebraic_MemNormFwdIdeal_MemNormFwdRefIdeal (hMemNormFwdIdeal := Cert.MemNormFwdIdeal.Gen.facts)
    (hMemNormFwdRefIdeal := Cert.MemNormFwdRefIdeal.Gen.facts) := by
  intro m g m' g' _ hag
  refine ⟨_, (θ_run defs _ _).mono (fun r h c => ⟨(h c).1.trans (pay_eq _ _), (h c).2⟩) (Cert.MemNormFwdIdeal.Value.run m g), ?_⟩
  refine (θ_run Cert.MemNormFwdRefIdeal.defs _ _).mono (fun r h c => ⟨(h c).1.trans ?_, (h c).2⟩) (Cert.MemNormFwdRefIdeal.Value.run m' g')
  rw [Cert.MemNormFwdRefIdeal.Read.val_main_v12_eq, (hag c).1, (hag c).2]
  exact ref_eq _ _

end

end Cert.Hand.MemNormFwd

/-! Two norms of one array, with two gains. -/
namespace Cert.Hand.NormsFwd

open Cert.Hand.NormFwd
section
open Cert.NormsFwdIdeal Cert.NormsFwdIdeal.Gen

theorem frame_ref : Cert.quiescent_NormsFwdRefIdeal (hNormsFwdRefIdeal := Cert.NormsFwdRefIdeal.Gen.facts) := fun m ρ _ =>
  (θ_run _ _ _).mono (fun r h => ⟨fun c => (h c).2.2, sem_eq_zero_of_no_sems (by decide) r.2⟩) (Cert.NormsFwdRefIdeal.Value.run m ρ)

theorem pay_apply (x0 : Vec Ideal S512x1024 .f32) (x1 : Vec Ideal S1x1024 .f32) (r : Fin 512) (k : Fin 1024) :
    k0_pay2 x0 x1 (ix2 r k) = nrm (fun i => x0 (ix2 r i)) (fun i => x1 (ix2 (0 : Fin 1) i)) k := by
  pointwise [k0_pay2, k0_pay1]
  rfl

theorem idx : ∀ t : Fin cfg0.N, win0_0.index t 0 = t.val ∧ win0_0.index t 1 = 0 ∧ win0_1.index t 0 = 0 ∧ win0_1.index t 1 = 0
    ∧ win0_2.index t 0 = 0 ∧ win0_2.index t 1 = 0 ∧ win0_3.index t 0 = t.val ∧ win0_3.index t 1 = 0
    ∧ win0_4.index t 0 = t.val ∧ win0_4.index t 1 = 0 := by
  decide +kernel

variable (m : (ℓ : Loc nD τ sig) → Buf (Elt Ideal) ℓ) (c : Dev nD)

theorem in0 (t : Fin cfg0.N) (r : Fin 512) (k : Fin 1024) :
    iblk m c 0 t (ix2 r k) = m ((c : Thread nD τ).loc main_arg0) (ix2 (⟨512 * t.val + r.val, by have : t.val < 8 := t.isLt; omega⟩ : Fin 4096) k) := by
  obtain ⟨e0, e1, -⟩ := idx t
  blk_ext [iblk, V, e0, e1]

theorem in1 (t : Fin cfg0.N) (k : Fin 1024) :
    iblk m c 1 t (ix2 (0 : Fin 1) k) = m ((c : Thread nD τ).loc main_arg1) (ix2 (0 : Fin 1) k) := by
  obtain ⟨-, -, e0, e1, -⟩ := idx t
  blk_ext [iblk, V, e0, e1]

theorem in2 (t : Fin cfg0.N) (k : Fin 1024) :
    iblk m c 2 t (ix2 (0 : Fin 1) k) = m ((c : Thread nD τ).loc main_arg2) (ix2 (0 : Fin 1) k) := by
  obtain ⟨-, -, -, -, e0, e1, -⟩ := idx t
  blk_ext [iblk, V, e0, e1]

theorem arr3_eq : (dats m 0 c).arrAt 3 cfg0.N = N (M := 4096) (m ((c : Thread nD τ).loc main_arg0)) (m ((c : Thread nD τ).loc main_arg1)) := by
  refine (dats m 0 c).arrAt_eq_of_covers 3 _ (by decide +kernel) fun t hf y => ?_
  obtain ⟨-, -, -, -, -, -, e0, e1, -⟩ := idx t
  have ht : t.val < 8 := t.isLt
  blk_simp
  rw [after0_3, eq_ix2 y]
  have hr : (y 0).val < 512 := (y 0).isLt
  have hy : (win0_3.blk t).view.emb (ix2 (y 0) (y 1)) = (ix2 ⟨512 * t.val + (y 0).val, by omega⟩ (y 1) : S4096x1024.Idx) := by
    blk_ext [e0, e1]
  unfold out0_3
  rw [View.canon_unit_zero hz, View.ld_unit_zero (S := S512x1024) hz, View.ld_unit_zero (S := S1x1024) hz]
  refine (pay_apply _ _ (y 0) (y 1)).trans (Eq.trans ?_ (congrArg _ hy.symm))
  exact nrm_congr (fun i => in0 m c t (y 0) i) (fun i => in1 m c t i) _

theorem arr4_eq : (dats m 0 c).arrAt 4 cfg0.N = N (M := 4096) (m ((c : Thread nD τ).loc main_arg0)) (m ((c : Thread nD τ).loc main_arg2)) := by
  refine (dats m 0 c).arrAt_eq_of_covers 4 _ (by decide +kernel) fun t hf y => ?_
  obtain ⟨-, -, -, -, -, -, -, -, e0, e1⟩ := idx t
  have ht : t.val < 8 := t.isLt
  blk_simp
  rw [after0_4, eq_ix2 y]
  have hr : (y 0).val < 512 := (y 0).isLt
  have hy : (win0_4.blk t).view.emb (ix2 (y 0) (y 1)) = (ix2 ⟨512 * t.val + (y 0).val, by omega⟩ (y 1) : S4096x1024.Idx) := by
    blk_ext [e0, e1]
  unfold out0_4
  rw [View.canon_unit_zero hz, View.ld_unit_zero (S := S512x1024) hz, View.ld_unit_zero (S := S1x1024) hz]
  refine (pay_apply _ _ (y 0) (y 1)).trans (Eq.trans ?_ (congrArg _ hy.symm))
  exact nrm_congr (fun i => in0 m c t (y 0) i) (fun i => in2 m c t i) _

/-- Both results of the reference are the norm of one array: the same operations twice. -/
theorem ref_eq (x : S4096x1024.Idx → EReal) (w : S1x1024.Idx → EReal) : Cert.NormsFwdRefIdeal.Read.val_main_v12 (F := Ideal) x w = N (M := 4096) x w
    ∧ Cert.NormsFwdRefIdeal.Read.val_main_v25 (F := Ideal) x w = N (M := 4096) x w :=
  ⟨NormFwd.ref_eq x w, NormFwd.ref_eq x w⟩

theorem alg : Cert.algebraic_NormsFwdIdeal_NormsFwdRefIdeal (hNormsFwdIdeal := Cert.NormsFwdIdeal.Gen.facts) (hNormsFwdRefIdeal := Cert.NormsFwdRefIdeal.Gen.facts) := by
  intro m g m' g' _ hag
  refine ⟨_, _, (θ_run defs _ _).mono (fun r h c => ⟨(h c).1.trans (arr3_eq m c), (h c).2.1.trans (arr4_eq m c), (h c).2.2⟩)
    (Cert.NormsFwdIdeal.Value.run_blocks m g), ?_⟩
  refine (θ_run Cert.NormsFwdRefIdeal.defs _ _).mono (fun r h c => ⟨(h c).1.trans ?_, (h c).2.1.trans ?_, (h c).2.2⟩) (Cert.NormsFwdRefIdeal.Value.run m' g')
  · rw [Cert.NormsFwdRefIdeal.Read.val_main_v12_eq, (hag c).1, (hag c).2.1]
    exact (ref_eq _ _).1
  · rw [Cert.NormsFwdRefIdeal.Read.val_main_v25_eq, (hag c).1, (hag c).2.2]
    exact (ref_eq _ _).2

end

end Cert.Hand.NormsFwd

end
-- ==== Proof.ScaleFwd.lean ====
module

public import proofs.«01_k».proof.Proof.Gen.ScaleFwdIdeal.Value
public import proofs.«01_k».proof.Proof.Gen.ScaleFwdRefIdeal.Read
public import proofs.«01_k».proof.Proof.Gen.ScaleFwdRefIdeal.Run
public import proofs.«01_k».proof.Defs
public import Idealize.ShloMosaic.Lib.Pointwise
public import Idealize.ShloMosaic.Lib.Pipeline.ValueKit

/-!
The scaled pool beside the memory attention: the kernel's row blocks against the plain program's whole array, for every input.
-/

@[expose] public section

set_option maxRecDepth 16384

noncomputable section

namespace Cert.Hand.ScaleFwd

open Idealize.ShloMosaic Idealize.ShloMosaic.TcCoe Idealize.SL.Sem
open Cert.ScaleFwdIdeal Cert.ScaleFwdIdeal.Gen

theorem hz : (![0, 0] : Fin 2 → Nat) = fun _ => 0 := funext fun a => by fin_cases a <;> rfl

/-- One entry of the result: a scaled entry of the pool, or an entry of the memory attention. -/
def cat (x s : Fin 768 → EReal) (y : Fin 256 → EReal) (k : Fin 1024) : EReal :=
  if h : k.val < 768 then x ⟨k.val, h⟩ * s ⟨k.val, h⟩ else y ⟨k.val - 768, by omega⟩

/-- The result's array. -/
def C (x : S4096x768.Idx → EReal) (y : S4096x256.Idx → EReal) (s : S1x768.Idx → EReal) (j : S4096x1024.Idx) : EReal :=
  cat (fun i => x (ix2 (j 0) i)) (fun i => s (ix2 (0 : Fin 1) i)) (fun i => y (ix2 (j 0) i)) (j 1)

theorem frame_ref : Cert.quiescent_ScaleFwdRefIdeal (hScaleFwdRefIdeal := Cert.ScaleFwdRefIdeal.Gen.facts) := fun m ρ _ =>
  (θ_run _ _ _).mono (fun r h => ⟨fun c => (h c).2, sem_eq_zero_of_no_sems (by decide) r.2⟩) (Cert.ScaleFwdRefIdeal.Value.run m ρ)

theorem pay_apply (x0 : Vec Ideal S512x768 .bf16) (x1 : Vec Ideal S512x256 .bf16) (x2 : Vec Ideal S1x768 .f32) (r : Fin 512) (k : Fin 1024) :
    k0_pay1 x0 x1 x2 (ix2 r k) = cat (fun i => x0 (ix2 r i)) (fun i => x2 (ix2 (0 : Fin 1) i)) (fun i => x1 (ix2 r i)) k := by
  pointwise [k0_pay1]
  rfl

theorem cat_congr {x x' s s' : Fin 768 → EReal} {y y' : Fin 256 → EReal} (hx : ∀ i, x i = x' i) (hs : ∀ i, s i = s' i) (hy : ∀ i, y i = y' i)
    (k : Fin 1024) : cat x s y k = cat x' s' y' k := by
  rw [funext hx, funext hs, funext hy]

theorem idx : ∀ t : Fin cfg0.N, win0_0.index t 0 = t.val ∧ win0_0.index t 1 = 0 ∧ win0_1.index t 0 = t.val ∧ win0_1.index t 1 = 0
    ∧ win0_2.index t 0 = 0 ∧ win0_2.index t 1 = 0 ∧ win0_3.index t 0 = t.val ∧ win0_3.index t 1 = 0 := by
  decide +kernel

variable (m : (ℓ : Loc nD τ sig) → Buf (Elt Ideal) ℓ) (c : Dev nD)

theorem in0 (t : Fin cfg0.N) (r : Fin 512) (k : Fin 768) :
    iblk m c 0 t (ix2 r k) = m ((c : Thread nD τ).loc main_arg0) (ix2 (⟨512 * t.val + r.val, by have : t.val < 8 := t.isLt; omega⟩ : Fin 4096) k) := by
  obtain ⟨e0, e1, -⟩ := idx t
  blk_ext [iblk, V, e0, e1]

theorem in1 (t : Fin cfg0.N) (r : Fin 512) (k : Fin 256) :
    iblk m c 1 t (ix2 r k) = m ((c : Thread nD τ).loc main_arg1) (ix2 (⟨512 * t.val + r.val, by have : t.val < 8 := t.isLt; omega⟩ : Fin 4096) k) := by
  obtain ⟨-, -, e0, e1, -⟩ := idx t
  blk_ext [iblk, V, e0, e1]

theorem in2 (t : Fin cfg0.N) (k : Fin 768) :
    iblk m c 2 t (ix2 (0 : Fin 1) k) = m ((c : Thread nD τ).loc main_arg2) (ix2 (0 : Fin 1) k) := by
  obtain ⟨-, -, -, -, e0, e1, -⟩ := idx t
  blk_ext [iblk, V, e0, e1]

theorem arr_eq : (dats m 0 c).arrAt 3 cfg0.N
    = C (m ((c : Thread nD τ).loc main_arg0)) (m ((c : Thread nD τ).loc main_arg1)) (m ((c : Thread nD τ).loc main_arg2)) := by
  refine (dats m 0 c).arrAt_eq_of_covers 3 _ (by decide +kernel) fun t hf y => ?_
  obtain ⟨-, -, -, -, -, -, e0, e1⟩ := idx t
  have ht : t.val < 8 := t.isLt
  blk_simp
  rw [after0_3, eq_ix2 y]
  have hr : (y 0).val < 512 := (y 0).isLt
  have hy : (win0_3.blk t).view.emb (ix2 (y 0) (y 1)) = (ix2 ⟨512 * t.val + (y 0).val, by omega⟩ (y 1) : S4096x1024.Idx) := by
    blk_ext [e0, e1]
  unfold out0_3
  rw [View.canon_unit_zero hz, View.ld_unit_zero (S := S512x768) hz, View.ld_unit_zero (S := S512x256) hz, View.ld_unit_zero (S := S1x768) hz]
  refine (pay_apply _ _ _ (y 0) (y 1)).trans (Eq.trans ?_ (congrArg _ hy.symm))
  exact cat_congr (fun i => in0 m c t (y 0) i) (fun i => in2 m c t i) (fun i => in1 m c t (y 0) i) _

open Cert.ScaleFwdRefIdeal.Read in
theorem ref_eq (x : S4096x768.Idx → EReal) (y : S4096x256.Idx → EReal) (s : S1x768.Idx → EReal) : val_main_v5 (F := Ideal) x y s = C x y s := by
  funext j
  obtain ⟨r, k, rfl⟩ : ∃ r k, j = ix2 r k := ⟨_, _, eq_ix2 j⟩
  pointwise [val_main_v5, val_main_v4, val_main_v3, val_main_v2, val_main_v1, val_main_v0]
  rfl

theorem alg : Cert.algebraic_ScaleFwdIdeal_ScaleFwdRefIdeal (hScaleFwdIdeal := Cert.ScaleFwdIdeal.Gen.facts) (hScaleFwdRefIdeal := Cert.ScaleFwdRefIdeal.Gen.facts) := by
  intro m g m' g' _ hag
  refine ⟨_, (θ_run defs _ _).mono (fun r h c => ⟨(h c).1.trans (arr_eq m c), (h c).2⟩) (Cert.ScaleFwdIdeal.Value.run_blocks m g), ?_⟩
  refine (θ_run Cert.ScaleFwdRefIdeal.defs _ _).mono (fun r h c => ⟨(h c).1.trans ?_, (h c).2⟩) (Cert.ScaleFwdRefIdeal.Value.run m' g')
  rw [Cert.ScaleFwdRefIdeal.Read.val_main_v5_eq, (hag c).1, (hag c).2.1, (hag c).2.2]
  exact ref_eq _ _ _

end Cert.Hand.ScaleFwd

end
-- ==== Proof.PoolFwd.lean ====
/- The multiscale pool: the kernel's rotate-and-add windows against the reference's running sum. -/
module

public import proofs.«01_k».proof.Proof.Pool
public import proofs.«01_k».proof.Proof.Gen.PoolFwdIdeal.Value
public import proofs.«01_k».proof.Proof.Gen.PoolFwdRefIdeal.Read
public import proofs.«01_k».proof.Proof.Gen.PoolFwdRefIdeal.Run
public import proofs.«01_k».proof.Proof.Gen.Pre_pool_fwd_finite

@[expose] public section

set_option maxRecDepth 16384

noncomputable section

namespace Cert.Hand.PoolFwd

open Idealize.ShloMosaic Idealize.ShloMosaic.TcCoe Idealize.SL.Sem
open Cert.Hand.Pool (wd cnt cnt_pos wd_pos wd_lt ladder_eq count_word)
open Cert.PoolFwdIdeal Cert.PoolFwdIdeal.Gen
open Cert.PoolFwdRefIdeal.Read (val_main_v0 val_main_v1 val_main_v2 val_main_call0_call0_cst val_main_call0_call0_v0)

/-- A column, its row 0 at place 16, zero before it. -/
def Y (x : S4096x768.Idx → EReal) (l : Fin 768) (n : ℕ) : EReal :=
  if h : 16 ≤ n ∧ n - 16 < 4096 then x (ix2 ⟨n - 16, h.2⟩ l) else 0

theorem first_word (t : ℕ) (ht : t < 8) {α : Type} (a b : α) :
    Scalar.select (Scalar.cmpi CmpIPredicate.eq (BitVec.ofNat 32 t) 0#32) a b = if t = 0 then a else b := by
  interval_cases t <;> rfl

section Block

variable (x : S4096x768.Idx → EReal) (i : grid0.Coords) (v0 : Vec Ideal S512x768 .f32) (v2 : Vec Ideal S16x768 .f32)
  (h0 : ∀ (r : Fin 512) (l : Fin 768) (h : 512 * (i 0).val + r.val < 4096), v0 (ix2 r l) = x (ix2 ⟨512 * (i 0).val + r.val, h⟩ l))
  (h2 : ∀ (r : Fin 16) (l : Fin 768) (h : 512 * (i 0).val + r.val - 16 < 4096), (i 0).val ≠ 0 → v2 (ix2 r l) = x (ix2 ⟨512 * (i 0).val + r.val - 16, h⟩ l))

include h0 h2

theorem start : ∀ (r : ℕ) (l : Fin 768) (p), concatenate S528x768 0 [⟨S16x768, Scalar.select (Scalar.cmpi .eq (BitVec.ofNat 32 (i 0).val) 0#32)
    (broadcast S16x768 (Scalar.ofBits .f32 0x00000000#32 : Ideal .f32)) v2⟩, ⟨S512x768, v0⟩] concatenates_S16x768_S512x768_S528x768_d0 (ix2 ⟨r, p⟩ l)
      = ∑ k ∈ Finset.range 1, Y x l (512 * (i 0).val + r - k) := by
  intro r l p
  have hi : (i 0).val < 8 := (i 0).isLt
  have p' : r < 528 := p
  rw [Finset.sum_range_one, Nat.sub_zero]
  pointwise []
  simp only [first_word _ hi]
  unfold Y
  by_cases h : r < 16
  · rw [dif_pos h]
    by_cases h' : (i 0).val = 0
    · rw [if_pos h', dif_neg (by omega)]
    · rw [if_neg h', dif_pos (by omega)]
      exact h2 ⟨r, h⟩ l (by dsimp only; omega) h'
  · rw [dif_neg h, dif_pos (by omega)]
    refine (h0 ⟨r - 16, by omega⟩ l (by dsimp only; omega)).trans ?_
    congr 2
    simp only [Fin.mk.injEq]
    omega

omit h0 h2 in
/-- One rotate-and-add step doubles the window. -/
theorem double (w : ℕ) (s : BitVec 32) (hs : s.toNat = w) (hw : 0 < w) (hw' : w < 528) (v : FVec Ideal S528x768 .f32)
    (h : ∀ (r : ℕ) (l : Fin 768) (p), w ≤ r + 1 → v (ix2 ⟨r, p⟩ l) = ∑ k ∈ Finset.range w, Y x l (512 * (i 0).val + r - k)) (r : ℕ) (l : Fin 768) (p) (hr : w + w ≤ r + 1) :
    addf v (dynamicRotate 0 s none v rotates_S528x768_d0) (ix2 ⟨r, p⟩ l) = ∑ k ∈ Finset.range (w + w), Y x l (512 * (i 0).val + r - k) := by
  have p' : r < 528 := p
  pointwise []
  rw [Finset.sum_range_add, hs]
  have e : (r + 528 - w % 528) % 528 = r - w := by
    rw [Nat.mod_eq_of_lt hw', show r + 528 - w = (r - w) + 528 by omega, Nat.add_mod_right, Nat.mod_eq_of_lt (by omega)]
  refine congrArg₂ (· + ·) (h r l _ (by omega)) ((h _ l _ (by rw [e]; omega)).trans (Finset.sum_congr rfl fun k _ => ?_))
  rw [e]
  congr 1
  omega

omit h0 h2 in
/-- The chain of selects takes the column's window. -/
theorem choose (S : Fin 768 → ℕ → EReal) (q : S528x768.Idx) (l : Fin 768) (hq : q 1 = l) (a b c d : FVec Ideal S528x768 .f32)
    (ha : a q = S l 2) (hb : b q = S l 4) (hc : c q = S l 8) (hd : d q = S l 16) :
    select (cmpi .eq k0_pay2 (broadcast S528x768 2#32)) a (select (cmpi .eq k0_pay2 (broadcast S528x768 4#32)) b
      (select (cmpi .eq k0_pay2 (broadcast S528x768 8#32)) c d)) q = S l (wd l.val) := by
  obtain ⟨r, k, rfl⟩ : ∃ r k, q = ix2 r k := ⟨_, _, eq_ix2 q⟩
  have hk : k = l := hq
  subst hk
  pointwise [k0_pay2]
  rw [ha, hb, hc, hd, ladder_eq]
  unfold wd
  split_ifs <;> rfl

theorem pay3_row (r : ℕ) (l : Fin 768) (p) (hr : 16 ≤ r + 1) :
    k0_pay3 i v0 v2 (ix2 ⟨r, p⟩ l) = ∑ k ∈ Finset.range (wd l.val), Y x l (512 * (i 0).val + r - k) := by
  have d1 := double x i 1 1#32 rfl (by omega) (by omega) _ fun r l p _ => start x i v0 v2 h0 h2 r l p
  have d2 := double x i 2 2#32 rfl (by omega) (by omega) _ d1
  have d4 := double x i 4 4#32 rfl (by omega) (by omega) _ d2
  have d8 := double x i 8 8#32 rfl (by omega) (by omega) _ d4
  unfold k0_pay3
  exact choose (fun l w => ∑ k ∈ Finset.range w, Y x l (512 * (i 0).val + r - k)) _ l rfl _ _ _ _
    (d1 r l p (by omega)) (d2 r l p (by omega)) (d4 r l p (by omega)) (d8 r l p (by omega))

theorem out_row (r : Fin 512) (l : Fin 768) (h : 512 * (i 0).val + r.val < 4096) :
    k0_pay1 (BitVec.ofNat 32 (i 0).val) v0 (iota .tc S528x768 32 [0] iota_S528x768_d0_w32) k0_pay2 (k0_pay3 i v0 v2) 512#32 (ix2 r l) = Ideal.div (∑ k ∈ Finset.range (wd l.val), Y x l (512 * (i 0).val + (r.val + 16) - k)) ((cnt (512 * (i 0).val + r.val) l.val : ℝ) : EReal)
      - x (ix2 ⟨512 * (i 0).val + r.val, h⟩ l) := by
  have e3 := pay3_row x i v0 v2 h0 h2
  rw [← h0 r l h]
  generalize k0_pay3 i v0 v2 = z at e3 ⊢
  pointwise [k0_pay1, k0_pay2]
  have hi : (i 0).val < 8 := (i 0).isLt
  have e : IntOp.subi (IntOp.addi (Scalar.muli (BitVec.ofNat 32 (i 0).val) 512#32) (BitVec.ofNat 32 (16 + r.val))) 16#32 = BitVec.ofNat 32 (512 * (i 0).val + r.val) := by
    show BitVec.ofNat 32 (i 0).val * 512#32 + BitVec.ofNat 32 (16 + r.val) - 16#32 = _
    rw [BitVec.ofNat_add, BitVec.ofNat_add, BitVec.ofNat_mul, BitVec.mul_comm, BitVec.add_comm (BitVec.ofNat 32 16), ← BitVec.add_assoc]
    exact BitVec.add_sub_cancel _ _
  rw [e, ladder_eq, count_word _ _ (by omega), e3 _ l _ (by omega), Nat.add_comm 16 r.val]

end Block

section Body

variable (c : Dev nD) (i : grid0.Coords) (a1 : Memref sig .tc .vmem S512x768 .f32) (h1 : a1.IsWhole)
  (a2 : Memref sig .tc .vmem S16x768 .f32) (h2 : a2.IsWhole) (a3 : Memref sig .tc .vmem S512x768 .bf16) (h3 : a3.IsWhole)
  (x0 : Vec Ideal S512x768 .f32) (x1 : Vec Ideal S16x768 .f32)

theorem out_A2 : out0_A_2 c i a1 h1 a2 h2 a3 h3 x0 x1
    = k0_pay1 (BitVec.ofNat 32 (i 0).val) x0 (iota .tc S528x768 32 [0] iota_S528x768_d0_w32) k0_pay2 (k0_pay3 i x0 x1) 512#32 := by
  have hz : (![0, 0] : Fin 2 → Nat) = fun _ => 0 := funext fun a => by fin_cases a <;> rfl
  unfold out0_A_2
  rw [View.read_writes_eq_canon _ _ _ (cover0_A_2 c i a1 h1 a2 h2 a3 h3 x0 x1)]
  unfold kernelRun0_A
  dsimp only
  sl_unfold_words
  rw [View.canon_unit_zero hz]
  simp only [View.readAt_eq_ld, h1.read_unread, h2.read_unread, View.ld_unit_zero (S := S512x768) hz, View.ld_unit_zero (S := S16x768) hz]

end Body

/-- The pooled columns. -/
def cols (u : S4096x1024.Idx → EReal) (j : S4096x768.Idx) : EReal :=
  u (ix2 (j 0) ⟨(j 1).val, by have := (j 1).isLt; change (j 1).val < 768 at this; omega⟩)

/-- The pool in closed form: the window's mean less the entry. -/
def pool (x : S4096x768.Idx → EReal) (j : S4096x768.Idx) : EReal :=
  Ideal.div (∑ k ∈ Finset.range (wd (j 1).val), Y x (j 1) ((j 0).val + 16 - k)) ((cnt (j 0).val (j 1).val : ℝ) : EReal) - x j

theorem idx : ∀ t : Fin cfg0.N, ((grid0.coords t) 0).val = t.val ∧ win0_0.index t 0 = t.val ∧ win0_0.index t 1 = 0
    ∧ win0_1.index t 0 = 32 * t.val - 1 ∧ win0_1.index t 1 = 0 ∧ win0_2.index t 0 = t.val ∧ win0_2.index t 1 = 0 := by
  decide +kernel

variable (m : (ℓ : Loc nD τ sig) → Buf (Elt Ideal) ℓ) (c : Dev nD)

theorem block_eq (t : Fin cfg0.N) (r : Fin 512) (l : Fin 768) :
    outsAt0 m c t (ix2 r l) = pool (cols (m ((c : Thread nD τ).loc main_arg0))) ((win0_2.blk t).view.emb (ix2 r l)) := by
  obtain ⟨hi, e00, e01, e10, e11, e20, e21⟩ := idx t
  have ht : t.val < 8 := t.isLt
  have hr := r.isLt
  have hy : (win0_2.blk t).view.emb (ix2 r l) = (ix2 ⟨512 * t.val + r.val, by omega⟩ l : S4096x768.Idx) := by
    blk_ext [hi, e20, e21]
  rw [hy]
  unfold outsAt0
  rw [out_A2]
  refine (out_row (cols (m ((c : Thread nD τ).loc main_arg0))) (grid0.coords t) (X0_0 m c t) (X0_1 m c t) (fun r l h => ?_) (fun r l h hn => ?_) r l (by omega)).trans ?_
  · unfold X0_0 Pipeline.Window.fill cols
    rw [dif_pos (moved0_0 t _)]
    blk_ext [iblk, V, hi, e00, e01]
  · rw [hi] at h hn
    unfold X0_1 Pipeline.Window.fill cols
    rw [dif_pos (moved0_1 t _)]
    blk_ext [iblk, V, hi, e10, e11]
  · unfold pool
    simp only [hi]
    rfl

theorem arr_eq : (dats m 0 c).arrAt 2 cfg0.N = pool (cols (m ((c : Thread nD τ).loc main_arg0))) := by
  refine (dats m 0 c).arrAt_eq_of_covers 2 _ (by decide +kernel) fun t hf y => ?_
  blk_simp
  rw [after0_2, eq_ix2 y]
  exact block_eq m c t (y 0) (y 1)

/-- jnp's `cumsum` along the middle axis of a `[1, n, c]` array: entry `j` holds the sum of the entries up to `j`. -/
theorem prefixSum3 {n m c : Nat} (hn : m + 1 = n) (z : (⟨3, ![1, n, c]⟩ : Shape).Idx → EReal)
    (h : (⟨3, ![1, n, c]⟩ : Shape).ReduceWindows (![1, n, 1] : Fin 3 → Nat) ![1, 1, 1] ![0, m, 0] ![0, 0, 0] ⟨3, ![1, n, c]⟩)
    (j : Fin n) (l : Fin c) :
    Ideal.hostReduceWindowAdd (s := ⟨3, ![1, n, c]⟩) ![1, n, 1] ![1, 1, 1] ![0, m, 0] ![0, 0, 0] h z 0 (ix3 (0 : Fin 1) j l)
      = ∑ k : Fin n, if hk : m ≤ j.val + k.val ∧ j.val + k.val - m < n then z (ix3 (0 : Fin 1) ⟨j.val + k.val - m, hk.2⟩ l) else 0 := by
  rw [windowSum_eq, zero_add]
  refine (sum_idx3 (n0 := 1) (n1 := n) (n2 := 1) _).trans ?_
  rw [Fin.sum_univ_one]
  refine Finset.sum_congr rfl fun k _ => ?_
  rw [Fin.sum_univ_one]
  by_cases hk : m ≤ j.val + k.val ∧ j.val + k.val - m < n
  · rw [dif_pos hk, dif_pos (fun a => by
      match a with
      | ⟨0, _⟩ => exact ⟨Nat.zero_le _, by show 0 * 1 + 0 - 0 < 1; omega⟩
      | ⟨1, _⟩ => exact ⟨by show m ≤ j.val * 1 + k.val; omega, by show j.val * 1 + k.val - m < n; omega⟩
      | ⟨2, _⟩ => exact ⟨Nat.zero_le _, by show l.val * 1 + 0 - 0 < c; have := l.isLt; omega⟩)]
    refine congrArg z (funext fun a => Fin.ext ?_)
    match a with
    | ⟨0, _⟩ => show 0 * 1 + 0 - 0 = 0; omega
    | ⟨1, _⟩ => show j.val * 1 + k.val - m = j.val + k.val - m; omega
    | ⟨2, _⟩ => show l.val * 1 + 0 - 0 = l.val; omega
  · rw [dif_neg hk, dif_neg (fun hall => hk (by
      have h1 := hall 1
      change m ≤ j.val * 1 + k.val ∧ j.val * 1 + k.val - m < n at h1
      omega))]

/-- The reference's running sum, counted back from the row. -/
theorem csum (u : S4096x1024.Idx → EReal) (r : Fin 4096) (l : Fin 768) :
    val_main_v2 (F := Ideal) u (ix3 (0 : Fin 1) r l) = ∑ k ∈ Finset.range 4096, Y (cols u) l (r.val + 16 - k) := by
  have hr := r.isLt
  have e : ∀ n : Fin 4096, val_main_v1 (F := Ideal) u (ix3 (0 : Fin 1) n l) = cols u (ix2 n l) := fun n => by
    pointwise [val_main_v1, val_main_v0]
    rfl
  unfold val_main_v2
  generalize val_main_v1 (F := Ideal) u = z at e ⊢
  have h0 : ∀ i, (val_main_call0_call0_v0 (F := Ideal)) i = 0 := fun i => by
    pointwise [val_main_call0_call0_v0, val_main_call0_call0_cst]
  unfold Host.reduceWindowAdd
  rw [h0]
  refine (prefixSum3 (n := 4096) (m := 4095) (c := 768) rfl z _ r l).trans ?_
  rw [← Finset.sum_range_reflect, Finset.sum_range]
  refine Finset.sum_congr rfl fun k _ => ?_
  have hk := k.isLt
  unfold Y
  by_cases h : 4095 ≤ r.val + k.val
  · rw [dif_pos (by omega), dif_pos (by omega), e]
    refine congrArg (fun a => cols u (ix2 a l)) (Fin.ext ?_)
    show r.val + k.val - 4095 = r.val + 16 - (4096 - 1 - k.val) - 16
    omega
  · rw [dif_neg (by omega), dif_neg (by omega)]

/-- The column as real numbers. -/
def f (x : S4096x768.Idx → EReal) (l : Fin 768) (n : ℕ) : ℝ :=
  if h : 16 ≤ n ∧ n - 16 < 4096 then (x (ix2 ⟨n - 16, h.2⟩ l)).toReal else 0

theorem Y_coe (x : S4096x768.Idx → EReal) (hx : ∀ i, max (x i) (-(x i)) < ⊤) (l : Fin 768) (n : ℕ) : Y x l n = ((f x l n : ℝ) : EReal) := by
  unfold Y f
  split_ifs with h
  · exact (coe_of_abs_lt (hx _)).symm
  · rfl

/-- The running sum less itself a window back is the window's sum. -/
theorem window (u : S4096x1024.Idx → EReal) (hx : ∀ i, max (cols u i) (-(cols u i)) < ⊤) (r : Fin 4096) (l : Fin 768) (w : ℕ) (q : ¬ r.val < w → r.val - w < 4096) :
    (val_main_v2 (F := Ideal) u (ix3 (0 : Fin 1) r l) : EReal)
        - (if h : r.val < w then (0 : EReal) else val_main_v2 (F := Ideal) u (ix3 (0 : Fin 1) ⟨r.val - w, q h⟩ l))
      = ∑ k ∈ Finset.range w, Y (cols u) l (r.val + 16 - k) := by
  have hr := r.isLt
  have e : (if h : r.val < w then (0 : EReal) else val_main_v2 (F := Ideal) u (ix3 (0 : Fin 1) ⟨r.val - w, q h⟩ l))
      = ∑ k ∈ Finset.range 4096, Y (cols u) l (r.val + 16 - (k + w)) := by
    split_ifs with h
    · exact (Finset.sum_eq_zero fun k _ => by unfold Y; rw [dif_neg (by omega)]).symm
    · rw [csum]
      exact Finset.sum_congr rfl fun k _ => by congr 1; dsimp only; omega
  have e4 := sum_telescope (fun k => f (cols u) l (r.val + 16 - k)) w 4096
  have e5 : ∑ k ∈ Finset.range w, f (cols u) l (r.val + 16 - (4096 + k)) = 0 :=
    Finset.sum_eq_zero fun k _ => by unfold f; rw [dif_neg (by omega)]
  rw [e5, sub_zero, Finset.sum_sub_distrib] at e4
  rw [e, csum]
  simp only [Y_coe _ hx]
  rw [← coe_sum, ← coe_sum, ← coe_sum, ← EReal.coe_sub, e4]

/-- A column group's mean, its window and count spelt out. -/
theorem mean (u : S4096x1024.Idx → EReal) (hx : ∀ i, max (cols u i) (-(cols u i)) < ⊤) (r : Fin 4096) (l l' : Fin 768) (hl : l' = l) (w : ℕ) (hw : wd l.val = w) (q : ¬ r.val < w → r.val - w < 4096) :
    Ideal.div ((val_main_v2 (F := Ideal) u (ix3 (0 : Fin 1) r l') : EReal)
        - (if h : r.val < w then (0 : EReal) else val_main_v2 (F := Ideal) u (ix3 (0 : Fin 1) ⟨r.val - w, q h⟩ l')))
        (FloatOps.sitofp (F := Ideal) FTy.f32 (IntOp.minsi (IntOp.addi (BitVec.ofNat 32 r.val) 1#32) (BitVec.ofNat 32 w)))
      = Ideal.div (∑ k ∈ Finset.range (wd l.val), Y (cols u) l (r.val + 16 - k)) ((cnt r.val l.val : ℝ) : EReal) := by
  subst hl hw
  rw [window u hx, count_word _ _ (by omega)]

open Cert.PoolFwdRefIdeal.Read in
theorem ref_apply (u : S4096x1024.Idx → EReal) (hx : ∀ i, max (cols u i) (-(cols u i)) < ⊤) (r : Fin 4096) (l : Fin 768) :
    val_main_v59 (F := Ideal) u (ix2 r l) = pool (cols u) (ix2 r l) := by
  pointwise [val_main_v0, val_main_v1, val_main_call0_call0_cst, val_main_call0_call0_v0, val_main_v3, val_main_v4, val_main_cst, val_main_v5, val_main_v6, val_main_v7, val_main_c, val_main_v8, val_main_v9, val_main_c_0, val_main_v10, val_main_v11, val_main_v12, val_main_v13, val_main_v14, val_main_v15, val_main_v16, val_main_v17, val_main_cst_1, val_main_v18, val_main_v19, val_main_v20, val_main_c_2, val_main_v21, val_main_v22, val_main_c_3, val_main_v23, val_main_v24, val_main_v25, val_main_v26, val_main_v27, val_main_v28, val_main_v29, val_main_v30, val_main_cst_4, val_main_v31, val_main_v32, val_main_v33, val_main_c_5, val_main_v34, val_main_v35, val_main_c_6, val_main_v36, val_main_v37, val_main_v38, val_main_v39, val_main_v40, val_main_v41, val_main_v42, val_main_v43, val_main_cst_7, val_main_v44, val_main_v45, val_main_v46, val_main_c_8, val_main_v47, val_main_v48, val_main_c_9, val_main_v49, val_main_v50, val_main_v51, val_main_v52, val_main_v53, val_main_v54, val_main_v55, val_main_v56, val_main_v57, val_main_v58, val_main_v59]
  have hl := l.isLt
  refine congrArg (· - cols u (ix2 r l)) ?_
  by_cases h0 : l.val < 192
  · exact (dif_pos h0).trans (mean u hx r l l rfl 2 (by unfold wd; split_ifs <;> omega) (by omega))
  refine (dif_neg h0).trans ?_
  by_cases h1 : l.val < 384
  · exact (dif_pos (by omega)).trans (mean u hx r l ⟨192 + (l.val - 192), by omega⟩ (Fin.ext (by dsimp only; omega)) 4 (by unfold wd; split_ifs <;> omega) (by omega))
  refine (dif_neg (by omega)).trans ?_
  by_cases h2 : l.val < 576
  · exact (dif_pos (by omega)).trans (mean u hx r l ⟨384 + (l.val - 192 - 192), by omega⟩ (Fin.ext (by dsimp only; omega)) 8 (by unfold wd; split_ifs <;> omega) (by omega))
  refine (dif_neg (by omega)).trans ?_
  exact mean u hx r l ⟨576 + (l.val - 192 - 192 - 192), by omega⟩ (Fin.ext (by dsimp only; omega)) 16 (by unfold wd; split_ifs <;> omega) (by omega)

/-- The stated precondition gives a finite argument. -/
theorem finite_arg (m : (ℓ : Loc nD τ sig) → Buf (Elt Ideal) ℓ)
    (h : Cert.Pre_PoolFwdIdeal_pool_fwd_finite (hPre_pool_fwd_finite := Cert.Pre_pool_fwd_finite.Gen.facts) m) (c : Dev nD)
    (x : S4096x1024.Idx → EReal) (hx : m ((c : Thread nD τ).loc main_arg0) = x) (i : S4096x1024.Idx) :
    max (x i) (-(x i)) < ⊤ := by
  subst hx
  refine lt_top_of_cmp ?_
  have e := congrFun (h c) i
  unfold Cert.Pre_pool_fwd_finite.fn at e
  exact e

theorem frame_ref : Cert.quiescent_PoolFwdRefIdeal (hPoolFwdRefIdeal := Cert.PoolFwdRefIdeal.Gen.facts) := fun m ρ _ =>
  (θ_run _ _ _).mono (fun r h => ⟨fun c => (h c).2, sem_eq_zero_of_no_sems (by decide) r.2⟩) (Cert.PoolFwdRefIdeal.Value.run m ρ)

theorem alg : Cert.algebraic_PoolFwdIdeal_PoolFwdRefIdeal_pre_pool_fwd_finite (hPoolFwdIdeal := Cert.PoolFwdIdeal.Gen.facts)
    (hPoolFwdRefIdeal := Cert.PoolFwdRefIdeal.Gen.facts) (hPre_pool_fwd_finite := Cert.Pre_pool_fwd_finite.Gen.facts) := by
  intro m g m' g' hpre hag
  refine ⟨fun c => pool (cols (m ((c : Thread nD τ).loc main_arg0))), ?_, ?_⟩
  · refine (θ_run defs _ _).mono (fun r h c => ⟨(h c).1.trans (arr_eq m c), (h c).2⟩) (Cert.PoolFwdIdeal.Value.run_blocks m g)
  · refine (θ_run Cert.PoolFwdRefIdeal.defs _ _).mono (fun r h c => ⟨(h c).1.trans ?_, (h c).2⟩) (Cert.PoolFwdRefIdeal.Value.run m' g')
    rw [Cert.PoolFwdRefIdeal.Read.val_main_v59_eq, hag c]
    funext j
    rw [eq_ix2 j]
    exact ref_apply _ (fun i => finite_arg m hpre c _ rfl _) (j 0) (j 1)

end Cert.Hand.PoolFwd

end
-- ==== Proof.GuDw.lean ====
module

public import proofs.«01_k».proof.Proof.Gen.GuDwIdeal.Value
public import proofs.«01_k».proof.Proof.Gen.GuDwRefIdeal.Read
public import proofs.«01_k».proof.Proof.Gen.GuDwRefIdeal.Run
public import proofs.«01_k».proof.Proof.GateFwd

/-! A weight's gradient: the kernel's column blocks of the product, against the plain program's whole one. -/

@[expose] public section

noncomputable section

namespace Cert.Hand.GuDw

open Idealize.ShloMosaic Idealize.ShloMosaic.TcCoe Idealize.SL.Sem
open Cert.GuDwIdeal Cert.GuDwIdeal.Gen
open Cert.Hand.GateFwd (hz)

theorem frame_ref : Cert.quiescent_GuDwRefIdeal (hGuDwRefIdeal := Cert.GuDwRefIdeal.Gen.facts) := fun m ρ _ =>
  (θ_run _ _ _).mono (fun r h => ⟨fun c => (h c).2, sem_eq_zero_of_no_sems (by decide) r.2⟩) (Cert.GuDwRefIdeal.Value.run m ρ)

/-- The product's entries. -/
def P (h : S4096x1024.Idx → EReal) (d : S4096x5632.Idx → EReal) (j : S1024x5632.Idx) : EReal :=
  ∑ i : Fin 4096, h (ix2 i (j 0)) * d (ix2 i (j 1))

theorem pay (x : Vec Ideal S4096x1024 .bf16) (y : Vec Ideal S4096x512 .bf16) (r : Fin 1024) (k : Fin 512) :
    k0_pay1 x y (ix2 r k) = ∑ i : Fin 4096, x (ix2 i r) * y (ix2 i k) := by
  pointwise [k0_pay1]

theorem idx : ∀ t : Fin cfg0.N, win0_0.index t 0 = 0 ∧ win0_0.index t 1 = 0 ∧ win0_1.index t 0 = 0 ∧ win0_1.index t 1 = t.val
    ∧ win0_2.index t 0 = 0 ∧ win0_2.index t 1 = t.val := by
  decide +kernel

variable (m : (ℓ : Loc nD τ sig) → Buf (Elt Ideal) ℓ) (c : Dev nD)

theorem lt_of (t : Fin cfg0.N) (k : Fin 512) : 512 * t.val + k.val < 5632 := by
  have : t.val < 11 := t.isLt
  omega

theorem in0 (t : Fin cfg0.N) (r : Fin 4096) (k : Fin 1024) : iblk m c 0 t (ix2 r k) = m ((c : Thread nD τ).loc main_arg0) (ix2 r k) := by
  obtain ⟨e0, e1, -⟩ := idx t
  blk_ext [iblk, V, e0, e1]

theorem in1 (t : Fin cfg0.N) (r : Fin 4096) (k : Fin 512) :
    iblk m c 1 t (ix2 r k) = m ((c : Thread nD τ).loc main_arg1) (ix2 r ⟨512 * t.val + k.val, lt_of t k⟩) := by
  obtain ⟨-, -, e0, e1, -⟩ := idx t
  blk_ext [iblk, V, e0, e1]

theorem arr : (dats m 0 c).arrAt 2 cfg0.N = P (m ((c : Thread nD τ).loc main_arg0)) (m ((c : Thread nD τ).loc main_arg1)) := by
  refine (dats m 0 c).arrAt_eq_of_covers 2 _ (by decide +kernel) fun t hf y => ?_
  obtain ⟨-, -, -, -, e0, e1⟩ := idx t
  blk_simp
  rw [after0_2, eq_ix2 y]
  have hy : (win0_2.blk t).view.emb (ix2 (y 0) (y 1)) = (ix2 (y 0) ⟨512 * t.val + (y 1).val, lt_of t (y 1)⟩ : S1024x5632.Idx) := by
    blk_ext [e0, e1]
  unfold out0_2
  rw [View.canon_unit_zero hz, View.ld_unit_zero (S := S4096x1024) hz, View.ld_unit_zero (S := S4096x512) hz]
  exact (pay _ _ (y 0) (y 1)).trans ((Finset.sum_congr rfl fun i _ => congrArg₂ (fun a b : EReal => a * b) (in0 m c t i (y 0)) (in1 m c t i (y 1))).trans
    (congrArg (P _ _) hy.symm))

open Cert.GuDwRefIdeal.Read in
theorem ref (h : S4096x1024.Idx → EReal) (d : S4096x5632.Idx → EReal) : val_main_v6 (F := Ideal) h d = P h d := by
  funext j
  obtain ⟨r, k, rfl⟩ : ∃ r k, j = ix2 r k := ⟨_, _, eq_ix2 j⟩
  pointwise [val_main_v6, val_main_v5, val_main_v4, val_main_v1, val_main_v0]
  exact Finset.sum_congr rfl fun i _ => mul_comm _ _

theorem alg : Cert.algebraic_GuDwIdeal_GuDwRefIdeal (hGuDwIdeal := Cert.GuDwIdeal.Gen.facts) (hGuDwRefIdeal := Cert.GuDwRefIdeal.Gen.facts) := by
  intro m g m' g' _ hag
  refine ⟨_, (θ_run defs _ _).mono (fun r h c => ⟨(h c).1.trans (arr m c), (h c).2⟩) (Cert.GuDwIdeal.Value.run_blocks m g), ?_⟩
  refine (θ_run Cert.GuDwRefIdeal.defs _ _).mono (fun r h c => ⟨(h c).1.trans ?_, (h c).2⟩) (Cert.GuDwRefIdeal.Value.run m' g')
  rw [Cert.GuDwRefIdeal.Read.val_main_v6_eq, (hag c).1, (hag c).2]
  exact ref _ _

end Cert.Hand.GuDw

end
-- ==== Proof.Adam.lean ====
module

public import proofs.«01_k».proof.Proof.Gen.AdamInIdeal.Value
public import proofs.«01_k».proof.Proof.Gen.AdamInRefIdeal.Read
public import proofs.«01_k».proof.Proof.Gen.AdamInRefIdeal.Run
public import proofs.«01_k».proof.Proof.Gen.AdamKvIdeal.Value
public import proofs.«01_k».proof.Proof.Gen.AdamKvRefIdeal.Read
public import proofs.«01_k».proof.Proof.Gen.AdamKvRefIdeal.Run
public import proofs.«01_k».proof.Proof.Gen.AdamMemIdeal.Value
public import proofs.«01_k».proof.Proof.Gen.AdamMemRefIdeal.Read
public import proofs.«01_k».proof.Proof.Gen.AdamMemRefIdeal.Run
public import proofs.«01_k».proof.Proof.Gen.AdamGuIdeal.Value
public import proofs.«01_k».proof.Proof.Gen.AdamGuRefIdeal.Read
public import proofs.«01_k».proof.Proof.Gen.AdamGuRefIdeal.Run
public import proofs.«01_k».proof.Proof.Gen.AdamDownIdeal.Value
public import proofs.«01_k».proof.Proof.Gen.AdamDownRefIdeal.Read
public import proofs.«01_k».proof.Proof.Gen.AdamDownRefIdeal.Run
public import proofs.«01_k».proof.Defs

/-!
The optimiser's step at the shapes of the weights' shards: the kernel's block by block arithmetic is the plain program's.
-/

noncomputable section

@[expose] public section

open Idealize.ShloMosaic Idealize.ShloMosaic.TcCoe Idealize.SL.Sem

/-! A shard of 256 rows of 1024. -/
namespace Cert.Hand.AdamIn

theorem frame_ref : Cert.quiescent_AdamInRefIdeal (hAdamInRefIdeal := Cert.AdamInRefIdeal.Gen.facts) := fun m ρ _ =>
  (θ_run _ _ _).mono (fun r h => ⟨fun c => (h c).2.2.2, sem_eq_zero_of_no_sems (by decide) r.2⟩) (Cert.AdamInRefIdeal.Value.run m ρ)

theorem alg : Cert.algebraic_AdamInIdeal_AdamInRefIdeal (hAdamInIdeal := Cert.AdamInIdeal.Gen.facts) (hAdamInRefIdeal := Cert.AdamInRefIdeal.Gen.facts) := by
  intro m g m' g' _ hag
  refine ⟨_, _, _, (θ_run _ _ _).mono (fun r h c => ⟨(h c).1, (h c).2.1, (h c).2.2⟩) (Cert.AdamInIdeal.Value.run m g), ?_⟩
  refine (θ_run _ _ _).mono (fun r h c => ⟨(h c).1.trans ?_, (h c).2.1.trans ?_, (h c).2.2.1.trans ?_, (h c).2.2.2⟩) (Cert.AdamInRefIdeal.Value.run m' g')
  all_goals
    simp only [(hag c).1, (hag c).2.1, (hag c).2.2.1, (hag c).2.2.2]
    rfl

end Cert.Hand.AdamIn

/-! A shard of 1024 rows of 384. -/
namespace Cert.Hand.AdamKv

theorem frame_ref : Cert.quiescent_AdamKvRefIdeal (hAdamKvRefIdeal := Cert.AdamKvRefIdeal.Gen.facts) := fun m ρ _ =>
  (θ_run _ _ _).mono (fun r h => ⟨fun c => (h c).2.2.2, sem_eq_zero_of_no_sems (by decide) r.2⟩) (Cert.AdamKvRefIdeal.Value.run m ρ)

theorem alg : Cert.algebraic_AdamKvIdeal_AdamKvRefIdeal (hAdamKvIdeal := Cert.AdamKvIdeal.Gen.facts) (hAdamKvRefIdeal := Cert.AdamKvRefIdeal.Gen.facts) := by
  intro m g m' g' _ hag
  refine ⟨_, _, _, (θ_run _ _ _).mono (fun r h c => ⟨(h c).1, (h c).2.1, (h c).2.2⟩) (Cert.AdamKvIdeal.Value.run m g), ?_⟩
  refine (θ_run _ _ _).mono (fun r h c => ⟨(h c).1.trans ?_, (h c).2.1.trans ?_, (h c).2.2.1.trans ?_, (h c).2.2.2⟩) (Cert.AdamKvRefIdeal.Value.run m' g')
  all_goals
    simp only [(hag c).1, (hag c).2.1, (hag c).2.2.1, (hag c).2.2.2]
    rfl

end Cert.Hand.AdamKv

/-! A shard of 256 rows of 512. -/
namespace Cert.Hand.AdamMem

theorem frame_ref : Cert.quiescent_AdamMemRefIdeal (hAdamMemRefIdeal := Cert.AdamMemRefIdeal.Gen.facts) := fun m ρ _ =>
  (θ_run _ _ _).mono (fun r h => ⟨fun c => (h c).2.2.2, sem_eq_zero_of_no_sems (by decide) r.2⟩) (Cert.AdamMemRefIdeal.Value.run m ρ)

theorem alg : Cert.algebraic_AdamMemIdeal_AdamMemRefIdeal (hAdamMemIdeal := Cert.AdamMemIdeal.Gen.facts) (hAdamMemRefIdeal := Cert.AdamMemRefIdeal.Gen.facts) := by
  intro m g m' g' _ hag
  refine ⟨_, _, _, (θ_run _ _ _).mono (fun r h c => ⟨(h c).1, (h c).2.1, (h c).2.2⟩) (Cert.AdamMemIdeal.Value.run m g), ?_⟩
  refine (θ_run _ _ _).mono (fun r h c => ⟨(h c).1.trans ?_, (h c).2.1.trans ?_, (h c).2.2.1.trans ?_, (h c).2.2.2⟩) (Cert.AdamMemRefIdeal.Value.run m' g')
  all_goals
    simp only [(hag c).1, (hag c).2.1, (hag c).2.2.1, (hag c).2.2.2]
    rfl

end Cert.Hand.AdamMem

/-! A shard of 1024 rows of 1408. -/
namespace Cert.Hand.AdamGu

theorem frame_ref : Cert.quiescent_AdamGuRefIdeal (hAdamGuRefIdeal := Cert.AdamGuRefIdeal.Gen.facts) := fun m ρ _ =>
  (θ_run _ _ _).mono (fun r h => ⟨fun c => (h c).2.2.2, sem_eq_zero_of_no_sems (by decide) r.2⟩) (Cert.AdamGuRefIdeal.Value.run m ρ)

theorem alg : Cert.algebraic_AdamGuIdeal_AdamGuRefIdeal (hAdamGuIdeal := Cert.AdamGuIdeal.Gen.facts) (hAdamGuRefIdeal := Cert.AdamGuRefIdeal.Gen.facts) := by
  intro m g m' g' _ hag
  refine ⟨_, _, _, (θ_run _ _ _).mono (fun r h c => ⟨(h c).1, (h c).2.1, (h c).2.2⟩) (Cert.AdamGuIdeal.Value.run m g), ?_⟩
  refine (θ_run _ _ _).mono (fun r h c => ⟨(h c).1.trans ?_, (h c).2.1.trans ?_, (h c).2.2.1.trans ?_, (h c).2.2.2⟩) (Cert.AdamGuRefIdeal.Value.run m' g')
  all_goals
    simp only [(hag c).1, (hag c).2.1, (hag c).2.2.1, (hag c).2.2.2]
    rfl

end Cert.Hand.AdamGu

/-! A shard of 704 rows of 1024. -/
namespace Cert.Hand.AdamDown

theorem frame_ref : Cert.quiescent_AdamDownRefIdeal (hAdamDownRefIdeal := Cert.AdamDownRefIdeal.Gen.facts) := fun m ρ _ =>
  (θ_run _ _ _).mono (fun r h => ⟨fun c => (h c).2.2.2, sem_eq_zero_of_no_sems (by decide) r.2⟩) (Cert.AdamDownRefIdeal.Value.run m ρ)

theorem alg : Cert.algebraic_AdamDownIdeal_AdamDownRefIdeal (hAdamDownIdeal := Cert.AdamDownIdeal.Gen.facts) (hAdamDownRefIdeal := Cert.AdamDownRefIdeal.Gen.facts) := by
  intro m g m' g' _ hag
  refine ⟨_, _, _, (θ_run _ _ _).mono (fun r h c => ⟨(h c).1, (h c).2.1, (h c).2.2⟩) (Cert.AdamDownIdeal.Value.run m g), ?_⟩
  refine (θ_run _ _ _).mono (fun r h c => ⟨(h c).1.trans ?_, (h c).2.1.trans ?_, (h c).2.2.1.trans ?_, (h c).2.2.2⟩) (Cert.AdamDownRefIdeal.Value.run m' g')
  all_goals
    simp only [(hag c).1, (hag c).2.1, (hag c).2.2.1, (hag c).2.2.2]
    rfl

end Cert.Hand.AdamDown

end
-- ==== Proof.lean ====
/- The claims of this directory, assembled from the hand-written modules beside it. -/
module

public import proofs.«01_k».proof.Proof.Gen.PoolBwd.Frame
public import proofs.«01_k».proof.Proof.Gen.PoolBwdIdeal.Frame
public import proofs.«01_k».proof.Proof.Gen.StickBwd.Frame
public import proofs.«01_k».proof.Proof.Gen.StickBwdIdeal.Frame
public import proofs.«01_k».proof.Proof.Gen.ScaleBwd.Frame
public import proofs.«01_k».proof.Proof.Gen.ScaleBwdIdeal.Frame
public import proofs.«01_k».proof.Proof.Gen.SwigluBwd.Frame
public import proofs.«01_k».proof.Proof.Gen.SwigluBwdIdeal.Frame
public import proofs.«01_k».proof.Proof.Gen.MemNormBwd.Frame
public import proofs.«01_k».proof.Proof.Gen.MemNormBwdIdeal.Frame
public import proofs.«01_k».proof.Proof.Gen.LossHead.Frame
public import proofs.«01_k».proof.Proof.Gen.LossHeadIdeal.Frame
public import proofs.«01_k».proof.Proof.Gen.GuNormBwd.Frame
public import proofs.«01_k».proof.Proof.Gen.GuNormBwdIdeal.Frame
public import proofs.«01_k».proof.Proof.Gen.KvNormBwd.Frame
public import proofs.«01_k».proof.Proof.Gen.KvNormBwdIdeal.Frame
public import proofs.«01_k».proof.Proof.Gen.MemAttnBwd.Frame
public import proofs.«01_k».proof.Proof.Gen.MemAttnBwdIdeal.Frame
public import proofs.«01_k».proof.Proof.Gen.StickFwd.Frame
public import proofs.«01_k».proof.Proof.Gen.StickFwdIdeal.Frame
public import proofs.«01_k».proof.Proof.Gen.InNormBwd.Frame
public import proofs.«01_k».proof.Proof.Gen.InNormBwdIdeal.Frame
public import proofs.«01_k».proof.Proof.Gen.MemAttnBwdB.Frame
public import proofs.«01_k».proof.Proof.Gen.MemAttnBwdBIdeal.Frame
public import proofs.«01_k».proof.Proof.Gen.MemAttnFwd.Frame
public import proofs.«01_k».proof.Proof.Gen.MemAttnFwdIdeal.Frame
public import proofs.«01_k».proof.Proof.Gen.MemAttnFwdB.Frame
public import proofs.«01_k».proof.Proof.Gen.MemAttnFwdBIdeal.Frame
public import proofs.«01_k».proof.Proof.Gen.GateFwd.Frame
public import proofs.«01_k».proof.Proof.Gen.GateFwdIdeal.Frame
public import proofs.«01_k».proof.Proof.Gen.NormFwd.Frame
public import proofs.«01_k».proof.Proof.Gen.NormFwdIdeal.Frame
public import proofs.«01_k».proof.Proof.Gen.NormsFwd.Frame
public import proofs.«01_k».proof.Proof.Gen.NormsFwdIdeal.Frame
public import proofs.«01_k».proof.Proof.Gen.MemNormFwd.Frame
public import proofs.«01_k».proof.Proof.Gen.MemNormFwdIdeal.Frame
public import proofs.«01_k».proof.Proof.Gen.ScaleFwd.Frame
public import proofs.«01_k».proof.Proof.Gen.ScaleFwdIdeal.Frame
public import proofs.«01_k».proof.Proof.Gen.PoolFwd.Frame
public import proofs.«01_k».proof.Proof.Gen.PoolFwdIdeal.Frame
public import proofs.«01_k».proof.Proof.Gen.GuDw.Frame
public import proofs.«01_k».proof.Proof.Gen.GuDwIdeal.Frame
public import proofs.«01_k».proof.Proof.Gen.AdamIn.Frame
public import proofs.«01_k».proof.Proof.Gen.AdamInIdeal.Frame
public import proofs.«01_k».proof.Proof.Gen.AdamKv.Frame
public import proofs.«01_k».proof.Proof.Gen.AdamKvIdeal.Frame
public import proofs.«01_k».proof.Proof.Gen.AdamMem.Frame
public import proofs.«01_k».proof.Proof.Gen.AdamMemIdeal.Frame
public import proofs.«01_k».proof.Proof.Gen.AdamGu.Frame
public import proofs.«01_k».proof.Proof.Gen.AdamGuIdeal.Frame
public import proofs.«01_k».proof.Proof.Gen.AdamDown.Frame
public import proofs.«01_k».proof.Proof.Gen.AdamDownIdeal.Frame
public import Idealize.ShloMosaic.Adequacy
public import Idealize.ShloMosaic.Init
public import proofs.«01_k».proof.Proof.Pool
public import proofs.«01_k».proof.Proof.Sb
public import proofs.«01_k».proof.Proof.Scale
public import proofs.«01_k».proof.Proof.Swiglu
public import proofs.«01_k».proof.Proof.MemNorm
public import proofs.«01_k».proof.Proof.Head
public import proofs.«01_k».proof.Proof.GuNorm
public import proofs.«01_k».proof.Proof.KvNorm
public import proofs.«01_k».proof.Proof.MemAttn
public import proofs.«01_k».proof.Proof.SbFwd
public import proofs.«01_k».proof.Proof.InNorm
public import proofs.«01_k».proof.Proof.MemAttnB
public import proofs.«01_k».proof.Proof.MemFwd
public import proofs.«01_k».proof.Proof.MemFwdB
public import proofs.«01_k».proof.Proof.GateFwd
public import proofs.«01_k».proof.Proof.NormFwd
public import proofs.«01_k».proof.Proof.ScaleFwd
public import proofs.«01_k».proof.Proof.PoolFwd
public import proofs.«01_k».proof.Proof.GuDw
public import proofs.«01_k».proof.Proof.Adam

@[expose] public section

noncomputable section

namespace Cert.Proof

open Idealize.ShloMosaic Idealize.SL.Sem

theorem claim : Claim := ⟨PoolBwd.Gen.facts, PoolBwdIdeal.Gen.facts, PoolBwdRefIdeal.Gen.facts, StickBwd.Gen.facts,
  StickBwdIdeal.Gen.facts, StickBwdRefIdeal.Gen.facts, ScaleBwd.Gen.facts, ScaleBwdIdeal.Gen.facts,
  ScaleBwdRefIdeal.Gen.facts, SwigluBwd.Gen.facts, SwigluBwdIdeal.Gen.facts,
  SwigluBwdRefIdeal.Gen.facts, MemNormBwd.Gen.facts, MemNormBwdIdeal.Gen.facts,
  MemNormBwdRefIdeal.Gen.facts, LossHead.Gen.facts, LossHeadIdeal.Gen.facts,
  LossHeadRefIdeal.Gen.facts, GuNormBwd.Gen.facts, GuNormBwdIdeal.Gen.facts,
  GuNormBwdRefIdeal.Gen.facts, KvNormBwd.Gen.facts, KvNormBwdIdeal.Gen.facts,
  KvNormBwdRefIdeal.Gen.facts, MemAttnBwd.Gen.facts, MemAttnBwdIdeal.Gen.facts,
  MemAttnBwdRefIdeal.Gen.facts, StickFwd.Gen.facts, StickFwdIdeal.Gen.facts,
  StickFwdRefIdeal.Gen.facts, InNormBwd.Gen.facts, InNormBwdIdeal.Gen.facts,
  InNormBwdRefIdeal.Gen.facts, MemAttnBwdB.Gen.facts, MemAttnBwdBIdeal.Gen.facts,
  MemAttnBwdBRefIdeal.Gen.facts, MemAttnFwd.Gen.facts, MemAttnFwdIdeal.Gen.facts,
  MemAttnFwdRefIdeal.Gen.facts, MemAttnFwdB.Gen.facts, MemAttnFwdBIdeal.Gen.facts,
  MemAttnFwdBRefIdeal.Gen.facts, GateFwd.Gen.facts, GateFwdIdeal.Gen.facts, GateFwdRefIdeal.Gen.facts,
  NormFwd.Gen.facts, NormFwdIdeal.Gen.facts, NormFwdRefIdeal.Gen.facts, NormsFwd.Gen.facts,
  NormsFwdIdeal.Gen.facts, NormsFwdRefIdeal.Gen.facts, MemNormFwd.Gen.facts, MemNormFwdIdeal.Gen.facts,
  MemNormFwdRefIdeal.Gen.facts, ScaleFwd.Gen.facts, ScaleFwdIdeal.Gen.facts,
  ScaleFwdRefIdeal.Gen.facts, PoolFwd.Gen.facts, PoolFwdIdeal.Gen.facts, PoolFwdRefIdeal.Gen.facts,
  GuDw.Gen.facts, GuDwIdeal.Gen.facts, GuDwRefIdeal.Gen.facts, AdamIn.Gen.facts,
  AdamInIdeal.Gen.facts, AdamInRefIdeal.Gen.facts, AdamKv.Gen.facts, AdamKvIdeal.Gen.facts,
  AdamKvRefIdeal.Gen.facts, AdamMem.Gen.facts, AdamMemIdeal.Gen.facts, AdamMemRefIdeal.Gen.facts,
  AdamGu.Gen.facts, AdamGuIdeal.Gen.facts, AdamGuRefIdeal.Gen.facts, AdamDown.Gen.facts,
  AdamDownIdeal.Gen.facts, AdamDownRefIdeal.Gen.facts, Pre_pool_bwd_finite.Gen.facts,
  Pre_stick_bwd_finite.Gen.facts, Pre_swiglu_bwd_finite.Gen.facts, Pre_mem_norm_bwd_finite.Gen.facts,
  Pre_loss_head_finite.Gen.facts, Pre_gu_norm_bwd_finite.Gen.facts, Pre_kv_norm_bwd_finite.Gen.facts,
  Pre_mem_attn_bwd_finite.Gen.facts, Pre_stick_fwd_finite.Gen.facts, Pre_in_norm_bwd_finite.Gen.facts,
  Pre_mem_attn_bwd_b_finite.Gen.facts, Pre_pool_fwd_finite.Gen.facts,
  fun m ρ _ => PoolBwd.Gen.frame m ρ,
  fun m ρ _ => PoolBwdIdeal.Gen.frame m ρ,
  fun m ρ _ => PoolBwdIdeal.Gen.frame m ρ,
  fun m ρ _ => Hand.Pool.frame_ref m ρ trivial,
  fun m ρ _ => Hand.Pool.frame_ref m ρ trivial,
  fun m ρ _ => Hand.Sb.frame_bits m ρ,
  fun m ρ _ => Hand.Sb.frame_run m ρ,
  fun m ρ _ => Hand.Sb.frame_run m ρ,
  fun m ρ _ => Hand.Sb.frame_ref m ρ trivial,
  fun m ρ _ => Hand.Sb.frame_ref m ρ trivial,
  fun m ρ _ => ScaleBwd.Gen.frame m ρ,
  fun m ρ _ => ScaleBwdIdeal.Gen.frame m ρ,
  fun m ρ _ => Hand.Scale.frame_ref m ρ trivial,
  fun m ρ _ => SwigluBwd.Gen.frame m ρ,
  fun m ρ _ => SwigluBwdIdeal.Gen.frame m ρ,
  fun m ρ _ => SwigluBwdIdeal.Gen.frame m ρ,
  fun m ρ _ => Hand.Swiglu.frame_ref m ρ trivial,
  fun m ρ _ => Hand.Swiglu.frame_ref m ρ trivial,
  fun m ρ _ => MemNormBwd.Gen.frame m ρ,
  fun m ρ _ => MemNormBwdIdeal.Gen.frame m ρ,
  fun m ρ _ => MemNormBwdIdeal.Gen.frame m ρ,
  fun m ρ _ => Hand.MemNorm.frame_ref m ρ trivial,
  fun m ρ _ => Hand.MemNorm.frame_ref m ρ trivial,
  fun m ρ _ => LossHead.Gen.frame m ρ,
  fun m ρ _ => LossHeadIdeal.Gen.frame m ρ,
  fun m ρ _ => LossHeadIdeal.Gen.frame m ρ,
  fun m ρ _ => Hand.Head.frame_ref m ρ trivial,
  fun m ρ _ => Hand.Head.frame_ref m ρ trivial,
  fun m ρ _ => GuNormBwd.Gen.frame m ρ,
  fun m ρ _ => GuNormBwdIdeal.Gen.frame m ρ,
  fun m ρ _ => GuNormBwdIdeal.Gen.frame m ρ,
  fun m ρ _ => Hand.GuNorm.frame_ref m ρ trivial,
  fun m ρ _ => Hand.GuNorm.frame_ref m ρ trivial,
  fun m ρ _ => KvNormBwd.Gen.frame m ρ,
  fun m ρ _ => KvNormBwdIdeal.Gen.frame m ρ,
  fun m ρ _ => KvNormBwdIdeal.Gen.frame m ρ,
  fun m ρ _ => Hand.KvNorm.frame_ref m ρ trivial,
  fun m ρ _ => Hand.KvNorm.frame_ref m ρ trivial,
  fun m ρ _ => MemAttnBwd.Gen.frame m ρ,
  fun m ρ _ => MemAttnBwdIdeal.Gen.frame m ρ,
  fun m ρ _ => MemAttnBwdIdeal.Gen.frame m ρ,
  fun m ρ _ => Hand.MemAttn.frame_ref m ρ trivial,
  fun m ρ _ => Hand.MemAttn.frame_ref m ρ trivial,
  fun m ρ _ => Hand.SbFwd.frame_bits m ρ,
  fun m ρ _ => Hand.SbFwd.frame_run m ρ,
  fun m ρ _ => Hand.SbFwd.frame_run m ρ,
  fun m ρ _ => Hand.SbFwd.frame_ref m ρ trivial,
  fun m ρ _ => Hand.SbFwd.frame_ref m ρ trivial,
  fun m ρ _ => InNormBwd.Gen.frame m ρ,
  fun m ρ _ => InNormBwdIdeal.Gen.frame m ρ,
  fun m ρ _ => InNormBwdIdeal.Gen.frame m ρ,
  fun m ρ _ => Hand.InNorm.frame_ref m ρ trivial,
  fun m ρ _ => Hand.InNorm.frame_ref m ρ trivial,
  fun m ρ _ => MemAttnBwdB.Gen.frame m ρ,
  fun m ρ _ => MemAttnBwdBIdeal.Gen.frame m ρ,
  fun m ρ _ => MemAttnBwdBIdeal.Gen.frame m ρ,
  fun m ρ _ => Hand.MemAttnB.frame_ref m ρ trivial,
  fun m ρ _ => Hand.MemAttnB.frame_ref m ρ trivial,
  fun m ρ _ => MemAttnFwd.Gen.frame m ρ,
  fun m ρ _ => MemAttnFwdIdeal.Gen.frame m ρ,
  fun m ρ _ => Hand.MemFwd.frame_ref m ρ trivial,
  fun m ρ _ => MemAttnFwdB.Gen.frame m ρ,
  fun m ρ _ => MemAttnFwdBIdeal.Gen.frame m ρ,
  fun m ρ _ => Hand.MemFwdB.frame_ref m ρ trivial,
  fun m ρ _ => GateFwd.Gen.frame m ρ,
  fun m ρ _ => GateFwdIdeal.Gen.frame m ρ,
  fun m ρ _ => Hand.GateFwd.frame_ref m ρ trivial,
  fun m ρ _ => NormFwd.Gen.frame m ρ,
  fun m ρ _ => NormFwdIdeal.Gen.frame m ρ,
  fun m ρ _ => Hand.NormFwd.frame_ref m ρ trivial,
  fun m ρ _ => NormsFwd.Gen.frame m ρ,
  fun m ρ _ => NormsFwdIdeal.Gen.frame m ρ,
  fun m ρ _ => Hand.NormsFwd.frame_ref m ρ trivial,
  fun m ρ _ => MemNormFwd.Gen.frame m ρ,
  fun m ρ _ => MemNormFwdIdeal.Gen.frame m ρ,
  fun m ρ _ => Hand.MemNormFwd.frame_ref m ρ trivial,
  fun m ρ _ => ScaleFwd.Gen.frame m ρ,
  fun m ρ _ => ScaleFwdIdeal.Gen.frame m ρ,
  fun m ρ _ => Hand.ScaleFwd.frame_ref m ρ trivial,
  fun m ρ _ => PoolFwd.Gen.frame m ρ,
  fun m ρ _ => PoolFwdIdeal.Gen.frame m ρ,
  fun m ρ _ => PoolFwdIdeal.Gen.frame m ρ,
  fun m ρ _ => Hand.PoolFwd.frame_ref m ρ trivial,
  fun m ρ _ => Hand.PoolFwd.frame_ref m ρ trivial,
  fun m ρ _ => GuDw.Gen.frame m ρ,
  fun m ρ _ => GuDwIdeal.Gen.frame m ρ,
  fun m ρ _ => Hand.GuDw.frame_ref m ρ trivial,
  fun m ρ _ => AdamIn.Gen.frame m ρ,
  fun m ρ _ => AdamInIdeal.Gen.frame m ρ,
  fun m ρ _ => Hand.AdamIn.frame_ref m ρ trivial,
  fun m ρ _ => AdamKv.Gen.frame m ρ,
  fun m ρ _ => AdamKvIdeal.Gen.frame m ρ,
  fun m ρ _ => Hand.AdamKv.frame_ref m ρ trivial,
  fun m ρ _ => AdamMem.Gen.frame m ρ,
  fun m ρ _ => AdamMemIdeal.Gen.frame m ρ,
  fun m ρ _ => Hand.AdamMem.frame_ref m ρ trivial,
  fun m ρ _ => AdamGu.Gen.frame m ρ,
  fun m ρ _ => AdamGuIdeal.Gen.frame m ρ,
  fun m ρ _ => Hand.AdamGu.frame_ref m ρ trivial,
  fun m ρ _ => AdamDown.Gen.frame m ρ,
  fun m ρ _ => AdamDownIdeal.Gen.frame m ρ,
  fun m ρ _ => Hand.AdamDown.frame_ref m ρ trivial,
  trivial,
  Hand.Pool.alg,
  trivial,
  Hand.Sb.alg,
  trivial,
  Hand.Scale.alg,
  trivial,
  Hand.Swiglu.alg,
  trivial,
  Hand.MemNorm.alg,
  trivial,
  Hand.Head.alg,
  trivial,
  Hand.GuNorm.alg,
  trivial,
  Hand.KvNorm.alg,
  trivial,
  Hand.MemAttn.alg,
  trivial,
  Hand.SbFwd.alg,
  trivial,
  Hand.InNorm.alg,
  trivial,
  Hand.MemAttnB.alg,
  trivial,
  Hand.MemFwd.alg,
  trivial,
  Hand.MemFwdB.alg,
  trivial,
  Hand.GateFwd.alg,
  trivial,
  Hand.NormFwd.alg,
  trivial,
  Hand.NormsFwd.alg,
  trivial,
  Hand.MemNormFwd.alg,
  trivial,
  Hand.ScaleFwd.alg,
  trivial,
  Hand.PoolFwd.alg,
  trivial,
  Hand.GuDw.alg,
  trivial,
  Hand.AdamIn.alg,
  trivial,
  Hand.AdamKv.alg,
  trivial,
  Hand.AdamMem.alg,
  trivial,
  Hand.AdamGu.alg,
  trivial,
  Hand.AdamDown.alg⟩

end Cert.Proof

end
